-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11)
      ∧ r.2.mem ((c.tc : Thread Cert.Kernel11.nD Cert.Kernel11.τ).loc Cert.Kernel11.main_arg12) = m ((c.tc : Thread Cert.Kernel11.nD Cert.Kernel11.τ).loc Cert.Kernel11.main_arg12)
      ∧ r.2.mem ((c.tc : Thread Cert.Kernel11.nD Cert.Kernel11.τ).loc Cert.Kernel11.main_arg13) = m ((c.tc : Thread Cert.Kernel11.nD Cert.Kernel11.τ).loc Cert.Kernel11.main_arg13)
      ∧ r.2.mem ((c.tc : Thread Cert.Kernel11.nD Cert.Kernel11.τ).loc Cert.Kernel11.main_arg14) = m ((c.tc : Thread Cert.Kernel11.nD Cert.Kernel11.τ).loc Cert.Kernel11.main_arg14)
      ∧ r.2.mem ((c.tc : Thread Cert.Kernel11.nD Cert.Kernel11.τ).loc Cert.Kernel11.main_arg15) = m ((c.tc : Thread Cert.Kernel11.nD Cert.Kernel11.τ).loc Cert.Kernel11.main_arg15)
      ∧ r.2.mem ((c.tc : Thread Cert.Kernel11.nD Cert.Kernel11.τ).loc Cert.Kernel11.main_arg16) = m ((c.tc : Thread Cert.Kernel11.nD Cert.Kernel11.τ).loc Cert.Kernel11.main_arg16)
      ∧ r.2.mem ((c.tc : Thread Cert.Kernel11.nD Cert.Kernel11.τ).loc Cert.Kernel11.main_arg17) = m ((c.tc : Thread Cert.Kernel11.nD Cert.Kernel11.τ).loc Cert.Kernel11.main_arg17))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
      ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
      ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
      ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
      ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15)
      ∧ r.2.mem ((c.tc : Thread Cert.Kernel11Ideal.nD Cert.Kernel11Ideal.τ).loc Cert.Kernel11Ideal.main_arg16) = m ((c.tc : Thread Cert.Kernel11Ideal.nD Cert.Kernel11Ideal.τ).loc Cert.Kernel11Ideal.main_arg16)
      ∧ r.2.mem ((c.tc : Thread Cert.Kernel11Ideal.nD Cert.Kernel11Ideal.τ).loc Cert.Kernel11Ideal.main_arg17) = m ((c.tc : Thread Cert.Kernel11Ideal.nD Cert.Kernel11Ideal.τ).loc Cert.Kernel11Ideal.main_arg17))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11)
      ∧ r.2.mem ((c.tc : Thread Cert.Reference11Ideal.nD Cert.Reference11Ideal.τ).loc Cert.Reference11Ideal.main_arg12) = m ((c.tc : Thread Cert.Reference11Ideal.nD Cert.Reference11Ideal.τ).loc Cert.Reference11Ideal.main_arg12)
      ∧ r.2.mem ((c.tc : Thread Cert.Reference11Ideal.nD Cert.Reference11Ideal.τ).loc Cert.Reference11Ideal.main_arg13) = m ((c.tc : Thread Cert.Reference11Ideal.nD Cert.Reference11Ideal.τ).loc Cert.Reference11Ideal.main_arg13)
      ∧ r.2.mem ((c.tc : Thread Cert.Reference11Ideal.nD Cert.Reference11Ideal.τ).loc Cert.Reference11Ideal.main_arg14) = m ((c.tc : Thread Cert.Reference11Ideal.nD Cert.Reference11Ideal.τ).loc Cert.Reference11Ideal.main_arg14)
      ∧ r.2.mem ((c.tc : Thread Cert.Reference11Ideal.nD Cert.Reference11Ideal.τ).loc Cert.Reference11Ideal.main_arg15) = m ((c.tc : Thread Cert.Reference11Ideal.nD Cert.Reference11Ideal.τ).loc Cert.Reference11Ideal.main_arg15)
      ∧ r.2.mem ((c.tc : Thread Cert.Reference11Ideal.nD Cert.Reference11Ideal.τ).loc Cert.Reference11Ideal.main_arg16) = m ((c.tc : Thread Cert.Reference11Ideal.nD Cert.Reference11Ideal.τ).loc Cert.Reference11Ideal.main_arg16)
      ∧ r.2.mem ((c.tc : Thread Cert.Reference11Ideal.nD Cert.Reference11Ideal.τ).loc Cert.Reference11Ideal.main_arg17) = m ((c.tc : Thread Cert.Reference11Ideal.nD Cert.Reference11Ideal.τ).loc Cert.Reference11Ideal.main_arg17))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4)
      ∧ r.2.mem ((c.tc : Thread Cert.Kernel38.nD Cert.Kernel38.τ).loc Cert.Kernel38.main_arg5) = m ((c.tc : Thread Cert.Kernel38.nD Cert.Kernel38.τ).loc Cert.Kernel38.main_arg5))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
      ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4)
      ∧ r.2.mem ((c.tc : Thread Cert.Reference38Ideal.nD Cert.Reference38Ideal.τ).loc Cert.Reference38Ideal.main_arg5) = m ((c.tc : Thread Cert.Reference38Ideal.nD Cert.Reference38Ideal.τ).loc Cert.Reference38Ideal.main_arg5))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3)
      ∧ r.2.mem ((c.tc : Thread Cert.Kernel40.nD Cert.Kernel40.τ).loc Cert.Kernel40.main_arg4) = m ((c.tc : Thread Cert.Kernel40.nD Cert.Kernel40.τ).loc Cert.Kernel40.main_arg4))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
      ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3)
      ∧ r.2.mem ((c.tc : Thread Cert.Reference40Ideal.nD Cert.Reference40Ideal.τ).loc Cert.Reference40Ideal.main_arg4) = m ((c.tc : Thread Cert.Reference40Ideal.nD Cert.Reference40Ideal.τ).loc Cert.Reference40Ideal.main_arg4))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)) (v5 : (c : Dev Cert.Kernel9Ideal.nD) → Buf (Elt Ideal) ((c.tc : Thread Cert.Kernel9Ideal.nD Cert.Kernel9Ideal.τ).loc Cert.Kernel9Ideal.main_v0_5)) (v6 : (c : Dev Cert.Kernel9Ideal.nD) → Buf (Elt Ideal) ((c.tc : Thread Cert.Kernel9Ideal.nD Cert.Kernel9Ideal.τ).loc Cert.Kernel9Ideal.main_v0_6)) (v7 : (c : Dev Cert.Kernel9Ideal.nD) → Buf (Elt Ideal) ((c.tc : Thread Cert.Kernel9Ideal.nD Cert.Kernel9Ideal.τ).loc Cert.Kernel9Ideal.main_v0_7)) (v8 : (c : Dev Cert.Kernel9Ideal.nD) → Buf (Elt Ideal) ((c.tc : Thread Cert.Kernel9Ideal.nD Cert.Kernel9Ideal.τ).loc Cert.Kernel9Ideal.main_v0_8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_v0_5) = v5 c
          ∧ r.2.mem ((c.tc : Thread Cert.Kernel9Ideal.nD Cert.Kernel9Ideal.τ).loc Cert.Kernel9Ideal.main_v0_6) = v6 c
          ∧ r.2.mem ((c.tc : Thread Cert.Kernel9Ideal.nD Cert.Kernel9Ideal.τ).loc Cert.Kernel9Ideal.main_v0_7) = v7 c
          ∧ r.2.mem ((c.tc : Thread Cert.Kernel9Ideal.nD Cert.Kernel9Ideal.τ).loc Cert.Kernel9Ideal.main_v0_8) = v8 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v5) = v1 c
          ∧ r.2.mem ((c.tc : Thread Cert.Reference9Ideal.nD Cert.Reference9Ideal.τ).loc Cert.Reference9Ideal.main_v8) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_v14) = v4 c
          ∧ r.2.mem ((c.tc : Thread Cert.Reference9Ideal.nD Cert.Reference9Ideal.τ).loc Cert.Reference9Ideal.main_v17) = v5 c
          ∧ r.2.mem ((c.tc : Thread Cert.Reference9Ideal.nD Cert.Reference9Ideal.τ).loc Cert.Reference9Ideal.main_v20) = v6 c
          ∧ r.2.mem ((c.tc : Thread Cert.Reference9Ideal.nD Cert.Reference9Ideal.τ).loc Cert.Reference9Ideal.main_v23) = v7 c
          ∧ r.2.mem ((c.tc : Thread Cert.Reference9Ideal.nD Cert.Reference9Ideal.τ).loc Cert.Reference9Ideal.main_v26) = v8 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)
      ∧ m' ((c.tc : Thread Cert.Reference11Ideal.nD Cert.Reference11Ideal.τ).loc Cert.Reference11Ideal.main_arg12) = m ((c.tc : Thread Cert.Kernel11Ideal.nD Cert.Kernel11Ideal.τ).loc Cert.Kernel11Ideal.main_arg12)
      ∧ m' ((c.tc : Thread Cert.Reference11Ideal.nD Cert.Reference11Ideal.τ).loc Cert.Reference11Ideal.main_arg13) = m ((c.tc : Thread Cert.Kernel11Ideal.nD Cert.Kernel11Ideal.τ).loc Cert.Kernel11Ideal.main_arg13)
      ∧ m' ((c.tc : Thread Cert.Reference11Ideal.nD Cert.Reference11Ideal.τ).loc Cert.Reference11Ideal.main_arg14) = m ((c.tc : Thread Cert.Kernel11Ideal.nD Cert.Kernel11Ideal.τ).loc Cert.Kernel11Ideal.main_arg14)
      ∧ m' ((c.tc : Thread Cert.Reference11Ideal.nD Cert.Reference11Ideal.τ).loc Cert.Reference11Ideal.main_arg15) = m ((c.tc : Thread Cert.Kernel11Ideal.nD Cert.Kernel11Ideal.τ).loc Cert.Kernel11Ideal.main_arg15)
      ∧ m' ((c.tc : Thread Cert.Reference11Ideal.nD Cert.Reference11Ideal.τ).loc Cert.Reference11Ideal.main_arg16) = m ((c.tc : Thread Cert.Kernel11Ideal.nD Cert.Kernel11Ideal.τ).loc Cert.Kernel11Ideal.main_arg16)
      ∧ m' ((c.tc : Thread Cert.Reference11Ideal.nD Cert.Reference11Ideal.τ).loc Cert.Reference11Ideal.main_arg17) = m ((c.tc : Thread Cert.Kernel11Ideal.nD Cert.Kernel11Ideal.τ).loc Cert.Kernel11Ideal.main_arg17)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
          ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
          ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
          ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
          ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15)
          ∧ r.2.mem ((c.tc : Thread Cert.Kernel11Ideal.nD Cert.Kernel11Ideal.τ).loc Cert.Kernel11Ideal.main_arg16) = m ((c.tc : Thread Cert.Kernel11Ideal.nD Cert.Kernel11Ideal.τ).loc Cert.Kernel11Ideal.main_arg16)
          ∧ r.2.mem ((c.tc : Thread Cert.Kernel11Ideal.nD Cert.Kernel11Ideal.τ).loc Cert.Kernel11Ideal.main_arg17) = m ((c.tc : Thread Cert.Kernel11Ideal.nD Cert.Kernel11Ideal.τ).loc Cert.Kernel11Ideal.main_arg17))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v35) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11)
          ∧ r.2.mem ((c.tc : Thread Cert.Reference11Ideal.nD Cert.Reference11Ideal.τ).loc Cert.Reference11Ideal.main_arg12) = m' ((c.tc : Thread Cert.Reference11Ideal.nD Cert.Reference11Ideal.τ).loc Cert.Reference11Ideal.main_arg12)
          ∧ r.2.mem ((c.tc : Thread Cert.Reference11Ideal.nD Cert.Reference11Ideal.τ).loc Cert.Reference11Ideal.main_arg13) = m' ((c.tc : Thread Cert.Reference11Ideal.nD Cert.Reference11Ideal.τ).loc Cert.Reference11Ideal.main_arg13)
          ∧ r.2.mem ((c.tc : Thread Cert.Reference11Ideal.nD Cert.Reference11Ideal.τ).loc Cert.Reference11Ideal.main_arg14) = m' ((c.tc : Thread Cert.Reference11Ideal.nD Cert.Reference11Ideal.τ).loc Cert.Reference11Ideal.main_arg14)
          ∧ r.2.mem ((c.tc : Thread Cert.Reference11Ideal.nD Cert.Reference11Ideal.τ).loc Cert.Reference11Ideal.main_arg15) = m' ((c.tc : Thread Cert.Reference11Ideal.nD Cert.Reference11Ideal.τ).loc Cert.Reference11Ideal.main_arg15)
          ∧ r.2.mem ((c.tc : Thread Cert.Reference11Ideal.nD Cert.Reference11Ideal.τ).loc Cert.Reference11Ideal.main_arg16) = m' ((c.tc : Thread Cert.Reference11Ideal.nD Cert.Reference11Ideal.τ).loc Cert.Reference11Ideal.main_arg16)
          ∧ r.2.mem ((c.tc : Thread Cert.Reference11Ideal.nD Cert.Reference11Ideal.τ).loc Cert.Reference11Ideal.main_arg17) = m' ((c.tc : Thread Cert.Reference11Ideal.nD Cert.Reference11Ideal.τ).loc Cert.Reference11Ideal.main_arg17))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v9) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v7) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m ((c.tc : Thread Cert.Kernel25Ideal.nD Cert.Kernel25Ideal.τ).loc Cert.Kernel25Ideal.main_arg0) = Layout.block ⟨3, ![4, 15392, 1024]⟩ ⟨3, ![32, 15392, 1024]⟩ 0 8 c (m' (((0 : Dev Cert.Reference25Ideal.nD).tc : Thread Cert.Reference25Ideal.nD Cert.Reference25Ideal.τ).loc Cert.Reference25Ideal.main_arg0))) →
    ∃ (v0 : Buf (Elt Ideal) (((0 : Dev Cert.Reference25Ideal.nD).tc : Thread Cert.Reference25Ideal.nD Cert.Reference25Ideal.τ).loc Cert.Reference25Ideal.main_v8)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = Layout.block ⟨3, ![4, 7696, 1024]⟩ ⟨3, ![32, 7696, 1024]⟩ 0 8 c v0
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r =>
          r.2.mem (((0 : Dev Cert.Reference25Ideal.nD).tc : Thread Cert.Reference25Ideal.nD Cert.Reference25Ideal.τ).loc Cert.Reference25Ideal.main_v8) = v0
          ∧ r.2.mem (((0 : Dev Cert.Reference25Ideal.nD).tc : Thread Cert.Reference25Ideal.nD Cert.Reference25Ideal.τ).loc Cert.Reference25Ideal.main_arg0) = m' (((0 : Dev Cert.Reference25Ideal.nD).tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m ((c.tc : Thread Cert.Kernel26Ideal.nD Cert.Kernel26Ideal.τ).loc Cert.Kernel26Ideal.main_arg0) = Layout.block ⟨3, ![4, 7696, 1024]⟩ ⟨3, ![32, 7696, 1024]⟩ 0 8 c (m' (((0 : Dev Cert.Reference26Ideal.nD).tc : Thread Cert.Reference26Ideal.nD Cert.Reference26Ideal.τ).loc Cert.Reference26Ideal.main_arg0))) →
    ∃ (v0 : Buf (Elt Ideal) (((0 : Dev Cert.Reference26Ideal.nD).tc : Thread Cert.Reference26Ideal.nD Cert.Reference26Ideal.τ).loc Cert.Reference26Ideal.main_v46)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = Layout.block ⟨3, ![3, 7696, 1024]⟩ ⟨3, ![24, 7696, 1024]⟩ 0 8 c v0
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r =>
          r.2.mem (((0 : Dev Cert.Reference26Ideal.nD).tc : Thread Cert.Reference26Ideal.nD Cert.Reference26Ideal.τ).loc Cert.Reference26Ideal.main_v46) = v0
          ∧ r.2.mem (((0 : Dev Cert.Reference26Ideal.nD).tc : Thread Cert.Reference26Ideal.nD Cert.Reference26Ideal.τ).loc Cert.Reference26Ideal.main_arg0) = m' (((0 : Dev Cert.Reference26Ideal.nD).tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v0) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v12) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v2) = v0 c
          ∧ r.2.mem ((c.tc : Thread Cert.Reference37Ideal.nD Cert.Reference37Ideal.τ).loc Cert.Reference37Ideal.main_v15) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)
      ∧ m' ((c.tc : Thread Cert.Reference38Ideal.nD Cert.Reference38Ideal.τ).loc Cert.Reference38Ideal.main_arg5) = m ((c.tc : Thread Cert.Kernel38Ideal.nD Cert.Kernel38Ideal.τ).loc Cert.Kernel38Ideal.main_arg5)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
          ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v24) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4)
          ∧ r.2.mem ((c.tc : Thread Cert.Reference38Ideal.nD Cert.Reference38Ideal.τ).loc Cert.Reference38Ideal.main_arg5) = m' ((c.tc : Thread Cert.Reference38Ideal.nD Cert.Reference38Ideal.τ).loc Cert.Reference38Ideal.main_arg5))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v7) = v0 c
          ∧ r.2.mem ((c.tc : Thread Cert.Reference39Ideal.nD Cert.Reference39Ideal.τ).loc Cert.Reference39Ideal.main_v20) = v1 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)
      ∧ m' ((c.tc : Thread Cert.Reference40Ideal.nD Cert.Reference40Ideal.τ).loc Cert.Reference40Ideal.main_arg4) = m ((c.tc : Thread Cert.Kernel40Ideal.nD Cert.Kernel40Ideal.τ).loc Cert.Kernel40Ideal.main_arg4)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
          ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v27) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3)
          ∧ r.2.mem ((c.tc : Thread Cert.Reference40Ideal.nD Cert.Reference40Ideal.τ).loc Cert.Reference40Ideal.main_arg4) = m' ((c.tc : Thread Cert.Reference40Ideal.nD Cert.Reference40Ideal.τ).loc Cert.Reference40Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
-- ==== Pre_all_finite.lean ====
abbrev S8192x4096 : Shape := ⟨2, ![8192, 4096]⟩
abbrev S1x2048 : Shape := ⟨2, ![1, 2048]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  bcast_S_S1x2048 : S_.BroadcastsInDim S1x2048 (![] : Fin 0 → Fin S1x2048.rank)

variable [Facts]

def fn {F : FTy → Type} [FloatOps F] (main_arg0 : FVec F S8192x4096 .bf16) (main_arg1 : FVec F S1x2048 .f32) (main_arg2 : FVec F S1x2048 .f32) (main_arg3 : FVec F S8192x4096 .bf16) : IVec S8192x4096 1 × IVec S1x2048 1 × IVec S1x2048 1 × IVec S8192x4096 1 :=
  let main_v0 : FVec F S8192x4096 .f32 := (extf .f32 · bitsLt_bf16_f32) main_arg0
  let main_v1 : FVec F S8192x4096 .f32 := (extf .f32 · bitsLt_bf16_f32) main_arg3
  let main_v2 : FVec F S8192x4096 .f32 := subf main_v0 main_v0
  let main_cst : FVec F S_ .f32 := constant S_ .f32 0x00000000#32
  let main_v3 : FVec F S8192x4096 .f32 := broadcastInDim S8192x4096 ![] bcast_S_S8192x4096 main_cst
  let main_v4 : IVec S8192x4096 1 := cmpf .oeq main_v2 main_v3
  let main_v5 : FVec F S1x2048 .f32 := subf main_arg1 main_arg1
  let main_cst_0 : FVec F S_ .f32 := constant S_ .f32 0x00000000#32
  let main_v6 : FVec F S1x2048 .f32 := broadcastInDim S1x2048 ![] bcast_S_S1x2048 main_cst_0
  let main_v7 : IVec S1x2048 1 := cmpf .oeq main_v5 main_v6
  let main_v8 : FVec F S1x2048 .f32 := subf main_arg2 main_arg2
  let main_cst_1 : FVec F S_ .f32 := constant S_ .f32 0x00000000#32
  let main_v9 : FVec F S1x2048 .f32 := broadcastInDim S1x2048 ![] bcast_S_S1x2048 main_cst_1
  let main_v10 : IVec S1x2048 1 := cmpf .oeq main_v8 main_v9
  let main_v11 : FVec F S8192x4096 .f32 := subf main_v1 main_v1
  let main_cst_2 : FVec F S_ .f32 := constant S_ .f32 0x00000000#32
  let main_v12 : FVec F S8192x4096 .f32 := broadcastInDim S8192x4096 ![] bcast_S_S8192x4096 main_cst_2
  let main_v13 : IVec S8192x4096 1 := cmpf .oeq main_v11 main_v12
  (main_v4, main_v7, main_v10, main_v13)
-- ==== Kernel.lean ====
abbrev S8192x4096 : Shape := ⟨2, ![8192, 4096]⟩
abbrev S1x2048 : Shape := ⟨2, ![1, 2048]⟩
abbrev S1x64x1x2048 : Shape := ⟨4, ![1, 64, 1, 2048]⟩
abbrev S128x4096 : Shape := ⟨2, ![128, 4096]⟩
abbrev S1x1x1x2048 : Shape := ⟨4, ![1, 1, 1, 2048]⟩
abbrev S128x512 : Shape := ⟨2, ![128, 512]⟩
abbrev S128x2048 : Shape := ⟨2, ![128, 2048]⟩
abbrev S2048 : Shape := ⟨1, ![2048]⟩

abbrev nBuf : Space → Nat
  | .hbm => 10
  | .vmem => 30
  | .smem => 0
  | _ => 0

abbrev bufTy : (tb : Table) → Fin (tcTables nBuf tb) → BufTy
  | .hbm, ⟨0, _⟩ => ⟨S8192x4096, .bf16⟩
  | .hbm, ⟨1, _⟩ => ⟨S1x2048, .f32⟩
  | .hbm, ⟨2, _⟩ => ⟨S1x2048, .f32⟩
  | .hbm, ⟨3, _⟩ => ⟨S8192x4096, .bf16⟩
  | .hbm, ⟨4, _⟩ => ⟨S8192x4096, .bf16⟩
  | .hbm, ⟨5, _⟩ => ⟨S1x64x1x2048, .f32⟩
  | .hbm, ⟨6, _⟩ => ⟨S1x64x1x2048, .f32⟩
  | .hbm, ⟨7, _⟩ => ⟨S8192x4096, .bf16⟩
  | .hbm, ⟨8, _⟩ => ⟨S1x2048, .f32⟩
  | .hbm, ⟨9, _⟩ => ⟨S1x2048, .f32⟩
  | .local _ .vmem, ⟨0, _⟩ => ⟨S128x4096, .bf16⟩
  | .local _ .vmem, ⟨1, _⟩ => ⟨S128x4096, .bf16⟩
  | .local _ .vmem, ⟨2, _⟩ => ⟨S1x2048, .f32⟩
  | .local _ .vmem, ⟨3, _⟩ => ⟨S1x2048, .f32⟩
  | .local _ .vmem, ⟨4, _⟩ => ⟨S128x4096, .bf16⟩
  | .local _ .vmem, ⟨5, _⟩ => ⟨S128x4096, .bf16⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x2048, .f32⟩
  | .local _ .vmem, ⟨11, _⟩ => ⟨S1x2048, .f32⟩
  | .local _ .vmem, ⟨12, _⟩ => ⟨S128x4096, .bf16⟩
  | .local _ .vmem, ⟨13, _⟩ => ⟨S128x4096, .bf16⟩
  | .local _ .vmem, ⟨14, _⟩ => ⟨S128x4096, .bf16⟩
  | .local _ .vmem, ⟨15, _⟩ => ⟨S128x4096, .bf16⟩
  | .local _ .vmem, ⟨16, _⟩ => ⟨S1x1x1x2048, .f32⟩
  | .local _ .vmem, ⟨17, _⟩ => ⟨S1x1x1x2048, .f32⟩
  | .local _ .vmem, ⟨18, _⟩ => ⟨S1x1x1x2048, .f32⟩
  | .local _ .vmem, ⟨19, _⟩ => ⟨S1x1x1x2048, .f32⟩
  | .local _ .vmem, ⟨20, _⟩ => ⟨S1x2048, .f32⟩
  | .local _ .vmem, ⟨21, _⟩ => ⟨S1x2048, .f32⟩
  | .local _ .vmem, ⟨22, _⟩ => ⟨S128x4096, .bf16⟩
  | .local _ .vmem, ⟨23, _⟩ => ⟨S128x4096, .bf16⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | .local _ .vmem, ⟨27, _⟩ => ⟨S1x2048, .f32⟩
  | .local _ .vmem, ⟨28, _⟩ => ⟨S1x2048, .f32⟩
  | .local _ .vmem, ⟨29, _⟩ => ⟨S1x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg8_0 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc1_scratch3 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem8_0 : DmaSem sig := 23

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![1, 64], ![false, false]⟩

def cc1_transform_0 (i : grid1.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![v0.toNat, c0_i32.toNat]

def cc1_transform_2 (i : grid1.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S128x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S128x4096 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]
-- ==== ReferenceIdeal.lean ====
abbrev S8192x4096 : Shape := ⟨2, ![8192, 4096]⟩
abbrev S1x2048 : Shape := ⟨2, ![1, 2048]⟩
abbrev S8192x4x2x512 : Shape := ⟨4, ![8192, 4, 2, 512]⟩
abbrev S8192x4x1x512 : Shape := ⟨4, ![8192, 4, 1, 512]⟩
abbrev S8192x4x512 : Shape := ⟨3, ![8192, 4, 512]⟩
abbrev S8192x2048 : Shape := ⟨2, ![8192, 2048]⟩
abbrev S2048 : Shape := ⟨1, ![2048]⟩
abbrev S_ : Shape := ⟨0, ![]⟩

abbrev nBuf : Space → Nat
  | .hbm => 168
  | .vmem => 0
  | .smem => 0
  | _ => 0

abbrev hbmTy0_0 (i : Nat) : BufTy := match i % 128 with
  | 0 => ⟨S8192x4096, .bf16⟩
  | 1 => ⟨S1x2048, .f32⟩
  | 2 => ⟨S1x2048, .f32⟩
  | 3 => ⟨S8192x4096, .bf16⟩
  | 4 => ⟨S8192x4096, .f32⟩
  | 5 => ⟨S8192x4x2x512, .f32⟩
  | 6 => ⟨S8192x4x1x512, .f32⟩
  | 7 => ⟨S8192x4x512, .f32⟩
  | 8 => ⟨S8192x2048, .f32⟩
  | 9 => ⟨S8192x4x1x512, .f32⟩
  | 10 => ⟨S8192x4x512, .f32⟩
  | 11 => ⟨S8192x2048, .f32⟩
  | 12 => ⟨S2048, .f32⟩
  | 13 => ⟨S2048, .f32⟩
  | 14 => ⟨S_, .f32⟩
  | 15 => ⟨S2048, .f32⟩
  | 16 => ⟨S_, .f32⟩
  | 17 => ⟨S2048, .f32⟩
  | 18 => ⟨S_, .f32⟩
  | 19 => ⟨S8192x2048, .f32⟩
  | 20 => ⟨S_, .f32⟩
  | 21 => ⟨S8192x2048, .f32⟩
  | 22 => ⟨S_, .f32⟩
  | 23 => ⟨S8192x2048, .f32⟩
  | 24 => ⟨S_, .f32⟩
  | 25 => ⟨S8192x2048, .f32⟩
  | 26 => ⟨S_, .i32⟩
  | 27 => ⟨S8192x2048, .f32⟩
  | 28 => ⟨S8192x2048, .f32⟩
  | 29 => ⟨S2048, .f32⟩
  | 30 => ⟨S2048, .f32⟩
  | 31 => ⟨S_, .i32⟩
  | 32 => ⟨S2048, .f32⟩
  | 33 => ⟨S2048, .f32⟩
  | 34 => ⟨S8192x2048, .f32⟩
  | 35 => ⟨S8192x2048, .f32⟩
  | 36 => ⟨S8192x2048, .f32⟩
  | 37 => ⟨S8192x2048, .f32⟩
  | 38 => ⟨S_, .i32⟩
  | 39 => ⟨S_, .i1⟩
  | 40 => ⟨S_, .i32⟩
  | 41 => ⟨S1x2048, .f32⟩
  | 42 => ⟨S2048, .f32⟩
  | 43 => ⟨S_, .i32⟩
  | 44 => ⟨S1x2048, .f32⟩
  | 45 => ⟨S2048, .f32⟩
  | 46 => ⟨S2048, .f32⟩
  | 47 => ⟨S2048, .f32⟩
  | 48 => ⟨S2048, .f32⟩
  | 49 => ⟨S2048, .f32⟩
  | 50 => ⟨S2048, .f32⟩
  | 51 => ⟨S2048, .f32⟩
  | 52 => ⟨S2048, .f32⟩
  | 53 => ⟨S2048, .f32⟩
  | 54 => ⟨S1x2048, .f32⟩
  | 55 => ⟨S_, .i32⟩
  | 56 => ⟨S8192x2048, .f32⟩
  | 57 => ⟨S1x2048, .f32⟩
  | 58 => ⟨S_, .i32⟩
  | 59 => ⟨S8192x2048, .f32⟩
  | 60 => ⟨S1x2048, .f32⟩
  | 61 => ⟨S_, .i32⟩
  | 62 => ⟨S8192x2048, .f32⟩
  | 63 => ⟨S1x2048, .f32⟩
  | 64 => ⟨S_, .i32⟩
  | 65 => ⟨S8192x2048, .f32⟩
  | 66 => ⟨S_, .i32⟩
  | 67 => ⟨S_, .i32⟩
  | 68 => ⟨S8192x4x512, .f32⟩
  | 69 => ⟨S8192x4x512, .f32⟩
  | 70 => ⟨S8192x4x1x512, .f32⟩
  | 71 => ⟨S8192x4x1x512, .f32⟩
  | 72 => ⟨S8192x4x2x512, .f32⟩
  | 73 => ⟨S8192x4096, .f32⟩
  | 74 => ⟨S8192x4096, .f32⟩
  | 75 => ⟨S_, .f32⟩
  | 76 => ⟨S2048, .f32⟩
  | 77 => ⟨S_, .f32⟩
  | 78 => ⟨S2048, .f32⟩
  | 79 => ⟨S8192x4x2x512, .f32⟩
  | 80 => ⟨S8192x4x1x512, .f32⟩
  | 81 => ⟨S8192x4x512, .f32⟩
  | 82 => ⟨S8192x4x1x512, .f32⟩
  | 83 => ⟨S8192x4x512, .f32⟩
  | 84 => ⟨S8192x2048, .f32⟩
  | 85 => ⟨S8192x2048, .f32⟩
  | 86 => ⟨S_, .f32⟩
  | 87 => ⟨S2048, .f32⟩
  | 88 => ⟨S_, .f32⟩
  | 89 => ⟨S2048, .f32⟩
  | 90 => ⟨S_, .f32⟩
  | 91 => ⟨S2048, .f32⟩
  | 92 => ⟨S_, .f32⟩
  | 93 => ⟨S2048, .f32⟩
  | 94 => ⟨S_, .f32⟩
  | 95 => ⟨S8192x2048, .f32⟩
  | 96 => ⟨S_, .f32⟩
  | 97 => ⟨S8192x2048, .f32⟩
  | 98 => ⟨S_, .i32⟩
  | 99 => ⟨S8192x2048, .f32⟩
  | 100 => ⟨S8192x2048, .f32⟩
  | 101 => ⟨S8192x2048, .f32⟩
  | 102 => ⟨S8192x2048, .f32⟩
  | 103 => ⟨S2048, .f32⟩
  | 104 => ⟨S2048, .f32⟩
  | 105 => ⟨S_, .i32⟩
  | 106 => ⟨S2048, .f32⟩
  | 107 => ⟨S2048, .f32⟩
  | 108 => ⟨S2048, .f32⟩
  | 109 => ⟨S2048, .f32⟩
  | 110 => ⟨S8192x2048, .f32⟩
  | 111 => ⟨S8192x2048, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S1x2048, .f32⟩
  | 120 => ⟨S2048, .f32⟩
  | 121 => ⟨S_, .i32⟩
  | 122 => ⟨S1x2048, .f32⟩
  | 123 => ⟨S2048, .f32⟩
  | 124 => ⟨S_, .i32⟩
  | 125 => ⟨S1x2048, .f32⟩
  | 126 => ⟨S2048, .f32⟩
  | 127 => ⟨S_, .i32⟩
  | _ => ⟨S8192x4096, .bf16⟩

abbrev hbmTy0_1 (i : Nat) : BufTy := match i % 128 with
  | 0 => ⟨S1x2048, .f32⟩
  | 1 => ⟨S2048, .f32⟩
  | 2 => ⟨S2048, .f32⟩
  | 3 => ⟨S2048, .f32⟩
  | 4 => ⟨S2048, .f32⟩
  | 5 => ⟨S2048, .f32⟩
  | 6 => ⟨S2048, .f32⟩
  | 7 => ⟨S2048, .f32⟩
  | 8 => ⟨S2048, .f32⟩
  | 9 => ⟨S2048, .f32⟩
  | 10 => ⟨S2048, .f32⟩
  | 11 => ⟨S2048, .f32⟩
  | 12 => ⟨S2048, .f32⟩
  | 13 => ⟨S2048, .f32⟩
  | 14 => ⟨S2048, .f32⟩
  | 15 => ⟨S2048, .f32⟩
  | 16 => ⟨S2048, .f32⟩
  | 17 => ⟨S2048, .f32⟩
  | 18 => ⟨S2048, .f32⟩
  | 19 => ⟨S1x2048, .f32⟩
  | 20 => ⟨S_, .i32⟩
  | 21 => ⟨S8192x2048, .f32⟩
  | 22 => ⟨S1x2048, .f32⟩
  | 23 => ⟨S_, .i32⟩
  | 24 => ⟨S8192x2048, .f32⟩
  | 25 => ⟨S_, .i32⟩
  | 26 => ⟨S_, .i32⟩
  | 27 => ⟨S1x2048, .f32⟩
  | 28 => ⟨S1x2048, .f32⟩
  | 29 => ⟨S8192x4x512, .f32⟩
  | 30 => ⟨S8192x4x1x512, .f32⟩
  | 31 => ⟨S_, .f32⟩
  | 32 => ⟨S8192x4x2x512, .f32⟩
  | 33 => ⟨S8192x4x512, .f32⟩
  | 34 => ⟨S8192x4x1x512, .f32⟩
  | 35 => ⟨S_, .f32⟩
  | 36 => ⟨S8192x4x2x512, .f32⟩
  | 37 => ⟨S8192x4x2x512, .f32⟩
  | 38 => ⟨S8192x4096, .f32⟩
  | 39 => ⟨S8192x4096, .bf16⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_c : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev main_v16_5 : Ref sig .tc := ⟨.hbm, 32, rfl⟩
abbrev main_v16_6 : Ref sig .tc := ⟨.hbm, 33, rfl⟩
abbrev main_v16_7 : Ref sig .tc := ⟨.hbm, 34, rfl⟩
abbrev main_v16_8 : Ref sig .tc := ⟨.hbm, 35, rfl⟩
abbrev main_v16_9 : Ref sig .tc := ⟨.hbm, 36, rfl⟩
abbrev main_v16_10 : Ref sig .tc := ⟨.hbm, 37, rfl⟩
abbrev main_while0c_c_26 : Ref sig .tc := ⟨.hbm, 38, rfl⟩
abbrev main_while0c_v51 : Ref sig .tc := ⟨.hbm, 39, rfl⟩
abbrev main_while0b_call0_c : Ref sig .tc := ⟨.hbm, 40, rfl⟩
abbrev main_while0b_call0_v0 : Ref sig .tc := ⟨.hbm, 41, rfl⟩
abbrev main_while0b_v51 : Ref sig .tc := ⟨.hbm, 42, rfl⟩
abbrev main_while0b_call1_c : Ref sig .tc := ⟨.hbm, 43, rfl⟩
abbrev main_while0b_call1_v0 : Ref sig .tc := ⟨.hbm, 44, rfl⟩
abbrev main_while0b_v52 : Ref sig .tc := ⟨.hbm, 45, rfl⟩
abbrev main_while0b_v53 : Ref sig .tc := ⟨.hbm, 46, rfl⟩
abbrev main_while0b_v54 : Ref sig .tc := ⟨.hbm, 47, rfl⟩
abbrev main_while0b_v55 : Ref sig .tc := ⟨.hbm, 48, rfl⟩
abbrev main_while0b_v56 : Ref sig .tc := ⟨.hbm, 49, rfl⟩
abbrev main_while0b_v57 : Ref sig .tc := ⟨.hbm, 50, rfl⟩
abbrev main_while0b_v58 : Ref sig .tc := ⟨.hbm, 51, rfl⟩
abbrev main_while0b_v59 : Ref sig .tc := ⟨.hbm, 52, rfl⟩
abbrev main_while0b_v60 : Ref sig .tc := ⟨.hbm, 53, rfl⟩
abbrev main_while0b_call2_v0 : Ref sig .tc := ⟨.hbm, 54, rfl⟩
abbrev main_while0b_call2_c : Ref sig .tc := ⟨.hbm, 55, rfl⟩
abbrev main_while0b_v61 : Ref sig .tc := ⟨.hbm, 56, rfl⟩
abbrev main_while0b_call3_v0 : Ref sig .tc := ⟨.hbm, 57, rfl⟩
abbrev main_while0b_call3_c : Ref sig .tc := ⟨.hbm, 58, rfl⟩
abbrev main_while0b_v62 : Ref sig .tc := ⟨.hbm, 59, rfl⟩
abbrev main_while0b_call4_v0 : Ref sig .tc := ⟨.hbm, 60, rfl⟩
abbrev main_while0b_call4_c : Ref sig .tc := ⟨.hbm, 61, rfl⟩
abbrev main_while0b_v63 : Ref sig .tc := ⟨.hbm, 62, rfl⟩
abbrev main_while0b_call5_v0 : Ref sig .tc := ⟨.hbm, 63, rfl⟩
abbrev main_while0b_call5_c : Ref sig .tc := ⟨.hbm, 64, rfl⟩
abbrev main_while0b_v64 : Ref sig .tc := ⟨.hbm, 65, rfl⟩
abbrev main_while0b_c_26 : Ref sig .tc := ⟨.hbm, 66, rfl⟩
abbrev main_while0b_v65 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_cst_5 : Ref sig .tc := ⟨.hbm, 75, rfl⟩
abbrev main_v24 : Ref sig .tc := ⟨.hbm, 76, rfl⟩
abbrev main_cst_6 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_cst_7 : Ref sig .tc := ⟨.hbm, 86, rfl⟩
abbrev main_v33 : Ref sig .tc := ⟨.hbm, 87, rfl⟩
abbrev main_cst_8 : Ref sig .tc := ⟨.hbm, 88, rfl⟩
abbrev main_v34 : Ref sig .tc := ⟨.hbm, 89, rfl⟩
abbrev main_cst_9 : Ref sig .tc := ⟨.hbm, 90, rfl⟩
abbrev main_v35 : Ref sig .tc := ⟨.hbm, 91, rfl⟩
abbrev main_cst_10 : Ref sig .tc := ⟨.hbm, 92, rfl⟩
abbrev main_v36 : Ref sig .tc := ⟨.hbm, 93, rfl⟩
abbrev main_cst_11 : Ref sig .tc := ⟨.hbm, 94, rfl⟩
abbrev main_v37 : Ref sig .tc := ⟨.hbm, 95, rfl⟩
abbrev main_cst_12 : Ref sig .tc := ⟨.hbm, 96, rfl⟩
abbrev main_v38 : Ref sig .tc := ⟨.hbm, 97, rfl⟩
abbrev main_c_13 : Ref sig .tc := ⟨.hbm, 98, rfl⟩
abbrev main_v39_0 : Ref sig .tc := ⟨.hbm, 99, rfl⟩
abbrev main_v39_1 : Ref sig .tc := ⟨.hbm, 100, rfl⟩
abbrev main_v39_2 : Ref sig .tc := ⟨.hbm, 101, rfl⟩
abbrev main_v39_3 : Ref sig .tc := ⟨.hbm, 102, rfl⟩
abbrev main_v39_4 : Ref sig .tc := ⟨.hbm, 103, rfl⟩
abbrev main_v39_5 : Ref sig .tc := ⟨.hbm, 104, rfl⟩
abbrev main_v39_6 : Ref sig .tc := ⟨.hbm, 105, rfl⟩
abbrev main_v39_7 : Ref sig .tc := ⟨.hbm, 106, rfl⟩
abbrev main_v39_8 : Ref sig .tc := ⟨.hbm, 107, rfl⟩
abbrev main_v39_9 : Ref sig .tc := ⟨.hbm, 108, rfl⟩
abbrev main_v39_10 : Ref sig .tc := ⟨.hbm, 109, rfl⟩
abbrev main_v39_11 : Ref sig .tc := ⟨.hbm, 110, rfl⟩
abbrev main_v39_12 : Ref sig .tc := ⟨.hbm, 111, rfl⟩
abbrev main_while1c_c_28 : Ref sig .tc := ⟨.hbm, 112, rfl⟩
abbrev main_while1c_v51 : Ref sig .tc := ⟨.hbm, 113, rfl⟩
abbrev main_while1b_c_28 : Ref sig .tc := ⟨.hbm, 114, rfl⟩
abbrev main_while1b_v51 : Ref sig .tc := ⟨.hbm, 115, rfl⟩
abbrev main_while1b_c_29 : Ref sig .tc := ⟨.hbm, 116, rfl⟩
abbrev main_while1b_v52 : Ref sig .tc := ⟨.hbm, 117, rfl⟩
abbrev main_while1b_call6_c : Ref sig .tc := ⟨.hbm, 118, rfl⟩
abbrev main_while1b_call6_v0 : Ref sig .tc := ⟨.hbm, 119, rfl⟩
abbrev main_while1b_v53 : Ref sig .tc := ⟨.hbm, 120, rfl⟩
abbrev main_while1b_call7_c : Ref sig .tc := ⟨.hbm, 121, rfl⟩
abbrev main_while1b_call7_v0 : Ref sig .tc := ⟨.hbm, 122, rfl⟩
abbrev main_while1b_v54 : Ref sig .tc := ⟨.hbm, 123, rfl⟩
abbrev main_while1b_call8_c : Ref sig .tc := ⟨.hbm, 124, rfl⟩
abbrev main_while1b_call8_v0 : Ref sig .tc := ⟨.hbm, 125, rfl⟩
abbrev main_while1b_v55 : Ref sig .tc := ⟨.hbm, 126, rfl⟩
abbrev main_while1b_call9_c : Ref sig .tc := ⟨.hbm, 127, rfl⟩
abbrev main_while1b_call9_v0 : Ref sig .tc := ⟨.hbm, 128, rfl⟩
abbrev main_while1b_v56 : Ref sig .tc := ⟨.hbm, 129, rfl⟩
abbrev main_while1b_v57 : Ref sig .tc := ⟨.hbm, 130, rfl⟩
abbrev main_while1b_v58 : Ref sig .tc := ⟨.hbm, 131, rfl⟩
abbrev main_while1b_v59 : Ref sig .tc := ⟨.hbm, 132, rfl⟩
abbrev main_while1b_v60 : Ref sig .tc := ⟨.hbm, 133, rfl⟩
abbrev main_while1b_v61 : Ref sig .tc := ⟨.hbm, 134, rfl⟩
abbrev main_while1b_v62 : Ref sig .tc := ⟨.hbm, 135, rfl⟩
abbrev main_while1b_v63 : Ref sig .tc := ⟨.hbm, 136, rfl⟩
abbrev main_while1b_v64 : Ref sig .tc := ⟨.hbm, 137, rfl⟩
abbrev main_while1b_v65 : Ref sig .tc := ⟨.hbm, 138, rfl⟩
abbrev main_while1b_v66 : Ref sig .tc := ⟨.hbm, 139, rfl⟩
abbrev main_while1b_v67 : Ref sig .tc := ⟨.hbm, 140, rfl⟩
abbrev main_while1b_v68 : Ref sig .tc := ⟨.hbm, 141, rfl⟩
abbrev main_while1b_v69 : Ref sig .tc := ⟨.hbm, 142, rfl⟩
abbrev main_while1b_v70 : Ref sig .tc := ⟨.hbm, 143, rfl⟩
abbrev main_while1b_v71 : Ref sig .tc := ⟨.hbm, 144, rfl⟩
abbrev main_while1b_v72 : Ref sig .tc := ⟨.hbm, 145, rfl⟩
abbrev main_while1b_v73 : Ref sig .tc := ⟨.hbm, 146, rfl⟩
abbrev main_while1b_call10_v0 : Ref sig .tc := ⟨.hbm, 147, rfl⟩
abbrev main_while1b_call10_c : Ref sig .tc := ⟨.hbm, 148, rfl⟩
abbrev main_while1b_v74 : Ref sig .tc := ⟨.hbm, 149, rfl⟩
abbrev main_while1b_call11_v0 : Ref sig .tc := ⟨.hbm, 150, rfl⟩
abbrev main_while1b_call11_c : Ref sig .tc := ⟨.hbm, 151, rfl⟩
abbrev main_while1b_v75 : Ref sig .tc := ⟨.hbm, 152, rfl⟩
abbrev main_while1b_c_30 : Ref sig .tc := ⟨.hbm, 153, rfl⟩
abbrev main_while1b_v76 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩
abbrev main_v43 : Ref sig .tc := ⟨.hbm, 158, rfl⟩
abbrev main_cst_14 : Ref sig .tc := ⟨.hbm, 159, rfl⟩
abbrev main_v44 : Ref sig .tc := ⟨.hbm, 160, rfl⟩
abbrev main_v45 : Ref sig .tc := ⟨.hbm, 161, rfl⟩
abbrev main_v46 : Ref sig .tc := ⟨.hbm, 162, rfl⟩
abbrev main_cst_15 : Ref sig .tc := ⟨.hbm, 163, rfl⟩
abbrev main_v47 : Ref sig .tc := ⟨.hbm, 164, rfl⟩
abbrev main_v48 : Ref sig .tc := ⟨.hbm, 165, rfl⟩
abbrev main_v49 : Ref sig .tc := ⟨.hbm, 166, rfl⟩
abbrev main_v50 : Ref sig .tc := ⟨.hbm, 167, rfl⟩

abbrev nD : Nat := 1
abbrev τ : Topo := Topo.v7x

variable {F : FTy → Type} [FloatOps F]

abbrev main_while0_count : Scf.Loop 32 := ⟨0#32, 8192#32, 1#32⟩

abbrev main_while1_count : Scf.Loop 32 := ⟨0#32, 8192#32, 1#32⟩
-- ==== Kernel2.lean ====
abbrev S8192x1024 : Shape := ⟨2, ![8192, 1024]⟩
abbrev S4x2x1024x1408 : Shape := ⟨4, ![4, 2, 1024, 1408]⟩
abbrev S8192x5632 : Shape := ⟨2, ![8192, 5632]⟩
abbrev S8192x2816 : Shape := ⟨2, ![8192, 2816]⟩
abbrev S256x1024 : Shape := ⟨2, ![256, 1024]⟩
abbrev S4x1x1024x1408 : Shape := ⟨4, ![4, 1, 1024, 1408]⟩
abbrev S256x5632 : Shape := ⟨2, ![256, 5632]⟩
abbrev S256x2816 : Shape := ⟨2, ![256, 2816]⟩
abbrev S1x1x1024x1408 : Shape := ⟨4, ![1, 1, 1024, 1408]⟩
abbrev S1024x1408 : Shape := ⟨2, ![1024, 1408]⟩
abbrev S256x1408 : Shape := ⟨2, ![256, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x2x1024x1408, .bf16⟩
  | .hbm, ⟨2, _⟩ => ⟨S8192x5632, .bf16⟩
  | .hbm, ⟨3, _⟩ => ⟨S8192x2816, .bf16⟩
  | .local _ .vmem, ⟨0, _⟩ => ⟨S256x1024, .bf16⟩
  | .local _ .vmem, ⟨1, _⟩ => ⟨S256x1024, .bf16⟩
  | .local _ .vmem, ⟨2, _⟩ => ⟨S4x1x1024x1408, .bf16⟩
  | .local _ .vmem, ⟨3, _⟩ => ⟨S256x5632, .bf16⟩
  | .local _ .vmem, ⟨4, _⟩ => ⟨S256x5632, .bf16⟩
  | .local _ .vmem, ⟨5, _⟩ => ⟨S256x2816, .bf16⟩
  | .local _ .vmem, ⟨6, _⟩ => ⟨S256x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8192x1024 : Shape := ⟨2, ![8192, 1024]⟩
abbrev S4x2x1024x1408 : Shape := ⟨4, ![4, 2, 1024, 1408]⟩
abbrev S4x1x1024x1408 : Shape := ⟨4, ![4, 1, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x2x1024x1408, .bf16⟩
  | .hbm, ⟨2, _⟩ => ⟨S8192x1024, .f32⟩
  | .hbm, ⟨3, _⟩ => ⟨S4x1x1024x1408, .bf16⟩
  | .hbm, ⟨4, _⟩ => ⟨S4x1024x1408, .bf16⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S8192x5632, .f32⟩
  | .hbm, ⟨9, _⟩ => ⟨S8192x5632, .bf16⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Kernel3.lean ====
abbrev S8192x2816 : Shape := ⟨2, ![8192, 2816]⟩
abbrev S2x2816x1024 : Shape := ⟨3, ![2, 2816, 1024]⟩
abbrev S8192x1024 : Shape := ⟨2, ![8192, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .bf16⟩
  | .hbm, ⟨2, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S8192x2816 : Shape := ⟨2, ![8192, 2816]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .bf16⟩
  | .hbm, ⟨2, _⟩ => ⟨S8192x2816, .f32⟩
  | .hbm, ⟨3, _⟩ => ⟨S1x2816x1024, .bf16⟩
  | .hbm, ⟨4, _⟩ => ⟨S2816x1024, .bf16⟩
  | .hbm, ⟨5, _⟩ => ⟨S2816x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8192x1024 : Shape := ⟨2, ![8192, 1024]⟩
abbrev S2x2816x1024 : Shape := ⟨3, ![2, 2816, 1024]⟩
abbrev S8192x2816 : Shape := ⟨2, ![8192, 2816]⟩
abbrev S512x1024 : Shape := ⟨2, ![512, 1024]⟩
abbrev S1x2816x1024 : Shape := ⟨3, ![1, 2816, 1024]⟩
abbrev S512x2816 : Shape := ⟨2, ![512, 2816]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2x2816x1024, .bf16⟩
  | .hbm, ⟨2, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x2816x1024, .bf16⟩
  | .local _ .vmem, ⟨3, _⟩ => ⟨S512x2816, .bf16⟩
  | .local _ .vmem, ⟨4, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8192x1024 : Shape := ⟨2, ![8192, 1024]⟩
abbrev S2x2816x1024 : Shape := ⟨3, ![2, 2816, 1024]⟩
abbrev S_ : Shape := ⟨0, ![]⟩
abbrev S8192x2816 : Shape := ⟨2, ![8192, 2816]⟩
abbrev S1x2816x1024 : Shape := ⟨3, ![1, 2816, 1024]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x2816x1024, .bf16⟩
  | .hbm, ⟨2, _⟩ => ⟨S_, .f32⟩
  | .hbm, ⟨3, _⟩ => ⟨S8192x2816, .f32⟩
  | .hbm, ⟨4, _⟩ => ⟨S1x2816x1024, .bf16⟩
  | .hbm, ⟨5, _⟩ => ⟨S2816x1024, .bf16⟩
  | .hbm, ⟨6, _⟩ => ⟨S2816x1024, .f32⟩
  | .hbm, ⟨7, _⟩ => ⟨S8192x1024, .f32⟩
  | .hbm, ⟨8, _⟩ => ⟨S8192x2816, .f32⟩
  | .hbm, ⟨9, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x5632 : Shape := ⟨2, ![8192, 5632]⟩
abbrev S8192x2816 : Shape := ⟨2, ![8192, 2816]⟩
abbrev S128x5632 : Shape := ⟨2, ![128, 5632]⟩
abbrev S128x2816 : Shape := ⟨2, ![128, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x5632, .bf16⟩
  | .local _ .vmem, ⟨0, _⟩ => ⟨S128x5632, .bf16⟩
  | .local _ .vmem, ⟨1, _⟩ => ⟨S128x5632, .bf16⟩
  | .local _ .vmem, ⟨2, _⟩ => ⟨S128x2816, .bf16⟩
  | .local _ .vmem, ⟨3, _⟩ => ⟨S128x2816, .bf16⟩
  | .local _ .vmem, ⟨4, _⟩ => ⟨S128x5632, .bf16⟩
  | .local _ .vmem, ⟨5, _⟩ => ⟨S128x5632, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![v0.toNat, c0_i32.toNat]

abbrev stage0_0 : Fin 2 → Memref sig .tc .vmem S128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference6Ideal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x5632, .f32⟩
  | .hbm, ⟨27, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== Kernel7.lean ====
abbrev S8192x5632 : Shape := ⟨2, ![8192, 5632]⟩
abbrev S4x2x1024x1408 : Shape := ⟨4, ![4, 2, 1024, 1408]⟩
abbrev S8192x1024 : Shape := ⟨2, ![8192, 1024]⟩
abbrev S512x5632 : Shape := ⟨2, ![512, 5632]⟩
abbrev S4x1x1024x1408 : Shape := ⟨4, ![4, 1, 1024, 1408]⟩
abbrev S512x1024 : Shape := ⟨2, ![512, 1024]⟩
abbrev S512x1408 : Shape := ⟨2, ![512, 1408]⟩
abbrev S1x1x1024x1408 : Shape := ⟨4, ![1, 1, 1024, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S8192x5632, .bf16⟩
  | .hbm, ⟨1, _⟩ => ⟨S4x2x1024x1408, .bf16⟩
  | .hbm, ⟨2, _⟩ => ⟨S8192x1024, .bf16⟩
  | .local _ .vmem, ⟨0, _⟩ => ⟨S512x5632, .bf16⟩
  | .local _ .vmem, ⟨1, _⟩ => ⟨S512x5632, .bf16⟩
  | .local _ .vmem, ⟨2, _⟩ => ⟨S4x1x1024x1408, .bf16⟩
  | .local _ .vmem, ⟨3, _⟩ => ⟨S512x1024, .bf16⟩
  | .local _ .vmem, ⟨4, _⟩ => ⟨S512x1024, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x5632 : Shape := ⟨2, ![8192, 5632]⟩
abbrev S4x2x1024x1408 : Shape := ⟨4, ![4, 2, 1024, 1408]⟩
abbrev S_ : Shape := ⟨0, ![]⟩
abbrev S8192x1024 : Shape := ⟨2, ![8192, 1024]⟩
abbrev S4x1x1024x1408 : Shape := ⟨4, ![4, 1, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩

abbrev nBuf : Space → Nat
  | .hbm => 13
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x2x1024x1408, .bf16⟩
  | .hbm, ⟨2, _⟩ => ⟨S_, .f32⟩
  | .hbm, ⟨3, _⟩ => ⟨S8192x1024, .f32⟩
  | .hbm, ⟨4, _⟩ => ⟨S4x1x1024x1408, .bf16⟩
  | .hbm, ⟨5, _⟩ => ⟨S4x1024x1408, .bf16⟩
  | .hbm, ⟨6, _⟩ => ⟨S4x1024x1408, .f32⟩
  | .hbm, ⟨7, _⟩ => ⟨S1024x4x1408, .f32⟩
  | .hbm, ⟨8, _⟩ => ⟨S1024x5632, .f32⟩
  | .hbm, ⟨9, _⟩ => ⟨S8192x5632, .f32⟩
  | .hbm, ⟨10, _⟩ => ⟨S8192x5632, .f32⟩
  | .hbm, ⟨11, _⟩ => ⟨S8192x1024, .f32⟩
  | .hbm, ⟨12, _⟩ => ⟨S8192x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel8.lean ====
abbrev S8192x1024 : Shape := ⟨2, ![8192, 1024]⟩
abbrev S8192x5632 : Shape := ⟨2, ![8192, 5632]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S8192x1024 : Shape := ⟨2, ![8192, 1024]⟩
abbrev S1024x512 : Shape := ⟨2, ![1024, 512]⟩
abbrev S1024x1024 : Shape := ⟨2, ![1024, 1024]⟩
abbrev S1024x128 : Shape := ⟨2, ![1024, 128]⟩
abbrev S1024x1536 : Shape := ⟨2, ![1024, 1536]⟩
abbrev S8192x512 : Shape := ⟨2, ![8192, 512]⟩
abbrev S8192x128 : Shape := ⟨2, ![8192, 128]⟩
abbrev S8192x1536 : Shape := ⟨2, ![8192, 1536]⟩
abbrev S256x1024 : Shape := ⟨2, ![256, 1024]⟩
abbrev S256x512 : Shape := ⟨2, ![256, 512]⟩
abbrev S256x128 : Shape := ⟨2, ![256, 128]⟩
abbrev S256x1536 : Shape := ⟨2, ![256, 1536]⟩

abbrev nBuf : Space → Nat
  | .hbm => 19
  | .vmem => 29
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S1024x512, .bf16⟩
  | .hbm, ⟨3, _⟩ => ⟨S1024x512, .bf16⟩
  | .hbm, ⟨4, _⟩ => ⟨S1024x512, .bf16⟩
  | .hbm, ⟨5, _⟩ => ⟨S1024x1024, .bf16⟩
  | .hbm, ⟨6, _⟩ => ⟨S1024x128, .bf16⟩
  | .hbm, ⟨7, _⟩ => ⟨S1024x1536, .bf16⟩
  | .hbm, ⟨8, _⟩ => ⟨S1024x512, .bf16⟩
  | .hbm, ⟨9, _⟩ => ⟨S1024x128, .bf16⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x1024, .f32⟩
  | .hbm, ⟨15, _⟩ => ⟨S8192x128, .f32⟩
  | .hbm, ⟨16, _⟩ => ⟨S8192x1536, .f32⟩
  | .hbm, ⟨17, _⟩ => ⟨S8192x512, .f32⟩
  | .hbm, ⟨18, _⟩ => ⟨S8192x128, .f32⟩
  | .local _ .vmem, ⟨0, _⟩ => ⟨S256x1024, .bf16⟩
  | .local _ .vmem, ⟨1, _⟩ => ⟨S256x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x128, .bf16⟩
  | .local _ .vmem, ⟨8, _⟩ => ⟨S1024x1536, .bf16⟩
  | .local _ .vmem, ⟨9, _⟩ => ⟨S1024x512, .bf16⟩
  | .local _ .vmem, ⟨10, _⟩ => ⟨S1024x128, .bf16⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x1024, .f32⟩
  | .local _ .vmem, ⟨20, _⟩ => ⟨S256x1024, .f32⟩
  | .local _ .vmem, ⟨21, _⟩ => ⟨S256x128, .f32⟩
  | .local _ .vmem, ⟨22, _⟩ => ⟨S256x128, .f32⟩
  | .local _ .vmem, ⟨23, _⟩ => ⟨S256x1536, .f32⟩
  | .local _ .vmem, ⟨24, _⟩ => ⟨S256x1536, .f32⟩
  | .local _ .vmem, ⟨25, _⟩ => ⟨S256x512, .f32⟩
  | .local _ .vmem, ⟨26, _⟩ => ⟨S256x512, .f32⟩
  | .local _ .vmem, ⟨27, _⟩ => ⟨S256x128, .f32⟩
  | .local _ .vmem, ⟨28, _⟩ => ⟨S256x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1536 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference9Ideal.lean ====
abbrev S8192x1024 : Shape := ⟨2, ![8192, 1024]⟩
abbrev S1024x512 : Shape := ⟨2, ![1024, 512]⟩
abbrev S1024x1024 : Shape := ⟨2, ![1024, 1024]⟩
abbrev S1024x128 : Shape := ⟨2, ![1024, 128]⟩
abbrev S1024x1536 : Shape := ⟨2, ![1024, 1536]⟩
abbrev S8192x512 : Shape := ⟨2, ![8192, 512]⟩
abbrev S8192x128 : Shape := ⟨2, ![8192, 128]⟩
abbrev S8192x1536 : Shape := ⟨2, ![8192, 1536]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S1024x512, .bf16⟩
  | .hbm, ⟨3, _⟩ => ⟨S1024x512, .bf16⟩
  | .hbm, ⟨4, _⟩ => ⟨S1024x512, .bf16⟩
  | .hbm, ⟨5, _⟩ => ⟨S1024x1024, .bf16⟩
  | .hbm, ⟨6, _⟩ => ⟨S1024x128, .bf16⟩
  | .hbm, ⟨7, _⟩ => ⟨S1024x1536, .bf16⟩
  | .hbm, ⟨8, _⟩ => ⟨S1024x512, .bf16⟩
  | .hbm, ⟨9, _⟩ => ⟨S1024x128, .bf16⟩
  | .hbm, ⟨10, _⟩ => ⟨S8192x1024, .f32⟩
  | .hbm, ⟨11, _⟩ => ⟨S1024x512, .f32⟩
  | .hbm, ⟨12, _⟩ => ⟨S8192x512, .f32⟩
  | .hbm, ⟨13, _⟩ => ⟨S8192x1024, .f32⟩
  | .hbm, ⟨14, _⟩ => ⟨S1024x512, .f32⟩
  | .hbm, ⟨15, _⟩ => ⟨S8192x512, .f32⟩
  | .hbm, ⟨16, _⟩ => ⟨S8192x1024, .f32⟩
  | .hbm, ⟨17, _⟩ => ⟨S1024x512, .f32⟩
  | .hbm, ⟨18, _⟩ => ⟨S8192x512, .f32⟩
  | .hbm, ⟨19, _⟩ => ⟨S8192x1024, .f32⟩
  | .hbm, ⟨20, _⟩ => ⟨S1024x512, .f32⟩
  | .hbm, ⟨21, _⟩ => ⟨S8192x512, .f32⟩
  | .hbm, ⟨22, _⟩ => ⟨S8192x1024, .f32⟩
  | .hbm, ⟨23, _⟩ => ⟨S1024x1024, .f32⟩
  | .hbm, ⟨24, _⟩ => ⟨S8192x1024, .f32⟩
  | .hbm, ⟨25, _⟩ => ⟨S8192x1024, .f32⟩
  | .hbm, ⟨26, _⟩ => ⟨S1024x128, .f32⟩
  | .hbm, ⟨27, _⟩ => ⟨S8192x128, .f32⟩
  | .hbm, ⟨28, _⟩ => ⟨S8192x1024, .f32⟩
  | .hbm, ⟨29, _⟩ => ⟨S1024x1536, .f32⟩
  | .hbm, ⟨30, _⟩ => ⟨S8192x1536, .f32⟩
  | .hbm, ⟨31, _⟩ => ⟨S8192x1024, .f32⟩
  | .hbm, ⟨32, _⟩ => ⟨S1024x512, .f32⟩
  | .hbm, ⟨33, _⟩ => ⟨S8192x512, .f32⟩
  | .hbm, ⟨34, _⟩ => ⟨S8192x1024, .f32⟩
  | .hbm, ⟨35, _⟩ => ⟨S1024x128, .f32⟩
  | .hbm, ⟨36, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel10.lean ====
abbrev S8192x1024 : Shape := ⟨2, ![8192, 1024]⟩
abbrev S4x2x1024x1024 : Shape := ⟨4, ![4, 2, 1024, 1024]⟩
abbrev S8192x4096 : Shape := ⟨2, ![8192, 4096]⟩
abbrev S512x1024 : Shape := ⟨2, ![512, 1024]⟩
abbrev S4x1x1024x1024 : Shape := ⟨4, ![4, 1, 1024, 1024]⟩
abbrev S512x4096 : Shape := ⟨2, ![512, 4096]⟩
abbrev S1x1x1024x1024 : Shape := ⟨4, ![1, 1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S4x2x1024x1024, .bf16⟩
  | .hbm, ⟨2, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4x1x1024x1024, .bf16⟩
  | .local _ .vmem, ⟨3, _⟩ => ⟨S512x4096, .bf16⟩
  | .local _ .vmem, ⟨4, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8192x1024 : Shape := ⟨2, ![8192, 1024]⟩
abbrev S4x2x1024x1024 : Shape := ⟨4, ![4, 2, 1024, 1024]⟩
abbrev S4x1x1024x1024 : Shape := ⟨4, ![4, 1, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x2x1024x1024, .bf16⟩
  | .hbm, ⟨2, _⟩ => ⟨S8192x1024, .f32⟩
  | .hbm, ⟨3, _⟩ => ⟨S4x1x1024x1024, .bf16⟩
  | .hbm, ⟨4, _⟩ => ⟨S4x1024x1024, .bf16⟩
  | .hbm, ⟨5, _⟩ => ⟨S4x1024x1024, .f32⟩
  | .hbm, ⟨6, _⟩ => ⟨S1024x4x1024, .f32⟩
  | .hbm, ⟨7, _⟩ => ⟨S1024x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel11.lean ====
abbrev S8192x512 : Shape := ⟨2, ![8192, 512]⟩
abbrev S8192x1024 : Shape := ⟨2, ![8192, 1024]⟩
abbrev S8192x128 : Shape := ⟨2, ![8192, 128]⟩
abbrev S8192x1536 : Shape := ⟨2, ![8192, 1536]⟩
abbrev S1024x512 : Shape := ⟨2, ![1024, 512]⟩
abbrev S1024x1024 : Shape := ⟨2, ![1024, 1024]⟩
abbrev S1024x128 : Shape := ⟨2, ![1024, 128]⟩
abbrev S1024x1536 : Shape := ⟨2, ![1024, 1536]⟩
abbrev S256x512 : Shape := ⟨2, ![256, 512]⟩
abbrev S256x1024 : Shape := ⟨2, ![256, 1024]⟩
abbrev S256x128 : Shape := ⟨2, ![256, 128]⟩
abbrev S256x1536 : Shape := ⟨2, ![256, 1536]⟩

abbrev nBuf : Space → Nat
  | .hbm => 19
  | .vmem => 29
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x1024, .f32⟩
  | .hbm, ⟨5, _⟩ => ⟨S8192x128, .f32⟩
  | .hbm, ⟨6, _⟩ => ⟨S8192x1536, .f32⟩
  | .hbm, ⟨7, _⟩ => ⟨S8192x512, .f32⟩
  | .hbm, ⟨8, _⟩ => ⟨S8192x128, .f32⟩
  | .hbm, ⟨9, _⟩ => ⟨S1024x512, .bf16⟩
  | .hbm, ⟨10, _⟩ => ⟨S1024x512, .bf16⟩
  | .hbm, ⟨11, _⟩ => ⟨S1024x512, .bf16⟩
  | .hbm, ⟨12, _⟩ => ⟨S1024x512, .bf16⟩
  | .hbm, ⟨13, _⟩ => ⟨S1024x1024, .bf16⟩
  | .hbm, ⟨14, _⟩ => ⟨S1024x128, .bf16⟩
  | .hbm, ⟨15, _⟩ => ⟨S1024x1536, .bf16⟩
  | .hbm, ⟨16, _⟩ => ⟨S1024x512, .bf16⟩
  | .hbm, ⟨17, _⟩ => ⟨S1024x128, .bf16⟩
  | .hbm, ⟨18, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | .local _ .vmem, ⟨12, _⟩ => ⟨S256x1536, .f32⟩
  | .local _ .vmem, ⟨13, _⟩ => ⟨S256x1536, .f32⟩
  | .local _ .vmem, ⟨14, _⟩ => ⟨S256x512, .f32⟩
  | .local _ .vmem, ⟨15, _⟩ => ⟨S256x512, .f32⟩
  | .local _ .vmem, ⟨16, _⟩ => ⟨S256x128, .f32⟩
  | .local _ .vmem, ⟨17, _⟩ => ⟨S256x128, .f32⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x1024, .bf16⟩
  | .local _ .vmem, ⟨23, _⟩ => ⟨S1024x128, .bf16⟩
  | .local _ .vmem, ⟨24, _⟩ => ⟨S1024x1536, .bf16⟩
  | .local _ .vmem, ⟨25, _⟩ => ⟨S1024x512, .bf16⟩
  | .local _ .vmem, ⟨26, _⟩ => ⟨S1024x128, .bf16⟩
  | .local _ .vmem, ⟨27, _⟩ => ⟨S256x1024, .f32⟩
  | .local _ .vmem, ⟨28, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1536 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference11Ideal.lean ====
abbrev S8192x512 : Shape := ⟨2, ![8192, 512]⟩
abbrev S8192x1024 : Shape := ⟨2, ![8192, 1024]⟩
abbrev S8192x128 : Shape := ⟨2, ![8192, 128]⟩
abbrev S8192x1536 : Shape := ⟨2, ![8192, 1536]⟩
abbrev S1024x512 : Shape := ⟨2, ![1024, 512]⟩
abbrev S1024x1024 : Shape := ⟨2, ![1024, 1024]⟩
abbrev S1024x128 : Shape := ⟨2, ![1024, 128]⟩
abbrev S1024x1536 : Shape := ⟨2, ![1024, 1536]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x1024, .f32⟩
  | .hbm, ⟨5, _⟩ => ⟨S8192x128, .f32⟩
  | .hbm, ⟨6, _⟩ => ⟨S8192x1536, .f32⟩
  | .hbm, ⟨7, _⟩ => ⟨S8192x512, .f32⟩
  | .hbm, ⟨8, _⟩ => ⟨S8192x128, .f32⟩
  | .hbm, ⟨9, _⟩ => ⟨S1024x512, .bf16⟩
  | .hbm, ⟨10, _⟩ => ⟨S1024x512, .bf16⟩
  | .hbm, ⟨11, _⟩ => ⟨S1024x512, .bf16⟩
  | .hbm, ⟨12, _⟩ => ⟨S1024x512, .bf16⟩
  | .hbm, ⟨13, _⟩ => ⟨S1024x1024, .bf16⟩
  | .hbm, ⟨14, _⟩ => ⟨S1024x128, .bf16⟩
  | .hbm, ⟨15, _⟩ => ⟨S1024x1536, .bf16⟩
  | .hbm, ⟨16, _⟩ => ⟨S1024x512, .bf16⟩
  | .hbm, ⟨17, _⟩ => ⟨S1024x128, .bf16⟩
  | .hbm, ⟨18, _⟩ => ⟨S_, .f32⟩
  | .hbm, ⟨19, _⟩ => ⟨S8192x1024, .f32⟩
  | .hbm, ⟨20, _⟩ => ⟨S1024x512, .f32⟩
  | .hbm, ⟨21, _⟩ => ⟨S8192x512, .f32⟩
  | .hbm, ⟨22, _⟩ => ⟨S1024x512, .f32⟩
  | .hbm, ⟨23, _⟩ => ⟨S8192x512, .f32⟩
  | .hbm, ⟨24, _⟩ => ⟨S1024x512, .f32⟩
  | .hbm, ⟨25, _⟩ => ⟨S8192x512, .f32⟩
  | .hbm, ⟨26, _⟩ => ⟨S1024x512, .f32⟩
  | .hbm, ⟨27, _⟩ => ⟨S8192x512, .f32⟩
  | .hbm, ⟨28, _⟩ => ⟨S1024x1024, .f32⟩
  | .hbm, ⟨29, _⟩ => ⟨S8192x1024, .f32⟩
  | .hbm, ⟨30, _⟩ => ⟨S1024x128, .f32⟩
  | .hbm, ⟨31, _⟩ => ⟨S8192x128, .f32⟩
  | .hbm, ⟨32, _⟩ => ⟨S1024x1536, .f32⟩
  | .hbm, ⟨33, _⟩ => ⟨S8192x1536, .f32⟩
  | .hbm, ⟨34, _⟩ => ⟨S1024x512, .f32⟩
  | .hbm, ⟨35, _⟩ => ⟨S8192x512, .f32⟩
  | .hbm, ⟨36, _⟩ => ⟨S1024x128, .f32⟩
  | .hbm, ⟨37, _⟩ => ⟨S8192x128, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== Kernel12.lean ====
abbrev S8192x4096 : Shape := ⟨2, ![8192, 4096]⟩
abbrev S4x2x1024x1024 : Shape := ⟨4, ![4, 2, 1024, 1024]⟩
abbrev S8192x1024 : Shape := ⟨2, ![8192, 1024]⟩
abbrev S512x4096 : Shape := ⟨2, ![512, 4096]⟩
abbrev S4x1x1024x1024 : Shape := ⟨4, ![4, 1, 1024, 1024]⟩
abbrev S512x1024 : Shape := ⟨2, ![512, 1024]⟩
abbrev S1x1x1024x1024 : Shape := ⟨4, ![1, 1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4x2x1024x1024, .bf16⟩
  | .hbm, ⟨2, _⟩ => ⟨S8192x1024, .f32⟩
  | .hbm, ⟨3, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4x1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S8192x4096 : Shape := ⟨2, ![8192, 4096]⟩
abbrev S4x2x1024x1024 : Shape := ⟨4, ![4, 2, 1024, 1024]⟩
abbrev S8192x1024 : Shape := ⟨2, ![8192, 1024]⟩
abbrev S4x1x1024x1024 : Shape := ⟨4, ![4, 1, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x2x1024x1024, .bf16⟩
  | .hbm, ⟨2, _⟩ => ⟨S8192x1024, .f32⟩
  | .hbm, ⟨3, _⟩ => ⟨S4x1x1024x1024, .bf16⟩
  | .hbm, ⟨4, _⟩ => ⟨S4x1024x1024, .bf16⟩
  | .hbm, ⟨5, _⟩ => ⟨S4x1024x1024, .f32⟩
  | .hbm, ⟨6, _⟩ => ⟨S1024x4x1024, .f32⟩
  | .hbm, ⟨7, _⟩ => ⟨S1024x4096, .f32⟩
  | .hbm, ⟨8, _⟩ => ⟨S_, .f32⟩
  | .hbm, ⟨9, _⟩ => ⟨S8192x1024, .f32⟩
  | .hbm, ⟨10, _⟩ => ⟨S8192x4096, .f32⟩
  | .hbm, ⟨11, _⟩ => ⟨S8192x4096, .f32⟩
  | .hbm, ⟨12, _⟩ => ⟨S8192x1024, .f32⟩
  | .hbm, ⟨13, _⟩ => ⟨S8192x1024, .f32⟩
  | .hbm, ⟨14, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel13.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S512x1024, .f32⟩
  | .hbm, ⟨7, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x1024 : Shape := ⟨2, ![8192, 1024]⟩
abbrev S8192x128 : Shape := ⟨2, ![8192, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S128x1024, .f32⟩
  | .hbm, ⟨7, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8192x1024 : Shape := ⟨2, ![8192, 1024]⟩
abbrev S8192x1536 : Shape := ⟨2, ![8192, 1536]⟩
abbrev S1024x1536 : Shape := ⟨2, ![1024, 1536]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .f32⟩
  | .hbm, ⟨2, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .f32⟩
  | .local _ .vmem, ⟨3, _⟩ => ⟨S1024x1536, .f32⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .f32⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S1536x1024, .f32⟩
  | .hbm, ⟨7, _⟩ => ⟨S1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8192x1024 : Shape := ⟨2, ![8192, 1024]⟩
abbrev S8192x4096 : Shape := ⟨2, ![8192, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel18.lean ====
abbrev S8192x512 : Shape := ⟨2, ![8192, 512]⟩
abbrev S4x2x4x512x256 : Shape := ⟨5, ![4, 2, 4, 512, 256]⟩
abbrev S8192x1024 : Shape := ⟨2, ![8192, 1024]⟩
abbrev S512x512 : Shape := ⟨2, ![512, 512]⟩
abbrev S4x1x1x512x256 : Shape := ⟨5, ![4, 1, 1, 512, 256]⟩
abbrev S512x1024 : Shape := ⟨2, ![512, 1024]⟩
abbrev S1x1x1x512x256 : Shape := ⟨5, ![1, 1, 1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S4x2x4x512x256, .bf16⟩
  | .hbm, ⟨2, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S4x1x1x512x256, .bf16⟩
  | .local _ .vmem, ⟨3, _⟩ => ⟨S512x1024, .bf16⟩
  | .local _ .vmem, ⟨4, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S8192x512 : Shape := ⟨2, ![8192, 512]⟩
abbrev S4x2x4x512x256 : Shape := ⟨5, ![4, 2, 4, 512, 256]⟩
abbrev S4x1x1x512x256 : Shape := ⟨5, ![4, 1, 1, 512, 256]⟩
abbrev S4x512x256 : Shape := ⟨3, ![4, 512, 256]⟩
abbrev S512x4x256 : Shape := ⟨3, ![512, 4, 256]⟩
abbrev S512x1024 : Shape := ⟨2, ![512, 1024]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S4x2x4x512x256, .bf16⟩
  | .hbm, ⟨2, _⟩ => ⟨S8192x512, .f32⟩
  | .hbm, ⟨3, _⟩ => ⟨S4x1x1x512x256, .bf16⟩
  | .hbm, ⟨4, _⟩ => ⟨S4x512x256, .bf16⟩
  | .hbm, ⟨5, _⟩ => ⟨S4x512x256, .f32⟩
  | .hbm, ⟨6, _⟩ => ⟨S512x4x256, .f32⟩
  | .hbm, ⟨7, _⟩ => ⟨S512x1024, .f32⟩
  | .hbm, ⟨8, _⟩ => ⟨S8192x1024, .f32⟩
  | .hbm, ⟨9, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel19.lean ====
abbrev S8192x1024 : Shape := ⟨2, ![8192, 1024]⟩
abbrev S4x2x4x512x256 : Shape := ⟨5, ![4, 2, 4, 512, 256]⟩
abbrev S8192x512 : Shape := ⟨2, ![8192, 512]⟩
abbrev S512x1024 : Shape := ⟨2, ![512, 1024]⟩
abbrev S4x1x1x512x256 : Shape := ⟨5, ![4, 1, 1, 512, 256]⟩
abbrev S512x512 : Shape := ⟨2, ![512, 512]⟩
abbrev S512x256 : Shape := ⟨2, ![512, 256]⟩
abbrev S1x1x1x512x256 : Shape := ⟨5, ![1, 1, 1, 512, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S4x2x4x512x256, .bf16⟩
  | .hbm, ⟨2, _⟩ => ⟨S8192x512, .bf16⟩
  | .local _ .vmem, ⟨0, _⟩ => ⟨S512x1024, .bf16⟩
  | .local _ .vmem, ⟨1, _⟩ => ⟨S512x1024, .bf16⟩
  | .local _ .vmem, ⟨2, _⟩ => ⟨S4x1x1x512x256, .bf16⟩
  | .local _ .vmem, ⟨3, _⟩ => ⟨S512x512, .bf16⟩
  | .local _ .vmem, ⟨4, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S8192x1024 : Shape := ⟨2, ![8192, 1024]⟩
abbrev S4x2x4x512x256 : Shape := ⟨5, ![4, 2, 4, 512, 256]⟩
abbrev S4x1x1x512x256 : Shape := ⟨5, ![4, 1, 1, 512, 256]⟩
abbrev S4x512x256 : Shape := ⟨3, ![4, 512, 256]⟩
abbrev S512x4x256 : Shape := ⟨3, ![512, 4, 256]⟩
abbrev S512x1024 : Shape := ⟨2, ![512, 1024]⟩
abbrev S_ : Shape := ⟨0, ![]⟩
abbrev S8192x512 : Shape := ⟨2, ![8192, 512]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x2x4x512x256, .bf16⟩
  | .hbm, ⟨2, _⟩ => ⟨S4x1x1x512x256, .bf16⟩
  | .hbm, ⟨3, _⟩ => ⟨S4x512x256, .bf16⟩
  | .hbm, ⟨4, _⟩ => ⟨S4x512x256, .f32⟩
  | .hbm, ⟨5, _⟩ => ⟨S512x4x256, .f32⟩
  | .hbm, ⟨6, _⟩ => ⟨S512x1024, .f32⟩
  | .hbm, ⟨7, _⟩ => ⟨S_, .f32⟩
  | .hbm, ⟨8, _⟩ => ⟨S8192x512, .f32⟩
  | .hbm, ⟨9, _⟩ => ⟨S8192x1024, .f32⟩
  | .hbm, ⟨10, _⟩ => ⟨S8192x1024, .f32⟩
  | .hbm, ⟨11, _⟩ => ⟨S8192x512, .f32⟩
  | .hbm, ⟨12, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel20.lean ====
abbrev S8192x512 : Shape := ⟨2, ![8192, 512]⟩
abbrev S8192x1024 : Shape := ⟨2, ![8192, 1024]⟩
abbrev S4x512x256 : Shape := ⟨3, ![4, 512, 256]⟩
abbrev S1024x512 : Shape := ⟨2, ![1024, 512]⟩
abbrev S1024x256 : Shape := ⟨2, ![1024, 256]⟩
abbrev S1x512x256 : Shape := ⟨3, ![1, 512, 256]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S4x512x256, .f32⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel21.lean ====
abbrev S8192x1024 : Shape := ⟨2, ![8192, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S8192x1024 : Shape := ⟨2, ![8192, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel22.lean ====
abbrev S8192x1024 : Shape := ⟨2, ![8192, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2x1024x1024, .bf16⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S8192x1024 : Shape := ⟨2, ![8192, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x1024, .bf16⟩
  | .hbm, ⟨2, _⟩ => ⟨S1x1024x1024, .bf16⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel23.lean ====
abbrev S8192x256 : Shape := ⟨2, ![8192, 256]⟩
abbrev S4x2x256x256 : Shape := ⟨4, ![4, 2, 256, 256]⟩
abbrev S8192x1024 : Shape := ⟨2, ![8192, 1024]⟩
abbrev S512x256 : Shape := ⟨2, ![512, 256]⟩
abbrev S4x1x256x256 : Shape := ⟨4, ![4, 1, 256, 256]⟩
abbrev S512x1024 : Shape := ⟨2, ![512, 1024]⟩
abbrev S1x1x256x256 : Shape := ⟨4, ![1, 1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S4x2x256x256, .bf16⟩
  | .hbm, ⟨2, _⟩ => ⟨S8192x1024, .f32⟩
  | .local _ .vmem, ⟨0, _⟩ => ⟨S512x256, .f32⟩
  | .local _ .vmem, ⟨1, _⟩ => ⟨S512x256, .f32⟩
  | .local _ .vmem, ⟨2, _⟩ => ⟨S4x1x256x256, .bf16⟩
  | .local _ .vmem, ⟨3, _⟩ => ⟨S512x1024, .f32⟩
  | .local _ .vmem, ⟨4, _⟩ => ⟨S512x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S8192x256 : Shape := ⟨2, ![8192, 256]⟩
abbrev S4x2x256x256 : Shape := ⟨4, ![4, 2, 256, 256]⟩
abbrev S4x1x256x256 : Shape := ⟨4, ![4, 1, 256, 256]⟩
abbrev S4x256x256 : Shape := ⟨3, ![4, 256, 256]⟩
abbrev S256x4x256 : Shape := ⟨3, ![256, 4, 256]⟩
abbrev S256x1024 : Shape := ⟨2, ![256, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4x2x256x256, .bf16⟩
  | .hbm, ⟨2, _⟩ => ⟨S4x1x256x256, .bf16⟩
  | .hbm, ⟨3, _⟩ => ⟨S4x256x256, .bf16⟩
  | .hbm, ⟨4, _⟩ => ⟨S4x256x256, .f32⟩
  | .hbm, ⟨5, _⟩ => ⟨S256x4x256, .f32⟩
  | .hbm, ⟨6, _⟩ => ⟨S256x1024, .f32⟩
  | .hbm, ⟨7, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel24.lean ====
abbrev S8192x256 : Shape := ⟨2, ![8192, 256]⟩
abbrev S8192x1024 : Shape := ⟨2, ![8192, 1024]⟩
abbrev S4x256x256 : Shape := ⟨3, ![4, 256, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S4x256x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | .hbm, ⟨7, _⟩ => ⟨S256x4x256, .f32⟩
  | .hbm, ⟨8, _⟩ => ⟨S4x256x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel25.lean ====
abbrev S4x15392x1024 : Shape := ⟨3, ![4, 15392, 1024]⟩
abbrev S4x7696x1024 : Shape := ⟨3, ![4, 7696, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S4x15392x1024, .f32⟩
  | .hbm, ⟨1, _⟩ => ⟨S4x7696x1024, .f32⟩
  | _, _ => ⟨S4x15392x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_mult1 (d0 : Dev nD) : BitVec 32 :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c7696_i32 : BitVec 32 := 7696#32
  let v10 : BitVec 32 := Scalar.muli v9 c7696_i32
  v10
def k0_off1 (d0 : Dev nD) : Fin 3 → Nat :=
  let c0_i32_8 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c7696_i32 : BitVec 32 := 7696#32
  let v10 : BitVec 32 := Scalar.muli v9 c7696_i32
  let v11 : BitVec 32 := v10
  let c0_i32_9 : BitVec 32 := 0#32
  ![0, v11.toNat, 0]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v13 : BitVec 32 := Scalar.muli v2 c4_i32_5
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v15 : BitVec 32 := Scalar.muli v5 c2_i32_6
  let v16 : BitVec 32 := Scalar.addi v14 v15
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_7 : BitVec 32 := 1#32
  let v17 : BitVec 32 := Scalar.muli v12 c1_i32_7
  let v18 : BitVec 32 := Scalar.addi v16 v17
  v18.toNat
-- ==== Reference25Ideal.lean ====
abbrev S32x15392x1024 : Shape := ⟨3, ![32, 15392, 1024]⟩
abbrev S4x2x4x15392x1024 : Shape := ⟨5, ![4, 2, 4, 15392, 1024]⟩
abbrev S4x1x4x7696x1024 : Shape := ⟨5, ![4, 1, 4, 7696, 1024]⟩
abbrev S4x4x7696x1024 : Shape := ⟨4, ![4, 4, 7696, 1024]⟩
abbrev S4x2x4x7696x1024 : Shape := ⟨5, ![4, 2, 4, 7696, 1024]⟩
abbrev S32x7696x1024 : Shape := ⟨3, ![32, 7696, 1024]⟩

abbrev nBuf : Space → Nat
  | .hbm => 10
  | .vmem => 0
  | .smem => 0
  | _ => 0

abbrev bufTy : (tb : Table) → Fin (tcTables nBuf tb) → BufTy
  | .hbm, ⟨0, _⟩ => ⟨S32x15392x1024, .f32⟩
  | .hbm, ⟨1, _⟩ => ⟨S4x2x4x15392x1024, .f32⟩
  | .hbm, ⟨2, _⟩ => ⟨S4x1x4x7696x1024, .f32⟩
  | .hbm, ⟨3, _⟩ => ⟨S4x4x7696x1024, .f32⟩
  | .hbm, ⟨4, _⟩ => ⟨S4x1x4x7696x1024, .f32⟩
  | .hbm, ⟨5, _⟩ => ⟨S4x4x7696x1024, .f32⟩
  | .hbm, ⟨6, _⟩ => ⟨S4x1x4x7696x1024, .f32⟩
  | .hbm, ⟨7, _⟩ => ⟨S4x1x4x7696x1024, .f32⟩
  | .hbm, ⟨8, _⟩ => ⟨S4x2x4x7696x1024, .f32⟩
  | .hbm, ⟨9, _⟩ => ⟨S32x7696x1024, .f32⟩
  | _, _ => ⟨S32x15392x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Kernel26.lean ====
abbrev S4x7696x1024 : Shape := ⟨3, ![4, 7696, 1024]⟩
abbrev S3x7696x1024 : Shape := ⟨3, ![3, 7696, 1024]⟩
abbrev S3 : Shape := ⟨1, ![3]⟩
abbrev S1 : Shape := ⟨1, ![1]⟩
abbrev S_ : Shape := ⟨0, ![]⟩
abbrev S1x7696x1024 : Shape := ⟨3, ![1, 7696, 1024]⟩
abbrev S7696x1024 : Shape := ⟨2, ![7696, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x7696x1024, .bf16⟩
  | .hbm, ⟨1, _⟩ => ⟨S3x7696x1024, .bf16⟩
  | _, _ => ⟨S4x7696x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_18 : BitVec 32 := 0#32
  let c0_i32_19 : BitVec 32 := 0#32
  ![v14.toNat, 0, 0]
def k0_dev1 (d0 : Dev nD) : Nat :=
  let c0_i32_13 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v19 : BitVec 32 := Scalar.muli v9 c4_i32_12
  let v20 : BitVec 32 := Scalar.addi c0_i32_13 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v21 : BitVec 32 := Scalar.muli v5 c2_i32_14
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v23 : BitVec 32 := Scalar.muli v8 c1_i32_15
  let v24 : BitVec 32 := Scalar.addi v22 v23
  v24.toNat
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_29 : BitVec 32 := 0#32
  let c0_i32_30 : BitVec 32 := 0#32
  ![v16.toNat, 0, 0]
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v33 : BitVec 32 := Scalar.muli v2 c4_i32_23
  let v34 : BitVec 32 := Scalar.addi c0_i32_24 v33
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_25 : BitVec 32 := 2#32
  let v35 : BitVec 32 := Scalar.muli v10 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_off3 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_40 : BitVec 32 := 0#32
  let c0_i32_41 : BitVec 32 := 0#32
  ![v18.toNat, 0, 0]
def k0_dev3 (d0 : Dev nD) : Nat :=
  let c0_i32_35 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_34 : BitVec 32 := 4#32
  let v47 : BitVec 32 := Scalar.muli v11 c4_i32_34
  let v48 : BitVec 32 := Scalar.addi c0_i32_35 v47
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_36 : BitVec 32 := 2#32
  let v49 : BitVec 32 := Scalar.muli v12 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
-- ==== Reference26Ideal.lean ====
abbrev S32x7696x1024 : Shape := ⟨3, ![32, 7696, 1024]⟩
abbrev S4x2x4x7696x1024 : Shape := ⟨5, ![4, 2, 4, 7696, 1024]⟩
abbrev S1x2x1x7696x1024 : Shape := ⟨5, ![1, 2, 1, 7696, 1024]⟩
abbrev S2x7696x1024 : Shape := ⟨3, ![2, 7696, 1024]⟩
abbrev S2x1x7696x1024 : Shape := ⟨4, ![2, 1, 7696, 1024]⟩
abbrev S2x3x7696x1024 : Shape := ⟨4, ![2, 3, 7696, 1024]⟩
abbrev S1x2x3x7696x1024 : Shape := ⟨5, ![1, 2, 3, 7696, 1024]⟩
abbrev S4x2x3x7696x1024 : Shape := ⟨5, ![4, 2, 3, 7696, 1024]⟩
abbrev S24x7696x1024 : Shape := ⟨3, ![24, 7696, 1024]⟩

abbrev nBuf : Space → Nat
  | .hbm => 48
  | .vmem => 0
  | .smem => 0
  | _ => 0

abbrev bufTy : (tb : Table) → Fin (tcTables nBuf tb) → BufTy
  | .hbm, ⟨0, _⟩ => ⟨S32x7696x1024, .bf16⟩
  | .hbm, ⟨1, _⟩ => ⟨S4x2x4x7696x1024, .bf16⟩
  | .hbm, ⟨2, _⟩ => ⟨S1x2x1x7696x1024, .bf16⟩
  | .hbm, ⟨3, _⟩ => ⟨S2x7696x1024, .bf16⟩
  | .hbm, ⟨4, _⟩ => ⟨S1x2x1x7696x1024, .bf16⟩
  | .hbm, ⟨5, _⟩ => ⟨S2x7696x1024, .bf16⟩
  | .hbm, ⟨6, _⟩ => ⟨S1x2x1x7696x1024, .bf16⟩
  | .hbm, ⟨7, _⟩ => ⟨S2x7696x1024, .bf16⟩
  | .hbm, ⟨8, _⟩ => ⟨S2x1x7696x1024, .bf16⟩
  | .hbm, ⟨9, _⟩ => ⟨S2x1x7696x1024, .bf16⟩
  | .hbm, ⟨10, _⟩ => ⟨S2x1x7696x1024, .bf16⟩
  | .hbm, ⟨11, _⟩ => ⟨S2x3x7696x1024, .bf16⟩
  | .hbm, ⟨12, _⟩ => ⟨S1x2x1x7696x1024, .bf16⟩
  | .hbm, ⟨13, _⟩ => ⟨S2x7696x1024, .bf16⟩
  | .hbm, ⟨14, _⟩ => ⟨S1x2x1x7696x1024, .bf16⟩
  | .hbm, ⟨15, _⟩ => ⟨S2x7696x1024, .bf16⟩
  | .hbm, ⟨16, _⟩ => ⟨S1x2x1x7696x1024, .bf16⟩
  | .hbm, ⟨17, _⟩ => ⟨S2x7696x1024, .bf16⟩
  | .hbm, ⟨18, _⟩ => ⟨S2x1x7696x1024, .bf16⟩
  | .hbm, ⟨19, _⟩ => ⟨S2x1x7696x1024, .bf16⟩
  | .hbm, ⟨20, _⟩ => ⟨S2x1x7696x1024, .bf16⟩
  | .hbm, ⟨21, _⟩ => ⟨S2x3x7696x1024, .bf16⟩
  | .hbm, ⟨22, _⟩ => ⟨S1x2x1x7696x1024, .bf16⟩
  | .hbm, ⟨23, _⟩ => ⟨S2x7696x1024, .bf16⟩
  | .hbm, ⟨24, _⟩ => ⟨S1x2x1x7696x1024, .bf16⟩
  | .hbm, ⟨25, _⟩ => ⟨S2x7696x1024, .bf16⟩
  | .hbm, ⟨26, _⟩ => ⟨S1x2x1x7696x1024, .bf16⟩
  | .hbm, ⟨27, _⟩ => ⟨S2x7696x1024, .bf16⟩
  | .hbm, ⟨28, _⟩ => ⟨S2x1x7696x1024, .bf16⟩
  | .hbm, ⟨29, _⟩ => ⟨S2x1x7696x1024, .bf16⟩
  | .hbm, ⟨30, _⟩ => ⟨S2x1x7696x1024, .bf16⟩
  | .hbm, ⟨31, _⟩ => ⟨S2x3x7696x1024, .bf16⟩
  | .hbm, ⟨32, _⟩ => ⟨S1x2x1x7696x1024, .bf16⟩
  | .hbm, ⟨33, _⟩ => ⟨S2x7696x1024, .bf16⟩
  | .hbm, ⟨34, _⟩ => ⟨S1x2x1x7696x1024, .bf16⟩
  | .hbm, ⟨35, _⟩ => ⟨S2x7696x1024, .bf16⟩
  | .hbm, ⟨36, _⟩ => ⟨S1x2x1x7696x1024, .bf16⟩
  | .hbm, ⟨37, _⟩ => ⟨S2x7696x1024, .bf16⟩
  | .hbm, ⟨38, _⟩ => ⟨S2x1x7696x1024, .bf16⟩
  | .hbm, ⟨39, _⟩ => ⟨S2x1x7696x1024, .bf16⟩
  | .hbm, ⟨40, _⟩ => ⟨S2x1x7696x1024, .bf16⟩
  | .hbm, ⟨41, _⟩ => ⟨S2x3x7696x1024, .bf16⟩
  | .hbm, ⟨42, _⟩ => ⟨S1x2x3x7696x1024, .bf16⟩
  | .hbm, ⟨43, _⟩ => ⟨S1x2x3x7696x1024, .bf16⟩
  | .hbm, ⟨44, _⟩ => ⟨S1x2x3x7696x1024, .bf16⟩
  | .hbm, ⟨45, _⟩ => ⟨S1x2x3x7696x1024, .bf16⟩
  | .hbm, ⟨46, _⟩ => ⟨S4x2x3x7696x1024, .bf16⟩
  | .hbm, ⟨47, _⟩ => ⟨S24x7696x1024, .bf16⟩
  | _, _ => ⟨S32x7696x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩

abbrev nD : Nat := 1
abbrev τ : Topo := Topo.v7x

variable {F : FTy → Type} [FloatOps F]
-- ==== Kernel27.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference27Ideal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S1408x1024 : Shape := ⟨2, ![1408, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference28Ideal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2048x1284 : Shape := ⟨2, ![2048, 1284]⟩
abbrev S256x1284 : Shape := ⟨2, ![256, 1284]⟩

abbrev nBuf : Space → Nat
  | .hbm => 7
  | .vmem => 14
  | .smem => 0
  | _ => 0

abbrev bufTy : (tb : Table) → Fin (tcTables nBuf tb) → BufTy
  | .hbm, ⟨0, _⟩ => ⟨S2048x1284, .f32⟩
  | .hbm, ⟨1, _⟩ => ⟨S2048x1284, .f32⟩
  | .hbm, ⟨2, _⟩ => ⟨S2048x1284, .f32⟩
  | .hbm, ⟨3, _⟩ => ⟨S2048x1284, .f32⟩
  | .hbm, ⟨4, _⟩ => ⟨S2048x1284, .f32⟩
  | .hbm, ⟨5, _⟩ => ⟨S2048x1284, .f32⟩
  | .hbm, ⟨6, _⟩ => ⟨S2048x1284, .f32⟩
  | .local _ .vmem, ⟨0, _⟩ => ⟨S256x1284, .f32⟩
  | .local _ .vmem, ⟨1, _⟩ => ⟨S256x1284, .f32⟩
  | .local _ .vmem, ⟨2, _⟩ => ⟨S256x1284, .f32⟩
  | .local _ .vmem, ⟨3, _⟩ => ⟨S256x1284, .f32⟩
  | .local _ .vmem, ⟨4, _⟩ => ⟨S256x1284, .f32⟩
  | .local _ .vmem, ⟨5, _⟩ => ⟨S256x1284, .f32⟩
  | .local _ .vmem, ⟨6, _⟩ => ⟨S256x1284, .f32⟩
  | .local _ .vmem, ⟨7, _⟩ => ⟨S256x1284, .f32⟩
  | .local _ .vmem, ⟨8, _⟩ => ⟨S256x1284, .f32⟩
  | .local _ .vmem, ⟨9, _⟩ => ⟨S256x1284, .f32⟩
  | .local _ .vmem, ⟨10, _⟩ => ⟨S256x1284, .f32⟩
  | .local _ .vmem, ⟨11, _⟩ => ⟨S256x1284, .f32⟩
  | .local _ .vmem, ⟨12, _⟩ => ⟨S256x1284, .f32⟩
  | .local _ .vmem, ⟨13, _⟩ => ⟨S256x1284, .f32⟩
  | _, _ => ⟨S2048x1284, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1284 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1284 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1284 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1284 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1284 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1284 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1284 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference29Ideal.lean ====
abbrev S2048x1284 : Shape := ⟨2, ![2048, 1284]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1284, .f32⟩
  | .hbm, ⟨1, _⟩ => ⟨S2048x1284, .f32⟩
  | .hbm, ⟨2, _⟩ => ⟨S2048x1284, .f32⟩
  | .hbm, ⟨3, _⟩ => ⟨S2048x1284, .f32⟩
  | .hbm, ⟨4, _⟩ => ⟨S_, .f32⟩
  | .hbm, ⟨5, _⟩ => ⟨S2048x1284, .f32⟩
  | .hbm, ⟨6, _⟩ => ⟨S2048x1284, .f32⟩
  | .hbm, ⟨7, _⟩ => ⟨S_, .f32⟩
  | .hbm, ⟨8, _⟩ => ⟨S2048x1284, .f32⟩
  | .hbm, ⟨9, _⟩ => ⟨S2048x1284, .f32⟩
  | .hbm, ⟨10, _⟩ => ⟨S2048x1284, .f32⟩
  | .hbm, ⟨11, _⟩ => ⟨S_, .f32⟩
  | .hbm, ⟨12, _⟩ => ⟨S2048x1284, .f32⟩
  | .hbm, ⟨13, _⟩ => ⟨S2048x1284, .f32⟩
  | .hbm, ⟨14, _⟩ => ⟨S2048x1284, .f32⟩
  | .hbm, ⟨15, _⟩ => ⟨S_, .f32⟩
  | .hbm, ⟨16, _⟩ => ⟨S2048x1284, .f32⟩
  | .hbm, ⟨17, _⟩ => ⟨S2048x1284, .f32⟩
  | .hbm, ⟨18, _⟩ => ⟨S2048x1284, .f32⟩
  | .hbm, ⟨19, _⟩ => ⟨S_, .f32⟩
  | .hbm, ⟨20, _⟩ => ⟨S2048x1284, .f32⟩
  | .hbm, ⟨21, _⟩ => ⟨S2048x1284, .f32⟩
  | .hbm, ⟨22, _⟩ => ⟨S_, .f32⟩
  | .hbm, ⟨23, _⟩ => ⟨S2048x1284, .f32⟩
  | .hbm, ⟨24, _⟩ => ⟨S2048x1284, .f32⟩
  | .hbm, ⟨25, _⟩ => ⟨S2048x1284, .f32⟩
  | .hbm, ⟨26, _⟩ => ⟨S_, .f32⟩
  | .hbm, ⟨27, _⟩ => ⟨S2048x1284, .f32⟩
  | .hbm, ⟨28, _⟩ => ⟨S2048x1284, .f32⟩
  | .hbm, ⟨29, _⟩ => ⟨S2048x1284, .f32⟩
  | .hbm, ⟨30, _⟩ => ⟨S_, .f32⟩
  | .hbm, ⟨31, _⟩ => ⟨S2048x1284, .f32⟩
  | .hbm, ⟨32, _⟩ => ⟨S2048x1284, .f32⟩
  | .hbm, ⟨33, _⟩ => ⟨S2048x1284, .f32⟩
  | .hbm, ⟨34, _⟩ => ⟨S_, .f32⟩
  | .hbm, ⟨35, _⟩ => ⟨S2048x1284, .f32⟩
  | .hbm, ⟨36, _⟩ => ⟨S2048x1284, .f32⟩
  | _, _ => ⟨S2048x1284, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference30Ideal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S4096x256 : Shape := ⟨2, ![4096, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference31Ideal.lean ====
abbrev S4096x256 : Shape := ⟨2, ![4096, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S4096x256, .f32⟩
  | .hbm, ⟨6, _⟩ => ⟨S4096x256, .f32⟩
  | .hbm, ⟨7, _⟩ => ⟨S_, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S_, .f32⟩
  | .hbm, ⟨35, _⟩ => ⟨S4096x256, .f32⟩
  | .hbm, ⟨36, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference32Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference33Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== Reference34Ideal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S8x432x1024 : Shape := ⟨3, ![8, 432, 1024]⟩
abbrev S432x1024 : Shape := ⟨2, ![432, 1024]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x432x1024, .f32⟩
  | .hbm, ⟨1, _⟩ => ⟨S432x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | _, _ => ⟨S8x432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![54], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference35Ideal.lean ====
abbrev S8x432x1024 : Shape := ⟨3, ![8, 432, 1024]⟩
abbrev S_ : Shape := ⟨0, ![]⟩
abbrev S432x1024 : Shape := ⟨2, ![432, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x432x1024, .f32⟩
  | .hbm, ⟨1, _⟩ => ⟨S_, .f32⟩
  | .hbm, ⟨2, _⟩ => ⟨S432x1024, .f32⟩
  | _, _ => ⟨S8x432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel36.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference36Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel37.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== Reference37Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel38.lean ====
abbrev S8192x4096 : Shape := ⟨2, ![8192, 4096]⟩
abbrev S8192x1024 : Shape := ⟨2, ![8192, 1024]⟩
abbrev S1x4096 : Shape := ⟨2, ![1, 4096]⟩
abbrev S128x4096 : Shape := ⟨2, ![128, 4096]⟩
abbrev S128x1024 : Shape := ⟨2, ![128, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1x4096, .f32⟩
  | .hbm, ⟨6, _⟩ => ⟨S8192x1024, .bf16⟩
  | .local _ .vmem, ⟨0, _⟩ => ⟨S128x4096, .bf16⟩
  | .local _ .vmem, ⟨1, _⟩ => ⟨S128x4096, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S1x4096, .f32⟩
  | .local _ .vmem, ⟨11, _⟩ => ⟨S128x1024, .bf16⟩
  | .local _ .vmem, ⟨12, _⟩ => ⟨S128x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference38Ideal.lean ====
abbrev S8192x4096 : Shape := ⟨2, ![8192, 4096]⟩
abbrev S8192x1024 : Shape := ⟨2, ![8192, 1024]⟩
abbrev S1x4096 : Shape := ⟨2, ![1, 4096]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel39.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== Reference39Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel40.lean ====
abbrev S8192x1024 : Shape := ⟨2, ![8192, 1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1, .f32⟩
  | .local _ .vmem, ⟨10, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== Reference40Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Fwd.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.Proof.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one block computes

The block `x` of 128 rows, the multiplier `(ar, ai)` and the state `(sr, si)` that enters the block. -/

section Step

variable (x : Vec F S128x4096 .bf16) (ar ai sr si : Vec F S1x2048 .f32)

/-- The two scalar constants of the body. -/
def zeroF : F .f32 := Scalar.ofBits .f32 0x00000000#32
def twoF : F .f32 := Scalar.ofBits .f32 0x40000000#32

/-- After the first level: the real and the imaginary array. -/
def re1 : FVec F S128x2048 .f32 := k0_pay16 sr si ar ai (k0_pay8 x) (k0_pay9 x) k0_pay10 zeroF (k0_pay11 sr si ar ai)
def im1 : FVec F S128x2048 .f32 := k0_pay17 sr si ar ai (k0_pay8 x) (k0_pay9 x) k0_pay10 zeroF (k0_pay11 sr si ar ai)
/-- The multiplier squared. -/
def ar1 : FVec F S1x2048 .f32 := k0_pay18 ar ai
def ai1 : FVec F S1x2048 .f32 := k0_pay19 ar ai
def sh1 : FVec F S128x2048 .f32 := k0_pay20 sr si ar ai (k0_pay8 x) (k0_pay9 x) k0_pay10 zeroF (k0_pay11 sr si ar ai)
def rowIds : IVec S128x2048 32 := iota .tc S128x2048 32 [0] iota_S128x2048_d0_w32

/-- After the third level. -/
def re3 : FVec F S128x2048 .f32 := k0_pay28 (re1 x ar ai sr si) (im1 x ar ai sr si) (ar1 ar ai) (ai1 ar ai) (sh1 x ar ai sr si) rowIds 2#32
def im3 : FVec F S128x2048 .f32 := k0_pay29 (re1 x ar ai sr si) (im1 x ar ai sr si) (ar1 ar ai) (ai1 ar ai) (sh1 x ar ai sr si) rowIds 2#32
def ar2 : FVec F S1x2048 .f32 := k0_pay24 (ar1 ar ai) (ai1 ar ai)
def ai2 : FVec F S1x2048 .f32 := k0_pay25 (ar1 ar ai) (ai1 ar ai)
def ar3 : FVec F S1x2048 .f32 := k0_pay30 (ar1 ar ai) (ai1 ar ai)

/-- After the fourth level and within the fifth. -/
def re4 : FVec F S128x2048 .f32 := k0_pay34 (ar2 ar ai) (ai2 ar ai) (re3 x ar ai sr si) (im3 x ar ai sr si) (ar3 ar ai) twoF
def im4 : FVec F S128x2048 .f32 := k0_pay35 (ar2 ar ai) (ai2 ar ai) (re3 x ar ai sr si) (im3 x ar ai sr si) (ar3 ar ai) twoF
def ar4 : FVec F S1x2048 .f32 := k0_pay36 (ar2 ar ai) (ai2 ar ai) (ar3 ar ai) twoF
def ai4 : FVec F S1x2048 .f32 := k0_pay37 (ar2 ar ai) (ai2 ar ai) (ar3 ar ai) twoF
def shr4 : FVec F S128x2048 .f32 := k0_pay38 (ar2 ar ai) (ai2 ar ai) (re3 x ar ai sr si) (im3 x ar ai sr si) (ar3 ar ai) twoF
def shi4 : FVec F S128x2048 .f32 := k0_pay39 (ar2 ar ai) (ai2 ar ai) (re3 x ar ai sr si) (im3 x ar ai sr si) (ar3 ar ai) twoF
def pr4 : FVec F S128x2048 .f32 := k0_pay40 (ar2 ar ai) (ai2 ar ai) (re3 x ar ai sr si) (im3 x ar ai sr si) (ar3 ar ai) twoF

/-- After the sixth level and within the seventh. -/
def re6 : FVec F S128x2048 .f32 := k0_pay47 (re4 x ar ai sr si) (im4 x ar ai sr si) (ar4 ar ai) (ai4 ar ai) (shr4 x ar ai sr si) (shi4 x ar ai sr si) (pr4 x ar ai sr si)
def im6 : FVec F S128x2048 .f32 := k0_pay48 (re4 x ar ai sr si) (im4 x ar ai sr si) (ar4 ar ai) (ai4 ar ai) (shr4 x ar ai sr si) (shi4 x ar ai sr si) (pr4 x ar ai sr si)
def ar6 : FVec F S1x2048 .f32 := k0_pay49 (ar4 ar ai) (ai4 ar ai)
def ai6 : FVec F S1x2048 .f32 := k0_pay50 (ar4 ar ai) (ai4 ar ai)
def rot6 : FVec F S128x2048 .f32 := k0_pay52 (re4 x ar ai sr si) (im4 x ar ai sr si) (ar4 ar ai) (ai4 ar ai) (shr4 x ar ai sr si) (shi4 x ar ai sr si) (pr4 x ar ai sr si)

/-- What the block writes to the states' array, real and imaginary part in alternate slabs. -/
def hOut : Vec F S128x4096 .bf16 := k0_pay59 (re6 x ar ai sr si) (im6 x ar ai sr si) (ar6 ar ai) (ai6 ar ai) k0_pay51 (rot6 x ar ai sr si)
/-- The state that leaves the block. -/
def sOutR : Vec F S1x2048 .f32 := k0_pay1 (k0_pay57 (re6 x ar ai sr si) (im6 x ar ai sr si) (ar6 ar ai) (ai6 ar ai) k0_pay51 (rot6 x ar ai sr si))
def sOutI : Vec F S1x2048 .f32 := k0_pay2 (k0_pay58 (im6 x ar ai sr si) (ar6 ar ai) (ai6 ar ai) k0_pay51 (rot6 x ar ai sr si))

end Step

/-- The body's condition: the first point of the grid. -/
abbrev cond (i : grid0.Coords) : Prop := (Scalar.cmpi .ne (Scalar.extui (Scalar.cmpi .eq (BitVec.ofNat 32 (i 1).val) 0#32)) 0#32) = 1#1
theorem hcond : ∀ t : Fin cfg0.N, cond (grid0.coords t) ↔ t.val % 64 = 0 :=
  (fun t => by
    have ht : t.val < 64 := Nat.lt_of_lt_of_eq t.isLt N_0
    have e1 : (grid0.coords t 1).val = t.val / 1 % 64 := Pipeline.Grid.coords_val t 1 (by decide) rfl
    simp only [cond, e1]
    word_cmp
   : ∀ t : Fin grid0.N, cond (grid0.coords t) ↔ t.val % 64 = 0)

set_option maxHeartbeats 1600000 in
theorem runB (c : Dev nD) (i : grid0.Coords) (arg2 : Memref sig .tc .vmem S128x4096 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S128x4096 .bf16) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048 .f32) (harg8 : arg8.IsWhole) (arg9 : Memref sig .tc .vmem S1x2048 .f32) (harg9 : arg9.IsWhole) (hc : ¬ cond i)
    (x : Vec F S128x4096 .bf16) (ar ai : Vec F S1x2048 .f32) (sr si : Vec F S1x2048 .f32) (E : Set ℕ) (K : PUnit → sProp 𝕄) :
    iprop(owns (c : Thread nD τ) arg2 fullShare x ∗ owns (c : Thread nD τ) arg3 fullShare ar ∗ owns (c : Thread nD τ) arg4 fullShare ai ∗ (∃ d, owns (c : Thread nD τ) arg5 fullShare d) ∗ (∃ d, owns (c : Thread nD τ) arg6 fullShare d) ∗ (∃ d, owns (c : Thread nD τ) arg7 fullShare d) ∗ owns (c : Thread nD τ) arg8 fullShare sr ∗ owns (c : Thread nD τ) arg9 fullShare si
        ∗ (iprop(owns (c : Thread nD τ) arg2 fullShare x ∗ owns (c : Thread nD τ) arg3 fullShare ar ∗ owns (c : Thread nD τ) arg4 fullShare ai ∗ owns (c : Thread nD τ) arg5 fullShare (hOut x ar ai sr si) ∗ owns (c : Thread nD τ) arg6 fullShare (k0_pay5 sr) ∗ owns (c : Thread nD τ) arg7 fullShare (k0_pay6 si) ∗ owns (c : Thread nD τ) arg8 fullShare (sOutR x ar ai sr si) ∗ owns (c : Thread nD τ) arg9 fullShare (sOutI x ar ai sr si)) -∗ K ⟨⟩))
      ⊢ wp frame (wpE (defs₀ (F := F)) Variants.none c none) E (cc0_s5_scan i arg2 harg2 arg3 harg3 arg4 harg4 arg5 harg5 arg6 harg6 arg7 harg7 arg8 harg8 arg9 harg9) K := by
  simp only [cc0_s5_scan_eq_skeleton]; unfold cc0_s5_scan_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg8.eq_unread hfs0; obtain rfl := harg9.eq_unread hfs1
  have e2 : ∀ inb, arg2.view.readAt (Elt F) (Rect.unit ![0, 0] ![128, 4096] inb).toLoadRect (harg2.unread x) = x :=
    fun inb => (View.readAt_full _ _ _).trans (harg2.read_unread x)
  have e3 : ∀ inb, arg3.view.readAt (Elt F) (Rect.unit ![0, 0] ![1, 2048] inb).toLoadRect (harg3.unread ar) = ar :=
    fun inb => (View.readAt_full _ _ _).trans (harg3.read_unread ar)
  have e4 : ∀ inb, arg4.view.readAt (Elt F) (Rect.unit ![0, 0] ![1, 2048] inb).toLoadRect (harg4.unread ai) = ai :=
    fun inb => (View.readAt_full _ _ _).trans (harg4.read_unread ai)
  have e8 : ∀ inb, arg8.view.readAt (Elt F) (Rect.unit ![0, 0] ![1, 2048] inb).toLoadRect (harg8.unread sr) = sr :=
    fun inb => (View.readAt_full _ _ _).trans (harg8.read_unread sr)
  have e9 : ∀ inb, arg9.view.readAt (Elt F) (Rect.unit ![0, 0] ![1, 2048] inb).toLoadRect (harg9.unread si) = si :=
    fun inb => (View.readAt_full _ _ _).trans (harg9.read_unread si)
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact (View.read_writes_full _ _ _ _ _).trans ((by
      sl_unfold_run_names
      first | done | rfl))
  isplitl [H4]
  · iexists _; isplitr
    swap; · iexact H4
    ipureintro; exact (View.read_writes_full _ _ _ _ _).trans ((by
      sl_unfold_run_names
      first | done | rfl))
  isplitl [H5]
  · iexists _; isplitr
    swap; · iexact H5
    ipureintro; exact (View.read_writes_full _ _ _ _ _).trans ((by
      sl_unfold_run_names
      first | done | rfl))
  isplitl [HS0]
  · iexists _; isplitr
    swap; · iexact HS0
    ipureintro; exact (View.read_writes_full _ _ _ _ _).trans ((by
      sl_unfold_run_names
      first | done | rfl))
  iexists _; isplitr
  swap; · iexact HS1
  ipureintro; exact (View.read_writes_full _ _ _ _ _).trans (by
      sl_unfold_run_names
      first | done | rfl)

set_option maxHeartbeats 1600000 in
theorem runA (c : Dev nD) (i : grid0.Coords) (arg2 : Memref sig .tc .vmem S128x4096 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S128x4096 .bf16) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048 .f32) (harg8 : arg8.IsWhole) (arg9 : Memref sig .tc .vmem S1x2048 .f32) (harg9 : arg9.IsWhole) (hc : cond i)
    (x : Vec F S128x4096 .bf16) (ar ai : Vec F S1x2048 .f32)  (E : Set ℕ) (K : PUnit → sProp 𝕄) :
    iprop(owns (c : Thread nD τ) arg2 fullShare x ∗ owns (c : Thread nD τ) arg3 fullShare ar ∗ owns (c : Thread nD τ) arg4 fullShare ai ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x ∗ owns (c : Thread nD τ) arg3 fullShare ar ∗ owns (c : Thread nD τ) arg4 fullShare ai ∗ owns (c : Thread nD τ) arg5 fullShare (hOut x ar ai k0_pay3 k0_pay4) ∗ owns (c : Thread nD τ) arg6 fullShare (k0_pay5 k0_pay3) ∗ owns (c : Thread nD τ) arg7 fullShare (k0_pay6 k0_pay4) ∗ owns (c : Thread nD τ) arg8 fullShare (sOutR x ar ai k0_pay3 k0_pay4) ∗ owns (c : Thread nD τ) arg9 fullShare (sOutI x ar ai k0_pay3 k0_pay4)) -∗ K ⟨⟩))
      ⊢ wp frame (wpE (defs₀ (F := F)) Variants.none c none) E (cc0_s5_scan i arg2 harg2 arg3 harg3 arg4 harg4 arg5 harg5 arg6 harg6 arg7 harg7 arg8 harg8 arg9 harg9) K := by
  simp only [cc0_s5_scan_eq_skeleton]; unfold cc0_s5_scan_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
  obtain rfl := harg2.eq_unread hf0; obtain rfl := harg3.eq_unread hf1; obtain rfl := harg4.eq_unread hf2
  have e2 : ∀ inb, arg2.view.readAt (Elt F) (Rect.unit ![0, 0] ![128, 4096] inb).toLoadRect (harg2.unread x) = x :=
    fun inb => (View.readAt_full _ _ _).trans (harg2.read_unread x)
  have e3 : ∀ inb, arg3.view.readAt (Elt F) (Rect.unit ![0, 0] ![1, 2048] inb).toLoadRect (harg3.unread ar) = ar :=
    fun inb => (View.readAt_full _ _ _).trans (harg3.read_unread ar)
  have e4 : ∀ inb, arg4.view.readAt (Elt F) (Rect.unit ![0, 0] ![1, 2048] inb).toLoadRect (harg4.unread ai) = ai :=
    fun inb => (View.readAt_full _ _ _).trans (harg4.read_unread ai)
  have e8 : ∀ inb inb', arg8.view.readCov (Val := Elt F) [⟨Rect.unit ![0, 0] S1x2048.size inb, k0_pay3 (F := F)⟩] (Rect.unit ![0, 0] S1x2048.size inb').toLoadRect = k0_pay3 (F := F) :=
    fun inb inb' => View.readCov_full _ _ _ _ _
  have e9 : ∀ inb inb', arg9.view.readCov (Val := Elt F) [⟨Rect.unit ![0, 0] S1x2048.size inb, k0_pay4 (F := F)⟩] (Rect.unit ![0, 0] S1x2048.size inb').toLoadRect = k0_pay4 (F := F) :=
    fun inb inb' => View.readCov_full _ _ _ _ _
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact (View.read_writes_full _ _ _ _ _).trans ((by
      sl_unfold_run_names
      try simp only [e8, e9]
      first | done | rfl))
  isplitl [H4]
  · iexists _; isplitr
    swap; · iexact H4
    ipureintro; exact (View.read_writes_full _ _ _ _ _).trans ((by
      sl_unfold_run_names
      try simp only [e8, e9]
      first | done | rfl))
  isplitl [H5]
  · iexists _; isplitr
    swap; · iexact H5
    ipureintro; exact (View.read_writes_full _ _ _ _ _).trans ((by
      sl_unfold_run_names
      try simp only [e8, e9]
      first | done | rfl))
  isplitl [HS0]
  · iexists _; isplitr
    swap; · iexact HS0
    ipureintro; exact (View.read_writes_full _ _ _ _ _).trans ((by
      sl_unfold_run_names
      try simp only [e8, e9]
      first | done | rfl))
  iexists _; isplitr
  swap; · iexact HS1
  ipureintro; exact (View.read_writes_full _ _ _ _ _).trans (by
      sl_unfold_run_names
      try simp only [e8, e9]
      first | done | rfl)

end Cert.Proof.Fwd

end
-- ==== Proof.FwdDat.lean ====
module

public import proofs.«01_k».proof.Proof.Fwd

@[expose] public section

set_option maxRecDepth 16384

noncomputable section

namespace Cert.Proof.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The proof data, at the contents the region finds -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input blocks at their own types. -/
abbrev b0 (c : Dev nD) (t : Fin cfg0.N) : Vec F S128x4096 .bf16 := iblk V c 0 t
abbrev b1 (c : Dev nD) (t : Fin cfg0.N) : Vec F S1x2048 .f32 := iblk V c 1 t
abbrev b2 (c : Dev nD) (t : Fin cfg0.N) : Vec F S1x2048 .f32 := iblk V c 2 t

/-- The carried state before point `n`: the start values, then what each block leaves. -/
def stateAt (c : Dev nD) : ℕ → Vec F S1x2048 .f32 × Vec F S1x2048 .f32
  | 0 => (k0_pay3, k0_pay4)
  | n + 1 => if h : n < cfg0.N then
      (sOutR (b0 V c ⟨n, h⟩) (b1 V c ⟨n, h⟩) (b2 V c ⟨n, h⟩) (stateAt c n).1 (stateAt c n).2,
       sOutI (b0 V c ⟨n, h⟩) (b1 V c ⟨n, h⟩) (b2 V c ⟨n, h⟩) (stateAt c n).1 (stateAt c n).2)
    else stateAt c n

theorem stateAt_succ (c : Dev nD) (t : Fin cfg0.N) : stateAt V c (t.val + 1)
    = (sOutR (b0 V c t) (b1 V c t) (b2 V c t) (stateAt V c t.val).1 (stateAt V c t.val).2,
       sOutI (b0 V c t) (b1 V c t) (b2 V c t) (stateAt V c t.val).1 (stateAt V c t.val).2) :=
  dif_pos t.isLt

abbrev sc0 : Memref sig .tc .vmem S1x2048 .f32 := Memref.whole cc0_scratch0
abbrev sc1 : Memref sig .tc .vmem S1x2048 .f32 := Memref.whole cc0_scratch1

/-- The buffers of the other region, at anything. -/
abbrev rest (c : Dev nD) : sProp 𝕄 := Pipeline.scopedRestBut (Ix := Unit) (Name := ℕ) (U := UR sig nD τ) (Lvl := ℕ) (Val := Elt F) spec0 c [cc0_scratch0, cc0_scratch1]

/-- What holds before point `n`: the scratch at anything before the first point, at the carried state afterwards. -/
def Phi (c : Dev nD) : ℕ → sProp 𝕄
  | 0 => iprop((∃ d, owns (c : Thread nD τ) sc0 fullShare d) ∗ (∃ d, owns (c : Thread nD τ) sc1 fullShare d) ∗ rest c)
  | n + 1 => iprop(owns (c : Thread nD τ) sc0 fullShare (stateAt V c (n + 1)).1 ∗ owns (c : Thread nD τ) sc1 fullShare (stateAt V c (n + 1)).2 ∗ rest c)

/-- The region's proof data: the arrays as found; after the body an input's block as fetched, an output's the step's result. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => hOut (b0 V c t) (b1 V c t) (b2 V c t) (stateAt V c t.val).1 (stateAt V c t.val).2
    | ⟨4, _⟩ => k0_pay5 (stateAt V c t.val).1
    | ⟨5, _⟩ => k0_pay6 (stateAt V c t.val).2
  Φ t := Phi V c t.val
  q _ := fullShare
  owed _ := 0

theorem A_eq (c : Dev nD) (w : Fin cfg0.W) : (dat V c).A w = V c (Pipeline.arrRef spec0 w) := by dsimp only [dat]
theorem Phi_succ_eq (c : Dev nD) (t : Fin cfg0.N) : (dat V c).Φ t.succ = iprop(owns (c : Thread nD τ) sc0 fullShare (stateAt V c (t.val + 1)).1 ∗ owns (c : Thread nD τ) sc1 fullShare (stateAt V c (t.val + 1)).2 ∗ rest c) := rfl
theorem Phi_zero (c : Dev nD) (n : ℕ) (h : n = 0) : Phi V c n = iprop((∃ d, owns (c : Thread nD τ) sc0 fullShare d) ∗ (∃ d, owns (c : Thread nD τ) sc1 fullShare d) ∗ rest c) := by
  subst h; rfl
theorem Phi_pos (c : Dev nD) (n : ℕ) (h : n ≠ 0) : Phi V c n = iprop(owns (c : Thread nD τ) sc0 fullShare (stateAt V c n).1 ∗ owns (c : Thread nD τ) sc1 fullShare (stateAt V c n).2 ∗ rest c) := by
  cases n with
  | zero => exact absurd rfl h
  | succ n => rfl

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = hOut (b0 V c t) (b1 V c t) (b2 V c t) (stateAt V c t.val).1 (stateAt V c t.val).2 := by dsimp only [dat]
theorem after_4 (c : Dev nD) (t : Fin cfg0.N) : (dat V c).after 4 t = k0_pay5 (stateAt V c t.val).1 := by dsimp only [dat]
theorem after_5 (c : Dev nD) (t : Fin cfg0.N) : (dat V c).after 5 t = k0_pay6 (stateAt V c t.val).2 := by dsimp only [dat]

/-! An input's staging buffer holds its block at every point. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
abbrev ms0 (t : Fin cfg0.N) : Memref sig .tc .vmem S128x4096 .bf16 := win0_0.stage (cfg0.slots t 0)
abbrev ms1 (t : Fin cfg0.N) : Memref sig .tc .vmem S1x2048 .f32 := win0_1.stage (cfg0.slots t 1)
abbrev ms2 (t : Fin cfg0.N) : Memref sig .tc .vmem S1x2048 .f32 := win0_2.stage (cfg0.slots t 2)
abbrev ms3 (t : Fin cfg0.N) : Memref sig .tc .vmem S128x4096 .bf16 := win0_3.stage (cfg0.slots t 3)
abbrev ms4 (t : Fin cfg0.N) : Memref sig .tc .vmem S1x1x1x2048 .f32 := win0_4.stage (cfg0.slots t 4)
abbrev ms5 (t : Fin cfg0.N) : Memref sig .tc .vmem S1x1x1x2048 .f32 := win0_5.stage (cfg0.slots t 5)

/-- What the body is called with at point `t` and what it returns. -/
def bodyPre (c : Dev nD) (t : Fin cfg0.N) : sProp 𝕄 :=
  iprop((dat V c).Φ t.castSucc
    ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

def bodyPost (c : Dev nD) (t : Fin cfg0.N) : sProp 𝕄 :=
  iprop((dat V c).Φ t.succ
    ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t))

set_option maxHeartbeats 3200000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl,
    after_0, after_1, after_2, after_3, after_4, after_5]
  rw [Phi_succ_eq, stateAt_succ]
  rw [show (dat V c).Φ t.castSucc = Phi V c t.val from rfl]
  have hN : t.val < 64 := lt_of_lt_of_eq t.isLt (show cfg0.N = 64 from N_0)
  by_cases h0 : t.val = 0
  · rw [Phi_zero V c _ h0]
    have hs : stateAt V c t.val = (k0_pay3, k0_pay4) := by rw [h0]; rfl
    rw [hs]
    iintro ⟨⟨HS0, HS1, Hr⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ _ _ ((hcond t).mpr (by omega)) (b0 V c t) (b1 V c t) (b2 V c t)  Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hr]
    · isplitl [HS0]; · iexact HS0
      isplitl [HS1]; · iexact HS1
      iexact Hr
    isplitl [Ho]; · iexact Ho
    isplitl [H0]; · iexact H0
    isplitl [H1]; · iexact H1
    isplitl [H2]; · iexact H2
    isplitl [H3]; · iexact H3
    isplitl [H4]; · iexact H4
    iexact H5

  · rw [Phi_pos V c _ h0]
    iintro ⟨⟨HS0, HS1, Hr⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ _ _ (fun h => h0 (by have := (hcond t).mp h; omega)) (b0 V c t) (b1 V c t) (b2 V c t) _ _ Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hr]
    · isplitl [HS0]; · iexact HS0
      isplitl [HS1]; · iexact HS1
      iexact Hr
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) : defs₀ (F := F) .tc cfg0.body (cfg0.bodyArgs t (cfg0.slots t)) = bodyAt0 t := by
  unfold defs₀; rw [Defs.onTc_tc]

/-- The pipeline library's obligation for the body, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- The scoped buffers split into the scratch and the other region's. -/
theorem scopedRest_eq (c : Dev nD) : (Pipeline.scopedRest (Ix := Unit) (Name := ℕ) (U := UR sig nD τ) (Lvl := ℕ) (Val := Elt F) spec0 c : sProp 𝕄)
    = iprop((∃ d, owns (c : Thread nD τ) sc0 fullShare d) ∗ (∃ d, owns (c : Thread nD τ) sc1 fullShare d) ∗ rest c) := by
  rw [Pipeline.scopedRest_split_of_list spec0 c [cc0_scratch0, cc0_scratch1] (by decide) (by decide)]
  simp only [sc0, sc1, owns_whole]
  rw [bigSepL_cons_cons, bigSepL_singleton]
  have sa : ∀ P Q R : sProp 𝕄, BI.sep (BI.sep P Q) R = BI.sep P (BI.sep Q R) := fun _ _ _ => BI.Entails.antisymm BI.sep_assoc BI.sep_assoc'
  simp only [sa]
  rfl

theorem hin (c : Dev nD) : (Pipeline.scopedRest (Ix := Unit) (Name := ℕ) (U := UR sig nD τ) (Lvl := ℕ) (Val := Elt F) spec0 c : sProp 𝕄) ⊢ (dat V c).Φ 0 := by
  rw [scopedRest_eq, show (dat V c).Φ 0 = Phi V c 0 from rfl, Phi_zero V c 0 rfl]

theorem hout (c : Dev nD) : (dat V c).Φ (Fin.last _) ⊢ (Pipeline.scopedRest (Ix := Unit) (Name := ℕ) (U := UR sig nD τ) (Lvl := ℕ) (Val := Elt F) spec0 c : sProp 𝕄) := by
  rw [scopedRest_eq, show (dat V c).Φ (Fin.last _) = Phi V c cfg0.N from rfl, Phi_pos V c _ (by rw [show cfg0.N = 64 from N_0]; decide)]
  iintro ⟨HS0, HS1, Hr⟩
  isplitl [HS0]; · iexists _; iexact HS0
  isplitl [HS1]; · iexists _; iexact HS1
  iexact Hr

end Cert.Proof.Fwd

end
-- ==== Proof.Bwd.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.Proof.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one block computes

The block `h` of saved states and `ct` of cotangents, the state `(hr, hi)` that entered the block, the multiplier `(ar, ai)`,
the gradient `(gr, gi)` that comes from the block after this one and the sums `(cr, ci)` so far. -/

section Step

variable (h : Vec F S128x4096 .bf16) (ct : Vec F S128x4096 .bf16) (hr : Vec F S1x1x1x2048 .f32) (hi : Vec F S1x1x1x2048 .f32) (ar : Vec F S1x2048 .f32) (ai : Vec F S1x2048 .f32) (gr : Vec F S1x2048 .f32) (gi : Vec F S1x2048 .f32) (cr : Vec F S1x2048 .f32) (ci : Vec F S1x2048 .f32)

def twoF : F .f32 := Scalar.ofBits .f32 0x40000000#32

/-- After the second level; the multiplier squared. -/
def re2 : FVec F S128x2048 .f32 := k1_pay25 gr gi (k1_pay11 ct) ar ai (k1_pay16 ct) (k1_pay17 ct) (k1_pay18 ct)
def im2 : FVec F S128x2048 .f32 := k1_pay26 gr gi (k1_pay11 ct) ar ai (k1_pay16 ct) (k1_pay17 ct) (k1_pay18 ct)
def qi1 : FVec F S1x2048 .f32 := k1_pay22 ai
def qr2 : FVec F S1x2048 .f32 := k1_pay27 ar ai

/-- After the third level and within the fourth. -/
def re3 : FVec F S128x2048 .f32 := k1_pay31 ar (qi1 ai) (re2 ct ar ai gr gi) (im2 ct ar ai gr gi) (qr2 ar ai) twoF
def im3 : FVec F S128x2048 .f32 := k1_pay32 ar (qi1 ai) (re2 ct ar ai gr gi) (im2 ct ar ai gr gi) (qr2 ar ai) twoF
def qr3 : FVec F S1x2048 .f32 := k1_pay33 ar (qi1 ai) (qr2 ar ai) twoF
def qi3 : FVec F S1x2048 .f32 := k1_pay34 ar (qi1 ai) (qr2 ar ai) twoF
def shr3 : FVec F S128x2048 .f32 := k1_pay35 ar (qi1 ai) (re2 ct ar ai gr gi) (im2 ct ar ai gr gi) (qr2 ar ai) twoF
def shi3 : FVec F S128x2048 .f32 := k1_pay36 ar (qi1 ai) (re2 ct ar ai gr gi) (im2 ct ar ai gr gi) (qr2 ar ai) twoF
def pr3 : FVec F S128x2048 .f32 := k1_pay37 ar (qi1 ai) (re2 ct ar ai gr gi) (im2 ct ar ai gr gi) (qr2 ar ai) twoF

/-- After the fifth level and within the sixth. -/
def re5 : FVec F S128x2048 .f32 := k1_pay44 (re3 ct ar ai gr gi) (im3 ct ar ai gr gi) (qr3 ar ai) (qi3 ar ai) (shr3 ct ar ai gr gi) (shi3 ct ar ai gr gi) (pr3 ct ar ai gr gi)
def im5 : FVec F S128x2048 .f32 := k1_pay45 (re3 ct ar ai gr gi) (im3 ct ar ai gr gi) (qr3 ar ai) (qi3 ar ai) (shr3 ct ar ai gr gi) (shi3 ct ar ai gr gi) (pr3 ct ar ai gr gi)
def qr5 : FVec F S1x2048 .f32 := k1_pay46 (qr3 ar ai) (qi3 ar ai)
def qi5 : FVec F S1x2048 .f32 := k1_pay47 (qr3 ar ai) (qi3 ar ai)
def rot5 : FVec F S128x2048 .f32 := k1_pay49 (re3 ct ar ai gr gi) (im3 ct ar ai gr gi) (qr3 ar ai) (qi3 ar ai) (shr3 ct ar ai gr gi) (shi3 ct ar ai gr gi) (pr3 ct ar ai gr gi)

/-- Within the seventh level. -/
def qr6 : FVec F S1x2048 .f32 := k1_pay54 (qr5 ar ai) (qi5 ar ai)
def qi6 : FVec F S1x2048 .f32 := k1_pay55 (qr5 ar ai) (qi5 ar ai)
def re6 : FVec F S128x2048 .f32 := k1_pay58 (re5 ct ar ai gr gi) (im5 ct ar ai gr gi) (qr5 ar ai) (qi5 ar ai) k1_pay48 (rot5 ct ar ai gr gi)
def im6 : FVec F S128x2048 .f32 := k1_pay59 (im5 ct ar ai gr gi) (qr5 ar ai) (qi5 ar ai) k1_pay48 (rot5 ct ar ai gr gi)
def sh6 : FVec F S128x2048 .f32 := k1_pay60 (re5 ct ar ai gr gi) (im5 ct ar ai gr gi) (qr5 ar ai) (qi5 ar ai) k1_pay48 (rot5 ct ar ai gr gi)

/-- The gradient rows of the block. -/
def re7 : FVec F S128x2048 .f32 := k1_pay66 (qr6 ar ai) (qi6 ar ai) (re6 ct ar ai gr gi) (im6 ct ar ai gr gi) (sh6 ct ar ai gr gi)
def im7 : FVec F S128x2048 .f32 := k1_pay67 (qr6 ar ai) (qi6 ar ai) (re6 ct ar ai gr gi) (im6 ct ar ai gr gi) (sh6 ct ar ai gr gi)
def rowIds : IVec S128x2048 32 := iota .tc S128x2048 32 [0] iota_S128x2048_d0_w32

/-- What the block writes, real and imaginary part in alternate slabs; -/
def dOut : Vec F S128x4096 .bf16 := k1_pay1 (k1_pay78 (re7 ct ar ai gr gi)) (k1_pay79 (re7 ct ar ai gr gi)) (k1_pay80 (re7 ct ar ai gr gi)) (k1_pay81 (re7 ct ar ai gr gi)) (k1_pay82 (im7 ct ar ai gr gi)) (k1_pay83 (im7 ct ar ai gr gi)) (k1_pay84 (im7 ct ar ai gr gi)) (k1_pay85 (im7 ct ar ai gr gi))
/-- the gradient it hands to the block before it; -/
def gR : Vec F S1x2048 .f32 := k1_pay2 (k1_pay74 ar ai (re7 ct ar ai gr gi) (im7 ct ar ai gr gi))
def gI : Vec F S1x2048 .f32 := k1_pay3 (k1_pay75 ar ai (re7 ct ar ai gr gi) (im7 ct ar ai gr gi))
/-- the sums with this block's rows added. -/
def accR : Vec F S1x2048 .f32 := k1_pay76 cr (k1_pay13 hi) (k1_pay15 h) (re7 ct ar ai gr gi) (im7 ct ar ai gr gi) k1_pay68 (k1_pay69 (k1_pay12 hr) (k1_pay14 h)) rowIds k1_pay70
def accI : Vec F S1x2048 .f32 := k1_pay77 ci (k1_pay13 hi) (k1_pay15 h) (re7 ct ar ai gr gi) (im7 ct ar ai gr gi) k1_pay68 (k1_pay69 (k1_pay12 hr) (k1_pay14 h)) rowIds k1_pay70

end Step

/-- The body's condition: the first point of the grid. -/
abbrev cond (i : grid1.Coords) : Prop := (Scalar.cmpi .ne (Scalar.extui (Scalar.cmpi .eq (BitVec.ofNat 32 (i 1).val) 0#32)) 0#32) = 1#1
theorem hcond : ∀ t : Fin cfg1.N, cond (grid1.coords t) ↔ t.val % 64 = 0 :=
  (fun t => by
    have ht : t.val < 64 := Nat.lt_of_lt_of_eq t.isLt N_1
    have e1 : (grid1.coords t 1).val = t.val / 1 % 64 := Pipeline.Grid.coords_val t 1 (by decide) rfl
    simp only [cond, e1]
    word_cmp
   : ∀ t : Fin grid1.N, cond (grid1.coords t) ↔ t.val % 64 = 0)

set_option maxHeartbeats 3200000 in
theorem runB (c : Dev nD) (i : grid1.Coords) (arg2 : Memref sig .tc .vmem S128x4096 .bf16) (harg2 : arg2.IsWhole) (arg3 : Memref sig .tc .vmem S128x4096 .bf16) (harg3 : arg3.IsWhole) (arg4 : Memref sig .tc .vmem S1x1x1x2048 .f32) (harg4 : arg4.IsWhole) (arg5 : Memref sig .tc .vmem S1x1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S128x4096 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (hc : ¬ cond i)
    (h : Vec F S128x4096 .bf16) (ct : Vec F S128x4096 .bf16) (hr : Vec F S1x1x1x2048 .f32) (hi : Vec F S1x1x1x2048 .f32) (ar : Vec F S1x2048 .f32) (ai : Vec F S1x2048 .f32) (gr : Vec F S1x2048 .f32) (gi : Vec F S1x2048 .f32) (cr : Vec F S1x2048 .f32) (ci : Vec F S1x2048 .f32) (E : Set ℕ) (K : PUnit → sProp 𝕄) :
    iprop(owns (c : Thread nD τ) arg2 fullShare h ∗ owns (c : Thread nD τ) arg3 fullShare ct ∗ owns (c : Thread nD τ) arg4 fullShare hr ∗ owns (c : Thread nD τ) arg5 fullShare hi ∗ owns (c : Thread nD τ) arg6 fullShare ar ∗ owns (c : Thread nD τ) arg7 fullShare ai ∗ (∃ d, owns (c : Thread nD τ) arg8 fullShare d) ∗ (∃ d, owns (c : Thread nD τ) arg9 fullShare d) ∗ (∃ d, owns (c : Thread nD τ) arg10 fullShare d) ∗ owns (c : Thread nD τ) arg11 fullShare gr ∗ owns (c : Thread nD τ) arg12 fullShare gi ∗ owns (c : Thread nD τ) arg13 fullShare cr ∗ owns (c : Thread nD τ) arg14 fullShare ci
        ∗ (iprop(owns (c : Thread nD τ) arg2 fullShare h ∗ owns (c : Thread nD τ) arg3 fullShare ct ∗ owns (c : Thread nD τ) arg4 fullShare hr ∗ owns (c : Thread nD τ) arg5 fullShare hi ∗ owns (c : Thread nD τ) arg6 fullShare ar ∗ owns (c : Thread nD τ) arg7 fullShare ai ∗ owns (c : Thread nD τ) arg8 fullShare (dOut ct ar ai gr gi) ∗ owns (c : Thread nD τ) arg9 fullShare (accR h ct hr hi ar ai gr gi cr) ∗ owns (c : Thread nD τ) arg10 fullShare (accI h ct hr hi ar ai gr gi ci) ∗ owns (c : Thread nD τ) arg11 fullShare (gR ct ar ai gr gi) ∗ owns (c : Thread nD τ) arg12 fullShare (gI ct ar ai gr gi) ∗ owns (c : Thread nD τ) arg13 fullShare (k1_pay4 (accR h ct hr hi ar ai gr gi cr)) ∗ owns (c : Thread nD τ) arg14 fullShare (k1_pay5 (accI h ct hr hi ar ai gr gi ci))) -∗ K ⟨⟩))
      ⊢ wp frame (wpE (defs₀ (F := F)) Variants.none c none) E (cc1_s5_scan_bwd i arg2 harg2 arg3 harg3 arg4 harg4 arg5 harg5 arg6 harg6 arg7 harg7 arg8 harg8 arg9 harg9 arg10 harg10 arg11 harg11 arg12 harg12 arg13 harg13 arg14 harg14) K := by
  simp only [cc1_s5_scan_bwd_eq_skeleton]; unfold cc1_s5_scan_bwd_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11; obtain rfl := harg12.eq_unread hf12; obtain rfl := harg13.eq_unread hf13; obtain rfl := harg14.eq_unread hf14
  have e2 : ∀ inb, arg2.view.readAt (Elt F) (Rect.unit ![0, 0] ![128, 4096] inb).toLoadRect (harg2.unread h) = h :=
    fun inb => (View.readAt_full _ _ _).trans (harg2.read_unread h)
  have e3 : ∀ inb, arg3.view.readAt (Elt F) (Rect.unit ![0, 0] ![128, 4096] inb).toLoadRect (harg3.unread ct) = ct :=
    fun inb => (View.readAt_full _ _ _).trans (harg3.read_unread ct)
  have e4 : ∀ inb, arg4.view.readAt (Elt F) (Rect.unit ![0, 0, 0, 0] ![1, 1, 1, 2048] inb).toLoadRect (harg4.unread hr) = hr :=
    fun inb => (View.readAt_full _ _ _).trans (harg4.read_unread hr)
  have e5 : ∀ inb, arg5.view.readAt (Elt F) (Rect.unit ![0, 0, 0, 0] ![1, 1, 1, 2048] inb).toLoadRect (harg5.unread hi) = hi :=
    fun inb => (View.readAt_full _ _ _).trans (harg5.read_unread hi)
  have e6 : ∀ inb, arg6.view.readAt (Elt F) (Rect.unit ![0, 0] ![1, 2048] inb).toLoadRect (harg6.unread ar) = ar :=
    fun inb => (View.readAt_full _ _ _).trans (harg6.read_unread ar)
  have e7 : ∀ inb, arg7.view.readAt (Elt F) (Rect.unit ![0, 0] ![1, 2048] inb).toLoadRect (harg7.unread ai) = ai :=
    fun inb => (View.readAt_full _ _ _).trans (harg7.read_unread ai)
  have e11 : ∀ inb, arg11.view.readAt (Elt F) (Rect.unit ![0, 0] ![1, 2048] inb).toLoadRect (harg11.unread gr) = gr :=
    fun inb => (View.readAt_full _ _ _).trans (harg11.read_unread gr)
  have e12 : ∀ inb, arg12.view.readAt (Elt F) (Rect.unit ![0, 0] ![1, 2048] inb).toLoadRect (harg12.unread gi) = gi :=
    fun inb => (View.readAt_full _ _ _).trans (harg12.read_unread gi)
  have e13 : ∀ inb, arg13.view.readAt (Elt F) (Rect.unit ![0, 0] ![1, 2048] inb).toLoadRect (harg13.unread cr) = cr :=
    fun inb => (View.readAt_full _ _ _).trans (harg13.read_unread cr)
  have e14 : ∀ inb, arg14.view.readAt (Elt F) (Rect.unit ![0, 0] ![1, 2048] inb).toLoadRect (harg14.unread ci) = ci :=
    fun inb => (View.readAt_full _ _ _).trans (harg14.read_unread ci)
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro; exact (View.read_writes_full _ _ _ _ _).trans (by
      sl_unfold_run_names
      first | done | rfl)
  isplitl [H9]
  · iexists _; isplitr
    swap; · iexact H9
    ipureintro; exact (View.read_writes_full _ _ _ _ _).trans (by
      sl_unfold_run_names
      first | done | rfl)
  isplitl [H10]
  · iexists _; isplitr
    swap; · iexact H10
    ipureintro; exact (View.read_writes_full _ _ _ _ _).trans (by
      sl_unfold_run_names
      first | done | rfl)
  isplitl [H11]
  · iexists _; isplitr
    swap; · iexact H11
    ipureintro; exact (View.read_writes_full _ _ _ _ _).trans (by
      sl_unfold_run_names
      first | done | rfl)
  isplitl [H12]
  · iexists _; isplitr
    swap; · iexact H12
    ipureintro; exact (View.read_writes_full _ _ _ _ _).trans (by
      sl_unfold_run_names
      first | done | rfl)
  isplitl [H13]
  · iexists _; isplitr
    swap; · iexact H13
    ipureintro; exact (View.read_writes_full _ _ _ _ _).trans (by
      sl_unfold_run_names
      first | done | rfl)
  iexists _; isplitr
  swap; · iexact H14
  ipureintro; exact (View.read_writes_full _ _ _ _ _).trans (by
      sl_unfold_run_names
      first | done | rfl)

set_option maxHeartbeats 3200000 in
theorem runA (c : Dev nD) (i : grid1.Coords) (arg2 : Memref sig .tc .vmem S128x4096 .bf16) (harg2 : arg2.IsWhole) (arg3 : Memref sig .tc .vmem S128x4096 .bf16) (harg3 : arg3.IsWhole) (arg4 : Memref sig .tc .vmem S1x1x1x2048 .f32) (harg4 : arg4.IsWhole) (arg5 : Memref sig .tc .vmem S1x1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S128x4096 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (hc : cond i)
    (h : Vec F S128x4096 .bf16) (ct : Vec F S128x4096 .bf16) (hr : Vec F S1x1x1x2048 .f32) (hi : Vec F S1x1x1x2048 .f32) (ar : Vec F S1x2048 .f32) (ai : Vec F S1x2048 .f32) (E : Set ℕ) (K : PUnit → sProp 𝕄) :
    iprop(owns (c : Thread nD τ) arg2 fullShare h ∗ owns (c : Thread nD τ) arg3 fullShare ct ∗ owns (c : Thread nD τ) arg4 fullShare hr ∗ owns (c : Thread nD τ) arg5 fullShare hi ∗ owns (c : Thread nD τ) arg6 fullShare ar ∗ owns (c : Thread nD τ) arg7 fullShare ai ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare h ∗ owns (c : Thread nD τ) arg3 fullShare ct ∗ owns (c : Thread nD τ) arg4 fullShare hr ∗ owns (c : Thread nD τ) arg5 fullShare hi ∗ owns (c : Thread nD τ) arg6 fullShare ar ∗ owns (c : Thread nD τ) arg7 fullShare ai ∗ owns (c : Thread nD τ) arg8 fullShare (dOut ct ar ai k1_pay6 k1_pay7) ∗ owns (c : Thread nD τ) arg9 fullShare (accR h ct hr hi ar ai k1_pay6 k1_pay7 k1_pay8) ∗ owns (c : Thread nD τ) arg10 fullShare (accI h ct hr hi ar ai k1_pay6 k1_pay7 k1_pay9) ∗ owns (c : Thread nD τ) arg11 fullShare (gR ct ar ai k1_pay6 k1_pay7) ∗ owns (c : Thread nD τ) arg12 fullShare (gI ct ar ai k1_pay6 k1_pay7) ∗ owns (c : Thread nD τ) arg13 fullShare (k1_pay4 (accR h ct hr hi ar ai k1_pay6 k1_pay7 k1_pay8)) ∗ owns (c : Thread nD τ) arg14 fullShare (k1_pay5 (accI h ct hr hi ar ai k1_pay6 k1_pay7 k1_pay9))) -∗ K ⟨⟩))
      ⊢ wp frame (wpE (defs₀ (F := F)) Variants.none c none) E (cc1_s5_scan_bwd i arg2 harg2 arg3 harg3 arg4 harg4 arg5 harg5 arg6 harg6 arg7 harg7 arg8 harg8 arg9 harg9 arg10 harg10 arg11 harg11 arg12 harg12 arg13 harg13 arg14 harg14) K := by
  simp only [cc1_s5_scan_bwd_eq_skeleton]; unfold cc1_s5_scan_bwd_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  have e2 : ∀ inb, arg2.view.readAt (Elt F) (Rect.unit ![0, 0] ![128, 4096] inb).toLoadRect (harg2.unread h) = h :=
    fun inb => (View.readAt_full _ _ _).trans (harg2.read_unread h)
  have e3 : ∀ inb, arg3.view.readAt (Elt F) (Rect.unit ![0, 0] ![128, 4096] inb).toLoadRect (harg3.unread ct) = ct :=
    fun inb => (View.readAt_full _ _ _).trans (harg3.read_unread ct)
  have e4 : ∀ inb, arg4.view.readAt (Elt F) (Rect.unit ![0, 0, 0, 0] ![1, 1, 1, 2048] inb).toLoadRect (harg4.unread hr) = hr :=
    fun inb => (View.readAt_full _ _ _).trans (harg4.read_unread hr)
  have e5 : ∀ inb, arg5.view.readAt (Elt F) (Rect.unit ![0, 0, 0, 0] ![1, 1, 1, 2048] inb).toLoadRect (harg5.unread hi) = hi :=
    fun inb => (View.readAt_full _ _ _).trans (harg5.read_unread hi)
  have e6 : ∀ inb, arg6.view.readAt (Elt F) (Rect.unit ![0, 0] ![1, 2048] inb).toLoadRect (harg6.unread ar) = ar :=
    fun inb => (View.readAt_full _ _ _).trans (harg6.read_unread ar)
  have e7 : ∀ inb, arg7.view.readAt (Elt F) (Rect.unit ![0, 0] ![1, 2048] inb).toLoadRect (harg7.unread ai) = ai :=
    fun inb => (View.readAt_full _ _ _).trans (harg7.read_unread ai)
  have e11 : ∀ inb inb', arg11.view.readCov (Val := Elt F) [⟨Rect.unit ![0, 0] S1x2048.size inb, k1_pay6 (F := F)⟩] (Rect.unit ![0, 0] S1x2048.size inb').toLoadRect = k1_pay6 (F := F) :=
    fun inb inb' => View.readCov_full _ _ _ _ _
  have e12 : ∀ inb inb', arg12.view.readCov (Val := Elt F) [⟨Rect.unit ![0, 0] S1x2048.size inb, k1_pay7 (F := F)⟩] (Rect.unit ![0, 0] S1x2048.size inb').toLoadRect = k1_pay7 (F := F) :=
    fun inb inb' => View.readCov_full _ _ _ _ _
  have e13 : ∀ inb inb', arg13.view.readCov (Val := Elt F) [⟨Rect.unit ![0, 0] S1x2048.size inb, k1_pay8 (F := F)⟩] (Rect.unit ![0, 0] S1x2048.size inb').toLoadRect = k1_pay8 (F := F) :=
    fun inb inb' => View.readCov_full _ _ _ _ _
  have e14 : ∀ inb inb', arg14.view.readCov (Val := Elt F) [⟨Rect.unit ![0, 0] S1x2048.size inb, k1_pay9 (F := F)⟩] (Rect.unit ![0, 0] S1x2048.size inb').toLoadRect = k1_pay9 (F := F) :=
    fun inb inb' => View.readCov_full _ _ _ _ _
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro; exact (View.read_writes_full _ _ _ _ _).trans (by
      sl_unfold_run_names
      try simp only [e11, e12, e13, e14]
      first | done | rfl)
  isplitl [H9]
  · iexists _; isplitr
    swap; · iexact H9
    ipureintro; exact (View.read_writes_full _ _ _ _ _).trans (by
      sl_unfold_run_names
      try simp only [e11, e12, e13, e14]
      first | done | rfl)
  isplitl [H10]
  · iexists _; isplitr
    swap; · iexact H10
    ipureintro; exact (View.read_writes_full _ _ _ _ _).trans (by
      sl_unfold_run_names
      try simp only [e11, e12, e13, e14]
      first | done | rfl)
  isplitl [H11]
  · iexists _; isplitr
    swap; · iexact H11
    ipureintro; exact (View.read_writes_full _ _ _ _ _).trans (by
      sl_unfold_run_names
      try simp only [e11, e12, e13, e14]
      first | done | rfl)
  isplitl [H12]
  · iexists _; isplitr
    swap; · iexact H12
    ipureintro; exact (View.read_writes_full _ _ _ _ _).trans (by
      sl_unfold_run_names
      try simp only [e11, e12, e13, e14]
      first | done | rfl)
  isplitl [H13]
  · iexists _; isplitr
    swap; · iexact H13
    ipureintro; exact (View.read_writes_full _ _ _ _ _).trans (by
      sl_unfold_run_names
      try simp only [e11, e12, e13, e14]
      first | done | rfl)
  iexists _; isplitr
  swap; · iexact H14
  ipureintro; exact (View.read_writes_full _ _ _ _ _).trans (by
      sl_unfold_run_names
      try simp only [e11, e12, e13, e14]
      first | done | rfl)

end Cert.Proof.Bwd

end
-- ==== Proof.BwdDat.lean ====
module

public import proofs.«01_k».proof.Proof.Bwd

@[expose] public section

set_option maxRecDepth 16384

noncomputable section

namespace Cert.Proof.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The proof data, at the contents the region finds -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input blocks at their own types. -/
abbrev b0 (c : Dev nD) (t : Fin cfg1.N) : Vec F S128x4096 .bf16 := iblk V c 0 t
abbrev b1 (c : Dev nD) (t : Fin cfg1.N) : Vec F S128x4096 .bf16 := iblk V c 1 t
abbrev b2 (c : Dev nD) (t : Fin cfg1.N) : Vec F S1x1x1x2048 .f32 := iblk V c 2 t
abbrev b3 (c : Dev nD) (t : Fin cfg1.N) : Vec F S1x1x1x2048 .f32 := iblk V c 3 t
abbrev b4 (c : Dev nD) (t : Fin cfg1.N) : Vec F S1x2048 .f32 := iblk V c 4 t
abbrev b5 (c : Dev nD) (t : Fin cfg1.N) : Vec F S1x2048 .f32 := iblk V c 5 t

/-- The carried state before point `n`: the start values, then what each block leaves. -/
def stateAt (c : Dev nD) : ℕ → Vec F S1x2048 .f32 × Vec F S1x2048 .f32 × Vec F S1x2048 .f32 × Vec F S1x2048 .f32
  | 0 => (k1_pay6, k1_pay7, k1_pay8, k1_pay9)
  | n + 1 => if h : n < cfg1.N then
      (gR (b1 V c ⟨n, h⟩) (b4 V c ⟨n, h⟩) (b5 V c ⟨n, h⟩) (stateAt c n).1 (stateAt c n).2.1,
       gI (b1 V c ⟨n, h⟩) (b4 V c ⟨n, h⟩) (b5 V c ⟨n, h⟩) (stateAt c n).1 (stateAt c n).2.1,
       k1_pay4 (accR (b0 V c ⟨n, h⟩) (b1 V c ⟨n, h⟩) (b2 V c ⟨n, h⟩) (b3 V c ⟨n, h⟩) (b4 V c ⟨n, h⟩) (b5 V c ⟨n, h⟩) (stateAt c n).1 (stateAt c n).2.1 (stateAt c n).2.2.1),
       k1_pay5 (accI (b0 V c ⟨n, h⟩) (b1 V c ⟨n, h⟩) (b2 V c ⟨n, h⟩) (b3 V c ⟨n, h⟩) (b4 V c ⟨n, h⟩) (b5 V c ⟨n, h⟩) (stateAt c n).1 (stateAt c n).2.1 (stateAt c n).2.2.2))
    else stateAt c n

theorem stateAt_succ (c : Dev nD) (t : Fin cfg1.N) : stateAt V c (t.val + 1)
    = (gR (b1 V c t) (b4 V c t) (b5 V c t) (stateAt V c t.val).1 (stateAt V c t.val).2.1,
       gI (b1 V c t) (b4 V c t) (b5 V c t) (stateAt V c t.val).1 (stateAt V c t.val).2.1,
       k1_pay4 (accR (b0 V c t) (b1 V c t) (b2 V c t) (b3 V c t) (b4 V c t) (b5 V c t) (stateAt V c t.val).1 (stateAt V c t.val).2.1 (stateAt V c t.val).2.2.1),
       k1_pay5 (accI (b0 V c t) (b1 V c t) (b2 V c t) (b3 V c t) (b4 V c t) (b5 V c t) (stateAt V c t.val).1 (stateAt V c t.val).2.1 (stateAt V c t.val).2.2.2)) :=
  dif_pos t.isLt

abbrev sc0 : Memref sig .tc .vmem S1x2048 .f32 := Memref.whole cc1_scratch0
abbrev sc1 : Memref sig .tc .vmem S1x2048 .f32 := Memref.whole cc1_scratch1
abbrev sc2 : Memref sig .tc .vmem S1x2048 .f32 := Memref.whole cc1_scratch2
abbrev sc3 : Memref sig .tc .vmem S1x2048 .f32 := Memref.whole cc1_scratch3

/-- The buffers of the other region, at anything. -/
abbrev rest (c : Dev nD) : sProp 𝕄 := Pipeline.scopedRestBut (Ix := Unit) (Name := ℕ) (U := UR sig nD τ) (Lvl := ℕ) (Val := Elt F) spec1 c [cc1_scratch0, cc1_scratch1, cc1_scratch2, cc1_scratch3]

/-- What holds before point `n`: the scratch at anything before the first point, at the carried state afterwards. -/
def Phi (c : Dev nD) : ℕ → sProp 𝕄
  | 0 => iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ rest c)
  | n + 1 => iprop(owns (c : Thread nD τ) sc0 fullShare (stateAt V c (n + 1)).1 ∗ owns (c : Thread nD τ) sc1 fullShare (stateAt V c (n + 1)).2.1 ∗ owns (c : Thread nD τ) sc2 fullShare (stateAt V c (n + 1)).2.2.1 ∗ owns (c : Thread nD τ) sc3 fullShare (stateAt V c (n + 1)).2.2.2 ∗ rest c)

/-- The region's proof data: the arrays as found; after the body an input's block as fetched, an output's the step's result. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => dOut (b1 V c t) (b4 V c t) (b5 V c t) (stateAt V c t.val).1 (stateAt V c t.val).2.1
    | ⟨7, _⟩ => accR (b0 V c t) (b1 V c t) (b2 V c t) (b3 V c t) (b4 V c t) (b5 V c t) (stateAt V c t.val).1 (stateAt V c t.val).2.1 (stateAt V c t.val).2.2.1
    | ⟨8, _⟩ => accI (b0 V c t) (b1 V c t) (b2 V c t) (b3 V c t) (b4 V c t) (b5 V c t) (stateAt V c t.val).1 (stateAt V c t.val).2.1 (stateAt V c t.val).2.2.2
  Φ t := Phi V c t.val
  q _ := fullShare
  owed _ := 0

theorem A_eq (c : Dev nD) (w : Fin cfg1.W) : (dat V c).A w = V c (Pipeline.arrRef spec1 w) := by dsimp only [dat]
theorem Phi_succ_eq (c : Dev nD) (t : Fin cfg1.N) : (dat V c).Φ t.succ = iprop(owns (c : Thread nD τ) sc0 fullShare (stateAt V c (t.val + 1)).1 ∗ owns (c : Thread nD τ) sc1 fullShare (stateAt V c (t.val + 1)).2.1 ∗ owns (c : Thread nD τ) sc2 fullShare (stateAt V c (t.val + 1)).2.2.1 ∗ owns (c : Thread nD τ) sc3 fullShare (stateAt V c (t.val + 1)).2.2.2 ∗ rest c) := rfl
theorem Phi_zero (c : Dev nD) (n : ℕ) (h : n = 0) : Phi V c n = iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ rest c) := by
  subst h; rfl
theorem Phi_pos (c : Dev nD) (n : ℕ) (h : n ≠ 0) : Phi V c n = iprop(owns (c : Thread nD τ) sc0 fullShare (stateAt V c n).1 ∗ owns (c : Thread nD τ) sc1 fullShare (stateAt V c n).2.1 ∗ owns (c : Thread nD τ) sc2 fullShare (stateAt V c n).2.2.1 ∗ owns (c : Thread nD τ) sc3 fullShare (stateAt V c n).2.2.2 ∗ rest c) := by
  cases n with
  | zero => exact absurd rfl h
  | succ n => rfl

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = dOut (b1 V c t) (b4 V c t) (b5 V c t) (stateAt V c t.val).1 (stateAt V c t.val).2.1 := by dsimp only [dat]
theorem after_7 (c : Dev nD) (t : Fin cfg1.N) : (dat V c).after 7 t = accR (b0 V c t) (b1 V c t) (b2 V c t) (b3 V c t) (b4 V c t) (b5 V c t) (stateAt V c t.val).1 (stateAt V c t.val).2.1 (stateAt V c t.val).2.2.1 := by dsimp only [dat]
theorem after_8 (c : Dev nD) (t : Fin cfg1.N) : (dat V c).after 8 t = accI (b0 V c t) (b1 V c t) (b2 V c t) (b3 V c t) (b4 V c t) (b5 V c t) (stateAt V c t.val).1 (stateAt V c t.val).2.1 (stateAt V c t.val).2.2.2 := by dsimp only [dat]

/-! An input's staging buffer holds its block at every point. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
abbrev ms0 (t : Fin cfg1.N) : Memref sig .tc .vmem S128x4096 .bf16 := win1_0.stage (cfg1.slots t 0)
abbrev ms1 (t : Fin cfg1.N) : Memref sig .tc .vmem S128x4096 .bf16 := win1_1.stage (cfg1.slots t 1)
abbrev ms2 (t : Fin cfg1.N) : Memref sig .tc .vmem S1x1x1x2048 .f32 := win1_2.stage (cfg1.slots t 2)
abbrev ms3 (t : Fin cfg1.N) : Memref sig .tc .vmem S1x1x1x2048 .f32 := win1_3.stage (cfg1.slots t 3)
abbrev ms4 (t : Fin cfg1.N) : Memref sig .tc .vmem S1x2048 .f32 := win1_4.stage (cfg1.slots t 4)
abbrev ms5 (t : Fin cfg1.N) : Memref sig .tc .vmem S1x2048 .f32 := win1_5.stage (cfg1.slots t 5)
abbrev ms6 (t : Fin cfg1.N) : Memref sig .tc .vmem S128x4096 .bf16 := win1_6.stage (cfg1.slots t 6)
abbrev ms7 (t : Fin cfg1.N) : Memref sig .tc .vmem S1x2048 .f32 := win1_7.stage (cfg1.slots t 7)
abbrev ms8 (t : Fin cfg1.N) : Memref sig .tc .vmem S1x2048 .f32 := win1_8.stage (cfg1.slots t 8)

/-- What the body is called with at point `t` and what it returns. -/
def bodyPre (c : Dev nD) (t : Fin cfg1.N) : sProp 𝕄 :=
  iprop((dat V c).Φ t.castSucc
    ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d)))

def bodyPost (c : Dev nD) (t : Fin cfg1.N) : sProp 𝕄 :=
  iprop((dat V c).Φ t.succ
    ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t))

set_option maxHeartbeats 3200000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl,
    after_0, after_1, after_2, after_3, after_4, after_5, after_6, after_7, after_8]
  rw [Phi_succ_eq, stateAt_succ]
  rw [show (dat V c).Φ t.castSucc = Phi V c t.val from rfl]
  have hN : t.val < 64 := lt_of_lt_of_eq t.isLt (show cfg1.N = 64 from N_1)
  by_cases h0 : t.val = 0
  · rw [Phi_zero V c _ h0]
    have hs : stateAt V c t.val = (k1_pay6, k1_pay7, k1_pay8, k1_pay9) := by rw [h0]; rfl
    rw [hs]
    iintro ⟨⟨HS0, HS1, HS2, HS3, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid1.coords t) _ _ _ _ _ _ _ _ _ _ _ _ _ _ _ _ _ _ _ _ _ _ _ _ _ _ ((hcond t).mpr (by omega)) (b0 V c t) (b1 V c t) (b2 V c t) (b3 V c t) (b4 V c t) (b5 V c t)  Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hr]
    · isplitl [HS0]; · iexact HS0
      isplitl [HS1]; · iexact HS1
      isplitl [HS2]; · iexact HS2
      isplitl [HS3]; · iexact HS3
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

  · rw [Phi_pos V c _ h0]
    iintro ⟨⟨HS0, HS1, HS2, HS3, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid1.coords t) _ _ _ _ _ _ _ _ _ _ _ _ _ _ _ _ _ _ _ _ _ _ _ _ _ _ (fun h => h0 (by have := (hcond t).mp h; omega)) (b0 V c t) (b1 V c t) (b2 V c t) (b3 V c t) (b4 V c t) (b5 V c t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hr]
    · isplitl [HS0]; · iexact HS0
      isplitl [HS1]; · iexact HS1
      isplitl [HS2]; · iexact HS2
      isplitl [HS3]; · iexact HS3
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg1.N) : defs₀ (F := F) .tc cfg1.body (cfg1.bodyArgs t (cfg1.slots t)) = bodyAt1 t := by
  unfold defs₀; rw [Defs.onTc_tc]

/-- The pipeline library's obligation for the body, at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- The scoped buffers split into the scratch and the other region's. -/
theorem scopedRest_eq (c : Dev nD) : (Pipeline.scopedRest (Ix := Unit) (Name := ℕ) (U := UR sig nD τ) (Lvl := ℕ) (Val := Elt F) spec1 c : sProp 𝕄)
    = iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ rest c) := by
  rw [Pipeline.scopedRest_split_of_list spec1 c [cc1_scratch0, cc1_scratch1, cc1_scratch2, cc1_scratch3] (by decide) (by decide)]
  simp only [sc0, sc1, sc2, sc3, owns_whole]
  rw [bigSepL_cons_cons, bigSepL_cons_cons, bigSepL_cons_cons, bigSepL_singleton]
  have sa : ∀ P Q R : sProp 𝕄, BI.sep (BI.sep P Q) R = BI.sep P (BI.sep Q R) := fun _ _ _ => BI.Entails.antisymm BI.sep_assoc BI.sep_assoc'
  simp only [sa]
  rfl

theorem hin (c : Dev nD) : (Pipeline.scopedRest (Ix := Unit) (Name := ℕ) (U := UR sig nD τ) (Lvl := ℕ) (Val := Elt F) spec1 c : sProp 𝕄) ⊢ (dat V c).Φ 0 := by
  rw [scopedRest_eq, show (dat V c).Φ 0 = Phi V c 0 from rfl, Phi_zero V c 0 rfl]

theorem hout (c : Dev nD) : (dat V c).Φ (Fin.last _) ⊢ (Pipeline.scopedRest (Ix := Unit) (Name := ℕ) (U := UR sig nD τ) (Lvl := ℕ) (Val := Elt F) spec1 c : sProp 𝕄) := by
  rw [scopedRest_eq, show (dat V c).Φ (Fin.last _) = Phi V c cfg1.N from rfl, Phi_pos V c _ (by rw [show cfg1.N = 64 from N_1]; decide)]
  iintro ⟨HS0, HS1, HS2, HS3, Hr⟩
  isplitl [HS0]; · iexists _; iexact HS0
  isplitl [HS1]; · iexists _; iexact HS1
  isplitl [HS2]; · iexists _; iexact HS2
  isplitl [HS3]; · iexists _; iexact HS3
  iexact Hr

end Cert.Proof.Bwd

end
-- ==== Proof.Run.lean ====
module

public import proofs.«01_k».proof.Proof.FwdDat
public import proofs.«01_k».proof.Proof.BwdDat
public import Idealize.ShloMosaic.Lib.Pipeline.Regions
public import Idealize.ShloMosaic.Lib.Pipeline.RegionsLoop

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0

/-! ## The buffers' contents between the two regions -/

/-- At launch. -/
def W0 (c : Dev nD) : Valuation τ sig (Elt F) := fun b => m (c, b)
abbrev VA (c : Dev nD) (b : Ref sig .tc) : Buf (Elt F) ((c : Thread nD τ).loc b) := W0 m c b

/-- What region 0 leaves: its three results at what the pipeline wrote back, everything else as found. -/
def W1 (c : Dev nD) : Valuation τ sig (Elt F) :=
  Function.update (Function.update (Function.update (W0 m c) main_v0_0 ((Fwd.dat (VA m) c).arrAt 3 cfg0.N))
    main_v0_1 ((Fwd.dat (VA m) c).arrAt 4 cfg0.N)) main_v0_2 ((Fwd.dat (VA m) c).arrAt 5 cfg0.N)
abbrev VB (c : Dev nD) (b : Ref sig .tc) : Buf (Elt F) ((c : Thread nD τ).loc b) := W1 m c b

theorem VB_of (c : Dev nD) (r : Ref sig .tc) (h : r ∉ ([main_v0_0, main_v0_1, main_v0_2] : List (Ref sig .tc))) : VB m c r = VA m c r := by
  have h0 : r ≠ main_v0_0 := fun e => h (by rw [e]; decide)
  have h1 : r ≠ main_v0_1 := fun e => h (by rw [e]; decide)
  have h2 : r ≠ main_v0_2 := fun e => h (by rw [e]; decide)
  show Function.update _ _ _ _ = _
  rw [Function.update_of_ne (StableHlo.devRef_ne_of_ne h2), Function.update_of_ne (StableHlo.devRef_ne_of_ne h1), Function.update_of_ne (StableHlo.devRef_ne_of_ne h0)]
theorem VB_out0 (c : Dev nD) : VB m c main_v0_0 = (Fwd.dat (VA m) c).arrAt 3 cfg0.N := by
  show Function.update _ _ _ _ = _
  rw [Function.update_of_ne (StableHlo.devRef_ne_of_ne (by decide)), Function.update_of_ne (StableHlo.devRef_ne_of_ne (by decide)), Function.update_self]
theorem VB_out1 (c : Dev nD) : VB m c main_v0_1 = (Fwd.dat (VA m) c).arrAt 4 cfg0.N := by
  show Function.update _ _ _ _ = _
  rw [Function.update_of_ne (StableHlo.devRef_ne_of_ne (by decide)), Function.update_self]
theorem VB_out2 (c : Dev nD) : VB m c main_v0_2 = (Fwd.dat (VA m) c).arrAt 5 cfg0.N := by
  show Function.update _ _ _ _ = _
  rw [Function.update_self]

/-- What region 1 leaves: its three results at what the pipeline wrote back, everything else as found. -/
def W2 (c : Dev nD) : Valuation τ sig (Elt F) :=
  Function.update (Function.update (Function.update (W1 m c) main_v1_0 ((Bwd.dat (VB m) c).arrAt 6 cfg1.N))
    main_v1_1 ((Bwd.dat (VB m) c).arrAt 7 cfg1.N)) main_v1_2 ((Bwd.dat (VB m) c).arrAt 8 cfg1.N)
abbrev VC (c : Dev nD) (b : Ref sig .tc) : Buf (Elt F) ((c : Thread nD τ).loc b) := W2 m c b

theorem VC_of (c : Dev nD) (r : Ref sig .tc) (h : r ∉ ([main_v1_0, main_v1_1, main_v1_2] : List (Ref sig .tc))) : VC m c r = VB m c r := by
  have h0 : r ≠ main_v1_0 := fun e => h (by rw [e]; decide)
  have h1 : r ≠ main_v1_1 := fun e => h (by rw [e]; decide)
  have h2 : r ≠ main_v1_2 := fun e => h (by rw [e]; decide)
  show Function.update _ _ _ _ = _
  rw [Function.update_of_ne (StableHlo.devRef_ne_of_ne h2), Function.update_of_ne (StableHlo.devRef_ne_of_ne h1), Function.update_of_ne (StableHlo.devRef_ne_of_ne h0)]
theorem VC_out0 (c : Dev nD) : VC m c main_v1_0 = (Bwd.dat (VB m) c).arrAt 6 cfg1.N := by
  show Function.update _ _ _ _ = _
  rw [Function.update_of_ne (StableHlo.devRef_ne_of_ne (by decide)), Function.update_of_ne (StableHlo.devRef_ne_of_ne (by decide)), Function.update_self]
theorem VC_out1 (c : Dev nD) : VC m c main_v1_1 = (Bwd.dat (VB m) c).arrAt 7 cfg1.N := by
  show Function.update _ _ _ _ = _
  rw [Function.update_of_ne (StableHlo.devRef_ne_of_ne (by decide)), Function.update_self]
theorem VC_out2 (c : Dev nD) : VC m c main_v1_2 = (Bwd.dat (VB m) c).arrAt 8 cfg1.N := by
  show Function.update _ _ _ _ = _
  rw [Function.update_self]

theorem VC_arg (c : Dev nD) (r : Ref sig .tc) (h : r ∉ ([main_v1_0, main_v1_1, main_v1_2] : List (Ref sig .tc)))
    (h' : r ∉ ([main_v0_0, main_v0_1, main_v0_2] : List (Ref sig .tc))) : VC m c r = m ((c : Thread nD τ).loc r) :=
  (VC_of m c r h).trans (VB_of m c r h')

/-- The two pipelines' proof data. -/
def pdats : (p : Fin 2) → (c : Dev nD) → Dat τ (Elt F) Unit ℕ (UR sig nD τ) ℕ (cfgs p) c
  | ⟨0, _⟩ => fun c => Fwd.dat (VA m) c
  | ⟨1, _⟩ => fun c => Bwd.dat (VB m) c

/-- What rides along: the core owes nothing. -/
def Es (c : Dev nD) : sProp 𝕄 := iprop(∃ W, owes (c : Thread nD τ) (0 : CellTallies nD τ sig Unit) W)

set_option backward.isDefEq.respectTransparency.types false in
/-- Region 0 between the thread states "every unscoped buffer at `VA`" and "… at `VB`". -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Fwd.body_obligation (VA m) c).loose
  hwaits := Pipeline.hwaits_of_owed_zero _ _ _ _ L lv 0 fun _ _ => rfl
  pre c := iprop(unscopedBufs c (VA m c) ∗ Es c)
  post c := iprop(unscopedBufs c (VB m c) ∗ Es c)
  X _ := BI.emp
  Y _ := BI.emp
  Z c := iprop(Pipeline.unscopedRest (Ix := Unit) (Name := ℕ) (U := UR sig nD τ) (Lvl := ℕ) spec0 c (VA m c))
  hentry c := by
    rw [Pipeline.ownSems0_none]
    unfold Es
    have hsplit := Pipeline.arrays_of_unscopedBufs (p := 0) (pcfgs (F := F)) adm (pdats m) launch0.win launch0.arr_whole c
      ((pdats m 0 c).share_full fun _ => rfl) (VA m c) fun w => Fwd.A_eq (VA m) c w
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    have h : (Pipeline.scopedRest (Ix := Unit) (Name := ℕ) (U := UR sig nD τ) (Lvl := ℕ) (Val := Elt F) spec0 c : sProp 𝕄) ⊢ (pdats m 0 c).Φ 0 := Fwd.hin (VA m) c
    iintro ⟨-, -, Hr⟩; iapply h; iexact Hr
  hout c := by
    rw [Pipeline.ownSems0_none]
    have h : (pdats m 0 c).Φ (Fin.last _) ⊢ (Pipeline.scopedRest (Ix := Unit) (Name := ℕ) (U := UR sig nD τ) (Lvl := ℕ) (Val := Elt F) spec0 c : sProp 𝕄) := Fwd.hout (VA m) c
    iintro Hr
    isplitr; · iempintro
    isplitr; · iempintro
    iapply h; iexact Hr
  hexit c := by
    unfold Es
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (VA m c) (VB m c) ((pdats m 0 c).arrAt · cfg0.N)
      (fun w => by
        fin_cases w
        · exact ((pdats m 0 c).arrAt_in 0 rfl _).trans (VB_of m c main_arg0 (by decide)).symm
        · exact ((pdats m 0 c).arrAt_in 1 rfl _).trans (VB_of m c main_arg1 (by decide)).symm
        · exact ((pdats m 0 c).arrAt_in 2 rfl _).trans (VB_of m c main_arg2 (by decide)).symm
        · exact (VB_out0 m c).symm
        · exact (VB_out1 m c).symm
        · exact (VB_out2 m c).symm)
      (fun b hb => VB_of m c b (fun h => hb (by
        simp only [List.mem_cons, List.not_mem_nil, _root_.or_false] at h
        rcases h with rfl | rfl | rfl
        · exact Finset.mem_image.mpr ⟨3, Finset.mem_univ _, rfl⟩
        · exact Finset.mem_image.mpr ⟨4, Finset.mem_univ _, rfl⟩
        · exact Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Region 1 between the thread states "every unscoped buffer at `VB`" and "… at `VC`". -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Bwd.body_obligation (VB m) c).loose
  hwaits := Pipeline.hwaits_of_owed_zero _ _ _ _ L lv 1 fun _ _ => rfl
  pre c := iprop(unscopedBufs c (VB m c) ∗ Es c)
  post c := iprop(unscopedBufs c (VC m c) ∗ Es c)
  X _ := BI.emp
  Y _ := BI.emp
  Z c := iprop(Pipeline.unscopedRest (Ix := Unit) (Name := ℕ) (U := UR sig nD τ) (Lvl := ℕ) spec1 c (VB m c))
  hentry c := by
    rw [Pipeline.ownSems0_none]
    unfold Es
    have hsplit := Pipeline.arrays_of_unscopedBufs (p := 1) (pcfgs (F := F)) adm (pdats m) launch1.win launch1.arr_whole c
      ((pdats m 1 c).share_full fun _ => rfl) (VB m c) fun w => Bwd.A_eq (VB m) c w
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    have h : (Pipeline.scopedRest (Ix := Unit) (Name := ℕ) (U := UR sig nD τ) (Lvl := ℕ) (Val := Elt F) spec1 c : sProp 𝕄) ⊢ (pdats m 1 c).Φ 0 := Bwd.hin (VB m) c
    iintro ⟨-, -, Hr⟩; iapply h; iexact Hr
  hout c := by
    rw [Pipeline.ownSems0_none]
    have h : (pdats m 1 c).Φ (Fin.last _) ⊢ (Pipeline.scopedRest (Ix := Unit) (Name := ℕ) (U := UR sig nD τ) (Lvl := ℕ) (Val := Elt F) spec1 c : sProp 𝕄) := Bwd.hout (VB m) c
    iintro Hr
    isplitr; · iempintro
    isplitr; · iempintro
    iapply h; iexact Hr
  hexit c := by
    unfold Es
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (VB m c) (VC m c) ((pdats m 1 c).arrAt · cfg1.N)
      (fun w => by
        fin_cases w
        · exact ((pdats m 1 c).arrAt_in 0 rfl _).trans (VC_of m c main_v0_0 (by decide)).symm
        · exact ((pdats m 1 c).arrAt_in 1 rfl _).trans (VC_of m c main_arg3 (by decide)).symm
        · exact ((pdats m 1 c).arrAt_in 2 rfl _).trans (VC_of m c main_v0_1 (by decide)).symm
        · exact ((pdats m 1 c).arrAt_in 3 rfl _).trans (VC_of m c main_v0_2 (by decide)).symm
        · exact ((pdats m 1 c).arrAt_in 4 rfl _).trans (VC_of m c main_arg1 (by decide)).symm
        · exact ((pdats m 1 c).arrAt_in 5 rfl _).trans (VC_of m c main_arg2 (by decide)).symm
        · exact (VC_out0 m c).symm
        · exact (VC_out1 m c).symm
        · exact (VC_out2 m c).symm)
      (fun b hb => VC_of m c b (fun h => hb (by
        simp only [List.mem_cons, List.not_mem_nil, _root_.or_false] at h
        rcases h with rfl | rfl | rfl
        · exact Finset.mem_image.mpr ⟨6, Finset.mem_univ _, rfl⟩
        · exact Finset.mem_image.mpr ⟨7, Finset.mem_univ _, rfl⟩
        · exact Finset.mem_image.mpr ⟨8, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run of the whole program -/

/-- Every unscoped buffer ends at the last valuation. -/
def Final (s : MemSt nD τ sig (Elt F)) (c : Dev nD) : Prop :=
  ∀ b : Ref sig .tc, (Proc.devRef .tc b : DevRef τ sig) ∈ Pipeline.ucRefs τ sig → s.mem ((c : Thread nD τ).loc b) = VC m c b

theorem held_eq (c : Dev nD) (W : Valuation τ sig (Elt F)) :
    (unscopedBufs c (fun b => W b) : sProp 𝕄) = StableHlo.held (c : Thread nD τ) (Pipeline.ucRefs τ sig) W :=
  Pipeline.unscopedBufs_held (Ix := Unit) (Name := ℕ) (U := UR sig nD τ) (Lvl := ℕ) c W

set_option backward.isDefEq.respectTransparency.types false in
/-- From any memory with every counter at zero the program runs to an end with every unscoped buffer at the last
    valuation and every counter at zero. -/
theorem run_main : θ_run defs (onTc (τ := τ) (main (F := F))) ⟨m, fun _ => 0, ρ⟩ (fun r => (∀ c : Dev nD, Final m r.2 c) ∧ r.2.sem = fun _ => 0) := by
  refine Pipeline.θ_run_regions_kit_dev_sems (pcfgs (F := F)) adm (pdats m) () cellOf_inj (emb₁ : Emb (UR sig nD τ) 𝕄) defs₀ 𝒱₀ L lv m ρ main
    (fun _ => [.region (reg0 m), .region (reg1 m)])
    (fun c Q => by
      rewrite [main_chain c, Seg.run_eq_chain]
      exact .rfl)
    (fun c => by simp only [Seg.pipes_region, Seg.pipes_nil]; decide) (fun _ => 0) (fun _ _ => rfl) (fun _ => BI.emp)
    (initOf (Pipeline.cells cfgs cellOf_inj) (Pipeline.launchToks cfgs cellOf_inj)) ?_
    (T₀ := fun c => iprop(unscopedBufs c (VA m c) ∗ Es c))
    (Tₙ := fun c => unscopedBufs c (VC m c))
    (hch := fun c => ⟨.rfl, .rfl, .rfl⟩)
    (hinit := ?_) (QY := fun c s => Final m s c)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  · iintro ⟨H, -⟩
    imodintro
    have hm : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(unscopedBufs c (VA m c) ∗ Es c) : sProp 𝕄) :=
      bigSep_mono fun c _ => show iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp) ⊢ (iprop(unscopedBufs c (VA m c) ∗ Es c) : sProp 𝕄) from by
        iintro ⟨Hb, -, HO, -⟩
        isplitl [Hb]; · iexact Hb
        unfold Es; iexists _; iexact HO
    iapply hm; iexact H
  · rw [held_eq c (W2 m c)]
    unfold StableHlo.held
    iintro ⟨Hh, HSI⟩
    ihave Hr := (pointsTo_read_all (Pipeline.ucRefs τ sig) (fun b => ((c : Thread nD τ).1, b)) (W2 m c) s') $$ [Hh HSI]
    · isplitl [Hh] <;> iassumption
    icases Hr with ⟨%h, HSI⟩
    imodintro
    isplitr
    · ipureintro
      exact fun b hb => h (Proc.devRef .tc b) hb
    · iexact HSI

theorem uc (b : Ref sig .tc) (h : ¬ (Proc.devRef .tc b : DevRef τ sig).isScoped) : (Proc.devRef .tc b : DevRef τ sig) ∈ Pipeline.ucRefs τ sig :=
  Finset.mem_filter.mpr ⟨StableHlo.devRef_mem_tcRefs b, h⟩

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c main_arg0 (uc _ (by decide))).trans (VC_arg m c _ (by decide) (by decide)),
     (h.1 c main_arg1 (uc _ (by decide))).trans (VC_arg m c _ (by decide) (by decide)),
     (h.1 c main_arg2 (uc _ (by decide))).trans (VC_arg m c _ (by decide) (by decide)),
     (h.1 c main_arg3 (uc _ (by decide))).trans (VC_arg m c _ (by decide) (by decide))⟩, h.2⟩) (run_main m ρ)

/-- The values: the three results end at what region 1 wrote back. -/
theorem values : θ_run defs (onTc (τ := τ) (main (F := F))) ⟨m, fun _ => 0, ρ⟩ (fun r => ∀ c : Dev nD,
      r.2.mem ((c.tc : Thread nD τ).loc main_v1_0) = (Bwd.dat (VB m) c).arrAt 6 cfg1.N
      ∧ r.2.mem ((c.tc : Thread nD τ).loc main_v1_1) = (Bwd.dat (VB m) c).arrAt 7 cfg1.N
      ∧ r.2.mem ((c.tc : Thread nD τ).loc main_v1_2) = (Bwd.dat (VB m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h.1 c main_v1_0 (uc _ (by decide))).trans (VC_out0 m c),
     (h.1 c main_v1_1 (uc _ (by decide))).trans (VC_out1 m c),
     (h.1 c main_v1_2 (uc _ (by decide))).trans (VC_out2 m c),
     (h.1 c main_arg0 (uc _ (by decide))).trans (VC_arg m c _ (by decide) (by decide)),
     (h.1 c main_arg1 (uc _ (by decide))).trans (VC_arg m c _ (by decide) (by decide)),
     (h.1 c main_arg2 (uc _ (by decide))).trans (VC_arg m c _ (by decide) (by decide)),
     (h.1 c main_arg3 (uc _ (by decide))).trans (VC_arg m c _ (by decide) (by decide))⟩) (run_main m ρ)

end Cert.Proof.Run

end
-- ==== Proof.RefOps.lean ====
/-
  The operations of the reference program: its two host loops (the recurrence forward in time, and the transposed
  recurrence backward in time) and the stretches before, between and after them, as lists of operations.
-/
module

public import proofs.«01_k».proof.Proof.Gen.ReferenceIdeal
public import Idealize.ShloMosaic.Lib.StableHlo.RunLoop
public import Idealize.ShloMosaic.Lib.Pipeline.Regions

@[expose] public section

noncomputable section

namespace Cert.Proof.Ref

open Cert.ReferenceIdeal Cert.ReferenceIdeal.Gen

open Idealize.ShloMosaic
open Idealize.ShloMosaic.TcCoe
open Idealize.SL Idealize.SL.Sem
open Idealize.ShloMosaic.StableHlo (Plain seq)

variable {F : FTy → Type} [FloatOps F]

/-- A buffer's contents. -/
abbrev T (F : FTy → Type) (s : Shape) (e : EltTy) : Type := (⟨s, e⟩ : BufTy).Contents (Elt F)

/-- The operations of @main before the first loop. -/
abbrev preOps : List (HloOp τ sig (Elt F)) :=
  [ StableHlo.unary main_arg0 main_v0 ((extf .f32 · bitsLt_bf16_f32) : T F S8192x4096 .bf16 → T F S8192x4096 .f32),
    StableHlo.reshape main_v0 main_v1 rfl shapeCasts_S8192x4096_S8192x4x2x512,
    StableHlo.unary main_v1 main_v2 ((extractStridedSlice S8192x4x1x512 ![0, 0, 0, 0] · slices_S8192x4x2x512_S8192x4x1x512_0_0_0_0) : T F S8192x4x2x512 .f32 → T F S8192x4x1x512 .f32),
    StableHlo.reshape main_v2 main_v3 rfl shapeCasts_S8192x4x1x512_S8192x4x512,
    StableHlo.reshape main_v3 main_v4 rfl shapeCasts_S8192x4x512_S8192x2048,
    StableHlo.unary main_v1 main_v5 ((extractStridedSlice S8192x4x1x512 ![0, 0, 1, 0] · slices_S8192x4x2x512_S8192x4x1x512_0_0_1_0) : T F S8192x4x2x512 .f32 → T F S8192x4x1x512 .f32),
    StableHlo.reshape main_v5 main_v6 rfl shapeCasts_S8192x4x1x512_S8192x4x512,
    StableHlo.reshape main_v6 main_v7 rfl shapeCasts_S8192x4x512_S8192x2048,
    StableHlo.reshape main_arg1 main_v8 rfl shapeCasts_S1x2048_S2048,
    StableHlo.reshape main_arg2 main_v9 rfl shapeCasts_S1x2048_S2048,
    StableHlo.nullary main_cst (constant S_ .f32 0x00000000#32),
    StableHlo.unary main_cst main_v10 (broadcastInDim S2048 ![] bcast_S_S2048 : T F S_ .f32 → T F S2048 .f32),
    StableHlo.nullary main_cst_0 (constant S_ .f32 0x00000000#32),
    StableHlo.unary main_cst_0 main_v11 (broadcastInDim S2048 ![] bcast_S_S2048 : T F S_ .f32 → T F S2048 .f32),
    StableHlo.nullary main_cst_1 (constant S_ .f32 0x00000000#32),
    StableHlo.unary main_cst_1 main_v12 (broadcastInDim S8192x2048 ![] bcast_S_S8192x2048 : T F S_ .f32 → T F S8192x2048 .f32),
    StableHlo.nullary main_cst_2 (constant S_ .f32 0x00000000#32),
    StableHlo.unary main_cst_2 main_v13 (broadcastInDim S8192x2048 ![] bcast_S_S8192x2048 : T F S_ .f32 → T F S8192x2048 .f32),
    StableHlo.nullary main_cst_3 (constant S_ .f32 0x00000000#32),
    StableHlo.unary main_cst_3 main_v14 (broadcastInDim S8192x2048 ![] bcast_S_S8192x2048 : T F S_ .f32 → T F S8192x2048 .f32),
    StableHlo.nullary main_cst_4 (constant S_ .f32 0x00000000#32),
    StableHlo.unary main_cst_4 main_v15 (broadcastInDim S8192x2048 ![] bcast_S_S8192x2048 : T F S_ .f32 → T F S8192x2048 .f32),
    StableHlo.nullary main_c (constantI S_ 32 0#32),
    StableHlo.unary main_v4 main_v16_0 id,
    StableHlo.unary main_v7 main_v16_1 id,
    StableHlo.unary main_v8 main_v16_2 id,
    StableHlo.unary main_v9 main_v16_3 id,
    StableHlo.unary main_c main_v16_4 id,
    StableHlo.unary main_v10 main_v16_5 id,
    StableHlo.unary main_v11 main_v16_6 id,
    StableHlo.unary main_v12 main_v16_7 id,
    StableHlo.unary main_v13 main_v16_8 id,
    StableHlo.unary main_v14 main_v16_9 id,
    StableHlo.unary main_v15 main_v16_10 id ]

/-- The operations between the loops, in the first window of @main, -/
abbrev midOps0 : List (HloOp τ sig (Elt F)) :=
  [ StableHlo.reshape main_v16_7 main_v17 rfl shapeCasts_S8192x2048_S8192x4x512,
    StableHlo.reshape main_v16_8 main_v18 rfl shapeCasts_S8192x2048_S8192x4x512,
    StableHlo.unary main_v17 main_v19 (broadcastInDim S8192x4x1x512 ![0, 1, 3] bcast_S8192x4x512_S8192x4x1x512_0_1_3 : T F S8192x4x512 .f32 → T F S8192x4x1x512 .f32),
    StableHlo.unary main_v18 main_v20 (broadcastInDim S8192x4x1x512 ![0, 1, 3] bcast_S8192x4x512_S8192x4x1x512_0_1_3 : T F S8192x4x512 .f32 → T F S8192x4x1x512 .f32),
    StableHlo.binary main_v19 main_v20 main_v21 ((fun a b => concatenate S8192x4x2x512 2 [⟨S8192x4x1x512, a⟩, ⟨S8192x4x1x512, b⟩] concatenates_S8192x4x1x512_S8192x4x1x512_S8192x4x2x512_d2) : T F S8192x4x1x512 .f32 → T F S8192x4x1x512 .f32 → T F S8192x4x2x512 .f32),
    StableHlo.reshape main_v21 main_v22 rfl shapeCasts_S8192x4x2x512_S8192x4096,
    StableHlo.unary main_arg3 main_v23 ((extf .f32 · bitsLt_bf16_f32) : T F S8192x4096 .bf16 → T F S8192x4096 .f32),
    StableHlo.nullary main_cst_5 (constant S_ .f32 0x00000000#32),
    StableHlo.unary main_cst_5 main_v24 (broadcastInDim S2048 ![] bcast_S_S2048 : T F S_ .f32 → T F S2048 .f32),
    StableHlo.nullary main_cst_6 (constant S_ .f32 0x00000000#32),
    StableHlo.unary main_cst_6 main_v25 (broadcastInDim S2048 ![] bcast_S_S2048 : T F S_ .f32 → T F S2048 .f32),
    StableHlo.reshape main_v23 main_v26 rfl shapeCasts_S8192x4096_S8192x4x2x512,
    StableHlo.unary main_v26 main_v27 ((extractStridedSlice S8192x4x1x512 ![0, 0, 0, 0] · slices_S8192x4x2x512_S8192x4x1x512_0_0_0_0) : T F S8192x4x2x512 .f32 → T F S8192x4x1x512 .f32),
    StableHlo.reshape main_v27 main_v28 rfl shapeCasts_S8192x4x1x512_S8192x4x512,
    StableHlo.unary main_v26 main_v29 ((extractStridedSlice S8192x4x1x512 ![0, 0, 1, 0] · slices_S8192x4x2x512_S8192x4x1x512_0_0_1_0) : T F S8192x4x2x512 .f32 → T F S8192x4x1x512 .f32),
    StableHlo.reshape main_v29 main_v30 rfl shapeCasts_S8192x4x1x512_S8192x4x512,
    StableHlo.reshape main_v30 main_v31 rfl shapeCasts_S8192x4x512_S8192x2048,
    StableHlo.reshape main_v28 main_v32 rfl shapeCasts_S8192x4x512_S8192x2048,
    StableHlo.nullary main_cst_7 (constant S_ .f32 0x00000000#32),
    StableHlo.unary main_cst_7 main_v33 (broadcastInDim S2048 ![] bcast_S_S2048 : T F S_ .f32 → T F S2048 .f32),
    StableHlo.nullary main_cst_8 (constant S_ .f32 0x00000000#32),
    StableHlo.unary main_cst_8 main_v34 (broadcastInDim S2048 ![] bcast_S_S2048 : T F S_ .f32 → T F S2048 .f32),
    StableHlo.nullary main_cst_9 (constant S_ .f32 0x00000000#32),
    StableHlo.unary main_cst_9 main_v35 (broadcastInDim S2048 ![] bcast_S_S2048 : T F S_ .f32 → T F S2048 .f32),
    StableHlo.nullary main_cst_10 (constant S_ .f32 0x00000000#32) ]

/-- and in the second. -/
abbrev midOps1 : List (HloOp τ sig (Elt F)) :=
  [ StableHlo.unary main_cst_10 main_v36 (broadcastInDim S2048 ![] bcast_S_S2048 : T F S_ .f32 → T F S2048 .f32),
    StableHlo.nullary main_cst_11 (constant S_ .f32 0x00000000#32),
    StableHlo.unary main_cst_11 main_v37 (broadcastInDim S8192x2048 ![] bcast_S_S8192x2048 : T F S_ .f32 → T F S8192x2048 .f32),
    StableHlo.nullary main_cst_12 (constant S_ .f32 0x00000000#32),
    StableHlo.unary main_cst_12 main_v38 (broadcastInDim S8192x2048 ![] bcast_S_S8192x2048 : T F S_ .f32 → T F S8192x2048 .f32),
    StableHlo.nullary main_c_13 (constantI S_ 32 0#32),
    StableHlo.unary main_v32 main_v39_0 id,
    StableHlo.unary main_v31 main_v39_1 id,
    StableHlo.unary main_v16_9 main_v39_2 id,
    StableHlo.unary main_v16_10 main_v39_3 id,
    StableHlo.unary main_v8 main_v39_4 id,
    StableHlo.unary main_v9 main_v39_5 id,
    StableHlo.unary main_c_13 main_v39_6 id,
    StableHlo.unary main_v35 main_v39_7 id,
    StableHlo.unary main_v36 main_v39_8 id,
    StableHlo.unary main_v33 main_v39_9 id,
    StableHlo.unary main_v34 main_v39_10 id,
    StableHlo.unary main_v37 main_v39_11 id,
    StableHlo.unary main_v38 main_v39_12 id ]

/-- The operations after the second loop. -/
abbrev postOps : List (HloOp τ sig (Elt F)) :=
  [ StableHlo.reshape main_v39_8 main_v40 rfl shapeCasts_S2048_S1x2048,
    StableHlo.reshape main_v39_7 main_v41 rfl shapeCasts_S2048_S1x2048,
    StableHlo.reshape main_v39_12 main_v42 rfl shapeCasts_S8192x2048_S8192x4x512,
    StableHlo.unary main_v42 main_v43 (broadcastInDim S8192x4x1x512 ![0, 1, 3] bcast_S8192x4x512_S8192x4x1x512_0_1_3 : T F S8192x4x512 .f32 → T F S8192x4x1x512 .f32),
    StableHlo.nullary main_cst_14 (constant S_ .f32 0x00000000#32),
    StableHlo.binary main_v43 main_cst_14 main_v44 ((fun x v => pad S8192x4x2x512 ![0, 0, 1, 0] ![0, 0, 0, 0] ![0, 0, 0, 0] x v pads_S8192x4x1x512_S8192x4x2x512_000_000_100_000 h_S_) : T F S8192x4x1x512 .f32 → T F S_ .f32 → T F S8192x4x2x512 .f32),
    StableHlo.reshape main_v39_11 main_v45 rfl shapeCasts_S8192x2048_S8192x4x512,
    StableHlo.unary main_v45 main_v46 (broadcastInDim S8192x4x1x512 ![0, 1, 3] bcast_S8192x4x512_S8192x4x1x512_0_1_3 : T F S8192x4x512 .f32 → T F S8192x4x1x512 .f32),
    StableHlo.nullary main_cst_15 (constant S_ .f32 0x00000000#32),
    StableHlo.binary main_v46 main_cst_15 main_v47 ((fun x v => pad S8192x4x2x512 ![0, 0, 0, 0] ![0, 0, 1, 0] ![0, 0, 0, 0] x v pads_S8192x4x1x512_S8192x4x2x512_000_000_010_000 h_S_) : T F S8192x4x1x512 .f32 → T F S_ .f32 → T F S8192x4x2x512 .f32),
    StableHlo.binary main_v44 main_v47 main_v48 (addf : T F S8192x4x2x512 .f32 → T F S8192x4x2x512 .f32 → T F S8192x4x2x512 .f32),
    StableHlo.reshape main_v48 main_v49 rfl shapeCasts_S8192x4x2x512_S8192x4096,
    StableHlo.unary main_v49 main_v50 ((truncf .bf16 · bitsLt_bf16_f32) : T F S8192x4096 .f32 → T F S8192x4096 .bf16) ]

/-- The first loop's condition. -/
abbrev condOps0 : List (HloOp τ sig (Elt F)) :=
  [ StableHlo.nullary main_while0c_c_26 (constantI S_ 32 8192#32),
    StableHlo.binary main_v16_4 main_while0c_c_26 main_while0c_v51 (cmpi .slt : T F S_ .i32 → T F S_ .i32 → T F S_ .i1) ]

/-- The second loop's condition. -/
abbrev condOps1 : List (HloOp τ sig (Elt F)) :=
  [ StableHlo.nullary main_while1c_c_28 (constantI S_ 32 8192#32),
    StableHlo.binary main_v39_6 main_while1c_c_28 main_while1c_v51 (cmpi .slt : T F S_ .i32 → T F S_ .i32 → T F S_ .i1) ]

/-- Stretch 0 of the first loop's body. -/
abbrev body0Ops0 : List (HloOp τ sig (Elt F)) :=
  [ StableHlo.TRef.nullary main_while0b_call0.c (constantI S_ 32 0#32),
    StableHlo.TRef.unaryIndexed (.of main_v16_0 : StableHlo.TRef sig ⟨S8192x2048, .f32⟩) ![(.of main_v16_4 : StableHlo.TRef sig ⟨S_, .i32⟩), main_while0b_call0.c] main_while0b_call0.v0 (fun x i => Host.dynamicSlice S1x2048 x (fun k => (i k (Shape.Idx.first h_S_)).toInt) sliceFits_S8192x2048_S1x2048),
    StableHlo.TRef.reshape main_while0b_call0.v0 main_while0b_call0.v1 rfl shapeCasts_S1x2048_S2048 ]

/-- Stretch 1 of the first loop's body. -/
abbrev body0Ops1 : List (HloOp τ sig (Elt F)) :=
  [ StableHlo.TRef.nullary main_while0b_call1.c (constantI S_ 32 0#32),
    StableHlo.TRef.unaryIndexed (.of main_v16_1 : StableHlo.TRef sig ⟨S8192x2048, .f32⟩) ![(.of main_v16_4 : StableHlo.TRef sig ⟨S_, .i32⟩), main_while0b_call1.c] main_while0b_call1.v0 (fun x i => Host.dynamicSlice S1x2048 x (fun k => (i k (Shape.Idx.first h_S_)).toInt) sliceFits_S8192x2048_S1x2048),
    StableHlo.TRef.reshape main_while0b_call1.v0 main_while0b_call1.v1 rfl shapeCasts_S1x2048_S2048 ]

/-- Stretch 2 of the first loop's body. -/
abbrev body0Ops2 : List (HloOp τ sig (Elt F)) :=
  [ StableHlo.binary main_v16_2 main_v16_5 main_while0b_v53 (mulf : T F S2048 .f32 → T F S2048 .f32 → T F S2048 .f32),
    StableHlo.binary main_v16_3 main_v16_6 main_while0b_v54 (mulf : T F S2048 .f32 → T F S2048 .f32 → T F S2048 .f32),
    StableHlo.binary main_while0b_v53 main_while0b_v54 main_while0b_v55 (subf : T F S2048 .f32 → T F S2048 .f32 → T F S2048 .f32),
    StableHlo.binary main_while0b_v55 main_while0b_v51 main_while0b_v56 (addf : T F S2048 .f32 → T F S2048 .f32 → T F S2048 .f32),
    StableHlo.binary main_v16_2 main_v16_6 main_while0b_v57 (mulf : T F S2048 .f32 → T F S2048 .f32 → T F S2048 .f32),
    StableHlo.binary main_v16_3 main_v16_5 main_while0b_v58 (mulf : T F S2048 .f32 → T F S2048 .f32 → T F S2048 .f32),
    StableHlo.binary main_while0b_v57 main_while0b_v58 main_while0b_v59 (addf : T F S2048 .f32 → T F S2048 .f32 → T F S2048 .f32),
    StableHlo.binary main_while0b_v59 main_while0b_v52 main_while0b_v60 (addf : T F S2048 .f32 → T F S2048 .f32 → T F S2048 .f32) ]

/-- Stretch 3 of the first loop's body. -/
abbrev body0Ops3 : List (HloOp τ sig (Elt F)) :=
  [ StableHlo.TRef.unary (.of main_while0b_v56 : StableHlo.TRef sig ⟨S2048, .f32⟩) main_while0b_call2.v0 (broadcastInDim S1x2048 ![1] bcast_S2048_S1x2048_1),
    StableHlo.TRef.nullary main_while0b_call2.c (constantI S_ 32 0#32),
    StableHlo.TRef.binaryIndexed (.of main_v16_7 : StableHlo.TRef sig ⟨S8192x2048, .f32⟩) main_while0b_call2.v0 ![(.of main_v16_4 : StableHlo.TRef sig ⟨S_, .i32⟩), main_while0b_call2.c] main_while0b_call2.v1 (fun x u i => Host.dynamicUpdateSlice x u (fun k => (i k (Shape.Idx.first h_S_)).toInt) updateFits_S8192x2048_S1x2048) ]

/-- Stretch 4 of the first loop's body. -/
abbrev body0Ops4 : List (HloOp τ sig (Elt F)) :=
  [ StableHlo.TRef.unary (.of main_while0b_v60 : StableHlo.TRef sig ⟨S2048, .f32⟩) main_while0b_call3.v0 (broadcastInDim S1x2048 ![1] bcast_S2048_S1x2048_1),
    StableHlo.TRef.nullary main_while0b_call3.c (constantI S_ 32 0#32),
    StableHlo.TRef.binaryIndexed (.of main_v16_8 : StableHlo.TRef sig ⟨S8192x2048, .f32⟩) main_while0b_call3.v0 ![(.of main_v16_4 : StableHlo.TRef sig ⟨S_, .i32⟩), main_while0b_call3.c] main_while0b_call3.v1 (fun x u i => Host.dynamicUpdateSlice x u (fun k => (i k (Shape.Idx.first h_S_)).toInt) updateFits_S8192x2048_S1x2048) ]

/-- Stretch 5 of the first loop's body. -/
abbrev body0Ops5 : List (HloOp τ sig (Elt F)) :=
  [ StableHlo.TRef.unary (.of main_v16_5 : StableHlo.TRef sig ⟨S2048, .f32⟩) main_while0b_call4.v0 (broadcastInDim S1x2048 ![1] bcast_S2048_S1x2048_1),
    StableHlo.TRef.nullary main_while0b_call4.c (constantI S_ 32 0#32),
    StableHlo.TRef.binaryIndexed (.of main_v16_9 : StableHlo.TRef sig ⟨S8192x2048, .f32⟩) main_while0b_call4.v0 ![(.of main_v16_4 : StableHlo.TRef sig ⟨S_, .i32⟩), main_while0b_call4.c] main_while0b_call4.v1 (fun x u i => Host.dynamicUpdateSlice x u (fun k => (i k (Shape.Idx.first h_S_)).toInt) updateFits_S8192x2048_S1x2048) ]

/-- Stretch 6 of the first loop's body. -/
abbrev body0Ops6 : List (HloOp τ sig (Elt F)) :=
  [ StableHlo.TRef.unary (.of main_v16_6 : StableHlo.TRef sig ⟨S2048, .f32⟩) main_while0b_call5.v0 (broadcastInDim S1x2048 ![1] bcast_S2048_S1x2048_1),
    StableHlo.TRef.nullary main_while0b_call5.c (constantI S_ 32 0#32),
    StableHlo.TRef.binaryIndexed (.of main_v16_10 : StableHlo.TRef sig ⟨S8192x2048, .f32⟩) main_while0b_call5.v0 ![(.of main_v16_4 : StableHlo.TRef sig ⟨S_, .i32⟩), main_while0b_call5.c] main_while0b_call5.v1 (fun x u i => Host.dynamicUpdateSlice x u (fun k => (i k (Shape.Idx.first h_S_)).toInt) updateFits_S8192x2048_S1x2048) ]

/-- Stretch 7 of the first loop's body. -/
abbrev body0Ops7 : List (HloOp τ sig (Elt F)) :=
  [ StableHlo.nullary main_while0b_c_26 (constantI S_ 32 1#32),
    StableHlo.binary main_v16_4 main_while0b_c_26 main_while0b_v65 (addi : T F S_ .i32 → T F S_ .i32 → T F S_ .i32),
    StableHlo.unary main_while0b_v65 main_v16_4 id,
    StableHlo.unary main_while0b_v56 main_v16_5 id,
    StableHlo.unary main_while0b_v60 main_v16_6 id,
    StableHlo.unary main_while0b_v61 main_v16_7 id,
    StableHlo.unary main_while0b_v62 main_v16_8 id,
    StableHlo.unary main_while0b_v63 main_v16_9 id,
    StableHlo.unary main_while0b_v64 main_v16_10 id ]

/-- Stretch 0 of the second loop's body. -/
abbrev body1Ops0 : List (HloOp τ sig (Elt F)) :=
  [ StableHlo.nullary main_while1b_c_28 (constantI S_ 32 8192#32),
    StableHlo.binary main_while1b_c_28 main_v39_6 main_while1b_v51 (subi : T F S_ .i32 → T F S_ .i32 → T F S_ .i32),
    StableHlo.nullary main_while1b_c_29 (constantI S_ 32 1#32),
    StableHlo.binary main_while1b_v51 main_while1b_c_29 main_while1b_v52 (subi : T F S_ .i32 → T F S_ .i32 → T F S_ .i32) ]

/-- Stretch 1 of the second loop's body. -/
abbrev body1Ops1 : List (HloOp τ sig (Elt F)) :=
  [ StableHlo.TRef.nullary main_while1b_call6.c (constantI S_ 32 0#32),
    StableHlo.TRef.unaryIndexed (.of main_v39_0 : StableHlo.TRef sig ⟨S8192x2048, .f32⟩) ![(.of main_while1b_v52 : StableHlo.TRef sig ⟨S_, .i32⟩), main_while1b_call6.c] main_while1b_call6.v0 (fun x i => Host.dynamicSlice S1x2048 x (fun k => (i k (Shape.Idx.first h_S_)).toInt) sliceFits_S8192x2048_S1x2048),
    StableHlo.TRef.reshape main_while1b_call6.v0 main_while1b_call6.v1 rfl shapeCasts_S1x2048_S2048 ]

/-- Stretch 2 of the second loop's body. -/
abbrev body1Ops2 : List (HloOp τ sig (Elt F)) :=
  [ StableHlo.TRef.nullary main_while1b_call7.c (constantI S_ 32 0#32),
    StableHlo.TRef.unaryIndexed (.of main_v39_1 : StableHlo.TRef sig ⟨S8192x2048, .f32⟩) ![(.of main_while1b_v52 : StableHlo.TRef sig ⟨S_, .i32⟩), main_while1b_call7.c] main_while1b_call7.v0 (fun x i => Host.dynamicSlice S1x2048 x (fun k => (i k (Shape.Idx.first h_S_)).toInt) sliceFits_S8192x2048_S1x2048),
    StableHlo.TRef.reshape main_while1b_call7.v0 main_while1b_call7.v1 rfl shapeCasts_S1x2048_S2048 ]

/-- Stretch 3 of the second loop's body. -/
abbrev body1Ops3 : List (HloOp τ sig (Elt F)) :=
  [ StableHlo.TRef.nullary main_while1b_call8.c (constantI S_ 32 0#32),
    StableHlo.TRef.unaryIndexed (.of main_v39_2 : StableHlo.TRef sig ⟨S8192x2048, .f32⟩) ![(.of main_while1b_v52 : StableHlo.TRef sig ⟨S_, .i32⟩), main_while1b_call8.c] main_while1b_call8.v0 (fun x i => Host.dynamicSlice S1x2048 x (fun k => (i k (Shape.Idx.first h_S_)).toInt) sliceFits_S8192x2048_S1x2048),
    StableHlo.TRef.reshape main_while1b_call8.v0 main_while1b_call8.v1 rfl shapeCasts_S1x2048_S2048 ]

/-- Stretch 4 of the second loop's body. -/
abbrev body1Ops4 : List (HloOp τ sig (Elt F)) :=
  [ StableHlo.TRef.nullary main_while1b_call9.c (constantI S_ 32 0#32),
    StableHlo.TRef.unaryIndexed (.of main_v39_3 : StableHlo.TRef sig ⟨S8192x2048, .f32⟩) ![(.of main_while1b_v52 : StableHlo.TRef sig ⟨S_, .i32⟩), main_while1b_call9.c] main_while1b_call9.v0 (fun x i => Host.dynamicSlice S1x2048 x (fun k => (i k (Shape.Idx.first h_S_)).toInt) sliceFits_S8192x2048_S1x2048),
    StableHlo.TRef.reshape main_while1b_call9.v0 main_while1b_call9.v1 rfl shapeCasts_S1x2048_S2048 ]

/-- Stretch 5 of the second loop's body. -/
abbrev body1Ops5 : List (HloOp τ sig (Elt F)) :=
  [ StableHlo.binary main_v39_9 main_while1b_v53 main_while1b_v57 (addf : T F S2048 .f32 → T F S2048 .f32 → T F S2048 .f32),
    StableHlo.binary main_v39_10 main_while1b_v54 main_while1b_v58 (addf : T F S2048 .f32 → T F S2048 .f32 → T F S2048 .f32),
    StableHlo.binary main_v39_5 main_while1b_v58 main_while1b_v59 (mulf : T F S2048 .f32 → T F S2048 .f32 → T F S2048 .f32),
    StableHlo.binary main_while1b_v58 main_while1b_v55 main_while1b_v60 (mulf : T F S2048 .f32 → T F S2048 .f32 → T F S2048 .f32),
    StableHlo.binary main_v39_8 main_while1b_v60 main_while1b_v61 (addf : T F S2048 .f32 → T F S2048 .f32 → T F S2048 .f32),
    StableHlo.binary main_v39_4 main_while1b_v58 main_while1b_v62 (mulf : T F S2048 .f32 → T F S2048 .f32 → T F S2048 .f32),
    StableHlo.binary main_while1b_v58 main_while1b_v56 main_while1b_v63 (mulf : T F S2048 .f32 → T F S2048 .f32 → T F S2048 .f32),
    StableHlo.binary main_v39_7 main_while1b_v63 main_while1b_v64 (addf : T F S2048 .f32 → T F S2048 .f32 → T F S2048 .f32),
    StableHlo.unary main_while1b_v57 main_while1b_v65 (Host.negf : T F S2048 .f32 → T F S2048 .f32),
    StableHlo.binary main_v39_5 main_while1b_v65 main_while1b_v66 (mulf : T F S2048 .f32 → T F S2048 .f32 → T F S2048 .f32),
    StableHlo.binary main_while1b_v62 main_while1b_v66 main_while1b_v67 (addf : T F S2048 .f32 → T F S2048 .f32 → T F S2048 .f32),
    StableHlo.binary main_while1b_v65 main_while1b_v56 main_while1b_v68 (mulf : T F S2048 .f32 → T F S2048 .f32 → T F S2048 .f32),
    StableHlo.binary main_while1b_v61 main_while1b_v68 main_while1b_v69 (addf : T F S2048 .f32 → T F S2048 .f32 → T F S2048 .f32),
    StableHlo.binary main_v39_4 main_while1b_v57 main_while1b_v70 (mulf : T F S2048 .f32 → T F S2048 .f32 → T F S2048 .f32),
    StableHlo.binary main_while1b_v59 main_while1b_v70 main_while1b_v71 (addf : T F S2048 .f32 → T F S2048 .f32 → T F S2048 .f32),
    StableHlo.binary main_while1b_v57 main_while1b_v55 main_while1b_v72 (mulf : T F S2048 .f32 → T F S2048 .f32 → T F S2048 .f32),
    StableHlo.binary main_while1b_v64 main_while1b_v72 main_while1b_v73 (addf : T F S2048 .f32 → T F S2048 .f32 → T F S2048 .f32) ]

/-- Stretch 6 of the second loop's body. -/
abbrev body1Ops6 : List (HloOp τ sig (Elt F)) :=
  [ StableHlo.TRef.unary (.of main_while1b_v57 : StableHlo.TRef sig ⟨S2048, .f32⟩) main_while1b_call10.v0 (broadcastInDim S1x2048 ![1] bcast_S2048_S1x2048_1),
    StableHlo.TRef.nullary main_while1b_call10.c (constantI S_ 32 0#32),
    StableHlo.TRef.binaryIndexed (.of main_v39_11 : StableHlo.TRef sig ⟨S8192x2048, .f32⟩) main_while1b_call10.v0 ![(.of main_while1b_v52 : StableHlo.TRef sig ⟨S_, .i32⟩), main_while1b_call10.c] main_while1b_call10.v1 (fun x u i => Host.dynamicUpdateSlice x u (fun k => (i k (Shape.Idx.first h_S_)).toInt) updateFits_S8192x2048_S1x2048) ]

/-- Stretch 7 of the second loop's body. -/
abbrev body1Ops7 : List (HloOp τ sig (Elt F)) :=
  [ StableHlo.TRef.unary (.of main_while1b_v58 : StableHlo.TRef sig ⟨S2048, .f32⟩) main_while1b_call11.v0 (broadcastInDim S1x2048 ![1] bcast_S2048_S1x2048_1),
    StableHlo.TRef.nullary main_while1b_call11.c (constantI S_ 32 0#32),
    StableHlo.TRef.binaryIndexed (.of main_v39_12 : StableHlo.TRef sig ⟨S8192x2048, .f32⟩) main_while1b_call11.v0 ![(.of main_while1b_v52 : StableHlo.TRef sig ⟨S_, .i32⟩), main_while1b_call11.c] main_while1b_call11.v1 (fun x u i => Host.dynamicUpdateSlice x u (fun k => (i k (Shape.Idx.first h_S_)).toInt) updateFits_S8192x2048_S1x2048) ]

/-- Stretch 8 of the second loop's body. -/
abbrev body1Ops8 : List (HloOp τ sig (Elt F)) :=
  [ StableHlo.nullary main_while1b_c_30 (constantI S_ 32 1#32),
    StableHlo.binary main_v39_6 main_while1b_c_30 main_while1b_v76 (addi : T F S_ .i32 → T F S_ .i32 → T F S_ .i32),
    StableHlo.unary main_while1b_v76 main_v39_6 id,
    StableHlo.unary main_while1b_v73 main_v39_7 id,
    StableHlo.unary main_while1b_v69 main_v39_8 id,
    StableHlo.unary main_while1b_v71 main_v39_9 id,
    StableHlo.unary main_while1b_v67 main_v39_10 id,
    StableHlo.unary main_while1b_v74 main_v39_11 id,
    StableHlo.unary main_while1b_v75 main_v39_12 id ]

theorem preOps_sub : (preOps (F := F)).Forall fun op => op.bufs ⊆ StableHlo.tcRefs τ sig := by
  simp [preOps, List.Forall]

theorem midOps0_sub : (midOps0 (F := F)).Forall fun op => op.bufs ⊆ StableHlo.tcRefs τ sig := by
  simp [midOps0, List.Forall]

theorem midOps1_sub : (midOps1 (F := F)).Forall fun op => op.bufs ⊆ StableHlo.tcRefs τ sig := by
  simp [midOps1, List.Forall]

theorem postOps_sub : (postOps (F := F)).Forall fun op => op.bufs ⊆ StableHlo.tcRefs τ sig := by
  simp [postOps, List.Forall]

theorem condOps0_sub : (condOps0 (F := F)).Forall fun op => op.bufs ⊆ StableHlo.tcRefs τ sig := by
  simp [condOps0, List.Forall]

theorem condOps1_sub : (condOps1 (F := F)).Forall fun op => op.bufs ⊆ StableHlo.tcRefs τ sig := by
  simp [condOps1, List.Forall]

theorem body0Ops0_sub : (body0Ops0 (F := F)).Forall fun op => op.bufs ⊆ StableHlo.tcRefs τ sig := by
  simp [body0Ops0, List.Forall]

theorem body0Ops1_sub : (body0Ops1 (F := F)).Forall fun op => op.bufs ⊆ StableHlo.tcRefs τ sig := by
  simp [body0Ops1, List.Forall]

theorem body0Ops2_sub : (body0Ops2 (F := F)).Forall fun op => op.bufs ⊆ StableHlo.tcRefs τ sig := by
  simp [body0Ops2, List.Forall]

theorem body0Ops3_sub : (body0Ops3 (F := F)).Forall fun op => op.bufs ⊆ StableHlo.tcRefs τ sig := by
  simp [body0Ops3, List.Forall]

theorem body0Ops4_sub : (body0Ops4 (F := F)).Forall fun op => op.bufs ⊆ StableHlo.tcRefs τ sig := by
  simp [body0Ops4, List.Forall]

theorem body0Ops5_sub : (body0Ops5 (F := F)).Forall fun op => op.bufs ⊆ StableHlo.tcRefs τ sig := by
  simp [body0Ops5, List.Forall]

theorem body0Ops6_sub : (body0Ops6 (F := F)).Forall fun op => op.bufs ⊆ StableHlo.tcRefs τ sig := by
  simp [body0Ops6, List.Forall]

theorem body0Ops7_sub : (body0Ops7 (F := F)).Forall fun op => op.bufs ⊆ StableHlo.tcRefs τ sig := by
  simp [body0Ops7, List.Forall]

theorem body1Ops0_sub : (body1Ops0 (F := F)).Forall fun op => op.bufs ⊆ StableHlo.tcRefs τ sig := by
  simp [body1Ops0, List.Forall]

theorem body1Ops1_sub : (body1Ops1 (F := F)).Forall fun op => op.bufs ⊆ StableHlo.tcRefs τ sig := by
  simp [body1Ops1, List.Forall]

theorem body1Ops2_sub : (body1Ops2 (F := F)).Forall fun op => op.bufs ⊆ StableHlo.tcRefs τ sig := by
  simp [body1Ops2, List.Forall]

theorem body1Ops3_sub : (body1Ops3 (F := F)).Forall fun op => op.bufs ⊆ StableHlo.tcRefs τ sig := by
  simp [body1Ops3, List.Forall]

theorem body1Ops4_sub : (body1Ops4 (F := F)).Forall fun op => op.bufs ⊆ StableHlo.tcRefs τ sig := by
  simp [body1Ops4, List.Forall]

theorem body1Ops5_sub : (body1Ops5 (F := F)).Forall fun op => op.bufs ⊆ StableHlo.tcRefs τ sig := by
  simp [body1Ops5, List.Forall]

theorem body1Ops6_sub : (body1Ops6 (F := F)).Forall fun op => op.bufs ⊆ StableHlo.tcRefs τ sig := by
  simp [body1Ops6, List.Forall]

theorem body1Ops7_sub : (body1Ops7 (F := F)).Forall fun op => op.bufs ⊆ StableHlo.tcRefs τ sig := by
  simp [body1Ops7, List.Forall]

theorem body1Ops8_sub : (body1Ops8 (F := F)).Forall fun op => op.bufs ⊆ StableHlo.tcRefs τ sig := by
  simp [body1Ops8, List.Forall]

abbrev body0 : List (List (HloOp τ sig (Elt F))) := [body0Ops0, body0Ops1, body0Ops2, body0Ops3, body0Ops4, body0Ops5, body0Ops6, body0Ops7]
abbrev body1 : List (List (HloOp τ sig (Elt F))) := [body1Ops0, body1Ops1, body1Ops2, body1Ops3, body1Ops4, body1Ops5, body1Ops6, body1Ops7, body1Ops8]

theorem plain_pre : Plain ([preOps] : List (List (HloOp τ sig (Elt F)))) := .cons preOps_sub .nil
theorem plain_mid : Plain ([midOps0, midOps1] : List (List (HloOp τ sig (Elt F)))) := .cons midOps0_sub (.cons midOps1_sub .nil)
theorem plain_post : Plain ([postOps] : List (List (HloOp τ sig (Elt F)))) := .cons postOps_sub .nil
theorem plain_body0 : Plain (body0 (F := F)) := .cons body0Ops0_sub (.cons body0Ops1_sub (.cons body0Ops2_sub (.cons body0Ops3_sub (.cons body0Ops4_sub (.cons body0Ops5_sub (.cons body0Ops6_sub (.cons body0Ops7_sub (.nil))))))))
theorem plain_body1 : Plain (body1 (F := F)) := .cons body1Ops0_sub (.cons body1Ops1_sub (.cons body1Ops2_sub (.cons body1Ops3_sub (.cons body1Ops4_sub (.cons body1Ops5_sub (.cons body1Ops6_sub (.cons body1Ops7_sub (.cons body1Ops8_sub (.nil)))))))))

theorem body0_eq : main_while0_body (F := F) = Pipeline.chain ((body0 (F := F)).map fun ops => seq ops) := by
  show _ = Pipeline.chain [seq body0Ops0, seq body0Ops1, seq body0Ops2, seq body0Ops3, seq body0Ops4, seq body0Ops5, seq body0Ops6, seq body0Ops7]
  rewrite [StableHlo.chain_seq_cons, StableHlo.chain_seq_cons, StableHlo.chain_seq_cons, StableHlo.chain_seq_cons, StableHlo.chain_seq_cons, StableHlo.chain_seq_cons, StableHlo.chain_seq_cons, StableHlo.chain_seq_cons]
  chain_rfl

theorem body1_eq : main_while1_body (F := F) = Pipeline.chain ((body1 (F := F)).map fun ops => seq ops) := by
  show _ = Pipeline.chain [seq body1Ops0, seq body1Ops1, seq body1Ops2, seq body1Ops3, seq body1Ops4, seq body1Ops5, seq body1Ops6, seq body1Ops7, seq body1Ops8]
  rewrite [StableHlo.chain_seq_cons, StableHlo.chain_seq_cons, StableHlo.chain_seq_cons, StableHlo.chain_seq_cons, StableHlo.chain_seq_cons, StableHlo.chain_seq_cons, StableHlo.chain_seq_cons, StableHlo.chain_seq_cons, StableHlo.chain_seq_cons]
  chain_rfl

theorem main_eq (c : Dev nD) : Cert.ReferenceIdeal.main (F := F) c
    = Pipeline.chain [seq preOps, HostLoop.enter 0, seq midOps0, seq midOps1, HostLoop.enter 1, seq postOps] := by
  rewrite [StableHlo.chain_seq_cons, Pipeline.chain_cons, StableHlo.chain_seq_cons, StableHlo.chain_seq_cons, Pipeline.chain_cons, StableHlo.chain_seq_cons]
  chain_rfl

end Cert.Proof.Ref
-- ==== Proof.RefRun.lean ====
/-
  The run of the reference program: straight operations, the forward loop, straight operations, the backward loop,
  straight operations. Every buffer ends at the fold of these over the launch contents, and every semaphore at zero.
  Both loops count from 0 to 8192 by 1.
-/
module

public import proofs.«01_k».proof.Proof.RefOps
public import Idealize.ShloMosaic.Lib.StableHlo.RunRead
public import Idealize.ShloMosaic.Lib.Scf.ExitTest
public import Idealize.ShloMosaic.Lib.Scf.Counter
public import Idealize.ShloMosaic.Lib.Pipeline.RegionsLoop

@[expose] public section

noncomputable section

namespace Cert.Proof.Ref

open Cert.ReferenceIdeal Cert.ReferenceIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (Plain seq after held afterL atTrip segsOf segsOf_chains segsOf_prog segsOf_M_T loopSeg LoopCond launchContents devRef_mem_ucRefs)
open Idealize.ShloMosaic.Pipeline (CSeg Ticket ucRefs sub_ucRefs)

variable {F : FTy → Type} [FloatOps F]

local notation "𝕄" => MT nD τ sig Unit (Elt F) ℕ (Option PUnit) ℕ

/-! ## What the buffers hold at each stage -/

section Stages
variable (m : (ℓ : Loc nD τ sig) → Buf (Elt F) ℓ)

/-- Before the first loop; -/
abbrev W0 (c : Dev nD) : Valuation τ sig (Elt F) := after preOps (launchContents m c)
/-- before the `k`-th test of the first loop; -/
abbrev L0 (k : ℕ) (c : Dev nD) : Valuation τ sig (Elt F) := atTrip condOps0 body0 (W0 m) k c
/-- before the second loop; -/
abbrev W1 (c : Dev nD) : Valuation τ sig (Elt F) := after midOps1 (after midOps0 (after condOps0 (L0 m 8192 c)))
/-- before the `k`-th test of the second loop; -/
abbrev L1 (k : ℕ) (c : Dev nD) : Valuation τ sig (Elt F) := atTrip condOps1 body1 (W1 m) k c
/-- at the end. -/
abbrev WE (c : Dev nD) : Valuation τ sig (Elt F) := after postOps (after condOps1 (L1 m 8192 c))
end Stages

/-! ## The counters -/

/-- The word `k` as an array of no axis. -/
abbrev word (k : ℕ) : IVec S_ 32 := fun _ => BitVec.ofNat 32 k

theorem ctr0_step (V : Valuation τ sig (Elt F)) :
    afterL body0 (after condOps0 V) main_v16_4 = addi (V main_v16_4) (constantI S_ 32 1#32) := by
  simp only [StableHlo.afterL_cons, StableHlo.afterL_nil]
  after_reads_simp
  rfl

theorem ctr1_step (V : Valuation τ sig (Elt F)) :
    afterL body1 (after condOps1 V) main_v39_6 = addi (V main_v39_6) (constantI S_ 32 1#32) := by
  simp only [StableHlo.afterL_cons, StableHlo.afterL_nil]
  after_reads_simp
  rfl

theorem word_succ (k : ℕ) : addi (word k) (constantI S_ 32 1#32) = word (k + 1) := by
  funext i
  show BitVec.ofNat 32 k + 1#32 = BitVec.ofNat 32 (k + 1)
  rw [BitVec.ofNat_add]

theorem ctr0 (W : Dev nD → Valuation τ sig (Elt F)) (h : ∀ c, W c main_v16_4 = word 0) (c : Dev nD) :
    ∀ k, atTrip condOps0 body0 W k c main_v16_4 = word k
  | 0 => h c
  | k + 1 => by rw [StableHlo.atTrip_succ, ctr0_step, ctr0 W h c k, word_succ]

theorem ctr1 (W : Dev nD → Valuation τ sig (Elt F)) (h : ∀ c, W c main_v39_6 = word 0) (c : Dev nD) :
    ∀ k, atTrip condOps1 body1 W k c main_v39_6 = word k
  | 0 => h c
  | k + 1 => by rw [StableHlo.atTrip_succ, ctr1_step, ctr1 W h c k, word_succ]

theorem W0_ctr (m : (ℓ : Loc nD τ sig) → Buf (Elt F) ℓ) (c : Dev nD) : W0 m c main_v16_4 = word 0 := by
  after_reads_simp
  rfl

theorem W1_ctr (m : (ℓ : Loc nD τ sig) → Buf (Elt F) ℓ) (c : Dev nD) : W1 m c main_v39_6 = word 0 := by
  unfold W1
  generalize after condOps0 (L0 m 8192 c) = V
  after_reads_simp
  rfl

theorem test_iff (k : ℕ) (hk : k ≤ 8192) : Iff (IntOp.cmpi .slt (BitVec.ofNat 32 k) 8192#32 = 1#1) (k < 8192) := by
  have h1 : (BitVec.ofNat 32 k).toInt = k := by
    rw [BitVec.toInt_eq_toNat_of_lt] <;> rw [BitVec.toNat_ofNat] <;> omega
  have h2 : (8192#32 : BitVec 32).toInt = 8192 := by decide
  simp only [IntOp.cmpi]
  rw [show ((BitVec.ofNat 32 k).slt 8192#32) = decide (k < 8192) by
    rw [BitVec.slt, h1, h2]; simp]
  by_cases h : k < 8192 <;> simp [h]

/-! ## The segments -/

/-- No pipeline: nothing is admitted, there is no ticket and no level. -/
abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0

/-- What rides along beside the buffers. -/
abbrev Rest (c : Dev nD) : sProp 𝕄 := iprop(∃ W, owes (c : Thread nD τ) (0 : CellTallies nD τ sig Unit) W)

/-- The first loop's condition reads 1 exactly while fewer than 8192 trips are done. -/
theorem cond0 (W : Dev nD → Valuation τ sig (Elt F)) (h : ∀ c, W c main_v16_4 = word 0) :
    LoopCond (Ix := Unit) (Name := ℕ) (U := Option PUnit) (Lvl := ℕ) (pcfgs (F := F)) defs₀ Variants.none loops Rest main_while0_cond condOps0 body0 W 8192 := fun k hk c bd => by
  have hctr := ctr0 W h c k
  generalize atTrip condOps0 body0 W k c = V at hctr ⊢
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb] <;> iassumption
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb] <;> iassumption
  iintro ⟨Hb, Hh⟩
  unfold HostLoop.elt
  rw [wp_ret]; imodintro
  isplitr
  · ipureintro
    show Iff (IntOp.cmpi .slt (HloOp.result _ V main_v16_4 HostLoop.idx0) (HloOp.result _ V main_while0c_c_26 HostLoop.idx0) = 1#1) (k < 8192)
    rw [StableHlo.nullary_result_ne _ _ _ _ (by decide), StableHlo.nullary_result, hctr]
    exact test_iff k hk
  isplitl [Hb]; · iexact Hb
  isplitl [Hh]; · rw [StableHlo.after_cons, StableHlo.after_cons, StableHlo.after_nil]; iexact Hh
  iexact HR

/-- The second loop's condition reads 1 exactly while fewer than 8192 trips are done. -/
theorem cond1 (W : Dev nD → Valuation τ sig (Elt F)) (h : ∀ c, W c main_v39_6 = word 0) :
    LoopCond (Ix := Unit) (Name := ℕ) (U := Option PUnit) (Lvl := ℕ) (pcfgs (F := F)) defs₀ Variants.none loops Rest main_while1_cond condOps1 body1 W 8192 := fun k hk c bd => by
  have hctr := ctr1 W h c k
  generalize atTrip condOps1 body1 W k c = V at hctr ⊢
  unfold main_while1_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb] <;> iassumption
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb] <;> iassumption
  iintro ⟨Hb, Hh⟩
  unfold HostLoop.elt
  rw [wp_ret]; imodintro
  isplitr
  · ipureintro
    show Iff (IntOp.cmpi .slt (HloOp.result _ V main_v39_6 HostLoop.idx0) (HloOp.result _ V main_while1c_c_28 HostLoop.idx0) = 1#1) (k < 8192)
    rw [StableHlo.nullary_result_ne _ _ _ _ (by decide), StableHlo.nullary_result, hctr]
    exact test_iff k hk
  isplitl [Hb]; · iexact Hb
  isplitl [Hh]; · rw [StableHlo.after_cons, StableHlo.after_cons, StableHlo.after_nil]; iexact Hh
  iexact HR

section Main
variable (m : (ℓ : Loc nD τ sig) → Buf (Elt F) ℓ)

/-- @main's segments: straight line, loop, straight line, loop, straight line. -/
def segs : List (CSeg (pcfgs (F := F)) noAdm defs₀ Variants.none noL noLv loops noTk) :=
  segsOf _ _ _ _ _ _ _ _ Rest [preOps] plain_pre (launchContents m)
    ++ loopSeg _ _ _ _ _ _ _ _ 0 main_while0_cond main_while0_body rfl condOps0 body0 plain_body0 body0_eq 8192 (W0 m) Rest (cond0 (W0 m) (W0_ctr m))
      :: (segsOf _ _ _ _ _ _ _ _ Rest [midOps0, midOps1] plain_mid (fun c => after condOps0 (L0 m 8192 c))
        ++ loopSeg _ _ _ _ _ _ _ _ 1 main_while1_cond main_while1_body rfl condOps1 body1 plain_body1 body1_eq 8192 (W1 m) Rest (cond1 (W1 m) (W1_ctr m))
          :: segsOf _ _ _ _ _ _ _ _ Rest [postOps] plain_post (fun c => after condOps1 (L1 m 8192 c)))

theorem segs_prog : (segs m).map CSeg.prog
    = [seq preOps, HostLoop.enter 0, seq midOps0, seq midOps1, HostLoop.enter 1, seq postOps] := rfl

theorem segs_chain : CSeg.Chains (fun c => iprop(held (c : Thread nD τ) (ucRefs τ sig) (launchContents m c) ∗ Rest c)) (segs m)
    (fun c => iprop(iprop(held (c : Thread nD τ) (ucRefs τ sig) (WE m c)) ∗ ∃ W, owes (c : Thread nD τ) (0 : CellTallies nD τ sig Unit) W)) :=
  CSeg.Chains.append (segsOf_chains _ _ _ _ _ _ _ _ Rest [preOps] plain_pre _)
    ⟨fun _ => .rfl, CSeg.Chains.append (segsOf_chains _ _ _ _ _ _ _ _ Rest [midOps0, midOps1] plain_mid _)
      ⟨fun _ => .rfl, segsOf_chains _ _ _ _ _ _ _ _ Rest [postOps] plain_post _⟩⟩

end Main

/-- THE RUN: every weakly fair execution ends, each unscoped buffer at `WE` and each semaphore at zero. -/
theorem run [∀ e, Nonempty (Elt F e)] (m : (ℓ : Loc nD τ sig) → Buf (Elt F) ℓ) (ρ : Dev nD → PrngReg) :
    θ_run (defs (F := F)) (onTc (τ := τ) (Cert.ReferenceIdeal.main (F := F))) ⟨m, fun _ => 0, ρ⟩
      (fun r => (∀ (c : Dev nD) (b : Ref sig .tc), (Proc.devRef .tc b : DevRef τ sig).isScoped = false →
        r.2.mem ((c.tc : Thread nD τ).loc b) = WE m c (Proc.devRef .tc b))
        ∧ ∀ g' : GSem nD τ sig, (g'.1.2 ≠ .tc ∨ g'.2.isScoped .tc = true) → r.2.sem g' = 0) :=
  Pipeline.θ_run_regions_loop_kit_sems (Ix := Unit) (Name := ℕ) (U := Option PUnit) (Lvl := ℕ) (J := Fin 0) (P := Fin 0) (Val := Elt F)
    (pcfgs (F := F)) noAdm (fun k => k.1.elim0) defs₀ Variants.none noL noLv loops noTk m ρ (Cert.ReferenceIdeal.main (F := F)) (segs m)
    (fun c Q => by
      have h : CSeg.runL (segs m) = Cert.ReferenceIdeal.main (F := F) c := by
        unfold CSeg.runL
        exact (congrArg _ (segs_prog m)).trans (main_eq c).symm
      exact BIBase.Entails.of_eq (congrArg (fun p => wp frame _ Set.univ p Q) h))
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rest c))
    (Tₙ := fun c => iprop(held (c : Thread nD τ) (ucRefs τ sig) (WE m c)))
    (hch := segs_chain m)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = WE m c b)
    (hfin := fun c s' => by
      unfold held
      iintro ⟨Hh, HSI⟩
      ihave Hr := (pointsTo_read_all (ucRefs τ sig) (fun b => ((c : Dev nD), b)) (fun b => WE m c b) s') $$ [Hh HSI]
      · isplitl [Hh] <;> iassumption
      icases Hr with ⟨%h, HSI⟩
      imodintro
      isplitr; · ipureintro; exact h
      iexact HSI)
    (hQ := fun _ h hs => ⟨fun c b hb => h c _ (devRef_mem_ucRefs b hb), hs⟩)

end Cert.Proof.Ref
-- ==== Proof.RefTrip.lean ====
/-
  One trip of each of the reference's loops: what it leaves in the carried arrays, as terms over what it found there.
  Forward: `h' = a·h + b[k]`, the new state written at row `k` of the states, the old one at row `k` of the saved
  states. Backward, at row `r = 8191 - k`: `g = carry + ct[r]`, the new carry `conj(a)·g`, the sums for the derivative
  of `a` extended by `g·conj(saved[r])`, and `g` written at row `r`.
-/
module

public import proofs.«01_k».proof.Proof.RefRun

@[expose] public section

noncomputable section

namespace Cert.Proof.Ref

open Cert.ReferenceIdeal Cert.ReferenceIdeal.Gen

open Idealize.ShloMosaic
open Idealize.ShloMosaic.TcCoe Idealize.ShloMosaic.Tactic
open Idealize.ShloMosaic.StableHlo (after afterL atTrip launchContents)

variable {F : FTy → Type} [FloatOps F]

/-- A row vector of the reference's state, and an array of one per time step. -/
abbrev Row (F : FTy → Type) := FVec F S2048 .f32
abbrev Mat (F : FTy → Type) := FVec F S8192x2048 .f32

/-- Row `k` of `x`. -/
def rowAt (x : Mat F) (k : IVec S_ 32) : Row F :=
  shapeCast S2048 (Host.dynamicSlice S1x2048 x (fun j => ((![k, constantI S_ 32 0#32] : Fin 2 → IVec S_ 32) j (Shape.Idx.first h_S_)).toInt) sliceFits_S8192x2048_S1x2048) shapeCasts_S1x2048_S2048

/-- `x` with row `k` replaced by `r`. -/
def setRow (x : Mat F) (r : Row F) (k : IVec S_ 32) : Mat F :=
  Host.dynamicUpdateSlice x (broadcastInDim S1x2048 ![1] bcast_S2048_S1x2048_1 r) (fun j => ((![k, constantI S_ 32 0#32] : Fin 2 → IVec S_ 32) j (Shape.Idx.first h_S_)).toInt) updateFits_S8192x2048_S1x2048

/-- The row a backward trip works on. -/
def back (k : IVec S_ 32) : IVec S_ 32 := subi (subi (constantI S_ 32 8192#32) k) (constantI S_ 32 1#32)

section Forward
variable (V : Valuation τ sig (Elt F))

/-- The new state, real part; -/
def fRe : Row F := addf (subf (mulf (V main_v16_2) (V main_v16_5)) (mulf (V main_v16_3) (V main_v16_6))) (rowAt (V main_v16_0) (V main_v16_4))
/-- imaginary part. -/
def fIm : Row F := addf (addf (mulf (V main_v16_2) (V main_v16_6)) (mulf (V main_v16_3) (V main_v16_5))) (rowAt (V main_v16_1) (V main_v16_4))

/-- One trip of the first loop. -/
abbrev trip0 : Valuation τ sig (Elt F) := afterL body0 (after condOps0 V)

theorem trip0_arg0 : trip0 V main_arg0 = V main_arg0 := by
  unfold trip0; simp only [StableHlo.afterL_cons, StableHlo.afterL_nil]
  after_reads_simp

theorem trip0_arg1 : trip0 V main_arg1 = V main_arg1 := by
  unfold trip0; simp only [StableHlo.afterL_cons, StableHlo.afterL_nil]
  after_reads_simp

theorem trip0_arg2 : trip0 V main_arg2 = V main_arg2 := by
  unfold trip0; simp only [StableHlo.afterL_cons, StableHlo.afterL_nil]
  after_reads_simp

theorem trip0_arg3 : trip0 V main_arg3 = V main_arg3 := by
  unfold trip0; simp only [StableHlo.afterL_cons, StableHlo.afterL_nil]
  after_reads_simp

theorem trip0_v8 : trip0 V main_v8 = V main_v8 := by
  unfold trip0; simp only [StableHlo.afterL_cons, StableHlo.afterL_nil]
  after_reads_simp

theorem trip0_v9 : trip0 V main_v9 = V main_v9 := by
  unfold trip0; simp only [StableHlo.afterL_cons, StableHlo.afterL_nil]
  after_reads_simp

theorem trip0_v16_0 : trip0 V main_v16_0 = V main_v16_0 := by
  unfold trip0; simp only [StableHlo.afterL_cons, StableHlo.afterL_nil]
  after_reads_simp

theorem trip0_v16_1 : trip0 V main_v16_1 = V main_v16_1 := by
  unfold trip0; simp only [StableHlo.afterL_cons, StableHlo.afterL_nil]
  after_reads_simp

theorem trip0_v16_2 : trip0 V main_v16_2 = V main_v16_2 := by
  unfold trip0; simp only [StableHlo.afterL_cons, StableHlo.afterL_nil]
  after_reads_simp

theorem trip0_v16_3 : trip0 V main_v16_3 = V main_v16_3 := by
  unfold trip0; simp only [StableHlo.afterL_cons, StableHlo.afterL_nil]
  after_reads_simp

theorem trip0_v16_5 : trip0 V main_v16_5 = fRe V := by
  unfold trip0; simp only [StableHlo.afterL_cons, StableHlo.afterL_nil]
  after_reads_simp [StableHlo.unaryIndexed_result_read, StableHlo.binaryIndexed_result_read, StableHlo.indexContents_tref_cons, StableHlo.indexContents_tref_empty]
  simp -implicitDefEqProofs only [StableHlo.TRef.toBuf, StableHlo.TRef.ofBuf, cast_cast, cast_eq]
  rfl

theorem trip0_v16_6 : trip0 V main_v16_6 = fIm V := by
  unfold trip0; simp only [StableHlo.afterL_cons, StableHlo.afterL_nil]
  after_reads_simp [StableHlo.unaryIndexed_result_read, StableHlo.binaryIndexed_result_read, StableHlo.indexContents_tref_cons, StableHlo.indexContents_tref_empty]
  simp -implicitDefEqProofs only [StableHlo.TRef.toBuf, StableHlo.TRef.ofBuf, cast_cast, cast_eq]
  rfl

theorem trip0_v16_7 : trip0 V main_v16_7 = setRow (V main_v16_7) (fRe V) (V main_v16_4) := by
  unfold trip0; simp only [StableHlo.afterL_cons, StableHlo.afterL_nil]
  after_reads_simp [StableHlo.unaryIndexed_result_read, StableHlo.binaryIndexed_result_read, StableHlo.indexContents_tref_cons, StableHlo.indexContents_tref_empty]
  simp -implicitDefEqProofs only [StableHlo.TRef.toBuf, StableHlo.TRef.ofBuf, cast_cast, cast_eq]
  rfl

theorem trip0_v16_8 : trip0 V main_v16_8 = setRow (V main_v16_8) (fIm V) (V main_v16_4) := by
  unfold trip0; simp only [StableHlo.afterL_cons, StableHlo.afterL_nil]
  after_reads_simp [StableHlo.unaryIndexed_result_read, StableHlo.binaryIndexed_result_read, StableHlo.indexContents_tref_cons, StableHlo.indexContents_tref_empty]
  simp -implicitDefEqProofs only [StableHlo.TRef.toBuf, StableHlo.TRef.ofBuf, cast_cast, cast_eq]
  rfl

theorem trip0_v16_9 : trip0 V main_v16_9 = setRow (V main_v16_9) (V main_v16_5) (V main_v16_4) := by
  unfold trip0; simp only [StableHlo.afterL_cons, StableHlo.afterL_nil]
  after_reads_simp [StableHlo.unaryIndexed_result_read, StableHlo.binaryIndexed_result_read, StableHlo.indexContents_tref_cons, StableHlo.indexContents_tref_empty]
  simp -implicitDefEqProofs only [StableHlo.TRef.toBuf, StableHlo.TRef.ofBuf, cast_cast, cast_eq]
  rfl

theorem trip0_v16_10 : trip0 V main_v16_10 = setRow (V main_v16_10) (V main_v16_6) (V main_v16_4) := by
  unfold trip0; simp only [StableHlo.afterL_cons, StableHlo.afterL_nil]
  after_reads_simp [StableHlo.unaryIndexed_result_read, StableHlo.binaryIndexed_result_read, StableHlo.indexContents_tref_cons, StableHlo.indexContents_tref_empty]
  simp -implicitDefEqProofs only [StableHlo.TRef.toBuf, StableHlo.TRef.ofBuf, cast_cast, cast_eq]
  rfl

end Forward

section Backward
variable (V : Valuation τ sig (Elt F))

/-- The gradient of the state, real part; -/
def gRe : Row F := addf (V main_v39_9) (rowAt (V main_v39_0) (back (V main_v39_6)))
/-- imaginary part. -/
def gIm : Row F := addf (V main_v39_10) (rowAt (V main_v39_1) (back (V main_v39_6)))
/-- The saved state, real part; -/
def pRe : Row F := rowAt (V main_v39_2) (back (V main_v39_6))
/-- imaginary part. -/
def pIm : Row F := rowAt (V main_v39_3) (back (V main_v39_6))

/-- One trip of the second loop. -/
abbrev trip1 : Valuation τ sig (Elt F) := afterL body1 (after condOps1 V)

theorem trip1_arg0 : trip1 V main_arg0 = V main_arg0 := by
  unfold trip1; simp only [StableHlo.afterL_cons, StableHlo.afterL_nil]
  after_reads_simp

theorem trip1_arg1 : trip1 V main_arg1 = V main_arg1 := by
  unfold trip1; simp only [StableHlo.afterL_cons, StableHlo.afterL_nil]
  after_reads_simp

theorem trip1_arg2 : trip1 V main_arg2 = V main_arg2 := by
  unfold trip1; simp only [StableHlo.afterL_cons, StableHlo.afterL_nil]
  after_reads_simp

theorem trip1_arg3 : trip1 V main_arg3 = V main_arg3 := by
  unfold trip1; simp only [StableHlo.afterL_cons, StableHlo.afterL_nil]
  after_reads_simp

theorem trip1_v39_0 : trip1 V main_v39_0 = V main_v39_0 := by
  unfold trip1; simp only [StableHlo.afterL_cons, StableHlo.afterL_nil]
  after_reads_simp

theorem trip1_v39_1 : trip1 V main_v39_1 = V main_v39_1 := by
  unfold trip1; simp only [StableHlo.afterL_cons, StableHlo.afterL_nil]
  after_reads_simp

theorem trip1_v39_2 : trip1 V main_v39_2 = V main_v39_2 := by
  unfold trip1; simp only [StableHlo.afterL_cons, StableHlo.afterL_nil]
  after_reads_simp

theorem trip1_v39_3 : trip1 V main_v39_3 = V main_v39_3 := by
  unfold trip1; simp only [StableHlo.afterL_cons, StableHlo.afterL_nil]
  after_reads_simp

theorem trip1_v39_4 : trip1 V main_v39_4 = V main_v39_4 := by
  unfold trip1; simp only [StableHlo.afterL_cons, StableHlo.afterL_nil]
  after_reads_simp

theorem trip1_v39_5 : trip1 V main_v39_5 = V main_v39_5 := by
  unfold trip1; simp only [StableHlo.afterL_cons, StableHlo.afterL_nil]
  after_reads_simp

theorem trip1_v39_9 : trip1 V main_v39_9 = addf (mulf (V main_v39_5) (gIm V)) (mulf (V main_v39_4) (gRe V)) := by
  unfold trip1; simp only [StableHlo.afterL_cons, StableHlo.afterL_nil]
  after_reads_simp [StableHlo.unaryIndexed_result_read, StableHlo.binaryIndexed_result_read, StableHlo.indexContents_tref_cons, StableHlo.indexContents_tref_empty]
  simp -implicitDefEqProofs only [StableHlo.TRef.toBuf, StableHlo.TRef.ofBuf, cast_cast, cast_eq]
  rfl

theorem trip1_v39_10 : trip1 V main_v39_10 = addf (mulf (V main_v39_4) (gIm V)) (mulf (V main_v39_5) (Host.negf (gRe V))) := by
  unfold trip1; simp only [StableHlo.afterL_cons, StableHlo.afterL_nil]
  after_reads_simp [StableHlo.unaryIndexed_result_read, StableHlo.binaryIndexed_result_read, StableHlo.indexContents_tref_cons, StableHlo.indexContents_tref_empty]
  simp -implicitDefEqProofs only [StableHlo.TRef.toBuf, StableHlo.TRef.ofBuf, cast_cast, cast_eq]
  rfl

theorem trip1_v39_7 : trip1 V main_v39_7 = addf (addf (V main_v39_7) (mulf (gIm V) (pIm V))) (mulf (gRe V) (pRe V)) := by
  unfold trip1; simp only [StableHlo.afterL_cons, StableHlo.afterL_nil]
  after_reads_simp [StableHlo.unaryIndexed_result_read, StableHlo.binaryIndexed_result_read, StableHlo.indexContents_tref_cons, StableHlo.indexContents_tref_empty]
  simp -implicitDefEqProofs only [StableHlo.TRef.toBuf, StableHlo.TRef.ofBuf, cast_cast, cast_eq]
  rfl

theorem trip1_v39_8 : trip1 V main_v39_8 = addf (addf (V main_v39_8) (mulf (gIm V) (pRe V))) (mulf (Host.negf (gRe V)) (pIm V)) := by
  unfold trip1; simp only [StableHlo.afterL_cons, StableHlo.afterL_nil]
  after_reads_simp [StableHlo.unaryIndexed_result_read, StableHlo.binaryIndexed_result_read, StableHlo.indexContents_tref_cons, StableHlo.indexContents_tref_empty]
  simp -implicitDefEqProofs only [StableHlo.TRef.toBuf, StableHlo.TRef.ofBuf, cast_cast, cast_eq]
  rfl

theorem trip1_v39_11 : trip1 V main_v39_11 = setRow (V main_v39_11) (gRe V) (back (V main_v39_6)) := by
  unfold trip1; simp only [StableHlo.afterL_cons, StableHlo.afterL_nil]
  after_reads_simp [StableHlo.unaryIndexed_result_read, StableHlo.binaryIndexed_result_read, StableHlo.indexContents_tref_cons, StableHlo.indexContents_tref_empty]
  simp -implicitDefEqProofs only [StableHlo.TRef.toBuf, StableHlo.TRef.ofBuf, cast_cast, cast_eq]
  unfold setRow gRe rowAt back
  generalize (subi (subi (constantI S_ 32 8192#32) (V (Proc.tc.devRef main_v39_6))) (constantI S_ 32 1#32) : IVec S_ 32) = r
  rfl

theorem trip1_v39_12 : trip1 V main_v39_12 = setRow (V main_v39_12) (gIm V) (back (V main_v39_6)) := by
  unfold trip1; simp only [StableHlo.afterL_cons, StableHlo.afterL_nil]
  after_reads_simp [StableHlo.unaryIndexed_result_read, StableHlo.binaryIndexed_result_read, StableHlo.indexContents_tref_cons, StableHlo.indexContents_tref_empty]
  simp -implicitDefEqProofs only [StableHlo.TRef.toBuf, StableHlo.TRef.ofBuf, cast_cast, cast_eq]
  unfold setRow gIm rowAt back
  generalize (subi (subi (constantI S_ 32 8192#32) (V (Proc.tc.devRef main_v39_6))) (constantI S_ 32 1#32) : IVec S_ 32) = r
  rfl

end Backward

end Cert.Proof.Ref
-- ==== Proof.RefEnds.lean ====
/-
  The reference's buffers at the loops' ends and at the program's end: the arguments are kept, the arrays the loops
  read are the arguments converted and cut into real and imaginary halves, the results are what the backward loop left,
  put back side by side.
-/
module

public import proofs.«01_k».proof.Proof.RefTrip

@[expose] public section

noncomputable section

namespace Cert.Proof.Ref

open Cert.ReferenceIdeal Cert.ReferenceIdeal.Gen

open Idealize.ShloMosaic
open Idealize.ShloMosaic.TcCoe Idealize.ShloMosaic.Tactic
open Idealize.SL Idealize.SL.Sem
open Idealize.ShloMosaic.StableHlo (after afterL atTrip launchContents)

variable {F : FTy → Type} [FloatOps F]
variable (m : (ℓ : Loc nD τ sig) → Buf (Elt F) ℓ) (c : Dev nD)

/-! ## Buffers no trip writes -/

theorem keep0 {b : Ref sig .tc} (h : ∀ V : Valuation τ sig (Elt F), trip0 V b = V b) : ∀ k, L0 m k c b = W0 m c b
  | 0 => rfl
  | k + 1 => by rw [L0, StableHlo.atTrip_succ]; exact (h _).trans (keep0 h k)

theorem keep1 {b : Ref sig .tc} (h : ∀ V : Valuation τ sig (Elt F), trip1 V b = V b) : ∀ k, L1 m k c b = W1 m c b
  | 0 => rfl
  | k + 1 => by rw [L1, StableHlo.atTrip_succ]; exact (h _).trans (keep1 h k)

theorem kept_arg (b : Ref sig .tc) (h0 : ∀ V : Valuation τ sig (Elt F), trip0 V b = V b) (h1 : ∀ V : Valuation τ sig (Elt F), trip1 V b = V b)
    (hp : ∀ V : Valuation τ sig (Elt F), after preOps V b = V b) (hm : ∀ V : Valuation τ sig (Elt F), after midOps1 (after midOps0 (after condOps0 V)) b = V b)
    (hq : ∀ V : Valuation τ sig (Elt F), after postOps (after condOps1 V) b = V b) : WE m c b = launchContents m c b := by
  rw [WE, hq, keep1 m c h1, W1, hm, keep0 m c h0, W0, hp]

theorem WE_arg0 : WE m c main_arg0 = m ((c.tc : Thread nD τ).loc main_arg0) :=
  kept_arg m c main_arg0 trip0_arg0 trip1_arg0 (fun V => by after_reads_simp) (fun V => by after_reads_simp) (fun V => by after_reads_simp)
theorem WE_arg1 : WE m c main_arg1 = m ((c.tc : Thread nD τ).loc main_arg1) :=
  kept_arg m c main_arg1 trip0_arg1 trip1_arg1 (fun V => by after_reads_simp) (fun V => by after_reads_simp) (fun V => by after_reads_simp)
theorem WE_arg2 : WE m c main_arg2 = m ((c.tc : Thread nD τ).loc main_arg2) :=
  kept_arg m c main_arg2 trip0_arg2 trip1_arg2 (fun V => by after_reads_simp) (fun V => by after_reads_simp) (fun V => by after_reads_simp)
theorem WE_arg3 : WE m c main_arg3 = m ((c.tc : Thread nD τ).loc main_arg3) :=
  kept_arg m c main_arg3 trip0_arg3 trip1_arg3 (fun V => by after_reads_simp) (fun V => by after_reads_simp) (fun V => by after_reads_simp)

theorem all_scoped : ∀ sm : SemLoc sig, sm.isScoped .tc = true := by decide

/-- The run, the semaphores all at zero. -/
theorem run' [∀ e, Nonempty (Elt F e)] (ρ : Dev nD → PrngReg) :
    θ_run (defs (F := F)) (onTc (τ := τ) (Cert.ReferenceIdeal.main (F := F))) ⟨m, fun _ => 0, ρ⟩
      (fun r => (∀ (c : Dev nD) (b : Ref sig .tc), (Proc.devRef .tc b : DevRef τ sig).isScoped = false →
        r.2.mem ((c.tc : Thread nD τ).loc b) = WE m c (Proc.devRef .tc b)) ∧ r.2.sem = fun _ => 0) :=
  (θ_run defs _ _).mono (fun _ h => ⟨h.1, funext fun g => h.2 g (.inr (all_scoped g.2))⟩) (run m ρ)

/-- The reference's frame. -/
theorem frame [∀ e, Nonempty (Elt F e)] (ρ : Dev nD → PrngReg) :
    θ_run (defs (F := F)) (onTc (τ := τ) (Cert.ReferenceIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c main_arg0 rfl).trans (WE_arg0 m c), (h.1 c main_arg1 rfl).trans (WE_arg1 m c),
    (h.1 c main_arg2 rfl).trans (WE_arg2 m c), (h.1 c main_arg3 rfl).trans (WE_arg3 m c)⟩, h.2⟩) (run' m ρ)

end Cert.Proof.Ref
-- ==== Proof.Scan.lean ====
/-
  The linear recurrence `h(n+1) = a·h(n) + b(n)` over the complex numbers, and the doubling that computes a block of it:
  after the levels with shifts 1, 2, 4, …, n/2 row `i` holds `h(i) - aⁿ·h(i-n)`, which for `n` = the block's length is
  `h(i)`. Also: a complex number as the pair of extended reals a kernel keeps it in.
-/
module

public import Mathlib.Data.Complex.Basic
public import Mathlib.Data.EReal.Operations
public import Mathlib.Algebra.BigOperators.Fin
public import Mathlib.Algebra.Order.BigOperators.Group.Finset
public import Mathlib.Tactic.Ring
public import Mathlib.Tactic.LinearCombination

@[expose] public section

noncomputable section

namespace Cert.Proof.Scan

open scoped ComplexConjugate

/-! ## The recurrence -/

/-- The states: `H a b 0 = 0`, `H a b (n + 1) = a · H a b n + b n`. -/
def H (a : ℂ) (b : ℕ → ℂ) : ℕ → ℂ
  | 0 => 0
  | n + 1 => a * H a b n + b n

/-- `f` less `aⁿ` times `f` moved by `n`, zero moved in. -/
def lag (a : ℂ) (f : ℕ → ℂ) (n i : ℕ) : ℂ := f i - a ^ n * (if n ≤ i then f (i - n) else 0)

/-- One doubling. -/
theorem lag_double (a : ℂ) (f : ℕ → ℂ) (n i : ℕ) :
    lag a f n i + a ^ n * (if n ≤ i then lag a f n (i - n) else 0) = lag a f (n + n) i := by
  unfold lag
  by_cases h : n ≤ i
  · by_cases h' : n ≤ i - n
    · have h2 : n + n ≤ i := by omega
      rw [if_pos h, if_pos h', if_pos h, if_pos h2, show i - n - n = i - (n + n) by omega, pow_add]
      ring
    · have h2 : ¬ n + n ≤ i := by omega
      rw [if_pos h, if_neg h', if_pos h, if_neg h2]
      ring
  · have h2 : ¬ n + n ≤ i := by omega
    rw [if_neg h, if_neg h, if_neg h2]
    ring

/-- The levels start from the recurrence's inputs, -/
theorem lag_one (a : ℂ) (f w : ℕ → ℂ) (h0 : f 0 = w 0) (hs : ∀ i, f (i + 1) = a * f i + w (i + 1)) (i : ℕ) : lag a f 1 i = w i := by
  unfold lag
  cases i with
  | zero => simp [h0]
  | succ i => rw [if_pos (by omega), hs, Nat.add_sub_cancel]; ring

/-- and end at its states. -/
theorem lag_end (a : ℂ) (f : ℕ → ℂ) (n i : ℕ) (h : i < n) : lag a f n i = f i := by
  unfold lag
  rw [if_neg (by omega)]
  ring

/-- The inputs of a block: `b`, the state that enters added to the first. -/
def enter (a : ℂ) (b : ℕ → ℂ) (s i : ℕ) : ℂ := b (s + i) + (if i = 0 then a * H a b s else 0)

theorem lag_enter (a : ℂ) (b : ℕ → ℂ) (s i : ℕ) : lag a (fun i => H a b (s + i + 1)) 1 i = enter a b s i := by
  refine lag_one a _ (enter a b s) ?_ (fun i => ?_) i
  · simp only [enter, H, if_true, Nat.add_zero]; ring
  · rw [enter, if_neg (Nat.succ_ne_zero i), add_zero]
    rfl

/-- The sum of `g(n)·conj(h(n))` over `n < k`. -/
def D (u : ℕ → ℂ) : ℕ → ℂ
  | 0 => 0
  | k + 1 => D u k + u k

theorem D_add (u : ℕ → ℂ) (k n : ℕ) : D u (k + n) = D u k + ∑ r ∈ Finset.range n, u (k + r) := by
  induction n with
  | zero => simp
  | succ n ih => rw [← Nat.add_assoc, D, ih, Finset.sum_range_succ]; ring

/-! ## A complex number as two extended reals -/

/-- `x` and `y` are the real and imaginary part of `z`. -/
def Cx (x y : EReal) (z : ℂ) : Prop := x = ((z.re : ℝ) : EReal) ∧ y = ((z.im : ℝ) : EReal)

variable {x y p q s t : EReal} {z w u : ℂ}

theorem Cx.zero : Cx 0 0 0 := ⟨by simp, by simp⟩

theorem Cx.congr (h : Cx x y z) (e : z = w) : Cx x y w := e ▸ h

theorem Cx.add (h : Cx x y z) (h' : Cx p q w) : Cx (x + p) (y + q) (z + w) := by
  obtain ⟨rfl, rfl⟩ := h; obtain ⟨rfl, rfl⟩ := h'
  exact ⟨by rw [← EReal.coe_add, Complex.add_re], by rw [← EReal.coe_add, Complex.add_im]⟩

/-- The product. -/
theorem Cx.mul (h : Cx x y z) (h' : Cx p q w) : Cx (x * p - y * q) (x * q + y * p) (z * w) := by
  obtain ⟨rfl, rfl⟩ := h; obtain ⟨rfl, rfl⟩ := h'
  exact ⟨by rw [← EReal.coe_mul, ← EReal.coe_mul, ← EReal.coe_sub, Complex.mul_re],
    by rw [← EReal.coe_mul, ← EReal.coe_mul, ← EReal.coe_add, Complex.mul_im]⟩

/-- The square as the kernel computes it. -/
theorem Cx.sq (h : Cx x y z) : Cx (x * x - y * y) (2 * x * y) (z * z) := by
  obtain ⟨rfl, rfl⟩ := h
  refine ⟨by rw [← EReal.coe_mul, ← EReal.coe_mul, ← EReal.coe_sub, Complex.mul_re], ?_⟩
  rw [show (2 : EReal) = ((2 : ℝ) : EReal) from rfl, ← EReal.coe_mul, ← EReal.coe_mul, Complex.mul_im]
  congr 1; ring

/-- One level: `z + w·u`. -/
theorem Cx.level (h : Cx x y z) (h' : Cx p q w) (h'' : Cx s t u) : Cx (x + p * s - q * t) (y + p * t + q * s) (z + w * u) := by
  obtain ⟨rfl, rfl⟩ := h; obtain ⟨rfl, rfl⟩ := h'; obtain ⟨rfl, rfl⟩ := h''
  refine ⟨?_, ?_⟩
  · rw [← EReal.coe_mul, ← EReal.coe_mul, ← EReal.coe_add, ← EReal.coe_sub, Complex.add_re, Complex.mul_re]
    congr 1; ring
  · rw [← EReal.coe_mul, ← EReal.coe_mul, ← EReal.coe_add, ← EReal.coe_add, Complex.add_im, Complex.mul_im]
    congr 1; ring

/-- The conjugate, the imaginary part taken from 0. -/
theorem Cx.conj (h : Cx x y z) : Cx x (0 - y) (conj z) := by
  obtain ⟨rfl, rfl⟩ := h
  refine ⟨by rw [Complex.conj_re], ?_⟩
  rw [show (0 : EReal) = ((0 : ℝ) : EReal) from rfl, ← EReal.coe_sub, Complex.conj_im]
  congr 1; ring

/-- The conjugate's product: `conj z · w`. -/
theorem Cx.conjMul (h : Cx x y z) (h' : Cx p q w) : Cx (x * p + y * q) (x * q - y * p) (conj z * w) := by
  obtain ⟨rfl, rfl⟩ := h; obtain ⟨rfl, rfl⟩ := h'
  refine ⟨?_, ?_⟩
  · rw [← EReal.coe_mul, ← EReal.coe_mul, ← EReal.coe_add, Complex.mul_re, Complex.conj_re, Complex.conj_im]
    congr 1; ring
  · rw [← EReal.coe_mul, ← EReal.coe_mul, ← EReal.coe_sub, Complex.mul_im, Complex.conj_re, Complex.conj_im]
    congr 1; ring

/-- The product with a conjugate: `z · conj w`. -/
theorem Cx.mulConj (h : Cx x y z) (h' : Cx p q w) : Cx (x * p + y * q) (y * p - x * q) (z * conj w) := by
  obtain ⟨rfl, rfl⟩ := h; obtain ⟨rfl, rfl⟩ := h'
  refine ⟨?_, ?_⟩
  · rw [← EReal.coe_mul, ← EReal.coe_mul, ← EReal.coe_add, Complex.mul_re, Complex.conj_re, Complex.conj_im]
    congr 1; ring
  · rw [← EReal.coe_mul, ← EReal.coe_mul, ← EReal.coe_sub, Complex.mul_im, Complex.conj_re, Complex.conj_im]
    congr 1; ring

/-- A finite sum of such pairs. -/
theorem Cx.sum {ι : Type} (S : Finset ι) {f g : ι → EReal} {v : ι → ℂ} (h : ∀ i ∈ S, Cx (f i) (g i) (v i)) :
    Cx (∑ i ∈ S, f i) (∑ i ∈ S, g i) (∑ i ∈ S, v i) := by
  classical
  induction S using Finset.induction_on with
  | empty => simpa using Cx.zero
  | insert a S ha ih =>
    rw [Finset.sum_insert ha, Finset.sum_insert ha, Finset.sum_insert ha]
    exact (h a (Finset.mem_insert_self ..)).add (ih fun i hi => h i (Finset.mem_insert_of_mem hi))

/-- The pair determines both parts. -/
theorem Cx.unique {x' y' : EReal} (h : Cx x y z) (h' : Cx x' y' z) : x = x' ∧ y = y' := ⟨h.1.trans h'.1.symm, h.2.trans h'.2.symm⟩

end Cert.Proof.Scan
-- ==== Proof.Lev.lean ====
/-
  One level of the doubling, as vector operations on a block of 128 rows, and what the operations hold at a row and a
  column when floats are extended reals.
-/
module

public import proofs.«01_k».proof.Proof.Fwd
public import proofs.«01_k».proof.Proof.Scan
public import Idealize.ShloMosaic.Lib.Pointwise.Tactic

@[expose] public section

set_option maxRecDepth 16384

noncomputable section

namespace Cert.Proof.Lev

open Cert.KernelIdeal Cert.KernelIdeal.Gen
open Idealize.ShloMosaic
open Cert.Proof.Scan

section Ops

variable {F : FTy → Type} [FloatOps F]

/-- A row spread over the block. -/
def wide (p : FVec F S1x2048 .f32) : FVec F S128x2048 .f32 := broadcastTo S128x2048 p broadcasts_S1x2048_S128x2048
def zeros : FVec F S128x2048 .f32 := broadcast S128x2048 (Scalar.ofBits .f32 0x00000000#32)
def ids : IVec S128x2048 32 := iota .tc S128x2048 32 [0] iota_S128x2048_d0_w32
/-- The rows moved down by `d`, zero moved in at the top. -/
def down (d : BitVec 32) (x : FVec F S128x2048 .f32) : FVec F S128x2048 .f32 :=
  select (cmpi .sge ids (broadcast S128x2048 d)) (dynamicRotate 0 d none x rotates_S128x2048_d0) zeros
/-- The rows moved up by `128 - e`, zero moved in at the bottom. -/
def up (e : BitVec 32) (x : FVec F S128x2048 .f32) : FVec F S128x2048 .f32 :=
  select (cmpi .slt ids (broadcast S128x2048 e)) (dynamicRotate 0 e none x rotates_S128x2048_d0) zeros
/-- One level's real and imaginary part, and the multiplier's square. -/
def lre (p q : FVec F S1x2048 .f32) (x s t : FVec F S128x2048 .f32) : FVec F S128x2048 .f32 :=
  subf (addf x (mulf (wide p) s)) (mulf (wide q) t)
def lim (p q : FVec F S1x2048 .f32) (y s t : FVec F S128x2048 .f32) : FVec F S128x2048 .f32 :=
  addf (addf y (mulf (wide p) t)) (mulf (wide q) s)
def sqr (p q : FVec F S1x2048 .f32) : FVec F S1x2048 .f32 := subf (mulf p p) (mulf q q)
def sqi (p q : FVec F S1x2048 .f32) : FVec F S1x2048 .f32 :=
  mulf (mulf (broadcast S1x2048 (Scalar.ofBits .f32 0x40000000#32)) p) q
/-- A row put at row `d` of a block, zero elsewhere. -/
def atRow (d : BitVec 32) (p : FVec F S1x2048 .f32) : FVec F S128x2048 .f32 :=
  select (cmpi .eq ids (broadcast S128x2048 d)) (wide (shapeCast S1x2048 p shapeCasts_S1x2048_S1x2048)) zeros

/-- The slabs of 512 columns at even places, and at odd places. -/
def evens (x : FVec F S128x4096 .f32) : FVec F S128x2048 .f32 :=
  concatenate S128x2048 1 [⟨S128x512, extractStridedSlice S128x512 ![0, 0] x slices_S128x4096_o0_0_S128x512⟩,
    ⟨S128x512, extractStridedSlice S128x512 ![0, 1024] x slices_S128x4096_o0_1024_S128x512⟩,
    ⟨S128x512, extractStridedSlice S128x512 ![0, 2048] x slices_S128x4096_o0_2048_S128x512⟩,
    ⟨S128x512, extractStridedSlice S128x512 ![0, 3072] x slices_S128x4096_o0_3072_S128x512⟩] concatenates_S128x512_S128x512_S128x512_S128x512_S128x2048_d1
def odds (x : FVec F S128x4096 .f32) : FVec F S128x2048 .f32 :=
  concatenate S128x2048 1 [⟨S128x512, extractStridedSlice S128x512 ![0, 512] x slices_S128x4096_o0_512_S128x512⟩,
    ⟨S128x512, extractStridedSlice S128x512 ![0, 1536] x slices_S128x4096_o0_1536_S128x512⟩,
    ⟨S128x512, extractStridedSlice S128x512 ![0, 2560] x slices_S128x4096_o0_2560_S128x512⟩,
    ⟨S128x512, extractStridedSlice S128x512 ![0, 3584] x slices_S128x4096_o0_3584_S128x512⟩] concatenates_S128x512_S128x512_S128x512_S128x512_S128x2048_d1
/-- The slabs of the two put side by side in turn. -/
def braid (x y : FVec F S128x2048 .f32) : FVec F S128x4096 .bf16 :=
  truncf .bf16 (concatenate S128x4096 1 [⟨S128x512, extractStridedSlice S128x512 ![0, 0] x slices_S128x2048_o0_0_S128x512⟩,
    ⟨S128x512, extractStridedSlice S128x512 ![0, 0] y slices_S128x2048_o0_0_S128x512⟩,
    ⟨S128x512, extractStridedSlice S128x512 ![0, 512] x slices_S128x2048_o0_512_S128x512⟩,
    ⟨S128x512, extractStridedSlice S128x512 ![0, 512] y slices_S128x2048_o0_512_S128x512⟩,
    ⟨S128x512, extractStridedSlice S128x512 ![0, 1024] x slices_S128x2048_o0_1024_S128x512⟩,
    ⟨S128x512, extractStridedSlice S128x512 ![0, 1024] y slices_S128x2048_o0_1024_S128x512⟩,
    ⟨S128x512, extractStridedSlice S128x512 ![0, 1536] x slices_S128x2048_o0_1536_S128x512⟩,
    ⟨S128x512, extractStridedSlice S128x512 ![0, 1536] y slices_S128x2048_o0_1536_S128x512⟩] concatenates_S128x512_S128x512_S128x512_S128x512_S128x512_S128x512_S128x512_S128x512_S128x4096_d1) bitsLt_bf16_f32
/-- The sum of the rows. -/
def total (x : FVec F S128x2048 .f32) : FVec F S1x2048 .f32 :=
  shapeCast S1x2048 (multiReduction .add [0] S2048 x 0x00000000#32 reduces_S128x2048_S2048 (.inl rfl) rfl) shapeCasts_S2048_S1x2048
/-- Row `d`, as the sum of the rows that keeps that one. -/
def pick (d : BitVec 32) (x : FVec F S128x2048 .f32) : FVec F S1x2048 .f32 :=
  total (select (cmpi .eq ids (broadcast S128x2048 d)) x zeros)

end Ops

abbrev Blk := FVec Ideal S128x2048 .f32
abbrev Row := FVec Ideal S1x2048 .f32

theorem zeros_apply (i : Fin 128) (j : Fin 2048) : (zeros : Blk) (ix2 i j) = (0 : EReal) := by
  unfold zeros
  pointwise

theorem wide_apply (p : Row) (i : Fin 128) (j : Fin 2048) : wide p (ix2 i j) = p (ix2 (0 : Fin 1) j) := by
  unfold wide
  pointwise

theorem ids_apply (i : Fin 128) (j : Fin 2048) : ids (ix2 i j) = BitVec.ofNat 32 i.val := by
  unfold ids
  pointwise

theorem toInt_small (n : ℕ) (h : n < 4096) : (BitVec.ofNat 32 n).toInt = n := by
  rw [BitVec.toInt_eq_toNat_of_lt] <;> rw [BitVec.toNat_ofNat] <;> omega

theorem down_apply (d : ℕ) (hd : d < 128) (x : Blk) (i : Fin 128) (j : Fin 2048) :
    down (BitVec.ofNat 32 d) x (ix2 i j) = if h : d ≤ i.val then x (ix2 ⟨i.val - d, by omega⟩ j) else (0 : EReal) := by
  have hi := i.isLt
  unfold down
  pointwise
  rw [ids_apply, zeros_apply]
  have e : (BitVec.ofNat 32 d).toNat = d := by rw [BitVec.toNat_ofNat]; omega
  by_cases h : d ≤ i.val
  · rw [dif_pos h]
    have hc : IntOp.cmpi CmpIPredicate.sge (BitVec.ofNat 32 i.val) (BitVec.ofNat 32 d) = 1#1 := by
      simp only [IntOp.cmpi, BitVec.sle, toInt_small _ (show i.val < 4096 by omega), toInt_small _ (show d < 4096 by omega)]
      simp only [Nat.cast_le, Nat.cast_lt, h, decide_true, BitVec.ofBool_true]
      rfl
    rw [hc]
    show x _ = x _
    refine congrArg x (congrArg (fun r => ix2 r j) (Fin.ext ?_))
    show (i.val + 128 - (BitVec.ofNat 32 d).toNat % 128) % 128 = i.val - d
    rw [e]; omega
  · rw [dif_neg h]
    have hc : IntOp.cmpi CmpIPredicate.sge (BitVec.ofNat 32 i.val) (BitVec.ofNat 32 d) = 0#1 := by
      simp only [IntOp.cmpi, BitVec.sle, toInt_small _ (show i.val < 4096 by omega), toInt_small _ (show d < 4096 by omega)]
      simp only [Nat.cast_le, Nat.cast_lt, h, decide_false, BitVec.ofBool_false]
      rfl
    rw [hc]
    rfl

theorem up_apply (d : ℕ) (h0 : 0 < d) (hd : d < 128) (x : Blk) (i : Fin 128) (j : Fin 2048) :
    up (BitVec.ofNat 32 (128 - d)) x (ix2 i j) = if h : i.val + d < 128 then x (ix2 ⟨i.val + d, h⟩ j) else (0 : EReal) := by
  have hi := i.isLt
  unfold up
  pointwise
  rw [ids_apply, zeros_apply]
  have e : (BitVec.ofNat 32 (128 - d)).toNat = 128 - d := by rw [BitVec.toNat_ofNat]; omega
  by_cases h : i.val + d < 128
  · rw [dif_pos h]
    have hc : IntOp.cmpi CmpIPredicate.slt (BitVec.ofNat 32 i.val) (BitVec.ofNat 32 (128 - d)) = 1#1 := by
      simp only [IntOp.cmpi, BitVec.slt, toInt_small _ (show i.val < 4096 by omega), toInt_small _ (show 128 - d < 4096 by omega)]
      simp only [Nat.cast_le, Nat.cast_lt, show i.val < 128 - d by omega, decide_true, BitVec.ofBool_true]
      rfl
    rw [hc]
    show x _ = x _
    refine congrArg x (congrArg (fun r => ix2 r j) (Fin.ext ?_))
    show (i.val + 128 - (BitVec.ofNat 32 (128 - d)).toNat % 128) % 128 = i.val + d
    rw [e]; omega
  · rw [dif_neg h]
    have hc : IntOp.cmpi CmpIPredicate.slt (BitVec.ofNat 32 i.val) (BitVec.ofNat 32 (128 - d)) = 0#1 := by
      simp only [IntOp.cmpi, BitVec.slt, toInt_small _ (show i.val < 4096 by omega), toInt_small _ (show 128 - d < 4096 by omega)]
      simp only [Nat.cast_le, Nat.cast_lt, show ¬ i.val < 128 - d by omega, decide_false, BitVec.ofBool_false]
      rfl
    rw [hc]
    rfl

theorem eq_word (i d : ℕ) (hi : i < 4096) (hd : d < 4096) :
    IntOp.cmpi CmpIPredicate.eq (BitVec.ofNat 32 i) (BitVec.ofNat 32 d) = if i = d then 1#1 else 0#1 := by
  by_cases h : i = d
  · subst h; simp [IntOp.cmpi]
  · rw [if_neg h]
    have : BitVec.ofNat 32 i ≠ BitVec.ofNat 32 d := fun he => h (by
      have := congrArg BitVec.toNat he
      rw [BitVec.toNat_ofNat, BitVec.toNat_ofNat] at this; omega)
    show BitVec.ofBool (BitVec.ofNat 32 i == BitVec.ofNat 32 d) = 0#1
    rw [beq_eq_false_iff_ne.2 this]; rfl

theorem atRow_apply (d : ℕ) (hd : d < 128) (p : Row) (i : Fin 128) (j : Fin 2048) :
    atRow (BitVec.ofNat 32 d) p (ix2 i j) = if i.val = d then p (ix2 (0 : Fin 1) j) else (0 : EReal) := by
  have hi := i.isLt
  unfold atRow
  pointwise
  rw [ids_apply, zeros_apply, wide_apply, eq_word _ _ (by omega) (by omega)]
  by_cases h : i.val = d
  · rw [if_pos h, if_pos h]
    show shapeCast S1x2048 p _ (ix2 (0 : Fin 1) j) = _
    rw [shapeCast_self]
  · rw [if_neg h, if_neg h]; rfl

theorem total_apply (x : Blk) (j : Fin 2048) : total x (ix2 (0 : Fin 1) j) = ∑ i : Fin 128, (x (ix2 i j) : EReal) := by
  unfold total
  rw [shapeCast_apply _ _ (ix2 (0 : Fin 1) j) (ix1 j) (by rw [Shape.rowMajor_val_two, Shape.rowMajor_val_one]; show j.val = 0 * 2048 + j.val; omega)]
  refine (Ideal.multiReduction_add_single (s := S128x2048) (a := (0 : Fin 2)) x _ reduces_S128x2048_S2048 _ _ (ix1 j)).trans ?_
  refine Finset.sum_congr rfl fun k _ => congrArg x ?_
  funext c; apply Fin.ext
  fin_cases c <;> rfl

theorem pick_apply (d : ℕ) (hd : d < 128) (x : Blk) (j : Fin 2048) : pick (BitVec.ofNat 32 d) x (ix2 (0 : Fin 1) j) = x (ix2 (⟨d, hd⟩ : Fin 128) j) := by
  unfold pick
  rw [total_apply, Finset.sum_eq_single (⟨d, hd⟩ : Fin 128)]
  · show Scalar.select (IntOp.cmpi .eq (ids (ix2 (⟨d, hd⟩ : Fin 128) j)) (BitVec.ofNat 32 d)) (x (ix2 (⟨d, hd⟩ : Fin 128) j)) _ = _
    rw [ids_apply, eq_word _ _ (by omega) (by omega), if_pos rfl]; rfl
  · intro i _ hi
    show Scalar.select (IntOp.cmpi .eq (ids (ix2 i j)) (BitVec.ofNat 32 d)) (x (ix2 i j)) (zeros (ix2 i j)) = (0 : EReal)
    rw [ids_apply, eq_word _ _ (by omega) (by omega), if_neg (fun h => hi (Fin.ext h)), zeros_apply]; rfl
  · intro h; exact absurd (Finset.mem_univ _) h

/-- Column `j` of the real (imaginary) half within the pair of slabs it lies in. -/
def colR (j : Fin 2048) : Fin 4096 := ⟨1024 * (j.val / 512) + j.val % 512, by omega⟩
def colI (j : Fin 2048) : Fin 4096 := ⟨1024 * (j.val / 512) + j.val % 512 + 512, by omega⟩

/-- Piece `k` of 4 slabs side by side. -/
theorem cat4 (x0 x1 x2 x3 : FVec Ideal S128x512 .f32) (h) (i : Fin 128) (j : Fin 2048) (r : ℕ) (hr : r < 512) :
    (j.val = 0 + r → concatenate S128x2048 1 [⟨S128x512, x0⟩, ⟨S128x512, x1⟩, ⟨S128x512, x2⟩, ⟨S128x512, x3⟩] h (ix2 i j) = x0 (ix2 i ⟨r, hr⟩))
    ∧ (j.val = 512 + r → concatenate S128x2048 1 [⟨S128x512, x0⟩, ⟨S128x512, x1⟩, ⟨S128x512, x2⟩, ⟨S128x512, x3⟩] h (ix2 i j) = x1 (ix2 i ⟨r, hr⟩))
    ∧ (j.val = 1024 + r → concatenate S128x2048 1 [⟨S128x512, x0⟩, ⟨S128x512, x1⟩, ⟨S128x512, x2⟩, ⟨S128x512, x3⟩] h (ix2 i j) = x2 (ix2 i ⟨r, hr⟩))
    ∧ (j.val = 1536 + r → concatenate S128x2048 1 [⟨S128x512, x0⟩, ⟨S128x512, x1⟩, ⟨S128x512, x2⟩, ⟨S128x512, x3⟩] h (ix2 i j) = x3 (ix2 i ⟨r, hr⟩)) := by
  refine ⟨?_, ?_, ?_, ?_⟩ <;> intro e
  · refine concatenate_apply_piece (t := S128x2048) (1 : Fin 2) [⟨S128x512, x0⟩, ⟨S128x512, x1⟩, ⟨S128x512, x2⟩, ⟨S128x512, x3⟩] h (ix2 i j) 0 (by simp) S128x512 x0 rfl rfl 0 (by simp [S128x512, S128x2048])
      (ix2 i ⟨r, hr⟩) ?_ e.symm
    intro b hb; fin_cases b
    · rfl
    · exact absurd rfl hb
  · refine concatenate_apply_piece (t := S128x2048) (1 : Fin 2) [⟨S128x512, x0⟩, ⟨S128x512, x1⟩, ⟨S128x512, x2⟩, ⟨S128x512, x3⟩] h (ix2 i j) 1 (by simp) S128x512 x1 rfl rfl 512 (by simp [S128x512, S128x2048])
      (ix2 i ⟨r, hr⟩) ?_ e.symm
    intro b hb; fin_cases b
    · rfl
    · exact absurd rfl hb
  · refine concatenate_apply_piece (t := S128x2048) (1 : Fin 2) [⟨S128x512, x0⟩, ⟨S128x512, x1⟩, ⟨S128x512, x2⟩, ⟨S128x512, x3⟩] h (ix2 i j) 2 (by simp) S128x512 x2 rfl rfl 1024 (by simp [S128x512, S128x2048])
      (ix2 i ⟨r, hr⟩) ?_ e.symm
    intro b hb; fin_cases b
    · rfl
    · exact absurd rfl hb
  · refine concatenate_apply_piece (t := S128x2048) (1 : Fin 2) [⟨S128x512, x0⟩, ⟨S128x512, x1⟩, ⟨S128x512, x2⟩, ⟨S128x512, x3⟩] h (ix2 i j) 3 (by simp) S128x512 x3 rfl rfl 1536 (by simp [S128x512, S128x2048])
      (ix2 i ⟨r, hr⟩) ?_ e.symm
    intro b hb; fin_cases b
    · rfl
    · exact absurd rfl hb

/-- Piece `k` of 8 slabs side by side. -/
theorem cat8 (x0 x1 x2 x3 x4 x5 x6 x7 : FVec Ideal S128x512 .f32) (h) (i : Fin 128) (j : Fin 4096) (r : ℕ) (hr : r < 512) :
    (j.val = 0 + r → concatenate S128x4096 1 [⟨S128x512, x0⟩, ⟨S128x512, x1⟩, ⟨S128x512, x2⟩, ⟨S128x512, x3⟩, ⟨S128x512, x4⟩, ⟨S128x512, x5⟩, ⟨S128x512, x6⟩, ⟨S128x512, x7⟩] h (ix2 i j) = x0 (ix2 i ⟨r, hr⟩))
    ∧ (j.val = 512 + r → concatenate S128x4096 1 [⟨S128x512, x0⟩, ⟨S128x512, x1⟩, ⟨S128x512, x2⟩, ⟨S128x512, x3⟩, ⟨S128x512, x4⟩, ⟨S128x512, x5⟩, ⟨S128x512, x6⟩, ⟨S128x512, x7⟩] h (ix2 i j) = x1 (ix2 i ⟨r, hr⟩))
    ∧ (j.val = 1024 + r → concatenate S128x4096 1 [⟨S128x512, x0⟩, ⟨S128x512, x1⟩, ⟨S128x512, x2⟩, ⟨S128x512, x3⟩, ⟨S128x512, x4⟩, ⟨S128x512, x5⟩, ⟨S128x512, x6⟩, ⟨S128x512, x7⟩] h (ix2 i j) = x2 (ix2 i ⟨r, hr⟩))
    ∧ (j.val = 1536 + r → concatenate S128x4096 1 [⟨S128x512, x0⟩, ⟨S128x512, x1⟩, ⟨S128x512, x2⟩, ⟨S128x512, x3⟩, ⟨S128x512, x4⟩, ⟨S128x512, x5⟩, ⟨S128x512, x6⟩, ⟨S128x512, x7⟩] h (ix2 i j) = x3 (ix2 i ⟨r, hr⟩))
    ∧ (j.val = 2048 + r → concatenate S128x4096 1 [⟨S128x512, x0⟩, ⟨S128x512, x1⟩, ⟨S128x512, x2⟩, ⟨S128x512, x3⟩, ⟨S128x512, x4⟩, ⟨S128x512, x5⟩, ⟨S128x512, x6⟩, ⟨S128x512, x7⟩] h (ix2 i j) = x4 (ix2 i ⟨r, hr⟩))
    ∧ (j.val = 2560 + r → concatenate S128x4096 1 [⟨S128x512, x0⟩, ⟨S128x512, x1⟩, ⟨S128x512, x2⟩, ⟨S128x512, x3⟩, ⟨S128x512, x4⟩, ⟨S128x512, x5⟩, ⟨S128x512, x6⟩, ⟨S128x512, x7⟩] h (ix2 i j) = x5 (ix2 i ⟨r, hr⟩))
    ∧ (j.val = 3072 + r → concatenate S128x4096 1 [⟨S128x512, x0⟩, ⟨S128x512, x1⟩, ⟨S128x512, x2⟩, ⟨S128x512, x3⟩, ⟨S128x512, x4⟩, ⟨S128x512, x5⟩, ⟨S128x512, x6⟩, ⟨S128x512, x7⟩] h (ix2 i j) = x6 (ix2 i ⟨r, hr⟩))
    ∧ (j.val = 3584 + r → concatenate S128x4096 1 [⟨S128x512, x0⟩, ⟨S128x512, x1⟩, ⟨S128x512, x2⟩, ⟨S128x512, x3⟩, ⟨S128x512, x4⟩, ⟨S128x512, x5⟩, ⟨S128x512, x6⟩, ⟨S128x512, x7⟩] h (ix2 i j) = x7 (ix2 i ⟨r, hr⟩)) := by
  refine ⟨?_, ?_, ?_, ?_, ?_, ?_, ?_, ?_⟩ <;> intro e
  · refine concatenate_apply_piece (t := S128x4096) (1 : Fin 2) [⟨S128x512, x0⟩, ⟨S128x512, x1⟩, ⟨S128x512, x2⟩, ⟨S128x512, x3⟩, ⟨S128x512, x4⟩, ⟨S128x512, x5⟩, ⟨S128x512, x6⟩, ⟨S128x512, x7⟩] h (ix2 i j) 0 (by simp) S128x512 x0 rfl rfl 0 (by simp [S128x512, S128x4096])
      (ix2 i ⟨r, hr⟩) ?_ e.symm
    intro b hb; fin_cases b
    · rfl
    · exact absurd rfl hb
  · refine concatenate_apply_piece (t := S128x4096) (1 : Fin 2) [⟨S128x512, x0⟩, ⟨S128x512, x1⟩, ⟨S128x512, x2⟩, ⟨S128x512, x3⟩, ⟨S128x512, x4⟩, ⟨S128x512, x5⟩, ⟨S128x512, x6⟩, ⟨S128x512, x7⟩] h (ix2 i j) 1 (by simp) S128x512 x1 rfl rfl 512 (by simp [S128x512, S128x4096])
      (ix2 i ⟨r, hr⟩) ?_ e.symm
    intro b hb; fin_cases b
    · rfl
    · exact absurd rfl hb
  · refine concatenate_apply_piece (t := S128x4096) (1 : Fin 2) [⟨S128x512, x0⟩, ⟨S128x512, x1⟩, ⟨S128x512, x2⟩, ⟨S128x512, x3⟩, ⟨S128x512, x4⟩, ⟨S128x512, x5⟩, ⟨S128x512, x6⟩, ⟨S128x512, x7⟩] h (ix2 i j) 2 (by simp) S128x512 x2 rfl rfl 1024 (by simp [S128x512, S128x4096])
      (ix2 i ⟨r, hr⟩) ?_ e.symm
    intro b hb; fin_cases b
    · rfl
    · exact absurd rfl hb
  · refine concatenate_apply_piece (t := S128x4096) (1 : Fin 2) [⟨S128x512, x0⟩, ⟨S128x512, x1⟩, ⟨S128x512, x2⟩, ⟨S128x512, x3⟩, ⟨S128x512, x4⟩, ⟨S128x512, x5⟩, ⟨S128x512, x6⟩, ⟨S128x512, x7⟩] h (ix2 i j) 3 (by simp) S128x512 x3 rfl rfl 1536 (by simp [S128x512, S128x4096])
      (ix2 i ⟨r, hr⟩) ?_ e.symm
    intro b hb; fin_cases b
    · rfl
    · exact absurd rfl hb
  · refine concatenate_apply_piece (t := S128x4096) (1 : Fin 2) [⟨S128x512, x0⟩, ⟨S128x512, x1⟩, ⟨S128x512, x2⟩, ⟨S128x512, x3⟩, ⟨S128x512, x4⟩, ⟨S128x512, x5⟩, ⟨S128x512, x6⟩, ⟨S128x512, x7⟩] h (ix2 i j) 4 (by simp) S128x512 x4 rfl rfl 2048 (by simp [S128x512, S128x4096])
      (ix2 i ⟨r, hr⟩) ?_ e.symm
    intro b hb; fin_cases b
    · rfl
    · exact absurd rfl hb
  · refine concatenate_apply_piece (t := S128x4096) (1 : Fin 2) [⟨S128x512, x0⟩, ⟨S128x512, x1⟩, ⟨S128x512, x2⟩, ⟨S128x512, x3⟩, ⟨S128x512, x4⟩, ⟨S128x512, x5⟩, ⟨S128x512, x6⟩, ⟨S128x512, x7⟩] h (ix2 i j) 5 (by simp) S128x512 x5 rfl rfl 2560 (by simp [S128x512, S128x4096])
      (ix2 i ⟨r, hr⟩) ?_ e.symm
    intro b hb; fin_cases b
    · rfl
    · exact absurd rfl hb
  · refine concatenate_apply_piece (t := S128x4096) (1 : Fin 2) [⟨S128x512, x0⟩, ⟨S128x512, x1⟩, ⟨S128x512, x2⟩, ⟨S128x512, x3⟩, ⟨S128x512, x4⟩, ⟨S128x512, x5⟩, ⟨S128x512, x6⟩, ⟨S128x512, x7⟩] h (ix2 i j) 6 (by simp) S128x512 x6 rfl rfl 3072 (by simp [S128x512, S128x4096])
      (ix2 i ⟨r, hr⟩) ?_ e.symm
    intro b hb; fin_cases b
    · rfl
    · exact absurd rfl hb
  · refine concatenate_apply_piece (t := S128x4096) (1 : Fin 2) [⟨S128x512, x0⟩, ⟨S128x512, x1⟩, ⟨S128x512, x2⟩, ⟨S128x512, x3⟩, ⟨S128x512, x4⟩, ⟨S128x512, x5⟩, ⟨S128x512, x6⟩, ⟨S128x512, x7⟩] h (ix2 i j) 7 (by simp) S128x512 x7 rfl rfl 3584 (by simp [S128x512, S128x4096])
      (ix2 i ⟨r, hr⟩) ?_ e.symm
    intro b hb; fin_cases b
    · rfl
    · exact absurd rfl hb

theorem evens_apply (x : FVec Ideal S128x4096 .f32) (i : Fin 128) (j : Fin 2048) :
    evens x (ix2 i j) = x (ix2 i (colR j)) := by
  unfold evens
  have hj := j.isLt
  obtain ⟨h0, h1, h2, h3⟩ := cat4 (extractStridedSlice S128x512 ![0, 0] x slices_S128x4096_o0_0_S128x512)
    (extractStridedSlice S128x512 ![0, 1024] x slices_S128x4096_o0_1024_S128x512)
    (extractStridedSlice S128x512 ![0, 2048] x slices_S128x4096_o0_2048_S128x512)
    (extractStridedSlice S128x512 ![0, 3072] x slices_S128x4096_o0_3072_S128x512)
    concatenates_S128x512_S128x512_S128x512_S128x512_S128x2048_d1 i j (j.val % 512) (by omega)
  have hq : j.val / 512 = 0 ∨ j.val / 512 = 1 ∨ j.val / 512 = 2 ∨ j.val / 512 = 3 := by omega
  rcases hq with q | q | q | q
  · refine (h0 (by omega)).trans (extractStridedSlice_apply _ _ _ _ _ fun a => ?_)
    match a with
    | ⟨0, _⟩ => exact (Nat.zero_add _).symm
    | ⟨1, _⟩ => show (colR j).val = 0 + j.val % 512; simp only [colR]; omega
  · refine (h1 (by omega)).trans (extractStridedSlice_apply _ _ _ _ _ fun a => ?_)
    match a with
    | ⟨0, _⟩ => exact (Nat.zero_add _).symm
    | ⟨1, _⟩ => show (colR j).val = 1024 + j.val % 512; simp only [colR]; omega
  · refine (h2 (by omega)).trans (extractStridedSlice_apply _ _ _ _ _ fun a => ?_)
    match a with
    | ⟨0, _⟩ => exact (Nat.zero_add _).symm
    | ⟨1, _⟩ => show (colR j).val = 2048 + j.val % 512; simp only [colR]; omega
  · refine (h3 (by omega)).trans (extractStridedSlice_apply _ _ _ _ _ fun a => ?_)
    match a with
    | ⟨0, _⟩ => exact (Nat.zero_add _).symm
    | ⟨1, _⟩ => show (colR j).val = 3072 + j.val % 512; simp only [colR]; omega

theorem odds_apply (x : FVec Ideal S128x4096 .f32) (i : Fin 128) (j : Fin 2048) :
    odds x (ix2 i j) = x (ix2 i (colI j)) := by
  unfold odds
  have hj := j.isLt
  obtain ⟨h0, h1, h2, h3⟩ := cat4 (extractStridedSlice S128x512 ![0, 512] x slices_S128x4096_o0_512_S128x512)
    (extractStridedSlice S128x512 ![0, 1536] x slices_S128x4096_o0_1536_S128x512)
    (extractStridedSlice S128x512 ![0, 2560] x slices_S128x4096_o0_2560_S128x512)
    (extractStridedSlice S128x512 ![0, 3584] x slices_S128x4096_o0_3584_S128x512)
    concatenates_S128x512_S128x512_S128x512_S128x512_S128x2048_d1 i j (j.val % 512) (by omega)
  have hq : j.val / 512 = 0 ∨ j.val / 512 = 1 ∨ j.val / 512 = 2 ∨ j.val / 512 = 3 := by omega
  rcases hq with q | q | q | q
  · refine (h0 (by omega)).trans (extractStridedSlice_apply _ _ _ _ _ fun a => ?_)
    match a with
    | ⟨0, _⟩ => exact (Nat.zero_add _).symm
    | ⟨1, _⟩ => show (colI j).val = 512 + j.val % 512; simp only [colI]; omega
  · refine (h1 (by omega)).trans (extractStridedSlice_apply _ _ _ _ _ fun a => ?_)
    match a with
    | ⟨0, _⟩ => exact (Nat.zero_add _).symm
    | ⟨1, _⟩ => show (colI j).val = 1536 + j.val % 512; simp only [colI]; omega
  · refine (h2 (by omega)).trans (extractStridedSlice_apply _ _ _ _ _ fun a => ?_)
    match a with
    | ⟨0, _⟩ => exact (Nat.zero_add _).symm
    | ⟨1, _⟩ => show (colI j).val = 2560 + j.val % 512; simp only [colI]; omega
  · refine (h3 (by omega)).trans (extractStridedSlice_apply _ _ _ _ _ fun a => ?_)
    match a with
    | ⟨0, _⟩ => exact (Nat.zero_add _).symm
    | ⟨1, _⟩ => show (colI j).val = 3584 + j.val % 512; simp only [colI]; omega

theorem braid_applyR (x y : Blk) (i : Fin 128) (j : Fin 2048) :
    braid x y (ix2 i (colR j)) = x (ix2 i j) := by
  unfold braid
  pointwise
  have hj := j.isLt
  obtain ⟨h0, h1, h2, h3, h4, h5, h6, h7⟩ := cat8
    (extractStridedSlice S128x512 ![0, 0] x slices_S128x2048_o0_0_S128x512)
    (extractStridedSlice S128x512 ![0, 0] y slices_S128x2048_o0_0_S128x512)
    (extractStridedSlice S128x512 ![0, 512] x slices_S128x2048_o0_512_S128x512)
    (extractStridedSlice S128x512 ![0, 512] y slices_S128x2048_o0_512_S128x512)
    (extractStridedSlice S128x512 ![0, 1024] x slices_S128x2048_o0_1024_S128x512)
    (extractStridedSlice S128x512 ![0, 1024] y slices_S128x2048_o0_1024_S128x512)
    (extractStridedSlice S128x512 ![0, 1536] x slices_S128x2048_o0_1536_S128x512)
    (extractStridedSlice S128x512 ![0, 1536] y slices_S128x2048_o0_1536_S128x512)
    concatenates_S128x512_S128x512_S128x512_S128x512_S128x512_S128x512_S128x512_S128x512_S128x4096_d1 i (colR j) (j.val % 512) (by omega)
  have hq : j.val / 512 = 0 ∨ j.val / 512 = 1 ∨ j.val / 512 = 2 ∨ j.val / 512 = 3 := by omega
  rcases hq with q | q | q | q
  · refine (h0 (by simp only [colR]; omega)).trans (extractStridedSlice_apply _ _ _ _ _ fun a => ?_)
    match a with
    | ⟨0, _⟩ => exact (Nat.zero_add _).symm
    | ⟨1, _⟩ => show j.val = 0 + j.val % 512; omega
  · refine (h2 (by simp only [colR]; omega)).trans (extractStridedSlice_apply _ _ _ _ _ fun a => ?_)
    match a with
    | ⟨0, _⟩ => exact (Nat.zero_add _).symm
    | ⟨1, _⟩ => show j.val = 512 + j.val % 512; omega
  · refine (h4 (by simp only [colR]; omega)).trans (extractStridedSlice_apply _ _ _ _ _ fun a => ?_)
    match a with
    | ⟨0, _⟩ => exact (Nat.zero_add _).symm
    | ⟨1, _⟩ => show j.val = 1024 + j.val % 512; omega
  · refine (h6 (by simp only [colR]; omega)).trans (extractStridedSlice_apply _ _ _ _ _ fun a => ?_)
    match a with
    | ⟨0, _⟩ => exact (Nat.zero_add _).symm
    | ⟨1, _⟩ => show j.val = 1536 + j.val % 512; omega

theorem braid_applyI (x y : Blk) (i : Fin 128) (j : Fin 2048) :
    braid x y (ix2 i (colI j)) = y (ix2 i j) := by
  unfold braid
  pointwise
  have hj := j.isLt
  obtain ⟨h0, h1, h2, h3, h4, h5, h6, h7⟩ := cat8
    (extractStridedSlice S128x512 ![0, 0] x slices_S128x2048_o0_0_S128x512)
    (extractStridedSlice S128x512 ![0, 0] y slices_S128x2048_o0_0_S128x512)
    (extractStridedSlice S128x512 ![0, 512] x slices_S128x2048_o0_512_S128x512)
    (extractStridedSlice S128x512 ![0, 512] y slices_S128x2048_o0_512_S128x512)
    (extractStridedSlice S128x512 ![0, 1024] x slices_S128x2048_o0_1024_S128x512)
    (extractStridedSlice S128x512 ![0, 1024] y slices_S128x2048_o0_1024_S128x512)
    (extractStridedSlice S128x512 ![0, 1536] x slices_S128x2048_o0_1536_S128x512)
    (extractStridedSlice S128x512 ![0, 1536] y slices_S128x2048_o0_1536_S128x512)
    concatenates_S128x512_S128x512_S128x512_S128x512_S128x512_S128x512_S128x512_S128x512_S128x4096_d1 i (colI j) (j.val % 512) (by omega)
  have hq : j.val / 512 = 0 ∨ j.val / 512 = 1 ∨ j.val / 512 = 2 ∨ j.val / 512 = 3 := by omega
  rcases hq with q | q | q | q
  · refine (h1 (by simp only [colI]; omega)).trans (extractStridedSlice_apply _ _ _ _ _ fun a => ?_)
    match a with
    | ⟨0, _⟩ => exact (Nat.zero_add _).symm
    | ⟨1, _⟩ => show j.val = 0 + j.val % 512; omega
  · refine (h3 (by simp only [colI]; omega)).trans (extractStridedSlice_apply _ _ _ _ _ fun a => ?_)
    match a with
    | ⟨0, _⟩ => exact (Nat.zero_add _).symm
    | ⟨1, _⟩ => show j.val = 512 + j.val % 512; omega
  · refine (h5 (by simp only [colI]; omega)).trans (extractStridedSlice_apply _ _ _ _ _ fun a => ?_)
    match a with
    | ⟨0, _⟩ => exact (Nat.zero_add _).symm
    | ⟨1, _⟩ => show j.val = 1024 + j.val % 512; omega
  · refine (h7 (by simp only [colI]; omega)).trans (extractStridedSlice_apply _ _ _ _ _ fun a => ?_)
    match a with
    | ⟨0, _⟩ => exact (Nat.zero_add _).symm
    | ⟨1, _⟩ => show j.val = 1536 + j.val % 512; omega

end Cert.Proof.Lev
-- ==== Proof.Dbl.lean ====
/-
  One level at a row and a column, over the complex numbers: it takes the rows from `lag n` to `lag 2n`.
-/
module

public import proofs.«01_k».proof.Proof.Lev

@[expose] public section

set_option maxRecDepth 16384

noncomputable section

namespace Cert.Proof.Lev

open Cert.KernelIdeal Cert.KernelIdeal.Gen
open Idealize.ShloMosaic
open Cert.Proof.Scan

/-- A row holds `z` at column `j`. -/
def RowIs (p q : Row) (j : Fin 2048) (z : ℂ) : Prop := Cx (p (ix2 (0 : Fin 1) j)) (q (ix2 (0 : Fin 1) j)) z
/-- A block holds `f` at column `j`, from the top; from the bottom. -/
def DownIs (x y : Blk) (j : Fin 2048) (f : ℕ → ℂ) : Prop := ∀ i : Fin 128, Cx (x (ix2 i j)) (y (ix2 i j)) (f i.val)
def UpIs (x y : Blk) (j : Fin 2048) (f : ℕ → ℂ) : Prop := ∀ i : Fin 128, Cx (x (ix2 i j)) (y (ix2 i j)) (f (127 - i.val))

/-- The word of the literal 2. -/
theorem two_word : (Ideal.ofBits .f32 0x40000000#32 : EReal) = 2 := by
  simp [Ideal.ofBits, Ideal.ieee]
  rw [← EReal.coe_mul, show (8388608 * (2 ^ 22)⁻¹ : ℝ) = 2 by norm_num]
  rfl

theorem sq_is {p q : Row} {j : Fin 2048} {a : ℂ} {n : ℕ} (h : RowIs p q j (a ^ n)) : RowIs (sqr p q) (sqi p q) j (a ^ (n + n)) := by
  have e := h.sq
  rw [← pow_add] at e
  refine ⟨?_, ?_⟩
  · refine Eq.trans ?_ e.1
    unfold sqr
    pointwise
  · refine Eq.trans ?_ e.2
    unfold sqi
    pointwise
    rw [two_word]

theorem lre_apply (p q : Row) (x s t : Blk) (i : Fin 128) (j : Fin 2048) :
    lre p q x s t (ix2 i j) = (x (ix2 i j) + p (ix2 (0 : Fin 1) j) * s (ix2 i j) - q (ix2 (0 : Fin 1) j) * t (ix2 i j) : EReal) := by
  unfold lre
  pointwise
  rw [wide_apply, wide_apply]

theorem lim_apply (p q : Row) (y s t : Blk) (i : Fin 128) (j : Fin 2048) :
    lim p q y s t (ix2 i j) = (y (ix2 i j) + p (ix2 (0 : Fin 1) j) * t (ix2 i j) + q (ix2 (0 : Fin 1) j) * s (ix2 i j) : EReal) := by
  unfold lim
  pointwise
  rw [wide_apply, wide_apply]

theorem down_level {p q : Row} {x y : Blk} {j : Fin 2048} {a : ℂ} {f : ℕ → ℂ} {n : ℕ} (hn : n < 128)
    (h : DownIs x y j (lag a f n)) (ha : RowIs p q j (a ^ n)) :
    DownIs (lre p q x (down (BitVec.ofNat 32 n) x) (down (BitVec.ofNat 32 n) y))
      (lim p q y (down (BitVec.ofNat 32 n) x) (down (BitVec.ofNat 32 n) y)) j (lag a f (n + n)) := by
  intro i
  rw [lre_apply, lim_apply, down_apply n hn, down_apply n hn, ← lag_double]
  refine (h i).level ha ?_
  by_cases hi : n ≤ i.val
  · rw [dif_pos hi, dif_pos hi, if_pos hi]
    exact h ⟨i.val - n, by omega⟩
  · rw [dif_neg hi, dif_neg hi, if_neg hi]
    exact Cx.zero

theorem up_level {p q : Row} {x y : Blk} {j : Fin 2048} {a : ℂ} {f : ℕ → ℂ} {n : ℕ} (h0 : 0 < n) (hn : n < 128)
    (h : UpIs x y j (lag a f n)) (ha : RowIs p q j (a ^ n)) :
    UpIs (lre p q x (up (BitVec.ofNat 32 (128 - n)) x) (up (BitVec.ofNat 32 (128 - n)) y))
      (lim p q y (up (BitVec.ofNat 32 (128 - n)) x) (up (BitVec.ofNat 32 (128 - n)) y)) j (lag a f (n + n)) := by
  intro i
  have hi' := i.isLt
  rw [lre_apply, lim_apply, up_apply n h0 hn, up_apply n h0 hn, ← lag_double]
  refine (h i).level ha ?_
  by_cases hi : i.val + n < 128
  · rw [dif_pos hi, dif_pos hi, if_pos (by omega : n ≤ 127 - i.val)]
    refine (h ⟨i.val + n, hi⟩).congr (congrArg _ ?_)
    show 127 - (i.val + n) = 127 - i.val - n
    omega
  · rw [dif_neg hi, dif_neg hi, if_neg (by omega)]
    exact Cx.zero

/-- A sum of two blocks, the second zero off one row. -/
theorem enter_apply (d : ℕ) (hd : d < 128) (x : Blk) (p : Row) (i : Fin 128) (j : Fin 2048) :
    addf x (atRow (BitVec.ofNat 32 d) p) (ix2 i j) = (x (ix2 i j) + (if i.val = d then p (ix2 (0 : Fin 1) j) else (0 : EReal)) : EReal) := by
  rw [← atRow_apply d hd]
  rfl

end Cert.Proof.Lev
-- ==== Proof.FwdVal.lean ====
/-
  What the forward call computes on one block, floats being extended reals: from the state `H s` the rows
  `H (s + 1), …, H (s + 128)`, and the state it hands on.
-/
module

public import proofs.«01_k».proof.Proof.Dbl

@[expose] public section

set_option maxRecDepth 16384

noncomputable section

namespace Cert.Proof.Fwd

open Cert.KernelIdeal Cert.KernelIdeal.Gen
open Idealize.ShloMosaic
open Cert.Proof.Scan Cert.Proof.Lev

section Ties

variable {F : FTy → Type} [FloatOps F]
variable (x : Vec F S128x4096 .bf16) (ar ai sr si : Vec F S1x2048 .f32)

/-- The block with the state that enters it. -/
def re0 : FVec F S128x2048 .f32 := addf (evens (extf .f32 x bitsLt_bf16_f32)) (atRow 0#32 (subf (mulf ar sr) (mulf ai si)))
def im0 : FVec F S128x2048 .f32 := addf (odds (extf .f32 x bitsLt_bf16_f32)) (atRow 0#32 (addf (mulf ar si) (mulf ai sr)))
/-- The levels that the body computes in passing. -/
def re2 : FVec F S128x2048 .f32 := lre (ar1 ar ai) (ai1 ar ai) (re1 x ar ai sr si) (down 2#32 (re1 x ar ai sr si)) (down 2#32 (im1 x ar ai sr si))
def im2 : FVec F S128x2048 .f32 := lim (ar1 ar ai) (ai1 ar ai) (im1 x ar ai sr si) (down 2#32 (re1 x ar ai sr si)) (down 2#32 (im1 x ar ai sr si))
def re5 : FVec F S128x2048 .f32 := lre (ar4 ar ai) (ai4 ar ai) (re4 x ar ai sr si) (down 16#32 (re4 x ar ai sr si)) (down 16#32 (im4 x ar ai sr si))
def im5 : FVec F S128x2048 .f32 := lim (ar4 ar ai) (ai4 ar ai) (im4 x ar ai sr si) (down 16#32 (re4 x ar ai sr si)) (down 16#32 (im4 x ar ai sr si))
def re7 : FVec F S128x2048 .f32 := k0_pay55 (re6 x ar ai sr si) (im6 x ar ai sr si) (ar6 ar ai) (ai6 ar ai) k0_pay51 (rot6 x ar ai sr si)
def im7 : FVec F S128x2048 .f32 := k0_pay56 (im6 x ar ai sr si) (ar6 ar ai) (ai6 ar ai) k0_pay51 (rot6 x ar ai sr si)

theorem re1_eq : re1 x ar ai sr si = lre ar ai (re0 x ar ai sr si) (down 1#32 (re0 x ar ai sr si)) (down 1#32 (im0 x ar ai sr si)) := rfl
theorem im1_eq : im1 x ar ai sr si = lim ar ai (im0 x ar ai sr si) (down 1#32 (re0 x ar ai sr si)) (down 1#32 (im0 x ar ai sr si)) := rfl
theorem ar1_eq : ar1 ar ai = sqr ar ai := rfl
theorem ai1_eq : ai1 ar ai = sqi ar ai := rfl
theorem ar2_eq : ar2 ar ai = sqr (ar1 ar ai) (ai1 ar ai) := rfl
theorem ai2_eq : ai2 ar ai = sqi (ar1 ar ai) (ai1 ar ai) := rfl
theorem re3_eq : re3 x ar ai sr si = lre (ar2 ar ai) (ai2 ar ai) (re2 x ar ai sr si) (down 4#32 (re2 x ar ai sr si)) (down 4#32 (im2 x ar ai sr si)) := rfl
theorem im3_eq : im3 x ar ai sr si = lim (ar2 ar ai) (ai2 ar ai) (im2 x ar ai sr si) (down 4#32 (re2 x ar ai sr si)) (down 4#32 (im2 x ar ai sr si)) := rfl
theorem ar3_eq : ar3 ar ai = sqr (ar2 ar ai) (ai2 ar ai) := rfl
theorem re4_eq : re4 x ar ai sr si = lre (ar3 ar ai) (sqi (ar2 ar ai) (ai2 ar ai)) (re3 x ar ai sr si) (down 8#32 (re3 x ar ai sr si)) (down 8#32 (im3 x ar ai sr si)) := rfl
theorem im4_eq : im4 x ar ai sr si = lim (ar3 ar ai) (sqi (ar2 ar ai) (ai2 ar ai)) (im3 x ar ai sr si) (down 8#32 (re3 x ar ai sr si)) (down 8#32 (im3 x ar ai sr si)) := rfl
theorem ar4_eq : ar4 ar ai = sqr (ar3 ar ai) (sqi (ar2 ar ai) (ai2 ar ai)) := rfl
theorem ai4_eq : ai4 ar ai = sqi (ar3 ar ai) (sqi (ar2 ar ai) (ai2 ar ai)) := rfl
theorem re6_eq : re6 x ar ai sr si = lre (sqr (ar4 ar ai) (ai4 ar ai)) (sqi (ar4 ar ai) (ai4 ar ai)) (re5 x ar ai sr si) (down 32#32 (re5 x ar ai sr si)) (down 32#32 (im5 x ar ai sr si)) := rfl
theorem im6_eq : im6 x ar ai sr si = lim (sqr (ar4 ar ai) (ai4 ar ai)) (sqi (ar4 ar ai) (ai4 ar ai)) (im5 x ar ai sr si) (down 32#32 (re5 x ar ai sr si)) (down 32#32 (im5 x ar ai sr si)) := rfl
theorem ar6_eq : ar6 ar ai = sqr (sqr (ar4 ar ai) (ai4 ar ai)) (sqi (ar4 ar ai) (ai4 ar ai)) := rfl
theorem ai6_eq : ai6 ar ai = sqi (sqr (ar4 ar ai) (ai4 ar ai)) (sqi (ar4 ar ai) (ai4 ar ai)) := rfl
theorem re7_eq : re7 x ar ai sr si = lre (ar6 ar ai) (ai6 ar ai) (re6 x ar ai sr si) (down 64#32 (re6 x ar ai sr si)) (down 64#32 (im6 x ar ai sr si)) := rfl
theorem im7_eq : im7 x ar ai sr si = lim (ar6 ar ai) (ai6 ar ai) (im6 x ar ai sr si) (down 64#32 (re6 x ar ai sr si)) (down 64#32 (im6 x ar ai sr si)) := rfl
theorem hOut_eq : hOut x ar ai sr si = braid (re7 x ar ai sr si) (im7 x ar ai sr si) := rfl
theorem sOutR_eq : sOutR x ar ai sr si = shapeCast S1x2048 (pick 127#32 (re7 x ar ai sr si)) shapeCasts_S1x2048_S1x2048 := rfl
theorem sOutI_eq : sOutI x ar ai sr si = shapeCast S1x2048 (pick 127#32 (im7 x ar ai sr si)) shapeCasts_S1x2048_S1x2048 := rfl

end Ties

variable {x : Vec Ideal S128x4096 .bf16} {ar ai sr si : Vec Ideal S1x2048 .f32} {j : Fin 2048} {a : ℂ} {b : ℕ → ℂ} {s : ℕ}

/-- All seven levels. -/
theorem rows (ha : RowIs ar ai j a) (hs : RowIs sr si j (H a b s))
    (hx : ∀ i : Fin 128, Cx (x (ix2 i (colR j))) (x (ix2 i (colI j))) (b (s + i.val))) :
    DownIs (re7 x ar ai sr si) (im7 x ar ai sr si) j (fun i => H a b (s + i + 1)) := by
  have a1 : RowIs ar ai j (a ^ 1) := by rw [pow_one]; exact ha
  have a2 := sq_is a1; rw [← ar1_eq, ← ai1_eq] at a2
  have a4 := sq_is a2; rw [← ar2_eq, ← ai2_eq] at a4
  have a8 := sq_is a4; rw [← ar3_eq] at a8
  have a16 := sq_is a8; rw [← ar4_eq, ← ai4_eq] at a16
  have a32 := sq_is a16
  have a64 := sq_is a32; rw [← ar6_eq, ← ai6_eq] at a64
  have l0 : DownIs (re0 x ar ai sr si) (im0 x ar ai sr si) j (lag a (fun i => H a b (s + i + 1)) 1) := by
    intro i
    rw [lag_enter]
    unfold re0 im0 enter
    rw [enter_apply 0 (by decide), enter_apply 0 (by decide), evens_apply, odds_apply]
    refine (hx i).add ?_
    by_cases h : i.val = 0
    · rw [if_pos h, if_pos h, if_pos h]
      exact ha.mul hs
    · rw [if_neg h, if_neg h, if_neg h]
      exact Cx.zero
  have l1 := down_level (n := 1) (by decide) l0 a1
  have l2 := down_level (n := 1 + 1) (by decide) l1 a2
  have l3 := down_level (n := 1 + 1 + (1 + 1)) (by decide) l2 a4
  have l4 := down_level (n := 8) (by decide) l3 a8
  have l5 := down_level (n := 16) (by decide) l4 a16
  have l6 := down_level (n := 32) (by decide) l5 a32
  have l7 := down_level (n := 64) (by decide) l6 a64
  exact fun i => (l7 i).congr (lag_end a (fun i => H a b (s + i + 1)) 128 i.val i.isLt)

theorem hOut_is (ha : RowIs ar ai j a) (hs : RowIs sr si j (H a b s))
    (hx : ∀ i : Fin 128, Cx (x (ix2 i (colR j))) (x (ix2 i (colI j))) (b (s + i.val))) (i : Fin 128) :
    Cx (hOut x ar ai sr si (ix2 i (colR j))) (hOut x ar ai sr si (ix2 i (colI j))) (H a b (s + i.val + 1)) := by
  rw [hOut_eq, braid_applyR, braid_applyI]
  exact rows ha hs hx i

theorem sOut_is (ha : RowIs ar ai j a) (hs : RowIs sr si j (H a b s))
    (hx : ∀ i : Fin 128, Cx (x (ix2 i (colR j))) (x (ix2 i (colI j))) (b (s + i.val))) :
    RowIs (sOutR x ar ai sr si) (sOutI x ar ai sr si) j (H a b (s + 128)) := by
  have e := pick_apply 127 (by decide) (re7 x ar ai sr si) j
  have e' := pick_apply 127 (by decide) (im7 x ar ai sr si) j
  have r := rows ha hs hx ⟨127, by decide⟩
  rw [sOutR_eq, sOutI_eq, shapeCast_self, shapeCast_self]
  unfold RowIs
  rw [e, e']
  exact r

end Cert.Proof.Fwd
-- ==== Proof.FwdArr.lean ====
/-
  The arrays the forward call leaves, floats being extended reals.
-/
module

public import proofs.«01_k».proof.Proof.FwdDat
public import proofs.«01_k».proof.Proof.FwdVal
public import Idealize.ShloMosaic.Lib.Pipeline.ValueKit

@[expose] public section

set_option maxRecDepth 16384

noncomputable section

namespace Cert.Proof.Fwd

open Cert.KernelIdeal Cert.KernelIdeal.Gen
open Idealize.ShloMosaic Idealize.ShloMosaic.TcCoe
open Cert.Proof.Scan Cert.Proof.Lev
open Idealize.ShloMosaic.Pipeline (Dat)

/-- Where the blocks lie. -/
theorem idx : ∀ t : Fin cfg0.N, win0_0.index t = ![t.val, 0] ∧ win0_1.index t = ![0, 0] ∧ win0_2.index t = ![0, 0]
    ∧ win0_3.index t = ![t.val, 0] ∧ win0_4.index t = ![0, t.val, 0, 0] ∧ win0_5.index t = ![0, t.val, 0, 0] :=
  (by decide +kernel : ∀ t : Fin grid0.N, win0_0.index t = ![t.val, 0] ∧ win0_1.index t = ![0, 0] ∧ win0_2.index t = ![0, 0]
    ∧ win0_3.index t = ![t.val, 0] ∧ win0_4.index t = ![0, t.val, 0, 0] ∧ win0_5.index t = ![0, t.val, 0, 0])

variable (V : (c : Dev nD) → (b : Ref sig .tc) → Buf (Elt Ideal) ((c : Thread nD τ).loc b))

theorem t_lt (t : Fin cfg0.N) : t.val < 64 := lt_of_lt_of_eq t.isLt (show cfg0.N = 64 from N_0)

theorem b0_apply (c : Dev nD) (t : Fin cfg0.N) (i : Fin 128) (j : Fin 4096) :
    b0 V c t (ix2 i j) = V c main_arg0 (ix2 (⟨128 * t.val + i.val, by have := t_lt t; omega⟩ : Fin 8192) j) := by
  blk_ext [b0, iblk, idx t]

theorem b1_apply (c : Dev nD) (t : Fin cfg0.N) (j : Fin 2048) : b1 V c t (ix2 (0 : Fin 1) j) = V c main_arg1 (ix2 (0 : Fin 1) j) := by
  blk_ext [b1, iblk, idx t]

theorem b2_apply (c : Dev nD) (t : Fin cfg0.N) (j : Fin 2048) : b2 V c t (ix2 (0 : Fin 1) j) = V c main_arg2 (ix2 (0 : Fin 1) j) := by
  blk_ext [b2, iblk, idx t]

theorem blocks3 (c : Dev nD) (t : Fin cfg0.N) :
    ((cfg0.win 3).blk t).view.read (Elt Ideal) ((dat V c).arrAt 3 cfg0.N) = (dat V c).flushed 3 t :=
  (dat V c).read_blk_arrAt_eq_flushed 3 (fun t t' _ _ hne => (cfg0.win 3).disjoint_blk fun h => hne (by
    have h' : win0_3.index t = win0_3.index t' := h
    rw [(idx t).2.2.2.1, (idx t').2.2.2.1] at h'
    exact Fin.ext (congrFun h' 0))) cfg0.N t t.isLt (flush0_3 t)

theorem out3_apply (c : Dev nD) (t : Fin cfg0.N) (i : Fin 128) (j : Fin 4096) :
    (dat V c).arrAt 3 cfg0.N (ix2 (⟨128 * t.val + i.val, by have := t_lt t; omega⟩ : Fin 8192) j)
      = hOut (b0 V c t) (b1 V c t) (b2 V c t) (stateAt V c t.val).1 (stateAt V c t.val).2 (ix2 i j) := by
  have h := congrFun (blocks3 V c t) (ix2 i j)
  unfold Dat.flushed at h
  rw [after_3] at h
  refine Eq.trans ?_ h
  blk_ext [idx t]

theorem blocks4 (c : Dev nD) (t : Fin cfg0.N) :
    ((cfg0.win 4).blk t).view.read (Elt Ideal) ((dat V c).arrAt 4 cfg0.N) = (dat V c).flushed 4 t :=
  (dat V c).read_blk_arrAt_eq_flushed 4 (fun t t' _ _ hne => (cfg0.win 4).disjoint_blk fun h => hne (by
    have h' : win0_4.index t = win0_4.index t' := h
    rw [(idx t).2.2.2.2.1, (idx t').2.2.2.2.1] at h'
    exact Fin.ext (congrFun h' 1))) cfg0.N t t.isLt (flush0_4 t)

theorem out4_apply (c : Dev nD) (t : Fin cfg0.N) (j : Fin 2048) :
    (dat V c).arrAt 4 cfg0.N (ix4 (0 : Fin 1) (⟨t.val, t_lt t⟩ : Fin 64) (0 : Fin 1) j) = (stateAt V c t.val).1 (ix2 (0 : Fin 1) j) := by
  have h := congrFun (blocks4 V c t) (ix4 (0 : Fin 1) (0 : Fin 1) (0 : Fin 1) j)
  unfold Dat.flushed at h
  rw [after_4] at h
  refine Eq.trans ?_ (h.trans ?_)
  · blk_ext [idx t]
  · exact shapeCast_apply _ _ _ (ix2 (0 : Fin 1) j) (by rw [Shape.rowMajor_val_two, Shape.rowMajor_val_four]; rfl)

theorem blocks5 (c : Dev nD) (t : Fin cfg0.N) :
    ((cfg0.win 5).blk t).view.read (Elt Ideal) ((dat V c).arrAt 5 cfg0.N) = (dat V c).flushed 5 t :=
  (dat V c).read_blk_arrAt_eq_flushed 5 (fun t t' _ _ hne => (cfg0.win 5).disjoint_blk fun h => hne (by
    have h' : win0_5.index t = win0_5.index t' := h
    rw [(idx t).2.2.2.2.2, (idx t').2.2.2.2.2] at h'
    exact Fin.ext (congrFun h' 1))) cfg0.N t t.isLt (flush0_5 t)

theorem out5_apply (c : Dev nD) (t : Fin cfg0.N) (j : Fin 2048) :
    (dat V c).arrAt 5 cfg0.N (ix4 (0 : Fin 1) (⟨t.val, t_lt t⟩ : Fin 64) (0 : Fin 1) j) = (stateAt V c t.val).2 (ix2 (0 : Fin 1) j) := by
  have h := congrFun (blocks5 V c t) (ix4 (0 : Fin 1) (0 : Fin 1) (0 : Fin 1) j)
  unfold Dat.flushed at h
  rw [after_5] at h
  refine Eq.trans ?_ (h.trans ?_)
  · blk_ext [idx t]
  · exact shapeCast_apply _ _ _ (ix2 (0 : Fin 1) j) (by rw [Shape.rowMajor_val_two, Shape.rowMajor_val_four]; rfl)

/-! ## Over the recurrence -/

/-- Column `j` of the arguments: the multiplier `a` and the inputs `b`. -/
structure Col (c : Dev nD) (j : Fin 2048) (a : ℂ) (b : ℕ → ℂ) : Prop where
  mul : RowIs (V c main_arg1) (V c main_arg2) j a
  inp : ∀ r : Fin 8192, Cx (V c main_arg0 (ix2 r (colR j))) (V c main_arg0 (ix2 r (colI j))) (b r.val)

variable {V} {c : Dev nD} {j : Fin 2048} {a : ℂ} {b : ℕ → ℂ}

theorem Col.mul' (h : Col V c j a b) (t : Fin cfg0.N) : RowIs (b1 V c t) (b2 V c t) j a := by
  unfold RowIs
  rw [b1_apply, b2_apply]
  exact h.mul

theorem Col.inp' (h : Col V c j a b) (t : Fin cfg0.N) (i : Fin 128) :
    Cx (b0 V c t (ix2 i (colR j))) (b0 V c t (ix2 i (colI j))) (b (128 * t.val + i.val)) := by
  rw [b0_apply, b0_apply]
  exact h.inp _

/-- The state before point `n`. -/
theorem state_is (h : Col V c j a b) (n : ℕ) (hn : n ≤ 64) :
    RowIs (stateAt V c n).1 (stateAt V c n).2 j (H a b (128 * n)) := by
  induction n with
  | zero =>
    refine ⟨?_, ?_⟩
    · show k0_pay3 (F := Ideal) (ix2 (0 : Fin 1) j) = _
      unfold k0_pay3
      rw [shapeCast_self]
      pointwise
      simp [H]
    · show k0_pay4 (F := Ideal) (ix2 (0 : Fin 1) j) = _
      unfold k0_pay4
      rw [shapeCast_self]
      pointwise
      simp [H]
  | succ n ih =>
    have hlt : n < cfg0.N := lt_of_lt_of_eq (by omega) (show cfg0.N = 64 from N_0).symm
    have e := sOut_is (h.mul' ⟨n, hlt⟩) (ih (by omega)) (h.inp' ⟨n, hlt⟩)
    rw [stateAt_succ V c ⟨n, hlt⟩]
    rw [show 128 * (n + 1) = 128 * n + 128 by omega]
    exact e

theorem rows_is (h : Col V c j a b) (r : Fin 8192) :
    Cx ((dat V c).arrAt 3 cfg0.N (ix2 r (colR j))) ((dat V c).arrAt 3 cfg0.N (ix2 r (colI j))) (H a b (r.val + 1)) := by
  have hr := r.isLt
  have hlt : r.val / 128 < cfg0.N := lt_of_lt_of_eq (by omega) (show cfg0.N = 64 from N_0).symm
  have e := hOut_is (h.mul' ⟨r.val / 128, hlt⟩) (state_is h (r.val / 128) (by omega)) (h.inp' ⟨r.val / 128, hlt⟩) ⟨r.val % 128, by omega⟩
  have e1 := out3_apply V c ⟨r.val / 128, hlt⟩ ⟨r.val % 128, by omega⟩ (colR j)
  have e2 := out3_apply V c ⟨r.val / 128, hlt⟩ ⟨r.val % 128, by omega⟩ (colI j)
  have er : (⟨128 * (r.val / 128) + r.val % 128, by omega⟩ : Fin 8192) = r := Fin.ext (Nat.div_add_mod r.val 128)
  have ew : 128 * (r.val / 128) + r.val % 128 + 1 = r.val + 1 := congrArg (· + 1) (Nat.div_add_mod r.val 128)
  dsimp only at e e1 e2
  rw [er] at e1 e2
  rw [e1, e2, ← ew]
  exact e

theorem saved_is (h : Col V c j a b) (t : Fin 64) :
    Cx ((dat V c).arrAt 4 cfg0.N (ix4 (0 : Fin 1) t (0 : Fin 1) j)) ((dat V c).arrAt 5 cfg0.N (ix4 (0 : Fin 1) t (0 : Fin 1) j)) (H a b (128 * t.val)) := by
  have hlt : t.val < cfg0.N := lt_of_lt_of_eq t.isLt (show cfg0.N = 64 from N_0).symm
  have e1 := out4_apply V c ⟨t.val, hlt⟩ j
  have e2 := out5_apply V c ⟨t.val, hlt⟩ j
  have ht : (⟨t.val, t_lt ⟨t.val, hlt⟩⟩ : Fin 64) = t := rfl
  rw [ht] at e1 e2
  rw [e1, e2]
  exact state_is h t.val (by omega)

end Cert.Proof.Fwd
-- ==== Proof.BwdVal.lean ====
/-
  What the backward call computes on one block, floats being extended reals. The block's rows are taken from the
  bottom: `G` is the recurrence of the conjugate multiplier over the cotangents in that order.
-/
module

public import proofs.«01_k».proof.Proof.Bwd
public import proofs.«01_k».proof.Proof.Dbl

@[expose] public section

set_option maxRecDepth 16384

noncomputable section

namespace Cert.Proof.Bwd

open Cert.KernelIdeal Cert.KernelIdeal.Gen
open Idealize.ShloMosaic
open Cert.Proof.Scan Cert.Proof.Lev
open scoped ComplexConjugate

section Ties

variable {F : FTy → Type} [FloatOps F]
variable (ct h : Vec F S128x4096 .bf16) (hr hi : Vec F S1x1x1x2048 .f32) (ar ai gr gi cr ci : Vec F S1x2048 .f32)

/-- The block with the gradient that enters it. -/
def re0 : FVec F S128x2048 .f32 := addf (evens (extf .f32 ct bitsLt_bf16_f32)) (atRow 127#32 gr)
def im0 : FVec F S128x2048 .f32 := addf (odds (extf .f32 ct bitsLt_bf16_f32)) (atRow 127#32 gi)
/-- The levels and multipliers that the body computes in passing. -/
def qi2 : FVec F S1x2048 .f32 := sqi ar (qi1 ai)
def re4 : FVec F S128x2048 .f32 := lre (qr3 ar ai) (qi3 ar ai) (re3 ct ar ai gr gi) (up 124#32 (re3 ct ar ai gr gi)) (up 124#32 (im3 ct ar ai gr gi))
def im4 : FVec F S128x2048 .f32 := lim (qr3 ar ai) (qi3 ar ai) (im3 ct ar ai gr gi) (up 124#32 (re3 ct ar ai gr gi)) (up 124#32 (im3 ct ar ai gr gi))
def qr4 : FVec F S1x2048 .f32 := sqr (qr3 ar ai) (qi3 ar ai)
def qi4 : FVec F S1x2048 .f32 := sqi (qr3 ar ai) (qi3 ar ai)
def re5' : FVec F S128x2048 .f32 := lre (qr5 ar ai) (qi5 ar ai) (re5 ct ar ai gr gi) (up 112#32 (re5 ct ar ai gr gi)) (up 112#32 (im5 ct ar ai gr gi))
def im5' : FVec F S128x2048 .f32 := lim (qr5 ar ai) (qi5 ar ai) (im5 ct ar ai gr gi) (up 112#32 (re5 ct ar ai gr gi)) (up 112#32 (im5 ct ar ai gr gi))
def im6' : FVec F S128x2048 .f32 := k1_pay61 (im6 ct ar ai gr gi) (sh6 ct ar ai gr gi)
/-- The states before the block's rows. -/
def prevR : FVec F S128x2048 .f32 := addf (down 1#32 (evens (extf .f32 (shapeCast S128x4096 h shapeCasts_S128x4096_S128x4096) bitsLt_bf16_f32))) (atRow 0#32 (shapeCast S1x2048 hr shapeCasts_S1x1x1x2048_S1x2048))
def prevI : FVec F S128x2048 .f32 := addf (down 1#32 (odds (extf .f32 (shapeCast S128x4096 h shapeCasts_S128x4096_S128x4096) bitsLt_bf16_f32))) (atRow 0#32 (shapeCast S1x2048 hi shapeCasts_S1x1x1x2048_S1x2048))

theorem qi1_eq : qi1 ai = subf (broadcast S1x2048 (Scalar.ofBits .f32 0x00000000#32)) ai := rfl
theorem re2_eq : re2 ct ar ai gr gi = lre ar (qi1 ai) (re0 ct gr) (up 127#32 (re0 ct gr)) (up 127#32 (im0 ct gi)) := rfl
theorem im2_eq : im2 ct ar ai gr gi = lim ar (qi1 ai) (im0 ct gi) (up 127#32 (re0 ct gr)) (up 127#32 (im0 ct gi)) := rfl
theorem qr2_eq : qr2 ar ai = sqr ar (qi1 ai) := rfl
theorem re3_eq : re3 ct ar ai gr gi = lre (qr2 ar ai) (qi2 ar ai) (re2 ct ar ai gr gi) (up 126#32 (re2 ct ar ai gr gi)) (up 126#32 (im2 ct ar ai gr gi)) := rfl
theorem im3_eq : im3 ct ar ai gr gi = lim (qr2 ar ai) (qi2 ar ai) (im2 ct ar ai gr gi) (up 126#32 (re2 ct ar ai gr gi)) (up 126#32 (im2 ct ar ai gr gi)) := rfl
theorem qr3_eq : qr3 ar ai = sqr (qr2 ar ai) (qi2 ar ai) := rfl
theorem qi3_eq : qi3 ar ai = sqi (qr2 ar ai) (qi2 ar ai) := rfl
theorem re5_eq : re5 ct ar ai gr gi = lre (qr4 ar ai) (qi4 ar ai) (re4 ct ar ai gr gi) (up 120#32 (re4 ct ar ai gr gi)) (up 120#32 (im4 ct ar ai gr gi)) := rfl
theorem im5_eq : im5 ct ar ai gr gi = lim (qr4 ar ai) (qi4 ar ai) (im4 ct ar ai gr gi) (up 120#32 (re4 ct ar ai gr gi)) (up 120#32 (im4 ct ar ai gr gi)) := rfl
theorem qr5_eq : qr5 ar ai = sqr (qr4 ar ai) (qi4 ar ai) := rfl
theorem qi5_eq : qi5 ar ai = sqi (qr4 ar ai) (qi4 ar ai) := rfl
theorem qr6_eq : qr6 ar ai = sqr (qr5 ar ai) (qi5 ar ai) := rfl
theorem qi6_eq : qi6 ar ai = sqi (qr5 ar ai) (qi5 ar ai) := rfl
theorem re6_eq : re6 ct ar ai gr gi = lre (qr6 ar ai) (qi6 ar ai) (re5' ct ar ai gr gi) (up 96#32 (re5' ct ar ai gr gi)) (up 96#32 (im5' ct ar ai gr gi)) := rfl
theorem im6_eq : im6' ct ar ai gr gi = lim (qr6 ar ai) (qi6 ar ai) (im5' ct ar ai gr gi) (up 96#32 (re5' ct ar ai gr gi)) (up 96#32 (im5' ct ar ai gr gi)) := rfl
theorem re7_eq : re7 ct ar ai gr gi = lre (sqr (qr6 ar ai) (qi6 ar ai)) (sqi (qr6 ar ai) (qi6 ar ai)) (re6 ct ar ai gr gi) (up 64#32 (re6 ct ar ai gr gi)) (up 64#32 (im6' ct ar ai gr gi)) := rfl
theorem im7_eq : im7 ct ar ai gr gi = lim (sqr (qr6 ar ai) (qi6 ar ai)) (sqi (qr6 ar ai) (qi6 ar ai)) (im6' ct ar ai gr gi) (up 64#32 (re6 ct ar ai gr gi)) (up 64#32 (im6' ct ar ai gr gi)) := rfl
theorem dOut_eq : dOut ct ar ai gr gi = braid (re7 ct ar ai gr gi) (im7 ct ar ai gr gi) := rfl
theorem gR_eq : gR ct ar ai gr gi = shapeCast S1x2048 (addf (mulf ar (pick 0#32 (re7 ct ar ai gr gi))) (mulf ai (pick 0#32 (im7 ct ar ai gr gi)))) shapeCasts_S1x2048_S1x2048 := rfl
theorem gI_eq : gI ct ar ai gr gi = shapeCast S1x2048 (subf (mulf ar (pick 0#32 (im7 ct ar ai gr gi))) (mulf ai (pick 0#32 (re7 ct ar ai gr gi)))) shapeCasts_S1x2048_S1x2048 := rfl
theorem accR_eq : accR h ct hr hi ar ai gr gi cr = addf cr (total (addf (mulf (re7 ct ar ai gr gi) (prevR h hr)) (mulf (im7 ct ar ai gr gi) (prevI h hi)))) := rfl
theorem accI_eq : accI h ct hr hi ar ai gr gi ci = addf ci (total (subf (mulf (im7 ct ar ai gr gi) (prevR h hr)) (mulf (re7 ct ar ai gr gi) (prevI h hi)))) := rfl

end Ties

variable {ct h : Vec Ideal S128x4096 .bf16} {hr hi : Vec Ideal S1x1x1x2048 .f32} {ar ai gr gi cr ci : Vec Ideal S1x2048 .f32}
variable {j : Fin 2048} {a d : ℂ} {c : ℕ → ℂ} {s : ℕ} {B : ℕ → ℂ}

/-- All seven levels. -/
theorem rows (ha : RowIs ar ai j a) (hg : RowIs gr gi j (conj a * H (conj a) c s))
    (hx : ∀ i : Fin 128, Cx (ct (ix2 i (colR j))) (ct (ix2 i (colI j))) (c (s + (127 - i.val)))) :
    UpIs (re7 ct ar ai gr gi) (im7 ct ar ai gr gi) j (fun i => H (conj a) c (s + i + 1)) := by
  have a1 : RowIs ar (qi1 ai) j (conj a ^ 1) := by
    rw [pow_one, qi1_eq]
    refine ⟨ha.conj.1, Eq.trans ?_ ha.conj.2⟩
    pointwise
  have a2 := sq_is a1; rw [← qr2_eq] at a2
  have a4 := sq_is a2
  have a8 := sq_is (p := qr3 ar ai) (q := qi3 ar ai) a4
  have a16 := sq_is (p := qr4 ar ai) (q := qi4 ar ai) a8
  have a32 := sq_is (p := qr5 ar ai) (q := qi5 ar ai) a16
  have a64 := sq_is (p := qr6 ar ai) (q := qi6 ar ai) a32
  have l0 : UpIs (re0 ct gr) (im0 ct gi) j (lag (conj a) (fun i => H (conj a) c (s + i + 1)) 1) := by
    intro i
    have hi := i.isLt
    rw [lag_enter]
    unfold re0 im0 enter
    rw [enter_apply 127 (by decide), enter_apply 127 (by decide), evens_apply, odds_apply]
    refine (hx i).add ?_
    by_cases h : i.val = 127
    · rw [if_pos h, if_pos h, if_pos (by omega)]
      exact hg
    · rw [if_neg h, if_neg h, if_neg (by omega)]
      exact Cx.zero
  have l1 := up_level (n := 1) (by decide) (by decide) l0 a1
  have l2 := up_level (n := 1 + 1) (by decide) (by decide) l1 a2
  have l3 := up_level (n := 1 + 1 + (1 + 1)) (by decide) (by decide) l2 a4
  have l4 := up_level (n := 8) (by decide) (by decide) l3 a8
  have l5 := up_level (n := 16) (by decide) (by decide) l4 a16
  have l6 := up_level (n := 32) (by decide) (by decide) l5 a32
  have l7 := up_level (n := 64) (by decide) (by decide) l6 a64
  exact fun i => (l7 i).congr (lag_end (conj a) (fun i => H (conj a) c (s + i + 1)) 128 (127 - i.val) (by omega))

theorem dOut_is (ha : RowIs ar ai j a) (hg : RowIs gr gi j (conj a * H (conj a) c s))
    (hx : ∀ i : Fin 128, Cx (ct (ix2 i (colR j))) (ct (ix2 i (colI j))) (c (s + (127 - i.val)))) (i : Fin 128) :
    Cx (dOut ct ar ai gr gi (ix2 i (colR j))) (dOut ct ar ai gr gi (ix2 i (colI j))) (H (conj a) c (s + (127 - i.val) + 1)) := by
  rw [dOut_eq, braid_applyR, braid_applyI]
  exact rows ha hg hx i

theorem g_is (ha : RowIs ar ai j a) (hg : RowIs gr gi j (conj a * H (conj a) c s))
    (hx : ∀ i : Fin 128, Cx (ct (ix2 i (colR j))) (ct (ix2 i (colI j))) (c (s + (127 - i.val)))) :
    RowIs (gR ct ar ai gr gi) (gI ct ar ai gr gi) j (conj a * H (conj a) c (s + 128)) := by
  have e := pick_apply 0 (by decide) (re7 ct ar ai gr gi) j
  have e' := pick_apply 0 (by decide) (im7 ct ar ai gr gi) j
  have r := ha.conjMul (rows ha hg hx ⟨0, by decide⟩)
  rw [gR_eq, gI_eq, shapeCast_self, shapeCast_self]
  rw [← e, ← e'] at r
  exact r

/-- The states before the rows. -/
theorem prev_is (hh : ∀ i : Fin 128, Cx (h (ix2 i (colR j))) (h (ix2 i (colI j))) (B (i.val + 1)))
    (hs : Cx (hr (ix4 0 0 0 j)) (hi (ix4 0 0 0 j)) (B 0)) : DownIs (prevR h hr) (prevI h hi) j B := by
  intro i
  unfold prevR prevI
  rw [shapeCast_self, enter_apply 0 (by decide), enter_apply 0 (by decide), down_apply 1 (by decide), down_apply 1 (by decide)]
  by_cases h0 : i.val = 0
  · rw [dif_neg (by omega), dif_neg (by omega), if_pos h0, if_pos h0, h0, zero_add, zero_add,
      shapeCast_apply _ _ (ix2 (0 : Fin 1) j) (ix4 0 0 0 j) (by rw [Shape.rowMajor_val_two, Shape.rowMajor_val_four]; rfl),
      shapeCast_apply _ _ (ix2 (0 : Fin 1) j) (ix4 0 0 0 j) (by rw [Shape.rowMajor_val_two, Shape.rowMajor_val_four]; rfl)]
    exact hs
  · have h1 : 1 ≤ i.val := by omega
    rw [dif_pos h1, dif_pos h1, if_neg h0, if_neg h0, add_zero, add_zero, evens_apply, odds_apply]
    refine (hh ⟨i.val - 1, by omega⟩).congr (congrArg B ?_)
    show i.val - 1 + 1 = i.val
    omega

theorem acc_is (ha : RowIs ar ai j a) (hg : RowIs gr gi j (conj a * H (conj a) c s))
    (hx : ∀ i : Fin 128, Cx (ct (ix2 i (colR j))) (ct (ix2 i (colI j))) (c (s + (127 - i.val))))
    (hh : ∀ i : Fin 128, Cx (h (ix2 i (colR j))) (h (ix2 i (colI j))) (B (i.val + 1)))
    (hs : Cx (hr (ix4 0 0 0 j)) (hi (ix4 0 0 0 j)) (B 0)) (hd : RowIs cr ci j d) :
    RowIs (accR h ct hr hi ar ai gr gi cr) (accI h ct hr hi ar ai gr gi ci) j
      (d + ∑ i : Fin 128, H (conj a) c (s + (127 - i.val) + 1) * conj (B i.val)) := by
  have hr' := rows ha hg hx
  have hp := prev_is hh hs
  have e := hd.add (Cx.sum Finset.univ fun i _ => (hr' i).mulConj (hp i))
  rw [accR_eq, accI_eq]
  refine ⟨Eq.trans ?_ e.1, Eq.trans ?_ e.2⟩
  · pointwise
    rw [total_apply]
    rfl
  · pointwise
    rw [total_apply]
    rfl

end Cert.Proof.Bwd
-- ==== Proof.BwdArr.lean ====
/-
  The arrays the backward call leaves, floats being extended reals.
-/
module

public import proofs.«01_k».proof.Proof.BwdDat
public import proofs.«01_k».proof.Proof.BwdVal
public import Idealize.ShloMosaic.Lib.Pipeline.ValueKit

@[expose] public section

set_option maxRecDepth 16384

noncomputable section

namespace Cert.Proof.Bwd

open Cert.KernelIdeal Cert.KernelIdeal.Gen
open Idealize.ShloMosaic Idealize.ShloMosaic.TcCoe
open Cert.Proof.Scan Cert.Proof.Lev
open Idealize.ShloMosaic.Pipeline (Dat)
open scoped ComplexConjugate

/-- Where the blocks lie: the grid walks the time blocks from the last to the first. -/
theorem idx : ∀ t : Fin cfg1.N, win1_0.index t = ![63 - t.val, 0] ∧ win1_1.index t = ![63 - t.val, 0]
    ∧ win1_2.index t = ![0, 63 - t.val, 0, 0] ∧ win1_3.index t = ![0, 63 - t.val, 0, 0]
    ∧ win1_4.index t = ![0, 0] ∧ win1_5.index t = ![0, 0] ∧ win1_6.index t = ![63 - t.val, 0]
    ∧ win1_7.index t = ![0, 0] ∧ win1_8.index t = ![0, 0] :=
  (by decide +kernel : ∀ t : Fin grid1.N, win1_0.index t = ![63 - t.val, 0] ∧ win1_1.index t = ![63 - t.val, 0]
    ∧ win1_2.index t = ![0, 63 - t.val, 0, 0] ∧ win1_3.index t = ![0, 63 - t.val, 0, 0]
    ∧ win1_4.index t = ![0, 0] ∧ win1_5.index t = ![0, 0] ∧ win1_6.index t = ![63 - t.val, 0]
    ∧ win1_7.index t = ![0, 0] ∧ win1_8.index t = ![0, 0])

variable (V : (c : Dev nD) → (b : Ref sig .tc) → Buf (Elt Ideal) ((c : Thread nD τ).loc b))

theorem t_lt (t : Fin cfg1.N) : t.val < 64 := lt_of_lt_of_eq t.isLt (show cfg1.N = 64 from N_1)

theorem b0_apply (c : Dev nD) (t : Fin cfg1.N) (i : Fin 128) (j : Fin 4096) :
    b0 V c t (ix2 i j) = V c main_v0_0 (ix2 (⟨128 * (63 - t.val) + i.val, by have := t_lt t; omega⟩ : Fin 8192) j) := by
  blk_ext [b0, iblk, idx t]

theorem b1_apply (c : Dev nD) (t : Fin cfg1.N) (i : Fin 128) (j : Fin 4096) :
    b1 V c t (ix2 i j) = V c main_arg3 (ix2 (⟨128 * (63 - t.val) + i.val, by have := t_lt t; omega⟩ : Fin 8192) j) := by
  blk_ext [b1, iblk, idx t]

theorem b2_apply (c : Dev nD) (t : Fin cfg1.N) (j : Fin 2048) :
    b2 V c t (ix4 0 0 0 j) = V c main_v0_1 (ix4 (0 : Fin 1) (⟨63 - t.val, by have := t_lt t; omega⟩ : Fin 64) (0 : Fin 1) j) := by
  blk_ext [b2, iblk, idx t]

theorem b3_apply (c : Dev nD) (t : Fin cfg1.N) (j : Fin 2048) :
    b3 V c t (ix4 0 0 0 j) = V c main_v0_2 (ix4 (0 : Fin 1) (⟨63 - t.val, by have := t_lt t; omega⟩ : Fin 64) (0 : Fin 1) j) := by
  blk_ext [b3, iblk, idx t]

theorem b4_apply (c : Dev nD) (t : Fin cfg1.N) (j : Fin 2048) : b4 V c t (ix2 (0 : Fin 1) j) = V c main_arg1 (ix2 (0 : Fin 1) j) := by
  blk_ext [b4, iblk, idx t]

theorem b5_apply (c : Dev nD) (t : Fin cfg1.N) (j : Fin 2048) : b5 V c t (ix2 (0 : Fin 1) j) = V c main_arg2 (ix2 (0 : Fin 1) j) := by
  blk_ext [b5, iblk, idx t]

theorem blocks6 (c : Dev nD) (t : Fin cfg1.N) :
    ((cfg1.win 6).blk t).view.read (Elt Ideal) ((dat V c).arrAt 6 cfg1.N) = (dat V c).flushed 6 t :=
  (dat V c).read_blk_arrAt_eq_flushed 6 (fun t t' _ _ hne => (cfg1.win 6).disjoint_blk fun h => hne (by
    have h' : win1_6.index t = win1_6.index t' := h
    rw [(idx t).2.2.2.2.2.2.1, (idx t').2.2.2.2.2.2.1] at h'
    have h0 : 63 - t.val = 63 - t'.val := congrFun h' 0
    have h1 := t_lt t
    have h2 := t_lt t'
    exact Fin.ext (by omega))) cfg1.N t t.isLt (flush1_6 t)

theorem out6_apply (c : Dev nD) (t : Fin cfg1.N) (i : Fin 128) (j : Fin 4096) :
    (dat V c).arrAt 6 cfg1.N (ix2 (⟨128 * (63 - t.val) + i.val, by have := t_lt t; omega⟩ : Fin 8192) j)
      = dOut (b1 V c t) (b4 V c t) (b5 V c t) (stateAt V c t.val).1 (stateAt V c t.val).2.1 (ix2 i j) := by
  have h := congrFun (blocks6 V c t) (ix2 i j)
  unfold Dat.flushed at h
  rw [after_6] at h
  refine Eq.trans ?_ h
  blk_ext [idx t]

/-- The last point. -/
abbrev tl : Fin cfg1.N := ⟨63, lt_of_lt_of_eq (by decide) (show cfg1.N = 64 from N_1).symm⟩

theorem out7_apply (c : Dev nD) (j : Fin 2048) : (dat V c).arrAt 7 cfg1.N (ix2 (0 : Fin 1) j)
    = accR (b0 V c tl) (b1 V c tl) (b2 V c tl) (b3 V c tl) (b4 V c tl) (b5 V c tl) (stateAt V c 63).1 (stateAt V c 63).2.1 (stateAt V c 63).2.2.1 (ix2 (0 : Fin 1) j) := by
  refine ((dat V c).arrAt_emb_eq_after_last 7 tl (by decide +kernel) (ix2 (0 : Fin 1) j)).trans ?_
  rw [after_7]
  rfl

theorem out8_apply (c : Dev nD) (j : Fin 2048) : (dat V c).arrAt 8 cfg1.N (ix2 (0 : Fin 1) j)
    = accI (b0 V c tl) (b1 V c tl) (b2 V c tl) (b3 V c tl) (b4 V c tl) (b5 V c tl) (stateAt V c 63).1 (stateAt V c 63).2.1 (stateAt V c 63).2.2.2 (ix2 (0 : Fin 1) j) := by
  refine ((dat V c).arrAt_emb_eq_after_last 8 tl (by decide +kernel) (ix2 (0 : Fin 1) j)).trans ?_
  rw [after_8]
  rfl

/-! ## Over the recurrence -/

/-- Column `j` of the arrays: the multiplier `a`, the cotangents `g`, the states `S` (`S r` the state before row `r`). -/
structure Col (c : Dev nD) (j : Fin 2048) (a : ℂ) (g S : ℕ → ℂ) : Prop where
  mul : RowIs (V c main_arg1) (V c main_arg2) j a
  cot : ∀ r : Fin 8192, Cx (V c main_arg3 (ix2 r (colR j))) (V c main_arg3 (ix2 r (colI j))) (g r.val)
  st : ∀ r : Fin 8192, Cx (V c main_v0_0 (ix2 r (colR j))) (V c main_v0_0 (ix2 r (colI j))) (S (r.val + 1))
  sv : ∀ t : Fin 64, Cx (V c main_v0_1 (ix4 (0 : Fin 1) t (0 : Fin 1) j)) (V c main_v0_2 (ix4 (0 : Fin 1) t (0 : Fin 1) j)) (S (128 * t.val))

/-- The cotangents from the last row to the first. -/
def rev (g : ℕ → ℂ) (n : ℕ) : ℂ := g (8191 - n)

/-- The gradient's recurrence: after `n` rows from the end. -/
abbrev G (a : ℂ) (g : ℕ → ℂ) : ℕ → ℂ := H (conj a) (rev g)

/-- What the row `n` from the end adds to the multiplier's gradient. -/
def U (a : ℂ) (g S : ℕ → ℂ) (n : ℕ) : ℂ := G a g (n + 1) * conj (S (8191 - n))

variable {V} {c : Dev nD} {j : Fin 2048} {a : ℂ} {g S : ℕ → ℂ}

theorem Col.mul' (h : Col V c j a g S) (t : Fin cfg1.N) : RowIs (b4 V c t) (b5 V c t) j a := by
  unfold RowIs
  rw [b4_apply, b5_apply]
  exact h.mul

theorem Col.cot' (h : Col V c j a g S) (t : Fin cfg1.N) (i : Fin 128) :
    Cx (b1 V c t (ix2 i (colR j))) (b1 V c t (ix2 i (colI j))) (rev g (128 * t.val + (127 - i.val))) := by
  rw [b1_apply, b1_apply]
  refine (h.cot _).congr (congrArg g ?_)
  have := t_lt t
  show 128 * (63 - t.val) + i.val = 8191 - (128 * t.val + (127 - i.val))
  omega

theorem Col.st' (h : Col V c j a g S) (t : Fin cfg1.N) (i : Fin 128) :
    Cx (b0 V c t (ix2 i (colR j))) (b0 V c t (ix2 i (colI j))) (S (128 * (63 - t.val) + (i.val + 1))) := by
  rw [b0_apply, b0_apply]
  exact h.st _

theorem Col.sv' (h : Col V c j a g S) (t : Fin cfg1.N) :
    Cx (b2 V c t (ix4 0 0 0 j)) (b3 V c t (ix4 0 0 0 j)) (S (128 * (63 - t.val) + 0)) := by
  rw [b2_apply, b3_apply]
  exact h.sv _

/-- A block's sum over its rows, counted from the end. -/
theorem block_sum (a : ℂ) (g S : ℕ → ℂ) (t : ℕ) (ht : t < 64) :
    (∑ i : Fin 128, H (conj a) (rev g) (128 * t + (127 - i.val) + 1) * conj (S (128 * (63 - t) + i.val)))
      = ∑ r ∈ Finset.range 128, U a g S (128 * t + r) := by
  rw [← Finset.sum_range_reflect, Finset.sum_range]
  refine Finset.sum_congr rfl fun i _ => ?_
  have hi := i.isLt
  unfold U
  rw [show 128 * (63 - t) + i.val = 8191 - (128 * t + (128 - 1 - i.val)) by omega,
    show 128 * t + (127 - i.val) + 1 = 128 * t + (128 - 1 - i.val) + 1 by omega]

/-- One point's accumulation. -/
theorem acc_step (h : Col V c j a g S) (t : Fin cfg1.N)
    (hg : RowIs (stateAt V c t.val).1 (stateAt V c t.val).2.1 j (conj a * G a g (128 * t.val)))
    (hd : RowIs (stateAt V c t.val).2.2.1 (stateAt V c t.val).2.2.2 j (D (U a g S) (128 * t.val))) :
    RowIs (accR (b0 V c t) (b1 V c t) (b2 V c t) (b3 V c t) (b4 V c t) (b5 V c t) (stateAt V c t.val).1 (stateAt V c t.val).2.1 (stateAt V c t.val).2.2.1)
      (accI (b0 V c t) (b1 V c t) (b2 V c t) (b3 V c t) (b4 V c t) (b5 V c t) (stateAt V c t.val).1 (stateAt V c t.val).2.1 (stateAt V c t.val).2.2.2)
      j (D (U a g S) (128 * (t.val + 1))) := by
  have e := acc_is (B := fun k => S (128 * (63 - t.val) + k)) (h.mul' t) hg (h.cot' t) (h.st' t) (h.sv' t) hd
  rw [block_sum a g S t.val (t_lt t)] at e
  rw [show 128 * (t.val + 1) = 128 * t.val + 128 by omega, D_add]
  exact e

/-- The carried state before point `n`. -/
theorem state_is (h : Col V c j a g S) (n : ℕ) (hn : n ≤ 64) :
    RowIs (stateAt V c n).1 (stateAt V c n).2.1 j (conj a * G a g (128 * n))
      ∧ RowIs (stateAt V c n).2.2.1 (stateAt V c n).2.2.2 j (D (U a g S) (128 * n)) := by
  induction n with
  | zero =>
    refine ⟨⟨?_, ?_⟩, ⟨?_, ?_⟩⟩
    · show k1_pay6 (F := Ideal) (ix2 (0 : Fin 1) j) = _
      unfold k1_pay6
      rw [shapeCast_self]
      pointwise
      simp [G, H]
    · show k1_pay7 (F := Ideal) (ix2 (0 : Fin 1) j) = _
      unfold k1_pay7
      rw [shapeCast_self]
      pointwise
      simp [G, H]
    · show k1_pay8 (F := Ideal) (ix2 (0 : Fin 1) j) = _
      unfold k1_pay8
      rw [shapeCast_self]
      pointwise
      simp [D]
    · show k1_pay9 (F := Ideal) (ix2 (0 : Fin 1) j) = _
      unfold k1_pay9
      rw [shapeCast_self]
      pointwise
      simp [D]
  | succ n ih =>
    have hlt : n < cfg1.N := lt_of_lt_of_eq (by omega) (show cfg1.N = 64 from N_1).symm
    have h0 := ih (by omega)
    have e := g_is (h.mul' ⟨n, hlt⟩) h0.1 (h.cot' ⟨n, hlt⟩)
    have e' := acc_step h ⟨n, hlt⟩ h0.1 h0.2
    rw [stateAt_succ V c ⟨n, hlt⟩]
    refine ⟨?_, ?_⟩
    · rw [show 128 * (n + 1) = 128 * n + 128 by omega]
      exact e
    · unfold k1_pay4 k1_pay5
      rw [shapeCast_self, shapeCast_self]
      exact e'

/-- The gradient of the rows. -/
theorem rows_is (h : Col V c j a g S) (r : Fin 8192) :
    Cx ((dat V c).arrAt 6 cfg1.N (ix2 r (colR j))) ((dat V c).arrAt 6 cfg1.N (ix2 r (colI j))) (G a g (8192 - r.val)) := by
  have hr := r.isLt
  have hlt : 63 - r.val / 128 < cfg1.N := lt_of_lt_of_eq (by omega) (show cfg1.N = 64 from N_1).symm
  have e := dOut_is (h.mul' ⟨63 - r.val / 128, hlt⟩) (state_is h (63 - r.val / 128) (by omega)).1 (h.cot' ⟨63 - r.val / 128, hlt⟩) ⟨r.val % 128, by omega⟩
  have e1 := out6_apply V c ⟨63 - r.val / 128, hlt⟩ ⟨r.val % 128, by omega⟩ (colR j)
  have e2 := out6_apply V c ⟨63 - r.val / 128, hlt⟩ ⟨r.val % 128, by omega⟩ (colI j)
  have er : (⟨128 * (63 - (63 - r.val / 128)) + r.val % 128, by omega⟩ : Fin 8192) = r :=
    Fin.ext (show 128 * (63 - (63 - r.val / 128)) + r.val % 128 = r.val by omega)
  have ew : 128 * (63 - r.val / 128) + (127 - r.val % 128) + 1 = 8192 - r.val := by omega
  dsimp only at e e1 e2
  rw [er] at e1 e2
  rw [e1, e2, ← ew]
  exact e

/-- The gradient of the multiplier. -/
theorem mul_is (h : Col V c j a g S) :
    RowIs ((dat V c).arrAt 7 cfg1.N) ((dat V c).arrAt 8 cfg1.N) j (D (U a g S) 8192) := by
  have h0 := state_is h 63 (by decide)
  have e := acc_step h tl h0.1 h0.2
  unfold RowIs
  rw [out7_apply, out8_apply]
  exact e

end Cert.Proof.Bwd

end
-- ==== Proof.RefLay.lean ====
/-
  The reference's layout operations at an index, floats being extended reals: the halves of the packed array, a row
  read, a row replaced, and the packing of the result.
-/
module

public import proofs.«01_k».proof.Proof.RefEnds
public import proofs.«01_k».proof.Proof.Lev
public import Idealize.ShloMosaic.Lib.Pointwise.Tactic
public import Idealize.ShloMosaic.Lib.KernelVsHost

@[expose] public section

noncomputable section

namespace Cert.Proof.Ref

open Cert.ReferenceIdeal Cert.ReferenceIdeal.Gen

open Idealize.ShloMosaic
open Idealize.ShloMosaic.TcCoe Idealize.ShloMosaic.Tactic
open Cert.Proof.Lev (colR colI)

/-- The real half of the packed columns; -/
def halfR (x : FVec Ideal S8192x4096 .f32) : Mat Ideal :=
  shapeCast S8192x2048 (shapeCast S8192x4x512 (extractStridedSlice S8192x4x1x512 ![0, 0, 0, 0]
    (shapeCast S8192x4x2x512 x shapeCasts_S8192x4096_S8192x4x2x512) slices_S8192x4x2x512_S8192x4x1x512_0_0_0_0)
    shapeCasts_S8192x4x1x512_S8192x4x512) shapeCasts_S8192x4x512_S8192x2048
/-- the imaginary half. -/
def halfI (x : FVec Ideal S8192x4096 .f32) : Mat Ideal :=
  shapeCast S8192x2048 (shapeCast S8192x4x512 (extractStridedSlice S8192x4x1x512 ![0, 0, 1, 0]
    (shapeCast S8192x4x2x512 x shapeCasts_S8192x4096_S8192x4x2x512) slices_S8192x4x2x512_S8192x4x1x512_0_0_1_0)
    shapeCasts_S8192x4x1x512_S8192x4x512) shapeCasts_S8192x4x512_S8192x2048

/-- The group of 512 columns and the place in it. -/
def grp (j : Fin 2048) : Fin 4 := ⟨j.val / 512, by omega⟩
def plc (j : Fin 2048) : Fin 512 := ⟨j.val % 512, by omega⟩

theorem grp_plc (j : Fin 2048) : j.val = 512 * (grp j).val + (plc j).val := (Nat.div_add_mod j.val 512).symm
theorem colR_val (j : Fin 2048) : (colR j).val = 1024 * (grp j).val + (plc j).val := rfl
theorem colI_val (j : Fin 2048) : (colI j).val = 1024 * (grp j).val + (plc j).val + 512 := rfl

theorem halfR_apply (x : FVec Ideal S8192x4096 .f32) (r : Fin 8192) (j : Fin 2048) : halfR x (ix2 r j) = x (ix2 r (colR j)) := by
  unfold halfR
  rw [shapeCast_apply _ _ (ix2 r j) (ix3 r (grp j) (plc j)) (by
      rw [Shape.rowMajor_val_two, Shape.rowMajor_val_three]
      show (r.val * 4 + (grp j).val) * 512 + (plc j).val = r.val * 2048 + j.val
      have := grp_plc j; omega),
    shapeCast_apply _ _ (ix3 r (grp j) (plc j)) (ix4 r (grp j) (0 : Fin 1) (plc j)) (by
      rw [Shape.rowMajor_val_four, Shape.rowMajor_val_three]
      show ((r.val * 4 + (grp j).val) * 1 + 0) * 512 + (plc j).val = (r.val * 4 + (grp j).val) * 512 + (plc j).val
      omega)]
  refine (extractStridedSlice_apply _ _ _ (ix4 r (grp j) (0 : Fin 1) (plc j)) (ix4 r (grp j) (0 : Fin 2) (plc j)) (fun a => by fin_cases a <;> exact (Nat.zero_add _).symm)).trans ?_
  exact shapeCast_apply _ _ _ (ix2 r (colR j)) (by
      rw [Shape.rowMajor_val_four, Shape.rowMajor_val_two]
      show r.val * 4096 + (colR j).val = ((r.val * 4 + (grp j).val) * 2 + 0) * 512 + (plc j).val
      have := colR_val j; omega)

theorem halfI_apply (x : FVec Ideal S8192x4096 .f32) (r : Fin 8192) (j : Fin 2048) : halfI x (ix2 r j) = x (ix2 r (colI j)) := by
  unfold halfI
  rw [shapeCast_apply _ _ (ix2 r j) (ix3 r (grp j) (plc j)) (by
      rw [Shape.rowMajor_val_two, Shape.rowMajor_val_three]
      show (r.val * 4 + (grp j).val) * 512 + (plc j).val = r.val * 2048 + j.val
      have := grp_plc j; omega),
    shapeCast_apply _ _ (ix3 r (grp j) (plc j)) (ix4 r (grp j) (0 : Fin 1) (plc j)) (by
      rw [Shape.rowMajor_val_four, Shape.rowMajor_val_three]
      show ((r.val * 4 + (grp j).val) * 1 + 0) * 512 + (plc j).val = (r.val * 4 + (grp j).val) * 512 + (plc j).val
      omega)]
  refine (extractStridedSlice_apply _ _ _ (ix4 r (grp j) (0 : Fin 1) (plc j)) (ix4 r (grp j) (1 : Fin 2) (plc j)) (fun a => by fin_cases a <;> first | exact (Nat.zero_add _).symm | rfl)).trans ?_
  exact shapeCast_apply _ _ _ (ix2 r (colI j)) (by
      rw [Shape.rowMajor_val_four, Shape.rowMajor_val_two]
      show r.val * 4096 + (colI j).val = ((r.val * 4 + (grp j).val) * 2 + 1) * 512 + (plc j).val
      have := colI_val j; omega)

/-- The one row of a `1 × 2048` array. -/
def flat (x : FVec Ideal S1x2048 .f32) : Row Ideal := shapeCast S2048 x shapeCasts_S1x2048_S2048

theorem flat_apply (x : FVec Ideal S1x2048 .f32) (j : Fin 2048) : flat x (ix1 j) = x (ix2 (0 : Fin 1) j) :=
  shapeCast_apply _ _ _ (ix2 (0 : Fin 1) j) (by
    rw [Shape.rowMajor_val_one, Shape.rowMajor_val_two]
    show 0 * 2048 + j.val = j.val
    omega)

/-- A row as a `1 × 2048` array. -/
def lift (x : Row Ideal) : FVec Ideal S1x2048 .f32 := shapeCast S1x2048 x shapeCasts_S2048_S1x2048

theorem lift_apply (x : Row Ideal) (j : Fin 2048) : lift x (ix2 (0 : Fin 1) j) = x (ix1 j) :=
  shapeCast_apply _ _ _ (ix1 j) (by
    rw [Shape.rowMajor_val_one, Shape.rowMajor_val_two]
    show j.val = 0 * 2048 + j.val
    omega)

/-! ## Rows -/

theorem word_toInt (k : ℕ) (hk : k < 8192) : (BitVec.ofNat 32 k).toInt = k := by
  rw [BitVec.toInt_eq_toNat_of_lt] <;> rw [BitVec.toNat_ofNat] <;> omega

theorem start0 (k : ℕ) (hk : k < 8192) (ht : S1x2048.rank = S8192x2048.rank) :
    Host.clampedStart S8192x2048 S1x2048 ht (fun j => ((![word k, constantI S_ 32 0#32] : Fin 2 → IVec S_ 32) j (Shape.Idx.first h_S_)).toInt) 0 = k :=
  Host.clampedStart_of_le ht _ 0 k (word_toInt k hk) (show k + 1 ≤ 8192 by omega)

theorem start1 (k : ℕ) (ht : S1x2048.rank = S8192x2048.rank) :
    Host.clampedStart S8192x2048 S1x2048 ht (fun j => ((![word k, constantI S_ 32 0#32] : Fin 2 → IVec S_ 32) j (Shape.Idx.first h_S_)).toInt) 1 = 0 :=
  Host.clampedStart_of_le ht _ 1 0 rfl (show 0 + 2048 ≤ 2048 by omega)

theorem rowAt_apply (x : Mat Ideal) (k : ℕ) (hk : k < 8192) (j : Fin 2048) : rowAt x (word k) (ix1 j) = x (ix2 (⟨k, hk⟩ : Fin 8192) j) := by
  unfold rowAt
  rw [shapeCast_apply _ _ (ix1 j) (ix2 (0 : Fin 1) j) (by
    rw [Shape.rowMajor_val_one, Shape.rowMajor_val_two]
    show 0 * 2048 + j.val = j.val
    omega), Host.dynamicSlice_apply]
  refine congrArg x ?_
  funext a
  apply Fin.ext
  fin_cases a
  · show Host.clampedStart S8192x2048 S1x2048 _ _ 0 + 0 = k
    rw [start0 k hk, Nat.add_zero]
  · show Host.clampedStart S8192x2048 S1x2048 _ _ 1 + j.val = j.val
    rw [start1 k, Nat.zero_add]

theorem setRow_apply (x : Mat Ideal) (v : Row Ideal) (k : ℕ) (hk : k < 8192) (r : Fin 8192) (j : Fin 2048) :
    setRow x v (word k) (ix2 r j) = if r.val = k then v (ix1 j) else x (ix2 r j) := by
  unfold setRow
  rw [Host.dynamicUpdateSlice_apply]
  by_cases h : r.val = k
  · rw [if_pos h]
    rw [dif_pos (by
      intro a
      fin_cases a
      · show Host.clampedStart S8192x2048 S1x2048 _ _ 0 ≤ r.val ∧ r.val < Host.clampedStart S8192x2048 S1x2048 _ _ 0 + 1
        rw [start0 k hk]; omega
      · show Host.clampedStart S8192x2048 S1x2048 _ _ 1 ≤ j.val ∧ j.val < Host.clampedStart S8192x2048 S1x2048 _ _ 1 + 2048
        rw [start1 k]; have := j.isLt; omega)]
    refine (broadcastInDim_apply _ _ _ _ (ix1 j) (fun a => ?_)).trans rfl
    fin_cases a
    show j.val = _
    simp only [Shape.Idx.norm]
    show j.val = j.val - Host.clampedStart S8192x2048 S1x2048 _ _ 1
    rw [start1 k, Nat.sub_zero]
  · rw [if_neg h]
    rw [dif_neg (by
      intro hin
      have h0 : Host.clampedStart S8192x2048 S1x2048 _ _ 0 ≤ r.val ∧ r.val < Host.clampedStart S8192x2048 S1x2048 _ _ 0 + 1 := hin 0
      rw [start0 k hk] at h0
      omega)]

theorem back_word (k : ℕ) (hk : k < 8192) : back (word k) = word (8191 - k) := by
  funext i
  show (8192#32 - BitVec.ofNat 32 k) - 1#32 = BitVec.ofNat 32 (8191 - k)
  apply BitVec.eq_of_toNat_eq
  simp only [BitVec.toNat_sub, BitVec.toNat_ofNat]
  omega

/-! ## The packing -/

/-- The two halves put back side by side. -/
def pack32 (x y : Mat Ideal) : FVec Ideal S8192x4096 .f32 :=
  shapeCast S8192x4096 (addf
    (pad S8192x4x2x512 ![0, 0, 1, 0] ![0, 0, 0, 0] ![0, 0, 0, 0] (broadcastInDim S8192x4x1x512 ![0, 1, 3] bcast_S8192x4x512_S8192x4x1x512_0_1_3 (shapeCast S8192x4x512 y shapeCasts_S8192x2048_S8192x4x512)) (constant S_ .f32 0x00000000#32) pads_S8192x4x1x512_S8192x4x2x512_000_000_100_000 h_S_)
    (pad S8192x4x2x512 ![0, 0, 0, 0] ![0, 0, 1, 0] ![0, 0, 0, 0] (broadcastInDim S8192x4x1x512 ![0, 1, 3] bcast_S8192x4x512_S8192x4x1x512_0_1_3 (shapeCast S8192x4x512 x shapeCasts_S8192x2048_S8192x4x512)) (constant S_ .f32 0x00000000#32) pads_S8192x4x1x512_S8192x4x2x512_000_000_010_000 h_S_))
    shapeCasts_S8192x4x2x512_S8192x4096

/-- … and converted. -/
def pack (x y : Mat Ideal) : FVec Ideal S8192x4096 .bf16 := truncf .bf16 (pack32 x y) bitsLt_bf16_f32

theorem pack_eq (x y : Mat Ideal) (r : Fin 8192) (j : Fin 4096) : pack x y (ix2 r j) = pack32 x y (ix2 r j) := by
  unfold pack
  rfl

theorem slab_apply (x : Mat Ideal) (r : Fin 8192) (j : Fin 2048) :
    broadcastInDim S8192x4x1x512 ![0, 1, 3] bcast_S8192x4x512_S8192x4x1x512_0_1_3 (shapeCast S8192x4x512 x shapeCasts_S8192x2048_S8192x4x512) (ix4 r (grp j) (0 : Fin 1) (plc j))
      = x (ix2 r j) := by
  refine (broadcastInDim_apply _ _ _ _ (ix3 r (grp j) (plc j)) (fun a => ?_)).trans ?_
  · fin_cases a <;> rfl
  exact shapeCast_apply _ _ _ (ix2 r j) (by
      rw [Shape.rowMajor_val_two, Shape.rowMajor_val_three]
      show r.val * 2048 + j.val = (r.val * 4 + (grp j).val) * 512 + (plc j).val
      have := grp_plc j; omega)

theorem zero_pad : (constant (F := Ideal) S_ .f32 0x00000000#32) (Shape.Idx.first h_S_) = (0 : EReal) := by
  show (Ideal.ofBits .f32 0x00000000#32 : EReal) = 0
  exact Ideal.ofBits_zero _

theorem pack_applyR (x y : Mat Ideal) (r : Fin 8192) (j : Fin 2048) : pack x y (ix2 r (colR j)) = x (ix2 r j) := by
  rw [pack_eq]
  unfold pack32
  rw [shapeCast_apply _ _ (ix2 r (colR j)) (ix4 r (grp j) (0 : Fin 2) (plc j)) (by
      rw [Shape.rowMajor_val_four, Shape.rowMajor_val_two]
      show ((r.val * 4 + (grp j).val) * 2 + 0) * 512 + (plc j).val = r.val * 4096 + (colR j).val
      have := colR_val j; omega)]
  show (pad S8192x4x2x512 _ _ _ _ _ _ _ _ : EReal) + pad S8192x4x2x512 _ _ _ _ _ _ _ _ = _
  refine (congrArg₂ (· + · : EReal → EReal → EReal) ((pad_apply_of_not_inside _ _ _ _ _ _ _ _ 2 (fun h => absurd (show 1 ≤ 0 from h.1) (by decide))).trans zero_pad) ?_).trans (zero_add _)
  refine (pad_apply_of_inside _ _ _ _ _ _ _ _ (ix4 r (grp j) (0 : Fin 1) (plc j)) (fun a => ?_)).trans (slab_apply x r j)
  fin_cases a
  · show r.val = 0 + r.val * (0 + 1); omega
  · show (grp j).val = 0 + (grp j).val * (0 + 1); omega
  · rfl
  · show (plc j).val = 0 + (plc j).val * (0 + 1); omega

theorem pack_applyI (x y : Mat Ideal) (r : Fin 8192) (j : Fin 2048) : pack x y (ix2 r (colI j)) = y (ix2 r j) := by
  rw [pack_eq]
  unfold pack32
  rw [shapeCast_apply _ _ (ix2 r (colI j)) (ix4 r (grp j) (1 : Fin 2) (plc j)) (by
      rw [Shape.rowMajor_val_four, Shape.rowMajor_val_two]
      show ((r.val * 4 + (grp j).val) * 2 + 1) * 512 + (plc j).val = r.val * 4096 + (colI j).val
      have := colI_val j; omega)]
  show (pad S8192x4x2x512 _ _ _ _ _ _ _ _ : EReal) + pad S8192x4x2x512 _ _ _ _ _ _ _ _ = _
  refine (congrArg₂ (· + · : EReal → EReal → EReal) ?_ ((pad_apply_of_not_inside _ _ _ _ _ _ _ _ 2 (fun h => absurd (show (1 - 0) / (0 + 1) < 1 from h.2.2) (by decide))).trans zero_pad)).trans (add_zero _)
  refine (pad_apply_of_inside _ _ _ _ _ _ _ _ (ix4 r (grp j) (0 : Fin 1) (plc j)) (fun a => ?_)).trans (slab_apply y r j)
  fin_cases a
  · show r.val = 0 + r.val * (0 + 1); omega
  · show (grp j).val = 0 + (grp j).val * (0 + 1); omega
  · rfl
  · show (plc j).val = 0 + (plc j).val * (0 + 1); omega

end Cert.Proof.Ref

end
-- ==== Proof.RefVal.lean ====
/-
  What the reference computes at one column, floats being extended reals: the forward loop saves the states of the
  recurrence, the backward loop leaves the states of the transposed recurrence and the sum for the multiplier.
-/
module

public import proofs.«01_k».proof.Proof.RefLay
public import proofs.«01_k».proof.Proof.BwdArr

@[expose] public section

noncomputable section

namespace Cert.Proof.Ref

open Cert.ReferenceIdeal Cert.ReferenceIdeal.Gen

open Idealize.ShloMosaic
open Idealize.ShloMosaic.TcCoe Idealize.ShloMosaic.Tactic
open Idealize.ShloMosaic.StableHlo (after afterL atTrip launchContents)
open Cert.Proof.Lev (colR colI)
open Cert.Proof.Scan
open Cert.Proof.Bwd (G U rev)
open scoped ComplexConjugate

variable (m : (ℓ : Loc nD τ sig) → Buf (Elt Ideal) ℓ) (c : Dev nD)

/-- The arguments at their own types. -/
abbrev x0 : FVec Ideal S8192x4096 .bf16 := m ((c.tc : Thread nD τ).loc main_arg0)
abbrev x1 : FVec Ideal S1x2048 .f32 := m ((c.tc : Thread nD τ).loc main_arg1)
abbrev x2 : FVec Ideal S1x2048 .f32 := m ((c.tc : Thread nD τ).loc main_arg2)
abbrev x3 : FVec Ideal S8192x4096 .bf16 := m ((c.tc : Thread nD τ).loc main_arg3)

/-- A row and an array of zeros. -/
abbrev zrow : Row Ideal := broadcastInDim S2048 ![] bcast_S_S2048 (constant S_ .f32 0x00000000#32)

theorem zrow_apply (j : Fin 2048) : zrow (ix1 j) = (0 : EReal) := zero_pad

/-! ## Before the loops -/

theorem W0_0 : W0 m c main_v16_0 = halfR (extf .f32 (x0 m c) bitsLt_bf16_f32) := by
  after_reads_simp
  rfl
theorem W0_1 : W0 m c main_v16_1 = halfI (extf .f32 (x0 m c) bitsLt_bf16_f32) := by
  after_reads_simp
  rfl
theorem W0_2 : W0 m c main_v16_2 = flat (x1 m c) := by
  after_reads_simp
  rfl
theorem W0_3 : W0 m c main_v16_3 = flat (x2 m c) := by
  after_reads_simp
  rfl
theorem W0_5 : W0 m c main_v16_5 = zrow := by
  after_reads_simp
  rfl
theorem W0_6 : W0 m c main_v16_6 = zrow := by
  after_reads_simp
  rfl
theorem W0_v8 : W0 m c main_v8 = flat (x1 m c) := by
  after_reads_simp
  rfl
theorem W0_v9 : W0 m c main_v9 = flat (x2 m c) := by
  after_reads_simp
  rfl
theorem W0_arg3 : W0 m c main_arg3 = x3 m c := by
  after_reads_simp

section Mid
variable (V : Valuation τ sig (Elt Ideal))

/-- Between the loops. -/
abbrev mid : Valuation τ sig (Elt Ideal) := after midOps1 (after midOps0 (after condOps0 V))

theorem mid_0 : mid V main_v39_0 = halfR (extf .f32 (V main_arg3) bitsLt_bf16_f32) := by
  after_reads_simp
  rfl
theorem mid_1 : mid V main_v39_1 = halfI (extf .f32 (V main_arg3) bitsLt_bf16_f32) := by
  after_reads_simp
  rfl
theorem mid_2 : mid V main_v39_2 = V main_v16_9 := by
  after_reads_simp
  rfl
theorem mid_3 : mid V main_v39_3 = V main_v16_10 := by
  after_reads_simp
  rfl
theorem mid_4 : mid V main_v39_4 = V main_v8 := by
  after_reads_simp
  rfl
theorem mid_5 : mid V main_v39_5 = V main_v9 := by
  after_reads_simp
  rfl
theorem mid_7 : mid V main_v39_7 = zrow := by
  after_reads_simp
  rfl
theorem mid_8 : mid V main_v39_8 = zrow := by
  after_reads_simp
  rfl
theorem mid_9 : mid V main_v39_9 = zrow := by
  after_reads_simp
  rfl
theorem mid_10 : mid V main_v39_10 = zrow := by
  after_reads_simp
  rfl

/-- After the loops. -/
abbrev fin : Valuation τ sig (Elt Ideal) := after postOps (after condOps1 V)

theorem fin_41 : fin V main_v41 = lift (V main_v39_7) := by
  after_reads_simp
  rfl
theorem fin_40 : fin V main_v40 = lift (V main_v39_8) := by
  after_reads_simp
  rfl
theorem fin_50 : fin V main_v50 = pack (V main_v39_11) (V main_v39_12) := by
  after_reads_simp
  rfl
end Mid

/-! ## The loops over the recurrence -/

/-- Column `j` of the arguments: the multiplier `a`, the inputs `b`, the cotangents `g`. -/
structure Col (j : Fin 2048) (a : ℂ) (b g : ℕ → ℂ) : Prop where
  mul : Cx (x1 m c (ix2 (0 : Fin 1) j)) (x2 m c (ix2 (0 : Fin 1) j)) a
  inp : ∀ r : Fin 8192, Cx (x0 m c (ix2 r (colR j))) (x0 m c (ix2 r (colI j))) (b r.val)
  cot : ∀ r : Fin 8192, Cx (x3 m c (ix2 r (colR j))) (x3 m c (ix2 r (colI j))) (g r.val)

variable {m c} {j : Fin 2048} {a : ℂ} {b g : ℕ → ℂ}

/-- The sum, the difference and the product of extended reals. -/
abbrev eadd (x y : EReal) : EReal := x + y
abbrev esub (x y : EReal) : EReal := x - y
abbrev emul (x y : EReal) : EReal := x * y

theorem fRe_apply (V : Valuation τ sig (Elt Ideal)) (j : Fin 2048) : fRe V (ix1 j)
    = eadd (esub (emul (V main_v16_2 (ix1 j)) (V main_v16_5 (ix1 j))) (emul (V main_v16_3 (ix1 j)) (V main_v16_6 (ix1 j)))) (rowAt (F := Ideal) (V main_v16_0) (V main_v16_4) (ix1 j)) := rfl
theorem fIm_apply (V : Valuation τ sig (Elt Ideal)) (j : Fin 2048) : fIm V (ix1 j)
    = eadd (eadd (emul (V main_v16_2 (ix1 j)) (V main_v16_6 (ix1 j))) (emul (V main_v16_3 (ix1 j)) (V main_v16_5 (ix1 j)))) (rowAt (F := Ideal) (V main_v16_1) (V main_v16_4) (ix1 j)) := rfl

/-- After `k` trips of the forward loop: the state, and the states saved before it. -/
theorem fwd_is (h : Col m c j a b g) (k : ℕ) (hk : k ≤ 8192) :
    Cx ((L0 m k c main_v16_5 : Row Ideal) (ix1 j)) ((L0 m k c main_v16_6 : Row Ideal) (ix1 j)) (H a b k)
      ∧ ∀ r : Fin 8192, r.val < k → Cx ((L0 m k c main_v16_9 : Mat Ideal) (ix2 r j)) ((L0 m k c main_v16_10 : Mat Ideal) (ix2 r j)) (H a b r.val) := by
  induction k with
  | zero =>
    refine ⟨?_, fun r hr => absurd hr (Nat.not_lt_zero _)⟩
    have e5 : L0 m 0 c main_v16_5 = zrow := W0_5 m c
    have e6 : L0 m 0 c main_v16_6 = zrow := W0_6 m c
    rw [e5, e6, zrow_apply]
    exact Cx.zero
  | succ k ih =>
    obtain ⟨ih1, ih2⟩ := ih (by omega)
    have hk' : k < 8192 := by omega
    have e0 : L0 m k c main_v16_0 = _ := (keep0 m c trip0_v16_0 k).trans (W0_0 m c)
    have e1 : L0 m k c main_v16_1 = _ := (keep0 m c trip0_v16_1 k).trans (W0_1 m c)
    have e2 : L0 m k c main_v16_2 = _ := (keep0 m c trip0_v16_2 k).trans (W0_2 m c)
    have e3 : L0 m k c main_v16_3 = _ := (keep0 m c trip0_v16_3 k).trans (W0_3 m c)
    have e4 : L0 m k c main_v16_4 = word k := ctr0 (W0 m) (W0_ctr m) c k
    have es : L0 m (k + 1) c = trip0 (L0 m k c) := StableHlo.atTrip_succ ..
    rw [es, trip0_v16_5, trip0_v16_6, trip0_v16_9, trip0_v16_10, fRe_apply, fIm_apply, e0, e1, e2, e3, e4,
      rowAt_apply _ k hk', rowAt_apply _ k hk', halfR_apply, halfI_apply, flat_apply, flat_apply]
    refine ⟨(h.mul.mul ih1).add (h.inp ⟨k, hk'⟩), fun r hr => ?_⟩
    rw [setRow_apply _ _ k hk', setRow_apply _ _ k hk']
    by_cases hrk : r.val = k
    · rw [if_pos hrk, if_pos hrk, hrk]
      exact ih1
    · rw [if_neg hrk, if_neg hrk]
      exact ih2 r (by omega)

theorem gRe_apply (V : Valuation τ sig (Elt Ideal)) (j : Fin 2048) : gRe V (ix1 j)
    = eadd (V main_v39_9 (ix1 j)) (rowAt (F := Ideal) (V main_v39_0) (back (V main_v39_6)) (ix1 j)) := rfl
theorem gIm_apply (V : Valuation τ sig (Elt Ideal)) (j : Fin 2048) : gIm V (ix1 j)
    = eadd (V main_v39_10 (ix1 j)) (rowAt (F := Ideal) (V main_v39_1) (back (V main_v39_6)) (ix1 j)) := rfl

theorem carry_of {x y p q : EReal} {z w : ℂ} (h : Cx x y z) (h' : Cx p q w) : Cx (y * q + x * p) (x * q + y * -p) (conj z * w) := by
  have e := h.conjMul h'
  rw [add_comm (y * q), mul_neg, ← sub_eq_add_neg]
  exact e

theorem sum_of {d e x y p q : EReal} {u z w : ℂ} (hd : Cx d e u) (h : Cx x y z) (h' : Cx p q w) :
    Cx (d + y * q + x * p) (e + y * p + -x * q) (u + z * conj w) := by
  have r := hd.add (h.mulConj h')
  rw [add_assoc, add_comm (y * q), add_assoc, neg_mul, ← sub_eq_add_neg]
  exact r

/-- After `k` trips of the backward loop: the carry, the sum, and the gradients written from the end. -/
theorem bwd_is (h : Col m c j a b g) (k : ℕ) (hk : k ≤ 8192) :
    Cx ((L1 m k c main_v39_9 : Row Ideal) (ix1 j)) ((L1 m k c main_v39_10 : Row Ideal) (ix1 j)) (conj a * G a g k)
      ∧ Cx ((L1 m k c main_v39_7 : Row Ideal) (ix1 j)) ((L1 m k c main_v39_8 : Row Ideal) (ix1 j)) (D (U a g (H a b)) k)
      ∧ ∀ r : Fin 8192, 8192 - k ≤ r.val → Cx ((L1 m k c main_v39_11 : Mat Ideal) (ix2 r j)) ((L1 m k c main_v39_12 : Mat Ideal) (ix2 r j)) (G a g (8192 - r.val)) := by
  induction k with
  | zero =>
    have e7 : L1 m 0 c main_v39_7 = zrow := mid_7 _
    have e8 : L1 m 0 c main_v39_8 = zrow := mid_8 _
    have e9 : L1 m 0 c main_v39_9 = zrow := mid_9 _
    have e10 : L1 m 0 c main_v39_10 = zrow := mid_10 _
    rw [e7, e8, e9, e10, zrow_apply]
    refine ⟨Cx.zero.congr (mul_zero _).symm, Cx.zero, fun r hr => ?_⟩
    have := r.isLt
    omega
  | succ k ih =>
    obtain ⟨ih1, ih2, ih3⟩ := ih (by omega)
    have hk' : 8191 - k < 8192 := by omega
    have e0 : L1 m k c main_v39_0 = halfR (extf .f32 (x3 m c) bitsLt_bf16_f32) :=
      (keep1 m c trip1_v39_0 k).trans ((mid_0 _).trans (by rw [keep0 m c trip0_arg3, W0_arg3]))
    have e1 : L1 m k c main_v39_1 = halfI (extf .f32 (x3 m c) bitsLt_bf16_f32) :=
      (keep1 m c trip1_v39_1 k).trans ((mid_1 _).trans (by rw [keep0 m c trip0_arg3, W0_arg3]))
    have e2 : L1 m k c main_v39_2 = L0 m 8192 c main_v16_9 := (keep1 m c trip1_v39_2 k).trans (mid_2 _)
    have e3 : L1 m k c main_v39_3 = L0 m 8192 c main_v16_10 := (keep1 m c trip1_v39_3 k).trans (mid_3 _)
    have e4 : L1 m k c main_v39_4 = flat (x1 m c) :=
      (keep1 m c trip1_v39_4 k).trans ((mid_4 _).trans ((keep0 m c trip0_v8 _).trans (W0_v8 m c)))
    have e5 : L1 m k c main_v39_5 = flat (x2 m c) :=
      (keep1 m c trip1_v39_5 k).trans ((mid_5 _).trans ((keep0 m c trip0_v9 _).trans (W0_v9 m c)))
    have e6 : back (L1 m k c main_v39_6) = word (8191 - k) := by
      rw [show L1 m k c main_v39_6 = word k from ctr1 (W1 m) (W1_ctr m) c k]
      exact back_word k (by omega)
    have hp := (fwd_is h 8192 le_rfl).2 ⟨8191 - k, hk'⟩ hk'
    have hc := h.cot ⟨8191 - k, hk'⟩
    have hg : Cx (gRe (L1 m k c) (ix1 j)) (gIm (L1 m k c) (ix1 j)) (G a g (k + 1)) := by
      rw [gRe_apply, gIm_apply, e6, e0, e1, rowAt_apply _ _ hk', rowAt_apply _ _ hk', halfR_apply, halfI_apply]
      exact ih1.add hc
    have hpp : Cx (pRe (L1 m k c) (ix1 j)) (pIm (L1 m k c) (ix1 j)) (H a b (8191 - k)) := by
      unfold pRe pIm
      rw [e6, e2, e3, rowAt_apply _ _ hk', rowAt_apply _ _ hk']
      exact hp
    have ha : Cx ((L1 m k c main_v39_4 : Row Ideal) (ix1 j)) ((L1 m k c main_v39_5 : Row Ideal) (ix1 j)) a := by
      rw [e4, e5, flat_apply, flat_apply]
      exact h.mul
    have es : L1 m (k + 1) c = trip1 (L1 m k c) := StableHlo.atTrip_succ ..
    rw [es, trip1_v39_9, trip1_v39_10, trip1_v39_7, trip1_v39_8, trip1_v39_11, trip1_v39_12, e6]
    refine ⟨carry_of ha hg, sum_of ih2 hg hpp, fun r hr => ?_⟩
    rw [setRow_apply _ _ _ hk', setRow_apply _ _ _ hk']
    by_cases hrk : r.val = 8191 - k
    · rw [if_pos hrk, if_pos hrk, hrk, show 8192 - (8191 - k) = k + 1 by omega]
      exact hg
    · rw [if_neg hrk, if_neg hrk]
      exact ih3 r (by omega)

/-! ## The results -/

theorem rows_is (h : Col m c j a b g) (r : Fin 8192) :
    Cx ((WE m c main_v50 : FVec Ideal S8192x4096 .bf16) (ix2 r (colR j))) ((WE m c main_v50 : FVec Ideal S8192x4096 .bf16) (ix2 r (colI j))) (G a g (8192 - r.val)) := by
  have e : WE m c main_v50 = pack (L1 m 8192 c main_v39_11) (L1 m 8192 c main_v39_12) := fin_50 _
  rw [e, pack_applyR, pack_applyI]
  exact (bwd_is h 8192 le_rfl).2.2 r (by omega)

theorem mul_is (h : Col m c j a b g) :
    Cx ((WE m c main_v41 : FVec Ideal S1x2048 .f32) (ix2 (0 : Fin 1) j)) ((WE m c main_v40 : FVec Ideal S1x2048 .f32) (ix2 (0 : Fin 1) j)) (D (U a g (H a b)) 8192) := by
  have e : WE m c main_v41 = lift (L1 m 8192 c main_v39_7) := fin_41 _
  have e' : WE m c main_v40 = lift (L1 m 8192 c main_v39_8) := fin_40 _
  rw [e, e', lift_apply, lift_apply]
  exact (bwd_is h 8192 le_rfl).2.1

end Cert.Proof.Ref

end
-- ==== Proof.Eqn.lean ====
/-
  The equation: the kernel's three results are the reference's, when every element of the arguments is finite.
-/
module

public import proofs.«01_k».proof.Defs
public import proofs.«01_k».proof.Proof.Run
public import proofs.«01_k».proof.Proof.FwdArr
public import proofs.«01_k».proof.Proof.BwdArr
public import proofs.«01_k».proof.Proof.RefVal

@[expose] public section

noncomputable section

namespace Cert.Proof.Eqn

open Idealize.ShloMosaic Idealize.ShloMosaic.TcCoe
open Cert.Proof.Lev (colR colI)
open Cert.Proof.Scan
open Cert.KernelIdeal (S8192x4096 S1x2048 S1x64x1x2048)

/-! ## Finite elements -/

/-- An extended real whose difference with itself is 0 is a real number. -/
theorem real_of (x : EReal) (h : x - x = 0) : x = ((x.toReal : ℝ) : EReal) := by
  induction x with
  | bot => simp at h
  | coe r => simp
  | top => simp at h

theorem zero_of : (Ideal.ofBits .f32 0x00000000#32 : EReal) = 0 := Ref.zero_pad

theorem eq_of_cmp {x y : EReal} (h : Ideal.cmp .oeq x y = 1#1) : x = y := (Ideal.cmp_oeq_eq_one x y).1 h

variable [hPre : Cert.Pre_all_finite.Facts]
variable (m : (ℓ : Loc Cert.KernelIdeal.nD Cert.KernelIdeal.τ Cert.KernelIdeal.sig) → Buf (Elt Ideal) ℓ) (c : Dev Cert.KernelIdeal.nD)

/-- The arguments at their own types. -/
abbrev y0 : FVec Ideal S8192x4096 .bf16 := m ((c.tc : Thread Cert.KernelIdeal.nD Cert.KernelIdeal.τ).loc Cert.KernelIdeal.main_arg0)
abbrev y1 : FVec Ideal S1x2048 .f32 := m ((c.tc : Thread Cert.KernelIdeal.nD Cert.KernelIdeal.τ).loc Cert.KernelIdeal.main_arg1)
abbrev y2 : FVec Ideal S1x2048 .f32 := m ((c.tc : Thread Cert.KernelIdeal.nD Cert.KernelIdeal.τ).loc Cert.KernelIdeal.main_arg2)
abbrev y3 : FVec Ideal S8192x4096 .bf16 := m ((c.tc : Thread Cert.KernelIdeal.nD Cert.KernelIdeal.τ).loc Cert.KernelIdeal.main_arg3)

theorem fin0 (h : Pre_KernelIdeal_all_finite m) (i : S8192x4096.Idx) : y0 m c i = ((EReal.toReal (y0 m c i) : ℝ) : EReal) :=
  real_of _ ((eq_of_cmp (congrFun (h c).1 i)).trans zero_of)
theorem fin1 (h : Pre_KernelIdeal_all_finite m) (i : S1x2048.Idx) : y1 m c i = ((EReal.toReal (y1 m c i) : ℝ) : EReal) :=
  real_of _ ((eq_of_cmp (congrFun (h c).2.1 i)).trans zero_of)
theorem fin2 (h : Pre_KernelIdeal_all_finite m) (i : S1x2048.Idx) : y2 m c i = ((EReal.toReal (y2 m c i) : ℝ) : EReal) :=
  real_of _ ((eq_of_cmp (congrFun (h c).2.2.1 i)).trans zero_of)
theorem fin3 (h : Pre_KernelIdeal_all_finite m) (i : S8192x4096.Idx) : y3 m c i = ((EReal.toReal (y3 m c i) : ℝ) : EReal) :=
  real_of _ ((eq_of_cmp (congrFun (h c).2.2.2 i)).trans zero_of)

/-! ## A column of the arguments as complex numbers -/

/-- The multiplier of column `j`. -/
def mulOf (j : Fin 2048) : ℂ := ⟨EReal.toReal (y1 m c (ix2 (0 : Fin 1) j)), EReal.toReal (y2 m c (ix2 (0 : Fin 1) j))⟩
/-- Row `r` of a packed array at column `j`. -/
def rowOf (x : FVec Ideal S8192x4096 .bf16) (j : Fin 2048) (r : ℕ) : ℂ :=
  if h : r < 8192 then ⟨EReal.toReal (x (ix2 (⟨r, h⟩ : Fin 8192) (colR j))), EReal.toReal (x (ix2 (⟨r, h⟩ : Fin 8192) (colI j)))⟩ else 0

theorem mul_cx (h : Pre_KernelIdeal_all_finite m) (j : Fin 2048) : Cx (y1 m c (ix2 (0 : Fin 1) j)) (y2 m c (ix2 (0 : Fin 1) j)) (mulOf m c j) :=
  ⟨fin1 m c h _, fin2 m c h _⟩

theorem row_cx (x : FVec Ideal S8192x4096 .bf16) (hx : ∀ i, x i = ((EReal.toReal (x i) : ℝ) : EReal)) (j : Fin 2048) (r : Fin 8192) :
    Cx (x (ix2 r (colR j))) (x (ix2 r (colI j))) (rowOf x j r.val) := by
  unfold rowOf
  rw [dif_pos r.isLt]
  exact ⟨hx _, hx _⟩

/-! ## The kernel's columns -/

theorem kernel_fwd (h : Pre_KernelIdeal_all_finite m) (j : Fin 2048) :
    Fwd.Col (Run.VA m) c j (mulOf m c j) (rowOf (y0 m c) j) :=
  ⟨mul_cx m c h j, fun r => row_cx (y0 m c) (fin0 m c h) j r⟩

theorem kernel_bwd (h : Pre_KernelIdeal_all_finite m) (j : Fin 2048) :
    Bwd.Col (Run.VB m) c j (mulOf m c j) (rowOf (y3 m c) j) (H (mulOf m c j) (rowOf (y0 m c) j)) := by
  refine ⟨?_, fun r => ?_, fun r => ?_, fun t => ?_⟩
  · rw [Run.VB_of m c Cert.KernelIdeal.main_arg1 (by decide), Run.VB_of m c Cert.KernelIdeal.main_arg2 (by decide)]
    exact mul_cx m c h j
  · rw [Run.VB_of m c Cert.KernelIdeal.main_arg3 (by decide)]
    exact row_cx (y3 m c) (fin3 m c h) j r
  · rw [Run.VB_out0]
    exact Fwd.rows_is (kernel_fwd m c h j) r
  · rw [Run.VB_out1, Run.VB_out2]
    exact Fwd.saved_is (kernel_fwd m c h j) t

/-! ## The reference's columns -/

variable (m' : (ℓ : Loc Cert.ReferenceIdeal.nD Cert.ReferenceIdeal.τ Cert.ReferenceIdeal.sig) → Buf (Elt Ideal) ℓ)

/-- The two memories hold the same arguments. -/
structure Same : Prop where
  a0 : Ref.x0 m' c = y0 m c
  a1 : Ref.x1 m' c = y1 m c
  a2 : Ref.x2 m' c = y2 m c
  a3 : Ref.x3 m' c = y3 m c

variable {m c m'}

theorem ref_col (h : Pre_KernelIdeal_all_finite m) (e : Same m c m') (j : Fin 2048) :
    Ref.Col m' c j (mulOf m c j) (rowOf (y0 m c) j) (rowOf (y3 m c) j) := by
  refine ⟨?_, fun r => ?_, fun r => ?_⟩
  · rw [e.a1, e.a2]
    exact mul_cx m c h j
  · rw [e.a0]
    exact row_cx (y0 m c) (fin0 m c h) j r
  · rw [e.a3]
    exact row_cx (y3 m c) (fin3 m c h) j r

/-! ## The three equations -/

/-- Every packed column is the real or the imaginary column of some `j`. -/
theorem col_cases (k : Fin 4096) : ∃ j : Fin 2048, k = colR j ∨ k = colI j := by
  have hk := k.isLt
  by_cases h : k.val % 1024 < 512
  · refine ⟨⟨512 * (k.val / 1024) + k.val % 1024, by omega⟩, Or.inl (Fin.ext ?_)⟩
    simp only [colR]
    omega
  · refine ⟨⟨512 * (k.val / 1024) + (k.val % 1024 - 512), by omega⟩, Or.inr (Fin.ext ?_)⟩
    simp only [colI]
    omega

theorem rows_eq (h : Pre_KernelIdeal_all_finite m) (e : Same m c m') :
    (Ref.WE m' c Cert.ReferenceIdeal.main_v50 : FVec Ideal S8192x4096 .bf16) = (Bwd.dat (Run.VB m) c).arrAt 6 Cert.KernelIdeal.cfg1.N := by
  funext i
  have hi : i = ix2 (i 0) (i 1) := by funext a; fin_cases a <;> rfl
  obtain ⟨j, hj⟩ := col_cases (i 1)
  have u := Cx.unique (Ref.rows_is (ref_col h e j) (i 0)) (Bwd.rows_is (kernel_bwd m c h j) (i 0))
  rw [hi]
  rcases hj with hj | hj
  · rw [hj]; exact u.1
  · rw [hj]; exact u.2

theorem row_idx (i : S1x2048.Idx) : i = ix2 (0 : Fin 1) (i 1) := by
  funext a
  fin_cases a
  · exact Fin.ext (by have : (i 0).val < 1 := (i 0).isLt; show (i 0).val = 0; omega)
  · rfl

theorem mulR_eq (h : Pre_KernelIdeal_all_finite m) (e : Same m c m') :
    (Ref.WE m' c Cert.ReferenceIdeal.main_v41 : FVec Ideal S1x2048 .f32) = (Bwd.dat (Run.VB m) c).arrAt 7 Cert.KernelIdeal.cfg1.N := by
  funext i
  have u := Cx.unique (Ref.mul_is (ref_col h e (i 1))) (Bwd.mul_is (kernel_bwd m c h (i 1)))
  rw [row_idx i]
  exact u.1

theorem mulI_eq (h : Pre_KernelIdeal_all_finite m) (e : Same m c m') :
    (Ref.WE m' c Cert.ReferenceIdeal.main_v40 : FVec Ideal S1x2048 .f32) = (Bwd.dat (Run.VB m) c).arrAt 8 Cert.KernelIdeal.cfg1.N := by
  funext i
  have u := Cx.unique (Ref.mul_is (ref_col h e (i 1))) (Bwd.mul_is (kernel_bwd m c h (i 1)))
  rw [row_idx i]
  exact u.2

end Cert.Proof.Eqn

end
-- ==== Proof.Ffn.lean ====
module

public import proofs.«01_k».proof.Kernel2Ideal
public import proofs.«01_k».proof.Proof.Gen.Kernel2.Frame
public import proofs.«01_k».proof.Proof.Gen.Kernel2Ideal.Value
public import proofs.«01_k».proof.Proof.Gen.Reference2Ideal.Run
public import proofs.«01_k».proof.Kernel3Ideal
public import proofs.«01_k».proof.Proof.Gen.Kernel3.Frame
public import proofs.«01_k».proof.Proof.Gen.Kernel3Ideal.Value
public import proofs.«01_k».proof.Proof.Gen.Reference3Ideal.Run
public import proofs.«01_k».proof.Kernel4Ideal
public import proofs.«01_k».proof.Proof.Gen.Kernel4.Frame
public import proofs.«01_k».proof.Proof.Gen.Kernel4Ideal.Value
public import proofs.«01_k».proof.Proof.Gen.Reference4Ideal.Run
public import proofs.«01_k».proof.Kernel5Ideal
public import proofs.«01_k».proof.Proof.Gen.Kernel5.Frame
public import proofs.«01_k».proof.Proof.Gen.Kernel5Ideal.Value
public import proofs.«01_k».proof.Proof.Gen.Reference5Ideal.Run
public import proofs.«01_k».proof.Kernel6Ideal
public import proofs.«01_k».proof.Proof.Gen.Kernel6.Frame
public import proofs.«01_k».proof.Proof.Gen.Kernel6Ideal.Value
public import proofs.«01_k».proof.Proof.Gen.Reference6Ideal.Run
public import proofs.«01_k».proof.Kernel7Ideal
public import proofs.«01_k».proof.Proof.Gen.Kernel7.Frame
public import proofs.«01_k».proof.Proof.Gen.Kernel7Ideal.Value
public import proofs.«01_k».proof.Proof.Gen.Reference7Ideal.Run
public import proofs.«01_k».proof.Kernel8Ideal
public import proofs.«01_k».proof.Proof.Gen.Kernel8.Frame
public import proofs.«01_k».proof.Proof.Gen.Kernel8Ideal.Value
public import proofs.«01_k».proof.Proof.Gen.Reference8Ideal.Run
public import proofs.«01_k».proof.Kernel9Ideal
public import proofs.«01_k».proof.Proof.Gen.Kernel9.Frame
public import proofs.«01_k».proof.Proof.Gen.Kernel9Ideal.Value
public import proofs.«01_k».proof.Proof.Gen.Reference9Ideal.Run
public import proofs.«01_k».proof.Kernel10Ideal
public import proofs.«01_k».proof.Proof.Gen.Kernel10.Frame
public import proofs.«01_k».proof.Proof.Gen.Kernel10Ideal.Value
public import proofs.«01_k».proof.Proof.Gen.Reference10Ideal.Run
public import proofs.«01_k».proof.Kernel11Ideal
public import proofs.«01_k».proof.Proof.Gen.Kernel11.Frame
public import proofs.«01_k».proof.Proof.Gen.Kernel11Ideal.Value
public import proofs.«01_k».proof.Proof.Gen.Reference11Ideal.Run
public import proofs.«01_k».proof.Kernel12Ideal
public import proofs.«01_k».proof.Proof.Gen.Kernel12.Frame
public import proofs.«01_k».proof.Proof.Gen.Kernel12Ideal.Value
public import proofs.«01_k».proof.Proof.Gen.Reference12Ideal.Run
public import proofs.«01_k».proof.Kernel13Ideal
public import proofs.«01_k».proof.Proof.Gen.Kernel13.Frame
public import proofs.«01_k».proof.Proof.Gen.Kernel13Ideal.Value
public import proofs.«01_k».proof.Proof.Gen.Reference13Ideal.Run
public import proofs.«01_k».proof.Kernel14Ideal
public import proofs.«01_k».proof.Proof.Gen.Kernel14.Frame
public import proofs.«01_k».proof.Proof.Gen.Kernel14Ideal.Value
public import proofs.«01_k».proof.Proof.Gen.Reference14Ideal.Run
public import proofs.«01_k».proof.Kernel15Ideal
public import proofs.«01_k».proof.Proof.Gen.Kernel15.Frame
public import proofs.«01_k».proof.Proof.Gen.Kernel15Ideal.Value
public import proofs.«01_k».proof.Proof.Gen.Reference15Ideal.Run
public import proofs.«01_k».proof.Kernel16Ideal
public import proofs.«01_k».proof.Proof.Gen.Kernel16.Frame
public import proofs.«01_k».proof.Proof.Gen.Kernel16Ideal.Value
public import proofs.«01_k».proof.Proof.Gen.Reference16Ideal.Run
public import proofs.«01_k».proof.Kernel17Ideal
public import proofs.«01_k».proof.Proof.Gen.Kernel17.Frame
public import proofs.«01_k».proof.Proof.Gen.Kernel17Ideal.Value
public import proofs.«01_k».proof.Proof.Gen.Reference17Ideal.Run
public import proofs.«01_k».proof.Kernel18Ideal
public import proofs.«01_k».proof.Proof.Gen.Kernel18.Frame
public import proofs.«01_k».proof.Proof.Gen.Kernel18Ideal.Value
public import proofs.«01_k».proof.Proof.Gen.Reference18Ideal.Run
public import proofs.«01_k».proof.Kernel19Ideal
public import proofs.«01_k».proof.Proof.Gen.Kernel19.Frame
public import proofs.«01_k».proof.Proof.Gen.Kernel19Ideal.Value
public import proofs.«01_k».proof.Proof.Gen.Reference19Ideal.Run
public import proofs.«01_k».proof.Kernel20Ideal
public import proofs.«01_k».proof.Proof.Gen.Kernel20.Frame
public import proofs.«01_k».proof.Proof.Gen.Kernel20Ideal.Value
public import proofs.«01_k».proof.Proof.Gen.Reference20Ideal.Run
public import proofs.«01_k».proof.Kernel21Ideal
public import proofs.«01_k».proof.Proof.Gen.Kernel21.Frame
public import proofs.«01_k».proof.Proof.Gen.Kernel21Ideal.Value
public import proofs.«01_k».proof.Proof.Gen.Reference21Ideal.Run
public import proofs.«01_k».proof.Kernel22Ideal
public import proofs.«01_k».proof.Proof.Gen.Kernel22.Frame
public import proofs.«01_k».proof.Proof.Gen.Kernel22Ideal.Value
public import proofs.«01_k».proof.Proof.Gen.Reference22Ideal.Run
public import proofs.«01_k».proof.Kernel23Ideal
public import proofs.«01_k».proof.Proof.Gen.Kernel23.Frame
public import proofs.«01_k».proof.Proof.Gen.Kernel23Ideal.Value
public import proofs.«01_k».proof.Proof.Gen.Reference23Ideal.Run
public import proofs.«01_k».proof.Kernel24Ideal
public import proofs.«01_k».proof.Proof.Gen.Kernel24.Frame
public import proofs.«01_k».proof.Proof.Gen.Kernel24Ideal.Value
public import proofs.«01_k».proof.Proof.Gen.Reference24Ideal.Run
-- ==== Proof.Pooled.lean ====
/-
A launch of a kernel without windows, for cores that exchange arrays directly: the counters of all
cores' scoped semaphores and the arrays of all cores are dealt together, under one update, before any core runs.
A core may so be handed another core's array, to write it with no word from that core first.
-/
module

public import Idealize.ShloMosaic.Lib.Pipeline.Launch
public import Idealize.ShloMosaic.Lib.Pipeline.Kit
public import Idealize.ShloMosaic.Lib.Tactic

@[expose] public section

set_option Elab.async false

noncomputable section

namespace Cert.Pooled

open Idealize.ShloMosaic Idealize.ShloMosaic.Pipeline
open Idealize.ShloMosaic.TcCoe
open Idealize.SL Idealize.SL.RA Idealize.SL.Sem
open Idealize.SL.BI (sProp bigSep bigSep_sep' bigSep_mono bigSep_congr bigSep_empty)
open scoped Idealize.SL.BI
open Idealize.SL.BI.BIBase Idealize.SL.BI.Laws Idealize.SL.ProofMode
open Idealize.ShloMosaic.Rounds

variable {nD : Nat} {τ : Topo} {sig : RefSig} {Val : EltTy → Type}
variable {Ix : Type} [DecidableEq Ix] {Name : Type} [DecidableEq Name] {U : Type} [URA U] {Lvl : Type}
variable {Λ₀ : Labels} {P : Type} [Fintype P]

local notation "𝕄" => MT nD τ sig Ix Val Name U Lvl

/-- Separating over no index is nothing. -/
theorem over_none {I : Type} [Fintype I] [IsEmpty I] (Φ : I → sProp 𝕄) : bigSep Finset.univ Φ = (BI.emp : sProp 𝕄) := by
  rw [Finset.univ_eq_empty, bigSep_empty]

variable (pcs : P → PCfg sig Λ₀ Val) (a : (p : P) → (pcs p).Adm)
  (dats : (p : P) → (c : Dev nD) → Dat τ Val Ix Name U Lvl (pin pcs a p) c) (ι : Ix)
  (ER : Emb (URounds (GSem nD τ sig) Unit) (MT nD τ sig Ix Val Name U Lvl))
  (inj : Function.Injective (cellOf (nD := nD) (τ := τ) (pin pcs a))) (p : P)
  (defs₀ : Defs nD τ sig Val Λ₀) (𝒱₀ : Variants)

local notation "𝔻" => Pipeline.defs pcs defs₀
local notation "𝕍" => Variants.lift 𝒱₀

section Core

variable [IsEmpty (Fin (pin pcs a p).W)] [IsEmpty (Fin (pcs p).pre.K)] [Preorder Lvl]

/-- With no window the region's entry asks only for what the core owes. -/
theorem entry_of_owes (κ : GSem nD τ sig → Name) (c : Dev nD) (O : CellTallies nD τ sig Ix) (h : (dats p c).owed 0 = O) :
    (owes (c.tc : Thread nD τ) O ∅ : sProp 𝕄) ⊢ EntryPre (pin pcs a) dats ι ER κ p c := by
  unfold EntryPre PerCore.EntryPre PerCore.cellsWaits PerCore.cellsInit PerCore.RDat.cellsWaits PerCore.RDat.cellsInit PerCore.toksInit Dat.arrays Dat.owesAt owesWithin
  dsimp only
  simp only [over_none, h]
  iintro H
  isplitr; · iempintro
  isplitl [H]
  · iexists ∅; isplitr; · ipureintro; rw [Finset.coe_empty]; exact Set.empty_subset _
    iexact H
  isplitr; · iempintro
  isplitr <;> iempintro

/-- The region's exit returns what the core still owes: nothing. -/
theorem owes_of_exit (c : Dev nD) (h : (dats p c).owed (Fin.last _) = 0) :
    EntryPost (pin pcs a) dats ι p c ⊢ (iprop(∃ W, owes (c.tc : Thread nD τ) (0 : CellTallies nD τ sig Ix) W) : sProp 𝕄) := by
  unfold EntryPost PerCore.EntryPost Dat.owesAt owesWithin
  dsimp only
  rw [h]
  iintro ⟨-, ⟨%W, -, H⟩⟩
  iexists W; iexact H

theorem staging_none (c : Dev nD) : (Dat.staging (pin pcs a p) c : sProp 𝕄) = BI.emp := by
  unfold Dat.staging; rw [over_none]

theorem cells_none (c : Dev nD) : (cellsSems0 (pin pcs a) p c : sProp 𝕄) = BI.emp := by
  unfold cellsSems0 PerCore.cellsSems0; dsimp only; rw [over_none]

theorem held_none (q : Fin (pcs p).pre.K → PosShare TreeShare) (c : Dev nD) :
    (prefHeld (pcs p).pre c q (a p).1 : sProp 𝕄) = BI.emp := by
  unfold prefHeld; rw [over_none]

include ER inj in
/-- One core's run of the region alone, from its scoped buffers and whatever else was dealt to it. -/
theorem core_run [∀ e, Nonempty (Val e)] [Inhabited Name] (c : Dev nD)
    (hbody : BodyObligationLoose (dats p c) defs₀ 𝒱₀ ι Set.univ)
    (O : CellTallies nD τ sig Ix) (first : (dats p c).owed 0 = O) (last : (dats p c).owed (Fin.last _) = 0) (X Y : sProp 𝕄)
    (hin : iprop(X ∗ scopedBufs (c.tc : Thread nD τ)) ⊢ (dats p c).Φ 0)
    (hout : (dats p c).Φ (Fin.last _) ⊢ iprop(Y ∗ scopedSems0 (c.tc : Thread nD τ) ∗ scopedBufs (c.tc : Thread nD τ)))
    (fin : Dev nD → sProp 𝕄) (hfin : iprop(Y ∗ scopedSems0 (c.tc : Thread nD τ)) ⊢ fin c) :
    iprop(scopedBufs (c.tc : Thread nD τ) ∗ owes (c.tc : Thread nD τ) O ∅ ∗ X)
      ⊢ wp frame (wpE 𝔻 𝕍 (c.tc : Thread nD τ) none) Set.univ
          (.op (.customCall (entry p) ()) fun _ => .ret ⟨⟩ : Prog (TpuEff nD τ sig Val (Sig Λ₀ P fun p => (pcs p).Adm) .tc) PUnit)
          (fun _ => post (liftTc fin BI.emp) (c.tc : Thread nD τ)) := by
  iintro ⟨Hsc, HL, HX⟩
  iapply (wp_customCall_entry_frame pcs a dats ι ER (fun _ => default) inj p defs₀ 𝒱₀ (fun _ => fullShare) c Set.univ (fun _ _ => Set.mem_univ _)
      hbody (fun w => isEmptyElim w) none (fun u h => nomatch h) (X := X) (Y := Y) (R := scopedBufs (c.tc : Thread nD τ)) (I := BI.emp)
      (by rw [staging_none]; iintro H; isplitr; · iempintro
          iexact H)
      (by rw [held_none]; iintro ⟨HX, -, HR⟩; iapply hin; isplitl [HX] <;> iassumption)
      (by
        rw [staging_none, cells_none]
        iintro ⟨H, -, -, -⟩
        iapply hout; iexact H)
      (k := fun _ => .ret ⟨⟩) (Q := fun _ => post (liftTc fin BI.emp) (c.tc : Thread nD τ))) $$ [HL HX Hsc]
  · isplitl [HL]; · iapply (entry_of_owes pcs a dats ι ER p (fun _ => default) c O first); iexact HL
    isplitr; · rw [held_none]; iempintro
    isplitl [HX]; · iexact HX
    isplitr; · iempintro
    iexact Hsc
  iintro ⟨Hpost, HY, Hss, -⟩
  rw [wp_ret]; imodintro
  unfold post; simp only [liftTc_tc]
  isplitl [HY Hss]
  · iapply hfin; isplitl [HY] <;> iassumption
  · iapply (owes_of_exit pcs a dats ι p c last); iexact Hpost

include ER inj in
/-- Every execution of cores whose `@main` is one region without windows, from what is dealt to them at the launch:
    out of every core's scoped counters at zero, arrays and credit, and the ghost state, each core's `X`. -/
theorem run [∀ e, Nonempty (Val e)] [Infinite Name]
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hbody : ∀ c, BodyObligationLoose (dats p c) defs₀ 𝒱₀ ι Set.univ)
    (O₀ : Dev nD → CellTallies nD τ sig Ix) (first : ∀ c, (dats p c).owed 0 = O₀ c) (last : ∀ c, (dats p c).owed (Fin.last _) = 0)
    (u₀ : U) (X Y : Dev nD → sProp 𝕄)
    (deal : iprop(ownU u₀ ∗ bigSep Finset.univ fun c : Dev nD =>
        iprop(scopedSems0 (c.tc : Thread nD τ) ∗ unscopedBufs c (fun b => m ((c.tc : Thread nD τ).loc b)) ∗ launchCred O₀ c))
      ⊢ (|={Set.univ}=> bigSep Finset.univ X : sProp 𝕄))
    (hin : ∀ c, iprop(X c ∗ scopedBufs (c.tc : Thread nD τ)) ⊢ (dats p c).Φ 0)
    (hout : ∀ c, (dats p c).Φ (Fin.last _) ⊢ iprop(Y c ∗ scopedSems0 (c.tc : Thread nD τ) ∗ scopedBufs (c.tc : Thread nD τ)))
    (R : Dev nD → MemSt nD τ sig Val → Prop)
    (read : ∀ c (s' : Phys nD τ sig Val), iprop(Y c ∗ SI s') ⊢ |={Set.univ}=> iprop(⌜R c s'.mem⌝ ∗ SI s')) :
    θ_run 𝔻 (onTc main) ⟨m, fun _ => 0, g⟩ (fun r => (∀ c, R c r.2)
      ∧ ∀ g' : GSem nD τ sig, (g'.1.2 ≠ .tc ∨ g'.2.isScoped .tc = true) → r.2.sem g' = 0) := by
  classical
  haveI : Inhabited Name := Classical.inhabited_of_nonempty inferInstance
  let pre : Dev nD → sProp 𝕄 := fun c => iprop(scopedBufs (c.tc : Thread nD τ) ∗ owes (c.tc : Thread nD τ) (O₀ c) ∅ ∗ X c)
  let fin : Dev nD → sProp 𝕄 := fun c => iprop(Y c ∗ scopedSems0 (c.tc : Thread nD τ))
  -- a core's holdings at the launch: what it keeps, and what goes into the pool
  have core (c : Dev nD) :
      coreInit (Ix := Ix) (Name := Name) (U := U) (Lvl := Lvl) (owing O₀) 0 (⟨m, fun _ => 0, g⟩ : MemSt nD τ sig Val) (c.tc : Thread nD τ)
        ⊢ iprop((scopedBufs (c.tc : Thread nD τ) ∗ owes (c.tc : Thread nD τ) (O₀ c) ∅)
            ∗ scopedSems0 (c.tc : Thread nD τ) ∗ unscopedBufs c (fun b => m ((c.tc : Thread nD τ).loc b)) ∗ launchCred O₀ c) :=
    (coreInit_boundary_owing O₀ m g c).trans (by
      unfold boundary
      iintro ⟨⟨Hsc, Hss, -⟩, Hub, -, HL, -, -, Hcr⟩
      isplitl [Hsc HL]; · isplitl [Hsc] <;> iassumption
      isplitl [Hss]; · iexact Hss
      isplitl [Hub] <;> iassumption)
  have pool : (bigSep Finset.univ fun c : Dev nD =>
        coreInit (Ix := Ix) (Name := Name) (U := U) (Lvl := Lvl) (owing O₀) 0 (⟨m, fun _ => 0, g⟩ : MemSt nD τ sig Val) (c.tc : Thread nD τ))
      ⊢ iprop((bigSep Finset.univ fun c : Dev nD => iprop(scopedBufs (c.tc : Thread nD τ) ∗ owes (c.tc : Thread nD τ) (O₀ c) ∅))
          ∗ bigSep Finset.univ fun c : Dev nD =>
            iprop(scopedSems0 (c.tc : Thread nD τ) ∗ unscopedBufs c (fun b => m ((c.tc : Thread nD τ).loc b)) ∗ launchCred O₀ c)) :=
    (bigSep_mono fun c _ => core c).trans (Entails.of_eq (bigSep_sep' _ _ _))
  refine (θ_run 𝔻 _ _).mono (Q := fun r => (∀ c : Dev nD, R c r.2 ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sems_of_reads (fun c => (hr.1 c).2) hr.2⟩)
    (adequate_tpu 𝔻 _ _ _ (reflect_intro_fupd_tc_sems (X := Unit) 𝕍 (owing O₀) 0 (noBookings fun _ => le_rfl) (owing_of_ne O₀) u₀
      (fun _ => pre) (fun _ => fin) (fun _ => iprop(emp)) Set.univ ?_ (fun _ c => ?_) fun _ => ?_))
  · iintro ⟨Hc, Hu⟩
    ihave Hc' := pool $$ Hc
    icases Hc' with ⟨Hkept, Hpool⟩
    imod deal $$ [Hu Hpool] with HX
    · isplitl [Hu] <;> iassumption
    imodintro
    iexists ()
    isplitr []
    · simp only [pre, bigSep_sep']
      icases Hkept with ⟨Hsc, HL⟩
      isplitl [Hsc]; · iexact Hsc
      isplitl [HL] <;> iassumption
    · iempintro
  · simp only [pre]
    rw [hmain c]
    exact core_run pcs a dats ι ER inj p defs₀ 𝒱₀ c (hbody c) (O₀ c) (first c) (last c) (X c) (Y c) (hin c) (hout c) fin (BI.Entails.refl _)
  · have ends (c : Dev nD) (s' : Phys nD τ sig Val) : iprop(fin c ∗ SI s') ⊢ |={Set.univ}=>
        iprop(⌜R c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (read c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ ends s') $$ [H HSI] with %h
    · isplitl [H] <;> iassumption
    imodintro
    ipureintro
    exact ⟨fun c => h c (Finset.mem_univ c), hsc⟩

end Core

end Cert.Pooled
-- ==== Proof.Exchange.lean ====
/-
Copies between devices, each issued once: copy `j` of a device goes to device `to j`, which is a permutation of
the devices, and is waited for on two cells, the sender's and the receiver's. A cell has one duty, of round zero: on
the sender's it brings the source back, on the receiver's the destination written.
-/
module

public import proofs.«01_k».proof.Proof.Pooled

@[expose] public section

set_option Elab.async false

noncomputable section

namespace Cert.Exchange

open Idealize.ShloMosaic
open Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds

variable {nD : Nat} {τ : Topo} {sig : RefSig} {Val : EltTy → Type} {Λ : Labels} {J : Type} [Fintype J] [DecidableEq J]

local notation "𝕄" => MT nD τ sig Unit Val ℕ (UR sig nD τ) ℕ

abbrev ER : Emb (UR sig nD τ) 𝕄 := emb₁

/-- Copies: their cells (the sender's at `false`, the receiver's at `true`), where they go, what they count. -/
structure Copies (nD : Nat) (sig : RefSig) (J : Type) where
  sem : J × Bool → SemLoc sig
  inj : Function.Injective sem
  peer : J → Dev nD ≃ Dev nD
  units : J → ℕ
  pos : ∀ j, 0 < units j

namespace Copies

variable (C : Copies nD sig J)

abbrev cell (k : Dev nD × (J × Bool)) : GSem nD τ sig := ((k.1.tc : Thread nD τ), C.sem k.2)

theorem cell_inj : Function.Injective (C.cell (τ := τ)) := by
  rintro ⟨c, k⟩ ⟨c', k'⟩ h
  have h1 : c = c' := congrArg (fun g : GSem nD τ sig => g.1.1) h
  have h2 : k = k' := C.inj (congrArg Prod.snd h)
  rw [h1, h2]

variable (pay : Dev nD × (J × Bool) → sProp (MT nD τ sig Unit Val ℕ (UR sig nD τ) ℕ))

open Classical in
theorem amount_pos (g : GSem nD τ sig) : 0 < if h : ∃ k, C.cell k = g then C.units h.choose.2.1 else 1 := by
  split
  · exact C.pos _
  · exact Nat.one_pos

open Classical in
/-- One duty a cell, at round zero. -/
def sched : Schedule (GSem nD τ sig) Unit 𝕄 where
  duties g r := if r = 0 ∧ ∃ k, C.cell k = g then {()} else ∅
  unitless _ := False
  amount g _ _ := if h : ∃ k, C.cell k = g then C.units h.choose.2.1 else 1
  payload g _ _ := if h : ∃ k, C.cell k = g then pay h.choose else iprop(emp)
  amount_pos g _ _ _ := C.amount_pos g

theorem choose_cell (k : Dev nD × (J × Bool)) (h : ∃ k', C.cell k' = C.cell (τ := τ) k) : h.choose = k := C.cell_inj h.choose_spec

theorem duties_cell (k : Dev nD × (J × Bool)) : (C.sched pay).duties (C.cell k) 0 = {()} := if_pos ⟨rfl, k, rfl⟩
theorem duties_later (g : GSem nD τ sig) (r : ℕ) (h : 1 ≤ r) : (C.sched pay).duties g r = ∅ := if_neg fun h' => by omega
theorem amount_cell (k : Dev nD × (J × Bool)) (u : Unit) : (C.sched pay).amount (C.cell k) 0 u = C.units k.2.1 := by
  have h : ∃ k', C.cell k' = C.cell (τ := τ) k := ⟨k, rfl⟩
  show (if h : ∃ k', C.cell k' = C.cell k then C.units h.choose.2.1 else 1) = _
  rw [dif_pos h, C.choose_cell k h]
theorem payload_cell (k : Dev nD × (J × Bool)) (u : Unit) : (C.sched pay).payload (C.cell k) 0 u = pay k := by
  have h : ∃ k', C.cell k' = C.cell (τ := τ) k := ⟨k, rfl⟩
  show (if h : ∃ k', C.cell k' = C.cell k then pay h.choose else iprop(emp)) = _
  rw [dif_pos h, C.choose_cell k h]
theorem expect_cell (k : Dev nD × (J × Bool)) : (C.sched pay).expect (C.cell k) 0 = C.units k.2.1 := by
  unfold Schedule.expect Schedule.amountOf; rw [C.duties_cell, Finset.sum_singleton, C.amount_cell]
theorem rest_cell (k : Dev nD × (J × Bool)) :
    bigSep ((C.sched pay).duties (C.cell k) 0 \ ∅) (fun u => (C.sched pay).payload (C.cell k) 0 u) = pay k := by
  rw [Finset.sdiff_empty, C.duties_cell, bigSep_singleton, C.payload_cell]

/-- The payloads may lie in invariants. -/
class Pays : Prop where
  storable : ∀ k, BI.Storable (upEmb : UEmb _ 𝕄) (pay k)

instance sched_storable [h : Pays pay] (g : GSem nD τ sig) (r : ℕ) (d : Unit) :
    BI.Storable (upEmb : UEmb _ 𝕄) ((C.sched pay).payload g r d) := by
  show BI.Storable upEmb (if h : ∃ k, C.cell k = g then pay h.choose else iprop(emp))
  split
  · exact h.storable _
  · infer_instance

/-- What every device holds of every cell. -/
def records (K : Dev nD × (J × Bool) → ℕ) : sProp 𝕄 :=
  iprop((bigSep Finset.univ fun k => cellInv ER (C.sched pay) (K k) (C.cell k)) ∗ bigSep Finset.univ fun k => reached ER (C.cell k) 0)

instance records_persistent (K : Dev nD × (J × Bool) → ℕ) : BI.Persistent (C.records pay K) := by unfold records; infer_instance

theorem inv_of (K : Dev nD × (J × Bool) → ℕ) (k : Dev nD × (J × Bool)) : C.records pay K ⊢ cellInv ER (C.sched pay) (K k) (C.cell k) := by
  have h : (bigSep Finset.univ fun k => cellInv ER (C.sched pay) (K k) (C.cell k) : sProp 𝕄) ⊢ cellInv ER (C.sched pay) (K k) (C.cell k) :=
    bigSep_elim (Finset.mem_univ k)
  unfold records
  iintro ⟨H, -⟩
  iapply h; iexact H
theorem reached_of (K : Dev nD × (J × Bool) → ℕ) (k : Dev nD × (J × Bool)) : C.records pay K ⊢ reached ER (C.cell k) 0 := by
  have h : (bigSep Finset.univ fun k => reached ER (C.cell k) 0 : sProp 𝕄) ⊢ reached ER (C.cell k) 0 := bigSep_elim (Finset.mem_univ k)
  unfold records
  iintro ⟨-, H⟩
  iapply h; iexact H

/-- What a device owes while the copies of `s` are still to be issued. -/
def due (s : Finset J) (c : Dev nD) : CellTallies nD τ sig Unit := ∑ j ∈ s, tallyAt (C.cell (C.peer j c, (j, true))) () (C.units j)

/-- A device owing, whatever it has waited for. -/
def owing (c : Dev nD) (O : CellTallies nD τ sig Unit) : sProp 𝕄 := iprop(∃ W, owes (c.tc : Thread nD τ) O W)

/-- What a device holds of copy `j` before issuing it, and of the one it is to receive. -/
def ticket (c : Dev nD) (j : J) : sProp 𝕄 :=
  iprop(dutyTok ER (C.cell (c, (j, false))) 0 () ∗ dutyTok ER (C.cell (C.peer j c, (j, true))) 0 ()
    ∗ atPos ER (C.cell (c, (j, false))) 0 ∅ 0 ∗ atPos ER (C.cell (c, (j, true))) 0 ∅ 0
    ∗ cred (tallyAt (C.cell (c, (j, true))) () (C.units j)))

section Steps

variable [Pays pay]
variable {defs : Defs nD τ sig Val Λ} (𝒱 : Variants) (K : Dev nD × (J × Bool) → ℕ) (c : Dev nD)
variable {α : Type} {Q : α → sProp (MT nD τ sig Unit Val ℕ (UR sig nD τ) ℕ)} {k : PUnit → Prog (TpuEff nD τ sig Val Λ .tc) α}

/-- Copy `j` issued. -/
theorem start {j : J} {s : Finset J} (hj : j ∈ s) {sp sp' : Space} {sh : Shape} {e : EltTy} {n : Dev nD} (hn : n = C.peer j c)
    {src : Memref sig .tc sp sh e} {dst : Memref sig (Dev.tc n : Thread nD τ).2.kind sp' sh e} {hsc : dst.view.ref.isScScratch = false}
    {sS sem : SemLoc sig} (h1 : C.sem (j, false) = sS) (h2 : C.sem (j, true) = sem)
    {hsrc : src.view.WordExact} {hdst : dst.view.WordExact} {hsem : DmaTarget.Typed sp sem (.remote (Dev.tc n : Thread nD τ) dst sS hsc)}
    {fs : Buf Val (src.view.loc (c.tc : Thread nD τ))} {fd : Buf Val (dst.view.loc (n.tc : Thread nD τ))}
    (hN : dst.view.amount sem = C.units j)
    (back : (src.view.loc (c.tc : Thread nD τ) ↦[src.view.set]{fullShare} fs) ⊢ pay (c, (j, false)))
    (land : (dst.view.loc (n.tc : Thread nD τ) ↦[dst.view.set]{fullShare} (dst.view.write Val fd (src.view.read Val fs) Finset.univ))
      ⊢ pay (C.peer j c, (j, true))) (hr : τ.routes (c.tc : Thread nD τ) (n.tc : Thread nD τ) = true := by routes) :
    iprop(C.records pay K ∗ (src.view.loc (c.tc : Thread nD τ) ↦[src.view.set]{fullShare} fs)
        ∗ (dst.view.loc (n.tc : Thread nD τ) ↦[dst.view.set]{fullShare} fd) ∗ owing c (C.due s c)
        ∗ dutyTok ER (C.cell (c, (j, false))) 0 () ∗ dutyTok ER (C.cell (C.peer j c, (j, true))) 0 ())
      ⊢ iprop(((cred (tallyAt (C.cell (c, (j, false))) () (C.units j)) ∗ owing c (C.due (s.erase j) c))
            -∗ wp frame (wpE defs 𝒱 (c.tc : Thread nD τ) none) Set.univ (k ⟨⟩) Q)
          -∗ wp frame (wpE defs 𝒱 (c.tc : Thread nD τ) none) Set.univ
              (.op (.enqueueDma src (.remote (Dev.tc n : Thread nD τ) dst sS hsc) sem hsrc hdst hsem) k) Q) := by
  subst hn h1 h2
  unfold owing
  iintro ⟨#HR, Hs, Hd, ⟨%W, HO⟩, Ht1, Ht2⟩ Hk
  iapply (Rounds.wp_send_pointsTo 𝒱 ER (C.sched pay) (c.tc : Thread nD τ) none (κ₁ := K (c, (j, false))) (κ₂ := K (C.peer j c, (j, true)))
    (r₁ := 0) (r₂ := 0) (d₁ := ()) (d₂ := ()) (fs := fs) (fd := fd)
    (by rw [C.duties_cell pay (c, (j, false))]; exact Finset.mem_singleton_self _)
    (by rw [C.duties_cell pay (C.peer j c, (j, true))]; exact Finset.mem_singleton_self _)
    () () (C.units j) hN (C.amount_cell pay (c, (j, false)) ()) (C.amount_cell pay (C.peer j c, (j, true)) ()) (C.due (s.erase j) c)
    (by unfold due; exact (Finset.sum_erase_add s _ hj).symm) (W := W)
    (by rw [C.payload_cell pay (c, (j, false))]; exact back)
    (by rw [C.payload_cell pay (C.peer j c, (j, true))]; exact land) hr) $$ [Hs Hd HO Ht1 Ht2]
  · isplitr; · iapply (C.inv_of pay K (c, (j, false))); iexact HR
    isplitr; · iapply (C.inv_of pay K (C.peer j c, (j, true))); iexact HR
    isplitl [Hs]; · iexact Hs
    isplitl [Hd]; · iexact Hd
    isplitl [HO]; · iexact HO
    isplitl [Ht1]; · iexact Ht1
    isplitr; · iapply (C.reached_of pay K (c, (j, false))); iexact HR
    isplitl [Ht2]; · iexact Ht2
    iapply (C.reached_of pay K (C.peer j c, (j, true))); iexact HR
  iintro ⟨Hc, HO⟩
  iapply Hk
  isplitl [Hc]; · iexact Hc
  iexists W; iexact HO

/-- A cell of the device waited for: its payload comes, and its counter is done with. -/
theorem wait (b : J × Bool) {w : TpuEff nD τ sig Val Λ .tc PUnit}
    (hw : ∀ K' : PUnit → sProp 𝕄, wpE defs 𝒱 (c.tc : Thread nD τ) none Set.univ w K' = waitSpec (c.tc : Thread nD τ) Set.univ (C.sem b) (C.units b.1) K') :
    iprop(C.records pay K ∗ cred (tallyAt (C.cell (c, b)) () (C.units b.1)) ∗ owing c 0 ∗ atPos ER (C.cell (c, b)) 0 ∅ 0)
      ⊢ iprop(((owing c 0 ∗ pay (c, b) ∗ semVal (C.cell (τ := τ) (c, b)) 0) -∗ wp frame (wpE defs 𝒱 (c.tc : Thread nD τ) none) Set.univ (k ⟨⟩) Q)
          -∗ wp frame (wpE defs 𝒱 (c.tc : Thread nD τ) none) Set.univ (.op w k) Q) := by
  unfold owing
  iintro ⟨#HR, Hc, ⟨%W, HO⟩, Hat⟩ Hk
  iapply (Rounds.wp_wait_rest_token 𝒱 ER (C.sched pay) (c.tc : Thread nD τ) none (κ := K (c, b)) hw (Set.mem_univ _) () (O := 0) (W := W)
      (R := 0) (m := 0) (T := ∅) (by rw [Nat.zero_add]; exact (C.expect_cell pay (c, b)).symm)) $$ [Hc HO Hat]
  · isplitr; · iapply (C.inv_of pay K (c, b)); iexact HR
    isplitl [Hc]; · iexact Hc
    isplitl [HO]; · iexact HO
    isplitr; · rw [MayWait_zero]; iempintro
    iexact Hat
  iintro ⟨HO, Hat, -, Hpay⟩
  ihave Hp := (Entails.of_eq (C.rest_cell pay (c, b))) $$ Hpay
  imod (Rounds.cell_close ER (C.sched pay) (Set.mem_univ (K (c, b))) (fun h => h) (R := 0 + 1) (C.duties_later pay (C.cell (c, b)))) $$ [Hat] with Hz
  · isplitr; · iapply (C.inv_of pay K (c, b)); iexact HR
    iexact Hat
  iapply Hk
  isplitl [HO]; · iexists _; iexact HO
  isplitl [Hp] <;> iassumption

end Steps

/-! ### Before the copies -/

theorem by_cell (Φ : Dev nD × (J × Bool) → sProp 𝕄) :
    bigSep Finset.univ Φ = bigSep Finset.univ fun c => bigSep Finset.univ fun j => iprop(Φ (c, (j, false)) ∗ Φ (c, (j, true))) := by
  rw [bigSep_univ_prod]
  refine bigSep_congr fun c _ => ?_
  rw [bigSep_univ_prod]
  exact bigSep_congr fun j _ => bigSep_univ_eq_bigSepL [false, true] (by decide) (by decide) fun b => Φ (c, (j, b))

/-- Every copy goes to one device: what is said of the receiver may be given to the sender. -/
theorem at_peer (Φ : Dev nD → J → sProp 𝕄) :
    (bigSep Finset.univ fun c => bigSep Finset.univ fun j => Φ c j) = bigSep Finset.univ fun c => bigSep Finset.univ fun j => Φ (C.peer j c) j := by
  let e : Dev nD × J ≃ Dev nD × J :=
    ⟨fun p => (C.peer p.2 p.1, p.2), fun p => ((C.peer p.2).symm p.1, p.2), fun p => by simp, fun p => by simp⟩
  rw [← bigSep_univ_prod fun p : Dev nD × J => Φ p.1 p.2, ← bigSep_univ_prod fun p : Dev nD × J => Φ (C.peer p.2 p.1) p.2,
    bigSep_univ_equiv e fun p : Dev nD × J => Φ p.1 p.2]
  rfl

theorem creds (c : Dev nD) : (Pipeline.launchCred (C.due (τ := τ) Finset.univ) c : sProp 𝕄)
    ⊢ bigSep Finset.univ fun j => cred (tallyAt (C.cell (c, (j, true))) () (C.units j)) := by
  have h : C.due (τ := τ) Finset.univ = fun d => ∑ j ∈ (Finset.univ : Finset J), tallyAt (C.cell (C.peer j d, (j, true))) () (C.units j) := rfl
  rw [h, Pipeline.launchCred_sum]
  exact bigSep_mono fun j _ => Pipeline.launchCred_tallyAt (C.sem (j, true)) (C.peer j) (C.peer j).symm
    (fun c => (C.peer j).apply_symm_apply c) (fun d => (C.peer j).symm_apply_apply d) () (C.units j) c

abbrev tok (k : Dev nD × (J × Bool)) : GSem nD τ sig × ℕ × Unit := (C.cell k, 0, ())
theorem tok_inj : Function.Injective (C.tok (τ := τ)) := fun _ _ h => C.cell_inj (congrArg Prod.fst h)

/-- The ghost state of the cells before any copy. -/
def u₀ : UR sig nD τ := initOf (Finset.univ.map ⟨C.cell, C.cell_inj⟩) (Finset.univ.map ⟨C.tok, C.tok_inj⟩)

/-- The cells' ghost state, by cell. -/
theorem fund : (ownU (C.u₀ (τ := τ)) : sProp 𝕄) ⊢ |==> iprop((bigSep Finset.univ fun k => roundState ER (C.sched pay) (C.cell k) 0)
    ∗ (bigSep Finset.univ fun k => reached ER (C.cell k) 0) ∗ (bigSep Finset.univ fun k => atPos ER (C.cell k) 0 ∅ 0)
    ∗ bigSep Finset.univ fun k => dutyTok ER (C.cell k) 0 ()) := by
  have h := Rounds.fund ER (C.sched pay) (Finset.univ.map ⟨C.cell (τ := τ), C.cell_inj⟩) (Finset.univ.map ⟨C.tok, C.tok_inj⟩)
  rw [bigSep_map, bigSep_map, bigSep_map, bigSep_map] at h
  exact h

/-- The cells' invariants, from their counters at zero. -/
theorem alloc [Pays pay] : iprop((bigSep Finset.univ fun k => semVal (C.cell k) 0) ∗ bigSep Finset.univ fun k => roundState ER (C.sched pay) (C.cell k) 0)
    ⊢ (|={Set.univ}=> iprop(∃ K : Dev nD × (J × Bool) → ℕ, bigSep Finset.univ fun k => cellInv ER (C.sched pay) (K k) (C.cell k)) : sProp 𝕄) := by
  rw [← bigSep_sep']
  exact ((bigSep_mono fun k _ => (Rounds.body_intro ER (C.sched pay) (C.cell k)).trans inv_alloc).trans (bigSep_fupd _ _)).trans
    (BI.fupd_mono (BI.bigSep_exists_pi Finset.univ fun (k : Dev nD × (J × Bool)) (κ : ℕ) => cellInv ER (C.sched pay) κ (C.cell k)))

/-- A device's scoped counters, when they are the cells. -/
theorem scoped_eq (hsc : (Finset.univ.filter fun sm : SemLoc sig => sm.isScoped .tc) = Finset.univ.map ⟨C.sem, C.inj⟩) (c : Dev nD) :
    (scopedSems0 (c.tc : Thread nD τ) : sProp 𝕄)
      = bigSep Finset.univ fun j => iprop(semVal (C.cell (τ := τ) (c, (j, false))) 0 ∗ semVal (C.cell (τ := τ) (c, (j, true))) 0) := by
  rw [show (scopedSems0 (c.tc : Thread nD τ) : sProp 𝕄) = _ from scopedSems0_tc c, hsc, bigSep_map, bigSep_univ_prod]
  exact bigSep_congr fun j _ => bigSep_univ_eq_bigSepL [false, true] (by decide) (by decide) fun b => semVal (C.cell (τ := τ) (c, (j, b))) 0

/-- What each device starts from: the cells' records, its tickets and what else is dealt to it. -/
def begun (A : Dev nD → sProp 𝕄) (c : Dev nD) : sProp 𝕄 :=
  iprop(∃ K, C.records pay K ∗ (bigSep Finset.univ fun j => C.ticket c j) ∗ A c)

theorem begun_intro (A : Dev nD → sProp 𝕄) (K : Dev nD × (J × Bool) → ℕ) (c : Dev nD) :
    iprop(C.records pay K ∗ (bigSep Finset.univ fun j => C.ticket c j) ∗ A c) ⊢ C.begun pay A c := by
  unfold begun
  iintro H
  iexists K
  iexact H

theorem deal [Pays pay] (hsc : (Finset.univ.filter fun sm : SemLoc sig => sm.isScoped .tc) = Finset.univ.map ⟨C.sem, C.inj⟩)
    (B A : Dev nD → sProp 𝕄) (hA : bigSep Finset.univ B ⊢ bigSep Finset.univ A) :
    iprop(ownU (C.u₀ (τ := τ)) ∗ bigSep Finset.univ fun c : Dev nD =>
        iprop(scopedSems0 (c.tc : Thread nD τ) ∗ B c ∗ Pipeline.launchCred (C.due (τ := τ) Finset.univ) c))
      ⊢ (|={Set.univ}=> bigSep Finset.univ (C.begun pay A) : sProp 𝕄) := by
  have hs : (bigSep Finset.univ fun c : Dev nD => (scopedSems0 (c.tc : Thread nD τ) : sProp 𝕄)) = bigSep Finset.univ fun k => semVal (C.cell k) 0 := by
    rw [by_cell]
    exact bigSep_congr fun c _ => C.scoped_eq hsc c
  have hc : (bigSep Finset.univ fun c : Dev nD => (Pipeline.launchCred (C.due (τ := τ) Finset.univ) c : sProp 𝕄))
      ⊢ bigSep Finset.univ fun c => bigSep Finset.univ fun j => cred (tallyAt (C.cell (c, (j, true))) () (C.units j)) :=
    bigSep_mono fun c _ => C.creds c
  have ht : iprop((bigSep Finset.univ fun k => dutyTok ER (C.cell (τ := τ) k) 0 ()) ∗ (bigSep Finset.univ fun k => atPos ER (C.cell (τ := τ) k) 0 ∅ 0)
        ∗ bigSep Finset.univ fun c => bigSep Finset.univ fun j => cred (tallyAt (C.cell (c, (j, true))) () (C.units j)))
      ⊢ (bigSep Finset.univ fun c => bigSep Finset.univ fun j => C.ticket c j : sProp 𝕄) := by
    rw [by_cell fun k => dutyTok ER (C.cell k) 0 (), by_cell fun k => atPos ER (C.cell k) 0 ∅ 0]
    unfold ticket
    simp only [bigSep_sep']
    rw [C.at_peer fun c j => dutyTok ER (C.cell (c, (j, true))) 0 ()]
    iintro ⟨⟨H1, H2⟩, ⟨H3, H4⟩, H5⟩
    isplitl [H1]; · iexact H1
    isplitl [H2]; · iexact H2
    isplitl [H3]; · iexact H3
    isplitl [H4] <;> iassumption
  have hall (K : Dev nD × (J × Bool) → ℕ) : iprop(C.records pay K ∗ bigSep Finset.univ fun c => iprop((bigSep Finset.univ fun j => C.ticket c j) ∗ A c))
      ⊢ bigSep Finset.univ (C.begun pay A) :=
    (sep_mono_left (BI.bigSep_of_persistent Finset.univ (C.records pay K))).trans (by
      rw [← bigSep_sep']
      exact bigSep_mono fun c _ => C.begun_intro pay A K c)
  rw [bigSep_sep', bigSep_sep', hs]
  iintro ⟨Hu, Hv, HB, Hc⟩
  imod (C.fund pay) $$ Hu with ⟨Hst, Hr, Hat, Htok⟩
  imod (C.alloc pay) $$ [Hv Hst] with ⟨%K, HI⟩
  · isplitl [Hv] <;> iassumption
  ihave Hc' := hc $$ Hc
  ihave HA := hA $$ HB
  ihave Ht := ht $$ [Htok Hat Hc']
  · isplitl [Htok]; · iexact Htok
    isplitl [Hat] <;> iassumption
  imodintro
  iapply (hall K)
  isplitl [HI Hr]
  · unfold records; isplitl [HI] <;> iassumption
  rw [bigSep_sep']
  isplitl [Ht] <;> iassumption

end Copies

end Cert.Exchange
-- ==== Proof.Swap.lean ====
/-
The swap of halves between the two devices of a pair, on the 2 × 2 × 2 mesh: each device sends the half of its rows that
its peer keeps, and receives of the peer's the half it keeps itself. One copy a device (`Exchange.Copies`).
-/
module

public import proofs.«01_k».proof.Proof.Exchange
public import proofs.«01_k».proof.Proof.Gen.Kernel25Ideal
public import proofs.«01_k».proof.Proof.Gen.Kernel25Ideal.Skeleton
public import proofs.«01_k».proof.Proof.Gen.Kernel25Ideal.Launch

@[expose] public section

set_option Elab.async false

noncomputable section

namespace Cert.Swap

open Cert.Kernel25Ideal Cert.Kernel25Ideal.Gen
open Idealize.ShloMosaic
open Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat BodyObligationLoose)
open Cert.Exchange

variable {F : FTy → Type} [FloatOps F]

local notation "𝕄" => MT nD τ sig Unit (Elt F) ℕ (UR sig nD τ) ℕ

variable (m : (ℓ : Loc nD τ sig) → Buf (Elt F) ℓ) (g : Dev nD → PrngReg)

/-! ## The copy -/

/-- The other device of the pair. -/
def flip : Dev nD ≃ Dev nD :=
  ⟨fun c => ⟨k0_dev1 c, k0_dev1_lt c⟩, fun c => ⟨k0_dev1 c, k0_dev1_lt c⟩, by decide +kernel, by decide +kernel⟩

theorem dev_eq (c : Dev nD) : (⟨k0_dev1 c, k0_dev1_lt c⟩ : Dev nD) = flip c := rfl
theorem flip_flip (c : Dev nD) : flip (flip c) = c := flip.left_inv c

abbrev arr : Memref sig .tc .hbm S4x15392x1024 .f32 := Memref.whole main_arg0
abbrev out : Memref sig .tc .hbm S4x7696x1024 .f32 := Memref.whole main_v1
/-- The half of a device's rows that it sends. -/
abbrev half (c : Dev nD) : Memref sig .tc .hbm S4x7696x1024 .f32 :=
  arr.slice (Rect.unit (s := S4x15392x1024) (k0_off1 c) S4x7696x1024.size (k0_off1_inb c)) (fun _ => rfl)

def copies : Copies nD sig Unit where
  sem k := bif k.2 then .dma cc0_scratch1.sem else .dma cc0_scratch0.sem
  inj := by decide
  peer _ := flip
  units _ := out.view.dmaCredit
  pos _ := View.dmaCredit_pos _ (by decide)

abbrev sendC (c : Dev nD) : GSem nD τ sig := copies.cell (c, ((), false))
abbrev recvC (c : Dev nD) : GSem nD τ sig := copies.cell (c, ((), true))

theorem send_eq : copies.sem ((), false) = .dma cc0_scratch0.sem := rfl
theorem recv_eq : copies.sem ((), true) = .dma cc0_scratch1.sem := rfl
theorem half_units (c : Dev nD) : (half c).view.dmaCredit = copies.units () := rfl
theorem units_eq : out.view.amount (.dma cc0_scratch1.sem) = copies.units () := rfl

/-- What a device receives: the half its peer sends. -/
def got (c : Dev nD) : Buf (Elt F) ((c.tc : Thread nD τ).loc main_v1) :=
  (half (flip c)).view.read (Elt F) (m (((flip c).tc : Thread nD τ).loc main_arg0))

abbrev halfPts (c : Dev nD) : sProp 𝕄 :=
  (half c).view.loc (c.tc : Thread nD τ) ↦[(half c).view.set]{fullShare} m ((c.tc : Thread nD τ).loc main_arg0)
abbrev restPts (c : Dev nD) : sProp 𝕄 :=
  (half c).view.loc (c.tc : Thread nD τ) ↦[Finset.univ \ (half c).view.set]{fullShare} m ((c.tc : Thread nD τ).loc main_arg0)
abbrev argPts (c : Dev nD) : sProp 𝕄 := (((c.tc : Thread nD τ).loc main_arg0) ↦{fullShare} m ((c.tc : Thread nD τ).loc main_arg0))
abbrev outPts (c : Dev nD) (f : Buf (Elt F) ((c.tc : Thread nD τ).loc main_v1)) : sProp 𝕄 :=
  out.view.loc (c.tc : Thread nD τ) ↦[out.view.set]{fullShare} f

theorem outPts_eq (c : Dev nD) (f : Buf (Elt F) ((c.tc : Thread nD τ).loc main_v1)) :
    (outPts c f : sProp 𝕄) = (((c.tc : Thread nD τ).loc main_v1) ↦{fullShare} f) := by
  show (out.view.loc (c.tc : Thread nD τ) ↦[out.view.set]{fullShare} f : sProp 𝕄) = _
  rw [show out.view.set = Finset.univ from View.set_whole _]

theorem argPts_split (c : Dev nD) : argPts m c ⊣⊢ iprop(halfPts m c ∗ restPts m c) := pointsTo_split_subset (Finset.subset_univ _)

/-- What a cell's duty brings: the sender its half back, the receiver its result. -/
def pay (k : Dev nD × (Unit × Bool)) : sProp 𝕄 := bif k.2.2 then outPts k.1 (got m k.1) else halfPts m k.1

theorem pay_send (c : Dev nD) : pay m (c, ((), false)) = halfPts m c := rfl
theorem pay_recv (c : Dev nD) : pay m (c, ((), true)) = outPts c (got m c) := rfl

theorem got_flip (c : Dev nD) : got m (flip c) = (half c).view.read (Elt F) (m ((c.tc : Thread nD τ).loc main_arg0)) := by
  unfold got; rw [flip_flip]

/-- What the copy writes is what the peer is to receive. -/
theorem lands (c : Dev nD) (fd : Buf (Elt F) (((flip c).tc : Thread nD τ).loc main_v1)) :
    outPts (flip c) (out.view.write (Elt F) fd ((half c).view.read (Elt F) (m ((c.tc : Thread nD τ).loc main_arg0))) Finset.univ)
      ⊢ pay m (copies.peer () c, ((), true)) :=
  Entails.of_eq ((congrArg (outPts (flip c)) ((View.write_whole_univ _ _ _).trans (got_flip m c).symm)).trans (pay_recv m (flip c)).symm)

instance : Copies.Pays (pay m) where
  storable := fun ⟨c, (), b⟩ => by
    cases b
    · show BI.Storable upEmb (halfPts m c); infer_instance
    · show BI.Storable upEmb (outPts c (got m c)); infer_instance

/-! ## The body -/

/-- What a device starts with besides its cells': its rows and its peer's result array. -/
def dealt (c : Dev nD) : sProp 𝕄 := iprop(argPts m c ∗ outPts (flip c) (m (((flip c).tc : Thread nD τ).loc main_v1)))

def Φ₀ (c : Dev nD) : sProp 𝕄 := iprop(copies.begun (pay m) (dealt m) c ∗ scopedBufs (c.tc : Thread nD τ))
def kept (c : Dev nD) : sProp 𝕄 := iprop(argPts m c ∗ outPts c (got m c))
def Φ₁ (c : Dev nD) : sProp 𝕄 :=
  iprop(kept m c ∗ (semVal (sendC c) 0 ∗ semVal (recvC c) 0) ∗ scopedBufs (c.tc : Thread nD τ))

abbrev adm : (p : Fin 1) → (pcfgs (F := F) p).Adm := fun p => (cfgs p).toPCfg_adm

def dats (p : Fin 1) (c : Dev nD) : Dat τ (Elt F) Unit ℕ (UR sig nD τ) ℕ (Pipeline.pin (pcfgs (F := F)) adm p) c where
  A w := w.elim0
  after w := w.elim0
  Φ t := match t with
    | ⟨0, _⟩ => Φ₀ m c
    | ⟨_ + 1, _⟩ => Φ₁ m c
  q w := w.elim0
  owed t := match t with
    | ⟨0, _⟩ => copies.due Finset.univ c
    | ⟨_ + 1, _⟩ => 0

abbrev 𝒱₀ : Variants := Variants.none

theorem wait_send (c : Dev nD) (hs : out.view.WordExact) (hd : (half c).view.WordExact) (K : PUnit → sProp 𝕄) :
    wpE (defs₀ (F := F)) 𝒱₀ (c.tc : Thread nD τ) none Set.univ (.waitDma2 cc0_scratch0.sem out (half c) hs hd) K
      = waitSpec (c.tc : Thread nD τ) Set.univ (copies.sem ((), false)) (copies.units ()) K :=
  (wpE_waitDma2_eq 𝒱₀ (c.tc : Thread nD τ) none Set.univ K).trans (by rw [half_units, send_eq])
theorem wait_recv (c : Dev nD) (hs : (half c).view.WordExact) (hd : out.view.WordExact) (K : PUnit → sProp 𝕄) :
    wpE (defs₀ (F := F)) 𝒱₀ (c.tc : Thread nD τ) none Set.univ (.waitDma2 cc0_scratch1.sem (half c) out hs hd) K
      = waitSpec (c.tc : Thread nD τ) Set.univ (copies.sem ((), true)) (copies.units ()) K :=
  (wpE_waitDma2_eq 𝒱₀ (c.tc : Thread nD τ) none Set.univ K).trans (by rw [recv_eq, ← units_eq])

theorem body (c : Dev nD) (Q : PUnit → sProp 𝕄) :
    iprop(Φ₀ m c ∗ Copies.owing c (copies.due Finset.univ c) ∗ ((Φ₁ m c ∗ Copies.owing c 0) -∗ Q ⟨⟩))
      ⊢ wp frame (wpE (defs₀ (F := F)) 𝒱₀ (c.tc : Thread nD τ) none) Set.univ
          (cc0_swap_pair_halves arr (Memref.isWhole_whole _) out (Memref.isWhole_whole _) cc0_scratch0 cc0_scratch1) Q := by
  simp only [cc0_swap_pair_halves_eq_skeleton]; unfold cc0_swap_pair_halves_skel
  simp only [Prog.lift, Prog.bind_op, Prog.bind_ret, Prog.pure_eq_ret, wp_deviceId, dev_eq]
  have one : (bigSep Finset.univ fun j => copies.ticket c j : sProp 𝕄) = copies.ticket c () := by
    rw [Finset.univ_unique, bigSep_singleton]
  have paid : copies.due ((Finset.univ : Finset Unit).erase ()) c = (0 : CellTallies nD τ sig Unit) := by
    unfold Copies.due; rw [Finset.univ_unique]; exact Finset.sum_empty
  unfold Φ₀ Copies.begun dealt
  rw [one]
  unfold Copies.ticket
  iintro ⟨⟨⟨%K, #HR, ⟨Ht1, Ht2, Ha1, Ha2, Hc⟩, Harg, Hout⟩, Hsc⟩, HO, HQ⟩
  ihave Hs := (argPts_split m c).1 $$ Harg
  icases Hs with ⟨Hhalf, Hrest⟩
  iapply (copies.start (pay m) 𝒱₀ K c (Finset.mem_univ ()) (n := flip c) rfl (src := half c) (dst := out) send_eq recv_eq (fs := m ((c.tc : Thread nD τ).loc main_arg0))
      (fd := m (((flip c).tc : Thread nD τ).loc main_v1)) units_eq (Entails.of_eq (pay_send m c).symm) (lands m c _)) $$ [Hhalf Hout HO Ht1 Ht2]
  · isplitr; · iexact HR
    isplitl [Hhalf]; · iexact Hhalf
    isplitl [Hout]; · iexact Hout
    isplitl [HO]; · iexact HO
    isplitl [Ht1] <;> iassumption
  rw [paid]
  iintro ⟨Hcs, HO⟩
  iapply (copies.wait (pay m) 𝒱₀ K c ((), false) (wait_send c _ _)) $$ [Hcs HO Ha1]
  · isplitr; · iexact HR
    isplitl [Hcs]; · iexact Hcs
    isplitl [HO] <;> iassumption
  iintro ⟨HO, Hback, Hz1⟩
  iapply (copies.wait (pay m) 𝒱₀ K c ((), true) (wait_recv c _ _)) $$ [Hc HO Ha2]
  · isplitr; · iexact HR
    isplitl [Hc]; · iexact Hc
    isplitl [HO] <;> iassumption
  iintro ⟨HO, Hland, Hz2⟩
  rw [wp_ret]; imodintro
  ihave Hback := (Entails.of_eq (pay_send m c)) $$ Hback
  ihave Hland := (Entails.of_eq (pay_recv m c)) $$ Hland
  iapply HQ
  isplitr [HO]
  · unfold Φ₁ kept
    isplitl [Hback Hrest Hland]
    · isplitl [Hback Hrest]
      · iapply (argPts_split m c).2
        isplitl [Hback]; · iexact Hback
        iexact Hrest
      iexact Hland
    isplitl [Hz1 Hz2]
    · isplitl [Hz1] <;> iassumption
    iexact Hsc
  iexact HO

theorem body_obligation (c : Dev nD) : BodyObligationLoose (dats m 0 c) (defs₀ (F := F)) 𝒱₀ () Set.univ := fun t => by
  rw [fin_N0 t, Cert.Pooled.over_none, Cert.Pooled.over_none]
  unfold Dat.owesAt Pipeline.owesWithin
  rw [show (dats m 0 c).owed (Fin.castSucc t0_0) = copies.due Finset.univ c from rfl, show (dats m 0 c).owed (Fin.succ t0_0) = 0 from rfl,
    show (dats m 0 c).Φ (Fin.castSucc t0_0) = Φ₀ m c from rfl, show (dats m 0 c).Φ (Fin.succ t0_0) = Φ₁ m c from rfl]
  iintro ⟨HΦ, ⟨%W, -, HO⟩, -⟩
  iapply (body m c)
  isplitl [HΦ]; · iexact HΦ
  isplitl [HO]; · unfold Copies.owing; iexists W; iexact HO
  unfold Copies.owing
  iintro ⟨HΦ, ⟨%W', HO⟩⟩
  isplitl [HΦ]; · iexact HΦ
  isplitl [HO]
  · iexists W'; isplitr; · ipureintro; exact fun _ _ => Or.inl trivial
    iexact HO
  iempintro

/-! ## The run -/

theorem scoped_cells : (Finset.univ.filter fun sm : SemLoc sig => sm.isScoped .tc) = Finset.univ.map ⟨copies.sem, copies.inj⟩ := by decide

/-- A device's arrays: its rows and its result. -/
theorem arrays (c : Dev nD) (V : (b : Ref sig .tc) → Buf (Elt F) ((c.tc : Thread nD τ).loc b)) : (unscopedBufs c V : sProp 𝕄)
    = iprop((((c.tc : Thread nD τ).loc main_arg0) ↦{fullShare} V main_arg0) ∗ outPts c (V main_v1)) := by
  unfold unscopedBufs
  rw [outPts_eq]
  exact bigSep_eq_bigSepL_of_eq [main_arg0, main_v1] (by decide) (by decide) _

/-- From any memory with zero counters, every execution ends: each device's argument unchanged, its result the half
    its peer sent. -/
theorem run : θ_run (defs (F := F)) (onTc (main (F := F))) ⟨m, fun _ => 0, g⟩ (fun r =>
    (∀ c : Dev nD, r.2.mem ((c.tc : Thread nD τ).loc main_v1) = got m c
      ∧ r.2.mem ((c.tc : Thread nD τ).loc main_arg0) = m ((c.tc : Thread nD τ).loc main_arg0))
    ∧ r.2.sem = fun _ => 0) := by
  haveI : IsEmpty (Fin (Pipeline.pin (pcfgs (F := F)) adm 0).W) := inferInstanceAs (IsEmpty (Fin 0))
  haveI : IsEmpty (Fin (pcfgs (F := F) 0).pre.K) := inferInstanceAs (IsEmpty (Fin 0))
  refine (θ_run _ _ _).mono (fun r h => ⟨h.1, sem_eq_zero_of_scoped (by decide) h.2⟩)
    (Cert.Pooled.run (pcfgs (F := F)) adm (dats m) () ER cellOf_inj 0 defs₀ 𝒱₀ m g main (fun c => rfl) (body_obligation m)
      (copies.due Finset.univ) (fun c => rfl) (fun c => rfl) copies.u₀
      (copies.begun (pay m) (dealt m)) (kept m) ?_ ?_ ?_ (fun c s => s.mem ((c.tc : Thread nD τ).loc main_v1) = got m c
        ∧ s.mem ((c.tc : Thread nD τ).loc main_arg0) = m ((c.tc : Thread nD τ).loc main_arg0)) ?_)
  · refine copies.deal (pay m) scoped_cells _ (dealt m) ?_
    rw [bigSep_congr fun c _ => arrays c fun b => m ((c.tc : Thread nD τ).loc b), bigSep_sep',
      bigSep_univ_equiv flip fun c => outPts c (m ((c.tc : Thread nD τ).loc main_v1)), ← bigSep_sep']
    exact Entails.refl _
  · intro c
    rw [show (dats m 0 c).Φ 0 = Φ₀ m c from rfl]
    unfold Φ₀; exact Entails.refl _
  · intro c
    rw [show (dats m 0 c).Φ (Fin.last _) = Φ₁ m c from rfl, copies.scoped_eq scoped_cells c, Finset.univ_unique, bigSep_singleton]
    exact Entails.refl _
  · intro c s'
    unfold kept
    rw [outPts_eq]
    iintro ⟨⟨Ha, Ho⟩, HSI⟩
    ihave %h1 := SI_pointsTo_agree $$ [HSI Ha]
    · isplitl [HSI] <;> iassumption
    ihave %h2 := SI_pointsTo_agree $$ [HSI Ho]
    · isplitl [HSI] <;> iassumption
    imodintro
    isplitr
    · ipureintro; exact ⟨funext fun i => h2 i (Finset.mem_univ i), funext fun i => h1 i (Finset.mem_univ i)⟩
    iexact HSI

end Cert.Swap

end
-- ==== Proof.SwapVal.lean ====
/-
The swap's result and the reference's: what a device receives is its block of the reference's exchange of halves.
-/
module

public import proofs.«01_k».proof.Proof.Swap
public import proofs.«01_k».proof.Proof.Gen.Reference25Ideal.Run
public import Idealize.ShloMosaic.Lib.Pointwise.Tactic
public import Idealize.ShloMosaic.Lib.KernelVsHost

@[expose] public section

set_option Elab.async false

noncomputable section

namespace Cert.Swap

open Idealize.ShloMosaic
open Idealize.ShloMosaic.TcCoe
open Idealize.SL.Sem
open Cert.Reference25Ideal Cert.Reference25Ideal.Gen

variable {α : Type}

/-- The reference's result. -/
def exchanged (X : S32x15392x1024.Idx → α) : S32x7696x1024.Idx → α :=
  shapeCast _ (concatenate S4x2x4x7696x1024 1
    [⟨S4x1x4x7696x1024, broadcastInDim S4x1x4x7696x1024 ![0, 2, 3, 4] bcast_S4x4x7696x1024_S4x1x4x7696x1024_0_2_3_4
        (shapeCast _ (extractStridedSlice S4x1x4x7696x1024 ![0, 1, 0, 0, 0] (shapeCast _ X shapeCasts_S32x15392x1024_S4x2x4x15392x1024)
          slices_S4x2x4x15392x1024_S4x1x4x7696x1024_0_1_0_0_0) shapeCasts_S4x1x4x7696x1024_S4x4x7696x1024)⟩,
     ⟨S4x1x4x7696x1024, broadcastInDim S4x1x4x7696x1024 ![0, 2, 3, 4] bcast_S4x4x7696x1024_S4x1x4x7696x1024_0_2_3_4
        (shapeCast _ (extractStridedSlice S4x1x4x7696x1024 ![0, 0, 0, 7696, 0] (shapeCast _ X shapeCasts_S32x15392x1024_S4x2x4x15392x1024)
          slices_S4x2x4x15392x1024_S4x1x4x7696x1024_0_0_0_7696_0) shapeCasts_S4x1x4x7696x1024_S4x4x7696x1024)⟩]
    concatenates_S4x1x4x7696x1024_S4x1x4x7696x1024_S4x2x4x7696x1024_d1) shapeCasts_S4x2x4x7696x1024_S32x7696x1024

theorem four (P : Fin 4 → Prop) (h0 : P 0) (h1 : P 1) (h2 : P 2) (h3 : P 3) : ∀ a, P a
  | ⟨0, _⟩ => h0 | ⟨1, _⟩ => h1 | ⟨2, _⟩ => h2 | ⟨3, _⟩ => h3
theorem five (P : Fin 5 → Prop) (h0 : P 0) (h1 : P 1) (h2 : P 2) (h3 : P 3) (h4 : P 4) : ∀ a, P a
  | ⟨0, _⟩ => h0 | ⟨1, _⟩ => h1 | ⟨2, _⟩ => h2 | ⟨3, _⟩ => h3 | ⟨4, _⟩ => h4

/-- One piece of the reference's stack, at an index. -/
theorem piece_apply (X : S32x15392x1024.Idx → α) (b o : ℕ) (hb : b < 2) (ho : o ≤ 7696)
    (hs : S4x2x4x15392x1024.Slices ![0, b, 0, o, 0] S4x1x4x7696x1024) (q r : Fin 4) (h : Fin 7696) (w : Fin 1024) :
    broadcastInDim S4x1x4x7696x1024 ![0, 2, 3, 4] bcast_S4x4x7696x1024_S4x1x4x7696x1024_0_2_3_4
        (shapeCast S4x4x7696x1024 (extractStridedSlice S4x1x4x7696x1024 ![0, b, 0, o, 0] (shapeCast _ X shapeCasts_S32x15392x1024_S4x2x4x15392x1024) hs)
          shapeCasts_S4x1x4x7696x1024_S4x4x7696x1024) (ix5 q (0 : Fin 1) r h w)
      = X (ix3 (⟨8 * q.val + 4 * b + r.val, by omega⟩ : Fin 32) (⟨o + h.val, by omega⟩ : Fin 15392) w) := by
  refine (broadcastInDim_apply _ _ _ _ (ix4 q r h w) (by exact four _ rfl rfl rfl rfl)).trans ?_
  refine (shapeCast_apply _ _ _ (ix5 q (0 : Fin 1) r h w) (by
    rw [Shape.rowMajor_val_five, Shape.rowMajor_val_four]
    show (((q.val * 1 + 0) * 4 + r.val) * 7696 + h.val) * 1024 + w.val = ((q.val * 4 + r.val) * 7696 + h.val) * 1024 + w.val
    omega)).trans ?_
  refine (extractStridedSlice_apply _ _ _ _ (ix5 q (⟨b, hb⟩ : Fin 2) r (⟨o + h.val, by omega⟩ : Fin 15392) w) (by
    exact five _ (Nat.zero_add _).symm rfl (Nat.zero_add _).symm rfl (Nat.zero_add _).symm)).trans ?_
  exact shapeCast_apply _ _ _ _ (by
    rw [Shape.rowMajor_val_five, Shape.rowMajor_val_three]
    show ((8 * q.val + 4 * b + r.val) * 15392 + (o + h.val)) * 1024 + w.val = (((q.val * 2 + b) * 4 + r.val) * 15392 + (o + h.val)) * 1024 + w.val
    omega)

/-- The reference's result at an index: the rows of the other block of the pair, from the half this block keeps. -/
theorem exchanged_apply (X : S32x15392x1024.Idx → α) (q : Fin 4) (p : Fin 2) (r : Fin 4) (h : Fin 7696) (w : Fin 1024) :
    exchanged X (ix3 (⟨8 * q.val + 4 * p.val + r.val, by omega⟩ : Fin 32) h w)
      = X (ix3 (⟨8 * q.val + 4 * (1 - p.val) + r.val, by omega⟩ : Fin 32) (⟨7696 * p.val + h.val, by omega⟩ : Fin 15392) w) := by
  unfold exchanged
  refine (shapeCast_apply _ _ _ (ix5 q p r h w) (by
    rw [Shape.rowMajor_val_five, Shape.rowMajor_val_three]
    show (((q.val * 2 + p.val) * 4 + r.val) * 7696 + h.val) * 1024 + w.val = ((8 * q.val + 4 * p.val + r.val) * 7696 + h.val) * 1024 + w.val
    omega)).trans ?_
  match p with
  | ⟨0, _⟩ =>
    refine (concatenate_pair_apply_left (t := S4x2x4x7696x1024) (s₁ := S4x1x4x7696x1024) (s₂ := S4x1x4x7696x1024) 1 _ _ _ (ix5 q (0 : Fin 2) r h w) rfl (ix5 q (0 : Fin 1) r h w) (by exact five _ rfl rfl rfl rfl rfl)).trans ?_
    refine (piece_apply X 1 0 (by omega) (by omega) _ q r h w).trans (congrArg X ?_)
    rfl
  | ⟨1, _⟩ =>
    refine (concatenate_pair_apply_right (t := S4x2x4x7696x1024) (s₁ := S4x1x4x7696x1024) (s₂ := S4x1x4x7696x1024) 1 _ _ _ (ix5 q (1 : Fin 2) r h w) rfl rfl (ix5 q (0 : Fin 1) r h w)
      (by exact five _ (fun _ => rfl) (fun hb => absurd rfl hb) (fun _ => rfl) (fun _ => rfl) (fun _ => rfl)) (by rfl)).trans ?_
    exact piece_apply X 0 7696 (by omega) (by omega) _ q r h w

/-- A device's block of the reference's result is what it receives. -/
theorem got_eq {F : FTy → Type} [FloatOps F] (m : (ℓ : Loc Cert.Kernel25Ideal.nD Cert.Kernel25Ideal.τ Cert.Kernel25Ideal.sig) → Buf (Elt F) ℓ)
    (X : S32x15392x1024.Idx → Elt F .f32)
    (hX : ∀ c : Dev Cert.Kernel25Ideal.nD, m ((c.tc : Thread Cert.Kernel25Ideal.nD Cert.Kernel25Ideal.τ).loc Cert.Kernel25Ideal.main_arg0)
      = Layout.block ⟨3, ![4, 15392, 1024]⟩ ⟨3, ![32, 15392, 1024]⟩ 0 8 c X) (c : Dev Cert.Kernel25Ideal.nD) :
    got m c = Layout.block ⟨3, ![4, 7696, 1024]⟩ ⟨3, ![32, 7696, 1024]⟩ 0 8 c (exchanged X) := by
  funext i
  obtain ⟨r, h, w, rfl⟩ : ∃ (r : Fin 4) (h : Fin 7696) (w : Fin 1024), i = ix3 r h w := ⟨i 0, i 1, i 2, funext fun a => by match a with | ⟨0, _⟩ => rfl | ⟨1, _⟩ => rfl | ⟨2, _⟩ => rfl⟩
  have hf : (flip c).val = 4 * (c.val / 4) + 2 * ((c.val / 2) % 2) + 1 - c.val % 2 := Cert.Kernel25Ideal.Gen.k0_dev1_eq c
  have hc : c.val < 8 := c.isLt
  rw [Layout.block_apply]
  have hr : ∀ h' : Layout.Tiles ⟨3, ![4, 7696, 1024]⟩ ⟨3, ![32, 7696, 1024]⟩ 0 8, h'.idx c (ix3 r h w)
      = ix3 (⟨8 * (⟨c.val / 2, by omega⟩ : Fin 4).val + 4 * (⟨c.val % 2, by omega⟩ : Fin 2).val + r.val, by simp only []; omega⟩ : Fin 32) h w := fun h' =>
    funext fun a => Fin.ext (by
      rw [Layout.Tiles.idx_val]
      match a with
      | ⟨0, _⟩ => show c.val * 4 + r.val = 8 * (c.val / 2) + 4 * (c.val % 2) + r.val; omega
      | ⟨1, _⟩ => rfl
      | ⟨2, _⟩ => rfl)
  rw [hr, exchanged_apply]
  unfold got
  rw [hX, View.read_apply]
  show X _ = X _
  refine congrArg X (funext fun a => Fin.ext ?_)
  rw [Layout.Tiles.idx_val]
  have ho := Cert.Kernel25Ideal.Gen.k0_off1_eq (flip c)
  match a with
  | ⟨0, _⟩ =>
    show (flip c).val * 4 + (Cert.Kernel25Ideal.k0_off1 (flip c) 0 + 1 * r.val) = 8 * (c.val / 2) + 4 * (1 - c.val % 2) + r.val
    rw [ho]
    show (flip c).val * 4 + (0 + 1 * r.val) = _
    omega
  | ⟨1, _⟩ =>
    show Cert.Kernel25Ideal.k0_off1 (flip c) 1 + 1 * h.val = 7696 * (c.val % 2) + h.val
    rw [ho]
    show 7696 - 7696 * ((flip c).val % 2) + 1 * h.val = _
    omega
  | ⟨2, _⟩ =>
    show Cert.Kernel25Ideal.k0_off1 (flip c) 2 + 1 * w.val = w.val
    rw [ho]
    show 0 + 1 * w.val = _
    omega

theorem ref_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v8) = exchanged (m ((c.tc : Thread nD τ).loc main_arg0))
      ∧ r.2.mem ((c.tc : Thread nD τ).loc main_arg0) = m ((c.tc : Thread nD τ).loc main_arg0) :=
  Cert.Reference25Ideal.Value.run m g

end Cert.Swap

end
-- ==== Proof.Partials.lean ====
/-
The partial sums' exchange between the four chips of the 2 × 2 × 2 mesh: each device sends row `q` of its array to the device
of chip `q` that has its own place there, and receives of that one the row of its own chip. Three copies a device
(`Exchange.Copies`): along x, along y, and to the chip opposite.
-/
module

public import proofs.«01_k».proof.Proof.Exchange
public import proofs.«01_k».proof.Proof.Gen.Kernel26Ideal
public import proofs.«01_k».proof.Proof.Gen.Kernel26Ideal.Skeleton
public import proofs.«01_k».proof.Proof.Gen.Kernel26Ideal.Launch
public import Idealize.ShloMosaic.Lib.ValueLayout
public import Idealize.ShloMosaic.Lib.Pipeline.Value

@[expose] public section

set_option Elab.async false

noncomputable section

namespace Cert.Partials

open Cert.Kernel26Ideal Cert.Kernel26Ideal.Gen
open Idealize.ShloMosaic
open Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat BodyObligationLoose)
open Idealize.ShloMosaic.ValueIdx (ix2 ix3 reshapeEquiv_ix2_1ab)
open Cert.Exchange

variable {F : FTy → Type} [FloatOps F]

local notation "𝕄" => MT nD τ sig Unit (Elt F) ℕ (UR sig nD τ) ℕ

variable (m : (ℓ : Loc nD τ sig) → Buf (Elt F) ℓ) (g : Dev nD → PrngReg)

/-! ## The copies -/

/-- The device of copy `j`. -/
def dest (j : Fin 3) (c : Dev nD) : Dev nD :=
  match j with
  | 0 => ⟨k0_dev1 c, k0_dev1_lt c⟩
  | 1 => ⟨k0_dev2 c, k0_dev2_lt c⟩
  | 2 => ⟨k0_dev3 c, k0_dev3_lt c⟩

theorem dest_dest (j : Fin 3) : ∀ c : Dev nD, dest j (dest j c) = c :=
  match j with
  | 0 => by decide +kernel
  | 1 => by decide +kernel
  | 2 => by decide +kernel

def peer (j : Fin 3) : Dev nD ≃ Dev nD := ⟨dest j, dest j, dest_dest j, dest_dest j⟩

theorem peer_peer (j : Fin 3) (c : Dev nD) : peer j (peer j c) = c := dest_dest j c
theorem dev1_eq (c : Dev nD) : (⟨k0_dev1 c, k0_dev1_lt c⟩ : Dev nD) = peer 0 c := rfl
theorem dev2_eq (c : Dev nD) : (⟨k0_dev2 c, k0_dev2_lt c⟩ : Dev nD) = peer 1 c := rfl
theorem dev3_eq (c : Dev nD) : (⟨k0_dev3 c, k0_dev3_lt c⟩ : Dev nD) = peer 2 c := rfl

/-- Where in the array the row of copy `j` begins. -/
def off (j : Fin 3) (c : Dev nD) : Fin 3 → ℕ :=
  match j with
  | 0 => k0_off1 c
  | 1 => k0_off2 c
  | 2 => k0_off3 c

/-- A device's chip. -/
def chip (c : Dev nD) : Fin 4 := ⟨c.val / 2, by have : c.val < 8 := c.isLt; omega⟩

theorem off_eq : ∀ (j : Fin 3) (c : Dev nD), off j c = ![(chip (peer j c)).val, 0, 0] := by decide +kernel
theorem chip_inj (c : Dev nD) (j j' : Fin 3) (h : chip (peer j c) = chip (peer j' c)) : j = j' := by
  by_contra hn
  exact (by decide +kernel : ∀ (j j' : Fin 3) (c : Dev nD), j ≠ j' → (dest j c).val / 2 ≠ (dest j' c).val / 2) j j' c hn (congrArg Fin.val h)

theorem off_inb (j : Fin 3) (c : Dev nD) : ∀ a, off j c a + S1x7696x1024.size a ≤ S4x7696x1024.size a :=
  match j with
  | 0 => k0_off1_inb c
  | 1 => k0_off2_inb c
  | 2 => k0_off3_inb c
theorem row_inb : ∀ (j : Fin 3) (a : Fin 3), (![j.val, 0, 0] : Fin 3 → ℕ) a + S1x7696x1024.size a ≤ S3x7696x1024.size a := by decide +kernel

abbrev arr : Memref sig .tc .hbm S4x7696x1024 .bf16 := Memref.whole main_arg0
abbrev out : Memref sig .tc .hbm S3x7696x1024 .bf16 := Memref.whole main_v1
/-- One row of an array of rows. -/
abbrev row {n : ℕ} (M : Memref sig .tc .hbm ⟨3, ![n, 7696, 1024]⟩ .bf16) (o : Fin 3 → ℕ)
    (h : ∀ a, o a + S1x7696x1024.size a ≤ (⟨3, ![n, 7696, 1024]⟩ : Shape).size a) : Memref sig .tc .hbm S7696x1024 .bf16 :=
  (M.slice (Rect.unit (s := ⟨3, ![n, 7696, 1024]⟩) o S1x7696x1024.size h) (fun _ => rfl)).squeeze S7696x1024 squeezes_S1x7696x1024_S7696x1024
abbrev src (j : Fin 3) (c : Dev nD) : Memref sig .tc .hbm S7696x1024 .bf16 := row arr (off j c) (off_inb j c)
abbrev dst (j : Fin 3) : Memref sig .tc .hbm S7696x1024 .bf16 := row out ![j.val, 0, 0] (row_inb j)
/-- One counter of three. -/
abbrev one (S : DmaSems sig S3) (o : Fin 1 → ℕ) (h : ∀ a, o a + S1.size a ≤ S3.size a) :=
  ((S.slice (Rect.unit (s := S3) o S1.size h)).squeeze S_ squeezes_S1_S_).sem

/-- A row's element in its array. -/
theorem row_emb {n : ℕ} (M : Memref sig .tc .hbm ⟨3, ![n, 7696, 1024]⟩ .bf16) (o : Fin 3 → ℕ) (h) (q : Fin n) (ho : o = ![q.val, 0, 0])
    (x : Fin 7696) (y : Fin 1024) : (row M o h).view.emb (ix2 x y) = M.view.emb (ix3 q x y) := by
  subst ho
  show M.view.emb ((Rect.unit (s := ⟨3, ![n, 7696, 1024]⟩) ![q.val, 0, 0] S1x7696x1024.size h).emb
    (Shape.reshapeEquiv squeezes_S1x7696x1024_S7696x1024.numel_eq (ix2 x y))) = _
  rw [reshapeEquiv_ix2_1ab]
  refine congrArg M.view.emb (funext fun a => Fin.ext ?_)
  match a with
  | ⟨0, _⟩ => show q.val + 1 * 0 = q.val; omega
  | ⟨1, _⟩ => show 0 + 1 * x.val = x.val; omega
  | ⟨2, _⟩ => show 0 + 1 * y.val = y.val; omega

theorem src_emb (j : Fin 3) (c : Dev nD) (x : Fin 7696) (y : Fin 1024) : (src j c).view.emb (ix2 x y) = ix3 (chip (peer j c)) x y :=
  row_emb arr _ _ (chip (peer j c)) (off_eq j c) x y
theorem dst_emb (j : Fin 3) (x : Fin 7696) (y : Fin 1024) : (dst j).view.emb (ix2 x y) = ix3 j x y := row_emb out _ _ j rfl x y

theorem of_src {j : Fin 3} {c : Dev nD} {i : S4x7696x1024.Idx} (h : i ∈ (src j c).view.set) : i 0 = chip (peer j c) := by
  obtain ⟨y, rfl⟩ := View.exists_emb_of_mem_set _ h
  obtain ⟨a, b, rfl⟩ : ∃ (a : Fin 7696) (b : Fin 1024), y = ix2 a b := ⟨y 0, y 1, funext fun k => by match k with | ⟨0, _⟩ => rfl | ⟨1, _⟩ => rfl⟩
  exact congrFun (src_emb j c a b) 0
theorem of_dst {j : Fin 3} {i : S3x7696x1024.Idx} (h : i ∈ (dst j).view.set) : ∃ a b, i = (dst j).view.emb (ix2 a b) ∧ i = ix3 j a b := by
  obtain ⟨y, rfl⟩ := View.exists_emb_of_mem_set _ h
  obtain ⟨a, b, rfl⟩ : ∃ (a : Fin 7696) (b : Fin 1024), y = ix2 a b := ⟨y 0, y 1, funext fun k => by match k with | ⟨0, _⟩ => rfl | ⟨1, _⟩ => rfl⟩
  exact ⟨a, b, rfl, dst_emb j a b⟩

/-- What a copy reads of a device's array, and what it writes of a device's result. -/
def inSet (c : Dev nD) (j : Fin 3) : Finset (Idx ((c.tc : Thread nD τ).loc main_arg0)) := (src j c).view.set
def outSet (c : Dev nD) (j : Fin 3) : Finset (Idx ((c.tc : Thread nD τ).loc main_v1)) := (dst j).view.set

theorem in_disjoint (c : Dev nD) : ∀ j ∈ (Finset.univ : Finset (Fin 3)), ∀ j' ∈ (Finset.univ : Finset (Fin 3)), j ≠ j' →
    Disjoint (inSet c j) (inSet c j') := fun j _ j' _ h =>
  Finset.disjoint_left.2 fun _ h1 h2 => h (chip_inj c j j' ((of_src h1).symm.trans (of_src h2)))
theorem out_disjoint (c : Dev nD) : ∀ j ∈ (Finset.univ : Finset (Fin 3)), ∀ j' ∈ (Finset.univ : Finset (Fin 3)), j ≠ j' →
    Disjoint (outSet c j) (outSet c j') := fun j _ j' _ h =>
  Finset.disjoint_left.2 fun i h1 h2 => h (by
    obtain ⟨a, b, -, rfl⟩ := of_dst h1
    obtain ⟨a', b', -, h'⟩ := of_dst h2
    exact congrFun h' 0)
theorem out_all (c : Dev nD) : (Finset.univ : Finset (Fin 3)).biUnion (outSet c) = Finset.univ := by
  refine Finset.eq_univ_of_forall fun i => Finset.mem_biUnion.2 ⟨i 0, Finset.mem_univ _, ?_⟩
  have h : (dst (i 0)).view.emb (ix2 (i 1) (i 2)) = i :=
    (dst_emb (i 0) (i 1) (i 2)).trans (funext fun a => by match a with | ⟨0, _⟩ => rfl | ⟨1, _⟩ => rfl | ⟨2, _⟩ => rfl)
  have h' := View.emb_mem_set (dst (i 0)).view (ix2 (i 1) (i 2))
  rw [h] at h'
  exact h'

def copies : Copies nD sig (Fin 3) where
  sem k := .dma ⟨(bif k.2 then 3 else 0) + k.1.val, by have := k.1.isLt; cases k.2 <;> simp only [cond_true, cond_false] <;> omega⟩
  inj := by decide
  peer := peer
  units j := (dst j).view.dmaCredit
  pos j := View.dmaCredit_pos _ (by decide)

abbrev cellC (c : Dev nD) (j : Fin 3) (b : Bool) : GSem nD τ sig := copies.cell (c, (j, b))

theorem send1_eq : copies.sem (0, false) = .dma (one cc0_scratch0 ![0] inb_S3_S1_0) := rfl
theorem recv1_eq : copies.sem (0, true) = .dma (one cc0_scratch1 ![0] inb_S3_S1_0) := rfl
theorem send2_eq : copies.sem (1, false) = .dma (one cc0_scratch0 ![1] inb_S3_S1_1) := rfl
theorem recv2_eq : copies.sem (1, true) = .dma (one cc0_scratch1 ![1] inb_S3_S1_1) := rfl
theorem send3_eq : copies.sem (2, false) = .dma (one cc0_scratch0 ![2] inb_S3_S1_2) := rfl
theorem recv3_eq : copies.sem (2, true) = .dma (one cc0_scratch1 ![2] inb_S3_S1_2) := rfl
theorem src_units (j : Fin 3) (c : Dev nD) : (src j c).view.dmaCredit = copies.units j := rfl
theorem dst_units (j : Fin 3) (i) : (dst j).view.amount (.dma i) = copies.units j := rfl

/-- What device `d` holds. -/
def val (d : Dev nD) (q : Fin 4) (x : Fin 7696) (y : Fin 1024) : Elt F .bf16 := m ((d.tc : Thread nD τ).loc main_arg0) (ix3 q x y)
/-- What a device receives: of each of its three peers the row of its own chip. -/
def got (c : Dev nD) : Buf (Elt F) ((c.tc : Thread nD τ).loc main_v1) := fun i => val m (peer (i 0) c) (chip c) (i 1) (i 2)

abbrev inPts (c : Dev nD) (j : Fin 3) : sProp 𝕄 :=
  (src j c).view.loc (c.tc : Thread nD τ) ↦[(src j c).view.set]{fullShare} m ((c.tc : Thread nD τ).loc main_arg0)
abbrev restPts (c : Dev nD) : sProp 𝕄 :=
  ((c.tc : Thread nD τ).loc main_arg0) ↦[Finset.univ \ Finset.univ.biUnion (inSet c)]{fullShare} m ((c.tc : Thread nD τ).loc main_arg0)
abbrev argPts (c : Dev nD) : sProp 𝕄 := (((c.tc : Thread nD τ).loc main_arg0) ↦{fullShare} m ((c.tc : Thread nD τ).loc main_arg0))
abbrev outPts (c : Dev nD) (j : Fin 3) (f : Buf (Elt F) ((c.tc : Thread nD τ).loc main_v1)) : sProp 𝕄 :=
  (dst j).view.loc (c.tc : Thread nD τ) ↦[(dst j).view.set]{fullShare} f

theorem three (Φ : Fin 3 → sProp 𝕄) : bigSep Finset.univ Φ = iprop(Φ 0 ∗ Φ 1 ∗ Φ 2) :=
  bigSep_univ_eq_bigSepL [0, 1, 2] (by decide) (by decide) Φ

theorem outPts_eq (c : Dev nD) (f : Buf (Elt F) ((c.tc : Thread nD τ).loc main_v1)) :
    (((c.tc : Thread nD τ).loc main_v1) ↦{fullShare} f : sProp 𝕄) = bigSep Finset.univ fun j => outPts c j f := by
  have h : (((c.tc : Thread nD τ).loc main_v1) ↦[Finset.univ.biUnion (outSet c)]{fullShare} f : sProp 𝕄)
      = bigSep Finset.univ fun j => ((c.tc : Thread nD τ).loc main_v1) ↦[outSet c j]{fullShare} f := pointsTo_biUnion Finset.univ (outSet c) (out_disjoint c)
  rw [out_all] at h
  exact h

theorem argPts_split (c : Dev nD) : argPts m c ⊣⊢ iprop((inPts m c 0 ∗ inPts m c 1 ∗ inPts m c 2) ∗ restPts m c) := by
  have h : (((c.tc : Thread nD τ).loc main_arg0) ↦[Finset.univ.biUnion (inSet c)]{fullShare} m ((c.tc : Thread nD τ).loc main_arg0) : sProp 𝕄)
      = bigSep Finset.univ fun j => inPts m c j := pointsTo_biUnion Finset.univ (inSet c) (in_disjoint c)
  rw [← three fun j => inPts m c j, ← h]
  exact pointsTo_split_subset (Finset.subset_univ _)

/-- What a cell's duty brings: the sender its row back, the receiver its row of the result. -/
def pay (k : Dev nD × (Fin 3 × Bool)) : sProp 𝕄 := bif k.2.2 then outPts k.1 k.2.1 (got m k.1) else inPts m k.1 k.2.1

theorem pay_send (c : Dev nD) (j : Fin 3) : pay m (c, (j, false)) = inPts m c j := rfl
theorem pay_recv (c : Dev nD) (j : Fin 3) : pay m (c, (j, true)) = outPts c j (got m c) := rfl

/-- What a copy writes is what the peer is to receive. -/
theorem lands (c : Dev nD) (j : Fin 3) (fd : Buf (Elt F) (((peer j c).tc : Thread nD τ).loc main_v1)) :
    outPts (peer j c) j ((dst j).view.write (Elt F) fd ((src j c).view.read (Elt F) (m ((c.tc : Thread nD τ).loc main_arg0))) Finset.univ)
      ⊢ pay m (copies.peer j c, (j, true)) := by
  refine Entails.of_eq (Eq.trans (pointsTo_congr fun i hi => ?_) (pay_recv m (peer j c) j).symm)
  obtain ⟨a, b, h1, h2⟩ := of_dst hi
  have hv : val m (peer j (peer j c)) (chip (peer j c)) a b = m ((c.tc : Thread nD τ).loc main_arg0) ((src j c).view.emb (ix2 a b)) := by
    rw [peer_peer, src_emb]; rfl
  have hg : got m (peer j c) i = val m (peer j (peer j c)) (chip (peer j c)) a b := by rw [h2]; rfl
  rw [hg, hv, h1, View.write_emb_of_mem _ _ (Finset.mem_univ _)]
  rfl

instance : Copies.Pays (pay m) where
  storable := fun ⟨c, j, b⟩ => by
    cases b
    · show BI.Storable upEmb (inPts m c j); infer_instance
    · show BI.Storable upEmb (outPts c j (got m c)); infer_instance

/-! ## The body -/

/-- What a device starts with besides its cells': its array and the rows of its peers' results that it writes. -/
def dealt (c : Dev nD) : sProp 𝕄 :=
  iprop(argPts m c ∗ bigSep Finset.univ fun j => outPts (peer j c) j (m (((peer j c).tc : Thread nD τ).loc main_v1)))

def Φ₀ (c : Dev nD) : sProp 𝕄 := iprop(copies.begun (pay m) (dealt m) c ∗ scopedBufs (c.tc : Thread nD τ))
def kept (c : Dev nD) : sProp 𝕄 := iprop(argPts m c ∗ bigSep Finset.univ fun j => outPts c j (got m c))
def Φ₁ (c : Dev nD) : sProp 𝕄 :=
  iprop(kept m c ∗ (bigSep Finset.univ fun j => iprop(semVal (cellC c j false) 0 ∗ semVal (cellC c j true) 0)) ∗ scopedBufs (c.tc : Thread nD τ))

abbrev adm : (p : Fin 1) → (pcfgs (F := F) p).Adm := fun p => (cfgs p).toPCfg_adm

def dats (p : Fin 1) (c : Dev nD) : Dat τ (Elt F) Unit ℕ (UR sig nD τ) ℕ (Pipeline.pin (pcfgs (F := F)) adm p) c where
  A w := w.elim0
  after w := w.elim0
  Φ t := match t with
    | ⟨0, _⟩ => Φ₀ m c
    | ⟨_ + 1, _⟩ => Φ₁ m c
  q w := w.elim0
  owed t := match t with
    | ⟨0, _⟩ => copies.due Finset.univ c
    | ⟨_ + 1, _⟩ => 0

abbrev 𝒱₀ : Variants := Variants.none

theorem src_words (j : Fin 3) (c : Dev nD) : (src j c).view.WordExact :=
  match j with
  | 0 => ((Memref.isWhole_whole main_arg0).wordExact_slice rfl _ (k0_off1_wordsbf16 c)).reshape _ _
  | 1 => ((Memref.isWhole_whole main_arg0).wordExact_slice rfl _ (k0_off2_wordsbf16 c)).reshape _ _
  | 2 => ((Memref.isWhole_whole main_arg0).wordExact_slice rfl _ (k0_off3_wordsbf16 c)).reshape _ _
theorem dst_words (j : Fin 3) : (dst j).view.WordExact :=
  match j with
  | 0 => ((Memref.isWhole_whole main_v1).wordExact_slice rfl _ wordsbf16_S3x7696x1024_S1x7696x1024_0_0_0).reshape _ _
  | 1 => ((Memref.isWhole_whole main_v1).wordExact_slice rfl _ wordsbf16_S3x7696x1024_S1x7696x1024_1_0_0).reshape _ _
  | 2 => ((Memref.isWhole_whole main_v1).wordExact_slice rfl _ wordsbf16_S3x7696x1024_S1x7696x1024_2_0_0).reshape _ _

theorem wait_send (c : Dev nD) (j : Fin 3) {i} (hi : copies.sem (j, false) = .dma i) (hs : (dst j).view.WordExact) (hd : (src j c).view.WordExact) (K : PUnit → sProp 𝕄) :
    wpE (defs₀ (F := F)) 𝒱₀ (c.tc : Thread nD τ) none Set.univ (.waitDma2 i (dst j) (src j c) hs hd) K
      = waitSpec (c.tc : Thread nD τ) Set.univ (copies.sem (j, false)) (copies.units j) K :=
  (wpE_waitDma2_eq 𝒱₀ (c.tc : Thread nD τ) none Set.univ K).trans (by rw [src_units, hi])
theorem wait_recv (c : Dev nD) (j : Fin 3) {i} (hi : copies.sem (j, true) = .dma i) (hs : (src j c).view.WordExact) (hd : (dst j).view.WordExact) (K : PUnit → sProp 𝕄) :
    wpE (defs₀ (F := F)) 𝒱₀ (c.tc : Thread nD τ) none Set.univ (.waitDma2 i (src j c) (dst j) hs hd) K
      = waitSpec (c.tc : Thread nD τ) Set.univ (copies.sem (j, true)) (copies.units j) K :=
  (wpE_waitDma2_eq 𝒱₀ (c.tc : Thread nD τ) none Set.univ K).trans (by rw [hi]; rfl)

theorem body (c : Dev nD) (Q : PUnit → sProp 𝕄) :
    iprop(Φ₀ m c ∗ Copies.owing c (copies.due Finset.univ c) ∗ ((Φ₁ m c ∗ Copies.owing c 0) -∗ Q ⟨⟩))
      ⊢ wp frame (wpE (defs₀ (F := F)) 𝒱₀ (c.tc : Thread nD τ) none) Set.univ
          (cc0_exchange_chip_partials arr (Memref.isWhole_whole _) out (Memref.isWhole_whole _) cc0_scratch0 cc0_scratch1) Q := by
  simp only [cc0_exchange_chip_partials_eq_skeleton]; unfold cc0_exchange_chip_partials_skel
  simp only [k0_part1_eq_skeleton, k0_part2_eq_skeleton, k0_part3_eq_skeleton]; unfold k0_part1_skel k0_part2_skel k0_part3_skel
  simp only [Prog.lift, Prog.bind_op, Prog.bind_ret, Prog.pure_eq_ret, wp_deviceId, dev1_eq, dev2_eq, dev3_eq]
  have paid : copies.due ((((Finset.univ : Finset (Fin 3)).erase 0).erase 1).erase 2) c = (0 : CellTallies nD τ sig Unit) := by
    unfold Copies.due
    rw [show ((((Finset.univ : Finset (Fin 3)).erase 0).erase 1).erase 2) = ∅ by decide]; exact Finset.sum_empty
  unfold Φ₀ Copies.begun dealt
  rw [three, three]
  unfold Copies.ticket
  iintro ⟨⟨⟨%K, #HR, ⟨⟨Ht01, Ht02, Ha01, Ha02, Hc0⟩, ⟨Ht11, Ht12, Ha11, Ha12, Hc1⟩, ⟨Ht21, Ht22, Ha21, Ha22, Hc2⟩⟩, Harg, Ho0, Ho1, Ho2⟩, Hsc⟩, HO, HQ⟩
  ihave Hs := (argPts_split m c).1 $$ Harg
  icases Hs with ⟨⟨Hi0, Hi1, Hi2⟩, Hrest⟩
  iapply (copies.start (pay m) 𝒱₀ K c (s := Finset.univ) (j := 0) (by decide) (n := peer 0 c) rfl (src := src 0 c) (dst := dst 0) send1_eq recv1_eq
      (fs := m ((c.tc : Thread nD τ).loc main_arg0)) (fd := m (((peer 0 c).tc : Thread nD τ).loc main_v1)) (dst_units 0 _)
      (Entails.of_eq (pay_send m c 0).symm) (lands m c 0 _)) $$ [Hi0 Ho0 HO Ht01 Ht02]
  · isplitr; · iexact HR
    isplitl [Hi0]; · iexact Hi0
    isplitl [Ho0]; · iexact Ho0
    isplitl [HO]; · iexact HO
    isplitl [Ht01] <;> iassumption
  iintro ⟨Hs0, HO⟩
  iapply (copies.start (pay m) 𝒱₀ K c (s := (Finset.univ.erase 0)) (j := 1) (by decide) (n := peer 1 c) rfl (src := src 1 c) (dst := dst 1) send2_eq recv2_eq
      (fs := m ((c.tc : Thread nD τ).loc main_arg0)) (fd := m (((peer 1 c).tc : Thread nD τ).loc main_v1)) (dst_units 1 _)
      (Entails.of_eq (pay_send m c 1).symm) (lands m c 1 _)) $$ [Hi1 Ho1 HO Ht11 Ht12]
  · isplitr; · iexact HR
    isplitl [Hi1]; · iexact Hi1
    isplitl [Ho1]; · iexact Ho1
    isplitl [HO]; · iexact HO
    isplitl [Ht11] <;> iassumption
  iintro ⟨Hs1, HO⟩
  iapply (copies.start (pay m) 𝒱₀ K c (s := ((Finset.univ.erase 0).erase 1)) (j := 2) (by decide) (n := peer 2 c) rfl (src := src 2 c) (dst := dst 2) send3_eq recv3_eq
      (fs := m ((c.tc : Thread nD τ).loc main_arg0)) (fd := m (((peer 2 c).tc : Thread nD τ).loc main_v1)) (dst_units 2 _)
      (Entails.of_eq (pay_send m c 2).symm) (lands m c 2 _)) $$ [Hi2 Ho2 HO Ht21 Ht22]
  · isplitr; · iexact HR
    isplitl [Hi2]; · iexact Hi2
    isplitl [Ho2]; · iexact Ho2
    isplitl [HO]; · iexact HO
    isplitl [Ht21] <;> iassumption
  rw [paid]
  iintro ⟨Hs2, HO⟩
  iapply (copies.wait (pay m) 𝒱₀ K c (0, false) (wait_send c 0 send1_eq (dst_words 0) (src_words 0 c))) $$ [Hs0 HO Ha01]
  · isplitr; · iexact HR
    isplitl [Hs0]; · iexact Hs0
    isplitl [HO] <;> iassumption
  iintro ⟨HO, Hb0, Hz01⟩
  iapply (copies.wait (pay m) 𝒱₀ K c (0, true) (wait_recv c 0 recv1_eq (src_words 0 c) (dst_words 0))) $$ [Hc0 HO Ha02]
  · isplitr; · iexact HR
    isplitl [Hc0]; · iexact Hc0
    isplitl [HO] <;> iassumption
  iintro ⟨HO, Hl0, Hz02⟩
  iapply (copies.wait (pay m) 𝒱₀ K c (1, false) (wait_send c 1 send2_eq (dst_words 1) (src_words 1 c))) $$ [Hs1 HO Ha11]
  · isplitr; · iexact HR
    isplitl [Hs1]; · iexact Hs1
    isplitl [HO] <;> iassumption
  iintro ⟨HO, Hb1, Hz11⟩
  iapply (copies.wait (pay m) 𝒱₀ K c (1, true) (wait_recv c 1 recv2_eq (src_words 1 c) (dst_words 1))) $$ [Hc1 HO Ha12]
  · isplitr; · iexact HR
    isplitl [Hc1]; · iexact Hc1
    isplitl [HO] <;> iassumption
  iintro ⟨HO, Hl1, Hz12⟩
  iapply (copies.wait (pay m) 𝒱₀ K c (2, false) (wait_send c 2 send3_eq (dst_words 2) (src_words 2 c))) $$ [Hs2 HO Ha21]
  · isplitr; · iexact HR
    isplitl [Hs2]; · iexact Hs2
    isplitl [HO] <;> iassumption
  iintro ⟨HO, Hb2, Hz21⟩
  iapply (copies.wait (pay m) 𝒱₀ K c (2, true) (wait_recv c 2 recv3_eq (src_words 2 c) (dst_words 2))) $$ [Hc2 HO Ha22]
  · isplitr; · iexact HR
    isplitl [Hc2]; · iexact Hc2
    isplitl [HO] <;> iassumption
  iintro ⟨HO, Hl2, Hz22⟩
  rw [wp_ret]; imodintro
  ihave Hb0 := (Entails.of_eq (pay_send m c 0)) $$ Hb0
  ihave Hl0 := (Entails.of_eq (pay_recv m c 0)) $$ Hl0
  ihave Hb1 := (Entails.of_eq (pay_send m c 1)) $$ Hb1
  ihave Hl1 := (Entails.of_eq (pay_recv m c 1)) $$ Hl1
  ihave Hb2 := (Entails.of_eq (pay_send m c 2)) $$ Hb2
  ihave Hl2 := (Entails.of_eq (pay_recv m c 2)) $$ Hl2
  iapply HQ
  isplitr [HO]
  · unfold Φ₁ kept
    rw [three, three]
    isplitl [Hb0 Hb1 Hb2 Hrest Hl0 Hl1 Hl2]
    · isplitl [Hb0 Hb1 Hb2 Hrest]
      · iapply (argPts_split m c).2
        isplitr [Hrest]
        · isplitl [Hb0]; · iexact Hb0
          isplitl [Hb1]; · iexact Hb1
          iexact Hb2
        iexact Hrest
      isplitl [Hl0]; · iexact Hl0
      isplitl [Hl1]; · iexact Hl1
      iexact Hl2
    isplitr [Hsc]
    · isplitl [Hz01 Hz02]
      · isplitl [Hz01] <;> iassumption
      isplitl [Hz11 Hz12]
      · isplitl [Hz11] <;> iassumption
      isplitl [Hz21] <;> iassumption
    iexact Hsc
  iexact HO

theorem body_obligation (c : Dev nD) : BodyObligationLoose (dats m 0 c) (defs₀ (F := F)) 𝒱₀ () Set.univ := fun t => by
  rw [fin_N0 t, Cert.Pooled.over_none, Cert.Pooled.over_none]
  unfold Dat.owesAt Pipeline.owesWithin
  rw [show (dats m 0 c).owed (Fin.castSucc t0_0) = copies.due Finset.univ c from rfl, show (dats m 0 c).owed (Fin.succ t0_0) = 0 from rfl,
    show (dats m 0 c).Φ (Fin.castSucc t0_0) = Φ₀ m c from rfl, show (dats m 0 c).Φ (Fin.succ t0_0) = Φ₁ m c from rfl]
  iintro ⟨HΦ, ⟨%W, -, HO⟩, -⟩
  iapply (body m c)
  isplitl [HΦ]; · iexact HΦ
  isplitl [HO]; · unfold Copies.owing; iexists W; iexact HO
  unfold Copies.owing
  iintro ⟨HΦ, ⟨%W', HO⟩⟩
  isplitl [HΦ]; · iexact HΦ
  isplitl [HO]
  · iexists W'; isplitr; · ipureintro; exact fun _ _ => Or.inl trivial
    iexact HO
  iempintro

/-! ## The run -/

theorem scoped_cells : (Finset.univ.filter fun sm : SemLoc sig => sm.isScoped .tc) = Finset.univ.map ⟨copies.sem, copies.inj⟩ := by decide

/-- A device's arrays: its rows and its result. -/
theorem arrays (c : Dev nD) (V : (b : Ref sig .tc) → Buf (Elt F) ((c.tc : Thread nD τ).loc b)) : (unscopedBufs c V : sProp 𝕄)
    = iprop((((c.tc : Thread nD τ).loc main_arg0) ↦{fullShare} V main_arg0) ∗ bigSep Finset.univ fun j => outPts c j (V main_v1)) := by
  unfold unscopedBufs
  rw [← outPts_eq]
  exact bigSep_eq_bigSepL_of_eq [main_arg0, main_v1] (by decide) (by decide) _

/-- From any memory with zero counters, every execution ends: each device's argument unchanged, its result the rows
    its peers sent. -/
theorem run : θ_run (defs (F := F)) (onTc (main (F := F))) ⟨m, fun _ => 0, g⟩ (fun r =>
    (∀ c : Dev nD, r.2.mem ((c.tc : Thread nD τ).loc main_v1) = got m c
      ∧ r.2.mem ((c.tc : Thread nD τ).loc main_arg0) = m ((c.tc : Thread nD τ).loc main_arg0))
    ∧ r.2.sem = fun _ => 0) := by
  haveI : IsEmpty (Fin (Pipeline.pin (pcfgs (F := F)) adm 0).W) := inferInstanceAs (IsEmpty (Fin 0))
  haveI : IsEmpty (Fin (pcfgs (F := F) 0).pre.K) := inferInstanceAs (IsEmpty (Fin 0))
  refine (θ_run _ _ _).mono (fun r h => ⟨h.1, sem_eq_zero_of_scoped (by decide) h.2⟩)
    (Cert.Pooled.run (pcfgs (F := F)) adm (dats m) () ER cellOf_inj 0 defs₀ 𝒱₀ m g main (fun c => rfl) (body_obligation m)
      (copies.due Finset.univ) (fun c => rfl) (fun c => rfl) copies.u₀
      (copies.begun (pay m) (dealt m)) (kept m) ?_ ?_ ?_ (fun c s => s.mem ((c.tc : Thread nD τ).loc main_v1) = got m c
        ∧ s.mem ((c.tc : Thread nD τ).loc main_arg0) = m ((c.tc : Thread nD τ).loc main_arg0)) ?_)
  · refine copies.deal (pay m) scoped_cells _ (dealt m) ?_
    rw [bigSep_congr fun c _ => arrays c fun b => m ((c.tc : Thread nD τ).loc b), bigSep_sep',
      copies.at_peer fun c j => outPts c j (m ((c.tc : Thread nD τ).loc main_v1)), ← bigSep_sep']
    exact Entails.refl _
  · intro c
    rw [show (dats m 0 c).Φ 0 = Φ₀ m c from rfl]
    unfold Φ₀; exact Entails.refl _
  · intro c
    rw [show (dats m 0 c).Φ (Fin.last _) = Φ₁ m c from rfl, copies.scoped_eq scoped_cells c]
    exact Entails.refl _
  · intro c s'
    unfold kept
    rw [← outPts_eq]
    iintro ⟨⟨Ha, Ho⟩, HSI⟩
    ihave %h1 := SI_pointsTo_agree $$ [HSI Ha]
    · isplitl [HSI] <;> iassumption
    ihave %h2 := SI_pointsTo_agree $$ [HSI Ho]
    · isplitl [HSI] <;> iassumption
    imodintro
    isplitr
    · ipureintro; exact ⟨funext fun i => h2 i (Finset.mem_univ i), funext fun i => h1 i (Finset.mem_univ i)⟩
    iexact HSI

end Cert.Partials

end
-- ==== Proof.PartialsVal.lean ====
/-
The exchange's result and the reference's: what a device receives of its three peers is its block of the reference's stack.
-/
module

public import proofs.«01_k».proof.Proof.Partials
public import proofs.«01_k».proof.Proof.Gen.Reference26Ideal.Run
public import Idealize.ShloMosaic.Lib.Pointwise.Tactic
public import Idealize.ShloMosaic.Lib.KernelVsHost

@[expose] public section

set_option Elab.async false

noncomputable section

namespace Cert.Partials

open Idealize.ShloMosaic
open Idealize.ShloMosaic.TcCoe
open Idealize.SL.Sem
open Cert.Reference26Ideal Cert.Reference26Ideal.Gen

variable {α : Type}

/-- The three others of a chip: along x, along y, opposite. -/
def mate (t : Fin 4) (j : Fin 3) : Fin 4 := (![![2, 1, 3], ![3, 0, 2], ![0, 3, 1], ![1, 2, 0]] : Fin 4 → Fin 3 → Fin 4) t j

theorem slices (t : Fin 4) (j : Fin 3) : S4x2x4x7696x1024.Slices ![(mate t j).val, 0, t.val, 0, 0] S1x2x1x7696x1024 := by
  revert t j; decide +kernel

/-- The partial sums of chip `k` for chip `t`. -/
def part (X : S32x7696x1024.Idx → α) (k t : ℕ) (hs : S4x2x4x7696x1024.Slices ![k, 0, t, 0, 0] S1x2x1x7696x1024) : S2x1x7696x1024.Idx → α :=
  broadcastInDim S2x1x7696x1024 ![0, 2, 3] bcast_S2x7696x1024_S2x1x7696x1024_0_2_3
    (shapeCast S2x7696x1024 (extractStridedSlice S1x2x1x7696x1024 ![k, 0, t, 0, 0] (shapeCast _ X shapeCasts_S32x7696x1024_S4x2x4x7696x1024) hs)
      shapeCasts_S1x2x1x7696x1024_S2x7696x1024)

/-- What chip `t` gets. -/
def gotten (X : S32x7696x1024.Idx → α) (t : Fin 4) : S1x2x3x7696x1024.Idx → α :=
  broadcastInDim S1x2x3x7696x1024 ![1, 2, 3, 4] bcast_S2x3x7696x1024_S1x2x3x7696x1024_1_2_3_4
    (concatenate S2x3x7696x1024 1 [⟨S2x1x7696x1024, part X (mate t 0).val t.val (slices t 0)⟩, ⟨S2x1x7696x1024, part X (mate t 1).val t.val (slices t 1)⟩,
      ⟨S2x1x7696x1024, part X (mate t 2).val t.val (slices t 2)⟩] concatenates_S2x1x7696x1024_S2x1x7696x1024_S2x1x7696x1024_S2x3x7696x1024_d1)

/-- The reference's result. -/
def exchanged (X : S32x7696x1024.Idx → α) : S24x7696x1024.Idx → α :=
  shapeCast _ (concatenate S4x2x3x7696x1024 0 [⟨S1x2x3x7696x1024, gotten X 0⟩, ⟨S1x2x3x7696x1024, gotten X 1⟩, ⟨S1x2x3x7696x1024, gotten X 2⟩,
    ⟨S1x2x3x7696x1024, gotten X 3⟩] concatenates_S1x2x3x7696x1024_S1x2x3x7696x1024_S1x2x3x7696x1024_S1x2x3x7696x1024_S4x2x3x7696x1024_d0)
    shapeCasts_S4x2x3x7696x1024_S24x7696x1024

theorem axes3 (P : Fin 3 → Prop) (h0 : P 0) (h1 : P 1) (h2 : P 2) : ∀ a, P a
  | ⟨0, _⟩ => h0 | ⟨1, _⟩ => h1 | ⟨2, _⟩ => h2
theorem axes4 (P : Fin 4 → Prop) (h0 : P 0) (h1 : P 1) (h2 : P 2) (h3 : P 3) : ∀ a, P a
  | ⟨0, _⟩ => h0 | ⟨1, _⟩ => h1 | ⟨2, _⟩ => h2 | ⟨3, _⟩ => h3
theorem axes5 (P : Fin 5 → Prop) (h0 : P 0) (h1 : P 1) (h2 : P 2) (h3 : P 3) (h4 : P 4) : ∀ a, P a
  | ⟨0, _⟩ => h0 | ⟨1, _⟩ => h1 | ⟨2, _⟩ => h2 | ⟨3, _⟩ => h3 | ⟨4, _⟩ => h4

theorem part_apply (X : S32x7696x1024.Idx → α) (k t : Fin 4) (hs : S4x2x4x7696x1024.Slices ![k.val, 0, t.val, 0, 0] S1x2x1x7696x1024)
    (p : Fin 2) (h : Fin 7696) (w : Fin 1024) :
    part X k.val t.val hs (ix4 p (0 : Fin 1) h w) = X (ix3 (⟨8 * k.val + 4 * p.val + t.val, by omega⟩ : Fin 32) h w) := by
  unfold part
  refine (broadcastInDim_apply _ _ _ _ (ix3 p h w) (by exact axes3 _ rfl rfl rfl)).trans ?_
  refine (shapeCast_apply _ _ _ (ix5 (0 : Fin 1) p (0 : Fin 1) h w) (by
    rw [Shape.rowMajor_val_five, Shape.rowMajor_val_three]
    show (((0 * 2 + p.val) * 1 + 0) * 7696 + h.val) * 1024 + w.val = (p.val * 7696 + h.val) * 1024 + w.val
    omega)).trans ?_
  refine (extractStridedSlice_apply _ _ _ _ (ix5 k p t h w) (by
    exact axes5 _ rfl (Nat.zero_add _).symm rfl (Nat.zero_add _).symm (Nat.zero_add _).symm)).trans ?_
  exact shapeCast_apply _ _ _ _ (by
    rw [Shape.rowMajor_val_five, Shape.rowMajor_val_three]
    show ((8 * k.val + 4 * p.val + t.val) * 7696 + h.val) * 1024 + w.val = (((k.val * 2 + p.val) * 4 + t.val) * 7696 + h.val) * 1024 + w.val
    omega)

theorem gotten_apply (X : S32x7696x1024.Idx → α) (t : Fin 4) (p : Fin 2) (j : Fin 3) (h : Fin 7696) (w : Fin 1024) :
    gotten X t (ix5 (0 : Fin 1) p j h w) = X (ix3 (⟨8 * (mate t j).val + 4 * p.val + t.val, by omega⟩ : Fin 32) h w) := by
  unfold gotten
  refine (broadcastInDim_apply _ _ _ _ (ix4 p j h w) (by exact axes4 _ rfl rfl rfl rfl)).trans ?_
  refine Eq.trans ?_ (part_apply X (mate t j) t (slices t j) p h w)
  have hi : ∀ b : Fin S2x1x7696x1024.rank, b.cast (rfl : S2x1x7696x1024.rank = S2x3x7696x1024.rank) ≠ 1 →
      ((ix4 p (0 : Fin 1) h w : S2x1x7696x1024.Idx) b).val = ((ix4 p j h w : S2x3x7696x1024.Idx) (b.cast rfl)).val := by
    exact axes4 _ (fun _ => rfl) (fun hb => absurd rfl hb) (fun _ => rfl) (fun _ => rfl)
  match j with
  | ⟨0, _⟩ =>
    refine concatenate_apply_piece (t := S2x3x7696x1024) 1 _ _ (ix4 p (0 : Fin 3) h w) 0 ?_ S2x1x7696x1024 _ ?_ rfl 0 ?_ (ix4 p (0 : Fin 1) h w) hi ?_
    · exact (by decide : 0 < 3)
    all_goals rfl
  | ⟨1, _⟩ =>
    refine concatenate_apply_piece (t := S2x3x7696x1024) 1 _ _ (ix4 p (1 : Fin 3) h w) 1 ?_ S2x1x7696x1024 _ ?_ rfl 1 ?_ (ix4 p (0 : Fin 1) h w) hi ?_
    · exact (by decide : 1 < 3)
    all_goals rfl
  | ⟨2, _⟩ =>
    refine concatenate_apply_piece (t := S2x3x7696x1024) 1 _ _ (ix4 p (2 : Fin 3) h w) 2 ?_ S2x1x7696x1024 _ ?_ rfl 2 ?_ (ix4 p (0 : Fin 1) h w) hi ?_
    · exact (by decide : 2 < 3)
    all_goals rfl

/-- The reference's result at an index: of the chip's mate `j` the row of the chip. -/
theorem exchanged_apply (X : S32x7696x1024.Idx → α) (t : Fin 4) (p : Fin 2) (j : Fin 3) (h : Fin 7696) (w : Fin 1024) :
    exchanged X (ix3 (⟨6 * t.val + 3 * p.val + j.val, by omega⟩ : Fin 24) h w)
      = X (ix3 (⟨8 * (mate t j).val + 4 * p.val + t.val, by omega⟩ : Fin 32) h w) := by
  unfold exchanged
  refine (shapeCast_apply _ _ _ (ix5 t p j h w) (by
    rw [Shape.rowMajor_val_five, Shape.rowMajor_val_three]
    show (((t.val * 2 + p.val) * 3 + j.val) * 7696 + h.val) * 1024 + w.val = ((6 * t.val + 3 * p.val + j.val) * 7696 + h.val) * 1024 + w.val
    omega)).trans ?_
  refine Eq.trans ?_ (gotten_apply X t p j h w)
  have hi : ∀ b : Fin S1x2x3x7696x1024.rank, b.cast (rfl : S1x2x3x7696x1024.rank = S4x2x3x7696x1024.rank) ≠ 0 →
      ((ix5 (0 : Fin 1) p j h w : S1x2x3x7696x1024.Idx) b).val = ((ix5 t p j h w : S4x2x3x7696x1024.Idx) (b.cast rfl)).val := by
    exact axes5 _ (fun hb => absurd rfl hb) (fun _ => rfl) (fun _ => rfl) (fun _ => rfl) (fun _ => rfl)
  match t with
  | ⟨0, _⟩ =>
    refine concatenate_apply_piece (t := S4x2x3x7696x1024) 0 _ _ (ix5 (0 : Fin 4) p j h w) 0 ?_ S1x2x3x7696x1024 _ ?_ rfl 0 ?_ (ix5 (0 : Fin 1) p j h w) hi ?_
    · exact (by decide : 0 < 4)
    all_goals rfl
  | ⟨1, _⟩ =>
    refine concatenate_apply_piece (t := S4x2x3x7696x1024) 0 _ _ (ix5 (1 : Fin 4) p j h w) 1 ?_ S1x2x3x7696x1024 _ ?_ rfl 1 ?_ (ix5 (0 : Fin 1) p j h w) hi ?_
    · exact (by decide : 1 < 4)
    all_goals rfl
  | ⟨2, _⟩ =>
    refine concatenate_apply_piece (t := S4x2x3x7696x1024) 0 _ _ (ix5 (2 : Fin 4) p j h w) 2 ?_ S1x2x3x7696x1024 _ ?_ rfl 2 ?_ (ix5 (0 : Fin 1) p j h w) hi ?_
    · exact (by decide : 2 < 4)
    all_goals rfl
  | ⟨3, _⟩ =>
    refine concatenate_apply_piece (t := S4x2x3x7696x1024) 0 _ _ (ix5 (3 : Fin 4) p j h w) 3 ?_ S1x2x3x7696x1024 _ ?_ rfl 3 ?_ (ix5 (0 : Fin 1) p j h w) hi ?_
    · exact (by decide : 3 < 4)
    all_goals rfl

theorem peer_val : ∀ (j : Fin 3) (c : Dev Cert.Kernel26Ideal.nD), (dest j c).val = 2 * (mate (chip c) j).val + c.val % 2 := by decide +kernel

/-- A device's block of the reference's result is what it receives. -/
theorem got_eq {F : FTy → Type} [FloatOps F] (m : (ℓ : Loc Cert.Kernel26Ideal.nD Cert.Kernel26Ideal.τ Cert.Kernel26Ideal.sig) → Buf (Elt F) ℓ)
    (X : S32x7696x1024.Idx → Elt F .bf16)
    (hX : ∀ c : Dev Cert.Kernel26Ideal.nD, m ((c.tc : Thread Cert.Kernel26Ideal.nD Cert.Kernel26Ideal.τ).loc Cert.Kernel26Ideal.main_arg0)
      = Layout.block ⟨3, ![4, 7696, 1024]⟩ ⟨3, ![32, 7696, 1024]⟩ 0 8 c X) (c : Dev Cert.Kernel26Ideal.nD) :
    got m c = Layout.block ⟨3, ![3, 7696, 1024]⟩ ⟨3, ![24, 7696, 1024]⟩ 0 8 c (exchanged X) := by
  funext i
  obtain ⟨j, h, w, rfl⟩ : ∃ (j : Fin 3) (h : Fin 7696) (w : Fin 1024), i = ix3 j h w := ⟨i 0, i 1, i 2, funext fun a => by match a with | ⟨0, _⟩ => rfl | ⟨1, _⟩ => rfl | ⟨2, _⟩ => rfl⟩
  have hc : c.val < 8 := c.isLt
  rw [Layout.block_apply]
  have hr : ∀ h' : Layout.Tiles ⟨3, ![3, 7696, 1024]⟩ ⟨3, ![24, 7696, 1024]⟩ 0 8, h'.idx c (ix3 j h w)
      = ix3 (⟨6 * (chip c).val + 3 * (⟨c.val % 2, by omega⟩ : Fin 2).val + j.val, by
          show 6 * (c.val / 2) + 3 * (c.val % 2) + j.val < 24; omega⟩ : Fin 24) h w := fun h' =>
    funext fun a => Fin.ext (by
      rw [Layout.Tiles.idx_val]
      match a with
      | ⟨0, _⟩ => show c.val * 3 + j.val = 6 * (c.val / 2) + 3 * (c.val % 2) + j.val; omega
      | ⟨1, _⟩ => rfl
      | ⟨2, _⟩ => rfl)
  rw [hr, exchanged_apply]
  show m (((dest j c).tc : Thread Cert.Kernel26Ideal.nD Cert.Kernel26Ideal.τ).loc Cert.Kernel26Ideal.main_arg0) (ix3 (chip c) h w) = _
  rw [hX, Layout.block_apply]
  refine congrArg X (funext fun a => Fin.ext ?_)
  rw [Layout.Tiles.idx_val]
  have hp := peer_val j c
  match a with
  | ⟨0, _⟩ =>
    show (dest j c).val * 4 + c.val / 2 = 8 * (mate (chip c) j).val + 4 * (c.val % 2) + c.val / 2
    omega
  | ⟨1, _⟩ => rfl
  | ⟨2, _⟩ => rfl

theorem ref_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v46) = exchanged (m ((c.tc : Thread nD τ).loc main_arg0))
      ∧ r.2.mem ((c.tc : Thread nD τ).loc main_arg0) = m ((c.tc : Thread nD τ).loc main_arg0) :=
  Cert.Reference26Ideal.Value.run m g

end Cert.Partials

end
-- ==== Proof.Adam.lean ====
/-
  AdamW, weight by weight: blocks of rows, the optimiser's step at every element.
-/
module

public import proofs.«01_k».proof.Defs
public import proofs.«01_k».proof.Proof.Gen.Kernel27Ideal.Value
public import proofs.«01_k».proof.Proof.Gen.Reference27Ideal.Run
public import proofs.«01_k».proof.Proof.Gen.Kernel28Ideal.Value
public import proofs.«01_k».proof.Proof.Gen.Reference28Ideal.Run
public import proofs.«01_k».proof.Proof.Gen.Kernel29Ideal.Value
public import proofs.«01_k».proof.Proof.Gen.Reference29Ideal.Run
public import proofs.«01_k».proof.Proof.Gen.Kernel30Ideal.Value
public import proofs.«01_k».proof.Proof.Gen.Reference30Ideal.Run
public import proofs.«01_k».proof.Proof.Gen.Kernel31Ideal.Value
public import proofs.«01_k».proof.Proof.Gen.Reference31Ideal.Run
public import proofs.«01_k».proof.Proof.Gen.Kernel32Ideal.Value
public import proofs.«01_k».proof.Proof.Gen.Reference32Ideal.Run
public import proofs.«01_k».proof.Proof.Gen.Kernel33Ideal.Value
public import proofs.«01_k».proof.Proof.Gen.Reference33Ideal.Run
public import proofs.«01_k».proof.Proof.Gen.Kernel34Ideal.Value
public import proofs.«01_k».proof.Proof.Gen.Reference34Ideal.Run

@[expose] public section

noncomputable section

namespace Cert.Proof

open Idealize.ShloMosaic Idealize.SL.Sem

theorem value27 : algebraic_Kernel27Ideal_Reference27Ideal (hKernel27Ideal := Cert.Kernel27Ideal.Gen.facts)
    (hReference27Ideal := Cert.Reference27Ideal.Gen.facts) := fun m g m' g' _ hargs =>
  ⟨_, _, _, Cert.Kernel27Ideal.Value.run m g, (θ_run _ _ _).mono (fun r h c => by
    obtain ⟨h0, h1, h2, h3⟩ := hargs c
    have k := h c
    rw [h0, h1, h2, h3] at k
    exact ⟨k.1.trans (funext fun _ => rfl), k.2.1.trans (funext fun _ => rfl), k.2.2.1.trans (funext fun _ => rfl), (h c).2.2.2⟩) (Cert.Reference27Ideal.Value.run m' g')⟩

theorem value28 : algebraic_Kernel28Ideal_Reference28Ideal (hKernel28Ideal := Cert.Kernel28Ideal.Gen.facts)
    (hReference28Ideal := Cert.Reference28Ideal.Gen.facts) := fun m g m' g' _ hargs =>
  ⟨_, _, _, Cert.Kernel28Ideal.Value.run m g, (θ_run _ _ _).mono (fun r h c => by
    obtain ⟨h0, h1, h2, h3⟩ := hargs c
    have k := h c
    rw [h0, h1, h2, h3] at k
    exact ⟨k.1.trans (funext fun _ => rfl), k.2.1.trans (funext fun _ => rfl), k.2.2.1.trans (funext fun _ => rfl), (h c).2.2.2⟩) (Cert.Reference28Ideal.Value.run m' g')⟩

theorem value29 : algebraic_Kernel29Ideal_Reference29Ideal (hKernel29Ideal := Cert.Kernel29Ideal.Gen.facts)
    (hReference29Ideal := Cert.Reference29Ideal.Gen.facts) := fun m g m' g' _ hargs =>
  ⟨_, _, _, Cert.Kernel29Ideal.Value.run m g, (θ_run _ _ _).mono (fun r h c => by
    obtain ⟨h0, h1, h2, h3⟩ := hargs c
    have k := h c
    rw [h0, h1, h2, h3] at k
    exact ⟨k.1.trans (funext fun _ => rfl), k.2.1.trans (funext fun _ => rfl), k.2.2.1.trans (funext fun _ => rfl), (h c).2.2.2⟩) (Cert.Reference29Ideal.Value.run m' g')⟩

theorem value30 : algebraic_Kernel30Ideal_Reference30Ideal (hKernel30Ideal := Cert.Kernel30Ideal.Gen.facts)
    (hReference30Ideal := Cert.Reference30Ideal.Gen.facts) := fun m g m' g' _ hargs =>
  ⟨_, _, _, Cert.Kernel30Ideal.Value.run m g, (θ_run _ _ _).mono (fun r h c => by
    obtain ⟨h0, h1, h2, h3⟩ := hargs c
    have k := h c
    rw [h0, h1, h2, h3] at k
    exact ⟨k.1.trans (funext fun _ => rfl), k.2.1.trans (funext fun _ => rfl), k.2.2.1.trans (funext fun _ => rfl), (h c).2.2.2⟩) (Cert.Reference30Ideal.Value.run m' g')⟩

theorem value31 : algebraic_Kernel31Ideal_Reference31Ideal (hKernel31Ideal := Cert.Kernel31Ideal.Gen.facts)
    (hReference31Ideal := Cert.Reference31Ideal.Gen.facts) := fun m g m' g' _ hargs =>
  ⟨_, _, _, Cert.Kernel31Ideal.Value.run m g, (θ_run _ _ _).mono (fun r h c => by
    obtain ⟨h0, h1, h2, h3⟩ := hargs c
    have k := h c
    rw [h0, h1, h2, h3] at k
    exact ⟨k.1.trans (funext fun _ => rfl), k.2.1.trans (funext fun _ => rfl), k.2.2.1.trans (funext fun _ => rfl), (h c).2.2.2⟩) (Cert.Reference31Ideal.Value.run m' g')⟩

theorem value32 : algebraic_Kernel32Ideal_Reference32Ideal (hKernel32Ideal := Cert.Kernel32Ideal.Gen.facts)
    (hReference32Ideal := Cert.Reference32Ideal.Gen.facts) := fun m g m' g' _ hargs =>
  ⟨_, _, _, Cert.Kernel32Ideal.Value.run m g, (θ_run _ _ _).mono (fun r h c => by
    obtain ⟨h0, h1, h2, h3⟩ := hargs c
    have k := h c
    rw [h0, h1, h2, h3] at k
    exact ⟨k.1.trans (funext fun _ => rfl), k.2.1.trans (funext fun _ => rfl), k.2.2.1.trans (funext fun _ => rfl), (h c).2.2.2⟩) (Cert.Reference32Ideal.Value.run m' g')⟩

theorem value33 : algebraic_Kernel33Ideal_Reference33Ideal (hKernel33Ideal := Cert.Kernel33Ideal.Gen.facts)
    (hReference33Ideal := Cert.Reference33Ideal.Gen.facts) := fun m g m' g' _ hargs =>
  ⟨_, _, _, Cert.Kernel33Ideal.Value.run m g, (θ_run _ _ _).mono (fun r h c => by
    obtain ⟨h0, h1, h2, h3⟩ := hargs c
    have k := h c
    rw [h0, h1, h2, h3] at k
    exact ⟨k.1.trans (funext fun _ => rfl), k.2.1.trans (funext fun _ => rfl), k.2.2.1.trans (funext fun _ => rfl), (h c).2.2.2⟩) (Cert.Reference33Ideal.Value.run m' g')⟩

theorem value34 : algebraic_Kernel34Ideal_Reference34Ideal (hKernel34Ideal := Cert.Kernel34Ideal.Gen.facts)
    (hReference34Ideal := Cert.Reference34Ideal.Gen.facts) := fun m g m' g' _ hargs =>
  ⟨_, _, _, Cert.Kernel34Ideal.Value.run m g, (θ_run _ _ _).mono (fun r h c => by
    obtain ⟨h0, h1, h2, h3⟩ := hargs c
    have k := h c
    rw [h0, h1, h2, h3] at k
    exact ⟨k.1.trans (funext fun _ => rfl), k.2.1.trans (funext fun _ => rfl), k.2.2.1.trans (funext fun _ => rfl), (h c).2.2.2⟩) (Cert.Reference34Ideal.Value.run m' g')⟩

end Cert.Proof
-- ==== Proof.Sums.lean ====
/-
  Sums over blocks of an index range.
-/
module

public import Mathlib.Data.EReal.Basic
public import Mathlib.Algebra.BigOperators.Fin
public import Mathlib.Logic.Equiv.Fin.Basic

@[expose] public section

namespace Cert.Proof.Sums

/-- A sum over `a * b` indices, block by block. -/
theorem sum_blocks {a b n : ℕ} (h : a * b = n) (f : Fin n → EReal) :
    ∑ k : Fin n, f k = ∑ s : Fin a, ∑ k : Fin b, f ⟨b * s.val + k.val, by
      subst h
      calc b * s.val + k.val < b * s.val + b := Nat.add_lt_add_left k.isLt _
        _ = b * (s.val + 1) := (Nat.mul_succ _ _).symm
        _ ≤ b * a := Nat.mul_le_mul_left _ s.isLt
        _ = a * b := Nat.mul_comm _ _⟩ := by
  subst h
  rw [← finProdFinEquiv.sum_comp, Fintype.sum_prod_type]
  refine Finset.sum_congr rfl fun s _ => Finset.sum_congr rfl fun k _ => congrArg f (Fin.ext ?_)
  simp [finProdFinEquiv, Nat.add_comm]

/-- All the indices, tile by tile, each read modulo their number. -/
theorem tiles (f : Fin 8192 → EReal) :
    (∑ s ∈ Finset.range 8, ∑ k : Fin 1024, f ⟨(1024 * s + k.val) % 8192, Nat.mod_lt _ (by decide)⟩) = ∑ k : Fin 8192, f k := by
  rw [Finset.sum_range, sum_blocks (a := 8) (b := 1024) rfl]
  exact Finset.sum_congr rfl fun s _ => Finset.sum_congr rfl fun k _ => congrArg f (Fin.ext (by dsimp only; omega))

/-- A carried element that starts at the first tile of every eight and takes each next tile's value up holds the sum of the tiles so far. -/
theorem carried {σ : Type} {N : ℕ} (v : σ → EReal) (M : ℕ → ℕ → EReal) (o : ∀ n, n < N → σ) (st : ∀ n, n < N → σ → σ) (j : σ)
    (hz : ∀ h, o 0 h = st 0 h j) (hs : ∀ n h, o (n + 1) h = st (n + 1) h (o n (Nat.lt_of_succ_lt h)))
    (step0 : ∀ (t : Fin N) a, t.val % 8 = 0 → v (st t.val t.isLt a) = M (t.val / 8) (t.val % 8))
    (step1 : ∀ (t : Fin N) a, ¬t.val % 8 = 0 → v (st t.val t.isLt a) = v a + M (t.val / 8) (t.val % 8)) :
    ∀ (n : ℕ) (h : n < N), v (o n h) = ∑ s ∈ Finset.range (n % 8 + 1), M (n / 8) s
  | 0, h => by
    rw [hz, step0 ⟨0, h⟩ _ rfl]
    simp only [Nat.zero_mod, Nat.zero_div, Nat.zero_add, Finset.sum_range_one]
  | n + 1, h => by
    rw [hs]
    by_cases h0 : (n + 1) % 8 = 0
    · rw [step0 ⟨n + 1, h⟩ _ h0]
      dsimp only
      rw [h0, Nat.zero_add, Finset.sum_range_one]
    · rw [step1 ⟨n + 1, h⟩ _ h0, carried v M o st j hz hs step0 step1 n]
      have e0 : (n + 1) / 8 = n / 8 := by omega
      have e1 : (n + 1) % 8 = n % 8 + 1 := by omega
      dsimp only
      rw [e0, e1, Finset.sum_range_succ _ (n % 8 + 1)]

end Cert.Proof.Sums
-- ==== Proof.Base.lean ====
/-
  What the calls' modules share: memory at a reference, offsets of zero, arrays agreeing block by block of rows, a normalised row.
-/
module

public import Idealize.ShloMosaic.Lib.Pipeline.ValueKit
public import Idealize.ShloMosaic.Lib.Pointwise
public import proofs.«01_k».proof.Proof.Sums

@[expose] public section

noncomputable section

namespace Cert.Proof

open Idealize.ShloMosaic Idealize.ShloMosaic.TcCoe

/-- What a memory holds on a device at a reference. -/
abbrev rd {nD : ℕ} {τ : Topo} {sig : RefSig} {V : EltTy → Type} (m : (ℓ : Loc nD τ sig) → Buf V ℓ) (c : Dev nD) (b : Ref sig .tc) :
    Buf V ((c.tc : Thread nD τ).loc b) := m ((c.tc : Thread nD τ).loc b)

theorem hz : (![0, 0] : Fin 2 → Nat) = fun _ => 0 := funext fun a => by fin_cases a <;> rfl

/-- A row of a tile lies in the array. -/
theorem row (t : ℕ) (k : Fin 1024) (h : (1024 * (t % 8) + k.val) % 8192 < 8192) :
    (⟨(1024 * (t % 8) + k.val) % 8192, h⟩ : Fin 8192) = ⟨1024 * (t % 8) + k.val, by omega⟩ := Fin.ext (by dsimp only; omega)

/-- Two arrays agreeing on every block of rows are one. -/
theorem rows_ext {R W b n : ℕ} {α : Type} (hb : 0 < b) (hR : R ≤ b * n) {A B : (⟨2, ![R, W]⟩ : Shape).Idx → α}
    (h : ∀ (t : Fin n) (i : Fin b) (j : Fin W) (hl : b * t.val + i.val < R), A (ix2 ⟨b * t.val + i.val, hl⟩ j) = B (ix2 ⟨b * t.val + i.val, hl⟩ j)) :
    A = B := by
  refine funext fun i => ?_
  rw [eq_ix2 i]
  have hr : (i 0).val < R := (i 0).isLt
  have e := Nat.div_add_mod (i 0).val b
  have hk := h ⟨(i 0).val / b, Nat.div_lt_of_lt_mul (lt_of_lt_of_le hr hR)⟩ ⟨(i 0).val % b, Nat.mod_lt _ hb⟩ (i 1) (by dsimp only; omega)
  have er : (⟨b * ((i 0).val / b) + (i 0).val % b, by omega⟩ : Fin R) = i 0 := Fin.ext e
  rw [er] at hk
  exact hk

/-- A row's normalised element. -/
def rms (f w : Fin 1024 → EReal) (j : Fin 1024) : EReal :=
  f j * Ideal.rsqrt (Ideal.div (∑ x, f x * f x) (Ideal.ofBits FTy.f32 1149239296#32) + Ideal.ofBits FTy.f32 897988541#32) * w j

end Cert.Proof
-- ==== Proof.Norm.lean ====
/-
  The first norm: blocks of 512 rows, each row by its root mean square and the gain, against the whole array.
-/
module

public import proofs.«01_k».proof.Proof.Gen.Kernel36Ideal.Value
public import proofs.«01_k».proof.Proof.Gen.Reference36Ideal.Run
public import proofs.«01_k».proof.Proof.Base

@[expose] public section

set_option maxRecDepth 16384

noncomputable section

namespace Cert.Proof.Norm

open Cert.Kernel36Ideal Cert.Kernel36Ideal.Gen
open Idealize.ShloMosaic Idealize.ShloMosaic.TcCoe
open Idealize.ShloMosaic.Pipeline (Dat)

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem t_lt (t : Fin cfg0.N) : t.val < 16 := lt_of_lt_of_eq t.isLt (show cfg0.N = 16 from N_0)

variable (m : (ℓ : Loc nD τ sig) → Buf (Elt Ideal) ℓ) (c : Dev nD)

/-- The arguments: the input, and the gain. -/
abbrev X : S8192x1024.Idx → EReal := rd m c main_arg0
abbrev W : S1x1024.Idx → EReal := rd m c main_arg1

abbrev b0 (t : Fin cfg0.N) : Vec Ideal S512x1024 .f32 := iblk m c 0 t
abbrev b1 (t : Fin cfg0.N) : Vec Ideal S1x1024 .f32 := iblk m c 1 t

theorem b0_apply (t : Fin cfg0.N) (i : Fin 512) (k : Fin 1024) :
    b0 m c t (ix2 i k) = X m c (ix2 (⟨512 * t.val + i.val, by have := t_lt t; omega⟩ : Fin 8192) k) := by
  blk_ext [b0, iblk, idx t]

theorem b1_apply (t : Fin cfg0.N) (i : Fin 1) (k : Fin 1024) : b1 m c t (ix2 i k) = W m c (ix2 i k) := by
  blk_ext [b1, iblk, idx t]

/-- The normalised rows. -/
def G (X : S8192x1024.Idx → EReal) (W : S1x1024.Idx → EReal) : S8192x1024.Idx → EReal := fun i =>
  rms (fun k => X (ix2 (i 0) k)) (fun k => W (ix2 0 k)) (i 1)

theorem pay (x0 : Vec Ideal S512x1024 .f32) (x1 : Vec Ideal S1x1024 .f32) (i : Fin 512) (j : Fin 1024) :
    out0_2 x0 x1 (ix2 i j) = rms (fun k => x0 (ix2 i k)) (fun k => x1 (ix2 0 k)) j := by
  unfold out0_2 k0_pay1 rms
  rw [View.canon_unit_zero, View.ld_unit_zero, View.ld_unit_zero]
  · pointwise
  all_goals exact funext fun a => by fin_cases a <;> rfl

theorem out : (dats m 0 c).arrAt 2 cfg0.N = G (X m c) (W m c) :=
  rows_ext (b := 512) (n := cfg0.N) (by decide) (show 8192 ≤ 512 * grid0.N by norm_num [N_0]) fun t i j hl => by
    have h := congrFun (Value.blocks2 m c t (flush0_2 t)) (ix2 i j)
    unfold Dat.flushed at h
    rw [after0_2] at h
    change _ = out0_2 (b0 m c t) (b1 m c t) (ix2 i j) at h
    rw [pay] at h
    simp only [b0_apply, b1_apply] at h
    refine Eq.trans ?_ h
    blk_ext [idx t]

end Cert.Proof.Norm

namespace Cert.Proof.Norm

open Cert.Reference36Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v12
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  refine funext fun (i : S8192x1024.Idx) => ?_
  rw [eq_ix2 i]
  generalize i 0 = a
  generalize i 1 = b
  unfold G rms
  pointwise

end Cert.Proof.Norm
-- ==== Proof.Rows.lean ====
/-
  The calls that add and normalise the residual stream's rows, the loss of a token, and the mix of the branches by their gates:
  blocks of rows against the whole arrays.
-/
module

public import proofs.«01_k».proof.Proof.Norm
public import proofs.«01_k».proof.Proof.Gen.Kernel37Ideal.Value
public import proofs.«01_k».proof.Proof.Gen.Reference37Ideal.Run
public import proofs.«01_k».proof.Proof.Gen.Kernel38Ideal.Value
public import proofs.«01_k».proof.Proof.Gen.Reference38Ideal.Run
public import proofs.«01_k».proof.Proof.Gen.Kernel39Ideal.Value
public import proofs.«01_k».proof.Proof.Gen.Reference39Ideal.Run
public import proofs.«01_k».proof.Proof.Gen.Kernel40Ideal.Value
public import proofs.«01_k».proof.Proof.Gen.Reference40Ideal.Run

@[expose] public section

set_option maxRecDepth 16384

noncomputable section

namespace Cert.Proof.AddNorm

open Cert.Kernel37Ideal Cert.Kernel37Ideal.Gen
open Idealize.ShloMosaic Idealize.ShloMosaic.TcCoe
open Idealize.ShloMosaic.Pipeline (Dat)

theorem idx : ∀ t : Fin cfg0.N, (win0_0.index t = ![t.val, 0] ∧ win0_1.index t = ![t.val, 0] ∧ win0_2.index t = ![0, 0])
    ∧ win0_3.index t = ![t.val, 0] ∧ win0_4.index t = ![t.val, 0] :=
  (by decide +kernel : ∀ t : Fin grid0.N, (win0_0.index t = ![t.val, 0] ∧ win0_1.index t = ![t.val, 0] ∧ win0_2.index t = ![0, 0])
    ∧ win0_3.index t = ![t.val, 0] ∧ win0_4.index t = ![t.val, 0])

theorem t_lt (t : Fin cfg0.N) : t.val < 16 := lt_of_lt_of_eq t.isLt (show cfg0.N = 16 from N_0)

variable (m : (ℓ : Loc nD τ sig) → Buf (Elt Ideal) ℓ) (c : Dev nD)

/-- The arguments: the stream, what is added to half, and the gain. -/
abbrev X : S8192x1024.Idx → EReal := rd m c main_arg0
abbrev Y : S8192x1024.Idx → EReal := rd m c main_arg1
abbrev W : S1x1024.Idx → EReal := rd m c main_arg2

abbrev b0 (t : Fin cfg0.N) : Vec Ideal S512x1024 .f32 := iblk m c 0 t
abbrev b1 (t : Fin cfg0.N) : Vec Ideal S512x1024 .f32 := iblk m c 1 t
abbrev b2 (t : Fin cfg0.N) : Vec Ideal S1x1024 .f32 := iblk m c 2 t

theorem b0_apply (t : Fin cfg0.N) (i : Fin 512) (k : Fin 1024) :
    b0 m c t (ix2 i k) = X m c (ix2 (⟨512 * t.val + i.val, by have := t_lt t; omega⟩ : Fin 8192) k) := by
  blk_ext [b0, iblk, idx t]

theorem b1_apply (t : Fin cfg0.N) (i : Fin 512) (k : Fin 1024) :
    b1 m c t (ix2 i k) = Y m c (ix2 (⟨512 * t.val + i.val, by have := t_lt t; omega⟩ : Fin 8192) k) := by
  blk_ext [b1, iblk, idx t]

theorem b2_apply (t : Fin cfg0.N) (i : Fin 1) (k : Fin 1024) : b2 m c t (ix2 i k) = W m c (ix2 i k) := by
  blk_ext [b2, iblk, idx t]

/-- The sum, and its normalised row. -/
def H (X Y : S8192x1024.Idx → EReal) : S8192x1024.Idx → EReal := fun i =>
  X (ix2 (i 0) (i 1)) + Ideal.ofBits FTy.f32 1056964608#32 * Y (ix2 (i 0) (i 1))

def G (X Y : S8192x1024.Idx → EReal) (W : S1x1024.Idx → EReal) : S8192x1024.Idx → EReal := fun i =>
  rms (fun k => H X Y (ix2 (i 0) k)) (fun k => W (ix2 0 k)) (i 1)

theorem pay3 (x0 x1 : Vec Ideal S512x1024 .f32) (x2 : Vec Ideal S1x1024 .f32) (i : Fin 512) (j : Fin 1024) :
    out0_3 x0 x1 x2 (ix2 i j) = x0 (ix2 i j) + Ideal.ofBits FTy.f32 1056964608#32 * x1 (ix2 i j) := by
  unfold out0_3 k0_pay1
  rw [View.canon_unit_zero, View.ld_unit_zero, View.ld_unit_zero]
  · pointwise
  all_goals exact funext fun a => by fin_cases a <;> rfl

theorem pay4 (x0 x1 : Vec Ideal S512x1024 .f32) (x2 : Vec Ideal S1x1024 .f32) (i : Fin 512) (j : Fin 1024) :
    out0_4 x0 x1 x2 (ix2 i j)
      = rms (fun k => x0 (ix2 i k) + Ideal.ofBits FTy.f32 1056964608#32 * x1 (ix2 i k)) (fun k => x2 (ix2 0 k)) j := by
  unfold out0_4 k0_pay2 k0_pay1 rms
  rw [View.canon_unit_zero, View.ld_unit_zero, View.ld_unit_zero, View.ld_unit_zero]
  · pointwise
  all_goals exact funext fun a => by fin_cases a <;> rfl

theorem out3 : (dats m 0 c).arrAt 3 cfg0.N = H (X m c) (Y m c) :=
  rows_ext (b := 512) (n := cfg0.N) (by decide) (show 8192 ≤ 512 * grid0.N by norm_num [N_0]) fun t i j hl => by
    have h := congrFun (Value.blocks3 m c t (flush0_3 t)) (ix2 i j)
    unfold Dat.flushed at h
    rw [after0_3] at h
    change _ = out0_3 (b0 m c t) (b1 m c t) (b2 m c t) (ix2 i j) at h
    rw [pay3, b0_apply, b1_apply] at h
    refine Eq.trans ?_ h
    blk_ext [idx t]

theorem out4 : (dats m 0 c).arrAt 4 cfg0.N = G (X m c) (Y m c) (W m c) :=
  rows_ext (b := 512) (n := cfg0.N) (by decide) (show 8192 ≤ 512 * grid0.N by norm_num [N_0]) fun t i j hl => by
    have h := congrFun (Value.blocks4 m c t (flush0_4 t)) (ix2 i j)
    unfold Dat.flushed at h
    rw [after0_4] at h
    change _ = out0_4 (b0 m c t) (b1 m c t) (b2 m c t) (ix2 i j) at h
    rw [pay4] at h
    simp only [b0_apply, b1_apply, b2_apply] at h
    refine Eq.trans ?_ h
    blk_ext [idx t]

end Cert.Proof.AddNorm

namespace Cert.Proof.AddNorm

open Cert.Reference37Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v2 = H (rd m c main_arg0) (rd m c main_arg1)
      ∧ rd r.2.mem c main_v15
        = G (rd m c main_arg0) (rd m c main_arg1) (rd m c main_arg2)
      ∧ rd r.2.mem c main_arg0 = rd m c main_arg0
      ∧ rd r.2.mem c main_arg1 = rd m c main_arg1
      ∧ rd r.2.mem c main_arg2 = rd m c main_arg2 := by
  refine (θ_run defs _ _).mono (fun r h c => ⟨(h c).1.trans ?_, (h c).2.1.trans ?_, (h c).2.2⟩) (Value.run m ρ)
  all_goals
    refine funext fun (i : S8192x1024.Idx) => ?_
    rw [eq_ix2 i]
    generalize i 0 = a
    generalize i 1 = b
  · unfold H
    pointwise
  · unfold G rms H
    pointwise

end Cert.Proof.AddNorm

namespace Cert.Proof

open Idealize.ShloMosaic

/-- The logistic function, and what is added under its gate. -/
def sg (x : EReal) : EReal := Ideal.div 1 (1 + Ideal.exp (-x))
def add (x p q : EReal) : EReal := x + sg p * q

end Cert.Proof

namespace Cert.Proof.Merge

open Cert.Kernel38Ideal Cert.Kernel38Ideal.Gen
open Idealize.ShloMosaic Idealize.ShloMosaic.TcCoe
open Idealize.ShloMosaic.Pipeline (Dat)

theorem idx : ∀ t : Fin cfg0.N, (win0_0.index t = ![t.val, 0] ∧ win0_1.index t = ![t.val, 0] ∧ win0_2.index t = ![t.val, 0])
    ∧ (win0_3.index t = ![t.val, 0] ∧ win0_4.index t = ![t.val, 0] ∧ win0_5.index t = ![0, 0]) ∧ win0_6.index t = ![t.val, 0] :=
  (by decide +kernel : ∀ t : Fin grid0.N, (win0_0.index t = ![t.val, 0] ∧ win0_1.index t = ![t.val, 0] ∧ win0_2.index t = ![t.val, 0])
    ∧ (win0_3.index t = ![t.val, 0] ∧ win0_4.index t = ![t.val, 0] ∧ win0_5.index t = ![0, 0]) ∧ win0_6.index t = ![t.val, 0])

theorem t_lt (t : Fin cfg0.N) : t.val < 64 := lt_of_lt_of_eq t.isLt (show cfg0.N = 64 from N_0)

variable (m : (ℓ : Loc nD τ sig) → Buf (Elt Ideal) ℓ) (c : Dev nD)

/-- The arguments: the logits, the branches, and the bias. -/
abbrev L : S8192x4096.Idx → EReal := rd m c main_arg0
abbrev Y0 : S8192x1024.Idx → EReal := rd m c main_arg1
abbrev Y1 : S8192x1024.Idx → EReal := rd m c main_arg2
abbrev Y2 : S8192x1024.Idx → EReal := rd m c main_arg3
abbrev Y3 : S8192x1024.Idx → EReal := rd m c main_arg4
abbrev B : S1x4096.Idx → EReal := rd m c main_arg5

abbrev b0 (t : Fin cfg0.N) : Vec Ideal S128x4096 .bf16 := iblk m c 0 t
abbrev b1 (t : Fin cfg0.N) : Vec Ideal S128x1024 .bf16 := iblk m c 1 t
abbrev b2 (t : Fin cfg0.N) : Vec Ideal S128x1024 .bf16 := iblk m c 2 t
abbrev b3 (t : Fin cfg0.N) : Vec Ideal S128x1024 .bf16 := iblk m c 3 t
abbrev b4 (t : Fin cfg0.N) : Vec Ideal S128x1024 .bf16 := iblk m c 4 t
abbrev b5 (t : Fin cfg0.N) : Vec Ideal S1x4096 .f32 := iblk m c 5 t

theorem b0_apply (t : Fin cfg0.N) (i : Fin 128) (k : Fin 4096) :
    b0 m c t (ix2 i k) = L m c (ix2 (⟨128 * t.val + i.val, by have := t_lt t; omega⟩ : Fin 8192) k) := by
  blk_ext [b0, iblk, idx t]

theorem by_apply (t : Fin cfg0.N) (i : Fin 128) (k : Fin 1024) :
    let r : Fin 8192 := ⟨128 * t.val + i.val, by have := t_lt t; omega⟩
    b1 m c t (ix2 i k) = Y0 m c (ix2 r k) ∧ b2 m c t (ix2 i k) = Y1 m c (ix2 r k)
      ∧ b3 m c t (ix2 i k) = Y2 m c (ix2 r k) ∧ b4 m c t (ix2 i k) = Y3 m c (ix2 r k) := by
  refine ⟨?_, ?_, ?_, ?_⟩
  · blk_ext [b1, iblk, idx t]
  · blk_ext [b2, iblk, idx t]
  · blk_ext [b3, iblk, idx t]
  · blk_ext [b4, iblk, idx t]

theorem b5_apply (t : Fin cfg0.N) (i : Fin 1) (k : Fin 4096) : b5 m c t (ix2 i k) = B m c (ix2 i k) := by
  blk_ext [b5, iblk, idx t]

/-- An element: its branches, each under its own gate. -/
def mix (l b : Fin 4096 → EReal) (y0 y1 y2 y3 : EReal) (j : Fin 1024) : EReal :=
  sg (l ⟨j.val, by omega⟩ + b ⟨j.val, by omega⟩) * y0 + sg (l ⟨1024 + j.val, by omega⟩ + b ⟨1024 + j.val, by omega⟩) * y1
    + sg (l ⟨2048 + j.val, by omega⟩ + b ⟨2048 + j.val, by omega⟩) * y2 + sg (l ⟨3072 + j.val, by omega⟩ + b ⟨3072 + j.val, by omega⟩) * y3

def G (L : S8192x4096.Idx → EReal) (Y0 Y1 Y2 Y3 : S8192x1024.Idx → EReal) (B : S1x4096.Idx → EReal) : S8192x1024.Idx → EReal := fun i =>
  mix (fun k => L (ix2 (i 0) k)) (fun k => B (ix2 0 k)) (Y0 (ix2 (i 0) (i 1))) (Y1 (ix2 (i 0) (i 1))) (Y2 (ix2 (i 0) (i 1))) (Y3 (ix2 (i 0) (i 1))) (i 1)

theorem pay (x0 : Vec Ideal S128x4096 .bf16) (x1 x2 x3 x4 : Vec Ideal S128x1024 .bf16) (x5 : Vec Ideal S1x4096 .f32) (i : Fin 128) (j : Fin 1024) :
    out0_6 x0 x1 x2 x3 x4 x5 (ix2 i j)
      = mix (fun k => x0 (ix2 i k)) (fun k => x5 (ix2 0 k)) (x1 (ix2 i j)) (x2 (ix2 i j)) (x3 (ix2 i j)) (x4 (ix2 i j)) j := by
  unfold out0_6 k0_pay1 mix sg
  rw [View.canon_unit_zero, View.ld_unit_zero, View.ld_unit_zero, View.ld_unit_zero, View.ld_unit_zero, View.ld_unit_zero, View.ld_unit_zero]
  · pointwise
    rfl
  all_goals exact funext fun a => by fin_cases a <;> rfl

theorem out : (dats m 0 c).arrAt 6 cfg0.N = G (L m c) (Y0 m c) (Y1 m c) (Y2 m c) (Y3 m c) (B m c) :=
  rows_ext (b := 128) (n := cfg0.N) (by decide) (show 8192 ≤ 128 * grid0.N by norm_num [N_0]) fun t i j hl => by
    have h := congrFun (Value.blocks6 m c t (flush0_6 t)) (ix2 i j)
    unfold Dat.flushed at h
    rw [after0_6] at h
    change _ = out0_6 (b0 m c t) (b1 m c t) (b2 m c t) (b3 m c t) (b4 m c t) (b5 m c t) (ix2 i j) at h
    obtain ⟨h1, h2, h3, h4⟩ := by_apply m c t i j
    rw [pay, h1, h2, h3, h4] at h
    simp only [b0_apply, b5_apply] at h
    refine Eq.trans ?_ h
    blk_ext [idx t]

end Cert.Proof.Merge

namespace Cert.Proof.Merge

open Cert.Reference38Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v24 = G (rd m c main_arg0) (rd m c main_arg1)
        (rd m c main_arg2) (rd m c main_arg3) (rd m c main_arg4)
        (rd m c main_arg5)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5 := by
  refine (θ_run defs _ _).mono (fun r h c => ⟨(h c).1.trans ?_, (h c).2⟩) (Value.run m ρ)
  refine funext fun (i : S8192x1024.Idx) => ?_
  rw [eq_ix2 i]
  generalize i 0 = a
  generalize i 1 = b
  unfold G mix sg
  pointwise

end Cert.Proof.Merge

namespace Cert.Proof.PleNorm

open Cert.Kernel39Ideal Cert.Kernel39Ideal.Gen
open Idealize.ShloMosaic Idealize.ShloMosaic.TcCoe
open Idealize.ShloMosaic.Pipeline (Dat)

theorem idx : ∀ t : Fin cfg0.N, (win0_0.index t = ![t.val, 0] ∧ win0_1.index t = ![t.val, 0] ∧ win0_2.index t = ![t.val, 0])
    ∧ win0_3.index t = ![0, 0] ∧ win0_4.index t = ![t.val, 0] ∧ win0_5.index t = ![t.val, 0] :=
  (by decide +kernel : ∀ t : Fin grid0.N, (win0_0.index t = ![t.val, 0] ∧ win0_1.index t = ![t.val, 0] ∧ win0_2.index t = ![t.val, 0])
    ∧ win0_3.index t = ![0, 0] ∧ win0_4.index t = ![t.val, 0] ∧ win0_5.index t = ![t.val, 0])

theorem t_lt (t : Fin cfg0.N) : t.val < 16 := lt_of_lt_of_eq t.isLt (show cfg0.N = 16 from N_0)

variable (m : (ℓ : Loc nD τ sig) → Buf (Elt Ideal) ℓ) (c : Dev nD)

/-- The arguments: the stream, the two factors of what is added, and the gain. -/
abbrev X : S8192x1024.Idx → EReal := rd m c main_arg0
abbrev P : S8192x1024.Idx → EReal := rd m c main_arg1
abbrev Q : S8192x1024.Idx → EReal := rd m c main_arg2
abbrev W : S1x1024.Idx → EReal := rd m c main_arg3

abbrev b0 (t : Fin cfg0.N) : Vec Ideal S512x1024 .f32 := iblk m c 0 t
abbrev b1 (t : Fin cfg0.N) : Vec Ideal S512x1024 .f32 := iblk m c 1 t
abbrev b2 (t : Fin cfg0.N) : Vec Ideal S512x1024 .f32 := iblk m c 2 t
abbrev b3 (t : Fin cfg0.N) : Vec Ideal S1x1024 .f32 := iblk m c 3 t

theorem bx_apply (t : Fin cfg0.N) (i : Fin 512) (k : Fin 1024) :
    let r : Fin 8192 := ⟨512 * t.val + i.val, by have := t_lt t; omega⟩
    b0 m c t (ix2 i k) = X m c (ix2 r k) ∧ b1 m c t (ix2 i k) = P m c (ix2 r k) ∧ b2 m c t (ix2 i k) = Q m c (ix2 r k) := by
  refine ⟨?_, ?_, ?_⟩
  · blk_ext [b0, iblk, idx t]
  · blk_ext [b1, iblk, idx t]
  · blk_ext [b2, iblk, idx t]

theorem bw_apply (t : Fin cfg0.N) (i : Fin 1) (k : Fin 1024) : b3 m c t (ix2 i k) = W m c (ix2 i k) := by
  blk_ext [b3, iblk, idx t]

/-- The sum, and its normalised row. -/
def H (X P Q : S8192x1024.Idx → EReal) : S8192x1024.Idx → EReal := fun i => add (X (ix2 (i 0) (i 1))) (P (ix2 (i 0) (i 1))) (Q (ix2 (i 0) (i 1)))

def G (X P Q : S8192x1024.Idx → EReal) (W : S1x1024.Idx → EReal) : S8192x1024.Idx → EReal := fun i =>
  rms (fun k => H X P Q (ix2 (i 0) k)) (fun k => W (ix2 0 k)) (i 1)

theorem pay4 (x0 x1 x2 : Vec Ideal S512x1024 .f32) (x3 : Vec Ideal S1x1024 .f32) (i : Fin 512) (j : Fin 1024) :
    out0_4 x0 x1 x2 x3 (ix2 i j) = add (x0 (ix2 i j)) (x1 (ix2 i j)) (x2 (ix2 i j)) := by
  unfold out0_4 k0_pay1 add sg
  rw [View.canon_unit_zero, View.ld_unit_zero, View.ld_unit_zero, View.ld_unit_zero]
  · pointwise
    rfl
  all_goals exact funext fun a => by fin_cases a <;> rfl

theorem pay5 (x0 x1 x2 : Vec Ideal S512x1024 .f32) (x3 : Vec Ideal S1x1024 .f32) (i : Fin 512) (j : Fin 1024) :
    out0_5 x0 x1 x2 x3 (ix2 i j) = rms (fun k => add (x0 (ix2 i k)) (x1 (ix2 i k)) (x2 (ix2 i k))) (fun k => x3 (ix2 0 k)) j := by
  unfold out0_5 k0_pay2 k0_pay1 rms add sg
  rw [View.canon_unit_zero, View.ld_unit_zero, View.ld_unit_zero, View.ld_unit_zero, View.ld_unit_zero]
  · pointwise
    rfl
  all_goals exact funext fun a => by fin_cases a <;> rfl

theorem out4 : (dats m 0 c).arrAt 4 cfg0.N = H (X m c) (P m c) (Q m c) :=
  rows_ext (b := 512) (n := cfg0.N) (by decide) (show 8192 ≤ 512 * grid0.N by norm_num [N_0]) fun t i j hl => by
    have h := congrFun (Value.blocks4 m c t (flush0_4 t)) (ix2 i j)
    unfold Dat.flushed at h
    rw [after0_4] at h
    change _ = out0_4 (b0 m c t) (b1 m c t) (b2 m c t) (b3 m c t) (ix2 i j) at h
    rw [pay4] at h
    simp only [bx_apply, bw_apply] at h
    refine Eq.trans ?_ h
    blk_ext [idx t]

theorem out5 : (dats m 0 c).arrAt 5 cfg0.N = G (X m c) (P m c) (Q m c) (W m c) :=
  rows_ext (b := 512) (n := cfg0.N) (by decide) (show 8192 ≤ 512 * grid0.N by norm_num [N_0]) fun t i j hl => by
    have h := congrFun (Value.blocks5 m c t (flush0_5 t)) (ix2 i j)
    unfold Dat.flushed at h
    rw [after0_5] at h
    change _ = out0_5 (b0 m c t) (b1 m c t) (b2 m c t) (b3 m c t) (ix2 i j) at h
    rw [pay5] at h
    simp only [bx_apply, bw_apply] at h
    refine Eq.trans ?_ h
    blk_ext [idx t]

end Cert.Proof.PleNorm

namespace Cert.Proof.PleNorm

open Cert.Reference39Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v7 = H (rd m c main_arg0) (rd m c main_arg1) (rd m c main_arg2)
      ∧ rd r.2.mem c main_v20
        = G (rd m c main_arg0) (rd m c main_arg1) (rd m c main_arg2) (rd m c main_arg3)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3 := by
  refine (θ_run defs _ _).mono (fun r h c => ⟨(h c).1.trans ?_, (h c).2.1.trans ?_, (h c).2.2⟩) (Value.run m ρ)
  all_goals
    refine funext fun (i : S8192x1024.Idx) => ?_
    rw [eq_ix2 i]
    generalize i 0 = a
    generalize i 1 = b
  · unfold H add sg
    pointwise
  · unfold G rms H add sg
    pointwise

end Cert.Proof.PleNorm

namespace Cert.Proof.Loss

open Cert.Kernel40Ideal Cert.Kernel40Ideal.Gen
open Idealize.ShloMosaic Idealize.ShloMosaic.TcCoe
open Idealize.ShloMosaic.Pipeline (Dat)

theorem idx : ∀ t : Fin cfg0.N, (win0_0.index t = ![t.val, 0] ∧ win0_1.index t = ![t.val, 0] ∧ win0_2.index t = ![t.val, 0])
    ∧ win0_3.index t = ![t.val, 0] ∧ win0_4.index t = ![0, 0] ∧ win0_5.index t = ![t.val, 0] :=
  (by decide +kernel : ∀ t : Fin grid0.N, (win0_0.index t = ![t.val, 0] ∧ win0_1.index t = ![t.val, 0] ∧ win0_2.index t = ![t.val, 0])
    ∧ win0_3.index t = ![t.val, 0] ∧ win0_4.index t = ![0, 0] ∧ win0_5.index t = ![t.val, 0])

theorem t_lt (t : Fin cfg0.N) : t.val < 16 := lt_of_lt_of_eq t.isLt (show cfg0.N = 16 from N_0)

variable (m : (ℓ : Loc nD τ sig) → Buf (Elt Ideal) ℓ) (c : Dev nD)

/-- The arguments: the stream, the two factors of what is added, the target, and the gain. -/
abbrev X : S8192x1024.Idx → EReal := rd m c main_arg0
abbrev P : S8192x1024.Idx → EReal := rd m c main_arg1
abbrev Q : S8192x1024.Idx → EReal := rd m c main_arg2
abbrev T : S8192x1024.Idx → EReal := rd m c main_arg3
abbrev W : S1x1024.Idx → EReal := rd m c main_arg4

abbrev b0 (t : Fin cfg0.N) : Vec Ideal S512x1024 .f32 := iblk m c 0 t
abbrev b1 (t : Fin cfg0.N) : Vec Ideal S512x1024 .f32 := iblk m c 1 t
abbrev b2 (t : Fin cfg0.N) : Vec Ideal S512x1024 .f32 := iblk m c 2 t
abbrev b3 (t : Fin cfg0.N) : Vec Ideal S512x1024 .f32 := iblk m c 3 t
abbrev b4 (t : Fin cfg0.N) : Vec Ideal S1x1024 .f32 := iblk m c 4 t

theorem bx_apply (t : Fin cfg0.N) (i : Fin 512) (k : Fin 1024) :
    let r : Fin 8192 := ⟨512 * t.val + i.val, by have := t_lt t; omega⟩
    b0 m c t (ix2 i k) = X m c (ix2 r k) ∧ b1 m c t (ix2 i k) = P m c (ix2 r k) ∧ b2 m c t (ix2 i k) = Q m c (ix2 r k) ∧ b3 m c t (ix2 i k) = T m c (ix2 r k) := by
  refine ⟨?_, ?_, ?_, ?_⟩
  · blk_ext [b0, iblk, idx t]
  · blk_ext [b1, iblk, idx t]
  · blk_ext [b2, iblk, idx t]
  · blk_ext [b3, iblk, idx t]

theorem bw_apply (t : Fin cfg0.N) (i : Fin 1) (k : Fin 1024) : b4 m c t (ix2 i k) = W m c (ix2 i k) := by
  blk_ext [b4, iblk, idx t]

/-- A row's loss: half its mean squared error. -/
def loss (h w t : Fin 1024 → EReal) : EReal :=
  Ideal.ofBits FTy.f32 1056964608#32 * Ideal.div (∑ x, (rms h w x - t x) * (rms h w x - t x)) (Ideal.ofBits FTy.f32 1149239296#32)

def G (X P Q T : S8192x1024.Idx → EReal) (W : S1x1024.Idx → EReal) : S8192x1.Idx → EReal := fun i =>
  loss (fun k => add (X (ix2 (i 0) k)) (P (ix2 (i 0) k)) (Q (ix2 (i 0) k))) (fun k => W (ix2 0 k)) (fun k => T (ix2 (i 0) k))

theorem pay5 (x0 x1 x2 x3 : Vec Ideal S512x1024 .f32) (x4 : Vec Ideal S1x1024 .f32) (i : Fin 512) (j : Fin 1) :
    out0_5 x0 x1 x2 x3 x4 (ix2 i j) = loss (fun k => add (x0 (ix2 i k)) (x1 (ix2 i k)) (x2 (ix2 i k))) (fun k => x4 (ix2 0 k)) (fun k => x3 (ix2 i k)) := by
  unfold out0_5 k0_pay1 loss rms add sg
  rw [View.canon_unit_zero, View.ld_unit_zero, View.ld_unit_zero, View.ld_unit_zero, View.ld_unit_zero, View.ld_unit_zero]
  · pointwise
    rfl
  all_goals exact funext fun a => by fin_cases a <;> rfl

theorem out5 : (dats m 0 c).arrAt 5 cfg0.N = G (X m c) (P m c) (Q m c) (T m c) (W m c) :=
  rows_ext (b := 512) (n := cfg0.N) (by decide) (show 8192 ≤ 512 * grid0.N by norm_num [N_0]) fun t i j hl => by
    have h := congrFun (Value.blocks5 m c t (flush0_5 t)) (ix2 i j)
    unfold Dat.flushed at h
    rw [after0_5] at h
    change _ = out0_5 (b0 m c t) (b1 m c t) (b2 m c t) (b3 m c t) (b4 m c t) (ix2 i j) at h
    rw [pay5] at h
    simp only [bx_apply, bw_apply] at h
    refine Eq.trans ?_ h
    blk_ext [idx t]

end Cert.Proof.Loss

namespace Cert.Proof.Loss

open Cert.Reference40Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v27
        = G (rd m c main_arg0) (rd m c main_arg1) (rd m c main_arg2) (rd m c main_arg3) (rd m c main_arg4)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4 := by
  refine (θ_run defs _ _).mono (fun r h c => ⟨(h c).1.trans ?_, (h c).2⟩) (Value.run m ρ)
  all_goals
    refine funext fun (i : S8192x1.Idx) => ?_
    rw [eq_ix2 i]
    generalize i 0 = a
    generalize i 1 = b
  unfold G loss rms add sg
  pointwise

end Cert.Proof.Loss
-- ==== Proof.SumDev.lean ====
/-
  The sum of the small gradients over the devices: blocks of 8 rows of all devices, against the whole array.
-/
module

public import proofs.«01_k».proof.Proof.Gen.Kernel35Ideal.Value
public import proofs.«01_k».proof.Proof.Gen.Reference35Ideal.Run
public import proofs.«01_k».proof.Proof.Base

@[expose] public section

set_option maxRecDepth 16384

noncomputable section

namespace Cert.Proof.SumDev

open Cert.Kernel35Ideal Cert.Kernel35Ideal.Gen
open Idealize.ShloMosaic Idealize.ShloMosaic.TcCoe
open Idealize.ShloMosaic.Pipeline (Dat)

theorem idx : ∀ t : Fin cfg0.N, win0_0.index t = ![0, t.val, 0] ∧ win0_1.index t = ![t.val, 0] :=
  (by decide +kernel : ∀ t : Fin grid0.N, win0_0.index t = ![0, t.val, 0] ∧ win0_1.index t = ![t.val, 0])

theorem t_lt (t : Fin cfg0.N) : t.val < 54 := lt_of_lt_of_eq t.isLt (show cfg0.N = 54 from N_0)

variable (m : (ℓ : Loc nD τ sig) → Buf (Elt Ideal) ℓ) (c : Dev nD)

/-- The gathered gradients, a device's a slab. -/
abbrev X : S8x432x1024.Idx → EReal := rd m c main_arg0

abbrev b0 (t : Fin cfg0.N) : Vec Ideal S8x8x1024 .f32 := iblk m c 0 t

theorem b0_apply (t : Fin cfg0.N) (d i : Fin 8) (k : Fin 1024) :
    b0 m c t (ix3 d i k) = X m c (ix3 d (⟨8 * t.val + i.val, by have := t_lt t; omega⟩ : Fin 432) k) := by
  blk_ext [b0, iblk, idx t]

/-- The sum over the devices. -/
def G (X : S8x432x1024.Idx → EReal) : S432x1024.Idx → EReal := fun i => ∑ d : Fin 8, X (ix3 d (i 0) (i 1))

theorem pay (x : Vec Ideal S8x8x1024 .f32) (i : Fin 8) (j : Fin 1024) :
    out0_1 x (ix2 i j) = ∑ d : Fin 8, x (ix3 d i j) := by
  unfold out0_1 k0_pay1
  rw [View.canon_unit_zero, Fin.sum_univ_eight]
  · pointwise
  all_goals exact funext fun a => by fin_cases a <;> rfl

theorem out : (dats m 0 c).arrAt 1 cfg0.N = G (X m c) :=
  rows_ext (b := 8) (n := cfg0.N) (by decide) (show 432 ≤ 8 * grid0.N by norm_num [N_0]) fun t i j hl => by
    have h := congrFun (Value.blocks1 m c t (flush0_1 t)) (ix2 i j)
    unfold Dat.flushed at h
    rw [after0_1] at h
    change _ = out0_1 (b0 m c t) (ix2 i j) at h
    rw [pay] at h
    simp only [b0_apply] at h
    refine Eq.trans ?_ h
    blk_ext [idx t]

end Cert.Proof.SumDev

namespace Cert.Proof.SumDev

open Cert.Reference35Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v0 = G (rd m c main_arg0)
      ∧ rd r.2.mem c main_arg0 = rd m c main_arg0 := by
  refine (θ_run defs _ _).mono (fun r h c => ⟨(h c).1.trans ?_, (h c).2⟩) (Value.run m ρ)
  refine funext fun (i : S432x1024.Idx) => ?_
  rw [eq_ix2 i]
  generalize i 0 = a
  generalize i 1 = b
  unfold G
  pointwise

end Cert.Proof.SumDev
-- ==== Proof.FIn.lean ====
/-
  The first product of the FFN with its gate, silu(gate) * up: shard by shard, against one product with the shards side
  by side and the gate on the whole.
-/
module

public import proofs.«01_k».proof.Proof.Gen.Kernel2Ideal.Value
public import proofs.«01_k».proof.Proof.Gen.Reference2Ideal.Run
public import proofs.«01_k».proof.Proof.Base

@[expose] public section

set_option maxRecDepth 16384

noncomputable section

namespace Cert.Proof.FIn

open Cert.Kernel2Ideal Cert.Kernel2Ideal.Gen
open Idealize.ShloMosaic Idealize.ShloMosaic.TcCoe
open Idealize.ShloMosaic.Pipeline (Dat)

/-- Where the blocks lie. -/
theorem idx : ∀ t : Fin cfg0.N, win0_0.index t = ![t.val, 0] ∧ win0_1.index t = ![0, 0, 0, 0] ∧ win0_2.index t = ![t.val, 0] ∧ win0_3.index t = ![t.val, 0] :=
  (by decide +kernel : ∀ t : Fin grid0.N, win0_0.index t = ![t.val, 0] ∧ win0_1.index t = ![0, 0, 0, 0] ∧ win0_2.index t = ![t.val, 0] ∧ win0_3.index t = ![t.val, 0])

theorem t_lt (t : Fin cfg0.N) : t.val < 32 := lt_of_lt_of_eq t.isLt (show cfg0.N = 32 from N_0)

variable (m : (ℓ : Loc nD τ sig) → Buf (Elt Ideal) ℓ) (c : Dev nD)

/-- The arguments. -/
abbrev A : S8192x1024.Idx → EReal := rd m c main_arg0
abbrev B : S4x2x1024x1408.Idx → EReal := rd m c main_arg1

abbrev b0 (t : Fin cfg0.N) : Vec Ideal S256x1024 .bf16 := iblk m c 0 t
abbrev b1 (t : Fin cfg0.N) : Vec Ideal S4x1x1024x1408 .bf16 := iblk m c 1 t

theorem b0_apply (t : Fin cfg0.N) (i : Fin 256) (k : Fin 1024) :
    b0 m c t (ix2 i k) = A m c (ix2 (⟨256 * t.val + i.val, by have := t_lt t; omega⟩ : Fin 8192) k) := by
  blk_ext [b0, iblk, idx t]

theorem b1_apply (t : Fin cfg0.N) (s : Fin 4) (k : Fin 1024) (j : Fin 1408) :
    b1 m c t (ix4 s (0 : Fin 1) k j) = B m c (ix4 s (0 : Fin 2) k j) := by
  blk_ext [b1, iblk, idx t]

/-- The logistic function. -/
def sg (x : EReal) : EReal := Ideal.div 1 (1 + Ideal.exp (-x))

/-- A row's product with a column of a shard. -/
def Zc (X : Fin 1024 → EReal) (W : Fin 4 → Fin 1024 → Fin 1408 → EReal) (s : Fin 4) (j : Fin 1408) : EReal := ∑ k : Fin 1024, X k * W s k j

/-- The gate, from shards 0 and 2, or 1 and 3. -/
def act (g u : EReal) : EReal := g * sg g * u

/-- A row's products with all the shards, and its activation. -/
def zrow (X : Fin 1024 → EReal) (W : Fin 4 → Fin 1024 → Fin 1408 → EReal) (j : Fin 5632) : EReal :=
  Zc X W ⟨j.val / 1408, by omega⟩ ⟨j.val % 1408, by omega⟩
def arow (X : Fin 1024 → EReal) (W : Fin 4 → Fin 1024 → Fin 1408 → EReal) (j : Fin 2816) : EReal :=
  act (zrow X W ⟨j.val, by omega⟩) (zrow X W ⟨2816 + j.val, by omega⟩)

def GZ (A : S8192x1024.Idx → EReal) (B : S4x2x1024x1408.Idx → EReal) : S8192x5632.Idx → EReal := fun i =>
  zrow (fun k => A (ix2 (i 0) k)) (fun s k j => B (ix4 s (0 : Fin 2) k j)) (i 1)
def GA (A : S8192x1024.Idx → EReal) (B : S4x2x1024x1408.Idx → EReal) : S8192x2816.Idx → EReal := fun i =>
  arow (fun k => A (ix2 (i 0) k)) (fun s k j => B (ix4 s (0 : Fin 2) k j)) (i 1)

theorem zrow_at (X : Fin 1024 → EReal) (W : Fin 4 → Fin 1024 → Fin 1408 → EReal) (j : Fin 5632) (s : Fin 4) (b : Fin 1408)
    (h : j.val = 1408 * s.val + b.val) : zrow X W j = Zc X W s b := by
  unfold zrow
  have e0 : (⟨j.val / 1408, by omega⟩ : Fin 4) = s := Fin.ext (by dsimp only; omega)
  have e1 : (⟨j.val % 1408, by omega⟩ : Fin 1408) = b := Fin.ext (by dsimp only; omega)
  rw [e0, e1]

section
variable (x0 : Vec Ideal S256x1024 .bf16) (x1 : Vec Ideal S4x1x1024x1408 .bf16)

abbrev X (i : Fin 256) : Fin 1024 → EReal := fun k => x0 (ix2 i k)
abbrev W : Fin 4 → Fin 1024 → Fin 1408 → EReal := fun s k j => x1 (ix4 s (0 : Fin 1) k j)

theorem p0 (a : Fin 256) (b : Fin 1408) : k0_pay2 (View.ld x0 r0_0) (View.ld x1 r0_1) (ix2 a b) = Zc (X x0 a) (W x1) 0 b := by
  unfold k0_pay2 Zc
  pointwise
theorem p2 (a : Fin 256) (b : Fin 1408) : k0_pay3 (View.ld x0 r0_0) (View.ld x1 r0_2) (ix2 a b) = Zc (X x0 a) (W x1) 2 b := by
  unfold k0_pay3 Zc
  pointwise
theorem p1 (a : Fin 256) (b : Fin 1408) : k0_pay7 (View.ld x0 r0_0) (View.ld x1 r0_6) (ix2 a b) = Zc (X x0 a) (W x1) 1 b := by
  unfold k0_pay7 Zc
  pointwise
theorem p3 (a : Fin 256) (b : Fin 1408) : k0_pay8 (View.ld x0 r0_0) (View.ld x1 r0_7) (ix2 a b) = Zc (X x0 a) (W x1) 3 b := by
  unfold k0_pay8 Zc
  pointwise

theorem q1 (a : Fin 256) (b : Fin 1408) :
    k0_pay1 (k0_pay7 (View.ld x0 r0_0) (View.ld x1 r0_6)) (k0_pay8 (View.ld x0 r0_0) (View.ld x1 r0_7)) (ix2 a b)
      = act (Zc (X x0 a) (W x1) 1 b) (Zc (X x0 a) (W x1) 3 b) := by
  rw [← p1, ← p3]
  rfl
theorem q0 (a : Fin 256) (b : Fin 1408) :
    k0_pay6 (View.ld x0 r0_0) (View.ld x1 r0_1) (View.ld x1 r0_2) (ix2 a b)
      = act (Zc (X x0 a) (W x1) 0 b) (Zc (X x0 a) (W x1) 2 b) := by
  rw [← p0, ← p2]
  rfl

theorem pay_z (i : S256x5632.Idx) : out0_2 x0 x1 i = zrow (X x0 (i 0)) (W x1) (i 1) := by
  unfold out0_2
  refine View.canon_apply_of_pieces (Val := Elt Ideal) (S := S256x5632) (e := .bf16) (fun i => zrow (X x0 (i 0)) (W x1) (i 1)) _ ?_ i (cover0_2 _ _ _ _ i)
  intro pc hpc
  rcases List.mem_cons.mp hpc with rfl | hpc
  · refine fun (x : S256x1408.Idx) => ?_
    rw [eq_ix2 x]
    generalize x 0 = a
    generalize x 1 = b
    refine (p3 x0 x1 a b).trans (Eq.symm ?_)
    have e0 : r0_9.emb (ix2 a b) 0 = a := Fin.ext (by show 0 + 1 * a.val = a.val; omega)
    exact (congrArg (fun q : Fin 256 => zrow (X x0 q) (W x1) (r0_9.emb (ix2 a b) 1)) e0).trans (zrow_at _ _ _ 3 b (by show 4224 + 1 * b.val = 1408 * 3 + b.val; omega))
  rcases List.mem_cons.mp hpc with rfl | hpc
  · refine fun (x : S256x1408.Idx) => ?_
    rw [eq_ix2 x]
    generalize x 0 = a
    generalize x 1 = b
    refine (p1 x0 x1 a b).trans (Eq.symm ?_)
    have e0 : r0_8.emb (ix2 a b) 0 = a := Fin.ext (by show 0 + 1 * a.val = a.val; omega)
    exact (congrArg (fun q : Fin 256 => zrow (X x0 q) (W x1) (r0_8.emb (ix2 a b) 1)) e0).trans (zrow_at _ _ _ 1 b (by show 1408 + 1 * b.val = 1408 * 1 + b.val; omega))
  rcases List.mem_cons.mp hpc with rfl | hpc
  · refine fun (x : S256x1408.Idx) => ?_
    rw [eq_ix2 x]
    generalize x 0 = a
    generalize x 1 = b
    refine (p2 x0 x1 a b).trans (Eq.symm ?_)
    have e0 : r0_4.emb (ix2 a b) 0 = a := Fin.ext (by show 0 + 1 * a.val = a.val; omega)
    exact (congrArg (fun q : Fin 256 => zrow (X x0 q) (W x1) (r0_4.emb (ix2 a b) 1)) e0).trans (zrow_at _ _ _ 2 b (by show 2816 + 1 * b.val = 1408 * 2 + b.val; omega))
  rcases List.mem_cons.mp hpc with rfl | hpc
  · refine fun (x : S256x1408.Idx) => ?_
    rw [eq_ix2 x]
    generalize x 0 = a
    generalize x 1 = b
    refine (p0 x0 x1 a b).trans (Eq.symm ?_)
    have e0 : r0_3.emb (ix2 a b) 0 = a := Fin.ext (by show 0 + 1 * a.val = a.val; omega)
    exact (congrArg (fun q : Fin 256 => zrow (X x0 q) (W x1) (r0_3.emb (ix2 a b) 1)) e0).trans (zrow_at _ _ _ 0 b (by show 0 + 1 * b.val = 1408 * 0 + b.val; omega))
  nomatch hpc

theorem act_at (a : Fin 256) (j : Fin 2816) (s u : Fin 4) (b : Fin 1408) (h : j.val = 1408 * s.val + b.val) (hu : u.val = s.val + 2) :
    arow (X x0 a) (W x1) j = act (Zc (X x0 a) (W x1) s b) (Zc (X x0 a) (W x1) u b) := by
  unfold arow
  rw [zrow_at _ _ _ s b h, zrow_at _ _ _ u b (by dsimp only; omega)]

theorem pay_a (i : S256x2816.Idx) : out0_3 x0 x1 i = arow (X x0 (i 0)) (W x1) (i 1) := by
  unfold out0_3
  refine View.canon_apply_of_pieces (Val := Elt Ideal) (S := S256x2816) (e := .bf16) (fun i => arow (X x0 (i 0)) (W x1) (i 1)) _ ?_ i (cover0_3 _ _ i)
  intro pc hpc
  rcases List.mem_cons.mp hpc with rfl | hpc
  · refine fun (x : S256x1408.Idx) => ?_
    rw [eq_ix2 x]
    generalize x 0 = a
    generalize x 1 = b
    have e0 : r0_10.emb (ix2 a b) 0 = a := Fin.ext (by show 0 + 1 * a.val = a.val; omega)
    refine Eq.trans ?_ ((congrArg (fun q : Fin 256 => arow (X x0 q) (W x1) (r0_10.emb (ix2 a b) 1)) e0).trans (act_at x0 x1 a _ 1 3 b (by show 1408 + 1 * b.val = 1408 * 1 + b.val; omega) rfl)).symm
    exact q1 x0 x1 a b
  rcases List.mem_cons.mp hpc with rfl | hpc
  · refine fun (x : S256x1408.Idx) => ?_
    rw [eq_ix2 x]
    generalize x 0 = a
    generalize x 1 = b
    have e0 : r0_5.emb (ix2 a b) 0 = a := Fin.ext (by show 0 + 1 * a.val = a.val; omega)
    refine Eq.trans ?_ ((congrArg (fun q : Fin 256 => arow (X x0 q) (W x1) (r0_5.emb (ix2 a b) 1)) e0).trans (act_at x0 x1 a _ 0 2 b (by show 0 + 1 * b.val = 1408 * 0 + b.val; omega) rfl)).symm
    exact q0 x0 x1 a b
  nomatch hpc

end

theorem out2_apply (t : Fin cfg0.N) (i : Fin 256) (j : Fin 5632) :
    (dats m 0 c).arrAt 2 cfg0.N (ix2 (⟨256 * t.val + i.val, by have := t_lt t; omega⟩ : Fin 8192) j)
      = out0_2 (b0 m c t) (b1 m c t) (ix2 i j) := by
  have h := congrFun (Value.blocks2 m c t (flush0_2 t)) (ix2 i j)
  unfold Dat.flushed at h
  rw [after0_2] at h
  refine Eq.trans ?_ h
  blk_ext [idx t]

theorem out3_apply (t : Fin cfg0.N) (i : Fin 256) (j : Fin 2816) :
    (dats m 0 c).arrAt 3 cfg0.N (ix2 (⟨256 * t.val + i.val, by have := t_lt t; omega⟩ : Fin 8192) j)
      = out0_3 (b0 m c t) (b1 m c t) (ix2 i j) := by
  have h := congrFun (Value.blocks3 m c t (flush0_3 t)) (ix2 i j)
  unfold Dat.flushed at h
  rw [after0_3] at h
  refine Eq.trans ?_ h
  blk_ext [idx t]

theorem out2' (r : Fin 8192) (j : Fin 5632) : (dats m 0 c).arrAt 2 cfg0.N (ix2 r j) = GZ (A m c) (B m c) (ix2 r j) := by
  have hlt : r.val / 256 < cfg0.N := lt_of_lt_of_eq (by omega) (show cfg0.N = 32 from N_0).symm
  have e := out2_apply m c ⟨r.val / 256, hlt⟩ ⟨r.val % 256, by omega⟩ j
  have er : (⟨256 * (r.val / 256) + r.val % 256, by omega⟩ : Fin 8192) = r := Fin.ext (Nat.div_add_mod _ _)
  dsimp only at e
  rw [er] at e
  refine e.trans ((pay_z _ _ _).trans ?_)
  show zrow (fun k => b0 m c ⟨r.val / 256, hlt⟩ (ix2 (⟨r.val % 256, by omega⟩ : Fin 256) k)) (fun s k j => b1 m c ⟨r.val / 256, hlt⟩ (ix4 s (0 : Fin 1) k j)) j
    = zrow (fun k => A m c (ix2 r k)) (fun s k j => B m c (ix4 s (0 : Fin 2) k j)) j
  simp only [b0_apply, b1_apply]
  rw [er]

theorem out3' (r : Fin 8192) (j : Fin 2816) : (dats m 0 c).arrAt 3 cfg0.N (ix2 r j) = GA (A m c) (B m c) (ix2 r j) := by
  have hlt : r.val / 256 < cfg0.N := lt_of_lt_of_eq (by omega) (show cfg0.N = 32 from N_0).symm
  have e := out3_apply m c ⟨r.val / 256, hlt⟩ ⟨r.val % 256, by omega⟩ j
  have er : (⟨256 * (r.val / 256) + r.val % 256, by omega⟩ : Fin 8192) = r := Fin.ext (Nat.div_add_mod _ _)
  dsimp only at e
  rw [er] at e
  refine e.trans ((pay_a _ _ _).trans ?_)
  show arow (fun k => b0 m c ⟨r.val / 256, hlt⟩ (ix2 (⟨r.val % 256, by omega⟩ : Fin 256) k)) (fun s k j => b1 m c ⟨r.val / 256, hlt⟩ (ix4 s (0 : Fin 1) k j)) j
    = arow (fun k => A m c (ix2 r k)) (fun s k j => B m c (ix4 s (0 : Fin 2) k j)) j
  simp only [b0_apply, b1_apply]
  rw [er]

theorem out2 : (dats m 0 c).arrAt 2 cfg0.N = GZ (A m c) (B m c) :=
  funext fun (i : S8192x5632.Idx) => by rw [eq_ix2 i]; exact out2' m c _ _

theorem out3 : (dats m 0 c).arrAt 3 cfg0.N = GA (A m c) (B m c) :=
  funext fun (i : S8192x2816.Idx) => by rw [eq_ix2 i]; exact out3' m c _ _

end Cert.Proof.FIn

namespace Cert.Proof.FIn

open Cert.Reference2Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v7
        = GZ (rd m c main_arg0) (rd m c main_arg1)
      ∧ rd r.2.mem c main_v12
        = GA (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2.1.trans ?_, (h c).2.2⟩) (Value.run m ρ)
  · refine funext fun (i : S8192x5632.Idx) => ?_
    unfold GZ zrow Zc
    pointwise
  · refine funext fun (i : S8192x2816.Idx) => ?_
    unfold GA arow act sg zrow Zc
    pointwise

end Cert.Proof.FIn
-- ==== Proof.FOut.lean ====
/-
  The second product of the FFN, block by block, and the same product written plainly.
-/
module

public import proofs.«01_k».proof.Proof.Gen.Kernel3Ideal.Value
public import proofs.«01_k».proof.Proof.Gen.Reference3Ideal.Run
public import proofs.«01_k».proof.Proof.Base

@[expose] public section

set_option maxRecDepth 16384

noncomputable section

namespace Cert.Proof.FOut

open Cert.Kernel3Ideal Cert.Kernel3Ideal.Gen
open Idealize.ShloMosaic Idealize.ShloMosaic.TcCoe
open Idealize.ShloMosaic.Pipeline (Dat)

/-- Where the blocks lie. -/
theorem idx : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])

theorem t_lt (t : Fin cfg0.N) : t.val < 16 := lt_of_lt_of_eq t.isLt (show cfg0.N = 16 from N_0)

variable (m : (ℓ : Loc nD τ sig) → Buf (Elt Ideal) ℓ) (c : Dev nD)

/-- The arguments. -/
abbrev A : S8192x2816.Idx → EReal := rd m c main_arg0
abbrev B : S2x2816x1024.Idx → EReal := rd m c main_arg1

abbrev b0 (t : Fin cfg0.N) : Vec Ideal S512x2816 .bf16 := iblk m c 0 t
abbrev b1 (t : Fin cfg0.N) : Vec Ideal S1x2816x1024 .bf16 := iblk m c 1 t

theorem b0_apply (t : Fin cfg0.N) (i : Fin 512) (k : Fin 2816) :
    b0 m c t (ix2 i k) = A m c (ix2 (⟨512 * t.val + i.val, by have := t_lt t; omega⟩ : Fin 8192) k) := by
  blk_ext [b0, iblk, idx t]

theorem b1_apply (t : Fin cfg0.N) (k : Fin 2816) (j : Fin 1024) :
    b1 m c t (ix3 (0 : Fin 1) k j) = B m c (ix3 (0 : Fin 2) k j) := by
  blk_ext [b1, iblk, idx t]

/-- The product. -/
def G (A : S8192x2816.Idx → EReal) (B : S2x2816x1024.Idx → EReal) : S8192x1024.Idx → EReal := fun i =>
  ∑ k : Fin 2816, A (ix2 (i 0) k) * B (ix3 (0 : Fin 2) k (i 1))

theorem pay (x0 : Vec Ideal S512x2816 .bf16) (x1 : Vec Ideal S1x2816x1024 .bf16) (i : Fin 512) (j : Fin 1024) :
    out0_2 x0 x1 (ix2 i j) = ∑ k : Fin 2816, (x0 (ix2 i k) * x1 (ix3 (0 : Fin 1) k j) : EReal) := by
  unfold out0_2 k0_pay1
  rw [View.canon_unit_zero, View.ld_unit_zero, View.ld_unit_zero]
  · pointwise
  all_goals exact funext fun a => by fin_cases a <;> rfl

theorem out : (dats m 0 c).arrAt 2 cfg0.N = G (A m c) (B m c) :=
  rows_ext (b := 512) (n := cfg0.N) (by decide) (show 8192 ≤ 512 * grid0.N by norm_num [N_0]) fun t i j hl => by
    have h := congrFun (Value.blocks2 m c t (flush0_2 t)) (ix2 i j)
    unfold Dat.flushed at h
    rw [after0_2] at h
    change _ = out0_2 (b0 m c t) (b1 m c t) (ix2 i j) at h
    rw [pay] at h
    simp only [b0_apply, b1_apply] at h
    refine Eq.trans ?_ h
    blk_ext [idx t]

end Cert.Proof.FOut

namespace Cert.Proof.FOut

open Cert.Reference3Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v4
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  funext i
  unfold G
  pointwise

end Cert.Proof.FOut
-- ==== Proof.FOutDa.lean ====
/-
  The backward of the second product of the FFN with respect to its activation.
-/
module

public import proofs.«01_k».proof.Proof.Gen.Kernel4Ideal.Value
public import proofs.«01_k».proof.Proof.Gen.Reference4Ideal.Run
public import proofs.«01_k».proof.Proof.Base

@[expose] public section

set_option maxRecDepth 16384

noncomputable section

namespace Cert.Proof.FOutDa

open Cert.Kernel4Ideal Cert.Kernel4Ideal.Gen
open Idealize.ShloMosaic Idealize.ShloMosaic.TcCoe
open Idealize.ShloMosaic.Pipeline (Dat)

/-- Where the blocks lie. -/
theorem idx : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])

theorem t_lt (t : Fin cfg0.N) : t.val < 16 := lt_of_lt_of_eq t.isLt (show cfg0.N = 16 from N_0)

variable (m : (ℓ : Loc nD τ sig) → Buf (Elt Ideal) ℓ) (c : Dev nD)

/-- The arguments. -/
abbrev A : S8192x1024.Idx → EReal := rd m c main_arg0
abbrev B : S2x2816x1024.Idx → EReal := rd m c main_arg1

abbrev b0 (t : Fin cfg0.N) : Vec Ideal S512x1024 .f32 := iblk m c 0 t
abbrev b1 (t : Fin cfg0.N) : Vec Ideal S1x2816x1024 .bf16 := iblk m c 1 t

theorem b0_apply (t : Fin cfg0.N) (i : Fin 512) (k : Fin 1024) :
    b0 m c t (ix2 i k) = A m c (ix2 (⟨512 * t.val + i.val, by have := t_lt t; omega⟩ : Fin 8192) k) := by
  blk_ext [b0, iblk, idx t]

theorem b1_apply (t : Fin cfg0.N) (k : Fin 2816) (j : Fin 1024) :
    b1 m c t (ix3 (0 : Fin 1) k j) = B m c (ix3 (0 : Fin 2) k j) := by
  blk_ext [b1, iblk, idx t]

/-- The product. -/
def G (A : S8192x1024.Idx → EReal) (B : S2x2816x1024.Idx → EReal) : S8192x2816.Idx → EReal := fun i =>
  ∑ k : Fin 1024, A (ix2 (i 0) k) * B (ix3 (0 : Fin 2) (i 1) k)

theorem pay (x0 : Vec Ideal S512x1024 .f32) (x1 : Vec Ideal S1x2816x1024 .bf16) (i : Fin 512) (j : Fin 2816) :
    out0_2 x0 x1 (ix2 i j) = ∑ k : Fin 1024, (x0 (ix2 i k) * x1 (ix3 (0 : Fin 1) j k) : EReal) := by
  unfold out0_2 k0_pay1
  rw [View.canon_unit_zero, View.ld_unit_zero, View.ld_unit_zero]
  · pointwise
  all_goals exact funext fun a => by fin_cases a <;> rfl

theorem out : (dats m 0 c).arrAt 2 cfg0.N = G (A m c) (B m c) :=
  rows_ext (b := 512) (n := cfg0.N) (by decide) (show 8192 ≤ 512 * grid0.N by norm_num [N_0]) fun t i j hl => by
    have h := congrFun (Value.blocks2 m c t (flush0_2 t)) (ix2 i j)
    unfold Dat.flushed at h
    rw [after0_2] at h
    change _ = out0_2 (b0 m c t) (b1 m c t) (ix2 i j) at h
    rw [pay] at h
    simp only [b0_apply, b1_apply] at h
    refine Eq.trans ?_ h
    blk_ext [idx t]

end Cert.Proof.FOutDa

namespace Cert.Proof.FOutDa

open Cert.Reference4Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v6
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  funext i
  unfold G
  pointwise

end Cert.Proof.FOutDa
-- ==== Proof.FOutDw.lean ====
/-
  The backward of the second product of the FFN with respect to its weights: accumulated over eight tiles of rows in a
  buffer the grid carries, against one product over all the rows.
-/
module

public import proofs.«01_k».proof.Proof.Gen.Kernel5Ideal.Value
public import proofs.«01_k».proof.Proof.Gen.Reference5Ideal.Run
public import proofs.«01_k».proof.Proof.Base

@[expose] public section

set_option maxRecDepth 16384

noncomputable section

namespace Cert.Proof.FOutDw

open Cert.Kernel5Ideal Cert.Kernel5Ideal.Gen
open Idealize.ShloMosaic Idealize.ShloMosaic.TcCoe
open Idealize.ShloMosaic.Pipeline (Dat)

/-- Where the blocks lie. -/
theorem idx : ∀ t : Fin cfg0.N, win0_0.index t = ![t.val % 8, t.val / 8] ∧ win0_1.index t = ![t.val % 8, 0] :=
  (by decide +kernel : ∀ t : Fin grid0.N, win0_0.index t = ![t.val % 8, t.val / 8] ∧ win0_1.index t = ![t.val % 8, 0])

theorem t_lt (t : Fin cfg0.N) : t.val < 16 := lt_of_lt_of_eq t.isLt (show cfg0.N = 16 from N_0)

variable (m : (ℓ : Loc nD τ sig) → Buf (Elt Ideal) ℓ) (c : Dev nD)

/-- The arguments. -/
abbrev A : S8192x2816.Idx → EReal := rd m c main_arg0
abbrev B : S8192x1024.Idx → EReal := rd m c main_arg1

abbrev b0 (t : Fin cfg0.N) : Vec Ideal S1024x1408 .bf16 := iblk m c 0 t
abbrev b1 (t : Fin cfg0.N) : Vec Ideal S1024x1024 .f32 := iblk m c 1 t

theorem b0_apply (t : Fin cfg0.N) (k : Fin 1024) (i : Fin 1408) :
    b0 m c t (ix2 k i) = A m c (ix2 (⟨(1024 * (t.val % 8) + k.val) % 8192, by omega⟩ : Fin 8192) (⟨(1408 * (t.val / 8) + i.val) % 2816, by omega⟩ : Fin 2816)) := by
  have e1 : (⟨(1408 * (t.val / 8) + i.val) % 2816, by omega⟩ : Fin 2816) = ⟨1408 * (t.val / 8) + i.val, by have := t_lt t; omega⟩ := Fin.ext (by have := t_lt t; dsimp only; omega)
  rw [row, e1]
  blk_ext [b0, iblk, idx t]

theorem b1_apply (t : Fin cfg0.N) (k : Fin 1024) (j : Fin 1024) :
    b1 m c t (ix2 k j) = B m c (ix2 (⟨(1024 * (t.val % 8) + k.val) % 8192, by omega⟩ : Fin 8192) j) := by
  rw [row]
  blk_ext [b1, iblk, idx t]

/-- The product over the rows, tile by tile. -/
def M (A : S8192x2816.Idx → EReal) (B : S8192x1024.Idx → EReal) (q : ℕ) (s : ℕ) (i : Fin 1408) (j : Fin 1024) : EReal :=
  ∑ k : Fin 1024, A (ix2 (⟨(1024 * s + k.val) % 8192, by omega⟩ : Fin 8192) (⟨(1408 * q + i.val) % 2816, by omega⟩ : Fin 2816))
    * B (ix2 (⟨(1024 * s + k.val) % 8192, by omega⟩ : Fin 8192) j)

def G (A : S8192x2816.Idx → EReal) (B : S8192x1024.Idx → EReal) : S2816x1024.Idx → EReal := fun i =>
  ∑ k : Fin 8192, A (ix2 k (i 0)) * B (ix2 k (i 1))

theorem pay (s : Vec Ideal S1408x1024 .f32) (x : Vec Ideal S1024x1408 .bf16) (y : Vec Ideal S1024x1024 .f32) (i : Fin 1408) (j : Fin 1024) :
    k0_pay2 s x y (ix2 i j) = (s (ix2 i j) + ∑ k : Fin 1024, (x (ix2 k i) * y (ix2 k j) : EReal) : EReal) := by
  unfold k0_pay2
  pointwise

theorem pay0 (i : Fin 1408) (j : Fin 1024) : (k0_pay1 (F := Ideal)) (ix2 i j) = (0 : EReal) := by
  unfold k0_pay1
  pointwise

section
variable (i : grid0.Coords) (a3 : Memref sig .tc .vmem S1024x1408 .bf16) (h3 : a3.IsWhole) (a4 : Memref sig .tc .vmem S1024x1024 .f32) (h4 : a4.IsWhole)
  (a5 : Memref sig .tc .vmem S1408x1024 .f32) (h5 : a5.IsWhole) (a6 : Memref sig .tc .vmem S1408x1024 .f32) (h6 : a6.IsWhole)
  (x : Vec Ideal S1024x1408 .bf16) (y : Vec Ideal S1024x1024 .f32) (s : Vec Ideal S1408x1024 .f32)

theorem sout_A (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero hz, View.readCov_unit_zero _ hz]
  simp only [View.readAt_eq_ld, h3.read_unread, h4.read_unread, View.ld_unit_zero (S := S1408x1024) hz, View.ld_unit_zero (S := S1024x1408) hz, View.ld_unit_zero (S := S1024x1024) hz]

theorem sout_B (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1408x1024) hz, View.ld_unit_zero (S := S1024x1408) hz, View.ld_unit_zero (S := S1024x1024) hz]

theorem sout_C (hc0 : ¬cond0_0 i) (hc1 : cond0_1 i) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1408x1024) hz, View.ld_unit_zero (S := S1024x1408) hz, View.ld_unit_zero (S := S1024x1024) hz]

theorem out_C (hc0 : ¬cond0_0 i) (hc1 : cond0_1 i) :
    out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero _ hz]
  simp only [View.readAt_eq_ld, h3.read_unread, h4.read_unread, h6.read_unread, View.ld_unit_zero (S := S1408x1024) hz, View.ld_unit_zero (S := S1024x1408) hz, View.ld_unit_zero (S := S1024x1024) hz]

end

/-- A tile's product, of the blocks the point reads. -/
theorem tile (t : Fin cfg0.N) (i : Fin 1408) (j : Fin 1024) :
    (∑ k : Fin 1024, (b0 m c t (ix2 k i) * b1 m c t (ix2 k j) : EReal)) = M (A m c) (B m c) (t.val / 8) (t.val % 8) i j := by
  unfold M
  simp only [b0_apply, b1_apply]

/-- The carried buffer after a point, over what it held before. -/
theorem step0 (t : Fin cfg0.N) (acc) (h0 : t.val % 8 = 0) (i : Fin 1408) (j : Fin 1024) :
    (Value.stAt0 m c t.val t.isLt acc).2 (ix2 i j) = M (A m c) (B m c) (t.val / 8) (t.val % 8) i j := by
  rw [Value.stAt0_A m c t acc h0 (by omega)]
  dsimp only
  rw [sout_A, pay, pay0, tile]
  exact zero_add _

theorem step1 (t : Fin cfg0.N) (acc) (h0 : ¬t.val % 8 = 0) (i : Fin 1408) (j : Fin 1024) :
    (Value.stAt0 m c t.val t.isLt acc).2 (ix2 i j) = (acc.2 (ix2 i j) + M (A m c) (B m c) (t.val / 8) (t.val % 8) i j : EReal) := by
  by_cases h1 : t.val % 8 = 7
  · rw [Value.stAt0_C m c t acc h0 h1]
    dsimp only
    rw [sout_C, pay, tile]
  · rw [Value.stAt0_B m c t acc h0 h1]
    dsimp only
    rw [sout_B, pay, tile]

/-- The last tile's point leaves in the block what it leaves in the carried buffer. -/
theorem step2 (t : Fin cfg0.N) (acc) (h1 : t.val % 8 = 7) :
    (Value.stAt0 m c t.val t.isLt acc).1 = (Value.stAt0 m c t.val t.isLt acc).2 := by
  rw [Value.stAt0_C m c t acc (by omega) h1]
  dsimp only
  rw [out_C, sout_C]

/-- The carried buffer after a point: the tiles so far. -/
theorem carried : ∀ (n : ℕ) (h : n < cfg0.N) (i : Fin 1408) (j : Fin 1024),
    (outsAt0 m c n h).2 (ix2 i j) = ∑ s ∈ Finset.range (n % 8 + 1), M (A m c) (B m c) (n / 8) s i j := fun n h i j =>
  Sums.carried (fun o => o.2 (ix2 i j)) (fun q s => M (A m c) (B m c) q s i j) (outsAt0 m c) (Value.stAt0 m c) _
    (Value.outsAt0_zero m c) (Value.outsAt0_succ m c) (fun t a h0 => step0 m c t a h0 i j) (fun t a h0 => step1 m c t a h0 i j) n h

theorem last (n : ℕ) (h : n < cfg0.N) (h7 : n % 8 = 7) : (outsAt0 m c n h).1 = (outsAt0 m c n h).2 := by
  obtain _ | n := n
  · exact absurd h7 (by decide)
  · rw [Value.outsAt0_succ]
    exact step2 m c ⟨n + 1, h⟩ _ h7

/-- All the tiles are all the rows. -/
theorem tiles (A : S8192x2816.Idx → EReal) (B : S8192x1024.Idx → EReal) (r : Fin 2816) (j : Fin 1024) :
    (∑ s ∈ Finset.range 8, M A B (r.val / 1408) s ⟨r.val % 1408, by omega⟩ j) = G A B (ix2 r j) := by
  unfold G M
  rw [← Sums.tiles]
  have e1 : (⟨(1408 * (r.val / 1408) + r.val % 1408) % 2816, by omega⟩ : Fin 2816) = r := Fin.ext (by dsimp only; omega)
  dsimp only
  rw [e1]
  rfl

theorem out' (r : Fin 2816) (j : Fin 1024) : (dats m 0 c).arrAt 2 cfg0.N (ix2 r j) = G (A m c) (B m c) (ix2 r j) := by
  have hp : 8 * (r.val / 1408) + 7 < cfg0.N := lt_of_lt_of_eq (by omega) (show cfg0.N = 16 from N_0).symm
  have hq : Value.pt2Of (ix2 r j) = 8 * (r.val / 1408) + 7 := by
    show 8 * (1 * (r.val / 1408 - 0) + 1 * (j.val / 1024 - 0)) + 7 = _
    omega
  have hl : Value.loc2Of (ix2 r j) = ix2 (⟨r.val % 1408, by omega⟩ : Fin 1408) j := by
    funext a
    fin_cases a
    · rfl
    · exact Fin.ext (Nat.mod_eq_of_lt j.isLt)
  rw [Value.final2]
  unfold Value.G2
  rw [dif_pos (hq ▸ hp), hl, ← tiles]
  have e : ∀ (n : ℕ) (h : 0 + n < cfg0.N) (hn : n = 8 * (r.val / 1408) + 7),
      (Pipeline.accAt (fun n h => Value.stAt0 m c n h Value.junk0) (Value.stAt0 m c) 0 n h) = outsAt0 m c (8 * (r.val / 1408) + 7) hp := by
    intro n h hn
    subst hn
    exact (Value.outsAt0_sweep m c _ _).symm
  rw [e _ _ hq, last m c _ hp (by omega), carried]
  have e0 : (8 * (r.val / 1408) + 7) / 8 = r.val / 1408 := by omega
  have e1 : (8 * (r.val / 1408) + 7) % 8 = 7 := by omega
  rw [e0, e1]

theorem out : (dats m 0 c).arrAt 2 cfg0.N = G (A m c) (B m c) :=
  funext fun (i : S2816x1024.Idx) => by rw [eq_ix2 i]; exact out' m c _ _

end Cert.Proof.FOutDw

namespace Cert.Proof.FOutDw

open Cert.Reference5Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v4
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  funext i
  refine Eq.trans ?_ (Finset.sum_congr rfl fun k _ => mul_comm _ _)
  pointwise

end Cert.Proof.FOutDw
-- ==== Proof.FAct.lean ====
/-
  The backward of the FFN's gate, silu(gate) * up: blocks of rows, the last first, against the whole array.
-/
module

public import proofs.«01_k».proof.Proof.Gen.Kernel6Ideal.Value
public import proofs.«01_k».proof.Proof.Gen.Reference6Ideal.Run
public import proofs.«01_k».proof.Proof.Base

@[expose] public section

set_option maxRecDepth 16384

noncomputable section

namespace Cert.Proof.FAct

open Cert.Kernel6Ideal Cert.Kernel6Ideal.Gen
open Idealize.ShloMosaic Idealize.ShloMosaic.TcCoe
open Idealize.ShloMosaic.Pipeline (Dat)

/-- Where the blocks lie. -/
theorem idx : ∀ t : Fin cfg0.N, win0_0.index t = ![63 - t.val, 0] ∧ win0_1.index t = ![63 - t.val, 0] ∧ win0_2.index t = ![63 - t.val, 0] :=
  (by decide +kernel : ∀ t : Fin grid0.N, win0_0.index t = ![63 - t.val, 0] ∧ win0_1.index t = ![63 - t.val, 0] ∧ win0_2.index t = ![63 - t.val, 0])

theorem t_lt (t : Fin cfg0.N) : t.val < 64 := lt_of_lt_of_eq t.isLt (show cfg0.N = 64 from N_0)

variable (m : (ℓ : Loc nD τ sig) → Buf (Elt Ideal) ℓ) (c : Dev nD)

/-- The arguments: the gate and up halves side by side, and what comes back into the activation. -/
abbrev Z : S8192x5632.Idx → EReal := rd m c main_arg0
abbrev D : S8192x2816.Idx → EReal := rd m c main_arg1

abbrev b0 (t : Fin cfg0.N) : Vec Ideal S128x5632 .bf16 := iblk m c 0 t
abbrev b1 (t : Fin cfg0.N) : Vec Ideal S128x2816 .bf16 := iblk m c 1 t

theorem b0_apply (t : Fin cfg0.N) (i : Fin 128) (k : Fin 5632) :
    b0 m c t (ix2 i k) = Z m c (ix2 (⟨128 * (63 - t.val) + i.val, by omega⟩ : Fin 8192) k) := by
  blk_ext [b0, iblk, idx t]

theorem b1_apply (t : Fin cfg0.N) (i : Fin 128) (k : Fin 2816) :
    b1 m c t (ix2 i k) = D m c (ix2 (⟨128 * (63 - t.val) + i.val, by omega⟩ : Fin 8192) k) := by
  blk_ext [b1, iblk, idx t]

/-- The logistic function. -/
def sg (x : EReal) : EReal := Ideal.div 1 (1 + Ideal.exp (-x))

/-- What comes back into the gate, and into up. -/
def dgate (g u d : EReal) : EReal := d * u * sg g + g * (d * u) * (sg g * (1 - sg g))
def dup (g d : EReal) : EReal := g * sg g * d

/-- The two halves side by side. -/
def G (Z : S8192x5632.Idx → EReal) (D : S8192x2816.Idx → EReal) : S8192x5632.Idx → EReal := fun i =>
  let g := Z (ix2 (i 0) (⟨(i 1).val % 2816, by omega⟩ : Fin 5632))
  let u := Z (ix2 (i 0) (⟨2816 + (i 1).val % 2816, by omega⟩ : Fin 5632))
  let d := D (ix2 (i 0) (⟨(i 1).val % 2816, by omega⟩ : Fin 2816))
  if (i 1).val < 2816 then dgate g u d else dup g d

theorem G_gate (Z : S8192x5632.Idx → EReal) (D : S8192x2816.Idx → EReal) (i : Fin 8192) (j : Fin 2816) :
    G Z D (ix2 i (⟨j.val, by omega⟩ : Fin 5632))
      = dgate (Z (ix2 i (⟨j.val, by omega⟩ : Fin 5632))) (Z (ix2 i (⟨2816 + j.val, by omega⟩ : Fin 5632))) (D (ix2 i j)) := by
  have e : j.val % 2816 = j.val := Nat.mod_eq_of_lt j.isLt
  show (if j.val < 2816 then dgate (Z (ix2 i (⟨j.val % 2816, by omega⟩ : Fin 5632))) (Z (ix2 i (⟨2816 + j.val % 2816, by omega⟩ : Fin 5632)))
    (D (ix2 i (⟨j.val % 2816, by omega⟩ : Fin 2816))) else _) = _
  rw [if_pos j.isLt]
  simp only [e]

theorem G_up (Z : S8192x5632.Idx → EReal) (D : S8192x2816.Idx → EReal) (i : Fin 8192) (j : Fin 2816) :
    G Z D (ix2 i (⟨2816 + j.val, by omega⟩ : Fin 5632))
      = dup (Z (ix2 i (⟨j.val, by omega⟩ : Fin 5632))) (D (ix2 i j)) := by
  have e : (2816 + j.val) % 2816 = j.val := by omega
  show (if 2816 + j.val < 2816 then _ else dup (Z (ix2 i (⟨(2816 + j.val) % 2816, by omega⟩ : Fin 5632)))
    (D (ix2 i (⟨(2816 + j.val) % 2816, by omega⟩ : Fin 2816)))) = _
  rw [if_neg (by omega)]
  simp only [e]

/-- A column is a gate column or an up column. -/
theorem cols {P : Fin 5632 → Prop} (h0 : ∀ j : Fin 2816, P ⟨j.val, by omega⟩) (h1 : ∀ j : Fin 2816, P ⟨2816 + j.val, by omega⟩) (k : Fin 5632) : P k := by
  by_cases h : k.val < 2816
  · exact h0 ⟨k.val, h⟩
  · have e : (⟨2816 + (k.val - 2816), by omega⟩ : Fin 5632) = k := Fin.ext (by dsimp only; omega)
    exact e ▸ h1 ⟨k.val - 2816, by omega⟩

theorem pay_gate (x0 : Vec Ideal S128x5632 .bf16) (x1 : Vec Ideal S128x2816 .bf16) (i : Fin 128) (j : Fin 2816) :
    out0_2 x0 x1 (ix2 i (⟨j.val, by omega⟩ : Fin 5632))
      = dgate (x0 (ix2 i (⟨j.val, by omega⟩ : Fin 5632))) (x0 (ix2 i (⟨2816 + j.val, by omega⟩ : Fin 5632))) (x1 (ix2 i j)) := by
  unfold out0_2 k0_pay1 dgate sg
  rw [View.canon_unit_zero, View.ld_unit_zero, View.ld_unit_zero]
  · pointwise
    rfl
  all_goals exact funext fun a => by fin_cases a <;> rfl

theorem pay_up (x0 : Vec Ideal S128x5632 .bf16) (x1 : Vec Ideal S128x2816 .bf16) (i : Fin 128) (j : Fin 2816) :
    out0_2 x0 x1 (ix2 i (⟨2816 + j.val, by omega⟩ : Fin 5632))
      = dup (x0 (ix2 i (⟨j.val, by omega⟩ : Fin 5632))) (x1 (ix2 i j)) := by
  unfold out0_2 k0_pay1 dup sg
  rw [View.canon_unit_zero, View.ld_unit_zero, View.ld_unit_zero]
  · pointwise
    rfl
  all_goals exact funext fun a => by fin_cases a <;> rfl

theorem out_apply (t : Fin cfg0.N) (i : Fin 128) (j : Fin 5632) :
    (dats m 0 c).arrAt 2 cfg0.N (ix2 (⟨128 * (63 - t.val) + i.val, by omega⟩ : Fin 8192) j)
      = out0_2 (b0 m c t) (b1 m c t) (ix2 i j) := by
  have h := congrFun (Value.blocks2 m c t (flush0_2 t)) (ix2 i j)
  unfold Dat.flushed at h
  rw [after0_2] at h
  refine Eq.trans ?_ h
  blk_ext [idx t]

theorem out' (r : Fin 8192) : ∀ j : Fin 5632, (dats m 0 c).arrAt 2 cfg0.N (ix2 r j) = G (Z m c) (D m c) (ix2 r j) := by
  have hlt : 63 - r.val / 128 < cfg0.N := lt_of_lt_of_eq (by omega) (show cfg0.N = 64 from N_0).symm
  have e := out_apply m c ⟨63 - r.val / 128, hlt⟩ ⟨r.val % 128, by omega⟩
  have er : (⟨128 * (63 - (63 - r.val / 128)) + r.val % 128, by omega⟩ : Fin 8192) = r := Fin.ext (by dsimp only; omega)
  dsimp only at e
  refine cols (fun j => ?_) (fun j => ?_)
  · have e := e ⟨j.val, by omega⟩
    rw [pay_gate] at e
    simp only [b0_apply, b1_apply] at e
    rw [er] at e
    exact e.trans (G_gate _ _ r j).symm
  · have e := e ⟨2816 + j.val, by omega⟩
    rw [pay_up] at e
    simp only [b0_apply, b1_apply] at e
    rw [er] at e
    exact e.trans (G_up _ _ r j).symm

theorem out : (dats m 0 c).arrAt 2 cfg0.N = G (Z m c) (D m c) :=
  funext fun (i : S8192x5632.Idx) => by rw [eq_ix2 i]; exact out' m c _ _

end Cert.Proof.FAct

namespace Cert.Proof.FAct

open Cert.Reference6Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v10
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  refine funext fun (i : S8192x5632.Idx) => ?_
  rw [eq_ix2 i]
  generalize i 0 = a
  generalize i 1 = b
  revert b
  refine cols (fun j => ?_) (fun j => ?_)
  · refine Eq.trans ?_ (G_gate _ _ a j).symm
    unfold dgate sg
    pointwise
  · refine Eq.trans ?_ (G_up _ _ a j).symm
    unfold dup sg
    pointwise

end Cert.Proof.FAct
-- ==== Proof.FInDa.lean ====
/-
  The backward of the first product of the FFN with respect to its rows: four shards of the weights, against one
  product with the shards side by side.
-/
module

public import proofs.«01_k».proof.Proof.Gen.Kernel7Ideal.Value
public import proofs.«01_k».proof.Proof.Gen.Reference7Ideal.Run
public import proofs.«01_k».proof.Proof.Base

@[expose] public section

set_option maxRecDepth 16384

noncomputable section

namespace Cert.Proof.FInDa

open Cert.Kernel7Ideal Cert.Kernel7Ideal.Gen
open Idealize.ShloMosaic Idealize.ShloMosaic.TcCoe
open Idealize.ShloMosaic.Pipeline (Dat)

/-- Where the blocks lie. -/
theorem idx : ∀ t : Fin cfg0.N, win0_0.index t = ![t.val, 0] ∧ win0_1.index t = ![0, 0, 0, 0] ∧ win0_2.index t = ![t.val, 0] :=
  (by decide +kernel : ∀ t : Fin grid0.N, win0_0.index t = ![t.val, 0] ∧ win0_1.index t = ![0, 0, 0, 0] ∧ win0_2.index t = ![t.val, 0])

theorem t_lt (t : Fin cfg0.N) : t.val < 16 := lt_of_lt_of_eq t.isLt (show cfg0.N = 16 from N_0)

variable (m : (ℓ : Loc nD τ sig) → Buf (Elt Ideal) ℓ) (c : Dev nD)

/-- The arguments. -/
abbrev A : S8192x5632.Idx → EReal := rd m c main_arg0
abbrev B : S4x2x1024x1408.Idx → EReal := rd m c main_arg1

abbrev b0 (t : Fin cfg0.N) : Vec Ideal S512x5632 .bf16 := iblk m c 0 t
abbrev b1 (t : Fin cfg0.N) : Vec Ideal S4x1x1024x1408 .bf16 := iblk m c 1 t

theorem b0_apply (t : Fin cfg0.N) (i : Fin 512) (k : Fin 5632) :
    b0 m c t (ix2 i k) = A m c (ix2 (⟨512 * t.val + i.val, by have := t_lt t; omega⟩ : Fin 8192) k) := by
  blk_ext [b0, iblk, idx t]

theorem b1_apply (t : Fin cfg0.N) (s : Fin 4) (j : Fin 1024) (k : Fin 1408) :
    b1 m c t (ix4 s (0 : Fin 1) j k) = B m c (ix4 s (0 : Fin 2) j k) := by
  blk_ext [b1, iblk, idx t]

/-- The product, shard by shard. -/
def G (A : S8192x5632.Idx → EReal) (B : S4x2x1024x1408.Idx → EReal) : S8192x1024.Idx → EReal := fun i =>
  ∑ s : Fin 4, ∑ k : Fin 1408, A (ix2 (i 0) (⟨1408 * s.val + k.val, by omega⟩ : Fin 5632)) * B (ix4 s (0 : Fin 2) (i 1) k)

theorem pay (x0 : Vec Ideal S512x5632 .bf16) (x1 : Vec Ideal S4x1x1024x1408 .bf16) (i : Fin 512) (j : Fin 1024) :
    out0_2 x0 x1 (ix2 i j)
      = ∑ s : Fin 4, ∑ k : Fin 1408, (x0 (ix2 i (⟨1408 * s.val + k.val, by omega⟩ : Fin 5632)) * x1 (ix4 s (0 : Fin 1) j k) : EReal) := by
  unfold out0_2 k0_pay1
  rw [View.canon_unit_zero (funext fun a => by fin_cases a <;> rfl), Fin.sum_univ_four]
  pointwise

theorem out : (dats m 0 c).arrAt 2 cfg0.N = G (A m c) (B m c) :=
  rows_ext (b := 512) (n := cfg0.N) (by decide) (show 8192 ≤ 512 * grid0.N by norm_num [N_0]) fun t i j hl => by
    have h := congrFun (Value.blocks2 m c t (flush0_2 t)) (ix2 i j)
    unfold Dat.flushed at h
    rw [after0_2] at h
    change _ = out0_2 (b0 m c t) (b1 m c t) (ix2 i j) at h
    rw [pay] at h
    simp only [b0_apply, b1_apply] at h
    refine Eq.trans ?_ h
    blk_ext [idx t]

end Cert.Proof.FInDa

namespace Cert.Proof.FInDa

open Cert.Reference7Ideal
open Idealize.ShloMosaic Idealize.ShloMosaic.TcCoe Idealize.SL.Sem

/-- The product over the shards side by side. -/
theorem flat (A : S8192x5632.Idx → EReal) (B : S4x2x1024x1408.Idx → EReal) (i : S8192x1024.Idx) :
    (∑ k : Fin 5632, A (ix2 (i 0) k) * B (ix4 (⟨k.val / 1408, by omega⟩ : Fin 4) (0 : Fin 2) (i 1) (⟨k.val % 1408, by omega⟩ : Fin 1408)))
      = G A B i := by
  rw [Sums.sum_blocks (a := 4) (b := 1408) rfl]
  unfold G
  refine Finset.sum_congr rfl fun s _ => Finset.sum_congr rfl fun k _ => ?_
  have e0 : (⟨(1408 * s.val + k.val) / 1408, by omega⟩ : Fin 4) = s := Fin.ext (by dsimp only; omega)
  have e1 : (⟨(1408 * s.val + k.val) % 1408, by omega⟩ : Fin 1408) = k := Fin.ext (by dsimp only; omega)
  dsimp only
  rw [e0, e1]

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v9
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  funext i
  refine Eq.trans ?_ (flat _ _ i)
  pointwise

end Cert.Proof.FInDa
-- ==== Proof.FInDw.lean ====
/-
  The backward of the first product of the FFN with respect to its weights, four shards of them: accumulated over eight
  tiles of rows in a buffer the grid carries, against one product over all the rows.
-/
module

public import proofs.«01_k».proof.Proof.Gen.Kernel8Ideal.Value
public import proofs.«01_k».proof.Proof.Gen.Reference8Ideal.Run
public import proofs.«01_k».proof.Proof.Base

@[expose] public section

set_option maxRecDepth 16384

noncomputable section

namespace Cert.Proof.FInDw

open Cert.Kernel8Ideal Cert.Kernel8Ideal.Gen
open Idealize.ShloMosaic Idealize.ShloMosaic.TcCoe
open Idealize.ShloMosaic.Pipeline (Dat)

theorem hz3 : (![0, 0, 0] : Fin 3 → Nat) = fun _ => 0 := funext fun a => by fin_cases a <;> rfl

/-- Where the blocks lie. -/
theorem idx : ∀ t : Fin cfg0.N, win0_0.index t = ![t.val % 8, 0] ∧ win0_1.index t = ![t.val % 8, t.val / 8] :=
  (by decide +kernel : ∀ t : Fin grid0.N, win0_0.index t = ![t.val % 8, 0] ∧ win0_1.index t = ![t.val % 8, t.val / 8])

theorem t_lt (t : Fin cfg0.N) : t.val < 32 := lt_of_lt_of_eq t.isLt (show cfg0.N = 32 from N_0)

variable (m : (ℓ : Loc nD τ sig) → Buf (Elt Ideal) ℓ) (c : Dev nD)

/-- The arguments. -/
abbrev A : S8192x1024.Idx → EReal := rd m c main_arg0
abbrev B : S8192x5632.Idx → EReal := rd m c main_arg1

abbrev b0 (t : Fin cfg0.N) : Vec Ideal S1024x1024 .bf16 := iblk m c 0 t
abbrev b1 (t : Fin cfg0.N) : Vec Ideal S1024x1408 .bf16 := iblk m c 1 t

theorem b0_apply (t : Fin cfg0.N) (k : Fin 1024) (i : Fin 1024) :
    b0 m c t (ix2 k i) = A m c (ix2 (⟨(1024 * (t.val % 8) + k.val) % 8192, by omega⟩ : Fin 8192) i) := by
  rw [row]
  blk_ext [b0, iblk, idx t]

theorem b1_apply (t : Fin cfg0.N) (k : Fin 1024) (j : Fin 1408) :
    b1 m c t (ix2 k j) = B m c (ix2 (⟨(1024 * (t.val % 8) + k.val) % 8192, by omega⟩ : Fin 8192) (⟨(1408 * (t.val / 8) + j.val) % 5632, by omega⟩ : Fin 5632)) := by
  have e1 : (⟨(1408 * (t.val / 8) + j.val) % 5632, by omega⟩ : Fin 5632) = ⟨1408 * (t.val / 8) + j.val, by have := t_lt t; omega⟩ := Fin.ext (by have := t_lt t; dsimp only; omega)
  rw [row, e1]
  blk_ext [b1, iblk, idx t]

/-- The product over the rows, tile by tile. -/
def M (A : S8192x1024.Idx → EReal) (B : S8192x5632.Idx → EReal) (q : ℕ) (s : ℕ) (i : Fin 1024) (j : Fin 1408) : EReal :=
  ∑ k : Fin 1024, A (ix2 (⟨(1024 * s + k.val) % 8192, by omega⟩ : Fin 8192) i)
    * B (ix2 (⟨(1024 * s + k.val) % 8192, by omega⟩ : Fin 8192) (⟨(1408 * q + j.val) % 5632, by omega⟩ : Fin 5632))

def G (A : S8192x1024.Idx → EReal) (B : S8192x5632.Idx → EReal) : S4x1024x1408.Idx → EReal := fun i =>
  ∑ k : Fin 8192, A (ix2 k (i 1)) * B (ix2 k (⟨(i 0).val * 1408 + (i 2).val, by
    have h0 : (i 0).val < 4 := (i 0).isLt
    have h2 : (i 2).val < 1408 := (i 2).isLt
    omega⟩ : Fin 5632))

theorem pay (s : Vec Ideal S1024x1408 .f32) (x : Vec Ideal S1024x1024 .bf16) (y : Vec Ideal S1024x1408 .bf16) (i : Fin 1024) (j : Fin 1408) :
    k0_pay2 s x y (ix2 i j) = (s (ix2 i j) + ∑ k : Fin 1024, (x (ix2 k i) * y (ix2 k j) : EReal) : EReal) := by
  unfold k0_pay2
  pointwise

theorem pay0 (i : Fin 1024) (j : Fin 1408) : (k0_pay1 (F := Ideal)) (ix2 i j) = (0 : EReal) := by
  unfold k0_pay1
  pointwise

section
variable (i : grid0.Coords) (a3 : Memref sig .tc .vmem S1024x1024 .bf16) (h3 : a3.IsWhole) (a4 : Memref sig .tc .vmem S1024x1408 .bf16) (h4 : a4.IsWhole)
  (a5 : Memref sig .tc .vmem S1x1024x1408 .f32) (h5 : a5.IsWhole) (a6 : Memref sig .tc .vmem S1024x1408 .f32) (h6 : a6.IsWhole)
  (x : Vec Ideal S1024x1024 .bf16) (y : Vec Ideal S1024x1408 .bf16) (s : Vec Ideal S1024x1408 .f32)

theorem sout_A (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero hz, View.readCov_unit_zero _ hz]
  simp only [View.readAt_eq_ld, h3.read_unread, h4.read_unread, View.ld_unit_zero (S := S1024x1408) hz, View.ld_unit_zero (S := S1024x1024) hz]

theorem sout_B (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1024x1408) hz, View.ld_unit_zero (S := S1024x1024) hz]

theorem sout_C (hc0 : ¬cond0_0 i) (hc1 : cond0_1 i) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x1408) hz, View.ld_unit_zero (S := S1024x1024) hz]

theorem out_C (hc0 : ¬cond0_0 i) (hc1 : cond0_1 i) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz3, View.readCov_unit_zero _ hz]
  simp only [View.readAt_eq_ld, h3.read_unread, h4.read_unread, h6.read_unread, View.ld_unit_zero (S := S1024x1408) hz, View.ld_unit_zero (S := S1024x1024) hz]

end

/-- A tile's product, of the blocks the point reads. -/
theorem tile (t : Fin cfg0.N) (i : Fin 1024) (j : Fin 1408) :
    (∑ k : Fin 1024, (b0 m c t (ix2 k i) * b1 m c t (ix2 k j) : EReal)) = M (A m c) (B m c) (t.val / 8) (t.val % 8) i j := by
  unfold M
  simp only [b0_apply, b1_apply]

/-- The carried buffer after a point, over what it held before. -/
theorem step0 (t : Fin cfg0.N) (acc) (h0 : t.val % 8 = 0) (i : Fin 1024) (j : Fin 1408) :
    (Value.stAt0 m c t.val t.isLt acc).2 (ix2 i j) = M (A m c) (B m c) (t.val / 8) (t.val % 8) i j := by
  rw [Value.stAt0_A m c t acc h0 (by omega)]
  dsimp only
  rw [sout_A, pay, pay0, tile]
  exact zero_add _

theorem step1 (t : Fin cfg0.N) (acc) (h0 : ¬t.val % 8 = 0) (i : Fin 1024) (j : Fin 1408) :
    (Value.stAt0 m c t.val t.isLt acc).2 (ix2 i j) = (acc.2 (ix2 i j) + M (A m c) (B m c) (t.val / 8) (t.val % 8) i j : EReal) := by
  by_cases h1 : t.val % 8 = 7
  · rw [Value.stAt0_C m c t acc h0 h1]
    dsimp only
    rw [sout_C, pay, tile]
  · rw [Value.stAt0_B m c t acc h0 h1]
    dsimp only
    rw [sout_B, pay, tile]

/-- The last tile's point leaves in the block what it leaves in the carried buffer. -/
theorem step2 (t : Fin cfg0.N) (acc) (h1 : t.val % 8 = 7) :
    (Value.stAt0 m c t.val t.isLt acc).1 = k0_pay3 (Value.stAt0 m c t.val t.isLt acc).2 := by
  rw [Value.stAt0_C m c t acc (by omega) h1]
  dsimp only
  rw [out_C, sout_C]

theorem pay3 (s : Vec Ideal S1024x1408 .f32) (i : Fin 1024) (j : Fin 1408) :
    k0_pay3 s (ix3 (0 : Fin 1) i j) = s (ix2 i j) := by
  unfold k0_pay3
  pointwise

/-- The carried buffer after a point: the tiles so far. -/
theorem carried : ∀ (n : ℕ) (h : n < cfg0.N) (i : Fin 1024) (j : Fin 1408),
    (outsAt0 m c n h).2 (ix2 i j) = ∑ s ∈ Finset.range (n % 8 + 1), M (A m c) (B m c) (n / 8) s i j := fun n h i j =>
  Sums.carried (fun o => o.2 (ix2 i j)) (fun q s => M (A m c) (B m c) q s i j) (outsAt0 m c) (Value.stAt0 m c) _
    (Value.outsAt0_zero m c) (Value.outsAt0_succ m c) (fun t a h0 => step0 m c t a h0 i j) (fun t a h0 => step1 m c t a h0 i j) n h

theorem last (n : ℕ) (h : n < cfg0.N) (h7 : n % 8 = 7) : (outsAt0 m c n h).1 = k0_pay3 (outsAt0 m c n h).2 := by
  obtain _ | n := n
  · exact absurd h7 (by decide)
  · rw [Value.outsAt0_succ]
    exact step2 m c ⟨n + 1, h⟩ _ h7

/-- All the tiles are all the rows. -/
theorem tiles (A : S8192x1024.Idx → EReal) (B : S8192x5632.Idx → EReal) (q : Fin 4) (i : Fin 1024) (j : Fin 1408) :
    (∑ s ∈ Finset.range 8, M A B q.val s i j) = G A B (ix3 q i j) := by
  unfold G M
  rw [← Sums.tiles]
  have e1 : (⟨(1408 * q.val + j.val) % 5632, by omega⟩ : Fin 5632) = ⟨q.val * 1408 + j.val, by omega⟩ := Fin.ext (by dsimp only; omega)
  dsimp only
  rw [e1]
  rfl

theorem out' (q : Fin 4) (i : Fin 1024) (j : Fin 1408) : (dats m 0 c).arrAt 2 cfg0.N (ix3 q i j) = G (A m c) (B m c) (ix3 q i j) := by
  have hp : 8 * q.val + 7 < cfg0.N := lt_of_lt_of_eq (by omega) (show cfg0.N = 32 from N_0).symm
  have hq : Value.pt2Of (ix3 q i j) = 8 * q.val + 7 := by
    show 8 * (1 * (q.val / 1 - 0) + 1 * (i.val / 1024 - 0) + 1 * (j.val / 1408 - 0)) + 7 = _
    omega
  have hl : Value.loc2Of (ix3 q i j) = ix3 (0 : Fin 1) i j := by
    funext a
    fin_cases a
    · exact Fin.ext (Nat.mod_one _)
    · exact Fin.ext (Nat.mod_eq_of_lt i.isLt)
    · exact Fin.ext (Nat.mod_eq_of_lt j.isLt)
  rw [Value.final2]
  unfold Value.G2
  rw [dif_pos (hq ▸ hp), hl, ← tiles]
  have e : ∀ (n : ℕ) (h : 0 + n < cfg0.N) (hn : n = 8 * q.val + 7),
      (Pipeline.accAt (fun n h => Value.stAt0 m c n h Value.junk0) (Value.stAt0 m c) 0 n h) = outsAt0 m c (8 * q.val + 7) hp := by
    intro n h hn
    subst hn
    exact (Value.outsAt0_sweep m c _ _).symm
  rw [e _ _ hq, last m c _ hp (by omega), pay3, carried]
  have e0 : (8 * q.val + 7) / 8 = q.val := by omega
  have e1 : (8 * q.val + 7) % 8 = 7 := by omega
  rw [e0, e1]

theorem out : (dats m 0 c).arrAt 2 cfg0.N = G (A m c) (B m c) :=
  funext fun (i : S4x1024x1408.Idx) => by rw [eq_ix3 i]; exact out' m c _ _ _

end Cert.Proof.FInDw

namespace Cert.Proof.FInDw

open Cert.Reference8Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v7
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  funext i
  refine Eq.trans ?_ (Finset.sum_congr rfl fun k _ => mul_comm _ _)
  pointwise

end Cert.Proof.FInDw
-- ==== Proof.InProj.lean ====
/-
  The nine pieces of the input projection, block by block, and the same products written plainly.
-/
module

public import proofs.«01_k».proof.Proof.Gen.Kernel9Ideal.Value
public import proofs.«01_k».proof.Proof.Gen.Reference9Ideal.Run
public import proofs.«01_k».proof.Proof.Base

@[expose] public section

set_option maxRecDepth 16384

noncomputable section

namespace Cert.Proof.InProj

open Cert.Kernel9Ideal Cert.Kernel9Ideal.Gen
open Idealize.ShloMosaic Idealize.ShloMosaic.TcCoe
open Idealize.ShloMosaic.Pipeline (Dat)

/-- Where the blocks lie. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0])

theorem t_lt (t : Fin cfg0.N) : t.val < 32 := lt_of_lt_of_eq t.isLt (show cfg0.N = 32 from N_0)

variable (m : (ℓ : Loc nD τ sig) → Buf (Elt Ideal) ℓ) (c : Dev nD)

/-- A product. -/
def G {n : ℕ} (A : S8192x1024.Idx → EReal) (B : (⟨2, ![1024, n]⟩ : Shape).Idx → EReal) : (⟨2, ![8192, n]⟩ : Shape).Idx → EReal := fun i =>
  ∑ k : Fin 1024, A (ix2 (i 0 : Fin 8192) k) * B (ix2 k (i 1 : Fin n))

/-- The arguments. -/
abbrev B0 : S8192x1024.Idx → EReal := rd m c main_arg0
abbrev B1 : S1024x512.Idx → EReal := rd m c main_arg1
abbrev B2 : S1024x512.Idx → EReal := rd m c main_arg2
abbrev B3 : S1024x512.Idx → EReal := rd m c main_arg3
abbrev B4 : S1024x512.Idx → EReal := rd m c main_arg4
abbrev B5 : S1024x1024.Idx → EReal := rd m c main_arg5
abbrev B6 : S1024x128.Idx → EReal := rd m c main_arg6
abbrev B7 : S1024x1536.Idx → EReal := rd m c main_arg7
abbrev B8 : S1024x512.Idx → EReal := rd m c main_arg8
abbrev B9 : S1024x128.Idx → EReal := rd m c main_arg9

abbrev b0 (t : Fin cfg0.N) : Vec Ideal S256x1024 .bf16 := iblk m c 0 t
abbrev b1 (t : Fin cfg0.N) : Vec Ideal S1024x512 .bf16 := iblk m c 1 t
abbrev b2 (t : Fin cfg0.N) : Vec Ideal S1024x512 .bf16 := iblk m c 2 t
abbrev b3 (t : Fin cfg0.N) : Vec Ideal S1024x512 .bf16 := iblk m c 3 t
abbrev b4 (t : Fin cfg0.N) : Vec Ideal S1024x512 .bf16 := iblk m c 4 t
abbrev b5 (t : Fin cfg0.N) : Vec Ideal S1024x1024 .bf16 := iblk m c 5 t
abbrev b6 (t : Fin cfg0.N) : Vec Ideal S1024x128 .bf16 := iblk m c 6 t
abbrev b7 (t : Fin cfg0.N) : Vec Ideal S1024x1536 .bf16 := iblk m c 7 t
abbrev b8 (t : Fin cfg0.N) : Vec Ideal S1024x512 .bf16 := iblk m c 8 t
abbrev b9 (t : Fin cfg0.N) : Vec Ideal S1024x128 .bf16 := iblk m c 9 t

theorem b0_apply (t : Fin cfg0.N) (i : Fin 256) (k : Fin 1024) :
    b0 m c t (ix2 i k) = B0 m c (ix2 (⟨256 * t.val + i.val, by have := t_lt t; omega⟩ : Fin 8192) k) := by
  blk_ext [b0, iblk, idx t]

/-- An array that is the product block by block is the product. -/
theorem rows_eq {n : ℕ} {A : S8192x1024.Idx → EReal} {B : (⟨2, ![1024, n]⟩ : Shape).Idx → EReal} {Y : (⟨2, ![8192, n]⟩ : Shape).Idx → EReal}
    (h : ∀ (t : Fin cfg0.N) (i : Fin 256) (j : Fin n), Y (ix2 (⟨256 * t.val + i.val, by have := t_lt t; omega⟩ : Fin 8192) j)
      = ∑ k : Fin 1024, A (ix2 (⟨256 * t.val + i.val, by have := t_lt t; omega⟩ : Fin 8192) k) * B (ix2 k j)) : Y = G A B := by
  funext (y : (⟨2, ![8192, n]⟩ : Shape).Idx)
  obtain ⟨r, j, rfl⟩ : ∃ (r : Fin 8192) (j : Fin n), y = ix2 r j := ⟨y 0, y 1, eq_ix2 y⟩
  have hlt : r.val / 256 < cfg0.N := lt_of_lt_of_eq (by omega) (show cfg0.N = 32 from N_0).symm
  have e := h ⟨r.val / 256, hlt⟩ ⟨r.val % 256, by omega⟩ j
  have er : (⟨256 * (r.val / 256) + r.val % 256, by omega⟩ : Fin 8192) = r := Fin.ext (Nat.div_add_mod _ _)
  dsimp only at e
  rw [er] at e
  exact e

/-! Each of the nine results of a block, and each of the nine arrays. -/

variable (x0 : Vec Ideal S256x1024 .bf16) (x1 : Vec Ideal S1024x512 .bf16) (x2 : Vec Ideal S1024x512 .bf16) (x3 : Vec Ideal S1024x512 .bf16) (x4 : Vec Ideal S1024x512 .bf16)
  (x5 : Vec Ideal S1024x1024 .bf16) (x6 : Vec Ideal S1024x128 .bf16) (x7 : Vec Ideal S1024x1536 .bf16) (x8 : Vec Ideal S1024x512 .bf16) (x9 : Vec Ideal S1024x128 .bf16)

theorem b1_apply (t : Fin cfg0.N) (k : Fin 1024) (j : Fin 512) : b1 m c t (ix2 k j) = B1 m c (ix2 k j) := by
  blk_ext [b1, iblk, idx t]

theorem pay1 (i : Fin 256) (j : Fin 512) : out0_10 x0 x1 x2 x3 x4 x5 x6 x7 x8 x9 (ix2 i j) = ∑ k : Fin 1024, (x0 (ix2 i k) * x1 (ix2 k j) : EReal) := by
  unfold out0_10 k0_pay4
  rw [View.canon_unit_zero (funext fun a => by fin_cases a <;> rfl)]
  pointwise

theorem out1 : (dats m 0 c).arrAt 10 cfg0.N = G (B0 m c) (B1 m c) := rows_eq fun t i j => by
  have h := congrFun (Value.blocks10 m c t (flush0_10 t)) (ix2 i j)
  unfold Dat.flushed at h
  rw [after0_10] at h
  refine Eq.trans ?_ (h.trans ((pay1 (b0 m c t) (b1 m c t) (b2 m c t) (b3 m c t) (b4 m c t) (b5 m c t) (b6 m c t) (b7 m c t) (b8 m c t) (b9 m c t) i j).trans ?_))
  · blk_ext [idx t]
  · simp only [b0_apply, b1_apply]

theorem b2_apply (t : Fin cfg0.N) (k : Fin 1024) (j : Fin 512) : b2 m c t (ix2 k j) = B2 m c (ix2 k j) := by
  blk_ext [b2, iblk, idx t]

theorem pay2 (i : Fin 256) (j : Fin 512) : out0_11 x0 x1 x2 x3 x4 x5 x6 x7 x8 x9 (ix2 i j) = ∑ k : Fin 1024, (x0 (ix2 i k) * x2 (ix2 k j) : EReal) := by
  unfold out0_11 k0_pay5
  rw [View.canon_unit_zero (funext fun a => by fin_cases a <;> rfl)]
  pointwise

theorem out2 : (dats m 0 c).arrAt 11 cfg0.N = G (B0 m c) (B2 m c) := rows_eq fun t i j => by
  have h := congrFun (Value.blocks11 m c t (flush0_11 t)) (ix2 i j)
  unfold Dat.flushed at h
  rw [after0_11] at h
  refine Eq.trans ?_ (h.trans ((pay2 (b0 m c t) (b1 m c t) (b2 m c t) (b3 m c t) (b4 m c t) (b5 m c t) (b6 m c t) (b7 m c t) (b8 m c t) (b9 m c t) i j).trans ?_))
  · blk_ext [idx t]
  · simp only [b0_apply, b2_apply]

theorem b3_apply (t : Fin cfg0.N) (k : Fin 1024) (j : Fin 512) : b3 m c t (ix2 k j) = B3 m c (ix2 k j) := by
  blk_ext [b3, iblk, idx t]

theorem pay3 (i : Fin 256) (j : Fin 512) : out0_12 x0 x1 x2 x3 x4 x5 x6 x7 x8 x9 (ix2 i j) = ∑ k : Fin 1024, (x0 (ix2 i k) * x3 (ix2 k j) : EReal) := by
  unfold out0_12 k0_pay6
  rw [View.canon_unit_zero (funext fun a => by fin_cases a <;> rfl)]
  pointwise

theorem out3 : (dats m 0 c).arrAt 12 cfg0.N = G (B0 m c) (B3 m c) := rows_eq fun t i j => by
  have h := congrFun (Value.blocks12 m c t (flush0_12 t)) (ix2 i j)
  unfold Dat.flushed at h
  rw [after0_12] at h
  refine Eq.trans ?_ (h.trans ((pay3 (b0 m c t) (b1 m c t) (b2 m c t) (b3 m c t) (b4 m c t) (b5 m c t) (b6 m c t) (b7 m c t) (b8 m c t) (b9 m c t) i j).trans ?_))
  · blk_ext [idx t]
  · simp only [b0_apply, b3_apply]

theorem b4_apply (t : Fin cfg0.N) (k : Fin 1024) (j : Fin 512) : b4 m c t (ix2 k j) = B4 m c (ix2 k j) := by
  blk_ext [b4, iblk, idx t]

theorem pay4 (i : Fin 256) (j : Fin 512) : out0_13 x0 x1 x2 x3 x4 x5 x6 x7 x8 x9 (ix2 i j) = ∑ k : Fin 1024, (x0 (ix2 i k) * x4 (ix2 k j) : EReal) := by
  unfold out0_13 k0_pay7
  rw [View.canon_unit_zero (funext fun a => by fin_cases a <;> rfl)]
  pointwise

theorem out4 : (dats m 0 c).arrAt 13 cfg0.N = G (B0 m c) (B4 m c) := rows_eq fun t i j => by
  have h := congrFun (Value.blocks13 m c t (flush0_13 t)) (ix2 i j)
  unfold Dat.flushed at h
  rw [after0_13] at h
  refine Eq.trans ?_ (h.trans ((pay4 (b0 m c t) (b1 m c t) (b2 m c t) (b3 m c t) (b4 m c t) (b5 m c t) (b6 m c t) (b7 m c t) (b8 m c t) (b9 m c t) i j).trans ?_))
  · blk_ext [idx t]
  · simp only [b0_apply, b4_apply]

theorem b5_apply (t : Fin cfg0.N) (k : Fin 1024) (j : Fin 1024) : b5 m c t (ix2 k j) = B5 m c (ix2 k j) := by
  blk_ext [b5, iblk, idx t]

theorem pay5 (i : Fin 256) (j : Fin 1024) : out0_14 x0 x1 x2 x3 x4 x5 x6 x7 x8 x9 (ix2 i j) = ∑ k : Fin 1024, (x0 (ix2 i k) * x5 (ix2 k j) : EReal) := by
  unfold out0_14 k0_pay8
  rw [View.canon_unit_zero (funext fun a => by fin_cases a <;> rfl)]
  pointwise

theorem out5 : (dats m 0 c).arrAt 14 cfg0.N = G (B0 m c) (B5 m c) := rows_eq fun t i j => by
  have h := congrFun (Value.blocks14 m c t (flush0_14 t)) (ix2 i j)
  unfold Dat.flushed at h
  rw [after0_14] at h
  refine Eq.trans ?_ (h.trans ((pay5 (b0 m c t) (b1 m c t) (b2 m c t) (b3 m c t) (b4 m c t) (b5 m c t) (b6 m c t) (b7 m c t) (b8 m c t) (b9 m c t) i j).trans ?_))
  · blk_ext [idx t]
  · simp only [b0_apply, b5_apply]

theorem b6_apply (t : Fin cfg0.N) (k : Fin 1024) (j : Fin 128) : b6 m c t (ix2 k j) = B6 m c (ix2 k j) := by
  blk_ext [b6, iblk, idx t]

theorem pay6 (i : Fin 256) (j : Fin 128) : out0_15 x0 x1 x2 x3 x4 x5 x6 x7 x8 x9 (ix2 i j) = ∑ k : Fin 1024, (x0 (ix2 i k) * x6 (ix2 k j) : EReal) := by
  unfold out0_15 k0_pay9
  rw [View.canon_unit_zero (funext fun a => by fin_cases a <;> rfl)]
  pointwise

theorem out6 : (dats m 0 c).arrAt 15 cfg0.N = G (B0 m c) (B6 m c) := rows_eq fun t i j => by
  have h := congrFun (Value.blocks15 m c t (flush0_15 t)) (ix2 i j)
  unfold Dat.flushed at h
  rw [after0_15] at h
  refine Eq.trans ?_ (h.trans ((pay6 (b0 m c t) (b1 m c t) (b2 m c t) (b3 m c t) (b4 m c t) (b5 m c t) (b6 m c t) (b7 m c t) (b8 m c t) (b9 m c t) i j).trans ?_))
  · blk_ext [idx t]
  · simp only [b0_apply, b6_apply]

theorem b7_apply (t : Fin cfg0.N) (k : Fin 1024) (j : Fin 1536) : b7 m c t (ix2 k j) = B7 m c (ix2 k j) := by
  blk_ext [b7, iblk, idx t]

theorem pay7 (i : Fin 256) (j : Fin 1536) : out0_16 x0 x1 x2 x3 x4 x5 x6 x7 x8 x9 (ix2 i j) = ∑ k : Fin 1024, (x0 (ix2 i k) * x7 (ix2 k j) : EReal) := by
  unfold out0_16 k0_pay1
  rw [View.canon_unit_zero (funext fun a => by fin_cases a <;> rfl)]
  pointwise

theorem out7 : (dats m 0 c).arrAt 16 cfg0.N = G (B0 m c) (B7 m c) := rows_eq fun t i j => by
  have h := congrFun (Value.blocks16 m c t (flush0_16 t)) (ix2 i j)
  unfold Dat.flushed at h
  rw [after0_16] at h
  refine Eq.trans ?_ (h.trans ((pay7 (b0 m c t) (b1 m c t) (b2 m c t) (b3 m c t) (b4 m c t) (b5 m c t) (b6 m c t) (b7 m c t) (b8 m c t) (b9 m c t) i j).trans ?_))
  · blk_ext [idx t]
  · simp only [b0_apply, b7_apply]

theorem b8_apply (t : Fin cfg0.N) (k : Fin 1024) (j : Fin 512) : b8 m c t (ix2 k j) = B8 m c (ix2 k j) := by
  blk_ext [b8, iblk, idx t]

theorem pay8 (i : Fin 256) (j : Fin 512) : out0_17 x0 x1 x2 x3 x4 x5 x6 x7 x8 x9 (ix2 i j) = ∑ k : Fin 1024, (x0 (ix2 i k) * x8 (ix2 k j) : EReal) := by
  unfold out0_17 k0_pay2
  rw [View.canon_unit_zero (funext fun a => by fin_cases a <;> rfl)]
  pointwise

theorem out8 : (dats m 0 c).arrAt 17 cfg0.N = G (B0 m c) (B8 m c) := rows_eq fun t i j => by
  have h := congrFun (Value.blocks17 m c t (flush0_17 t)) (ix2 i j)
  unfold Dat.flushed at h
  rw [after0_17] at h
  refine Eq.trans ?_ (h.trans ((pay8 (b0 m c t) (b1 m c t) (b2 m c t) (b3 m c t) (b4 m c t) (b5 m c t) (b6 m c t) (b7 m c t) (b8 m c t) (b9 m c t) i j).trans ?_))
  · blk_ext [idx t]
  · simp only [b0_apply, b8_apply]

theorem b9_apply (t : Fin cfg0.N) (k : Fin 1024) (j : Fin 128) : b9 m c t (ix2 k j) = B9 m c (ix2 k j) := by
  blk_ext [b9, iblk, idx t]

theorem pay9 (i : Fin 256) (j : Fin 128) : out0_18 x0 x1 x2 x3 x4 x5 x6 x7 x8 x9 (ix2 i j) = ∑ k : Fin 1024, (x0 (ix2 i k) * x9 (ix2 k j) : EReal) := by
  unfold out0_18 k0_pay3
  rw [View.canon_unit_zero (funext fun a => by fin_cases a <;> rfl)]
  pointwise

theorem out9 : (dats m 0 c).arrAt 18 cfg0.N = G (B0 m c) (B9 m c) := rows_eq fun t i j => by
  have h := congrFun (Value.blocks18 m c t (flush0_18 t)) (ix2 i j)
  unfold Dat.flushed at h
  rw [after0_18] at h
  refine Eq.trans ?_ (h.trans ((pay9 (b0 m c t) (b1 m c t) (b2 m c t) (b3 m c t) (b4 m c t) (b5 m c t) (b6 m c t) (b7 m c t) (b8 m c t) (b9 m c t) i j).trans ?_))
  · blk_ext [idx t]
  · simp only [b0_apply, b9_apply]

end Cert.Proof.InProj

namespace Cert.Proof.InProj

open Cert.Reference9Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v2
        = G (rd m c main_arg0) (rd m c main_arg1)
      ∧ rd r.2.mem c main_v5
        = G (rd m c main_arg0) (rd m c main_arg2)
      ∧ rd r.2.mem c main_v8
        = G (rd m c main_arg0) (rd m c main_arg3)
      ∧ rd r.2.mem c main_v11
        = G (rd m c main_arg0) (rd m c main_arg4)
      ∧ rd r.2.mem c main_v14
        = G (rd m c main_arg0) (rd m c main_arg5)
      ∧ rd r.2.mem c main_v17
        = G (rd m c main_arg0) (rd m c main_arg6)
      ∧ rd r.2.mem c main_v20
        = G (rd m c main_arg0) (rd m c main_arg7)
      ∧ rd r.2.mem c main_v23
        = G (rd m c main_arg0) (rd m c main_arg8)
      ∧ rd r.2.mem c main_v26
        = G (rd m c main_arg0) (rd m c main_arg9)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5
      ∧ rd r.2.mem c main_arg6 = rd m c main_arg6
      ∧ rd r.2.mem c main_arg7 = rd m c main_arg7
      ∧ rd r.2.mem c main_arg8 = rd m c main_arg8
      ∧ rd r.2.mem c main_arg9 = rd m c main_arg9 := by
  refine (θ_run defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Value.run m ρ)
  all_goals
    funext i
    unfold G
    pointwise

end Cert.Proof.InProj
-- ==== Proof.Gate.lean ====
/-
  The gates' projection, shard by shard of the weights' columns, and the same product with the shards side by side.
-/
module

public import proofs.«01_k».proof.Proof.Gen.Kernel10Ideal.Value
public import proofs.«01_k».proof.Proof.Gen.Reference10Ideal.Run
public import proofs.«01_k».proof.Proof.Base

@[expose] public section

set_option maxRecDepth 16384

noncomputable section

namespace Cert.Proof.Gate

open Cert.Kernel10Ideal Cert.Kernel10Ideal.Gen
open Idealize.ShloMosaic Idealize.ShloMosaic.TcCoe
open Idealize.ShloMosaic.Pipeline (Dat)

/-- Where the blocks lie. -/
theorem idx : ∀ t : Fin cfg0.N, win0_0.index t = ![t.val, 0] ∧ win0_1.index t = ![0, 0, 0, 0] ∧ win0_2.index t = ![t.val, 0] :=
  (by decide +kernel : ∀ t : Fin grid0.N, win0_0.index t = ![t.val, 0] ∧ win0_1.index t = ![0, 0, 0, 0] ∧ win0_2.index t = ![t.val, 0])

theorem t_lt (t : Fin cfg0.N) : t.val < 16 := lt_of_lt_of_eq t.isLt (show cfg0.N = 16 from N_0)

variable (m : (ℓ : Loc nD τ sig) → Buf (Elt Ideal) ℓ) (c : Dev nD)

/-- The arguments. -/
abbrev A : S8192x1024.Idx → EReal := rd m c main_arg0
abbrev B : S4x2x1024x1024.Idx → EReal := rd m c main_arg1

abbrev b0 (t : Fin cfg0.N) : Vec Ideal S512x1024 .bf16 := iblk m c 0 t
abbrev b1 (t : Fin cfg0.N) : Vec Ideal S4x1x1024x1024 .bf16 := iblk m c 1 t

theorem b0_apply (t : Fin cfg0.N) (i : Fin 512) (k : Fin 1024) :
    b0 m c t (ix2 i k) = A m c (ix2 (⟨512 * t.val + i.val, by have := t_lt t; omega⟩ : Fin 8192) k) := by
  blk_ext [b0, iblk, idx t]

theorem b1_apply (t : Fin cfg0.N) (s : Fin 4) (k : Fin 1024) (j : Fin 1024) :
    b1 m c t (ix4 s (0 : Fin 1) k j) = B m c (ix4 s (0 : Fin 2) k j) := by
  blk_ext [b1, iblk, idx t]

/-- A row's product with a column of a shard. -/
def Zc (X : Fin 1024 → EReal) (W : Fin 4 → Fin 1024 → Fin 1024 → EReal) (s : Fin 4) (j : Fin 1024) : EReal := ∑ k : Fin 1024, X k * W s k j

/-- A row's products with all the shards. -/
def zrow (X : Fin 1024 → EReal) (W : Fin 4 → Fin 1024 → Fin 1024 → EReal) (j : Fin 4096) : EReal :=
  Zc X W ⟨j.val / 1024, by omega⟩ ⟨j.val % 1024, by omega⟩

def G (A : S8192x1024.Idx → EReal) (B : S4x2x1024x1024.Idx → EReal) : S8192x4096.Idx → EReal := fun i =>
  zrow (fun k => A (ix2 (i 0) k)) (fun s k j => B (ix4 s (0 : Fin 2) k j)) (i 1)

theorem zrow_at (X : Fin 1024 → EReal) (W : Fin 4 → Fin 1024 → Fin 1024 → EReal) (j : Fin 4096) (s : Fin 4) (b : Fin 1024)
    (h : j.val = 1024 * s.val + b.val) : zrow X W j = Zc X W s b := by
  unfold zrow
  have e0 : (⟨j.val / 1024, by omega⟩ : Fin 4) = s := Fin.ext (by dsimp only; omega)
  have e1 : (⟨j.val % 1024, by omega⟩ : Fin 1024) = b := Fin.ext (by dsimp only; omega)
  rw [e0, e1]

section
variable (x0 : Vec Ideal S512x1024 .bf16) (x1 : Vec Ideal S4x1x1024x1024 .bf16)

abbrev X (i : Fin 512) : Fin 1024 → EReal := fun k => x0 (ix2 i k)
abbrev W : Fin 4 → Fin 1024 → Fin 1024 → EReal := fun s k j => x1 (ix4 s (0 : Fin 1) k j)

theorem p0 (a : Fin 512) (b : Fin 1024) : k0_pay1 (View.ld x0 r0_0) (View.ld x1 r0_1) (ix2 a b) = Zc (X x0 a) (W x1) 0 b := by
  unfold k0_pay1 Zc
  pointwise
theorem p1 (a : Fin 512) (b : Fin 1024) : k0_pay2 (View.ld x0 r0_0) (View.ld x1 r0_3) (ix2 a b) = Zc (X x0 a) (W x1) 1 b := by
  unfold k0_pay2 Zc
  pointwise
theorem p2 (a : Fin 512) (b : Fin 1024) : k0_pay3 (View.ld x0 r0_0) (View.ld x1 r0_5) (ix2 a b) = Zc (X x0 a) (W x1) 2 b := by
  unfold k0_pay3 Zc
  pointwise
theorem p3 (a : Fin 512) (b : Fin 1024) : k0_pay4 (View.ld x0 r0_0) (View.ld x1 r0_7) (ix2 a b) = Zc (X x0 a) (W x1) 3 b := by
  unfold k0_pay4 Zc
  pointwise

theorem pay (i : S512x4096.Idx) : out0_2 x0 x1 i = zrow (X x0 (i 0)) (W x1) (i 1) := by
  unfold out0_2
  refine View.canon_apply_of_pieces (Val := Elt Ideal) (S := S512x4096) (e := .bf16) (fun i => zrow (X x0 (i 0)) (W x1) (i 1)) _ ?_ i (cover0_2 _ _ _ _ i)
  intro pc hpc
  rcases List.mem_cons.mp hpc with rfl | hpc
  · refine fun (x : S512x1024.Idx) => ?_
    rw [eq_ix2 x]
    generalize x 0 = a
    generalize x 1 = b
    refine (p3 x0 x1 a b).trans (Eq.symm ?_)
    have e0 : r0_8.emb (ix2 a b) 0 = a := Fin.ext (by show 0 + 1 * a.val = a.val; omega)
    exact (congrArg (fun q : Fin 512 => zrow (X x0 q) (W x1) (r0_8.emb (ix2 a b) 1)) e0).trans (zrow_at _ _ _ 3 b (by show 3072 + 1 * b.val = 1024 * 3 + b.val; omega))
  rcases List.mem_cons.mp hpc with rfl | hpc
  · refine fun (x : S512x1024.Idx) => ?_
    rw [eq_ix2 x]
    generalize x 0 = a
    generalize x 1 = b
    refine (p2 x0 x1 a b).trans (Eq.symm ?_)
    have e0 : r0_6.emb (ix2 a b) 0 = a := Fin.ext (by show 0 + 1 * a.val = a.val; omega)
    exact (congrArg (fun q : Fin 512 => zrow (X x0 q) (W x1) (r0_6.emb (ix2 a b) 1)) e0).trans (zrow_at _ _ _ 2 b (by show 2048 + 1 * b.val = 1024 * 2 + b.val; omega))
  rcases List.mem_cons.mp hpc with rfl | hpc
  · refine fun (x : S512x1024.Idx) => ?_
    rw [eq_ix2 x]
    generalize x 0 = a
    generalize x 1 = b
    refine (p1 x0 x1 a b).trans (Eq.symm ?_)
    have e0 : r0_4.emb (ix2 a b) 0 = a := Fin.ext (by show 0 + 1 * a.val = a.val; omega)
    exact (congrArg (fun q : Fin 512 => zrow (X x0 q) (W x1) (r0_4.emb (ix2 a b) 1)) e0).trans (zrow_at _ _ _ 1 b (by show 1024 + 1 * b.val = 1024 * 1 + b.val; omega))
  rcases List.mem_cons.mp hpc with rfl | hpc
  · refine fun (x : S512x1024.Idx) => ?_
    rw [eq_ix2 x]
    generalize x 0 = a
    generalize x 1 = b
    refine (p0 x0 x1 a b).trans (Eq.symm ?_)
    have e0 : r0_2.emb (ix2 a b) 0 = a := Fin.ext (by show 0 + 1 * a.val = a.val; omega)
    exact (congrArg (fun q : Fin 512 => zrow (X x0 q) (W x1) (r0_2.emb (ix2 a b) 1)) e0).trans (zrow_at _ _ _ 0 b (by show 0 + 1 * b.val = 1024 * 0 + b.val; omega))
  exact absurd hpc List.not_mem_nil

end

theorem out_apply (t : Fin cfg0.N) (i : Fin 512) (j : Fin 4096) :
    (dats m 0 c).arrAt 2 cfg0.N (ix2 (⟨512 * t.val + i.val, by have := t_lt t; omega⟩ : Fin 8192) j)
      = out0_2 (b0 m c t) (b1 m c t) (ix2 i j) := by
  have h := congrFun (Value.blocks2 m c t (flush0_2 t)) (ix2 i j)
  unfold Dat.flushed at h
  rw [after0_2] at h
  refine Eq.trans ?_ h
  blk_ext [idx t]

theorem out' (r : Fin 8192) (j : Fin 4096) : (dats m 0 c).arrAt 2 cfg0.N (ix2 r j) = G (A m c) (B m c) (ix2 r j) := by
  have hlt : r.val / 512 < cfg0.N := lt_of_lt_of_eq (by omega) (show cfg0.N = 16 from N_0).symm
  have e := out_apply m c ⟨r.val / 512, hlt⟩ ⟨r.val % 512, by omega⟩ j
  have er : (⟨512 * (r.val / 512) + r.val % 512, by omega⟩ : Fin 8192) = r := Fin.ext (Nat.div_add_mod _ _)
  dsimp only at e
  rw [er] at e
  refine e.trans ((pay _ _ _).trans ?_)
  show zrow (fun k => b0 m c ⟨r.val / 512, hlt⟩ (ix2 (⟨r.val % 512, by omega⟩ : Fin 512) k)) (fun s k j => b1 m c ⟨r.val / 512, hlt⟩ (ix4 s (0 : Fin 1) k j)) j
    = zrow (fun k => A m c (ix2 r k)) (fun s k j => B m c (ix4 s (0 : Fin 2) k j)) j
  simp only [b0_apply, b1_apply]
  rw [er]

theorem out : (dats m 0 c).arrAt 2 cfg0.N = G (A m c) (B m c) :=
  funext fun (i : S8192x4096.Idx) => by rw [eq_ix2 i]; exact out' m c _ _

end Cert.Proof.Gate

namespace Cert.Proof.Gate

open Cert.Reference10Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v7
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  refine funext fun (i : S8192x4096.Idx) => ?_
  unfold G zrow Zc
  pointwise

end Cert.Proof.Gate
-- ==== Proof.InProjDa.lean ====
/-
  The backward of the nine pieces of the input projection with respect to its rows, nine products added.
-/
module

public import proofs.«01_k».proof.Proof.Gen.Kernel11Ideal.Value
public import proofs.«01_k».proof.Proof.Gen.Reference11Ideal.Run
public import proofs.«01_k».proof.Proof.Base

@[expose] public section

set_option maxRecDepth 16384

noncomputable section

namespace Cert.Proof.InProjDa

open Cert.Kernel11Ideal Cert.Kernel11Ideal.Gen
open Idealize.ShloMosaic Idealize.ShloMosaic.TcCoe
open Idealize.ShloMosaic.Pipeline (Dat)

/-- Where the blocks lie. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![t.val, 0])

theorem t_lt (t : Fin cfg0.N) : t.val < 32 := lt_of_lt_of_eq t.isLt (show cfg0.N = 32 from N_0)

variable (m : (ℓ : Loc nD τ sig) → Buf (Elt Ideal) ℓ) (c : Dev nD)

/-- A product. -/
def P {n : ℕ} (A : (⟨2, ![8192, n]⟩ : Shape).Idx → EReal) (B : (⟨2, ![1024, n]⟩ : Shape).Idx → EReal) (r : Fin 8192) (j : Fin 1024) : EReal :=
  ∑ k : Fin n, A (ix2 r k) * B (ix2 j k)

/-- All the products. -/
def G (A0 : S8192x512.Idx → EReal) (A1 : S8192x512.Idx → EReal) (A2 : S8192x512.Idx → EReal) (A3 : S8192x512.Idx → EReal) (A4 : S8192x1024.Idx → EReal) (A5 : S8192x128.Idx → EReal) (A6 : S8192x1536.Idx → EReal) (A7 : S8192x512.Idx → EReal) (A8 : S8192x128.Idx → EReal)
    (B0 : S1024x512.Idx → EReal) (B1 : S1024x512.Idx → EReal) (B2 : S1024x512.Idx → EReal) (B3 : S1024x512.Idx → EReal) (B4 : S1024x1024.Idx → EReal) (B5 : S1024x128.Idx → EReal) (B6 : S1024x1536.Idx → EReal) (B7 : S1024x512.Idx → EReal) (B8 : S1024x128.Idx → EReal) : S8192x1024.Idx → EReal := fun i =>
  P A0 B0 (i 0) (i 1) + P A1 B1 (i 0) (i 1) + P A2 B2 (i 0) (i 1) + P A3 B3 (i 0) (i 1) + P A4 B4 (i 0) (i 1) + P A5 B5 (i 0) (i 1) + P A6 B6 (i 0) (i 1) + P A7 B7 (i 0) (i 1) + P A8 B8 (i 0) (i 1)

/-- The arguments. -/
abbrev A0 : S8192x512.Idx → EReal := rd m c main_arg0
abbrev A1 : S8192x512.Idx → EReal := rd m c main_arg1
abbrev A2 : S8192x512.Idx → EReal := rd m c main_arg2
abbrev A3 : S8192x512.Idx → EReal := rd m c main_arg3
abbrev A4 : S8192x1024.Idx → EReal := rd m c main_arg4
abbrev A5 : S8192x128.Idx → EReal := rd m c main_arg5
abbrev A6 : S8192x1536.Idx → EReal := rd m c main_arg6
abbrev A7 : S8192x512.Idx → EReal := rd m c main_arg7
abbrev A8 : S8192x128.Idx → EReal := rd m c main_arg8
abbrev B0 : S1024x512.Idx → EReal := rd m c main_arg9
abbrev B1 : S1024x512.Idx → EReal := rd m c main_arg10
abbrev B2 : S1024x512.Idx → EReal := rd m c main_arg11
abbrev B3 : S1024x512.Idx → EReal := rd m c main_arg12
abbrev B4 : S1024x1024.Idx → EReal := rd m c main_arg13
abbrev B5 : S1024x128.Idx → EReal := rd m c main_arg14
abbrev B6 : S1024x1536.Idx → EReal := rd m c main_arg15
abbrev B7 : S1024x512.Idx → EReal := rd m c main_arg16
abbrev B8 : S1024x128.Idx → EReal := rd m c main_arg17

abbrev b0 (t : Fin cfg0.N) : Vec Ideal S256x512 .f32 := iblk m c 0 t
abbrev b1 (t : Fin cfg0.N) : Vec Ideal S256x512 .f32 := iblk m c 1 t
abbrev b2 (t : Fin cfg0.N) : Vec Ideal S256x512 .f32 := iblk m c 2 t
abbrev b3 (t : Fin cfg0.N) : Vec Ideal S256x512 .f32 := iblk m c 3 t
abbrev b4 (t : Fin cfg0.N) : Vec Ideal S256x1024 .f32 := iblk m c 4 t
abbrev b5 (t : Fin cfg0.N) : Vec Ideal S256x128 .f32 := iblk m c 5 t
abbrev b6 (t : Fin cfg0.N) : Vec Ideal S256x1536 .f32 := iblk m c 6 t
abbrev b7 (t : Fin cfg0.N) : Vec Ideal S256x512 .f32 := iblk m c 7 t
abbrev b8 (t : Fin cfg0.N) : Vec Ideal S256x128 .f32 := iblk m c 8 t
abbrev b9 (t : Fin cfg0.N) : Vec Ideal S1024x512 .bf16 := iblk m c 9 t
abbrev b10 (t : Fin cfg0.N) : Vec Ideal S1024x512 .bf16 := iblk m c 10 t
abbrev b11 (t : Fin cfg0.N) : Vec Ideal S1024x512 .bf16 := iblk m c 11 t
abbrev b12 (t : Fin cfg0.N) : Vec Ideal S1024x512 .bf16 := iblk m c 12 t
abbrev b13 (t : Fin cfg0.N) : Vec Ideal S1024x1024 .bf16 := iblk m c 13 t
abbrev b14 (t : Fin cfg0.N) : Vec Ideal S1024x128 .bf16 := iblk m c 14 t
abbrev b15 (t : Fin cfg0.N) : Vec Ideal S1024x1536 .bf16 := iblk m c 15 t
abbrev b16 (t : Fin cfg0.N) : Vec Ideal S1024x512 .bf16 := iblk m c 16 t
abbrev b17 (t : Fin cfg0.N) : Vec Ideal S1024x128 .bf16 := iblk m c 17 t

theorem b0_apply (t : Fin cfg0.N) (i : Fin 256) (k : Fin 512) :
    b0 m c t (ix2 i k) = A0 m c (ix2 (⟨256 * t.val + i.val, by have := t_lt t; omega⟩ : Fin 8192) k) := by
  blk_ext [b0, iblk, idx t]

theorem b1_apply (t : Fin cfg0.N) (i : Fin 256) (k : Fin 512) :
    b1 m c t (ix2 i k) = A1 m c (ix2 (⟨256 * t.val + i.val, by have := t_lt t; omega⟩ : Fin 8192) k) := by
  blk_ext [b1, iblk, idx t]

theorem b2_apply (t : Fin cfg0.N) (i : Fin 256) (k : Fin 512) :
    b2 m c t (ix2 i k) = A2 m c (ix2 (⟨256 * t.val + i.val, by have := t_lt t; omega⟩ : Fin 8192) k) := by
  blk_ext [b2, iblk, idx t]

theorem b3_apply (t : Fin cfg0.N) (i : Fin 256) (k : Fin 512) :
    b3 m c t (ix2 i k) = A3 m c (ix2 (⟨256 * t.val + i.val, by have := t_lt t; omega⟩ : Fin 8192) k) := by
  blk_ext [b3, iblk, idx t]

theorem b4_apply (t : Fin cfg0.N) (i : Fin 256) (k : Fin 1024) :
    b4 m c t (ix2 i k) = A4 m c (ix2 (⟨256 * t.val + i.val, by have := t_lt t; omega⟩ : Fin 8192) k) := by
  blk_ext [b4, iblk, idx t]

theorem b5_apply (t : Fin cfg0.N) (i : Fin 256) (k : Fin 128) :
    b5 m c t (ix2 i k) = A5 m c (ix2 (⟨256 * t.val + i.val, by have := t_lt t; omega⟩ : Fin 8192) k) := by
  blk_ext [b5, iblk, idx t]

theorem b6_apply (t : Fin cfg0.N) (i : Fin 256) (k : Fin 1536) :
    b6 m c t (ix2 i k) = A6 m c (ix2 (⟨256 * t.val + i.val, by have := t_lt t; omega⟩ : Fin 8192) k) := by
  blk_ext [b6, iblk, idx t]

theorem b7_apply (t : Fin cfg0.N) (i : Fin 256) (k : Fin 512) :
    b7 m c t (ix2 i k) = A7 m c (ix2 (⟨256 * t.val + i.val, by have := t_lt t; omega⟩ : Fin 8192) k) := by
  blk_ext [b7, iblk, idx t]

theorem b8_apply (t : Fin cfg0.N) (i : Fin 256) (k : Fin 128) :
    b8 m c t (ix2 i k) = A8 m c (ix2 (⟨256 * t.val + i.val, by have := t_lt t; omega⟩ : Fin 8192) k) := by
  blk_ext [b8, iblk, idx t]

theorem b9_apply (t : Fin cfg0.N) (k : Fin 1024) (j : Fin 512) : b9 m c t (ix2 k j) = B0 m c (ix2 k j) := by
  blk_ext [b9, iblk, idx t]

theorem b10_apply (t : Fin cfg0.N) (k : Fin 1024) (j : Fin 512) : b10 m c t (ix2 k j) = B1 m c (ix2 k j) := by
  blk_ext [b10, iblk, idx t]

theorem b11_apply (t : Fin cfg0.N) (k : Fin 1024) (j : Fin 512) : b11 m c t (ix2 k j) = B2 m c (ix2 k j) := by
  blk_ext [b11, iblk, idx t]

theorem b12_apply (t : Fin cfg0.N) (k : Fin 1024) (j : Fin 512) : b12 m c t (ix2 k j) = B3 m c (ix2 k j) := by
  blk_ext [b12, iblk, idx t]

theorem b13_apply (t : Fin cfg0.N) (k : Fin 1024) (j : Fin 1024) : b13 m c t (ix2 k j) = B4 m c (ix2 k j) := by
  blk_ext [b13, iblk, idx t]

theorem b14_apply (t : Fin cfg0.N) (k : Fin 1024) (j : Fin 128) : b14 m c t (ix2 k j) = B5 m c (ix2 k j) := by
  blk_ext [b14, iblk, idx t]

theorem b15_apply (t : Fin cfg0.N) (k : Fin 1024) (j : Fin 1536) : b15 m c t (ix2 k j) = B6 m c (ix2 k j) := by
  blk_ext [b15, iblk, idx t]

theorem b16_apply (t : Fin cfg0.N) (k : Fin 1024) (j : Fin 512) : b16 m c t (ix2 k j) = B7 m c (ix2 k j) := by
  blk_ext [b16, iblk, idx t]

theorem b17_apply (t : Fin cfg0.N) (k : Fin 1024) (j : Fin 128) : b17 m c t (ix2 k j) = B8 m c (ix2 k j) := by
  blk_ext [b17, iblk, idx t]

theorem pay (x0 : Vec Ideal S256x512 .f32) (x1 : Vec Ideal S256x512 .f32) (x2 : Vec Ideal S256x512 .f32) (x3 : Vec Ideal S256x512 .f32) (x4 : Vec Ideal S256x1024 .f32) (x5 : Vec Ideal S256x128 .f32) (x6 : Vec Ideal S256x1536 .f32) (x7 : Vec Ideal S256x512 .f32) (x8 : Vec Ideal S256x128 .f32) (x9 : Vec Ideal S1024x512 .bf16) (x10 : Vec Ideal S1024x512 .bf16) (x11 : Vec Ideal S1024x512 .bf16) (x12 : Vec Ideal S1024x512 .bf16) (x13 : Vec Ideal S1024x1024 .bf16) (x14 : Vec Ideal S1024x128 .bf16) (x15 : Vec Ideal S1024x1536 .bf16) (x16 : Vec Ideal S1024x512 .bf16) (x17 : Vec Ideal S1024x128 .bf16) (i : Fin 256) (j : Fin 1024) :
    out0_18 x0 x1 x2 x3 x4 x5 x6 x7 x8 x9 x10 x11 x12 x13 x14 x15 x16 x17 (ix2 i j)
      = ((∑ k : Fin 512, (x0 (ix2 i k) * x9 (ix2 j k) : EReal)) + (∑ k : Fin 512, (x1 (ix2 i k) * x10 (ix2 j k) : EReal)) + (∑ k : Fin 512, (x2 (ix2 i k) * x11 (ix2 j k) : EReal)) + (∑ k : Fin 512, (x3 (ix2 i k) * x12 (ix2 j k) : EReal)) + (∑ k : Fin 1024, (x4 (ix2 i k) * x13 (ix2 j k) : EReal)) + (∑ k : Fin 128, (x5 (ix2 i k) * x14 (ix2 j k) : EReal)) + (∑ k : Fin 1536, (x6 (ix2 i k) * x15 (ix2 j k) : EReal)) + (∑ k : Fin 512, (x7 (ix2 i k) * x16 (ix2 j k) : EReal)) + (∑ k : Fin 128, (x8 (ix2 i k) * x17 (ix2 j k) : EReal)) : EReal) := by
  unfold out0_18 k0_pay1 k0_pay2
  rw [View.canon_unit_zero (funext fun a => by fin_cases a <;> rfl)]
  pointwise

theorem out_apply (t : Fin cfg0.N) (i : Fin 256) (j : Fin 1024) :
    (dats m 0 c).arrAt 18 cfg0.N (ix2 (⟨256 * t.val + i.val, by have := t_lt t; omega⟩ : Fin 8192) j)
      = out0_18 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (ix2 i j) := by
  have h := congrFun (Value.blocks18 m c t (flush0_18 t)) (ix2 i j)
  unfold Dat.flushed at h
  rw [after0_18] at h
  refine Eq.trans ?_ h
  blk_ext [idx t]

theorem out' (r : Fin 8192) (j : Fin 1024) : (dats m 0 c).arrAt 18 cfg0.N (ix2 r j) = G (A0 m c) (A1 m c) (A2 m c) (A3 m c) (A4 m c) (A5 m c) (A6 m c) (A7 m c) (A8 m c) (B0 m c) (B1 m c) (B2 m c) (B3 m c) (B4 m c) (B5 m c) (B6 m c) (B7 m c) (B8 m c) (ix2 r j) := by
  have hlt : r.val / 256 < cfg0.N := lt_of_lt_of_eq (by omega) (show cfg0.N = 32 from N_0).symm
  have e := out_apply m c ⟨r.val / 256, hlt⟩ ⟨r.val % 256, by omega⟩ j
  have er : (⟨256 * (r.val / 256) + r.val % 256, by omega⟩ : Fin 8192) = r := Fin.ext (Nat.div_add_mod _ _)
  dsimp only at e
  rw [pay] at e
  simp only [b0_apply, b1_apply, b2_apply, b3_apply, b4_apply, b5_apply, b6_apply, b7_apply, b8_apply, b9_apply, b10_apply, b11_apply, b12_apply, b13_apply, b14_apply, b15_apply, b16_apply, b17_apply] at e
  rw [er] at e
  exact e

theorem out : (dats m 0 c).arrAt 18 cfg0.N = G (A0 m c) (A1 m c) (A2 m c) (A3 m c) (A4 m c) (A5 m c) (A6 m c) (A7 m c) (A8 m c) (B0 m c) (B1 m c) (B2 m c) (B3 m c) (B4 m c) (B5 m c) (B6 m c) (B7 m c) (B8 m c) :=
  funext fun (i : S8192x1024.Idx) => by rw [eq_ix2 i]; exact out' m c _ _

theorem reversed (a b d e f g h i j : EReal) : j + i + h + g + f + e + d + b + a = a + b + d + e + f + g + h + i + j := by
  ac_rfl

end Cert.Proof.InProjDa

namespace Cert.Proof.InProjDa

open Cert.Reference11Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v35
        = G (rd m c main_arg0) (rd m c main_arg1) (rd m c main_arg2) (rd m c main_arg3) (rd m c main_arg4) (rd m c main_arg5) (rd m c main_arg6) (rd m c main_arg7) (rd m c main_arg8) (rd m c main_arg9) (rd m c main_arg10) (rd m c main_arg11) (rd m c main_arg12) (rd m c main_arg13) (rd m c main_arg14) (rd m c main_arg15) (rd m c main_arg16) (rd m c main_arg17)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5
      ∧ rd r.2.mem c main_arg6 = rd m c main_arg6
      ∧ rd r.2.mem c main_arg7 = rd m c main_arg7
      ∧ rd r.2.mem c main_arg8 = rd m c main_arg8
      ∧ rd r.2.mem c main_arg9 = rd m c main_arg9
      ∧ rd r.2.mem c main_arg10 = rd m c main_arg10
      ∧ rd r.2.mem c main_arg11 = rd m c main_arg11
      ∧ rd r.2.mem c main_arg12 = rd m c main_arg12
      ∧ rd r.2.mem c main_arg13 = rd m c main_arg13
      ∧ rd r.2.mem c main_arg14 = rd m c main_arg14
      ∧ rd r.2.mem c main_arg15 = rd m c main_arg15
      ∧ rd r.2.mem c main_arg16 = rd m c main_arg16
      ∧ rd r.2.mem c main_arg17 = rd m c main_arg17 := by
  refine (θ_run defs _ _).mono (fun r h c => ⟨(h c).1.trans ?_, (h c).2⟩) (Value.run m ρ)
  refine funext fun (i : S8192x1024.Idx) => ?_
  unfold G P
  refine Eq.trans ?_ (reversed _ _ _ _ _ _ _ _ _)
  pointwise

end Cert.Proof.InProjDa
-- ==== Proof.GateDa.lean ====
/-
  The backward of the gates' projection with respect to its rows, added to the other projections': four shards of the
  weights, against one product with the shards side by side.
-/
module

public import proofs.«01_k».proof.Proof.Gen.Kernel12Ideal.Value
public import proofs.«01_k».proof.Proof.Gen.Reference12Ideal.Run
public import proofs.«01_k».proof.Proof.Base

@[expose] public section

set_option maxRecDepth 16384

noncomputable section

namespace Cert.Proof.GateDa

open Cert.Kernel12Ideal Cert.Kernel12Ideal.Gen
open Idealize.ShloMosaic Idealize.ShloMosaic.TcCoe
open Idealize.ShloMosaic.Pipeline (Dat)

/-- Where the blocks lie. -/
theorem idx : ∀ t : Fin cfg0.N, win0_0.index t = ![t.val, 0] ∧ win0_1.index t = ![0, 0, 0, 0] ∧ win0_2.index t = ![t.val, 0] ∧ win0_3.index t = ![t.val, 0] :=
  (by decide +kernel : ∀ t : Fin grid0.N, win0_0.index t = ![t.val, 0] ∧ win0_1.index t = ![0, 0, 0, 0] ∧ win0_2.index t = ![t.val, 0] ∧ win0_3.index t = ![t.val, 0])

theorem t_lt (t : Fin cfg0.N) : t.val < 16 := lt_of_lt_of_eq t.isLt (show cfg0.N = 16 from N_0)

variable (m : (ℓ : Loc nD τ sig) → Buf (Elt Ideal) ℓ) (c : Dev nD)

/-- The arguments. -/
abbrev A : S8192x4096.Idx → EReal := rd m c main_arg0
abbrev B : S4x2x1024x1024.Idx → EReal := rd m c main_arg1
abbrev C : S8192x1024.Idx → EReal := rd m c main_arg2

abbrev b0 (t : Fin cfg0.N) : Vec Ideal S512x4096 .bf16 := iblk m c 0 t
abbrev b1 (t : Fin cfg0.N) : Vec Ideal S4x1x1024x1024 .bf16 := iblk m c 1 t
abbrev b2 (t : Fin cfg0.N) : Vec Ideal S512x1024 .f32 := iblk m c 2 t

theorem b0_apply (t : Fin cfg0.N) (i : Fin 512) (k : Fin 4096) :
    b0 m c t (ix2 i k) = A m c (ix2 (⟨512 * t.val + i.val, by have := t_lt t; omega⟩ : Fin 8192) k) := by
  blk_ext [b0, iblk, idx t]

theorem b1_apply (t : Fin cfg0.N) (s : Fin 4) (j : Fin 1024) (k : Fin 1024) :
    b1 m c t (ix4 s (0 : Fin 1) j k) = B m c (ix4 s (0 : Fin 2) j k) := by
  blk_ext [b1, iblk, idx t]

theorem b2_apply (t : Fin cfg0.N) (i : Fin 512) (j : Fin 1024) :
    b2 m c t (ix2 i j) = C m c (ix2 (⟨512 * t.val + i.val, by have := t_lt t; omega⟩ : Fin 8192) j) := by
  blk_ext [b2, iblk, idx t]

/-- The product, shard by shard. -/
def G0 (A : S8192x4096.Idx → EReal) (B : S4x2x1024x1024.Idx → EReal) : S8192x1024.Idx → EReal := fun i =>
  ∑ s : Fin 4, ∑ k : Fin 1024, A (ix2 (i 0) (⟨1024 * s.val + k.val, by omega⟩ : Fin 4096)) * B (ix4 s (0 : Fin 2) (i 1) k)

/-- The product and the addend. -/
def G (A : S8192x4096.Idx → EReal) (B : S4x2x1024x1024.Idx → EReal) (C : S8192x1024.Idx → EReal) : S8192x1024.Idx → EReal := fun i =>
  G0 A B i + C i

theorem pay (x0 : Vec Ideal S512x4096 .bf16) (x1 : Vec Ideal S4x1x1024x1024 .bf16) (x2 : Vec Ideal S512x1024 .f32) (i : Fin 512) (j : Fin 1024) :
    out0_3 x0 x1 x2 (ix2 i j)
      = (∑ s : Fin 4, ∑ k : Fin 1024, (x0 (ix2 i (⟨1024 * s.val + k.val, by omega⟩ : Fin 4096)) * x1 (ix4 s (0 : Fin 1) j k) : EReal) + x2 (ix2 i j) : EReal) := by
  unfold out0_3 k0_pay1
  rw [View.canon_unit_zero (funext fun a => by fin_cases a <;> rfl), Fin.sum_univ_four]
  pointwise

theorem out : (dats m 0 c).arrAt 3 cfg0.N = G (A m c) (B m c) (C m c) :=
  rows_ext (b := 512) (n := cfg0.N) (by decide) (show 8192 ≤ 512 * grid0.N by norm_num [N_0]) fun t i j hl => by
    have h := congrFun (Value.blocks3 m c t (flush0_3 t)) (ix2 i j)
    unfold Dat.flushed at h
    rw [after0_3] at h
    change _ = out0_3 (b0 m c t) (b1 m c t) (b2 m c t) (ix2 i j) at h
    rw [pay] at h
    simp only [b0_apply, b1_apply, b2_apply] at h
    refine Eq.trans ?_ h
    blk_ext [idx t]

end Cert.Proof.GateDa

namespace Cert.Proof.GateDa

open Cert.Reference12Ideal
open Idealize.ShloMosaic Idealize.ShloMosaic.TcCoe Idealize.SL.Sem

/-- The product over the shards side by side. -/
theorem flat (A : S8192x4096.Idx → EReal) (B : S4x2x1024x1024.Idx → EReal) (i : S8192x1024.Idx) :
    (∑ k : Fin 4096, A (ix2 (i 0) k) * B (ix4 (⟨k.val / 1024, by omega⟩ : Fin 4) (0 : Fin 2) (i 1) (⟨k.val % 1024, by omega⟩ : Fin 1024)))
      = G0 A B i := by
  rw [Sums.sum_blocks (a := 4) (b := 1024) rfl]
  unfold G0
  refine Finset.sum_congr rfl fun s _ => Finset.sum_congr rfl fun k _ => ?_
  have e0 : (⟨(1024 * s.val + k.val) / 1024, by omega⟩ : Fin 4) = s := Fin.ext (by dsimp only; omega)
  have e1 : (⟨(1024 * s.val + k.val) % 1024, by omega⟩ : Fin 1024) = k := Fin.ext (by dsimp only; omega)
  dsimp only
  rw [e0, e1]

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v10
        = G (rd m c main_arg0) (rd m c main_arg1) (rd m c main_arg2)
      ∧ rd r.2.mem c main_arg0 = rd m c main_arg0
      ∧ rd r.2.mem c main_arg1 = rd m c main_arg1
      ∧ rd r.2.mem c main_arg2 = rd m c main_arg2 := by
  refine (θ_run defs _ _).mono (fun r h c => ⟨(h c).1.trans ?_, (h c).2⟩) (Value.run m ρ)
  funext i
  refine Eq.trans ?_ ((add_comm _ _).trans (congrArg (· + _) (flat _ _ i)))
  pointwise

end Cert.Proof.GateDa
-- ==== Proof.InDw512.lean ====
/-
  The backward of the input projection with respect to a piece of 512 columns of its weights: accumulated over eight tiles
  of rows in a buffer the grid carries, against one product over all the rows.
-/
module

public import proofs.«01_k».proof.Proof.Gen.Kernel13Ideal.Value
public import proofs.«01_k».proof.Proof.Gen.Reference13Ideal.Run
public import proofs.«01_k».proof.Proof.Base

@[expose] public section

set_option maxRecDepth 16384

noncomputable section

namespace Cert.Proof.InDw512

open Cert.Kernel13Ideal Cert.Kernel13Ideal.Gen
open Idealize.ShloMosaic Idealize.ShloMosaic.TcCoe
open Idealize.ShloMosaic.Pipeline (Dat)

/-- Where the blocks lie. -/
theorem idx : ∀ t : Fin cfg0.N, win0_0.index t = ![t.val % 8, t.val / 8] ∧ win0_1.index t = ![t.val % 8, 0] :=
  (by decide +kernel : ∀ t : Fin grid0.N, win0_0.index t = ![t.val % 8, t.val / 8] ∧ win0_1.index t = ![t.val % 8, 0])

theorem t_lt (t : Fin cfg0.N) : t.val < 8 := lt_of_lt_of_eq t.isLt (show cfg0.N = 8 from N_0)

variable (m : (ℓ : Loc nD τ sig) → Buf (Elt Ideal) ℓ) (c : Dev nD)

/-- The arguments. -/
abbrev A : S8192x1024.Idx → EReal := rd m c main_arg0
abbrev B : S8192x512.Idx → EReal := rd m c main_arg1

abbrev b0 (t : Fin cfg0.N) : Vec Ideal S1024x1024 .bf16 := iblk m c 0 t
abbrev b1 (t : Fin cfg0.N) : Vec Ideal S1024x512 .f32 := iblk m c 1 t

theorem b0_apply (t : Fin cfg0.N) (k : Fin 1024) (i : Fin 1024) :
    b0 m c t (ix2 k i) = A m c (ix2 (⟨(1024 * (t.val % 8) + k.val) % 8192, by omega⟩ : Fin 8192) (⟨(1024 * (t.val / 8) + i.val) % 1024, by omega⟩ : Fin 1024)) := by
  have e1 : (⟨(1024 * (t.val / 8) + i.val) % 1024, by omega⟩ : Fin 1024) = ⟨1024 * (t.val / 8) + i.val, by have := t_lt t; omega⟩ := Fin.ext (by have := t_lt t; dsimp only; omega)
  rw [row, e1]
  blk_ext [b0, iblk, idx t]

theorem b1_apply (t : Fin cfg0.N) (k : Fin 1024) (j : Fin 512) :
    b1 m c t (ix2 k j) = B m c (ix2 (⟨(1024 * (t.val % 8) + k.val) % 8192, by omega⟩ : Fin 8192) j) := by
  rw [row]
  blk_ext [b1, iblk, idx t]

/-- The product over the rows, tile by tile. -/
def M (A : S8192x1024.Idx → EReal) (B : S8192x512.Idx → EReal) (q : ℕ) (s : ℕ) (i : Fin 1024) (j : Fin 512) : EReal :=
  ∑ k : Fin 1024, A (ix2 (⟨(1024 * s + k.val) % 8192, by omega⟩ : Fin 8192) (⟨(1024 * q + i.val) % 1024, by omega⟩ : Fin 1024))
    * B (ix2 (⟨(1024 * s + k.val) % 8192, by omega⟩ : Fin 8192) j)

def G (A : S8192x1024.Idx → EReal) (B : S8192x512.Idx → EReal) : S1024x512.Idx → EReal := fun i =>
  ∑ k : Fin 8192, A (ix2 k (i 0)) * B (ix2 k (i 1))

theorem pay (s : Vec Ideal S1024x512 .f32) (x : Vec Ideal S1024x1024 .bf16) (y : Vec Ideal S1024x512 .f32) (i : Fin 1024) (j : Fin 512) :
    k0_pay2 s x y (ix2 i j) = (s (ix2 i j) + ∑ k : Fin 1024, (x (ix2 k i) * y (ix2 k j) : EReal) : EReal) := by
  unfold k0_pay2
  pointwise

theorem pay0 (i : Fin 1024) (j : Fin 512) : (k0_pay1 (F := Ideal)) (ix2 i j) = (0 : EReal) := by
  unfold k0_pay1
  pointwise

section
variable (i : grid0.Coords) (a3 : Memref sig .tc .vmem S1024x1024 .bf16) (h3 : a3.IsWhole) (a4 : Memref sig .tc .vmem S1024x512 .f32) (h4 : a4.IsWhole)
  (a5 : Memref sig .tc .vmem S1024x512 .f32) (h5 : a5.IsWhole) (a6 : Memref sig .tc .vmem S1024x512 .f32) (h6 : a6.IsWhole)
  (x : Vec Ideal S1024x1024 .bf16) (y : Vec Ideal S1024x512 .f32) (s : Vec Ideal S1024x512 .f32)

theorem sout_A (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero hz, View.readCov_unit_zero _ hz]
  simp only [View.readAt_eq_ld, h3.read_unread, h4.read_unread, View.ld_unit_zero (S := S1024x512) hz, View.ld_unit_zero (S := S1024x1024) hz]

theorem sout_B (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1024x512) hz, View.ld_unit_zero (S := S1024x1024) hz]

theorem sout_C (hc0 : ¬cond0_0 i) (hc1 : cond0_1 i) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x512) hz, View.ld_unit_zero (S := S1024x1024) hz]

theorem out_C (hc0 : ¬cond0_0 i) (hc1 : cond0_1 i) :
    out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero _ hz]
  simp only [View.readAt_eq_ld, h3.read_unread, h4.read_unread, h6.read_unread, View.ld_unit_zero (S := S1024x512) hz, View.ld_unit_zero (S := S1024x1024) hz]

end

/-- A tile's product, of the blocks the point reads. -/
theorem tile (t : Fin cfg0.N) (i : Fin 1024) (j : Fin 512) :
    (∑ k : Fin 1024, (b0 m c t (ix2 k i) * b1 m c t (ix2 k j) : EReal)) = M (A m c) (B m c) (t.val / 8) (t.val % 8) i j := by
  unfold M
  simp only [b0_apply, b1_apply]

/-- The carried buffer after a point, over what it held before. -/
theorem step0 (t : Fin cfg0.N) (acc) (h0 : t.val % 8 = 0) (i : Fin 1024) (j : Fin 512) :
    (Value.stAt0 m c t.val t.isLt acc).2 (ix2 i j) = M (A m c) (B m c) (t.val / 8) (t.val % 8) i j := by
  rw [Value.stAt0_A m c t acc h0 (by omega)]
  dsimp only
  rw [sout_A, pay, pay0, tile]
  exact zero_add _

theorem step1 (t : Fin cfg0.N) (acc) (h0 : ¬t.val % 8 = 0) (i : Fin 1024) (j : Fin 512) :
    (Value.stAt0 m c t.val t.isLt acc).2 (ix2 i j) = (acc.2 (ix2 i j) + M (A m c) (B m c) (t.val / 8) (t.val % 8) i j : EReal) := by
  by_cases h1 : t.val % 8 = 7
  · rw [Value.stAt0_C m c t acc h0 h1]
    dsimp only
    rw [sout_C, pay, tile]
  · rw [Value.stAt0_B m c t acc h0 h1]
    dsimp only
    rw [sout_B, pay, tile]

/-- The last tile's point leaves in the block what it leaves in the carried buffer. -/
theorem step2 (t : Fin cfg0.N) (acc) (h1 : t.val % 8 = 7) :
    (Value.stAt0 m c t.val t.isLt acc).1 = (Value.stAt0 m c t.val t.isLt acc).2 := by
  rw [Value.stAt0_C m c t acc (by omega) h1]
  dsimp only
  rw [out_C, sout_C]

/-- The carried buffer after a point: the tiles so far. -/
theorem carried : ∀ (n : ℕ) (h : n < cfg0.N) (i : Fin 1024) (j : Fin 512),
    (outsAt0 m c n h).2 (ix2 i j) = ∑ s ∈ Finset.range (n % 8 + 1), M (A m c) (B m c) (n / 8) s i j := fun n h i j =>
  Sums.carried (fun o => o.2 (ix2 i j)) (fun q s => M (A m c) (B m c) q s i j) (outsAt0 m c) (Value.stAt0 m c) _
    (Value.outsAt0_zero m c) (Value.outsAt0_succ m c) (fun t a h0 => step0 m c t a h0 i j) (fun t a h0 => step1 m c t a h0 i j) n h

theorem last (n : ℕ) (h : n < cfg0.N) (h7 : n % 8 = 7) : (outsAt0 m c n h).1 = (outsAt0 m c n h).2 := by
  obtain _ | n := n
  · exact absurd h7 (by decide)
  · rw [Value.outsAt0_succ]
    exact step2 m c ⟨n + 1, h⟩ _ h7

/-- All the tiles are all the rows. -/
theorem tiles (A : S8192x1024.Idx → EReal) (B : S8192x512.Idx → EReal) (r : Fin 1024) (j : Fin 512) :
    (∑ s ∈ Finset.range 8, M A B (r.val / 1024) s ⟨r.val % 1024, by omega⟩ j) = G A B (ix2 r j) := by
  unfold G M
  rw [← Sums.tiles]
  have e1 : (⟨(1024 * (r.val / 1024) + r.val % 1024) % 1024, by omega⟩ : Fin 1024) = r := Fin.ext (by dsimp only; omega)
  dsimp only
  rw [e1]
  rfl

theorem out' (r : Fin 1024) (j : Fin 512) : (dats m 0 c).arrAt 2 cfg0.N (ix2 r j) = G (A m c) (B m c) (ix2 r j) := by
  have hp : 8 * (r.val / 1024) + 7 < cfg0.N := lt_of_lt_of_eq (by omega) (show cfg0.N = 8 from N_0).symm
  have hq : Value.pt2Of (ix2 r j) = 8 * (r.val / 1024) + 7 := by
    show 8 * (1 * (r.val / 1024 - 0) + 1 * (j.val / 512 - 0)) + 7 = _
    omega
  have hl : Value.loc2Of (ix2 r j) = ix2 (⟨r.val % 1024, by omega⟩ : Fin 1024) j := by
    funext a
    fin_cases a
    · rfl
    · exact Fin.ext (Nat.mod_eq_of_lt j.isLt)
  rw [Value.final2]
  unfold Value.G2
  rw [dif_pos (hq ▸ hp), hl, ← tiles]
  have e : ∀ (n : ℕ) (h : 0 + n < cfg0.N) (hn : n = 8 * (r.val / 1024) + 7),
      (Pipeline.accAt (fun n h => Value.stAt0 m c n h Value.junk0) (Value.stAt0 m c) 0 n h) = outsAt0 m c (8 * (r.val / 1024) + 7) hp := by
    intro n h hn
    subst hn
    exact (Value.outsAt0_sweep m c _ _).symm
  rw [e _ _ hq, last m c _ hp (by omega), carried]
  have e0 : (8 * (r.val / 1024) + 7) / 8 = r.val / 1024 := by omega
  have e1 : (8 * (r.val / 1024) + 7) % 8 = 7 := by omega
  rw [e0, e1]

theorem out : (dats m 0 c).arrAt 2 cfg0.N = G (A m c) (B m c) :=
  funext fun (i : S1024x512.Idx) => by rw [eq_ix2 i]; exact out' m c _ _

end Cert.Proof.InDw512

namespace Cert.Proof.InDw512

open Cert.Reference13Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v4
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  funext i
  refine Eq.trans ?_ (Finset.sum_congr rfl fun k _ => mul_comm _ _)
  pointwise

end Cert.Proof.InDw512
-- ==== Proof.InDw1024.lean ====
/-
  The backward of the input projection with respect to a piece of 1024 columns of its weights: accumulated over eight tiles
  of rows in a buffer the grid carries, against one product over all the rows.
-/
module

public import proofs.«01_k».proof.Proof.Gen.Kernel14Ideal.Value
public import proofs.«01_k».proof.Proof.Gen.Reference14Ideal.Run
public import proofs.«01_k».proof.Proof.Base

@[expose] public section

set_option maxRecDepth 16384

noncomputable section

namespace Cert.Proof.InDw1024

open Cert.Kernel14Ideal Cert.Kernel14Ideal.Gen
open Idealize.ShloMosaic Idealize.ShloMosaic.TcCoe
open Idealize.ShloMosaic.Pipeline (Dat)

/-- Where the blocks lie. -/
theorem idx : ∀ t : Fin cfg0.N, win0_0.index t = ![t.val % 8, t.val / 8] ∧ win0_1.index t = ![t.val % 8, 0] :=
  (by decide +kernel : ∀ t : Fin grid0.N, win0_0.index t = ![t.val % 8, t.val / 8] ∧ win0_1.index t = ![t.val % 8, 0])

theorem t_lt (t : Fin cfg0.N) : t.val < 8 := lt_of_lt_of_eq t.isLt (show cfg0.N = 8 from N_0)

variable (m : (ℓ : Loc nD τ sig) → Buf (Elt Ideal) ℓ) (c : Dev nD)

/-- The arguments. -/
abbrev A : S8192x1024.Idx → EReal := rd m c main_arg0
abbrev B : S8192x1024.Idx → EReal := rd m c main_arg1

abbrev b0 (t : Fin cfg0.N) : Vec Ideal S1024x1024 .bf16 := iblk m c 0 t
abbrev b1 (t : Fin cfg0.N) : Vec Ideal S1024x1024 .f32 := iblk m c 1 t

theorem b0_apply (t : Fin cfg0.N) (k : Fin 1024) (i : Fin 1024) :
    b0 m c t (ix2 k i) = A m c (ix2 (⟨(1024 * (t.val % 8) + k.val) % 8192, by omega⟩ : Fin 8192) (⟨(1024 * (t.val / 8) + i.val) % 1024, by omega⟩ : Fin 1024)) := by
  have e1 : (⟨(1024 * (t.val / 8) + i.val) % 1024, by omega⟩ : Fin 1024) = ⟨1024 * (t.val / 8) + i.val, by have := t_lt t; omega⟩ := Fin.ext (by have := t_lt t; dsimp only; omega)
  rw [row, e1]
  blk_ext [b0, iblk, idx t]

theorem b1_apply (t : Fin cfg0.N) (k : Fin 1024) (j : Fin 1024) :
    b1 m c t (ix2 k j) = B m c (ix2 (⟨(1024 * (t.val % 8) + k.val) % 8192, by omega⟩ : Fin 8192) j) := by
  rw [row]
  blk_ext [b1, iblk, idx t]

/-- The product over the rows, tile by tile. -/
def M (A : S8192x1024.Idx → EReal) (B : S8192x1024.Idx → EReal) (q : ℕ) (s : ℕ) (i : Fin 1024) (j : Fin 1024) : EReal :=
  ∑ k : Fin 1024, A (ix2 (⟨(1024 * s + k.val) % 8192, by omega⟩ : Fin 8192) (⟨(1024 * q + i.val) % 1024, by omega⟩ : Fin 1024))
    * B (ix2 (⟨(1024 * s + k.val) % 8192, by omega⟩ : Fin 8192) j)

def G (A : S8192x1024.Idx → EReal) (B : S8192x1024.Idx → EReal) : S1024x1024.Idx → EReal := fun i =>
  ∑ k : Fin 8192, A (ix2 k (i 0)) * B (ix2 k (i 1))

theorem pay (s : Vec Ideal S1024x1024 .f32) (x : Vec Ideal S1024x1024 .bf16) (y : Vec Ideal S1024x1024 .f32) (i : Fin 1024) (j : Fin 1024) :
    k0_pay2 s x y (ix2 i j) = (s (ix2 i j) + ∑ k : Fin 1024, (x (ix2 k i) * y (ix2 k j) : EReal) : EReal) := by
  unfold k0_pay2
  pointwise

theorem pay0 (i : Fin 1024) (j : Fin 1024) : (k0_pay1 (F := Ideal)) (ix2 i j) = (0 : EReal) := by
  unfold k0_pay1
  pointwise

section
variable (i : grid0.Coords) (a3 : Memref sig .tc .vmem S1024x1024 .bf16) (h3 : a3.IsWhole) (a4 : Memref sig .tc .vmem S1024x1024 .f32) (h4 : a4.IsWhole)
  (a5 : Memref sig .tc .vmem S1024x1024 .f32) (h5 : a5.IsWhole) (a6 : Memref sig .tc .vmem S1024x1024 .f32) (h6 : a6.IsWhole)
  (x : Vec Ideal S1024x1024 .bf16) (y : Vec Ideal S1024x1024 .f32) (s : Vec Ideal S1024x1024 .f32)

theorem sout_A (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero hz, View.readCov_unit_zero _ hz]
  simp only [View.readAt_eq_ld, h3.read_unread, h4.read_unread, View.ld_unit_zero (S := S1024x1024) hz]

theorem sout_B (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1024x1024) hz]

theorem sout_C (hc0 : ¬cond0_0 i) (hc1 : cond0_1 i) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x1024) hz]

theorem out_C (hc0 : ¬cond0_0 i) (hc1 : cond0_1 i) :
    out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero _ hz]
  simp only [View.readAt_eq_ld, h3.read_unread, h4.read_unread, h6.read_unread, View.ld_unit_zero (S := S1024x1024) hz]

end

/-- A tile's product, of the blocks the point reads. -/
theorem tile (t : Fin cfg0.N) (i : Fin 1024) (j : Fin 1024) :
    (∑ k : Fin 1024, (b0 m c t (ix2 k i) * b1 m c t (ix2 k j) : EReal)) = M (A m c) (B m c) (t.val / 8) (t.val % 8) i j := by
  unfold M
  simp only [b0_apply, b1_apply]

/-- The carried buffer after a point, over what it held before. -/
theorem step0 (t : Fin cfg0.N) (acc) (h0 : t.val % 8 = 0) (i : Fin 1024) (j : Fin 1024) :
    (Value.stAt0 m c t.val t.isLt acc).2 (ix2 i j) = M (A m c) (B m c) (t.val / 8) (t.val % 8) i j := by
  rw [Value.stAt0_A m c t acc h0 (by omega)]
  dsimp only
  rw [sout_A, pay, pay0, tile]
  exact zero_add _

theorem step1 (t : Fin cfg0.N) (acc) (h0 : ¬t.val % 8 = 0) (i : Fin 1024) (j : Fin 1024) :
    (Value.stAt0 m c t.val t.isLt acc).2 (ix2 i j) = (acc.2 (ix2 i j) + M (A m c) (B m c) (t.val / 8) (t.val % 8) i j : EReal) := by
  by_cases h1 : t.val % 8 = 7
  · rw [Value.stAt0_C m c t acc h0 h1]
    dsimp only
    rw [sout_C, pay, tile]
  · rw [Value.stAt0_B m c t acc h0 h1]
    dsimp only
    rw [sout_B, pay, tile]

/-- The last tile's point leaves in the block what it leaves in the carried buffer. -/
theorem step2 (t : Fin cfg0.N) (acc) (h1 : t.val % 8 = 7) :
    (Value.stAt0 m c t.val t.isLt acc).1 = (Value.stAt0 m c t.val t.isLt acc).2 := by
  rw [Value.stAt0_C m c t acc (by omega) h1]
  dsimp only
  rw [out_C, sout_C]

/-- The carried buffer after a point: the tiles so far. -/
theorem carried : ∀ (n : ℕ) (h : n < cfg0.N) (i : Fin 1024) (j : Fin 1024),
    (outsAt0 m c n h).2 (ix2 i j) = ∑ s ∈ Finset.range (n % 8 + 1), M (A m c) (B m c) (n / 8) s i j := fun n h i j =>
  Sums.carried (fun o => o.2 (ix2 i j)) (fun q s => M (A m c) (B m c) q s i j) (outsAt0 m c) (Value.stAt0 m c) _
    (Value.outsAt0_zero m c) (Value.outsAt0_succ m c) (fun t a h0 => step0 m c t a h0 i j) (fun t a h0 => step1 m c t a h0 i j) n h

theorem last (n : ℕ) (h : n < cfg0.N) (h7 : n % 8 = 7) : (outsAt0 m c n h).1 = (outsAt0 m c n h).2 := by
  obtain _ | n := n
  · exact absurd h7 (by decide)
  · rw [Value.outsAt0_succ]
    exact step2 m c ⟨n + 1, h⟩ _ h7

/-- All the tiles are all the rows. -/
theorem tiles (A : S8192x1024.Idx → EReal) (B : S8192x1024.Idx → EReal) (r : Fin 1024) (j : Fin 1024) :
    (∑ s ∈ Finset.range 8, M A B (r.val / 1024) s ⟨r.val % 1024, by omega⟩ j) = G A B (ix2 r j) := by
  unfold G M
  rw [← Sums.tiles]
  have e1 : (⟨(1024 * (r.val / 1024) + r.val % 1024) % 1024, by omega⟩ : Fin 1024) = r := Fin.ext (by dsimp only; omega)
  dsimp only
  rw [e1]
  rfl

theorem out' (r : Fin 1024) (j : Fin 1024) : (dats m 0 c).arrAt 2 cfg0.N (ix2 r j) = G (A m c) (B m c) (ix2 r j) := by
  have hp : 8 * (r.val / 1024) + 7 < cfg0.N := lt_of_lt_of_eq (by omega) (show cfg0.N = 8 from N_0).symm
  have hq : Value.pt2Of (ix2 r j) = 8 * (r.val / 1024) + 7 := by
    show 8 * (1 * (r.val / 1024 - 0) + 1 * (j.val / 1024 - 0)) + 7 = _
    omega
  have hl : Value.loc2Of (ix2 r j) = ix2 (⟨r.val % 1024, by omega⟩ : Fin 1024) j := by
    funext a
    fin_cases a
    · rfl
    · exact Fin.ext (Nat.mod_eq_of_lt j.isLt)
  rw [Value.final2]
  unfold Value.G2
  rw [dif_pos (hq ▸ hp), hl, ← tiles]
  have e : ∀ (n : ℕ) (h : 0 + n < cfg0.N) (hn : n = 8 * (r.val / 1024) + 7),
      (Pipeline.accAt (fun n h => Value.stAt0 m c n h Value.junk0) (Value.stAt0 m c) 0 n h) = outsAt0 m c (8 * (r.val / 1024) + 7) hp := by
    intro n h hn
    subst hn
    exact (Value.outsAt0_sweep m c _ _).symm
  rw [e _ _ hq, last m c _ hp (by omega), carried]
  have e0 : (8 * (r.val / 1024) + 7) / 8 = r.val / 1024 := by omega
  have e1 : (8 * (r.val / 1024) + 7) % 8 = 7 := by omega
  rw [e0, e1]

theorem out : (dats m 0 c).arrAt 2 cfg0.N = G (A m c) (B m c) :=
  funext fun (i : S1024x1024.Idx) => by rw [eq_ix2 i]; exact out' m c _ _

end Cert.Proof.InDw1024

namespace Cert.Proof.InDw1024

open Cert.Reference14Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v4
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  funext i
  refine Eq.trans ?_ (Finset.sum_congr rfl fun k _ => mul_comm _ _)
  pointwise

end Cert.Proof.InDw1024
-- ==== Proof.InDw128.lean ====
/-
  The backward of the input projection with respect to a piece of 128 columns of its weights: accumulated over eight tiles
  of rows in a buffer the grid carries, against one product over all the rows.
-/
module

public import proofs.«01_k».proof.Proof.Gen.Kernel15Ideal.Value
public import proofs.«01_k».proof.Proof.Gen.Reference15Ideal.Run
public import proofs.«01_k».proof.Proof.Base

@[expose] public section

set_option maxRecDepth 16384

noncomputable section

namespace Cert.Proof.InDw128

open Cert.Kernel15Ideal Cert.Kernel15Ideal.Gen
open Idealize.ShloMosaic Idealize.ShloMosaic.TcCoe
open Idealize.ShloMosaic.Pipeline (Dat)

/-- Where the blocks lie. -/
theorem idx : ∀ t : Fin cfg0.N, win0_0.index t = ![t.val % 8, t.val / 8] ∧ win0_1.index t = ![t.val % 8, 0] :=
  (by decide +kernel : ∀ t : Fin grid0.N, win0_0.index t = ![t.val % 8, t.val / 8] ∧ win0_1.index t = ![t.val % 8, 0])

theorem t_lt (t : Fin cfg0.N) : t.val < 8 := lt_of_lt_of_eq t.isLt (show cfg0.N = 8 from N_0)

variable (m : (ℓ : Loc nD τ sig) → Buf (Elt Ideal) ℓ) (c : Dev nD)

/-- The arguments. -/
abbrev A : S8192x1024.Idx → EReal := rd m c main_arg0
abbrev B : S8192x128.Idx → EReal := rd m c main_arg1

abbrev b0 (t : Fin cfg0.N) : Vec Ideal S1024x1024 .bf16 := iblk m c 0 t
abbrev b1 (t : Fin cfg0.N) : Vec Ideal S1024x128 .f32 := iblk m c 1 t

theorem b0_apply (t : Fin cfg0.N) (k : Fin 1024) (i : Fin 1024) :
    b0 m c t (ix2 k i) = A m c (ix2 (⟨(1024 * (t.val % 8) + k.val) % 8192, by omega⟩ : Fin 8192) (⟨(1024 * (t.val / 8) + i.val) % 1024, by omega⟩ : Fin 1024)) := by
  have e1 : (⟨(1024 * (t.val / 8) + i.val) % 1024, by omega⟩ : Fin 1024) = ⟨1024 * (t.val / 8) + i.val, by have := t_lt t; omega⟩ := Fin.ext (by have := t_lt t; dsimp only; omega)
  rw [row, e1]
  blk_ext [b0, iblk, idx t]

theorem b1_apply (t : Fin cfg0.N) (k : Fin 1024) (j : Fin 128) :
    b1 m c t (ix2 k j) = B m c (ix2 (⟨(1024 * (t.val % 8) + k.val) % 8192, by omega⟩ : Fin 8192) j) := by
  rw [row]
  blk_ext [b1, iblk, idx t]

/-- The product over the rows, tile by tile. -/
def M (A : S8192x1024.Idx → EReal) (B : S8192x128.Idx → EReal) (q : ℕ) (s : ℕ) (i : Fin 1024) (j : Fin 128) : EReal :=
  ∑ k : Fin 1024, A (ix2 (⟨(1024 * s + k.val) % 8192, by omega⟩ : Fin 8192) (⟨(1024 * q + i.val) % 1024, by omega⟩ : Fin 1024))
    * B (ix2 (⟨(1024 * s + k.val) % 8192, by omega⟩ : Fin 8192) j)

def G (A : S8192x1024.Idx → EReal) (B : S8192x128.Idx → EReal) : S1024x128.Idx → EReal := fun i =>
  ∑ k : Fin 8192, A (ix2 k (i 0)) * B (ix2 k (i 1))

theorem pay (s : Vec Ideal S1024x128 .f32) (x : Vec Ideal S1024x1024 .bf16) (y : Vec Ideal S1024x128 .f32) (i : Fin 1024) (j : Fin 128) :
    k0_pay2 s x y (ix2 i j) = (s (ix2 i j) + ∑ k : Fin 1024, (x (ix2 k i) * y (ix2 k j) : EReal) : EReal) := by
  unfold k0_pay2
  pointwise

theorem pay0 (i : Fin 1024) (j : Fin 128) : (k0_pay1 (F := Ideal)) (ix2 i j) = (0 : EReal) := by
  unfold k0_pay1
  pointwise

section
variable (i : grid0.Coords) (a3 : Memref sig .tc .vmem S1024x1024 .bf16) (h3 : a3.IsWhole) (a4 : Memref sig .tc .vmem S1024x128 .f32) (h4 : a4.IsWhole)
  (a5 : Memref sig .tc .vmem S1024x128 .f32) (h5 : a5.IsWhole) (a6 : Memref sig .tc .vmem S1024x128 .f32) (h6 : a6.IsWhole)
  (x : Vec Ideal S1024x1024 .bf16) (y : Vec Ideal S1024x128 .f32) (s : Vec Ideal S1024x128 .f32)

theorem sout_A (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero hz, View.readCov_unit_zero _ hz]
  simp only [View.readAt_eq_ld, h3.read_unread, h4.read_unread, View.ld_unit_zero (S := S1024x128) hz, View.ld_unit_zero (S := S1024x1024) hz]

theorem sout_B (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1024x128) hz, View.ld_unit_zero (S := S1024x1024) hz]

theorem sout_C (hc0 : ¬cond0_0 i) (hc1 : cond0_1 i) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x128) hz, View.ld_unit_zero (S := S1024x1024) hz]

theorem out_C (hc0 : ¬cond0_0 i) (hc1 : cond0_1 i) :
    out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero _ hz]
  simp only [View.readAt_eq_ld, h3.read_unread, h4.read_unread, h6.read_unread, View.ld_unit_zero (S := S1024x128) hz, View.ld_unit_zero (S := S1024x1024) hz]

end

/-- A tile's product, of the blocks the point reads. -/
theorem tile (t : Fin cfg0.N) (i : Fin 1024) (j : Fin 128) :
    (∑ k : Fin 1024, (b0 m c t (ix2 k i) * b1 m c t (ix2 k j) : EReal)) = M (A m c) (B m c) (t.val / 8) (t.val % 8) i j := by
  unfold M
  simp only [b0_apply, b1_apply]

/-- The carried buffer after a point, over what it held before. -/
theorem step0 (t : Fin cfg0.N) (acc) (h0 : t.val % 8 = 0) (i : Fin 1024) (j : Fin 128) :
    (Value.stAt0 m c t.val t.isLt acc).2 (ix2 i j) = M (A m c) (B m c) (t.val / 8) (t.val % 8) i j := by
  rw [Value.stAt0_A m c t acc h0 (by omega)]
  dsimp only
  rw [sout_A, pay, pay0, tile]
  exact zero_add _

theorem step1 (t : Fin cfg0.N) (acc) (h0 : ¬t.val % 8 = 0) (i : Fin 1024) (j : Fin 128) :
    (Value.stAt0 m c t.val t.isLt acc).2 (ix2 i j) = (acc.2 (ix2 i j) + M (A m c) (B m c) (t.val / 8) (t.val % 8) i j : EReal) := by
  by_cases h1 : t.val % 8 = 7
  · rw [Value.stAt0_C m c t acc h0 h1]
    dsimp only
    rw [sout_C, pay, tile]
  · rw [Value.stAt0_B m c t acc h0 h1]
    dsimp only
    rw [sout_B, pay, tile]

/-- The last tile's point leaves in the block what it leaves in the carried buffer. -/
theorem step2 (t : Fin cfg0.N) (acc) (h1 : t.val % 8 = 7) :
    (Value.stAt0 m c t.val t.isLt acc).1 = (Value.stAt0 m c t.val t.isLt acc).2 := by
  rw [Value.stAt0_C m c t acc (by omega) h1]
  dsimp only
  rw [out_C, sout_C]

/-- The carried buffer after a point: the tiles so far. -/
theorem carried : ∀ (n : ℕ) (h : n < cfg0.N) (i : Fin 1024) (j : Fin 128),
    (outsAt0 m c n h).2 (ix2 i j) = ∑ s ∈ Finset.range (n % 8 + 1), M (A m c) (B m c) (n / 8) s i j := fun n h i j =>
  Sums.carried (fun o => o.2 (ix2 i j)) (fun q s => M (A m c) (B m c) q s i j) (outsAt0 m c) (Value.stAt0 m c) _
    (Value.outsAt0_zero m c) (Value.outsAt0_succ m c) (fun t a h0 => step0 m c t a h0 i j) (fun t a h0 => step1 m c t a h0 i j) n h

theorem last (n : ℕ) (h : n < cfg0.N) (h7 : n % 8 = 7) : (outsAt0 m c n h).1 = (outsAt0 m c n h).2 := by
  obtain _ | n := n
  · exact absurd h7 (by decide)
  · rw [Value.outsAt0_succ]
    exact step2 m c ⟨n + 1, h⟩ _ h7

/-- All the tiles are all the rows. -/
theorem tiles (A : S8192x1024.Idx → EReal) (B : S8192x128.Idx → EReal) (r : Fin 1024) (j : Fin 128) :
    (∑ s ∈ Finset.range 8, M A B (r.val / 1024) s ⟨r.val % 1024, by omega⟩ j) = G A B (ix2 r j) := by
  unfold G M
  rw [← Sums.tiles]
  have e1 : (⟨(1024 * (r.val / 1024) + r.val % 1024) % 1024, by omega⟩ : Fin 1024) = r := Fin.ext (by dsimp only; omega)
  dsimp only
  rw [e1]
  rfl

theorem out' (r : Fin 1024) (j : Fin 128) : (dats m 0 c).arrAt 2 cfg0.N (ix2 r j) = G (A m c) (B m c) (ix2 r j) := by
  have hp : 8 * (r.val / 1024) + 7 < cfg0.N := lt_of_lt_of_eq (by omega) (show cfg0.N = 8 from N_0).symm
  have hq : Value.pt2Of (ix2 r j) = 8 * (r.val / 1024) + 7 := by
    show 8 * (1 * (r.val / 1024 - 0) + 1 * (j.val / 128 - 0)) + 7 = _
    omega
  have hl : Value.loc2Of (ix2 r j) = ix2 (⟨r.val % 1024, by omega⟩ : Fin 1024) j := by
    funext a
    fin_cases a
    · rfl
    · exact Fin.ext (Nat.mod_eq_of_lt j.isLt)
  rw [Value.final2]
  unfold Value.G2
  rw [dif_pos (hq ▸ hp), hl, ← tiles]
  have e : ∀ (n : ℕ) (h : 0 + n < cfg0.N) (hn : n = 8 * (r.val / 1024) + 7),
      (Pipeline.accAt (fun n h => Value.stAt0 m c n h Value.junk0) (Value.stAt0 m c) 0 n h) = outsAt0 m c (8 * (r.val / 1024) + 7) hp := by
    intro n h hn
    subst hn
    exact (Value.outsAt0_sweep m c _ _).symm
  rw [e _ _ hq, last m c _ hp (by omega), carried]
  have e0 : (8 * (r.val / 1024) + 7) / 8 = r.val / 1024 := by omega
  have e1 : (8 * (r.val / 1024) + 7) % 8 = 7 := by omega
  rw [e0, e1]

theorem out : (dats m 0 c).arrAt 2 cfg0.N = G (A m c) (B m c) :=
  funext fun (i : S1024x128.Idx) => by rw [eq_ix2 i]; exact out' m c _ _

end Cert.Proof.InDw128

namespace Cert.Proof.InDw128

open Cert.Reference15Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v4
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  funext i
  refine Eq.trans ?_ (Finset.sum_congr rfl fun k _ => mul_comm _ _)
  pointwise

end Cert.Proof.InDw128
-- ==== Proof.InDw1536.lean ====
/-
  The backward of the input projection with respect to a piece of 1536 columns of its weights: accumulated over eight tiles
  of rows in a buffer the grid carries, against one product over all the rows.
-/
module

public import proofs.«01_k».proof.Proof.Gen.Kernel16Ideal.Value
public import proofs.«01_k».proof.Proof.Gen.Reference16Ideal.Run
public import proofs.«01_k».proof.Proof.Base

@[expose] public section

set_option maxRecDepth 16384

noncomputable section

namespace Cert.Proof.InDw1536

open Cert.Kernel16Ideal Cert.Kernel16Ideal.Gen
open Idealize.ShloMosaic Idealize.ShloMosaic.TcCoe
open Idealize.ShloMosaic.Pipeline (Dat)

/-- Where the blocks lie. -/
theorem idx : ∀ t : Fin cfg0.N, win0_0.index t = ![t.val % 8, t.val / 8] ∧ win0_1.index t = ![t.val % 8, 0] :=
  (by decide +kernel : ∀ t : Fin grid0.N, win0_0.index t = ![t.val % 8, t.val / 8] ∧ win0_1.index t = ![t.val % 8, 0])

theorem t_lt (t : Fin cfg0.N) : t.val < 8 := lt_of_lt_of_eq t.isLt (show cfg0.N = 8 from N_0)

variable (m : (ℓ : Loc nD τ sig) → Buf (Elt Ideal) ℓ) (c : Dev nD)

/-- The arguments. -/
abbrev A : S8192x1024.Idx → EReal := rd m c main_arg0
abbrev B : S8192x1536.Idx → EReal := rd m c main_arg1

abbrev b0 (t : Fin cfg0.N) : Vec Ideal S1024x1024 .bf16 := iblk m c 0 t
abbrev b1 (t : Fin cfg0.N) : Vec Ideal S1024x1536 .f32 := iblk m c 1 t

theorem b0_apply (t : Fin cfg0.N) (k : Fin 1024) (i : Fin 1024) :
    b0 m c t (ix2 k i) = A m c (ix2 (⟨(1024 * (t.val % 8) + k.val) % 8192, by omega⟩ : Fin 8192) (⟨(1024 * (t.val / 8) + i.val) % 1024, by omega⟩ : Fin 1024)) := by
  have e1 : (⟨(1024 * (t.val / 8) + i.val) % 1024, by omega⟩ : Fin 1024) = ⟨1024 * (t.val / 8) + i.val, by have := t_lt t; omega⟩ := Fin.ext (by have := t_lt t; dsimp only; omega)
  rw [row, e1]
  blk_ext [b0, iblk, idx t]

theorem b1_apply (t : Fin cfg0.N) (k : Fin 1024) (j : Fin 1536) :
    b1 m c t (ix2 k j) = B m c (ix2 (⟨(1024 * (t.val % 8) + k.val) % 8192, by omega⟩ : Fin 8192) j) := by
  rw [row]
  blk_ext [b1, iblk, idx t]

/-- The product over the rows, tile by tile. -/
def M (A : S8192x1024.Idx → EReal) (B : S8192x1536.Idx → EReal) (q : ℕ) (s : ℕ) (i : Fin 1024) (j : Fin 1536) : EReal :=
  ∑ k : Fin 1024, A (ix2 (⟨(1024 * s + k.val) % 8192, by omega⟩ : Fin 8192) (⟨(1024 * q + i.val) % 1024, by omega⟩ : Fin 1024))
    * B (ix2 (⟨(1024 * s + k.val) % 8192, by omega⟩ : Fin 8192) j)

def G (A : S8192x1024.Idx → EReal) (B : S8192x1536.Idx → EReal) : S1024x1536.Idx → EReal := fun i =>
  ∑ k : Fin 8192, A (ix2 k (i 0)) * B (ix2 k (i 1))

theorem pay (s : Vec Ideal S1024x1536 .f32) (x : Vec Ideal S1024x1024 .bf16) (y : Vec Ideal S1024x1536 .f32) (i : Fin 1024) (j : Fin 1536) :
    k0_pay2 s x y (ix2 i j) = (s (ix2 i j) + ∑ k : Fin 1024, (x (ix2 k i) * y (ix2 k j) : EReal) : EReal) := by
  unfold k0_pay2
  pointwise

theorem pay0 (i : Fin 1024) (j : Fin 1536) : (k0_pay1 (F := Ideal)) (ix2 i j) = (0 : EReal) := by
  unfold k0_pay1
  pointwise

section
variable (i : grid0.Coords) (a3 : Memref sig .tc .vmem S1024x1024 .bf16) (h3 : a3.IsWhole) (a4 : Memref sig .tc .vmem S1024x1536 .f32) (h4 : a4.IsWhole)
  (a5 : Memref sig .tc .vmem S1024x1536 .f32) (h5 : a5.IsWhole) (a6 : Memref sig .tc .vmem S1024x1536 .f32) (h6 : a6.IsWhole)
  (x : Vec Ideal S1024x1024 .bf16) (y : Vec Ideal S1024x1536 .f32) (s : Vec Ideal S1024x1536 .f32)

theorem sout_A (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero hz, View.readCov_unit_zero _ hz]
  simp only [View.readAt_eq_ld, h3.read_unread, h4.read_unread, View.ld_unit_zero (S := S1024x1536) hz, View.ld_unit_zero (S := S1024x1024) hz]

theorem sout_B (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1024x1536) hz, View.ld_unit_zero (S := S1024x1024) hz]

theorem sout_C (hc0 : ¬cond0_0 i) (hc1 : cond0_1 i) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x1536) hz, View.ld_unit_zero (S := S1024x1024) hz]

theorem out_C (hc0 : ¬cond0_0 i) (hc1 : cond0_1 i) :
    out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero _ hz]
  simp only [View.readAt_eq_ld, h3.read_unread, h4.read_unread, h6.read_unread, View.ld_unit_zero (S := S1024x1536) hz, View.ld_unit_zero (S := S1024x1024) hz]

end

/-- A tile's product, of the blocks the point reads. -/
theorem tile (t : Fin cfg0.N) (i : Fin 1024) (j : Fin 1536) :
    (∑ k : Fin 1024, (b0 m c t (ix2 k i) * b1 m c t (ix2 k j) : EReal)) = M (A m c) (B m c) (t.val / 8) (t.val % 8) i j := by
  unfold M
  simp only [b0_apply, b1_apply]

/-- The carried buffer after a point, over what it held before. -/
theorem step0 (t : Fin cfg0.N) (acc) (h0 : t.val % 8 = 0) (i : Fin 1024) (j : Fin 1536) :
    (Value.stAt0 m c t.val t.isLt acc).2 (ix2 i j) = M (A m c) (B m c) (t.val / 8) (t.val % 8) i j := by
  rw [Value.stAt0_A m c t acc h0 (by omega)]
  dsimp only
  rw [sout_A, pay, pay0, tile]
  exact zero_add _

theorem step1 (t : Fin cfg0.N) (acc) (h0 : ¬t.val % 8 = 0) (i : Fin 1024) (j : Fin 1536) :
    (Value.stAt0 m c t.val t.isLt acc).2 (ix2 i j) = (acc.2 (ix2 i j) + M (A m c) (B m c) (t.val / 8) (t.val % 8) i j : EReal) := by
  by_cases h1 : t.val % 8 = 7
  · rw [Value.stAt0_C m c t acc h0 h1]
    dsimp only
    rw [sout_C, pay, tile]
  · rw [Value.stAt0_B m c t acc h0 h1]
    dsimp only
    rw [sout_B, pay, tile]

/-- The last tile's point leaves in the block what it leaves in the carried buffer. -/
theorem step2 (t : Fin cfg0.N) (acc) (h1 : t.val % 8 = 7) :
    (Value.stAt0 m c t.val t.isLt acc).1 = (Value.stAt0 m c t.val t.isLt acc).2 := by
  rw [Value.stAt0_C m c t acc (by omega) h1]
  dsimp only
  rw [out_C, sout_C]

/-- The carried buffer after a point: the tiles so far. -/
theorem carried : ∀ (n : ℕ) (h : n < cfg0.N) (i : Fin 1024) (j : Fin 1536),
    (outsAt0 m c n h).2 (ix2 i j) = ∑ s ∈ Finset.range (n % 8 + 1), M (A m c) (B m c) (n / 8) s i j := fun n h i j =>
  Sums.carried (fun o => o.2 (ix2 i j)) (fun q s => M (A m c) (B m c) q s i j) (outsAt0 m c) (Value.stAt0 m c) _
    (Value.outsAt0_zero m c) (Value.outsAt0_succ m c) (fun t a h0 => step0 m c t a h0 i j) (fun t a h0 => step1 m c t a h0 i j) n h

theorem last (n : ℕ) (h : n < cfg0.N) (h7 : n % 8 = 7) : (outsAt0 m c n h).1 = (outsAt0 m c n h).2 := by
  obtain _ | n := n
  · exact absurd h7 (by decide)
  · rw [Value.outsAt0_succ]
    exact step2 m c ⟨n + 1, h⟩ _ h7

/-- All the tiles are all the rows. -/
theorem tiles (A : S8192x1024.Idx → EReal) (B : S8192x1536.Idx → EReal) (r : Fin 1024) (j : Fin 1536) :
    (∑ s ∈ Finset.range 8, M A B (r.val / 1024) s ⟨r.val % 1024, by omega⟩ j) = G A B (ix2 r j) := by
  unfold G M
  rw [← Sums.tiles]
  have e1 : (⟨(1024 * (r.val / 1024) + r.val % 1024) % 1024, by omega⟩ : Fin 1024) = r := Fin.ext (by dsimp only; omega)
  dsimp only
  rw [e1]
  rfl

theorem out' (r : Fin 1024) (j : Fin 1536) : (dats m 0 c).arrAt 2 cfg0.N (ix2 r j) = G (A m c) (B m c) (ix2 r j) := by
  have hp : 8 * (r.val / 1024) + 7 < cfg0.N := lt_of_lt_of_eq (by omega) (show cfg0.N = 8 from N_0).symm
  have hq : Value.pt2Of (ix2 r j) = 8 * (r.val / 1024) + 7 := by
    show 8 * (1 * (r.val / 1024 - 0) + 1 * (j.val / 1536 - 0)) + 7 = _
    omega
  have hl : Value.loc2Of (ix2 r j) = ix2 (⟨r.val % 1024, by omega⟩ : Fin 1024) j := by
    funext a
    fin_cases a
    · rfl
    · exact Fin.ext (Nat.mod_eq_of_lt j.isLt)
  rw [Value.final2]
  unfold Value.G2
  rw [dif_pos (hq ▸ hp), hl, ← tiles]
  have e : ∀ (n : ℕ) (h : 0 + n < cfg0.N) (hn : n = 8 * (r.val / 1024) + 7),
      (Pipeline.accAt (fun n h => Value.stAt0 m c n h Value.junk0) (Value.stAt0 m c) 0 n h) = outsAt0 m c (8 * (r.val / 1024) + 7) hp := by
    intro n h hn
    subst hn
    exact (Value.outsAt0_sweep m c _ _).symm
  rw [e _ _ hq, last m c _ hp (by omega), carried]
  have e0 : (8 * (r.val / 1024) + 7) / 8 = r.val / 1024 := by omega
  have e1 : (8 * (r.val / 1024) + 7) % 8 = 7 := by omega
  rw [e0, e1]

theorem out : (dats m 0 c).arrAt 2 cfg0.N = G (A m c) (B m c) :=
  funext fun (i : S1024x1536.Idx) => by rw [eq_ix2 i]; exact out' m c _ _

end Cert.Proof.InDw1536

namespace Cert.Proof.InDw1536

open Cert.Reference16Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v4
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  funext i
  refine Eq.trans ?_ (Finset.sum_congr rfl fun k _ => mul_comm _ _)
  pointwise

end Cert.Proof.InDw1536
-- ==== Proof.GateDw.lean ====
/-
  The backward of the gates' projection with respect to its weights, four shards of them: accumulated over eight tiles of rows in a
  buffer the grid carries, against one product over all the rows.
-/
module

public import proofs.«01_k».proof.Proof.Gen.Kernel17Ideal.Value
public import proofs.«01_k».proof.Proof.Gen.Reference17Ideal.Run
public import proofs.«01_k».proof.Proof.Base

@[expose] public section

set_option maxRecDepth 16384

noncomputable section

namespace Cert.Proof.GateDw

open Cert.Kernel17Ideal Cert.Kernel17Ideal.Gen
open Idealize.ShloMosaic Idealize.ShloMosaic.TcCoe
open Idealize.ShloMosaic.Pipeline (Dat)

theorem hz3 : (![0, 0, 0] : Fin 3 → Nat) = fun _ => 0 := funext fun a => by fin_cases a <;> rfl

/-- Where the blocks lie. -/
theorem idx : ∀ t : Fin cfg0.N, win0_0.index t = ![t.val % 8, 0] ∧ win0_1.index t = ![t.val % 8, t.val / 8] :=
  (by decide +kernel : ∀ t : Fin grid0.N, win0_0.index t = ![t.val % 8, 0] ∧ win0_1.index t = ![t.val % 8, t.val / 8])

theorem t_lt (t : Fin cfg0.N) : t.val < 32 := lt_of_lt_of_eq t.isLt (show cfg0.N = 32 from N_0)

variable (m : (ℓ : Loc nD τ sig) → Buf (Elt Ideal) ℓ) (c : Dev nD)

/-- The arguments. -/
abbrev A : S8192x1024.Idx → EReal := rd m c main_arg0
abbrev B : S8192x4096.Idx → EReal := rd m c main_arg1

abbrev b0 (t : Fin cfg0.N) : Vec Ideal S1024x1024 .bf16 := iblk m c 0 t
abbrev b1 (t : Fin cfg0.N) : Vec Ideal S1024x1024 .bf16 := iblk m c 1 t

theorem b0_apply (t : Fin cfg0.N) (k : Fin 1024) (i : Fin 1024) :
    b0 m c t (ix2 k i) = A m c (ix2 (⟨(1024 * (t.val % 8) + k.val) % 8192, by omega⟩ : Fin 8192) i) := by
  rw [row]
  blk_ext [b0, iblk, idx t]

theorem b1_apply (t : Fin cfg0.N) (k : Fin 1024) (j : Fin 1024) :
    b1 m c t (ix2 k j) = B m c (ix2 (⟨(1024 * (t.val % 8) + k.val) % 8192, by omega⟩ : Fin 8192) (⟨(1024 * (t.val / 8) + j.val) % 4096, by omega⟩ : Fin 4096)) := by
  have e1 : (⟨(1024 * (t.val / 8) + j.val) % 4096, by omega⟩ : Fin 4096) = ⟨1024 * (t.val / 8) + j.val, by have := t_lt t; omega⟩ := Fin.ext (by have := t_lt t; dsimp only; omega)
  rw [row, e1]
  blk_ext [b1, iblk, idx t]

/-- The product over the rows, tile by tile. -/
def M (A : S8192x1024.Idx → EReal) (B : S8192x4096.Idx → EReal) (q : ℕ) (s : ℕ) (i : Fin 1024) (j : Fin 1024) : EReal :=
  ∑ k : Fin 1024, A (ix2 (⟨(1024 * s + k.val) % 8192, by omega⟩ : Fin 8192) i)
    * B (ix2 (⟨(1024 * s + k.val) % 8192, by omega⟩ : Fin 8192) (⟨(1024 * q + j.val) % 4096, by omega⟩ : Fin 4096))

def G (A : S8192x1024.Idx → EReal) (B : S8192x4096.Idx → EReal) : S4x1024x1024.Idx → EReal := fun i =>
  ∑ k : Fin 8192, A (ix2 k (i 1)) * B (ix2 k (⟨(i 0).val * 1024 + (i 2).val, by
    have h0 : (i 0).val < 4 := (i 0).isLt
    have h2 : (i 2).val < 1024 := (i 2).isLt
    omega⟩ : Fin 4096))

theorem pay (s : Vec Ideal S1024x1024 .f32) (x : Vec Ideal S1024x1024 .bf16) (y : Vec Ideal S1024x1024 .bf16) (i : Fin 1024) (j : Fin 1024) :
    k0_pay2 s x y (ix2 i j) = (s (ix2 i j) + ∑ k : Fin 1024, (x (ix2 k i) * y (ix2 k j) : EReal) : EReal) := by
  unfold k0_pay2
  pointwise

theorem pay0 (i : Fin 1024) (j : Fin 1024) : (k0_pay1 (F := Ideal)) (ix2 i j) = (0 : EReal) := by
  unfold k0_pay1
  pointwise

section
variable (i : grid0.Coords) (a3 : Memref sig .tc .vmem S1024x1024 .bf16) (h3 : a3.IsWhole) (a4 : Memref sig .tc .vmem S1024x1024 .bf16) (h4 : a4.IsWhole)
  (a5 : Memref sig .tc .vmem S1x1024x1024 .f32) (h5 : a5.IsWhole) (a6 : Memref sig .tc .vmem S1024x1024 .f32) (h6 : a6.IsWhole)
  (x : Vec Ideal S1024x1024 .bf16) (y : Vec Ideal S1024x1024 .bf16) (s : Vec Ideal S1024x1024 .f32)

theorem sout_A (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero hz, View.readCov_unit_zero _ hz]
  simp only [View.readAt_eq_ld, h3.read_unread, h4.read_unread, View.ld_unit_zero (S := S1024x1024) hz]

theorem sout_B (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1024x1024) hz]

theorem sout_C (hc0 : ¬cond0_0 i) (hc1 : cond0_1 i) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x1024) hz]

theorem out_C (hc0 : ¬cond0_0 i) (hc1 : cond0_1 i) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz3, View.readCov_unit_zero _ hz]
  simp only [View.readAt_eq_ld, h3.read_unread, h4.read_unread, h6.read_unread, View.ld_unit_zero (S := S1024x1024) hz]

end

/-- A tile's product, of the blocks the point reads. -/
theorem tile (t : Fin cfg0.N) (i : Fin 1024) (j : Fin 1024) :
    (∑ k : Fin 1024, (b0 m c t (ix2 k i) * b1 m c t (ix2 k j) : EReal)) = M (A m c) (B m c) (t.val / 8) (t.val % 8) i j := by
  unfold M
  simp only [b0_apply, b1_apply]

/-- The carried buffer after a point, over what it held before. -/
theorem step0 (t : Fin cfg0.N) (acc) (h0 : t.val % 8 = 0) (i : Fin 1024) (j : Fin 1024) :
    (Value.stAt0 m c t.val t.isLt acc).2 (ix2 i j) = M (A m c) (B m c) (t.val / 8) (t.val % 8) i j := by
  rw [Value.stAt0_A m c t acc h0 (by omega)]
  dsimp only
  rw [sout_A, pay, pay0, tile]
  exact zero_add _

theorem step1 (t : Fin cfg0.N) (acc) (h0 : ¬t.val % 8 = 0) (i : Fin 1024) (j : Fin 1024) :
    (Value.stAt0 m c t.val t.isLt acc).2 (ix2 i j) = (acc.2 (ix2 i j) + M (A m c) (B m c) (t.val / 8) (t.val % 8) i j : EReal) := by
  by_cases h1 : t.val % 8 = 7
  · rw [Value.stAt0_C m c t acc h0 h1]
    dsimp only
    rw [sout_C, pay, tile]
  · rw [Value.stAt0_B m c t acc h0 h1]
    dsimp only
    rw [sout_B, pay, tile]

/-- The last tile's point leaves in the block what it leaves in the carried buffer. -/
theorem step2 (t : Fin cfg0.N) (acc) (h1 : t.val % 8 = 7) :
    (Value.stAt0 m c t.val t.isLt acc).1 = k0_pay3 (Value.stAt0 m c t.val t.isLt acc).2 := by
  rw [Value.stAt0_C m c t acc (by omega) h1]
  dsimp only
  rw [out_C, sout_C]

theorem pay3 (s : Vec Ideal S1024x1024 .f32) (i : Fin 1024) (j : Fin 1024) :
    k0_pay3 s (ix3 (0 : Fin 1) i j) = s (ix2 i j) := by
  unfold k0_pay3
  pointwise

/-- The carried buffer after a point: the tiles so far. -/
theorem carried : ∀ (n : ℕ) (h : n < cfg0.N) (i : Fin 1024) (j : Fin 1024),
    (outsAt0 m c n h).2 (ix2 i j) = ∑ s ∈ Finset.range (n % 8 + 1), M (A m c) (B m c) (n / 8) s i j := fun n h i j =>
  Sums.carried (fun o => o.2 (ix2 i j)) (fun q s => M (A m c) (B m c) q s i j) (outsAt0 m c) (Value.stAt0 m c) _
    (Value.outsAt0_zero m c) (Value.outsAt0_succ m c) (fun t a h0 => step0 m c t a h0 i j) (fun t a h0 => step1 m c t a h0 i j) n h

theorem last (n : ℕ) (h : n < cfg0.N) (h7 : n % 8 = 7) : (outsAt0 m c n h).1 = k0_pay3 (outsAt0 m c n h).2 := by
  obtain _ | n := n
  · exact absurd h7 (by decide)
  · rw [Value.outsAt0_succ]
    exact step2 m c ⟨n + 1, h⟩ _ h7

/-- All the tiles are all the rows. -/
theorem tiles (A : S8192x1024.Idx → EReal) (B : S8192x4096.Idx → EReal) (q : Fin 4) (i : Fin 1024) (j : Fin 1024) :
    (∑ s ∈ Finset.range 8, M A B q.val s i j) = G A B (ix3 q i j) := by
  unfold G M
  rw [← Sums.tiles]
  have e1 : (⟨(1024 * q.val + j.val) % 4096, by omega⟩ : Fin 4096) = ⟨q.val * 1024 + j.val, by omega⟩ := Fin.ext (by dsimp only; omega)
  dsimp only
  rw [e1]
  rfl

theorem out' (q : Fin 4) (i : Fin 1024) (j : Fin 1024) : (dats m 0 c).arrAt 2 cfg0.N (ix3 q i j) = G (A m c) (B m c) (ix3 q i j) := by
  have hp : 8 * q.val + 7 < cfg0.N := lt_of_lt_of_eq (by omega) (show cfg0.N = 32 from N_0).symm
  have hq : Value.pt2Of (ix3 q i j) = 8 * q.val + 7 := by
    show 8 * (1 * (q.val / 1 - 0) + 1 * (i.val / 1024 - 0) + 1 * (j.val / 1024 - 0)) + 7 = _
    omega
  have hl : Value.loc2Of (ix3 q i j) = ix3 (0 : Fin 1) i j := by
    funext a
    fin_cases a
    · exact Fin.ext (Nat.mod_one _)
    · exact Fin.ext (Nat.mod_eq_of_lt i.isLt)
    · exact Fin.ext (Nat.mod_eq_of_lt j.isLt)
  rw [Value.final2]
  unfold Value.G2
  rw [dif_pos (hq ▸ hp), hl, ← tiles]
  have e : ∀ (n : ℕ) (h : 0 + n < cfg0.N) (hn : n = 8 * q.val + 7),
      (Pipeline.accAt (fun n h => Value.stAt0 m c n h Value.junk0) (Value.stAt0 m c) 0 n h) = outsAt0 m c (8 * q.val + 7) hp := by
    intro n h hn
    subst hn
    exact (Value.outsAt0_sweep m c _ _).symm
  rw [e _ _ hq, last m c _ hp (by omega), pay3, carried]
  have e0 : (8 * q.val + 7) / 8 = q.val := by omega
  have e1 : (8 * q.val + 7) % 8 = 7 := by omega
  rw [e0, e1]

theorem out : (dats m 0 c).arrAt 2 cfg0.N = G (A m c) (B m c) :=
  funext fun (i : S4x1024x1024.Idx) => by rw [eq_ix3 i]; exact out' m c _ _ _

end Cert.Proof.GateDw

namespace Cert.Proof.GateDw

open Cert.Reference17Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v7
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  funext i
  refine Eq.trans ?_ (Finset.sum_congr rfl fun k _ => mul_comm _ _)
  pointwise

end Cert.Proof.GateDw
-- ==== Proof.Branch.lean ====
/-
  A branch's projection, shard by shard of the weights' columns, and the same product with the shards side by side.
-/
module

public import proofs.«01_k».proof.Proof.Gen.Kernel18Ideal.Value
public import proofs.«01_k».proof.Proof.Gen.Reference18Ideal.Run
public import proofs.«01_k».proof.Proof.Base

@[expose] public section

set_option maxRecDepth 16384

noncomputable section

namespace Cert.Proof.Branch

open Cert.Kernel18Ideal Cert.Kernel18Ideal.Gen
open Idealize.ShloMosaic Idealize.ShloMosaic.TcCoe
open Idealize.ShloMosaic.Pipeline (Dat)

/-- Where the blocks lie. -/
theorem idx : ∀ t : Fin cfg0.N, win0_0.index t = ![t.val, 0] ∧ win0_1.index t = ![0, 0, 0, 0, 0] ∧ win0_2.index t = ![t.val, 0] :=
  (by decide +kernel : ∀ t : Fin grid0.N, win0_0.index t = ![t.val, 0] ∧ win0_1.index t = ![0, 0, 0, 0, 0] ∧ win0_2.index t = ![t.val, 0])

theorem t_lt (t : Fin cfg0.N) : t.val < 16 := lt_of_lt_of_eq t.isLt (show cfg0.N = 16 from N_0)

variable (m : (ℓ : Loc nD τ sig) → Buf (Elt Ideal) ℓ) (c : Dev nD)

/-- The arguments. -/
abbrev A : S8192x512.Idx → EReal := rd m c main_arg0
abbrev B : S4x2x4x512x256.Idx → EReal := rd m c main_arg1

abbrev b0 (t : Fin cfg0.N) : Vec Ideal S512x512 .bf16 := iblk m c 0 t
abbrev b1 (t : Fin cfg0.N) : Vec Ideal S4x1x1x512x256 .bf16 := iblk m c 1 t

theorem b0_apply (t : Fin cfg0.N) (i : Fin 512) (k : Fin 512) :
    b0 m c t (ix2 i k) = A m c (ix2 (⟨512 * t.val + i.val, by have := t_lt t; omega⟩ : Fin 8192) k) := by
  blk_ext [b0, iblk, idx t]

theorem b1_apply (t : Fin cfg0.N) (s : Fin 4) (k : Fin 512) (j : Fin 256) :
    b1 m c t (ix5 s (0 : Fin 1) (0 : Fin 1) k j) = B m c (ix5 s (0 : Fin 2) (0 : Fin 4) k j) := by
  blk_ext [b1, iblk, idx t]

/-- A row's product with a column of a shard. -/
def Zc (X : Fin 512 → EReal) (W : Fin 4 → Fin 512 → Fin 256 → EReal) (s : Fin 4) (j : Fin 256) : EReal := ∑ k : Fin 512, X k * W s k j

/-- A row's products with all the shards. -/
def zrow (X : Fin 512 → EReal) (W : Fin 4 → Fin 512 → Fin 256 → EReal) (j : Fin 1024) : EReal :=
  Zc X W ⟨j.val / 256, by omega⟩ ⟨j.val % 256, by omega⟩

def G (A : S8192x512.Idx → EReal) (B : S4x2x4x512x256.Idx → EReal) : S8192x1024.Idx → EReal := fun i =>
  zrow (fun k => A (ix2 (i 0) k)) (fun s k j => B (ix5 s (0 : Fin 2) (0 : Fin 4) k j)) (i 1)

theorem zrow_at (X : Fin 512 → EReal) (W : Fin 4 → Fin 512 → Fin 256 → EReal) (j : Fin 1024) (s : Fin 4) (b : Fin 256)
    (h : j.val = 256 * s.val + b.val) : zrow X W j = Zc X W s b := by
  unfold zrow
  have e0 : (⟨j.val / 256, by omega⟩ : Fin 4) = s := Fin.ext (by dsimp only; omega)
  have e1 : (⟨j.val % 256, by omega⟩ : Fin 256) = b := Fin.ext (by dsimp only; omega)
  rw [e0, e1]

section
variable (x0 : Vec Ideal S512x512 .bf16) (x1 : Vec Ideal S4x1x1x512x256 .bf16)

abbrev X (i : Fin 512) : Fin 512 → EReal := fun k => x0 (ix2 i k)
abbrev W : Fin 4 → Fin 512 → Fin 256 → EReal := fun s k j => x1 (ix5 s (0 : Fin 1) (0 : Fin 1) k j)

theorem p0 (a : Fin 512) (b : Fin 256) : k0_pay1 (View.ld x0 r0_0) (View.ld x1 r0_1) (ix2 a b) = Zc (X x0 a) (W x1) 0 b := by
  unfold k0_pay1 Zc
  pointwise
theorem p1 (a : Fin 512) (b : Fin 256) : k0_pay2 (View.ld x0 r0_0) (View.ld x1 r0_3) (ix2 a b) = Zc (X x0 a) (W x1) 1 b := by
  unfold k0_pay2 Zc
  pointwise
theorem p2 (a : Fin 512) (b : Fin 256) : k0_pay3 (View.ld x0 r0_0) (View.ld x1 r0_5) (ix2 a b) = Zc (X x0 a) (W x1) 2 b := by
  unfold k0_pay3 Zc
  pointwise
theorem p3 (a : Fin 512) (b : Fin 256) : k0_pay4 (View.ld x0 r0_0) (View.ld x1 r0_7) (ix2 a b) = Zc (X x0 a) (W x1) 3 b := by
  unfold k0_pay4 Zc
  pointwise

theorem pay (i : S512x1024.Idx) : out0_2 x0 x1 i = zrow (X x0 (i 0)) (W x1) (i 1) := by
  unfold out0_2
  refine View.canon_apply_of_pieces (Val := Elt Ideal) (S := S512x1024) (e := .bf16) (fun i => zrow (X x0 (i 0)) (W x1) (i 1)) _ ?_ i (cover0_2 _ _ _ _ i)
  intro pc hpc
  rcases List.mem_cons.mp hpc with rfl | hpc
  · refine fun (x : S512x256.Idx) => ?_
    rw [eq_ix2 x]
    generalize x 0 = a
    generalize x 1 = b
    refine (p3 x0 x1 a b).trans (Eq.symm ?_)
    have e0 : r0_8.emb (ix2 a b) 0 = a := Fin.ext (by show 0 + 1 * a.val = a.val; omega)
    exact (congrArg (fun q : Fin 512 => zrow (X x0 q) (W x1) (r0_8.emb (ix2 a b) 1)) e0).trans (zrow_at _ _ _ 3 b (by show 768 + 1 * b.val = 256 * 3 + b.val; omega))
  rcases List.mem_cons.mp hpc with rfl | hpc
  · refine fun (x : S512x256.Idx) => ?_
    rw [eq_ix2 x]
    generalize x 0 = a
    generalize x 1 = b
    refine (p2 x0 x1 a b).trans (Eq.symm ?_)
    have e0 : r0_6.emb (ix2 a b) 0 = a := Fin.ext (by show 0 + 1 * a.val = a.val; omega)
    exact (congrArg (fun q : Fin 512 => zrow (X x0 q) (W x1) (r0_6.emb (ix2 a b) 1)) e0).trans (zrow_at _ _ _ 2 b (by show 512 + 1 * b.val = 256 * 2 + b.val; omega))
  rcases List.mem_cons.mp hpc with rfl | hpc
  · refine fun (x : S512x256.Idx) => ?_
    rw [eq_ix2 x]
    generalize x 0 = a
    generalize x 1 = b
    refine (p1 x0 x1 a b).trans (Eq.symm ?_)
    have e0 : r0_4.emb (ix2 a b) 0 = a := Fin.ext (by show 0 + 1 * a.val = a.val; omega)
    exact (congrArg (fun q : Fin 512 => zrow (X x0 q) (W x1) (r0_4.emb (ix2 a b) 1)) e0).trans (zrow_at _ _ _ 1 b (by show 256 + 1 * b.val = 256 * 1 + b.val; omega))
  rcases List.mem_cons.mp hpc with rfl | hpc
  · refine fun (x : S512x256.Idx) => ?_
    rw [eq_ix2 x]
    generalize x 0 = a
    generalize x 1 = b
    refine (p0 x0 x1 a b).trans (Eq.symm ?_)
    have e0 : r0_2.emb (ix2 a b) 0 = a := Fin.ext (by show 0 + 1 * a.val = a.val; omega)
    exact (congrArg (fun q : Fin 512 => zrow (X x0 q) (W x1) (r0_2.emb (ix2 a b) 1)) e0).trans (zrow_at _ _ _ 0 b (by show 0 + 1 * b.val = 256 * 0 + b.val; omega))
  exact absurd hpc List.not_mem_nil

end

theorem out_apply (t : Fin cfg0.N) (i : Fin 512) (j : Fin 1024) :
    (dats m 0 c).arrAt 2 cfg0.N (ix2 (⟨512 * t.val + i.val, by have := t_lt t; omega⟩ : Fin 8192) j)
      = out0_2 (b0 m c t) (b1 m c t) (ix2 i j) := by
  have h := congrFun (Value.blocks2 m c t (flush0_2 t)) (ix2 i j)
  unfold Dat.flushed at h
  rw [after0_2] at h
  refine Eq.trans ?_ h
  blk_ext [idx t]

theorem out' (r : Fin 8192) (j : Fin 1024) : (dats m 0 c).arrAt 2 cfg0.N (ix2 r j) = G (A m c) (B m c) (ix2 r j) := by
  have hlt : r.val / 512 < cfg0.N := lt_of_lt_of_eq (by omega) (show cfg0.N = 16 from N_0).symm
  have e := out_apply m c ⟨r.val / 512, hlt⟩ ⟨r.val % 512, by omega⟩ j
  have er : (⟨512 * (r.val / 512) + r.val % 512, by omega⟩ : Fin 8192) = r := Fin.ext (Nat.div_add_mod _ _)
  dsimp only at e
  rw [er] at e
  refine e.trans ((pay _ _ _).trans ?_)
  show zrow (fun k => b0 m c ⟨r.val / 512, hlt⟩ (ix2 (⟨r.val % 512, by omega⟩ : Fin 512) k)) (fun s k j => b1 m c ⟨r.val / 512, hlt⟩ (ix5 s (0 : Fin 1) (0 : Fin 1) k j)) j
    = zrow (fun k => A m c (ix2 r k)) (fun s k j => B m c (ix5 s (0 : Fin 2) (0 : Fin 4) k j)) j
  simp only [b0_apply, b1_apply]
  rw [er]

theorem out : (dats m 0 c).arrAt 2 cfg0.N = G (A m c) (B m c) :=
  funext fun (i : S8192x1024.Idx) => by rw [eq_ix2 i]; exact out' m c _ _

end Cert.Proof.Branch

namespace Cert.Proof.Branch

open Cert.Reference18Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v7
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  refine funext fun (i : S8192x1024.Idx) => ?_
  unfold G zrow Zc
  pointwise

end Cert.Proof.Branch
-- ==== Proof.BranchDa.lean ====
/-
  The backward of a branch's projection with respect to its rows: four shards of the weights, against one product with
  the shards side by side.
-/
module

public import proofs.«01_k».proof.Proof.Gen.Kernel19Ideal.Value
public import proofs.«01_k».proof.Proof.Gen.Reference19Ideal.Run
public import proofs.«01_k».proof.Proof.Base

@[expose] public section

set_option maxRecDepth 16384

noncomputable section

namespace Cert.Proof.BranchDa

open Cert.Kernel19Ideal Cert.Kernel19Ideal.Gen
open Idealize.ShloMosaic Idealize.ShloMosaic.TcCoe
open Idealize.ShloMosaic.Pipeline (Dat)

/-- Where the blocks lie. -/
theorem idx : ∀ t : Fin cfg0.N, win0_0.index t = ![t.val, 0] ∧ win0_1.index t = ![0, 0, 0, 0, 0] ∧ win0_2.index t = ![t.val, 0] :=
  (by decide +kernel : ∀ t : Fin grid0.N, win0_0.index t = ![t.val, 0] ∧ win0_1.index t = ![0, 0, 0, 0, 0] ∧ win0_2.index t = ![t.val, 0])

theorem t_lt (t : Fin cfg0.N) : t.val < 16 := lt_of_lt_of_eq t.isLt (show cfg0.N = 16 from N_0)

variable (m : (ℓ : Loc nD τ sig) → Buf (Elt Ideal) ℓ) (c : Dev nD)

/-- The arguments. -/
abbrev A : S8192x1024.Idx → EReal := rd m c main_arg0
abbrev B : S4x2x4x512x256.Idx → EReal := rd m c main_arg1

abbrev b0 (t : Fin cfg0.N) : Vec Ideal S512x1024 .bf16 := iblk m c 0 t
abbrev b1 (t : Fin cfg0.N) : Vec Ideal S4x1x1x512x256 .bf16 := iblk m c 1 t

theorem b0_apply (t : Fin cfg0.N) (i : Fin 512) (k : Fin 1024) :
    b0 m c t (ix2 i k) = A m c (ix2 (⟨512 * t.val + i.val, by have := t_lt t; omega⟩ : Fin 8192) k) := by
  blk_ext [b0, iblk, idx t]

theorem b1_apply (t : Fin cfg0.N) (s : Fin 4) (j : Fin 512) (k : Fin 256) :
    b1 m c t (ix5 s (0 : Fin 1) (0 : Fin 1) j k) = B m c (ix5 s (0 : Fin 2) (0 : Fin 4) j k) := by
  blk_ext [b1, iblk, idx t]

/-- The product, shard by shard. -/
def G (A : S8192x1024.Idx → EReal) (B : S4x2x4x512x256.Idx → EReal) : S8192x512.Idx → EReal := fun i =>
  ∑ s : Fin 4, ∑ k : Fin 256, A (ix2 (i 0) (⟨256 * s.val + k.val, by omega⟩ : Fin 1024)) * B (ix5 s (0 : Fin 2) (0 : Fin 4) (i 1) k)

theorem pay (x0 : Vec Ideal S512x1024 .bf16) (x1 : Vec Ideal S4x1x1x512x256 .bf16) (i : Fin 512) (j : Fin 512) :
    out0_2 x0 x1 (ix2 i j)
      = ∑ s : Fin 4, ∑ k : Fin 256, (x0 (ix2 i (⟨256 * s.val + k.val, by omega⟩ : Fin 1024)) * x1 (ix5 s (0 : Fin 1) (0 : Fin 1) j k) : EReal) := by
  unfold out0_2 k0_pay1
  rw [View.canon_unit_zero (funext fun a => by fin_cases a <;> rfl), Fin.sum_univ_four]
  pointwise

theorem out : (dats m 0 c).arrAt 2 cfg0.N = G (A m c) (B m c) :=
  rows_ext (b := 512) (n := cfg0.N) (by decide) (show 8192 ≤ 512 * grid0.N by norm_num [N_0]) fun t i j hl => by
    have h := congrFun (Value.blocks2 m c t (flush0_2 t)) (ix2 i j)
    unfold Dat.flushed at h
    rw [after0_2] at h
    change _ = out0_2 (b0 m c t) (b1 m c t) (ix2 i j) at h
    rw [pay] at h
    simp only [b0_apply, b1_apply] at h
    refine Eq.trans ?_ h
    blk_ext [idx t]

end Cert.Proof.BranchDa

namespace Cert.Proof.BranchDa

open Cert.Reference19Ideal
open Idealize.ShloMosaic Idealize.ShloMosaic.TcCoe Idealize.SL.Sem

/-- The product over the shards side by side. -/
theorem flat (A : S8192x1024.Idx → EReal) (B : S4x2x4x512x256.Idx → EReal) (i : S8192x512.Idx) :
    (∑ k : Fin 1024, A (ix2 (i 0) k) * B (ix5 (⟨k.val / 256, by omega⟩ : Fin 4) (0 : Fin 2) (0 : Fin 4) (i 1) (⟨k.val % 256, by omega⟩ : Fin 256)))
      = G A B i := by
  rw [Sums.sum_blocks (a := 4) (b := 256) rfl]
  unfold G
  refine Finset.sum_congr rfl fun s _ => Finset.sum_congr rfl fun k _ => ?_
  have e0 : (⟨(256 * s.val + k.val) / 256, by omega⟩ : Fin 4) = s := Fin.ext (by dsimp only; omega)
  have e1 : (⟨(256 * s.val + k.val) % 256, by omega⟩ : Fin 256) = k := Fin.ext (by dsimp only; omega)
  dsimp only
  rw [e0, e1]

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v9
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  funext i
  refine Eq.trans ?_ (flat _ _ i)
  pointwise

end Cert.Proof.BranchDa
-- ==== Proof.BranchDw.lean ====
/-
  The backward of a branch's projection with respect to its weights, four shards of them: accumulated over eight tiles of rows in a
  buffer the grid carries, against one product over all the rows.
-/
module

public import proofs.«01_k».proof.Proof.Gen.Kernel20Ideal.Value
public import proofs.«01_k».proof.Proof.Gen.Reference20Ideal.Run
public import proofs.«01_k».proof.Proof.Base

@[expose] public section

set_option maxRecDepth 16384

noncomputable section

namespace Cert.Proof.BranchDw

open Cert.Kernel20Ideal Cert.Kernel20Ideal.Gen
open Idealize.ShloMosaic Idealize.ShloMosaic.TcCoe
open Idealize.ShloMosaic.Pipeline (Dat)

theorem hz3 : (![0, 0, 0] : Fin 3 → Nat) = fun _ => 0 := funext fun a => by fin_cases a <;> rfl

/-- Where the blocks lie. -/
theorem idx : ∀ t : Fin cfg0.N, win0_0.index t = ![t.val % 8, 0] ∧ win0_1.index t = ![t.val % 8, t.val / 8] :=
  (by decide +kernel : ∀ t : Fin grid0.N, win0_0.index t = ![t.val % 8, 0] ∧ win0_1.index t = ![t.val % 8, t.val / 8])

theorem t_lt (t : Fin cfg0.N) : t.val < 32 := lt_of_lt_of_eq t.isLt (show cfg0.N = 32 from N_0)

variable (m : (ℓ : Loc nD τ sig) → Buf (Elt Ideal) ℓ) (c : Dev nD)

/-- The arguments. -/
abbrev A : S8192x512.Idx → EReal := rd m c main_arg0
abbrev B : S8192x1024.Idx → EReal := rd m c main_arg1

abbrev b0 (t : Fin cfg0.N) : Vec Ideal S1024x512 .bf16 := iblk m c 0 t
abbrev b1 (t : Fin cfg0.N) : Vec Ideal S1024x256 .bf16 := iblk m c 1 t

theorem b0_apply (t : Fin cfg0.N) (k : Fin 1024) (i : Fin 512) :
    b0 m c t (ix2 k i) = A m c (ix2 (⟨(1024 * (t.val % 8) + k.val) % 8192, by omega⟩ : Fin 8192) i) := by
  rw [row]
  blk_ext [b0, iblk, idx t]

theorem b1_apply (t : Fin cfg0.N) (k : Fin 1024) (j : Fin 256) :
    b1 m c t (ix2 k j) = B m c (ix2 (⟨(1024 * (t.val % 8) + k.val) % 8192, by omega⟩ : Fin 8192) (⟨(256 * (t.val / 8) + j.val) % 1024, by omega⟩ : Fin 1024)) := by
  have e1 : (⟨(256 * (t.val / 8) + j.val) % 1024, by omega⟩ : Fin 1024) = ⟨256 * (t.val / 8) + j.val, by have := t_lt t; omega⟩ := Fin.ext (by have := t_lt t; dsimp only; omega)
  rw [row, e1]
  blk_ext [b1, iblk, idx t]

/-- The product over the rows, tile by tile. -/
def M (A : S8192x512.Idx → EReal) (B : S8192x1024.Idx → EReal) (q : ℕ) (s : ℕ) (i : Fin 512) (j : Fin 256) : EReal :=
  ∑ k : Fin 1024, A (ix2 (⟨(1024 * s + k.val) % 8192, by omega⟩ : Fin 8192) i)
    * B (ix2 (⟨(1024 * s + k.val) % 8192, by omega⟩ : Fin 8192) (⟨(256 * q + j.val) % 1024, by omega⟩ : Fin 1024))

def G (A : S8192x512.Idx → EReal) (B : S8192x1024.Idx → EReal) : S4x512x256.Idx → EReal := fun i =>
  ∑ k : Fin 8192, A (ix2 k (i 1)) * B (ix2 k (⟨(i 0).val * 256 + (i 2).val, by
    have h0 : (i 0).val < 4 := (i 0).isLt
    have h2 : (i 2).val < 256 := (i 2).isLt
    omega⟩ : Fin 1024))

theorem pay (s : Vec Ideal S512x256 .f32) (x : Vec Ideal S1024x512 .bf16) (y : Vec Ideal S1024x256 .bf16) (i : Fin 512) (j : Fin 256) :
    k0_pay2 s x y (ix2 i j) = (s (ix2 i j) + ∑ k : Fin 1024, (x (ix2 k i) * y (ix2 k j) : EReal) : EReal) := by
  unfold k0_pay2
  pointwise

theorem pay0 (i : Fin 512) (j : Fin 256) : (k0_pay1 (F := Ideal)) (ix2 i j) = (0 : EReal) := by
  unfold k0_pay1
  pointwise

section
variable (i : grid0.Coords) (a3 : Memref sig .tc .vmem S1024x512 .bf16) (h3 : a3.IsWhole) (a4 : Memref sig .tc .vmem S1024x256 .bf16) (h4 : a4.IsWhole)
  (a5 : Memref sig .tc .vmem S1x512x256 .f32) (h5 : a5.IsWhole) (a6 : Memref sig .tc .vmem S512x256 .f32) (h6 : a6.IsWhole)
  (x : Vec Ideal S1024x512 .bf16) (y : Vec Ideal S1024x256 .bf16) (s : Vec Ideal S512x256 .f32)

theorem sout_A (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero hz, View.readCov_unit_zero _ hz]
  simp only [View.readAt_eq_ld, h3.read_unread, h4.read_unread, View.ld_unit_zero (S := S512x256) hz, View.ld_unit_zero (S := S1024x256) hz, View.ld_unit_zero (S := S1024x512) hz]

theorem sout_B (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S512x256) hz, View.ld_unit_zero (S := S1024x256) hz, View.ld_unit_zero (S := S1024x512) hz]

theorem sout_C (hc0 : ¬cond0_0 i) (hc1 : cond0_1 i) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S512x256) hz, View.ld_unit_zero (S := S1024x256) hz, View.ld_unit_zero (S := S1024x512) hz]

theorem out_C (hc0 : ¬cond0_0 i) (hc1 : cond0_1 i) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz3, View.readCov_unit_zero _ hz]
  simp only [View.readAt_eq_ld, h3.read_unread, h4.read_unread, h6.read_unread, View.ld_unit_zero (S := S512x256) hz, View.ld_unit_zero (S := S1024x256) hz, View.ld_unit_zero (S := S1024x512) hz]

end

/-- A tile's product, of the blocks the point reads. -/
theorem tile (t : Fin cfg0.N) (i : Fin 512) (j : Fin 256) :
    (∑ k : Fin 1024, (b0 m c t (ix2 k i) * b1 m c t (ix2 k j) : EReal)) = M (A m c) (B m c) (t.val / 8) (t.val % 8) i j := by
  unfold M
  simp only [b0_apply, b1_apply]

/-- The carried buffer after a point, over what it held before. -/
theorem step0 (t : Fin cfg0.N) (acc) (h0 : t.val % 8 = 0) (i : Fin 512) (j : Fin 256) :
    (Value.stAt0 m c t.val t.isLt acc).2 (ix2 i j) = M (A m c) (B m c) (t.val / 8) (t.val % 8) i j := by
  rw [Value.stAt0_A m c t acc h0 (by omega)]
  dsimp only
  rw [sout_A, pay, pay0, tile]
  exact zero_add _

theorem step1 (t : Fin cfg0.N) (acc) (h0 : ¬t.val % 8 = 0) (i : Fin 512) (j : Fin 256) :
    (Value.stAt0 m c t.val t.isLt acc).2 (ix2 i j) = (acc.2 (ix2 i j) + M (A m c) (B m c) (t.val / 8) (t.val % 8) i j : EReal) := by
  by_cases h1 : t.val % 8 = 7
  · rw [Value.stAt0_C m c t acc h0 h1]
    dsimp only
    rw [sout_C, pay, tile]
  · rw [Value.stAt0_B m c t acc h0 h1]
    dsimp only
    rw [sout_B, pay, tile]

/-- The last tile's point leaves in the block what it leaves in the carried buffer. -/
theorem step2 (t : Fin cfg0.N) (acc) (h1 : t.val % 8 = 7) :
    (Value.stAt0 m c t.val t.isLt acc).1 = k0_pay3 (Value.stAt0 m c t.val t.isLt acc).2 := by
  rw [Value.stAt0_C m c t acc (by omega) h1]
  dsimp only
  rw [out_C, sout_C]

theorem pay3 (s : Vec Ideal S512x256 .f32) (i : Fin 512) (j : Fin 256) :
    k0_pay3 s (ix3 (0 : Fin 1) i j) = s (ix2 i j) := by
  unfold k0_pay3
  pointwise

/-- The carried buffer after a point: the tiles so far. -/
theorem carried : ∀ (n : ℕ) (h : n < cfg0.N) (i : Fin 512) (j : Fin 256),
    (outsAt0 m c n h).2 (ix2 i j) = ∑ s ∈ Finset.range (n % 8 + 1), M (A m c) (B m c) (n / 8) s i j := fun n h i j =>
  Sums.carried (fun o => o.2 (ix2 i j)) (fun q s => M (A m c) (B m c) q s i j) (outsAt0 m c) (Value.stAt0 m c) _
    (Value.outsAt0_zero m c) (Value.outsAt0_succ m c) (fun t a h0 => step0 m c t a h0 i j) (fun t a h0 => step1 m c t a h0 i j) n h

theorem last (n : ℕ) (h : n < cfg0.N) (h7 : n % 8 = 7) : (outsAt0 m c n h).1 = k0_pay3 (outsAt0 m c n h).2 := by
  obtain _ | n := n
  · exact absurd h7 (by decide)
  · rw [Value.outsAt0_succ]
    exact step2 m c ⟨n + 1, h⟩ _ h7

/-- All the tiles are all the rows. -/
theorem tiles (A : S8192x512.Idx → EReal) (B : S8192x1024.Idx → EReal) (q : Fin 4) (i : Fin 512) (j : Fin 256) :
    (∑ s ∈ Finset.range 8, M A B q.val s i j) = G A B (ix3 q i j) := by
  unfold G M
  rw [← Sums.tiles]
  have e1 : (⟨(256 * q.val + j.val) % 1024, by omega⟩ : Fin 1024) = ⟨q.val * 256 + j.val, by omega⟩ := Fin.ext (by dsimp only; omega)
  dsimp only
  rw [e1]
  rfl

theorem out' (q : Fin 4) (i : Fin 512) (j : Fin 256) : (dats m 0 c).arrAt 2 cfg0.N (ix3 q i j) = G (A m c) (B m c) (ix3 q i j) := by
  have hp : 8 * q.val + 7 < cfg0.N := lt_of_lt_of_eq (by omega) (show cfg0.N = 32 from N_0).symm
  have hq : Value.pt2Of (ix3 q i j) = 8 * q.val + 7 := by
    show 8 * (1 * (q.val / 1 - 0) + 1 * (i.val / 512 - 0) + 1 * (j.val / 256 - 0)) + 7 = _
    omega
  have hl : Value.loc2Of (ix3 q i j) = ix3 (0 : Fin 1) i j := by
    funext a
    fin_cases a
    · exact Fin.ext (Nat.mod_one _)
    · exact Fin.ext (Nat.mod_eq_of_lt i.isLt)
    · exact Fin.ext (Nat.mod_eq_of_lt j.isLt)
  rw [Value.final2]
  unfold Value.G2
  rw [dif_pos (hq ▸ hp), hl, ← tiles]
  have e : ∀ (n : ℕ) (h : 0 + n < cfg0.N) (hn : n = 8 * q.val + 7),
      (Pipeline.accAt (fun n h => Value.stAt0 m c n h Value.junk0) (Value.stAt0 m c) 0 n h) = outsAt0 m c (8 * q.val + 7) hp := by
    intro n h hn
    subst hn
    exact (Value.outsAt0_sweep m c _ _).symm
  rw [e _ _ hq, last m c _ hp (by omega), pay3, carried]
  have e0 : (8 * q.val + 7) / 8 = q.val := by omega
  have e1 : (8 * q.val + 7) % 8 = 7 := by omega
  rw [e0, e1]

theorem out : (dats m 0 c).arrAt 2 cfg0.N = G (A m c) (B m c) :=
  funext fun (i : S4x512x256.Idx) => by rw [eq_ix3 i]; exact out' m c _ _ _

end Cert.Proof.BranchDw

namespace Cert.Proof.BranchDw

open Cert.Reference20Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v7
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  funext i
  refine Eq.trans ?_ (Finset.sum_congr rfl fun k _ => mul_comm _ _)
  pointwise

end Cert.Proof.BranchDw
-- ==== Proof.WOut.lean ====
/-
  The projection of the merged branches (PLE's gate has the same shapes), block by block, and the same product written plainly.
-/
module

public import proofs.«01_k».proof.Proof.Gen.Kernel21Ideal.Value
public import proofs.«01_k».proof.Proof.Gen.Reference21Ideal.Run
public import proofs.«01_k».proof.Proof.Base

@[expose] public section

set_option maxRecDepth 16384

noncomputable section

namespace Cert.Proof.WOut

open Cert.Kernel21Ideal Cert.Kernel21Ideal.Gen
open Idealize.ShloMosaic Idealize.ShloMosaic.TcCoe
open Idealize.ShloMosaic.Pipeline (Dat)

/-- Where the blocks lie. -/
theorem idx : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])

theorem t_lt (t : Fin cfg0.N) : t.val < 16 := lt_of_lt_of_eq t.isLt (show cfg0.N = 16 from N_0)

variable (m : (ℓ : Loc nD τ sig) → Buf (Elt Ideal) ℓ) (c : Dev nD)

/-- The arguments. -/
abbrev A : S8192x1024.Idx → EReal := rd m c main_arg0
abbrev B : S2x1024x1024.Idx → EReal := rd m c main_arg1

abbrev b0 (t : Fin cfg0.N) : Vec Ideal S512x1024 .bf16 := iblk m c 0 t
abbrev b1 (t : Fin cfg0.N) : Vec Ideal S1x1024x1024 .bf16 := iblk m c 1 t

theorem b0_apply (t : Fin cfg0.N) (i : Fin 512) (k : Fin 1024) :
    b0 m c t (ix2 i k) = A m c (ix2 (⟨512 * t.val + i.val, by have := t_lt t; omega⟩ : Fin 8192) k) := by
  blk_ext [b0, iblk, idx t]

theorem b1_apply (t : Fin cfg0.N) (k : Fin 1024) (j : Fin 1024) :
    b1 m c t (ix3 (0 : Fin 1) k j) = B m c (ix3 (0 : Fin 2) k j) := by
  blk_ext [b1, iblk, idx t]

/-- The product. -/
def G (A : S8192x1024.Idx → EReal) (B : S2x1024x1024.Idx → EReal) : S8192x1024.Idx → EReal := fun i =>
  ∑ k : Fin 1024, A (ix2 (i 0) k) * B (ix3 (0 : Fin 2) k (i 1))

theorem pay (x0 : Vec Ideal S512x1024 .bf16) (x1 : Vec Ideal S1x1024x1024 .bf16) (i : Fin 512) (j : Fin 1024) :
    out0_2 x0 x1 (ix2 i j) = ∑ k : Fin 1024, (x0 (ix2 i k) * x1 (ix3 (0 : Fin 1) k j) : EReal) := by
  unfold out0_2 k0_pay1
  rw [View.canon_unit_zero, View.ld_unit_zero, View.ld_unit_zero]
  · pointwise
  all_goals exact funext fun a => by fin_cases a <;> rfl

theorem out : (dats m 0 c).arrAt 2 cfg0.N = G (A m c) (B m c) :=
  rows_ext (b := 512) (n := cfg0.N) (by decide) (show 8192 ≤ 512 * grid0.N by norm_num [N_0]) fun t i j hl => by
    have h := congrFun (Value.blocks2 m c t (flush0_2 t)) (ix2 i j)
    unfold Dat.flushed at h
    rw [after0_2] at h
    change _ = out0_2 (b0 m c t) (b1 m c t) (ix2 i j) at h
    rw [pay] at h
    simp only [b0_apply, b1_apply] at h
    refine Eq.trans ?_ h
    blk_ext [idx t]

end Cert.Proof.WOut

namespace Cert.Proof.WOut

open Cert.Reference21Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v4
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  funext i
  unfold G
  pointwise

end Cert.Proof.WOut
-- ==== Proof.WOutDa.lean ====
/-
  The backward of the projection of the merged branches with respect to its rows.
-/
module

public import proofs.«01_k».proof.Proof.Gen.Kernel22Ideal.Value
public import proofs.«01_k».proof.Proof.Gen.Reference22Ideal.Run
public import proofs.«01_k».proof.Proof.Base

@[expose] public section

set_option maxRecDepth 16384

noncomputable section

namespace Cert.Proof.WOutDa

open Cert.Kernel22Ideal Cert.Kernel22Ideal.Gen
open Idealize.ShloMosaic Idealize.ShloMosaic.TcCoe
open Idealize.ShloMosaic.Pipeline (Dat)

/-- Where the blocks lie. -/
theorem idx : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])

theorem t_lt (t : Fin cfg0.N) : t.val < 16 := lt_of_lt_of_eq t.isLt (show cfg0.N = 16 from N_0)

variable (m : (ℓ : Loc nD τ sig) → Buf (Elt Ideal) ℓ) (c : Dev nD)

/-- The arguments. -/
abbrev A : S8192x1024.Idx → EReal := rd m c main_arg0
abbrev B : S2x1024x1024.Idx → EReal := rd m c main_arg1

abbrev b0 (t : Fin cfg0.N) : Vec Ideal S512x1024 .f32 := iblk m c 0 t
abbrev b1 (t : Fin cfg0.N) : Vec Ideal S1x1024x1024 .bf16 := iblk m c 1 t

theorem b0_apply (t : Fin cfg0.N) (i : Fin 512) (k : Fin 1024) :
    b0 m c t (ix2 i k) = A m c (ix2 (⟨512 * t.val + i.val, by have := t_lt t; omega⟩ : Fin 8192) k) := by
  blk_ext [b0, iblk, idx t]

theorem b1_apply (t : Fin cfg0.N) (k : Fin 1024) (j : Fin 1024) :
    b1 m c t (ix3 (0 : Fin 1) k j) = B m c (ix3 (0 : Fin 2) k j) := by
  blk_ext [b1, iblk, idx t]

/-- The product. -/
def G (A : S8192x1024.Idx → EReal) (B : S2x1024x1024.Idx → EReal) : S8192x1024.Idx → EReal := fun i =>
  ∑ k : Fin 1024, A (ix2 (i 0) k) * B (ix3 (0 : Fin 2) (i 1) k)

theorem pay (x0 : Vec Ideal S512x1024 .f32) (x1 : Vec Ideal S1x1024x1024 .bf16) (i : Fin 512) (j : Fin 1024) :
    out0_2 x0 x1 (ix2 i j) = ∑ k : Fin 1024, (x0 (ix2 i k) * x1 (ix3 (0 : Fin 1) j k) : EReal) := by
  unfold out0_2 k0_pay1
  rw [View.canon_unit_zero, View.ld_unit_zero, View.ld_unit_zero]
  · pointwise
  all_goals exact funext fun a => by fin_cases a <;> rfl

theorem out : (dats m 0 c).arrAt 2 cfg0.N = G (A m c) (B m c) :=
  rows_ext (b := 512) (n := cfg0.N) (by decide) (show 8192 ≤ 512 * grid0.N by norm_num [N_0]) fun t i j hl => by
    have h := congrFun (Value.blocks2 m c t (flush0_2 t)) (ix2 i j)
    unfold Dat.flushed at h
    rw [after0_2] at h
    change _ = out0_2 (b0 m c t) (b1 m c t) (ix2 i j) at h
    rw [pay] at h
    simp only [b0_apply, b1_apply] at h
    refine Eq.trans ?_ h
    blk_ext [idx t]

end Cert.Proof.WOutDa

namespace Cert.Proof.WOutDa

open Cert.Reference22Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v6
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  funext i
  unfold G
  pointwise

end Cert.Proof.WOutDa
-- ==== Proof.Ple.lean ====
/-
  PLE's projection, shard by shard of the weights' columns, and the same product with the shards side by side.
-/
module

public import proofs.«01_k».proof.Proof.Gen.Kernel23Ideal.Value
public import proofs.«01_k».proof.Proof.Gen.Reference23Ideal.Run
public import proofs.«01_k».proof.Proof.Base

@[expose] public section

set_option maxRecDepth 16384

noncomputable section

namespace Cert.Proof.Ple

open Cert.Kernel23Ideal Cert.Kernel23Ideal.Gen
open Idealize.ShloMosaic Idealize.ShloMosaic.TcCoe
open Idealize.ShloMosaic.Pipeline (Dat)

/-- Where the blocks lie. -/
theorem idx : ∀ t : Fin cfg0.N, win0_0.index t = ![t.val, 0] ∧ win0_1.index t = ![0, 0, 0, 0] ∧ win0_2.index t = ![t.val, 0] :=
  (by decide +kernel : ∀ t : Fin grid0.N, win0_0.index t = ![t.val, 0] ∧ win0_1.index t = ![0, 0, 0, 0] ∧ win0_2.index t = ![t.val, 0])

theorem t_lt (t : Fin cfg0.N) : t.val < 16 := lt_of_lt_of_eq t.isLt (show cfg0.N = 16 from N_0)

variable (m : (ℓ : Loc nD τ sig) → Buf (Elt Ideal) ℓ) (c : Dev nD)

/-- The arguments. -/
abbrev A : S8192x256.Idx → EReal := rd m c main_arg0
abbrev B : S4x2x256x256.Idx → EReal := rd m c main_arg1

abbrev b0 (t : Fin cfg0.N) : Vec Ideal S512x256 .f32 := iblk m c 0 t
abbrev b1 (t : Fin cfg0.N) : Vec Ideal S4x1x256x256 .bf16 := iblk m c 1 t

theorem b0_apply (t : Fin cfg0.N) (i : Fin 512) (k : Fin 256) :
    b0 m c t (ix2 i k) = A m c (ix2 (⟨512 * t.val + i.val, by have := t_lt t; omega⟩ : Fin 8192) k) := by
  blk_ext [b0, iblk, idx t]

theorem b1_apply (t : Fin cfg0.N) (s : Fin 4) (k : Fin 256) (j : Fin 256) :
    b1 m c t (ix4 s (0 : Fin 1) k j) = B m c (ix4 s (0 : Fin 2) k j) := by
  blk_ext [b1, iblk, idx t]

/-- A row's product with a column of a shard. -/
def Zc (X : Fin 256 → EReal) (W : Fin 4 → Fin 256 → Fin 256 → EReal) (s : Fin 4) (j : Fin 256) : EReal := ∑ k : Fin 256, X k * W s k j

/-- A row's products with all the shards. -/
def zrow (X : Fin 256 → EReal) (W : Fin 4 → Fin 256 → Fin 256 → EReal) (j : Fin 1024) : EReal :=
  Zc X W ⟨j.val / 256, by omega⟩ ⟨j.val % 256, by omega⟩

def G (A : S8192x256.Idx → EReal) (B : S4x2x256x256.Idx → EReal) : S8192x1024.Idx → EReal := fun i =>
  zrow (fun k => A (ix2 (i 0) k)) (fun s k j => B (ix4 s (0 : Fin 2) k j)) (i 1)

theorem zrow_at (X : Fin 256 → EReal) (W : Fin 4 → Fin 256 → Fin 256 → EReal) (j : Fin 1024) (s : Fin 4) (b : Fin 256)
    (h : j.val = 256 * s.val + b.val) : zrow X W j = Zc X W s b := by
  unfold zrow
  have e0 : (⟨j.val / 256, by omega⟩ : Fin 4) = s := Fin.ext (by dsimp only; omega)
  have e1 : (⟨j.val % 256, by omega⟩ : Fin 256) = b := Fin.ext (by dsimp only; omega)
  rw [e0, e1]

section
variable (x0 : Vec Ideal S512x256 .f32) (x1 : Vec Ideal S4x1x256x256 .bf16)

abbrev X (i : Fin 512) : Fin 256 → EReal := fun k => x0 (ix2 i k)
abbrev W : Fin 4 → Fin 256 → Fin 256 → EReal := fun s k j => x1 (ix4 s (0 : Fin 1) k j)

theorem p0 (a : Fin 512) (b : Fin 256) : k0_pay2 (View.ld x0 r0_0) (View.ld x1 r0_1) (ix2 a b) = Zc (X x0 a) (W x1) 0 b := by
  unfold k0_pay2 k0_pay1 Zc
  pointwise
theorem p1 (a : Fin 512) (b : Fin 256) : k0_pay3 (View.ld x0 r0_0) (View.ld x1 r0_3) (ix2 a b) = Zc (X x0 a) (W x1) 1 b := by
  unfold k0_pay3 k0_pay1 Zc
  pointwise
theorem p2 (a : Fin 512) (b : Fin 256) : k0_pay4 (View.ld x0 r0_0) (View.ld x1 r0_5) (ix2 a b) = Zc (X x0 a) (W x1) 2 b := by
  unfold k0_pay4 k0_pay1 Zc
  pointwise
theorem p3 (a : Fin 512) (b : Fin 256) : k0_pay5 (View.ld x0 r0_0) (View.ld x1 r0_7) (ix2 a b) = Zc (X x0 a) (W x1) 3 b := by
  unfold k0_pay5 k0_pay1 Zc
  pointwise

theorem pay (i : S512x1024.Idx) : out0_2 x0 x1 i = zrow (X x0 (i 0)) (W x1) (i 1) := by
  unfold out0_2
  refine View.canon_apply_of_pieces (Val := Elt Ideal) (S := S512x1024) (e := .f32) (fun i => zrow (X x0 (i 0)) (W x1) (i 1)) _ ?_ i (cover0_2 _ _ _ _ i)
  intro pc hpc
  rcases List.mem_cons.mp hpc with rfl | hpc
  · refine fun (x : S512x256.Idx) => ?_
    rw [eq_ix2 x]
    generalize x 0 = a
    generalize x 1 = b
    refine (p3 x0 x1 a b).trans (Eq.symm ?_)
    have e0 : r0_8.emb (ix2 a b) 0 = a := Fin.ext (by show 0 + 1 * a.val = a.val; omega)
    exact (congrArg (fun q : Fin 512 => zrow (X x0 q) (W x1) (r0_8.emb (ix2 a b) 1)) e0).trans (zrow_at _ _ _ 3 b (by show 768 + 1 * b.val = 256 * 3 + b.val; omega))
  rcases List.mem_cons.mp hpc with rfl | hpc
  · refine fun (x : S512x256.Idx) => ?_
    rw [eq_ix2 x]
    generalize x 0 = a
    generalize x 1 = b
    refine (p2 x0 x1 a b).trans (Eq.symm ?_)
    have e0 : r0_6.emb (ix2 a b) 0 = a := Fin.ext (by show 0 + 1 * a.val = a.val; omega)
    exact (congrArg (fun q : Fin 512 => zrow (X x0 q) (W x1) (r0_6.emb (ix2 a b) 1)) e0).trans (zrow_at _ _ _ 2 b (by show 512 + 1 * b.val = 256 * 2 + b.val; omega))
  rcases List.mem_cons.mp hpc with rfl | hpc
  · refine fun (x : S512x256.Idx) => ?_
    rw [eq_ix2 x]
    generalize x 0 = a
    generalize x 1 = b
    refine (p1 x0 x1 a b).trans (Eq.symm ?_)
    have e0 : r0_4.emb (ix2 a b) 0 = a := Fin.ext (by show 0 + 1 * a.val = a.val; omega)
    exact (congrArg (fun q : Fin 512 => zrow (X x0 q) (W x1) (r0_4.emb (ix2 a b) 1)) e0).trans (zrow_at _ _ _ 1 b (by show 256 + 1 * b.val = 256 * 1 + b.val; omega))
  rcases List.mem_cons.mp hpc with rfl | hpc
  · refine fun (x : S512x256.Idx) => ?_
    rw [eq_ix2 x]
    generalize x 0 = a
    generalize x 1 = b
    refine (p0 x0 x1 a b).trans (Eq.symm ?_)
    have e0 : r0_2.emb (ix2 a b) 0 = a := Fin.ext (by show 0 + 1 * a.val = a.val; omega)
    exact (congrArg (fun q : Fin 512 => zrow (X x0 q) (W x1) (r0_2.emb (ix2 a b) 1)) e0).trans (zrow_at _ _ _ 0 b (by show 0 + 1 * b.val = 256 * 0 + b.val; omega))
  exact absurd hpc List.not_mem_nil

end

theorem out_apply (t : Fin cfg0.N) (i : Fin 512) (j : Fin 1024) :
    (dats m 0 c).arrAt 2 cfg0.N (ix2 (⟨512 * t.val + i.val, by have := t_lt t; omega⟩ : Fin 8192) j)
      = out0_2 (b0 m c t) (b1 m c t) (ix2 i j) := by
  have h := congrFun (Value.blocks2 m c t (flush0_2 t)) (ix2 i j)
  unfold Dat.flushed at h
  rw [after0_2] at h
  refine Eq.trans ?_ h
  blk_ext [idx t]

theorem out' (r : Fin 8192) (j : Fin 1024) : (dats m 0 c).arrAt 2 cfg0.N (ix2 r j) = G (A m c) (B m c) (ix2 r j) := by
  have hlt : r.val / 512 < cfg0.N := lt_of_lt_of_eq (by omega) (show cfg0.N = 16 from N_0).symm
  have e := out_apply m c ⟨r.val / 512, hlt⟩ ⟨r.val % 512, by omega⟩ j
  have er : (⟨512 * (r.val / 512) + r.val % 512, by omega⟩ : Fin 8192) = r := Fin.ext (Nat.div_add_mod _ _)
  dsimp only at e
  rw [er] at e
  refine e.trans ((pay _ _ _).trans ?_)
  show zrow (fun k => b0 m c ⟨r.val / 512, hlt⟩ (ix2 (⟨r.val % 512, by omega⟩ : Fin 512) k)) (fun s k j => b1 m c ⟨r.val / 512, hlt⟩ (ix4 s (0 : Fin 1) k j)) j
    = zrow (fun k => A m c (ix2 r k)) (fun s k j => B m c (ix4 s (0 : Fin 2) k j)) j
  simp only [b0_apply, b1_apply]
  rw [er]

theorem out : (dats m 0 c).arrAt 2 cfg0.N = G (A m c) (B m c) :=
  funext fun (i : S8192x1024.Idx) => by rw [eq_ix2 i]; exact out' m c _ _

end Cert.Proof.Ple

namespace Cert.Proof.Ple

open Cert.Reference23Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v5
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  refine funext fun (i : S8192x1024.Idx) => ?_
  unfold G zrow Zc
  pointwise

end Cert.Proof.Ple
-- ==== Proof.PleDw.lean ====
/-
  The backward of PLE's projection with respect to its weights, four shards of them: accumulated over eight tiles of rows in a
  buffer the grid carries, against one product over all the rows.
-/
module

public import proofs.«01_k».proof.Proof.Gen.Kernel24Ideal.Value
public import proofs.«01_k».proof.Proof.Gen.Reference24Ideal.Run
public import proofs.«01_k».proof.Proof.Base

@[expose] public section

set_option maxRecDepth 16384

noncomputable section

namespace Cert.Proof.PleDw

open Cert.Kernel24Ideal Cert.Kernel24Ideal.Gen
open Idealize.ShloMosaic Idealize.ShloMosaic.TcCoe
open Idealize.ShloMosaic.Pipeline (Dat)

theorem hz3 : (![0, 0, 0] : Fin 3 → Nat) = fun _ => 0 := funext fun a => by fin_cases a <;> rfl

/-- Where the blocks lie. -/
theorem idx : ∀ t : Fin cfg0.N, win0_0.index t = ![t.val % 8, 0] ∧ win0_1.index t = ![t.val % 8, t.val / 8] :=
  (by decide +kernel : ∀ t : Fin grid0.N, win0_0.index t = ![t.val % 8, 0] ∧ win0_1.index t = ![t.val % 8, t.val / 8])

theorem t_lt (t : Fin cfg0.N) : t.val < 32 := lt_of_lt_of_eq t.isLt (show cfg0.N = 32 from N_0)

variable (m : (ℓ : Loc nD τ sig) → Buf (Elt Ideal) ℓ) (c : Dev nD)

/-- The arguments. -/
abbrev A : S8192x256.Idx → EReal := rd m c main_arg0
abbrev B : S8192x1024.Idx → EReal := rd m c main_arg1

abbrev b0 (t : Fin cfg0.N) : Vec Ideal S1024x256 .f32 := iblk m c 0 t
abbrev b1 (t : Fin cfg0.N) : Vec Ideal S1024x256 .f32 := iblk m c 1 t

theorem b0_apply (t : Fin cfg0.N) (k : Fin 1024) (i : Fin 256) :
    b0 m c t (ix2 k i) = A m c (ix2 (⟨(1024 * (t.val % 8) + k.val) % 8192, by omega⟩ : Fin 8192) i) := by
  rw [row]
  blk_ext [b0, iblk, idx t]

theorem b1_apply (t : Fin cfg0.N) (k : Fin 1024) (j : Fin 256) :
    b1 m c t (ix2 k j) = B m c (ix2 (⟨(1024 * (t.val % 8) + k.val) % 8192, by omega⟩ : Fin 8192) (⟨(256 * (t.val / 8) + j.val) % 1024, by omega⟩ : Fin 1024)) := by
  have e1 : (⟨(256 * (t.val / 8) + j.val) % 1024, by omega⟩ : Fin 1024) = ⟨256 * (t.val / 8) + j.val, by have := t_lt t; omega⟩ := Fin.ext (by have := t_lt t; dsimp only; omega)
  rw [row, e1]
  blk_ext [b1, iblk, idx t]

/-- The product over the rows, tile by tile. -/
def M (A : S8192x256.Idx → EReal) (B : S8192x1024.Idx → EReal) (q : ℕ) (s : ℕ) (i : Fin 256) (j : Fin 256) : EReal :=
  ∑ k : Fin 1024, A (ix2 (⟨(1024 * s + k.val) % 8192, by omega⟩ : Fin 8192) i)
    * B (ix2 (⟨(1024 * s + k.val) % 8192, by omega⟩ : Fin 8192) (⟨(256 * q + j.val) % 1024, by omega⟩ : Fin 1024))

def G (A : S8192x256.Idx → EReal) (B : S8192x1024.Idx → EReal) : S4x256x256.Idx → EReal := fun i =>
  ∑ k : Fin 8192, A (ix2 k (i 1)) * B (ix2 k (⟨(i 0).val * 256 + (i 2).val, by
    have h0 : (i 0).val < 4 := (i 0).isLt
    have h2 : (i 2).val < 256 := (i 2).isLt
    omega⟩ : Fin 1024))

theorem pay (s : Vec Ideal S256x256 .f32) (x : Vec Ideal S1024x256 .f32) (y : Vec Ideal S1024x256 .f32) (i : Fin 256) (j : Fin 256) :
    k0_pay2 s x y (ix2 i j) = (s (ix2 i j) + ∑ k : Fin 1024, (x (ix2 k i) * y (ix2 k j) : EReal) : EReal) := by
  unfold k0_pay2
  pointwise

theorem pay0 (i : Fin 256) (j : Fin 256) : (k0_pay1 (F := Ideal)) (ix2 i j) = (0 : EReal) := by
  unfold k0_pay1
  pointwise

section
variable (i : grid0.Coords) (a3 : Memref sig .tc .vmem S1024x256 .f32) (h3 : a3.IsWhole) (a4 : Memref sig .tc .vmem S1024x256 .f32) (h4 : a4.IsWhole)
  (a5 : Memref sig .tc .vmem S1x256x256 .f32) (h5 : a5.IsWhole) (a6 : Memref sig .tc .vmem S256x256 .f32) (h6 : a6.IsWhole)
  (x : Vec Ideal S1024x256 .f32) (y : Vec Ideal S1024x256 .f32) (s : Vec Ideal S256x256 .f32)

theorem sout_A (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero hz, View.readCov_unit_zero _ hz]
  simp only [View.readAt_eq_ld, h3.read_unread, h4.read_unread, View.ld_unit_zero (S := S256x256) hz, View.ld_unit_zero (S := S1024x256) hz]

theorem sout_B (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S256x256) hz, View.ld_unit_zero (S := S1024x256) hz]

theorem sout_C (hc0 : ¬cond0_0 i) (hc1 : cond0_1 i) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S256x256) hz, View.ld_unit_zero (S := S1024x256) hz]

theorem out_C (hc0 : ¬cond0_0 i) (hc1 : cond0_1 i) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz3, View.readCov_unit_zero _ hz]
  simp only [View.readAt_eq_ld, h3.read_unread, h4.read_unread, h6.read_unread, View.ld_unit_zero (S := S256x256) hz, View.ld_unit_zero (S := S1024x256) hz]

end

/-- A tile's product, of the blocks the point reads. -/
theorem tile (t : Fin cfg0.N) (i : Fin 256) (j : Fin 256) :
    (∑ k : Fin 1024, (b0 m c t (ix2 k i) * b1 m c t (ix2 k j) : EReal)) = M (A m c) (B m c) (t.val / 8) (t.val % 8) i j := by
  unfold M
  simp only [b0_apply, b1_apply]

/-- The carried buffer after a point, over what it held before. -/
theorem step0 (t : Fin cfg0.N) (acc) (h0 : t.val % 8 = 0) (i : Fin 256) (j : Fin 256) :
    (Value.stAt0 m c t.val t.isLt acc).2 (ix2 i j) = M (A m c) (B m c) (t.val / 8) (t.val % 8) i j := by
  rw [Value.stAt0_A m c t acc h0 (by omega)]
  dsimp only
  rw [sout_A, pay, pay0, tile]
  exact zero_add _

theorem step1 (t : Fin cfg0.N) (acc) (h0 : ¬t.val % 8 = 0) (i : Fin 256) (j : Fin 256) :
    (Value.stAt0 m c t.val t.isLt acc).2 (ix2 i j) = (acc.2 (ix2 i j) + M (A m c) (B m c) (t.val / 8) (t.val % 8) i j : EReal) := by
  by_cases h1 : t.val % 8 = 7
  · rw [Value.stAt0_C m c t acc h0 h1]
    dsimp only
    rw [sout_C, pay, tile]
  · rw [Value.stAt0_B m c t acc h0 h1]
    dsimp only
    rw [sout_B, pay, tile]

/-- The last tile's point leaves in the block what it leaves in the carried buffer. -/
theorem step2 (t : Fin cfg0.N) (acc) (h1 : t.val % 8 = 7) :
    (Value.stAt0 m c t.val t.isLt acc).1 = k0_pay3 (Value.stAt0 m c t.val t.isLt acc).2 := by
  rw [Value.stAt0_C m c t acc (by omega) h1]
  dsimp only
  rw [out_C, sout_C]

theorem pay3 (s : Vec Ideal S256x256 .f32) (i : Fin 256) (j : Fin 256) :
    k0_pay3 s (ix3 (0 : Fin 1) i j) = s (ix2 i j) := by
  unfold k0_pay3
  pointwise

/-- The carried buffer after a point: the tiles so far. -/
theorem carried : ∀ (n : ℕ) (h : n < cfg0.N) (i : Fin 256) (j : Fin 256),
    (outsAt0 m c n h).2 (ix2 i j) = ∑ s ∈ Finset.range (n % 8 + 1), M (A m c) (B m c) (n / 8) s i j := fun n h i j =>
  Sums.carried (fun o => o.2 (ix2 i j)) (fun q s => M (A m c) (B m c) q s i j) (outsAt0 m c) (Value.stAt0 m c) _
    (Value.outsAt0_zero m c) (Value.outsAt0_succ m c) (fun t a h0 => step0 m c t a h0 i j) (fun t a h0 => step1 m c t a h0 i j) n h

theorem last (n : ℕ) (h : n < cfg0.N) (h7 : n % 8 = 7) : (outsAt0 m c n h).1 = k0_pay3 (outsAt0 m c n h).2 := by
  obtain _ | n := n
  · exact absurd h7 (by decide)
  · rw [Value.outsAt0_succ]
    exact step2 m c ⟨n + 1, h⟩ _ h7

/-- All the tiles are all the rows. -/
theorem tiles (A : S8192x256.Idx → EReal) (B : S8192x1024.Idx → EReal) (q : Fin 4) (i : Fin 256) (j : Fin 256) :
    (∑ s ∈ Finset.range 8, M A B q.val s i j) = G A B (ix3 q i j) := by
  unfold G M
  rw [← Sums.tiles]
  have e1 : (⟨(256 * q.val + j.val) % 1024, by omega⟩ : Fin 1024) = ⟨q.val * 256 + j.val, by omega⟩ := Fin.ext (by dsimp only; omega)
  dsimp only
  rw [e1]
  rfl

theorem out' (q : Fin 4) (i : Fin 256) (j : Fin 256) : (dats m 0 c).arrAt 2 cfg0.N (ix3 q i j) = G (A m c) (B m c) (ix3 q i j) := by
  have hp : 8 * q.val + 7 < cfg0.N := lt_of_lt_of_eq (by omega) (show cfg0.N = 32 from N_0).symm
  have hq : Value.pt2Of (ix3 q i j) = 8 * q.val + 7 := by
    show 8 * (1 * (q.val / 1 - 0) + 1 * (i.val / 256 - 0) + 1 * (j.val / 256 - 0)) + 7 = _
    omega
  have hl : Value.loc2Of (ix3 q i j) = ix3 (0 : Fin 1) i j := by
    funext a
    fin_cases a
    · exact Fin.ext (Nat.mod_one _)
    · exact Fin.ext (Nat.mod_eq_of_lt i.isLt)
    · exact Fin.ext (Nat.mod_eq_of_lt j.isLt)
  rw [Value.final2]
  unfold Value.G2
  rw [dif_pos (hq ▸ hp), hl, ← tiles]
  have e : ∀ (n : ℕ) (h : 0 + n < cfg0.N) (hn : n = 8 * q.val + 7),
      (Pipeline.accAt (fun n h => Value.stAt0 m c n h Value.junk0) (Value.stAt0 m c) 0 n h) = outsAt0 m c (8 * q.val + 7) hp := by
    intro n h hn
    subst hn
    exact (Value.outsAt0_sweep m c _ _).symm
  rw [e _ _ hq, last m c _ hp (by omega), pay3, carried]
  have e0 : (8 * q.val + 7) / 8 = q.val := by omega
  have e1 : (8 * q.val + 7) % 8 = 7 := by omega
  rw [e0, e1]

theorem out : (dats m 0 c).arrAt 2 cfg0.N = G (A m c) (B m c) :=
  funext fun (i : S4x256x256.Idx) => by rw [eq_ix3 i]; exact out' m c _ _ _

end Cert.Proof.PleDw

namespace Cert.Proof.PleDw

open Cert.Reference24Ideal
open Idealize.ShloMosaic Idealize.ShloMosaic.TcCoe Idealize.SL.Sem

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      rd r.2.mem c main_v5
        = G (rd m c main_arg0) (rd m c main_arg1)
      ∧ rd r.2.mem c main_arg0 = rd m c main_arg0
      ∧ rd r.2.mem c main_arg1 = rd m c main_arg1 := by
  refine (θ_run defs _ _).mono (fun r h c => ⟨(h c).1.trans ?_, (h c).2⟩) (Value.run m ρ)
  funext i
  refine Eq.trans ?_ (Finset.sum_congr rfl fun k _ => mul_comm _ _)
  pointwise

end Cert.Proof.PleDw
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Run
public import proofs.«01_k».proof.Proof.RefEnds
public import proofs.«01_k».proof.Proof.Eqn
public import proofs.«01_k».proof.Proof.Ffn
public import proofs.«01_k».proof.Proof.SwapVal
public import proofs.«01_k».proof.Proof.Gen.Kernel25
public import proofs.«01_k».proof.Proof.Gen.Reference25Ideal.Run
public import proofs.«01_k».proof.Proof.PartialsVal
public import proofs.«01_k».proof.Proof.Gen.Kernel26
public import proofs.«01_k».proof.Proof.Adam
public import proofs.«01_k».proof.Proof.Rows
public import proofs.«01_k».proof.Proof.Norm
public import proofs.«01_k».proof.Proof.SumDev
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.Gen.Kernel34.Frame
public import proofs.«01_k».proof.Proof.Gen.Kernel35.Frame
public import proofs.«01_k».proof.Proof.Gen.Kernel36.Frame
public import proofs.«01_k».proof.Proof.Gen.Kernel37.Frame
public import proofs.«01_k».proof.Proof.Gen.Kernel38.Frame
public import proofs.«01_k».proof.Proof.Gen.Kernel39.Frame
public import proofs.«01_k».proof.Proof.Gen.Kernel40.Frame
public import proofs.«01_k».proof.Proof.FIn
public import proofs.«01_k».proof.Proof.FOut
public import proofs.«01_k».proof.Proof.FOutDa
public import proofs.«01_k».proof.Proof.FOutDw
public import proofs.«01_k».proof.Proof.FAct
public import proofs.«01_k».proof.Proof.FInDa
public import proofs.«01_k».proof.Proof.FInDw
public import proofs.«01_k».proof.Proof.InProj
public import proofs.«01_k».proof.Proof.Gate
public import proofs.«01_k».proof.Proof.InProjDa
public import proofs.«01_k».proof.Proof.GateDa
public import proofs.«01_k».proof.Proof.InDw512
public import proofs.«01_k».proof.Proof.InDw1024
public import proofs.«01_k».proof.Proof.InDw128
public import proofs.«01_k».proof.Proof.InDw1536
public import proofs.«01_k».proof.Proof.GateDw
public import proofs.«01_k».proof.Proof.Branch
public import proofs.«01_k».proof.Proof.BranchDa
public import proofs.«01_k».proof.Proof.BranchDw
public import proofs.«01_k».proof.Proof.WOut
public import proofs.«01_k».proof.Proof.WOutDa
public import proofs.«01_k».proof.Proof.Ple
public import proofs.«01_k».proof.Proof.PleDw
public import Idealize.ShloMosaic.Adequacy
public import Idealize.ShloMosaic.Init

@[expose] public section

noncomputable section

namespace Cert.Proof

open Idealize.ShloMosaic Idealize.SL.Sem Cert.Kernel

/-- The side conditions of the precondition. -/
theorem preFacts : Cert.Pre_all_finite.Facts where
  bitsLt_bf16_f32 := by decide
  bcast_S_S8192x4096 := by decide
  bcast_S_S1x2048 := by decide

/-- The kernel's bodies are the idealized kernel's: the text is the same. -/
theorem bodies : @Kernel.defs₀ Bits _ Kernel.Gen.facts = @KernelIdeal.defs₀ Bits _ KernelIdeal.Gen.facts := by
  unfold Kernel.defs₀ KernelIdeal.defs₀
  refine congrArg Defs.onTc (funext fun l => funext fun a => ?_)
  match l, a with
  | 0, (t, s) => rfl
  | 1, (t, s) => rfl

theorem table : @Kernel.defs Bits _ Kernel.Gen.facts = @KernelIdeal.defs Bits _ KernelIdeal.Gen.facts := by
  unfold Kernel.defs KernelIdeal.defs
  exact congrArg (Pipeline.defs _) bodies

/-- The kernel's frame: the idealized kernel's, whose run is proved over any float values. -/
theorem frame_kernel : Cert.quiescent_Kernel (hKernel := Kernel.Gen.facts) := fun m g _ => by
  have h := Run.frame (F := Bits) m g
  rw [← table] at h
  exact h

/-- The pair swap's body is the idealized one's, as for S5. -/
theorem bodies25 : Kernel25.defs₀ (F := Bits) = Kernel25Ideal.defs₀ (F := Bits) := by
  unfold Kernel25.defs₀ Kernel25Ideal.defs₀
  refine congrArg Defs.onTc (funext fun l => funext fun a => ?_)
  match l, a with
  | 0, (t, s) => rfl

theorem table25 : Kernel25.defs (F := Bits) = Kernel25Ideal.defs (F := Bits) := by
  unfold Kernel25.defs Kernel25Ideal.defs
  exact congrArg (Pipeline.defs _) bodies25

theorem frame25 : Cert.quiescent_Kernel25 (hKernel25 := Kernel25.Gen.facts) := fun m g _ => by
  have h := (θ_run _ _ _).mono (fun _ h => And.intro (fun c => (h.1 c).2) h.2) (Swap.run (F := Bits) m g)
  rw [← table25] at h
  exact h

theorem value25 : algebraic_Kernel25Ideal_Reference25Ideal (hKernel25Ideal := Kernel25Ideal.Gen.facts)
    (hReference25Ideal := Reference25Ideal.Gen.facts) := fun m g m' g' _ hargs =>
  ⟨Swap.exchanged (m' (((0 : Dev Reference25Ideal.nD).tc : Thread Reference25Ideal.nD Reference25Ideal.τ).loc Reference25Ideal.main_arg0)),
    (θ_run _ _ _).mono (fun _ h c => ⟨(h.1 c).1.trans (Swap.got_eq m _ hargs c), (h.1 c).2⟩) (Swap.run (F := Ideal) m g),
    (θ_run _ _ _).mono (fun _ h => h 0) (Swap.ref_run m' g')⟩

/-- The chips' exchange's body is the idealized one's, as for S5. -/
theorem bodies26 : Kernel26.defs₀ (F := Bits) = Kernel26Ideal.defs₀ (F := Bits) := by
  unfold Kernel26.defs₀ Kernel26Ideal.defs₀
  refine congrArg Defs.onTc (funext fun l => funext fun a => ?_)
  match l, a with
  | 0, (t, s) => rfl

theorem table26 : Kernel26.defs (F := Bits) = Kernel26Ideal.defs (F := Bits) := by
  unfold Kernel26.defs Kernel26Ideal.defs
  exact congrArg (Pipeline.defs _) bodies26

theorem frame26 : Cert.quiescent_Kernel26 (hKernel26 := Kernel26.Gen.facts) := fun m g _ => by
  have h := (θ_run _ _ _).mono (fun _ h => And.intro (fun c => (h.1 c).2) h.2) (Partials.run (F := Bits) m g)
  rw [← table26] at h
  exact h

theorem value26 : algebraic_Kernel26Ideal_Reference26Ideal (hKernel26Ideal := Kernel26Ideal.Gen.facts)
    (hReference26Ideal := Reference26Ideal.Gen.facts) := fun m g m' g' _ hargs =>
  ⟨Partials.exchanged (m' (((0 : Dev Reference26Ideal.nD).tc : Thread Reference26Ideal.nD Reference26Ideal.τ).loc Reference26Ideal.main_arg0)),
    (θ_run _ _ _).mono (fun _ h c => ⟨(h.1 c).1.trans (Partials.got_eq m _ hargs c), (h.1 c).2⟩) (Partials.run (F := Ideal) m g),
    (θ_run _ _ _).mono (fun _ h => h 0) (Partials.ref_run m' g')⟩

/-- The value claim: from memories that agree on finite arguments, kernel and reference end with equal results. -/
theorem value : algebraic_KernelIdeal_ReferenceIdeal_pre_all_finite (hKernelIdeal := KernelIdeal.Gen.facts)
    (hReferenceIdeal := ReferenceIdeal.Gen.facts) (hPre_all_finite := preFacts) := fun m g m' g' hpre hargs => by
  letI := preFacts
  have same : ∀ c, Eqn.Same m c m' := fun c => ⟨(hargs c).1, (hargs c).2.1, (hargs c).2.2.1, (hargs c).2.2.2⟩
  refine ⟨fun c => (Bwd.dat (Run.VB m) c).arrAt 6 KernelIdeal.cfg1.N, fun c => (Bwd.dat (Run.VB m) c).arrAt 7 KernelIdeal.cfg1.N,
    fun c => (Bwd.dat (Run.VB m) c).arrAt 8 KernelIdeal.cfg1.N, Run.values m g, ?_⟩
  refine (θ_run _ _ _).mono (fun r h c => ?_) (Ref.run' m' g')
  exact ⟨(h.1 c ReferenceIdeal.main_v50 rfl).trans (Eqn.rows_eq hpre (same c)),
    (h.1 c ReferenceIdeal.main_v41 rfl).trans (Eqn.mulR_eq hpre (same c)),
    (h.1 c ReferenceIdeal.main_v40 rfl).trans (Eqn.mulI_eq hpre (same c)),
    (h.1 c ReferenceIdeal.main_arg0 rfl).trans (Ref.WE_arg0 m' c),
    (h.1 c ReferenceIdeal.main_arg1 rfl).trans (Ref.WE_arg1 m' c),
    (h.1 c ReferenceIdeal.main_arg2 rfl).trans (Ref.WE_arg2 m' c),
    (h.1 c ReferenceIdeal.main_arg3 rfl).trans (Ref.WE_arg3 m' c)⟩

theorem value2 : algebraic_Kernel2Ideal_Reference2Ideal (hKernel2Ideal := Kernel2Ideal.Gen.facts)
    (hReference2Ideal := Reference2Ideal.Gen.facts) := fun m g m' g' _ hargs => by
  refine ⟨_, _,
    (θ_run _ _ _).mono (fun r h c => ⟨(h c).1.trans (FIn.out2 m c), (h c).2.1.trans (FIn.out3 m c), (h c).2.2⟩) (Kernel2Ideal.Value.run_blocks m g),
    (θ_run _ _ _).mono (fun r h c => ⟨(h c).1.trans ?_, (h c).2.1.trans ?_, (h c).2.2⟩) (FIn.ref_run m' g')⟩
  all_goals simp only [rd, hargs c]

theorem value3 : algebraic_Kernel3Ideal_Reference3Ideal (hKernel3Ideal := Kernel3Ideal.Gen.facts)
    (hReference3Ideal := Reference3Ideal.Gen.facts) := fun m g m' g' _ hargs => by
  refine ⟨_,
    (θ_run _ _ _).mono (fun r h c => ⟨(h c).1.trans (FOut.out m c), (h c).2⟩) (Kernel3Ideal.Value.run_blocks m g),
    (θ_run _ _ _).mono (fun r h c => ⟨(h c).1.trans (by simp only [rd, hargs c]), (h c).2⟩) (FOut.ref_run m' g')⟩

theorem value4 : algebraic_Kernel4Ideal_Reference4Ideal (hKernel4Ideal := Kernel4Ideal.Gen.facts)
    (hReference4Ideal := Reference4Ideal.Gen.facts) := fun m g m' g' _ hargs => by
  refine ⟨_,
    (θ_run _ _ _).mono (fun r h c => ⟨(h c).1.trans (FOutDa.out m c), (h c).2⟩) (Kernel4Ideal.Value.run_blocks m g),
    (θ_run _ _ _).mono (fun r h c => ⟨(h c).1.trans (by simp only [rd, hargs c]), (h c).2⟩) (FOutDa.ref_run m' g')⟩

theorem value5 : algebraic_Kernel5Ideal_Reference5Ideal (hKernel5Ideal := Kernel5Ideal.Gen.facts)
    (hReference5Ideal := Reference5Ideal.Gen.facts) := fun m g m' g' _ hargs => by
  refine ⟨_,
    (θ_run _ _ _).mono (fun r h c => ⟨(h c).1.trans (FOutDw.out m c), (h c).2⟩) (Kernel5Ideal.Value.run_blocks m g),
    (θ_run _ _ _).mono (fun r h c => ⟨(h c).1.trans (by simp only [rd, hargs c]), (h c).2⟩) (FOutDw.ref_run m' g')⟩

theorem value6 : algebraic_Kernel6Ideal_Reference6Ideal (hKernel6Ideal := Kernel6Ideal.Gen.facts)
    (hReference6Ideal := Reference6Ideal.Gen.facts) := fun m g m' g' _ hargs => by
  refine ⟨_,
    (θ_run _ _ _).mono (fun r h c => ⟨(h c).1.trans (FAct.out m c), (h c).2⟩) (Kernel6Ideal.Value.run_blocks m g),
    (θ_run _ _ _).mono (fun r h c => ⟨(h c).1.trans (by simp only [rd, hargs c]), (h c).2⟩) (FAct.ref_run m' g')⟩

theorem value7 : algebraic_Kernel7Ideal_Reference7Ideal (hKernel7Ideal := Kernel7Ideal.Gen.facts)
    (hReference7Ideal := Reference7Ideal.Gen.facts) := fun m g m' g' _ hargs => by
  refine ⟨_,
    (θ_run _ _ _).mono (fun r h c => ⟨(h c).1.trans (FInDa.out m c), (h c).2⟩) (Kernel7Ideal.Value.run_blocks m g),
    (θ_run _ _ _).mono (fun r h c => ⟨(h c).1.trans (by simp only [rd, hargs c]), (h c).2⟩) (FInDa.ref_run m' g')⟩

theorem value8 : algebraic_Kernel8Ideal_Reference8Ideal (hKernel8Ideal := Kernel8Ideal.Gen.facts)
    (hReference8Ideal := Reference8Ideal.Gen.facts) := fun m g m' g' _ hargs => by
  refine ⟨_,
    (θ_run _ _ _).mono (fun r h c => ⟨(h c).1.trans (FInDw.out m c), (h c).2⟩) (Kernel8Ideal.Value.run_blocks m g),
    (θ_run _ _ _).mono (fun r h c => ⟨(h c).1.trans (by simp only [rd, hargs c]), (h c).2⟩) (FInDw.ref_run m' g')⟩

theorem value9 : algebraic_Kernel9Ideal_Reference9Ideal (hKernel9Ideal := Kernel9Ideal.Gen.facts)
    (hReference9Ideal := Reference9Ideal.Gen.facts) := fun m g m' g' _ hargs => by
  refine ⟨_, _, _, _, _, _, _, _, _,
    (θ_run _ _ _).mono (fun r h c => ⟨(h c).1.trans (InProj.out1 m c), (h c).2.1.trans (InProj.out2 m c), (h c).2.2.1.trans (InProj.out3 m c), (h c).2.2.2.1.trans (InProj.out4 m c), (h c).2.2.2.2.1.trans (InProj.out5 m c), (h c).2.2.2.2.2.1.trans (InProj.out6 m c), (h c).2.2.2.2.2.2.1.trans (InProj.out7 m c), (h c).2.2.2.2.2.2.2.1.trans (InProj.out8 m c), (h c).2.2.2.2.2.2.2.2.1.trans (InProj.out9 m c), (h c).2.2.2.2.2.2.2.2.2⟩) (Kernel9Ideal.Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (InProj.ref_run m' g')⟩
  all_goals simp only [rd, hargs c]

theorem value10 : algebraic_Kernel10Ideal_Reference10Ideal (hKernel10Ideal := Kernel10Ideal.Gen.facts)
    (hReference10Ideal := Reference10Ideal.Gen.facts) := fun m g m' g' _ hargs => by
  refine ⟨_,
    (θ_run _ _ _).mono (fun r h c => ⟨(h c).1.trans (Gate.out m c), (h c).2⟩) (Kernel10Ideal.Value.run_blocks m g),
    (θ_run _ _ _).mono (fun r h c => ⟨(h c).1.trans (by simp only [rd, hargs c]), (h c).2⟩) (Gate.ref_run m' g')⟩

theorem value11 : algebraic_Kernel11Ideal_Reference11Ideal (hKernel11Ideal := Kernel11Ideal.Gen.facts)
    (hReference11Ideal := Reference11Ideal.Gen.facts) := fun m g m' g' _ hargs => by
  refine ⟨_,
    (θ_run _ _ _).mono (fun r h c => ⟨(h c).1.trans (InProjDa.out m c), (h c).2⟩) (Kernel11Ideal.Value.run_blocks m g),
    (θ_run _ _ _).mono (fun r h c => ⟨(h c).1.trans (by simp only [rd, hargs c]), (h c).2⟩) (InProjDa.ref_run m' g')⟩

theorem value12 : algebraic_Kernel12Ideal_Reference12Ideal (hKernel12Ideal := Kernel12Ideal.Gen.facts)
    (hReference12Ideal := Reference12Ideal.Gen.facts) := fun m g m' g' _ hargs => by
  refine ⟨_,
    (θ_run _ _ _).mono (fun r h c => ⟨(h c).1.trans (GateDa.out m c), (h c).2⟩) (Kernel12Ideal.Value.run_blocks m g),
    (θ_run _ _ _).mono (fun r h c => ⟨(h c).1.trans (by simp only [rd, hargs c]), (h c).2⟩) (GateDa.ref_run m' g')⟩

theorem value13 : algebraic_Kernel13Ideal_Reference13Ideal (hKernel13Ideal := Kernel13Ideal.Gen.facts)
    (hReference13Ideal := Reference13Ideal.Gen.facts) := fun m g m' g' _ hargs => by
  refine ⟨_,
    (θ_run _ _ _).mono (fun r h c => ⟨(h c).1.trans (InDw512.out m c), (h c).2⟩) (Kernel13Ideal.Value.run_blocks m g),
    (θ_run _ _ _).mono (fun r h c => ⟨(h c).1.trans (by simp only [rd, hargs c]), (h c).2⟩) (InDw512.ref_run m' g')⟩

theorem value14 : algebraic_Kernel14Ideal_Reference14Ideal (hKernel14Ideal := Kernel14Ideal.Gen.facts)
    (hReference14Ideal := Reference14Ideal.Gen.facts) := fun m g m' g' _ hargs => by
  refine ⟨_,
    (θ_run _ _ _).mono (fun r h c => ⟨(h c).1.trans (InDw1024.out m c), (h c).2⟩) (Kernel14Ideal.Value.run_blocks m g),
    (θ_run _ _ _).mono (fun r h c => ⟨(h c).1.trans (by simp only [rd, hargs c]), (h c).2⟩) (InDw1024.ref_run m' g')⟩

theorem value15 : algebraic_Kernel15Ideal_Reference15Ideal (hKernel15Ideal := Kernel15Ideal.Gen.facts)
    (hReference15Ideal := Reference15Ideal.Gen.facts) := fun m g m' g' _ hargs => by
  refine ⟨_,
    (θ_run _ _ _).mono (fun r h c => ⟨(h c).1.trans (InDw128.out m c), (h c).2⟩) (Kernel15Ideal.Value.run_blocks m g),
    (θ_run _ _ _).mono (fun r h c => ⟨(h c).1.trans (by simp only [rd, hargs c]), (h c).2⟩) (InDw128.ref_run m' g')⟩

theorem value16 : algebraic_Kernel16Ideal_Reference16Ideal (hKernel16Ideal := Kernel16Ideal.Gen.facts)
    (hReference16Ideal := Reference16Ideal.Gen.facts) := fun m g m' g' _ hargs => by
  refine ⟨_,
    (θ_run _ _ _).mono (fun r h c => ⟨(h c).1.trans (InDw1536.out m c), (h c).2⟩) (Kernel16Ideal.Value.run_blocks m g),
    (θ_run _ _ _).mono (fun r h c => ⟨(h c).1.trans (by simp only [rd, hargs c]), (h c).2⟩) (InDw1536.ref_run m' g')⟩

theorem value17 : algebraic_Kernel17Ideal_Reference17Ideal (hKernel17Ideal := Kernel17Ideal.Gen.facts)
    (hReference17Ideal := Reference17Ideal.Gen.facts) := fun m g m' g' _ hargs => by
  refine ⟨_,
    (θ_run _ _ _).mono (fun r h c => ⟨(h c).1.trans (GateDw.out m c), (h c).2⟩) (Kernel17Ideal.Value.run_blocks m g),
    (θ_run _ _ _).mono (fun r h c => ⟨(h c).1.trans (by simp only [rd, hargs c]), (h c).2⟩) (GateDw.ref_run m' g')⟩

theorem value18 : algebraic_Kernel18Ideal_Reference18Ideal (hKernel18Ideal := Kernel18Ideal.Gen.facts)
    (hReference18Ideal := Reference18Ideal.Gen.facts) := fun m g m' g' _ hargs => by
  refine ⟨_,
    (θ_run _ _ _).mono (fun r h c => ⟨(h c).1.trans (Branch.out m c), (h c).2⟩) (Kernel18Ideal.Value.run_blocks m g),
    (θ_run _ _ _).mono (fun r h c => ⟨(h c).1.trans (by simp only [rd, hargs c]), (h c).2⟩) (Branch.ref_run m' g')⟩

theorem value19 : algebraic_Kernel19Ideal_Reference19Ideal (hKernel19Ideal := Kernel19Ideal.Gen.facts)
    (hReference19Ideal := Reference19Ideal.Gen.facts) := fun m g m' g' _ hargs => by
  refine ⟨_,
    (θ_run _ _ _).mono (fun r h c => ⟨(h c).1.trans (BranchDa.out m c), (h c).2⟩) (Kernel19Ideal.Value.run_blocks m g),
    (θ_run _ _ _).mono (fun r h c => ⟨(h c).1.trans (by simp only [rd, hargs c]), (h c).2⟩) (BranchDa.ref_run m' g')⟩

theorem value20 : algebraic_Kernel20Ideal_Reference20Ideal (hKernel20Ideal := Kernel20Ideal.Gen.facts)
    (hReference20Ideal := Reference20Ideal.Gen.facts) := fun m g m' g' _ hargs => by
  refine ⟨_,
    (θ_run _ _ _).mono (fun r h c => ⟨(h c).1.trans (BranchDw.out m c), (h c).2⟩) (Kernel20Ideal.Value.run_blocks m g),
    (θ_run _ _ _).mono (fun r h c => ⟨(h c).1.trans (by simp only [rd, hargs c]), (h c).2⟩) (BranchDw.ref_run m' g')⟩

theorem value21 : algebraic_Kernel21Ideal_Reference21Ideal (hKernel21Ideal := Kernel21Ideal.Gen.facts)
    (hReference21Ideal := Reference21Ideal.Gen.facts) := fun m g m' g' _ hargs => by
  refine ⟨_,
    (θ_run _ _ _).mono (fun r h c => ⟨(h c).1.trans (WOut.out m c), (h c).2⟩) (Kernel21Ideal.Value.run_blocks m g),
    (θ_run _ _ _).mono (fun r h c => ⟨(h c).1.trans (by simp only [rd, hargs c]), (h c).2⟩) (WOut.ref_run m' g')⟩

theorem value22 : algebraic_Kernel22Ideal_Reference22Ideal (hKernel22Ideal := Kernel22Ideal.Gen.facts)
    (hReference22Ideal := Reference22Ideal.Gen.facts) := fun m g m' g' _ hargs => by
  refine ⟨_,
    (θ_run _ _ _).mono (fun r h c => ⟨(h c).1.trans (WOutDa.out m c), (h c).2⟩) (Kernel22Ideal.Value.run_blocks m g),
    (θ_run _ _ _).mono (fun r h c => ⟨(h c).1.trans (by simp only [rd, hargs c]), (h c).2⟩) (WOutDa.ref_run m' g')⟩

theorem value23 : algebraic_Kernel23Ideal_Reference23Ideal (hKernel23Ideal := Kernel23Ideal.Gen.facts)
    (hReference23Ideal := Reference23Ideal.Gen.facts) := fun m g m' g' _ hargs => by
  refine ⟨_,
    (θ_run _ _ _).mono (fun r h c => ⟨(h c).1.trans (Ple.out m c), (h c).2⟩) (Kernel23Ideal.Value.run_blocks m g),
    (θ_run _ _ _).mono (fun r h c => ⟨(h c).1.trans (by simp only [rd, hargs c]), (h c).2⟩) (Ple.ref_run m' g')⟩

theorem value24 : algebraic_Kernel24Ideal_Reference24Ideal (hKernel24Ideal := Kernel24Ideal.Gen.facts)
    (hReference24Ideal := Reference24Ideal.Gen.facts) := fun m g m' g' _ hargs => by
  refine ⟨_,
    (θ_run _ _ _).mono (fun r h c => ⟨(h c).1.trans (PleDw.out m c), (h c).2⟩) (Kernel24Ideal.Value.run_blocks m g),
    (θ_run _ _ _).mono (fun r h c => ⟨(h c).1.trans (by simp only [rd, hargs c]), (h c).2⟩) (PleDw.ref_run m' g')⟩

theorem value35 : algebraic_Kernel35Ideal_Reference35Ideal (hKernel35Ideal := Kernel35Ideal.Gen.facts)
    (hReference35Ideal := Reference35Ideal.Gen.facts) := fun m g m' g' _ hargs => by
  refine ⟨_,
    (θ_run _ _ _).mono (fun r h c => ⟨(h c).1.trans (SumDev.out m c), (h c).2⟩) (Kernel35Ideal.Value.run_blocks m g),
    (θ_run _ _ _).mono (fun r h c => ⟨(h c).1.trans (by simp only [rd, hargs c]), (h c).2⟩) (SumDev.ref_run m' g')⟩

theorem value36 : algebraic_Kernel36Ideal_Reference36Ideal (hKernel36Ideal := Kernel36Ideal.Gen.facts)
    (hReference36Ideal := Reference36Ideal.Gen.facts) := fun m g m' g' _ hargs => by
  refine ⟨_,
    (θ_run _ _ _).mono (fun r h c => ⟨(h c).1.trans (Norm.out m c), (h c).2⟩) (Kernel36Ideal.Value.run_blocks m g),
    (θ_run _ _ _).mono (fun r h c => ⟨(h c).1.trans (by simp only [rd, hargs c]), (h c).2⟩) (Norm.ref_run m' g')⟩

theorem value37 : algebraic_Kernel37Ideal_Reference37Ideal (hKernel37Ideal := Kernel37Ideal.Gen.facts)
    (hReference37Ideal := Reference37Ideal.Gen.facts) := fun m g m' g' _ hargs => by
  refine ⟨_, _,
    (θ_run _ _ _).mono (fun r h c => ⟨(h c).1.trans (AddNorm.out3 m c), (h c).2.1.trans (AddNorm.out4 m c), (h c).2.2⟩) (Kernel37Ideal.Value.run_blocks m g),
    (θ_run _ _ _).mono (fun r h c => ⟨(h c).1.trans ?_, (h c).2.1.trans ?_, (h c).2.2⟩) (AddNorm.ref_run m' g')⟩
  all_goals simp only [rd, hargs c]

theorem value38 : algebraic_Kernel38Ideal_Reference38Ideal (hKernel38Ideal := Kernel38Ideal.Gen.facts)
    (hReference38Ideal := Reference38Ideal.Gen.facts) := fun m g m' g' _ hargs => by
  refine ⟨_,
    (θ_run _ _ _).mono (fun r h c => ⟨(h c).1.trans (Merge.out m c), (h c).2⟩) (Kernel38Ideal.Value.run_blocks m g),
    (θ_run _ _ _).mono (fun r h c => ⟨(h c).1.trans (by simp only [rd, hargs c]), (h c).2⟩) (Merge.ref_run m' g')⟩

theorem value39 : algebraic_Kernel39Ideal_Reference39Ideal (hKernel39Ideal := Kernel39Ideal.Gen.facts)
    (hReference39Ideal := Reference39Ideal.Gen.facts) := fun m g m' g' _ hargs => by
  refine ⟨_, _,
    (θ_run _ _ _).mono (fun r h c => ⟨(h c).1.trans (PleNorm.out4 m c), (h c).2.1.trans (PleNorm.out5 m c), (h c).2.2⟩) (Kernel39Ideal.Value.run_blocks m g),
    (θ_run _ _ _).mono (fun r h c => ⟨(h c).1.trans ?_, (h c).2.1.trans ?_, (h c).2.2⟩) (PleNorm.ref_run m' g')⟩
  all_goals simp only [rd, hargs c]

theorem value40 : algebraic_Kernel40Ideal_Reference40Ideal (hKernel40Ideal := Kernel40Ideal.Gen.facts)
    (hReference40Ideal := Reference40Ideal.Gen.facts) := fun m g m' g' _ hargs => by
  refine ⟨_,
    (θ_run _ _ _).mono (fun r h c => ⟨(h c).1.trans (Loss.out5 m c), (h c).2⟩) (Kernel40Ideal.Value.run_blocks m g),
    (θ_run _ _ _).mono (fun r h c => ⟨(h c).1.trans (by simp only [rd, hargs c]), (h c).2⟩) (Loss.ref_run m' g')⟩

/-- Without a semaphore, nothing is left on any. -/
theorem noSem {A B V : Type} (h : ∀ _ : B, False) (f g : A × B → V) : f = g := funext fun s => (h s.2).elim

theorem claim : Cert.Claim :=
  ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Kernel14.Gen.facts, Kernel14Ideal.Gen.facts, Reference14Ideal.Gen.facts,
    Kernel15.Gen.facts, Kernel15Ideal.Gen.facts, Reference15Ideal.Gen.facts,
    Kernel16.Gen.facts, Kernel16Ideal.Gen.facts, Reference16Ideal.Gen.facts,
    Kernel17.Gen.facts, Kernel17Ideal.Gen.facts, Reference17Ideal.Gen.facts,
    Kernel18.Gen.facts, Kernel18Ideal.Gen.facts, Reference18Ideal.Gen.facts,
    Kernel19.Gen.facts, Kernel19Ideal.Gen.facts, Reference19Ideal.Gen.facts,
    Kernel20.Gen.facts, Kernel20Ideal.Gen.facts, Reference20Ideal.Gen.facts,
    Kernel21.Gen.facts, Kernel21Ideal.Gen.facts, Reference21Ideal.Gen.facts,
    Kernel22.Gen.facts, Kernel22Ideal.Gen.facts, Reference22Ideal.Gen.facts,
    Kernel23.Gen.facts, Kernel23Ideal.Gen.facts, Reference23Ideal.Gen.facts,
    Kernel24.Gen.facts, Kernel24Ideal.Gen.facts, Reference24Ideal.Gen.facts,
    Kernel25.Gen.facts, Kernel25Ideal.Gen.facts, Reference25Ideal.Gen.facts,
    Kernel26.Gen.facts, Kernel26Ideal.Gen.facts, Reference26Ideal.Gen.facts,
    Kernel27.Gen.facts, Kernel27Ideal.Gen.facts, Reference27Ideal.Gen.facts,
    Kernel28.Gen.facts, Kernel28Ideal.Gen.facts, Reference28Ideal.Gen.facts,
    Kernel29.Gen.facts, Kernel29Ideal.Gen.facts, Reference29Ideal.Gen.facts,
    Kernel30.Gen.facts, Kernel30Ideal.Gen.facts, Reference30Ideal.Gen.facts,
    Kernel31.Gen.facts, Kernel31Ideal.Gen.facts, Reference31Ideal.Gen.facts,
    Kernel32.Gen.facts, Kernel32Ideal.Gen.facts, Reference32Ideal.Gen.facts,
    Kernel33.Gen.facts, Kernel33Ideal.Gen.facts, Reference33Ideal.Gen.facts,
    Kernel34.Gen.facts, Kernel34Ideal.Gen.facts, Reference34Ideal.Gen.facts,
    Kernel35.Gen.facts, Kernel35Ideal.Gen.facts, Reference35Ideal.Gen.facts,
    Kernel36.Gen.facts, Kernel36Ideal.Gen.facts, Reference36Ideal.Gen.facts,
    Kernel37.Gen.facts, Kernel37Ideal.Gen.facts, Reference37Ideal.Gen.facts,
    Kernel38.Gen.facts, Kernel38Ideal.Gen.facts, Reference38Ideal.Gen.facts,
    Kernel39.Gen.facts, Kernel39Ideal.Gen.facts, Reference39Ideal.Gen.facts,
    Kernel40.Gen.facts, Kernel40Ideal.Gen.facts, Reference40Ideal.Gen.facts,
    preFacts,
    frame_kernel, fun m g _ => Run.frame m g, fun m g _ => Run.frame m g,
    fun m g _ => Ref.frame m g, fun m g _ => Ref.frame m g,
    fun m g _ => Kernel2.Gen.frame m g, fun m g _ => Kernel2Ideal.Gen.frame m g, fun m g _ => (θ_run _ _ _).mono (fun _ h => ⟨fun c => (h c).2.2, noSem (by decide) _ _⟩) (Reference2Ideal.Value.run m g),
    fun m g _ => Kernel3.Gen.frame m g, fun m g _ => Kernel3Ideal.Gen.frame m g, fun m g _ => (θ_run _ _ _).mono (fun _ h => ⟨fun c => (h c).2, noSem (by decide) _ _⟩) (Reference3Ideal.Value.run m g),
    fun m g _ => Kernel4.Gen.frame m g, fun m g _ => Kernel4Ideal.Gen.frame m g, fun m g _ => (θ_run _ _ _).mono (fun _ h => ⟨fun c => (h c).2, noSem (by decide) _ _⟩) (Reference4Ideal.Value.run m g),
    fun m g _ => Kernel5.Gen.frame m g, fun m g _ => Kernel5Ideal.Gen.frame m g, fun m g _ => (θ_run _ _ _).mono (fun _ h => ⟨fun c => (h c).2, noSem (by decide) _ _⟩) (Reference5Ideal.Value.run m g),
    fun m g _ => Kernel6.Gen.frame m g, fun m g _ => Kernel6Ideal.Gen.frame m g, fun m g _ => (θ_run _ _ _).mono (fun _ h => ⟨fun c => (h c).2, noSem (by decide) _ _⟩) (Reference6Ideal.Value.run m g),
    fun m g _ => Kernel7.Gen.frame m g, fun m g _ => Kernel7Ideal.Gen.frame m g, fun m g _ => (θ_run _ _ _).mono (fun _ h => ⟨fun c => (h c).2, noSem (by decide) _ _⟩) (Reference7Ideal.Value.run m g),
    fun m g _ => Kernel8.Gen.frame m g, fun m g _ => Kernel8Ideal.Gen.frame m g, fun m g _ => (θ_run _ _ _).mono (fun _ h => ⟨fun c => (h c).2, noSem (by decide) _ _⟩) (Reference8Ideal.Value.run m g),
    fun m g _ => Kernel9.Gen.frame m g, fun m g _ => Kernel9Ideal.Gen.frame m g, fun m g _ => (θ_run _ _ _).mono (fun _ h => ⟨fun c => (h c).2.2.2.2.2.2.2.2.2, noSem (by decide) _ _⟩) (Reference9Ideal.Value.run m g),
    fun m g _ => Kernel10.Gen.frame m g, fun m g _ => Kernel10Ideal.Gen.frame m g, fun m g _ => (θ_run _ _ _).mono (fun _ h => ⟨fun c => (h c).2, noSem (by decide) _ _⟩) (Reference10Ideal.Value.run m g),
    fun m g _ => Kernel11.Gen.frame m g, fun m g _ => Kernel11Ideal.Gen.frame m g, fun m g _ => (θ_run _ _ _).mono (fun _ h => ⟨fun c => (h c).2, noSem (by decide) _ _⟩) (Reference11Ideal.Value.run m g),
    fun m g _ => Kernel12.Gen.frame m g, fun m g _ => Kernel12Ideal.Gen.frame m g, fun m g _ => (θ_run _ _ _).mono (fun _ h => ⟨fun c => (h c).2, noSem (by decide) _ _⟩) (Reference12Ideal.Value.run m g),
    fun m g _ => Kernel13.Gen.frame m g, fun m g _ => Kernel13Ideal.Gen.frame m g, fun m g _ => (θ_run _ _ _).mono (fun _ h => ⟨fun c => (h c).2, noSem (by decide) _ _⟩) (Reference13Ideal.Value.run m g),
    fun m g _ => Kernel14.Gen.frame m g, fun m g _ => Kernel14Ideal.Gen.frame m g, fun m g _ => (θ_run _ _ _).mono (fun _ h => ⟨fun c => (h c).2, noSem (by decide) _ _⟩) (Reference14Ideal.Value.run m g),
    fun m g _ => Kernel15.Gen.frame m g, fun m g _ => Kernel15Ideal.Gen.frame m g, fun m g _ => (θ_run _ _ _).mono (fun _ h => ⟨fun c => (h c).2, noSem (by decide) _ _⟩) (Reference15Ideal.Value.run m g),
    fun m g _ => Kernel16.Gen.frame m g, fun m g _ => Kernel16Ideal.Gen.frame m g, fun m g _ => (θ_run _ _ _).mono (fun _ h => ⟨fun c => (h c).2, noSem (by decide) _ _⟩) (Reference16Ideal.Value.run m g),
    fun m g _ => Kernel17.Gen.frame m g, fun m g _ => Kernel17Ideal.Gen.frame m g, fun m g _ => (θ_run _ _ _).mono (fun _ h => ⟨fun c => (h c).2, noSem (by decide) _ _⟩) (Reference17Ideal.Value.run m g),
    fun m g _ => Kernel18.Gen.frame m g, fun m g _ => Kernel18Ideal.Gen.frame m g, fun m g _ => (θ_run _ _ _).mono (fun _ h => ⟨fun c => (h c).2, noSem (by decide) _ _⟩) (Reference18Ideal.Value.run m g),
    fun m g _ => Kernel19.Gen.frame m g, fun m g _ => Kernel19Ideal.Gen.frame m g, fun m g _ => (θ_run _ _ _).mono (fun _ h => ⟨fun c => (h c).2, noSem (by decide) _ _⟩) (Reference19Ideal.Value.run m g),
    fun m g _ => Kernel20.Gen.frame m g, fun m g _ => Kernel20Ideal.Gen.frame m g, fun m g _ => (θ_run _ _ _).mono (fun _ h => ⟨fun c => (h c).2, noSem (by decide) _ _⟩) (Reference20Ideal.Value.run m g),
    fun m g _ => Kernel21.Gen.frame m g, fun m g _ => Kernel21Ideal.Gen.frame m g, fun m g _ => (θ_run _ _ _).mono (fun _ h => ⟨fun c => (h c).2, noSem (by decide) _ _⟩) (Reference21Ideal.Value.run m g),
    fun m g _ => Kernel22.Gen.frame m g, fun m g _ => Kernel22Ideal.Gen.frame m g, fun m g _ => (θ_run _ _ _).mono (fun _ h => ⟨fun c => (h c).2, noSem (by decide) _ _⟩) (Reference22Ideal.Value.run m g),
    fun m g _ => Kernel23.Gen.frame m g, fun m g _ => Kernel23Ideal.Gen.frame m g, fun m g _ => (θ_run _ _ _).mono (fun _ h => ⟨fun c => (h c).2, noSem (by decide) _ _⟩) (Reference23Ideal.Value.run m g),
    fun m g _ => Kernel24.Gen.frame m g, fun m g _ => Kernel24Ideal.Gen.frame m g, fun m g _ => (θ_run _ _ _).mono (fun _ h => ⟨fun c => (h c).2, noSem (by decide) _ _⟩) (Reference24Ideal.Value.run m g),
    frame25, fun m g _ => (θ_run _ _ _).mono (fun _ h => ⟨fun c => (h.1 c).2, h.2⟩) (Swap.run (F := Ideal) m g), fun m g _ => (θ_run _ _ _).mono (fun _ h => ⟨fun c => (h c).2, noSem (by decide) _ _⟩) (Reference25Ideal.Value.run m g),
    frame26, fun m g _ => (θ_run _ _ _).mono (fun _ h => ⟨fun c => (h.1 c).2, h.2⟩) (Partials.run (F := Ideal) m g), fun m g _ => (θ_run _ _ _).mono (fun _ h => ⟨fun c => (h c).2, noSem (by decide) _ _⟩) (Reference26Ideal.Value.run m g),
    fun m g _ => Kernel27.Gen.frame m g, fun m g _ => Kernel27Ideal.Gen.frame m g, fun m g _ => (θ_run _ _ _).mono (fun _ h => ⟨fun c => (h c).2.2.2, noSem (by decide) _ _⟩) (Reference27Ideal.Value.run m g),
    fun m g _ => Kernel28.Gen.frame m g, fun m g _ => Kernel28Ideal.Gen.frame m g, fun m g _ => (θ_run _ _ _).mono (fun _ h => ⟨fun c => (h c).2.2.2, noSem (by decide) _ _⟩) (Reference28Ideal.Value.run m g),
    fun m g _ => Kernel29.Gen.frame m g, fun m g _ => Kernel29Ideal.Gen.frame m g, fun m g _ => (θ_run _ _ _).mono (fun _ h => ⟨fun c => (h c).2.2.2, noSem (by decide) _ _⟩) (Reference29Ideal.Value.run m g),
    fun m g _ => Kernel30.Gen.frame m g, fun m g _ => Kernel30Ideal.Gen.frame m g, fun m g _ => (θ_run _ _ _).mono (fun _ h => ⟨fun c => (h c).2.2.2, noSem (by decide) _ _⟩) (Reference30Ideal.Value.run m g),
    fun m g _ => Kernel31.Gen.frame m g, fun m g _ => Kernel31Ideal.Gen.frame m g, fun m g _ => (θ_run _ _ _).mono (fun _ h => ⟨fun c => (h c).2.2.2, noSem (by decide) _ _⟩) (Reference31Ideal.Value.run m g),
    fun m g _ => Kernel32.Gen.frame m g, fun m g _ => Kernel32Ideal.Gen.frame m g, fun m g _ => (θ_run _ _ _).mono (fun _ h => ⟨fun c => (h c).2.2.2, noSem (by decide) _ _⟩) (Reference32Ideal.Value.run m g),
    fun m g _ => Kernel33.Gen.frame m g, fun m g _ => Kernel33Ideal.Gen.frame m g, fun m g _ => (θ_run _ _ _).mono (fun _ h => ⟨fun c => (h c).2.2.2, noSem (by decide) _ _⟩) (Reference33Ideal.Value.run m g),
    fun m g _ => Kernel34.Gen.frame m g, fun m g _ => Kernel34Ideal.Gen.frame m g, fun m g _ => (θ_run _ _ _).mono (fun _ h => ⟨fun c => (h c).2.2.2, noSem (by decide) _ _⟩) (Reference34Ideal.Value.run m g),
    fun m g _ => Kernel35.Gen.frame m g, fun m g _ => Kernel35Ideal.Gen.frame m g, fun m g _ => (θ_run _ _ _).mono (fun _ h => ⟨fun c => (h c).2, noSem (by decide) _ _⟩) (Reference35Ideal.Value.run m g),
    fun m g _ => Kernel36.Gen.frame m g, fun m g _ => Kernel36Ideal.Gen.frame m g, fun m g _ => (θ_run _ _ _).mono (fun _ h => ⟨fun c => (h c).2, noSem (by decide) _ _⟩) (Reference36Ideal.Value.run m g),
    fun m g _ => Kernel37.Gen.frame m g, fun m g _ => Kernel37Ideal.Gen.frame m g, fun m g _ => (θ_run _ _ _).mono (fun _ h => ⟨fun c => (h c).2.2, noSem (by decide) _ _⟩) (Reference37Ideal.Value.run m g),
    fun m g _ => Kernel38.Gen.frame m g, fun m g _ => Kernel38Ideal.Gen.frame m g, fun m g _ => (θ_run _ _ _).mono (fun _ h => ⟨fun c => (h c).2, noSem (by decide) _ _⟩) (Reference38Ideal.Value.run m g),
    fun m g _ => Kernel39.Gen.frame m g, fun m g _ => Kernel39Ideal.Gen.frame m g, fun m g _ => (θ_run _ _ _).mono (fun _ h => ⟨fun c => (h c).2.2, noSem (by decide) _ _⟩) (Reference39Ideal.Value.run m g),
    fun m g _ => Kernel40.Gen.frame m g, fun m g _ => Kernel40Ideal.Gen.frame m g, fun m g _ => (θ_run _ _ _).mono (fun _ h => ⟨fun c => (h c).2, noSem (by decide) _ _⟩) (Reference40Ideal.Value.run m g),
    trivial, value,
    trivial, value2,
    trivial, value3,
    trivial, value4,
    trivial, value5,
    trivial, value6,
    trivial, value7,
    trivial, value8,
    trivial, value9,
    trivial, value10,
    trivial, value11,
    trivial, value12,
    trivial, value13,
    trivial, value14,
    trivial, value15,
    trivial, value16,
    trivial, value17,
    trivial, value18,
    trivial, value19,
    trivial, value20,
    trivial, value21,
    trivial, value22,
    trivial, value23,
    trivial, value24,
    trivial, value25,
    trivial, value26,
    trivial, value27,
    trivial, value28,
    trivial, value29,
    trivial, value30,
    trivial, value31,
    trivial, value32,
    trivial, value33,
    trivial, value34,
    trivial, value35,
    trivial, value36,
    trivial, value37,
    trivial, value38,
    trivial, value39,
    trivial, value40⟩

end Cert.Proof

end
